-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Edges (m : (ℓ : Loc Cert.Edges.nD Cert.Edges.τ Cert.Edges.sig) → Buf (Elt Bits) ℓ) : Prop :=
  True

def Pre_EdgesIdeal (m : (ℓ : Loc Cert.EdgesIdeal.nD Cert.EdgesIdeal.τ Cert.EdgesIdeal.sig) → Buf (Elt Ideal) ℓ) : Prop :=
  True

def Pre_EdgesReferenceIdeal (m : (ℓ : Loc Cert.EdgesReferenceIdeal.nD Cert.EdgesReferenceIdeal.τ Cert.EdgesReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Edges [hEdges : Cert.Edges.Facts] : Prop :=
  ∀ (m : (ℓ : Loc Cert.Edges.nD Cert.Edges.τ Cert.Edges.sig) → Buf (Elt Bits) ℓ) (g : Dev Cert.Edges.nD → PrngReg), Pre_Edges m →
    θ_run (Cert.Edges.defs (F := Bits)) (onTc (τ := Cert.Edges.τ) (Cert.Edges.main (F := Bits))) ⟨m, fun _ => 0, g⟩ (fun r => (∀ c : Dev Cert.Edges.nD,
      r.2.mem ((c.tc : Thread Cert.Edges.nD Cert.Edges.τ).loc Cert.Edges.main_arg0) = m ((c.tc : Thread Cert.Edges.nD Cert.Edges.τ).loc Cert.Edges.main_arg0)
      ∧ r.2.mem ((c.tc : Thread Cert.Edges.nD Cert.Edges.τ).loc Cert.Edges.main_arg1) = m ((c.tc : Thread Cert.Edges.nD Cert.Edges.τ).loc Cert.Edges.main_arg1)
      ∧ r.2.mem ((c.tc : Thread Cert.Edges.nD Cert.Edges.τ).loc Cert.Edges.main_arg2) = m ((c.tc : Thread Cert.Edges.nD Cert.Edges.τ).loc Cert.Edges.main_arg2)
      ∧ r.2.mem ((c.tc : Thread Cert.Edges.nD Cert.Edges.τ).loc Cert.Edges.main_arg3) = m ((c.tc : Thread Cert.Edges.nD Cert.Edges.τ).loc Cert.Edges.main_arg3)
      ∧ r.2.mem ((c.tc : Thread Cert.Edges.nD Cert.Edges.τ).loc Cert.Edges.main_arg4) = m ((c.tc : Thread Cert.Edges.nD Cert.Edges.τ).loc Cert.Edges.main_arg4)
      ∧ r.2.mem ((c.tc : Thread Cert.Edges.nD Cert.Edges.τ).loc Cert.Edges.main_arg5) = m ((c.tc : Thread Cert.Edges.nD Cert.Edges.τ).loc Cert.Edges.main_arg5)
      ∧ r.2.mem ((c.tc : Thread Cert.Edges.nD Cert.Edges.τ).loc Cert.Edges.main_arg6) = m ((c.tc : Thread Cert.Edges.nD Cert.Edges.τ).loc Cert.Edges.main_arg6)
      ∧ r.2.mem ((c.tc : Thread Cert.Edges.nD Cert.Edges.τ).loc Cert.Edges.main_arg7) = m ((c.tc : Thread Cert.Edges.nD Cert.Edges.τ).loc Cert.Edges.main_arg7)
      ∧ r.2.mem ((c.tc : Thread Cert.Edges.nD Cert.Edges.τ).loc Cert.Edges.main_arg8) = m ((c.tc : Thread Cert.Edges.nD Cert.Edges.τ).loc Cert.Edges.main_arg8)
      ∧ r.2.mem ((c.tc : Thread Cert.Edges.nD Cert.Edges.τ).loc Cert.Edges.main_arg9) = m ((c.tc : Thread Cert.Edges.nD Cert.Edges.τ).loc Cert.Edges.main_arg9)
      ∧ r.2.mem ((c.tc : Thread Cert.Edges.nD Cert.Edges.τ).loc Cert.Edges.main_arg10) = m ((c.tc : Thread Cert.Edges.nD Cert.Edges.τ).loc Cert.Edges.main_arg10)
      ∧ r.2.mem ((c.tc : Thread Cert.Edges.nD Cert.Edges.τ).loc Cert.Edges.main_arg11) = m ((c.tc : Thread Cert.Edges.nD Cert.Edges.τ).loc Cert.Edges.main_arg11))
      ∧ r.2.sem = fun _ => 0)

def quiescent_EdgesIdeal [hEdgesIdeal : Cert.EdgesIdeal.Facts] : Prop :=
  ∀ (m : (ℓ : Loc Cert.EdgesIdeal.nD Cert.EdgesIdeal.τ Cert.EdgesIdeal.sig) → Buf (Elt Ideal) ℓ) (g : Dev Cert.EdgesIdeal.nD → PrngReg), Pre_EdgesIdeal m →
    θ_run (Cert.EdgesIdeal.defs (F := Ideal)) (onTc (τ := Cert.EdgesIdeal.τ) (Cert.EdgesIdeal.main (F := Ideal))) ⟨m, fun _ => 0, g⟩ (fun r => (∀ c : Dev Cert.EdgesIdeal.nD,
      r.2.mem ((c.tc : Thread Cert.EdgesIdeal.nD Cert.EdgesIdeal.τ).loc Cert.EdgesIdeal.main_arg0) = m ((c.tc : Thread Cert.EdgesIdeal.nD Cert.EdgesIdeal.τ).loc Cert.EdgesIdeal.main_arg0)
      ∧ r.2.mem ((c.tc : Thread Cert.EdgesIdeal.nD Cert.EdgesIdeal.τ).loc Cert.EdgesIdeal.main_arg1) = m ((c.tc : Thread Cert.EdgesIdeal.nD Cert.EdgesIdeal.τ).loc Cert.EdgesIdeal.main_arg1)
      ∧ r.2.mem ((c.tc : Thread Cert.EdgesIdeal.nD Cert.EdgesIdeal.τ).loc Cert.EdgesIdeal.main_arg2) = m ((c.tc : Thread Cert.EdgesIdeal.nD Cert.EdgesIdeal.τ).loc Cert.EdgesIdeal.main_arg2)
      ∧ r.2.mem ((c.tc : Thread Cert.EdgesIdeal.nD Cert.EdgesIdeal.τ).loc Cert.EdgesIdeal.main_arg3) = m ((c.tc : Thread Cert.EdgesIdeal.nD Cert.EdgesIdeal.τ).loc Cert.EdgesIdeal.main_arg3)
      ∧ r.2.mem ((c.tc : Thread Cert.EdgesIdeal.nD Cert.EdgesIdeal.τ).loc Cert.EdgesIdeal.main_arg4) = m ((c.tc : Thread Cert.EdgesIdeal.nD Cert.EdgesIdeal.τ).loc Cert.EdgesIdeal.main_arg4)
      ∧ r.2.mem ((c.tc : Thread Cert.EdgesIdeal.nD Cert.EdgesIdeal.τ).loc Cert.EdgesIdeal.main_arg5) = m ((c.tc : Thread Cert.EdgesIdeal.nD Cert.EdgesIdeal.τ).loc Cert.EdgesIdeal.main_arg5)
      ∧ r.2.mem ((c.tc : Thread Cert.EdgesIdeal.nD Cert.EdgesIdeal.τ).loc Cert.EdgesIdeal.main_arg6) = m ((c.tc : Thread Cert.EdgesIdeal.nD Cert.EdgesIdeal.τ).loc Cert.EdgesIdeal.main_arg6)
      ∧ r.2.mem ((c.tc : Thread Cert.EdgesIdeal.nD Cert.EdgesIdeal.τ).loc Cert.EdgesIdeal.main_arg7) = m ((c.tc : Thread Cert.EdgesIdeal.nD Cert.EdgesIdeal.τ).loc Cert.EdgesIdeal.main_arg7)
      ∧ r.2.mem ((c.tc : Thread Cert.EdgesIdeal.nD Cert.EdgesIdeal.τ).loc Cert.EdgesIdeal.main_arg8) = m ((c.tc : Thread Cert.EdgesIdeal.nD Cert.EdgesIdeal.τ).loc Cert.EdgesIdeal.main_arg8)
      ∧ r.2.mem ((c.tc : Thread Cert.EdgesIdeal.nD Cert.EdgesIdeal.τ).loc Cert.EdgesIdeal.main_arg9) = m ((c.tc : Thread Cert.EdgesIdeal.nD Cert.EdgesIdeal.τ).loc Cert.EdgesIdeal.main_arg9)
      ∧ r.2.mem ((c.tc : Thread Cert.EdgesIdeal.nD Cert.EdgesIdeal.τ).loc Cert.EdgesIdeal.main_arg10) = m ((c.tc : Thread Cert.EdgesIdeal.nD Cert.EdgesIdeal.τ).loc Cert.EdgesIdeal.main_arg10)
      ∧ r.2.mem ((c.tc : Thread Cert.EdgesIdeal.nD Cert.EdgesIdeal.τ).loc Cert.EdgesIdeal.main_arg11) = m ((c.tc : Thread Cert.EdgesIdeal.nD Cert.EdgesIdeal.τ).loc Cert.EdgesIdeal.main_arg11))
      ∧ r.2.sem = fun _ => 0)

def quiescent_EdgesReferenceIdeal [hEdgesReferenceIdeal : Cert.EdgesReferenceIdeal.Facts] : Prop :=
  ∀ (m : (ℓ : Loc Cert.EdgesReferenceIdeal.nD Cert.EdgesReferenceIdeal.τ Cert.EdgesReferenceIdeal.sig) → Buf (Elt Ideal) ℓ) (g : Dev Cert.EdgesReferenceIdeal.nD → PrngReg), Pre_EdgesReferenceIdeal m →
    θ_run (Cert.EdgesReferenceIdeal.defs (F := Ideal)) (onTc (τ := Cert.EdgesReferenceIdeal.τ) (Cert.EdgesReferenceIdeal.main (F := Ideal))) ⟨m, fun _ => 0, g⟩ (fun r => (∀ c : Dev Cert.EdgesReferenceIdeal.nD,
      r.2.mem ((c.tc : Thread Cert.EdgesReferenceIdeal.nD Cert.EdgesReferenceIdeal.τ).loc Cert.EdgesReferenceIdeal.main_arg0) = m ((c.tc : Thread Cert.EdgesReferenceIdeal.nD Cert.EdgesReferenceIdeal.τ).loc Cert.EdgesReferenceIdeal.main_arg0)
      ∧ r.2.mem ((c.tc : Thread Cert.EdgesReferenceIdeal.nD Cert.EdgesReferenceIdeal.τ).loc Cert.EdgesReferenceIdeal.main_arg1) = m ((c.tc : Thread Cert.EdgesReferenceIdeal.nD Cert.EdgesReferenceIdeal.τ).loc Cert.EdgesReferenceIdeal.main_arg1)
      ∧ r.2.mem ((c.tc : Thread Cert.EdgesReferenceIdeal.nD Cert.EdgesReferenceIdeal.τ).loc Cert.EdgesReferenceIdeal.main_arg2) = m ((c.tc : Thread Cert.EdgesReferenceIdeal.nD Cert.EdgesReferenceIdeal.τ).loc Cert.EdgesReferenceIdeal.main_arg2)
      ∧ r.2.mem ((c.tc : Thread Cert.EdgesReferenceIdeal.nD Cert.EdgesReferenceIdeal.τ).loc Cert.EdgesReferenceIdeal.main_arg3) = m ((c.tc : Thread Cert.EdgesReferenceIdeal.nD Cert.EdgesReferenceIdeal.τ).loc Cert.EdgesReferenceIdeal.main_arg3)
      ∧ r.2.mem ((c.tc : Thread Cert.EdgesReferenceIdeal.nD Cert.EdgesReferenceIdeal.τ).loc Cert.EdgesReferenceIdeal.main_arg4) = m ((c.tc : Thread Cert.EdgesReferenceIdeal.nD Cert.EdgesReferenceIdeal.τ).loc Cert.EdgesReferenceIdeal.main_arg4)
      ∧ r.2.mem ((c.tc : Thread Cert.EdgesReferenceIdeal.nD Cert.EdgesReferenceIdeal.τ).loc Cert.EdgesReferenceIdeal.main_arg5) = m ((c.tc : Thread Cert.EdgesReferenceIdeal.nD Cert.EdgesReferenceIdeal.τ).loc Cert.EdgesReferenceIdeal.main_arg5)
      ∧ r.2.mem ((c.tc : Thread Cert.EdgesReferenceIdeal.nD Cert.EdgesReferenceIdeal.τ).loc Cert.EdgesReferenceIdeal.main_arg6) = m ((c.tc : Thread Cert.EdgesReferenceIdeal.nD Cert.EdgesReferenceIdeal.τ).loc Cert.EdgesReferenceIdeal.main_arg6)
      ∧ r.2.mem ((c.tc : Thread Cert.EdgesReferenceIdeal.nD Cert.EdgesReferenceIdeal.τ).loc Cert.EdgesReferenceIdeal.main_arg7) = m ((c.tc : Thread Cert.EdgesReferenceIdeal.nD Cert.EdgesReferenceIdeal.τ).loc Cert.EdgesReferenceIdeal.main_arg7)
      ∧ r.2.mem ((c.tc : Thread Cert.EdgesReferenceIdeal.nD Cert.EdgesReferenceIdeal.τ).loc Cert.EdgesReferenceIdeal.main_arg8) = m ((c.tc : Thread Cert.EdgesReferenceIdeal.nD Cert.EdgesReferenceIdeal.τ).loc Cert.EdgesReferenceIdeal.main_arg8)
      ∧ r.2.mem ((c.tc : Thread Cert.EdgesReferenceIdeal.nD Cert.EdgesReferenceIdeal.τ).loc Cert.EdgesReferenceIdeal.main_arg9) = m ((c.tc : Thread Cert.EdgesReferenceIdeal.nD Cert.EdgesReferenceIdeal.τ).loc Cert.EdgesReferenceIdeal.main_arg9)
      ∧ r.2.mem ((c.tc : Thread Cert.EdgesReferenceIdeal.nD Cert.EdgesReferenceIdeal.τ).loc Cert.EdgesReferenceIdeal.main_arg10) = m ((c.tc : Thread Cert.EdgesReferenceIdeal.nD Cert.EdgesReferenceIdeal.τ).loc Cert.EdgesReferenceIdeal.main_arg10)
      ∧ r.2.mem ((c.tc : Thread Cert.EdgesReferenceIdeal.nD Cert.EdgesReferenceIdeal.τ).loc Cert.EdgesReferenceIdeal.main_arg11) = m ((c.tc : Thread Cert.EdgesReferenceIdeal.nD Cert.EdgesReferenceIdeal.τ).loc Cert.EdgesReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Edges_EdgesIdeal : Prop :=
  True

def algebraic_EdgesIdeal_EdgesReferenceIdeal [hEdgesIdeal : Cert.EdgesIdeal.Facts] [hEdgesReferenceIdeal : Cert.EdgesReferenceIdeal.Facts] : Prop :=
  ∀ (m : (ℓ : Loc Cert.EdgesIdeal.nD Cert.EdgesIdeal.τ Cert.EdgesIdeal.sig) → Buf (Elt Ideal) ℓ) (g : Dev Cert.EdgesIdeal.nD → PrngReg)
    (m' : (ℓ : Loc Cert.EdgesReferenceIdeal.nD Cert.EdgesReferenceIdeal.τ Cert.EdgesReferenceIdeal.sig) → Buf (Elt Ideal) ℓ) (g' : Dev Cert.EdgesReferenceIdeal.nD → PrngReg), Pre_EdgesIdeal m →
    (∀ c : Dev Cert.EdgesIdeal.nD,
      m' ((c.tc : Thread Cert.EdgesReferenceIdeal.nD Cert.EdgesReferenceIdeal.τ).loc Cert.EdgesReferenceIdeal.main_arg0) = m ((c.tc : Thread Cert.EdgesIdeal.nD Cert.EdgesIdeal.τ).loc Cert.EdgesIdeal.main_arg0)
      ∧ m' ((c.tc : Thread Cert.EdgesReferenceIdeal.nD Cert.EdgesReferenceIdeal.τ).loc Cert.EdgesReferenceIdeal.main_arg1) = m ((c.tc : Thread Cert.EdgesIdeal.nD Cert.EdgesIdeal.τ).loc Cert.EdgesIdeal.main_arg1)
      ∧ m' ((c.tc : Thread Cert.EdgesReferenceIdeal.nD Cert.EdgesReferenceIdeal.τ).loc Cert.EdgesReferenceIdeal.main_arg2) = m ((c.tc : Thread Cert.EdgesIdeal.nD Cert.EdgesIdeal.τ).loc Cert.EdgesIdeal.main_arg2)
      ∧ m' ((c.tc : Thread Cert.EdgesReferenceIdeal.nD Cert.EdgesReferenceIdeal.τ).loc Cert.EdgesReferenceIdeal.main_arg3) = m ((c.tc : Thread Cert.EdgesIdeal.nD Cert.EdgesIdeal.τ).loc Cert.EdgesIdeal.main_arg3)
      ∧ m' ((c.tc : Thread Cert.EdgesReferenceIdeal.nD Cert.EdgesReferenceIdeal.τ).loc Cert.EdgesReferenceIdeal.main_arg4) = m ((c.tc : Thread Cert.EdgesIdeal.nD Cert.EdgesIdeal.τ).loc Cert.EdgesIdeal.main_arg4)
      ∧ m' ((c.tc : Thread Cert.EdgesReferenceIdeal.nD Cert.EdgesReferenceIdeal.τ).loc Cert.EdgesReferenceIdeal.main_arg5) = m ((c.tc : Thread Cert.EdgesIdeal.nD Cert.EdgesIdeal.τ).loc Cert.EdgesIdeal.main_arg5)
      ∧ m' ((c.tc : Thread Cert.EdgesReferenceIdeal.nD Cert.EdgesReferenceIdeal.τ).loc Cert.EdgesReferenceIdeal.main_arg6) = m ((c.tc : Thread Cert.EdgesIdeal.nD Cert.EdgesIdeal.τ).loc Cert.EdgesIdeal.main_arg6)
      ∧ m' ((c.tc : Thread Cert.EdgesReferenceIdeal.nD Cert.EdgesReferenceIdeal.τ).loc Cert.EdgesReferenceIdeal.main_arg7) = m ((c.tc : Thread Cert.EdgesIdeal.nD Cert.EdgesIdeal.τ).loc Cert.EdgesIdeal.main_arg7)
      ∧ m' ((c.tc : Thread Cert.EdgesReferenceIdeal.nD Cert.EdgesReferenceIdeal.τ).loc Cert.EdgesReferenceIdeal.main_arg8) = m ((c.tc : Thread Cert.EdgesIdeal.nD Cert.EdgesIdeal.τ).loc Cert.EdgesIdeal.main_arg8)
      ∧ m' ((c.tc : Thread Cert.EdgesReferenceIdeal.nD Cert.EdgesReferenceIdeal.τ).loc Cert.EdgesReferenceIdeal.main_arg9) = m ((c.tc : Thread Cert.EdgesIdeal.nD Cert.EdgesIdeal.τ).loc Cert.EdgesIdeal.main_arg9)
      ∧ m' ((c.tc : Thread Cert.EdgesReferenceIdeal.nD Cert.EdgesReferenceIdeal.τ).loc Cert.EdgesReferenceIdeal.main_arg10) = m ((c.tc : Thread Cert.EdgesIdeal.nD Cert.EdgesIdeal.τ).loc Cert.EdgesIdeal.main_arg10)
      ∧ m' ((c.tc : Thread Cert.EdgesReferenceIdeal.nD Cert.EdgesReferenceIdeal.τ).loc Cert.EdgesReferenceIdeal.main_arg11) = m ((c.tc : Thread Cert.EdgesIdeal.nD Cert.EdgesIdeal.τ).loc Cert.EdgesIdeal.main_arg11)) →
    ∃ (v0 : (c : Dev Cert.EdgesIdeal.nD) → Buf (Elt Ideal) ((c.tc : Thread Cert.EdgesIdeal.nD Cert.EdgesIdeal.τ).loc Cert.EdgesIdeal.main_v19)) (v1 : (c : Dev Cert.EdgesIdeal.nD) → Buf (Elt Ideal) ((c.tc : Thread Cert.EdgesIdeal.nD Cert.EdgesIdeal.τ).loc Cert.EdgesIdeal.main_arg11)),
      θ_run (Cert.EdgesIdeal.defs (F := Ideal)) (onTc (τ := Cert.EdgesIdeal.τ) (Cert.EdgesIdeal.main (F := Ideal))) ⟨m, fun _ => 0, g⟩ (fun r => ∀ c : Dev Cert.EdgesIdeal.nD,
          r.2.mem ((c.tc : Thread Cert.EdgesIdeal.nD Cert.EdgesIdeal.τ).loc Cert.EdgesIdeal.main_v19) = v0 c
          ∧ r.2.mem ((c.tc : Thread Cert.EdgesIdeal.nD Cert.EdgesIdeal.τ).loc Cert.EdgesIdeal.main_arg11) = v1 c
          ∧ r.2.mem ((c.tc : Thread Cert.EdgesIdeal.nD Cert.EdgesIdeal.τ).loc Cert.EdgesIdeal.main_arg0) = m ((c.tc : Thread Cert.EdgesIdeal.nD Cert.EdgesIdeal.τ).loc Cert.EdgesIdeal.main_arg0)
          ∧ r.2.mem ((c.tc : Thread Cert.EdgesIdeal.nD Cert.EdgesIdeal.τ).loc Cert.EdgesIdeal.main_arg1) = m ((c.tc : Thread Cert.EdgesIdeal.nD Cert.EdgesIdeal.τ).loc Cert.EdgesIdeal.main_arg1)
          ∧ r.2.mem ((c.tc : Thread Cert.EdgesIdeal.nD Cert.EdgesIdeal.τ).loc Cert.EdgesIdeal.main_arg2) = m ((c.tc : Thread Cert.EdgesIdeal.nD Cert.EdgesIdeal.τ).loc Cert.EdgesIdeal.main_arg2)
          ∧ r.2.mem ((c.tc : Thread Cert.EdgesIdeal.nD Cert.EdgesIdeal.τ).loc Cert.EdgesIdeal.main_arg3) = m ((c.tc : Thread Cert.EdgesIdeal.nD Cert.EdgesIdeal.τ).loc Cert.EdgesIdeal.main_arg3)
          ∧ r.2.mem ((c.tc : Thread Cert.EdgesIdeal.nD Cert.EdgesIdeal.τ).loc Cert.EdgesIdeal.main_arg4) = m ((c.tc : Thread Cert.EdgesIdeal.nD Cert.EdgesIdeal.τ).loc Cert.EdgesIdeal.main_arg4)
          ∧ r.2.mem ((c.tc : Thread Cert.EdgesIdeal.nD Cert.EdgesIdeal.τ).loc Cert.EdgesIdeal.main_arg5) = m ((c.tc : Thread Cert.EdgesIdeal.nD Cert.EdgesIdeal.τ).loc Cert.EdgesIdeal.main_arg5)
          ∧ r.2.mem ((c.tc : Thread Cert.EdgesIdeal.nD Cert.EdgesIdeal.τ).loc Cert.EdgesIdeal.main_arg6) = m ((c.tc : Thread Cert.EdgesIdeal.nD Cert.EdgesIdeal.τ).loc Cert.EdgesIdeal.main_arg6)
          ∧ r.2.mem ((c.tc : Thread Cert.EdgesIdeal.nD Cert.EdgesIdeal.τ).loc Cert.EdgesIdeal.main_arg7) = m ((c.tc : Thread Cert.EdgesIdeal.nD Cert.EdgesIdeal.τ).loc Cert.EdgesIdeal.main_arg7)
          ∧ r.2.mem ((c.tc : Thread Cert.EdgesIdeal.nD Cert.EdgesIdeal.τ).loc Cert.EdgesIdeal.main_arg8) = m ((c.tc : Thread Cert.EdgesIdeal.nD Cert.EdgesIdeal.τ).loc Cert.EdgesIdeal.main_arg8)
          ∧ r.2.mem ((c.tc : Thread Cert.EdgesIdeal.nD Cert.EdgesIdeal.τ).loc Cert.EdgesIdeal.main_arg9) = m ((c.tc : Thread Cert.EdgesIdeal.nD Cert.EdgesIdeal.τ).loc Cert.EdgesIdeal.main_arg9)
          ∧ r.2.mem ((c.tc : Thread Cert.EdgesIdeal.nD Cert.EdgesIdeal.τ).loc Cert.EdgesIdeal.main_arg10) = m ((c.tc : Thread Cert.EdgesIdeal.nD Cert.EdgesIdeal.τ).loc Cert.EdgesIdeal.main_arg10)
          ∧ r.2.mem ((c.tc : Thread Cert.EdgesIdeal.nD Cert.EdgesIdeal.τ).loc Cert.EdgesIdeal.main_arg11) = m ((c.tc : Thread Cert.EdgesIdeal.nD Cert.EdgesIdeal.τ).loc Cert.EdgesIdeal.main_arg11))
      ∧ θ_run (Cert.EdgesReferenceIdeal.defs (F := Ideal)) (onTc (τ := Cert.EdgesReferenceIdeal.τ) (Cert.EdgesReferenceIdeal.main (F := Ideal))) ⟨m', fun _ => 0, g'⟩ (fun r => ∀ c : Dev Cert.EdgesReferenceIdeal.nD,
          r.2.mem ((c.tc : Thread Cert.EdgesReferenceIdeal.nD Cert.EdgesReferenceIdeal.τ).loc Cert.EdgesReferenceIdeal.main_v40) = v0 c
          ∧ r.2.mem ((c.tc : Thread Cert.EdgesReferenceIdeal.nD Cert.EdgesReferenceIdeal.τ).loc Cert.EdgesReferenceIdeal.main_arg11) = v1 c
          ∧ r.2.mem ((c.tc : Thread Cert.EdgesReferenceIdeal.nD Cert.EdgesReferenceIdeal.τ).loc Cert.EdgesReferenceIdeal.main_arg0) = m' ((c.tc : Thread Cert.EdgesReferenceIdeal.nD Cert.EdgesReferenceIdeal.τ).loc Cert.EdgesReferenceIdeal.main_arg0)
          ∧ r.2.mem ((c.tc : Thread Cert.EdgesReferenceIdeal.nD Cert.EdgesReferenceIdeal.τ).loc Cert.EdgesReferenceIdeal.main_arg1) = m' ((c.tc : Thread Cert.EdgesReferenceIdeal.nD Cert.EdgesReferenceIdeal.τ).loc Cert.EdgesReferenceIdeal.main_arg1)
          ∧ r.2.mem ((c.tc : Thread Cert.EdgesReferenceIdeal.nD Cert.EdgesReferenceIdeal.τ).loc Cert.EdgesReferenceIdeal.main_arg2) = m' ((c.tc : Thread Cert.EdgesReferenceIdeal.nD Cert.EdgesReferenceIdeal.τ).loc Cert.EdgesReferenceIdeal.main_arg2)
          ∧ r.2.mem ((c.tc : Thread Cert.EdgesReferenceIdeal.nD Cert.EdgesReferenceIdeal.τ).loc Cert.EdgesReferenceIdeal.main_arg3) = m' ((c.tc : Thread Cert.EdgesReferenceIdeal.nD Cert.EdgesReferenceIdeal.τ).loc Cert.EdgesReferenceIdeal.main_arg3)
          ∧ r.2.mem ((c.tc : Thread Cert.EdgesReferenceIdeal.nD Cert.EdgesReferenceIdeal.τ).loc Cert.EdgesReferenceIdeal.main_arg4) = m' ((c.tc : Thread Cert.EdgesReferenceIdeal.nD Cert.EdgesReferenceIdeal.τ).loc Cert.EdgesReferenceIdeal.main_arg4)
          ∧ r.2.mem ((c.tc : Thread Cert.EdgesReferenceIdeal.nD Cert.EdgesReferenceIdeal.τ).loc Cert.EdgesReferenceIdeal.main_arg5) = m' ((c.tc : Thread Cert.EdgesReferenceIdeal.nD Cert.EdgesReferenceIdeal.τ).loc Cert.EdgesReferenceIdeal.main_arg5)
          ∧ r.2.mem ((c.tc : Thread Cert.EdgesReferenceIdeal.nD Cert.EdgesReferenceIdeal.τ).loc Cert.EdgesReferenceIdeal.main_arg6) = m' ((c.tc : Thread Cert.EdgesReferenceIdeal.nD Cert.EdgesReferenceIdeal.τ).loc Cert.EdgesReferenceIdeal.main_arg6)
          ∧ r.2.mem ((c.tc : Thread Cert.EdgesReferenceIdeal.nD Cert.EdgesReferenceIdeal.τ).loc Cert.EdgesReferenceIdeal.main_arg7) = m' ((c.tc : Thread Cert.EdgesReferenceIdeal.nD Cert.EdgesReferenceIdeal.τ).loc Cert.EdgesReferenceIdeal.main_arg7)
          ∧ r.2.mem ((c.tc : Thread Cert.EdgesReferenceIdeal.nD Cert.EdgesReferenceIdeal.τ).loc Cert.EdgesReferenceIdeal.main_arg8) = m' ((c.tc : Thread Cert.EdgesReferenceIdeal.nD Cert.EdgesReferenceIdeal.τ).loc Cert.EdgesReferenceIdeal.main_arg8)
          ∧ r.2.mem ((c.tc : Thread Cert.EdgesReferenceIdeal.nD Cert.EdgesReferenceIdeal.τ).loc Cert.EdgesReferenceIdeal.main_arg9) = m' ((c.tc : Thread Cert.EdgesReferenceIdeal.nD Cert.EdgesReferenceIdeal.τ).loc Cert.EdgesReferenceIdeal.main_arg9)
          ∧ r.2.mem ((c.tc : Thread Cert.EdgesReferenceIdeal.nD Cert.EdgesReferenceIdeal.τ).loc Cert.EdgesReferenceIdeal.main_arg10) = m' ((c.tc : Thread Cert.EdgesReferenceIdeal.nD Cert.EdgesReferenceIdeal.τ).loc Cert.EdgesReferenceIdeal.main_arg10)
          ∧ r.2.mem ((c.tc : Thread Cert.EdgesReferenceIdeal.nD Cert.EdgesReferenceIdeal.τ).loc Cert.EdgesReferenceIdeal.main_arg11) = m' ((c.tc : Thread Cert.EdgesReferenceIdeal.nD Cert.EdgesReferenceIdeal.τ).loc Cert.EdgesReferenceIdeal.main_arg11))

def Claim : Prop :=
  ∃ (hKernel : Cert.Kernel.Facts) (hKernelIdeal : Cert.KernelIdeal.Facts) (hReferenceIdeal : Cert.ReferenceIdeal.Facts) (hEdges : Cert.Edges.Facts) (hEdgesIdeal : Cert.EdgesIdeal.Facts) (hEdgesReferenceIdeal : Cert.EdgesReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Edges (hEdges := hEdges)
    ∧ quiescent_EdgesIdeal (hEdgesIdeal := hEdgesIdeal)
    ∧ quiescent_EdgesReferenceIdeal (hEdgesReferenceIdeal := hEdgesReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Edges_EdgesIdeal
    ∧ algebraic_EdgesIdeal_EdgesReferenceIdeal (hEdgesIdeal := hEdgesIdeal) (hEdgesReferenceIdeal := hEdgesReferenceIdeal)
-- ==== Pre_in_range.lean ====
abbrev S10000x128 : Shape := ⟨2, ![10000, 128]⟩
abbrev S2x320000 : Shape := ⟨2, ![2, 320000]⟩
abbrev S384x128 : Shape := ⟨2, ![384, 128]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel

variable [Facts]

def fn {F : FTy → Type} [FloatOps F] (main_arg0 : FVec F S10000x128 .f32) (main_arg1 : IVec S2x320000 32) (main_arg2 : FVec F S384x128 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 1 := constantI S_ 1 1#1
  let main_v2 : IVec S_ 1 := (fun x v => Host.reduce IntOp.andi x v reducesTo_S2x320000_S_d0_1 h_S_) main_v1 main_c_0
  let main_c_1 : IVec S_ 32 := constantI S_ 32 10000#32
  let main_v3 : IVec S2x320000 32 := broadcastInDim S2x320000 ![] bcast_S_S2x320000 main_c_1
  let main_v4 : IVec S2x320000 1 := cmpi .slt main_arg1 main_v3
  let main_c_2 : IVec S_ 1 := constantI S_ 1 1#1
  let main_v5 : IVec S_ 1 := (fun x v => Host.reduce IntOp.andi x v reducesTo_S2x320000_S_d0_1 h_S_) main_v4 main_c_2
  let main_v6 : IVec S_ 1 := andi main_v2 main_v5
  main_v6
-- ==== Kernel.lean ====
abbrev S10000x128 : Shape := ⟨2, ![10000, 128]⟩
abbrev S2x320000 : Shape := ⟨2, ![2, 320000]⟩
abbrev S384x128 : Shape := ⟨2, ![384, 128]⟩
abbrev S20000x128 : Shape := ⟨2, ![20000, 128]⟩
abbrev S128x128 : Shape := ⟨2, ![128, 128]⟩
abbrev S2x1x320000 : Shape := ⟨3, ![2, 1, 320000]⟩
abbrev S160000x128 : Shape := ⟨2, ![160000, 128]⟩
abbrev S_ : Shape := ⟨0, ![]⟩
abbrev S1000x128 : Shape := ⟨2, ![1000, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1x1x320000 : Shape := ⟨3, ![1, 1, 320000]⟩
abbrev S1x320000 : Shape := ⟨2, ![1, 320000]⟩
abbrev S1 : Shape := ⟨1, ![1]⟩
abbrev S1x128x128 : Shape := ⟨3, ![1, 128, 128]⟩
abbrev S128 : Shape := ⟨1, ![128]⟩
abbrev S80000x128 : Shape := ⟨2, ![80000, 128]⟩

abbrev nBuf : Table → Nat
  | .hbm => 9
  | .local .tc .vmem => 5
  | .shared => 4
  | .local .scVector .vmem => 8
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S384x128, .f32⟩
  | .hbm, ⟨3, _⟩ => ⟨S20000x128, .f32⟩
  | .hbm, ⟨4, _⟩ => ⟨S2x1x320000, .i32⟩
  | .hbm, ⟨5, _⟩ => ⟨S160000x128, .f32⟩
  | .hbm, ⟨6, _⟩ => ⟨S160000x128, .f32⟩
  | .hbm, ⟨7, _⟩ => ⟨S160000x128, .f32⟩
  | .hbm, ⟨8, _⟩ => ⟨S160000x128, .f32⟩
  | .local .tc .vmem, ⟨0, _⟩ => ⟨S10000x128, .f32⟩
  | .local .tc .vmem, ⟨1, _⟩ => ⟨S128x128, .f32⟩
  | .local .tc .vmem, ⟨2, _⟩ => ⟨S128x128, .f32⟩
  | .local .tc .vmem, ⟨3, _⟩ => ⟨S10000x128, .f32⟩
  | .local .tc .vmem, ⟨4, _⟩ => ⟨S10000x128, .f32⟩
  | .shared, ⟨0, _⟩ => ⟨S10000x128, .f32⟩
  | .shared, ⟨1, _⟩ => ⟨S10000x128, .f32⟩
  | .shared, ⟨2, _⟩ => ⟨S10000x128, .f32⟩
  | .shared, ⟨3, _⟩ => ⟨S10000x128, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | .local .scVector .vmem, ⟨6, _⟩ => ⟨S2x1x128, .i32⟩
  | .local .scVector .vmem, ⟨7, _⟩ => ⟨S2x128x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | _ => false

abbrev sig : RefSig :=
  ofTables nBuf rfl bufTy 5 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev main_v4_scv : Ref sig .scVector := ⟨.hbm, 7, rfl⟩
abbrev main_v5_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.shared, 0, rfl⟩
abbrev cc2_scratch0 : Ref sig .scVector := ⟨.shared, 1, rfl⟩
abbrev cc3_scratch0 : Ref sig .scVector := ⟨.shared, 2, rfl⟩
abbrev cc4_scratch0 : Ref sig .scVector := ⟨.shared, 3, rfl⟩
abbrev cc1_scoped1 : Ref sig .scVector := ⟨.vmem, 0, rfl⟩
abbrev cc1_scoped3 : Ref sig .scVector := ⟨.vmem, 1, rfl⟩
abbrev cc2_scoped1 : Ref sig .scVector := ⟨.vmem, 2, rfl⟩
abbrev cc2_scoped3 : Ref sig .scVector := ⟨.vmem, 3, rfl⟩
abbrev cc3_scoped1 : Ref sig .scVector := ⟨.vmem, 4, rfl⟩
abbrev cc3_scoped3 : Ref sig .scVector := ⟨.vmem, 5, rfl⟩
abbrev cc4_scoped1 : Ref sig .scVector := ⟨.vmem, 6, rfl⟩
abbrev cc4_scoped3 : Ref sig .scVector := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c10_i32 : BitVec 32 := 10#32
  let v0 : BitVec 1 := Scalar.cmpi .slt arg1 c10_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg1 : BitVec 32 := BitVec.ofNat 32 (i 1).val
  let c1000_i32_6 : BitVec 32 := 1000#32
  let v17 : BitVec 32 := Scalar.muli arg1 c1000_i32_6
  let c0_i32_7_r0 : BitVec 32 := 0#32
  ![v17.toNat, 0]
def k1_off2 (i : grid1.Coords) : Fin 2 → Nat :=
  let arg0 : BitVec 32 := BitVec.ofNat 32 (i 0).val
  let c10000_i32 : BitVec 32 := 10000#32
  let v14 : BitVec 32 := Scalar.muli arg0 c10000_i32
  let arg1 : BitVec 32 := BitVec.ofNat 32 (i 1).val
  let c1000_i32 : BitVec 32 := 1000#32
  let v15 : BitVec 32 := Scalar.muli arg1 c1000_i32
  let v16 : BitVec 32 := Scalar.addi v14 v15
  let c0_i32_8_r0 : BitVec 32 := 0#32
  ![v16.toNat, 0]
def k1_cond2 (i : grid1.Coords) : BitVec 1 :=
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let c0_i32_7_r1 : BitVec 32 := 0#32
  let v16_r1 : BitVec 1 := Scalar.cmpi .sgt v13 c0_i32_7_r1
  let v17_r1 : BitVec 32 := Scalar.extui v16_r1
  let c0_i32_8_r1 : BitVec 32 := 0#32
  let v18_r1 : BitVec 1 := Scalar.cmpi .ne v17_r1 c0_i32_8_r1
  v18_r1

def k1_cond3 (i : grid1.Coords) : BitVec 1 :=
  let true_24_r1 : BitVec 1 := 1#1
  let c1_i32_9_r1 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v19_r1 : BitVec 32 := Scalar.muli c1_i32_9_r1 v7
  let c0_i32_23_r1 : BitVec 32 := 0#32
  let v37_r1 : BitVec 1 := Scalar.cmpi .sgt v19_r1 c0_i32_23_r1
  let v38_r1 : BitVec 1 := Scalar.andi true_24_r1 v37_r1
  let true_25_r1 : BitVec 1 := 1#1
  let v39_r1 : BitVec 1 := Scalar.andi v38_r1 true_25_r1
  let v40_r1 : BitVec 32 := Scalar.extui v39_r1
  let c0_i32_27_r1 : BitVec 32 := 0#32
  let v41_r1 : BitVec 1 := Scalar.cmpi .ne v40_r1 c0_i32_27_r1
  v41_r1

def k1_off3 : Fin 3 → Nat :=
  let c0_i32_26_r1 : BitVec 32 := 0#32
  let c2_i32_r1 : BitVec 32 := 2#32
  let v82_r1 : BitVec 32 := Scalar.remui c0_i32_26_r1 c2_i32_r1
  let c0_i32_60_r1 : BitVec 32 := 0#32
  let c0_i32_61_r1 : BitVec 32 := 0#32
  ![v82_r1.toNat, 0, 0]
def k1_off4 (i : grid1.Coords) : Fin 3 → Nat :=
  let arg0 : BitVec 32 := BitVec.ofNat 32 (i 0).val
  let c0_i32_62_r1 : BitVec 32 := 0#32
  let c0_i32_63_r1 : BitVec 32 := 0#32
  ![arg0.toNat, 0, 0]
def k1_off5 (i : grid1.Coords) : Fin 2 → Nat :=
  let c0_i32_64_r1 : BitVec 32 := 0#32
  let c128_i32_r1 : BitVec 32 := 128#32
  let c0_i32_12_r1 : BitVec 32 := 0#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v22_r1 : BitVec 32 := Scalar.addi c0_i32_12_r1 v12
  let c0_i32_59_r1 : BitVec 32 := 0#32
  let v83_r1 : BitVec 32 := Scalar.addi v22_r1 c0_i32_59_r1
  let v84_r1 : BitVec 32 := Scalar.muli c128_i32_r1 v83_r1
  ![0, v84_r1.toNat]
def k1_off6 : Fin 1 → Nat :=
  let c0_i32_26_r1 : BitVec 32 := 0#32
  let c2_i32_r1 : BitVec 32 := 2#32
  let v82_r1 : BitVec 32 := Scalar.remui c0_i32_26_r1 c2_i32_r1
  ![v82_r1.toNat]
@[reducible] def k1_t1_loop (i : grid1.Coords) : Scf.Loop 32 :=
  let c0_i32_31_r1 : BitVec 32 := 0#32
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_37_r1 : BitVec 32 := 1#32
  ⟨c0_i32_31_r1, v48_r1, c1_i32_37_r1⟩
def k1_off7 (arg7_r1 : BitVec 32) : Fin 3 → Nat :=
  let c2_i32_106_r1 : BitVec 32 := 2#32
  let v172_r1 : BitVec 32 := Scalar.remui arg7_r1 c2_i32_106_r1
  let c0_i32_108_r1 : BitVec 32 := 0#32
  let c0_i32_109_r1 : BitVec 32 := 0#32
  ![v172_r1.toNat, 0, 0]
def k1_cond4 (i : grid1.Coords) (k1_t1 : Fin (k1_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c0_i32_72_r1 : BitVec 32 := 0#32
  let v103_r1 : BitVec 32 := Scalar.addi v86_r1 c0_i32_72_r1
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let c0_i32_73_r1 : BitVec 32 := 0#32
  let v104_r1 : BitVec 32 := Scalar.addi v97_r1 c0_i32_73_r1
  let v105_r1 : BitVec 1 := Scalar.cmpi .ne v103_r1 v104_r1
  let c0_i32_31_r1 : BitVec 32 := 0#32
  let c1_i32_37_r1 : BitVec 32 := 1#32
  let arg6_r1 : BitVec 32 := Scf.iv c0_i32_31_r1 c1_i32_37_r1 k1_t1
  let c1_i32_59_r1 : BitVec 32 := 1#32
  let v82_r1 : BitVec 32 := Scalar.muli c1_i32_59_r1 v7
  let c2_i32_r1 : BitVec 32 := 2#32
  let v106_r1 : BitVec 32 := Scalar.subi v82_r1 c2_i32_r1
  let c1_i32_74_r1 : BitVec 32 := 1#32
  let v107_r1 : BitVec 32 := Scalar.addi v106_r1 c1_i32_74_r1
  let v108_r1 : BitVec 1 := Scalar.cmpi .sge arg6_r1 v107_r1
  let true_75_r1 : BitVec 1 := 1#1
  let v109_r1 : BitVec 1 := Scalar.xori v108_r1 true_75_r1
  let v110_r1 : BitVec 1 := Scalar.andi v105_r1 v109_r1
  let true_76_r1 : BitVec 1 := 1#1
  let v111_r1 : BitVec 1 := Scalar.andi v110_r1 true_76_r1
  let v112_r1 : BitVec 32 := Scalar.extui v111_r1
  let c0_i32_77_r1 : BitVec 32 := 0#32
  let v113_r1 : BitVec 1 := Scalar.cmpi .ne v112_r1 c0_i32_77_r1
  v113_r1

def k1_off8 (i : grid1.Coords) : Fin 3 → Nat :=
  let arg0 : BitVec 32 := BitVec.ofNat 32 (i 0).val
  let c0_i32_110_r1 : BitVec 32 := 0#32
  let c0_i32_111_r1 : BitVec 32 := 0#32
  ![arg0.toNat, 0, 0]
def k1_off9 (i : grid1.Coords) (arg11_r1 : BitVec 32) : Fin 2 → Nat :=
  let c0_i32_112_r1 : BitVec 32 := 0#32
  let c128_i32_r1 : BitVec 32 := 128#32
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v95_r1 : BitVec 1 := Scalar.cmpi .eq v94_r1 v7
  let c0_i32_68_r1 : BitVec 32 := 0#32
  let v96_r1 : BitVec 32 := Scalar.select v95_r1 c0_i32_68_r1 v94_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v97_r1 : BitVec 32 := Scalar.addi v96_r1 v12
  let c0_i32_107_r1 : BitVec 32 := 0#32
  let v173_r1 : BitVec 32 := Scalar.addi v97_r1 c0_i32_107_r1
  let v174_r1 : BitVec 32 := Scalar.muli c128_i32_r1 v173_r1
  ![0, v174_r1.toNat]
def k1_off10 (arg7_r1 : BitVec 32) : Fin 1 → Nat :=
  let c2_i32_106_r1 : BitVec 32 := 2#32
  let v172_r1 : BitVec 32 := Scalar.remui arg7_r1 c2_i32_106_r1
  ![v172_r1.toNat]
def k1_off11 (arg8_r1 : BitVec 32) : Fin 3 → Nat :=
  let c2_i32_107_r1 : BitVec 32 := 2#32
  let v174_r1 : BitVec 32 := Scalar.remui arg8_r1 c2_i32_107_r1
  let c0_i32_108_r1 : BitVec 32 := 0#32
  let c0_i32_109_r1 : BitVec 32 := 0#32
  ![v174_r1.toNat, 0, 0]
def k1_cond5 (i : grid1.Coords) (k1_t1 : Fin (k1_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c0_i32_72_r1 : BitVec 32 := 0#32
  let v103_r1 : BitVec 32 := Scalar.addi v86_r1 c0_i32_72_r1
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let c0_i32_83_r1 : BitVec 32 := 0#32
  let v123_r1 : BitVec 32 := Scalar.addi v92_r1 c0_i32_83_r1
  let v124_r1 : BitVec 1 := Scalar.cmpi .ne v103_r1 v123_r1
  let c0_i32_31_r1 : BitVec 32 := 0#32
  let c1_i32_37_r1 : BitVec 32 := 1#32
  let arg6_r1 : BitVec 32 := Scf.iv c0_i32_31_r1 c1_i32_37_r1 k1_t1
  let c0_i32_60_r1 : BitVec 32 := 0#32
  let v83_r1 : BitVec 1 := Scalar.cmpi .eq arg6_r1 c0_i32_60_r1
  let v125_r1 : BitVec 1 := Scalar.ori v124_r1 v83_r1
  let c0_i32_84_r1 : BitVec 32 := 0#32
  let v126_r1 : BitVec 1 := Scalar.cmpi .sge arg6_r1 c0_i32_84_r1
  let v127_r1 : BitVec 1 := Scalar.andi v125_r1 v126_r1
  let v128_r1 : BitVec 32 := Scalar.extui v127_r1
  let c0_i32_85_r1 : BitVec 32 := 0#32
  let v129_r1 : BitVec 1 := Scalar.cmpi .ne v128_r1 c0_i32_85_r1
  v129_r1

def k1_off12 (i : grid1.Coords) : Fin 3 → Nat :=
  let arg0 : BitVec 32 := BitVec.ofNat 32 (i 0).val
  let c0_i32_110_r1 : BitVec 32 := 0#32
  let c0_i32_111_r1 : BitVec 32 := 0#32
  ![arg0.toNat, 0, 0]
def k1_off13 (i : grid1.Coords) (arg11_r1 : BitVec 32) : Fin 2 → Nat :=
  let c0_i32_112_r1 : BitVec 32 := 0#32
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c0_i32_106_r1 : BitVec 32 := 0#32
  let v172_r1 : BitVec 32 := Scalar.addi v86_r1 c0_i32_106_r1
  let v173_r1 : BitVec 32 := Scalar.muli c128_i32_r1 v172_r1
  ![0, v173_r1.toNat]
def k1_off14 (arg8_r1 : BitVec 32) : Fin 1 → Nat :=
  let c2_i32_107_r1 : BitVec 32 := 2#32
  let v174_r1 : BitVec 32 := Scalar.remui arg8_r1 c2_i32_107_r1
  ![v174_r1.toNat]
def k1_off15 (arg9_r1 : BitVec 32) : Fin 3 → Nat :=
  let c2_i32_89_r1 : BitVec 32 := 2#32
  let v137_r1 : BitVec 32 := Scalar.remui arg9_r1 c2_i32_89_r1
  let c0_i32_106_r2 : BitVec 32 := 0#32
  let c0_i32_107_r2 : BitVec 32 := 0#32
  ![v137_r1.toNat, 0, 0]

def k1_chk2 (i : grid1.Coords) (arg9_r1 : BitVec 32) : Prop :=
  (∀ (k1_h2 : k1_cond2 i = 1#1), ∀ a, (k1_off15 arg9_r1) a + S1x128x128.size a ≤ S2x128x128.size a)
theorem k1_off15_inb : ∀ (i : grid1.Coords) (arg9_r1 : BitVec 32) (k1_hw2 : k1_chk2 i arg9_r1), ∀ (k1_h2 : k1_cond2 i = 1#1), ∀ a, (k1_off15 arg9_r1) a + S1x128x128.size a ≤ S2x128x128.size a := fun i arg9_r1 k1_hw2 k1_h2 => k1_hw2 k1_h2

def k1_off16 (arg8_r1 : BitVec 32) : Fin 3 → Nat :=
  let c2_i32_88_r1 : BitVec 32 := 2#32
  let v136_r1 : BitVec 32 := Scalar.remui arg8_r1 c2_i32_88_r1
  let c0_i32_108_r2 : BitVec 32 := 0#32
  let c0_i32_109_r2 : BitVec 32 := 0#32
  ![v136_r1.toNat, 0, 0]

def k1_chk3 (i : grid1.Coords) (arg8_r1 : BitVec 32) : Prop :=
  (∀ (k1_h2 : k1_cond2 i = 1#1), ∀ a, (k1_off16 arg8_r1) a + S1x1x128.size a ≤ S2x1x128.size a)
theorem k1_off16_inb : ∀ (i : grid1.Coords) (arg8_r1 : BitVec 32) (k1_hw3 : k1_chk3 i arg8_r1), ∀ (k1_h2 : k1_cond2 i = 1#1), ∀ a, (k1_off16 arg8_r1) a + S1x1x128.size a ≤ S2x1x128.size a := fun i arg8_r1 k1_hw3 k1_h2 => k1_hw3 k1_h2

def k1_off17 (arg9_r1 : BitVec 32) : Fin 3 → Nat :=
  let c2_i32_106_r1 : BitVec 32 := 2#32
  let v172_r1 : BitVec 32 := Scalar.remui arg9_r1 c2_i32_106_r1
  let c0_i32_107_r1 : BitVec 32 := 0#32
  let c0_i32_108_r1 : BitVec 32 := 0#32
  ![v172_r1.toNat, 0, 0]
def k1_cond8 (i : grid1.Coords) (k1_t1 : Fin (k1_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let v143_r1 : BitVec 1 := Scalar.cmpi .ne v86_r1 v97_r1
  let c0_i32_31_r1 : BitVec 32 := 0#32
  let c1_i32_37_r1 : BitVec 32 := 1#32
  let arg6_r1 : BitVec 32 := Scf.iv c0_i32_31_r1 c1_i32_37_r1 k1_t1
  let c1_i32_59_r1 : BitVec 32 := 1#32
  let v82_r1 : BitVec 32 := Scalar.muli c1_i32_59_r1 v7
  let c1_i32_61_r1 : BitVec 32 := 1#32
  let v84_r1 : BitVec 32 := Scalar.subi v82_r1 c1_i32_61_r1
  let v85_r1 : BitVec 1 := Scalar.cmpi .eq arg6_r1 v84_r1
  let v144_r1 : BitVec 1 := Scalar.ori v143_r1 v85_r1
  let v145_r1 : BitVec 32 := Scalar.extui v144_r1
  let c0_i32_92_r1 : BitVec 32 := 0#32
  let v146_r1 : BitVec 1 := Scalar.cmpi .ne v145_r1 c0_i32_92_r1
  v146_r1

def k1_off18 (i : grid1.Coords) : Fin 2 → Nat :=
  let arg0 : BitVec 32 := BitVec.ofNat 32 (i 0).val
  let c80000_i32 : BitVec 32 := 80000#32
  let v3 : BitVec 32 := Scalar.muli arg0 c80000_i32
  let c0_i32_109_r1 : BitVec 32 := 0#32
  ![v3.toNat, 0]
def k1_off19 (i : grid1.Coords) (arg11_r1 : BitVec 32) : Fin 2 → Nat :=
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let v173_r1 : BitVec 32 := Scalar.muli c128_i32_r1 v86_r1
  let c0_i32_110_r1 : BitVec 32 := 0#32
  ![v173_r1.toNat, 0]
def k1_off20 (arg9_r1 : BitVec 32) : Fin 1 → Nat :=
  let c2_i32_106_r1 : BitVec 32 := 2#32
  let v172_r1 : BitVec 32 := Scalar.remui arg9_r1 c2_i32_106_r1
  ![v172_r1.toNat]
def k1_off21 (arg10_r1 : BitVec 32) : Fin 3 → Nat :=
  let c2_i32_106_r1 : BitVec 32 := 2#32
  let v172_r1 : BitVec 32 := Scalar.remui arg10_r1 c2_i32_106_r1
  let c0_i32_107_r1 : BitVec 32 := 0#32
  let c0_i32_108_r1 : BitVec 32 := 0#32
  ![v172_r1.toNat, 0, 0]
def k1_cond10 (i : grid1.Coords) (k1_t1 : Fin (k1_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let v156_r1 : BitVec 1 := Scalar.cmpi .ne v86_r1 v92_r1
  let c0_i32_31_r1 : BitVec 32 := 0#32
  let c1_i32_37_r1 : BitVec 32 := 1#32
  let arg6_r1 : BitVec 32 := Scf.iv c0_i32_31_r1 c1_i32_37_r1 k1_t1
  let c0_i32_60_r1 : BitVec 32 := 0#32
  let v83_r1 : BitVec 1 := Scalar.cmpi .eq arg6_r1 c0_i32_60_r1
  let true_98_r1 : BitVec 1 := 1#1
  let v157_r1 : BitVec 1 := Scalar.xori v83_r1 true_98_r1
  let v158_r1 : BitVec 1 := Scalar.andi v156_r1 v157_r1
  let v159_r1 : BitVec 32 := Scalar.extui v158_r1
  let c0_i32_99_r1 : BitVec 32 := 0#32
  let v160_r1 : BitVec 1 := Scalar.cmpi .ne v159_r1 c0_i32_99_r1
  v160_r1

def k1_off22 (i : grid1.Coords) : Fin 2 → Nat :=
  let arg0 : BitVec 32 := BitVec.ofNat 32 (i 0).val
  let c80000_i32 : BitVec 32 := 80000#32
  let v3 : BitVec 32 := Scalar.muli arg0 c80000_i32
  let c0_i32_109_r1 : BitVec 32 := 0#32
  ![v3.toNat, 0]
def k1_off23 (i : grid1.Coords) (arg11_r1 : BitVec 32) : Fin 2 → Nat :=
  let c128_i32_r1 : BitVec 32 := 128#32
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_65_r1 : BitVec 32 := 1#32
  let v90_r1 : BitVec 32 := Scalar.subi v7 c1_i32_65_r1
  let v91_r1 : BitVec 32 := Scalar.select v89_r1 v90_r1 v88_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v92_r1 : BitVec 32 := Scalar.addi v91_r1 v12
  let v173_r1 : BitVec 32 := Scalar.muli c128_i32_r1 v92_r1
  let c0_i32_110_r1 : BitVec 32 := 0#32
  ![v173_r1.toNat, 0]
def k1_off24 (arg10_r1 : BitVec 32) : Fin 1 → Nat :=
  let c2_i32_106_r1 : BitVec 32 := 2#32
  let v172_r1 : BitVec 32 := Scalar.remui arg10_r1 c2_i32_106_r1
  ![v172_r1.toNat]

def k1_chk1 (i : grid1.Coords) (k1_t1 : Fin (k1_t1_loop i).trips) (arg7_r1 : BitVec 32) (arg8_r1 : BitVec 32) (arg9_r1 : BitVec 32) (arg10_r1 : BitVec 32) (arg11_r1 : BitVec 32) : Prop :=
  (∀ (k1_h2 : k1_cond2 i = 1#1), ∀ (k1_h4 : k1_cond4 i k1_t1 arg11_r1 = 1#1), ∀ a, (k1_off7 arg7_r1) a + S1x1x128.size a ≤ S2x1x128.size a) ∧
  (∀ (k1_h2 : k1_cond2 i = 1#1), ∀ (k1_h4 : k1_cond4 i k1_t1 arg11_r1 = 1#1), ∀ a, (k1_off9 i arg11_r1) a + S1x128.size a ≤ S1x320000.size a) ∧
  (∀ (k1_h2 : k1_cond2 i = 1#1), ∀ (k1_h4 : k1_cond4 i k1_t1 arg11_r1 = 1#1), ∀ a, (k1_off10 arg7_r1) a + S1.size a ≤ S2.size a) ∧
  (∀ (k1_h2 : k1_cond2 i = 1#1), ∀ (k1_h5 : k1_cond5 i k1_t1 arg11_r1 = 1#1), ∀ a, (k1_off11 arg8_r1) a + S1x1x128.size a ≤ S2x1x128.size a) ∧
  (∀ (k1_h2 : k1_cond2 i = 1#1), ∀ (k1_h5 : k1_cond5 i k1_t1 arg11_r1 = 1#1), ∀ a, (k1_off13 i arg11_r1) a + S1x128.size a ≤ S1x320000.size a) ∧
  (∀ (k1_h2 : k1_cond2 i = 1#1), ∀ (k1_h5 : k1_cond5 i k1_t1 arg11_r1 = 1#1), ∀ a, (k1_off14 arg8_r1) a + S1.size a ≤ S2.size a) ∧
  (∀ (k1_h2 : k1_cond2 i = 1#1), ∀ (k1_h8 : k1_cond8 i k1_t1 arg11_r1 = 1#1), ∀ a, (k1_off17 arg9_r1) a + S1x128x128.size a ≤ S2x128x128.size a) ∧
  (∀ (k1_h2 : k1_cond2 i = 1#1), ∀ (k1_h8 : k1_cond8 i k1_t1 arg11_r1 = 1#1), ∀ a, (k1_off19 i arg11_r1) a + S128x128.size a ≤ S80000x128.size a) ∧
  (∀ (k1_h2 : k1_cond2 i = 1#1), ∀ (k1_h8 : k1_cond8 i k1_t1 arg11_r1 = 1#1), ∀ a, (k1_off20 arg9_r1) a + S1.size a ≤ S2.size a) ∧
  (∀ (k1_h2 : k1_cond2 i = 1#1), ∀ (k1_h10 : k1_cond10 i k1_t1 arg11_r1 = 1#1), ∀ a, (k1_off21 arg10_r1) a + S1x128x128.size a ≤ S2x128x128.size a) ∧
  (∀ (k1_h2 : k1_cond2 i = 1#1), ∀ (k1_h10 : k1_cond10 i k1_t1 arg11_r1 = 1#1), ∀ a, (k1_off23 i arg11_r1) a + S128x128.size a ≤ S80000x128.size a) ∧
  (∀ (k1_h2 : k1_cond2 i = 1#1), ∀ (k1_h10 : k1_cond10 i k1_t1 arg11_r1 = 1#1), ∀ a, (k1_off24 arg10_r1) a + S1.size a ≤ S2.size a)
theorem k1_off7_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h4 : k1_cond4 i k1_t1 arg11_r1 = 1#1), ∀ a, (k1_off7 arg7_r1) a + S1x1x128.size a ≤ S2x1x128.size a := fun i k1_t1 arg7_r1 arg8_r1 arg9_r1 arg10_r1 arg11_r1 k1_hw1 k1_h2 k1_h4 => k1_hw1.1 k1_h2 k1_h4
theorem k1_off9_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h4 : k1_cond4 i k1_t1 arg11_r1 = 1#1), ∀ a, (k1_off9 i arg11_r1) a + S1x128.size a ≤ S1x320000.size a := fun i k1_t1 arg7_r1 arg8_r1 arg9_r1 arg10_r1 arg11_r1 k1_hw1 k1_h2 k1_h4 => k1_hw1.2.1 k1_h2 k1_h4
theorem k1_off10_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h4 : k1_cond4 i k1_t1 arg11_r1 = 1#1), ∀ a, (k1_off10 arg7_r1) a + S1.size a ≤ S2.size a := fun i k1_t1 arg7_r1 arg8_r1 arg9_r1 arg10_r1 arg11_r1 k1_hw1 k1_h2 k1_h4 => k1_hw1.2.2.1 k1_h2 k1_h4
theorem k1_off11_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h5 : k1_cond5 i k1_t1 arg11_r1 = 1#1), ∀ a, (k1_off11 arg8_r1) a + S1x1x128.size a ≤ S2x1x128.size a := fun i k1_t1 arg7_r1 arg8_r1 arg9_r1 arg10_r1 arg11_r1 k1_hw1 k1_h2 k1_h5 => k1_hw1.2.2.2.1 k1_h2 k1_h5
theorem k1_off13_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h5 : k1_cond5 i k1_t1 arg11_r1 = 1#1), ∀ a, (k1_off13 i arg11_r1) a + S1x128.size a ≤ S1x320000.size a := fun i k1_t1 arg7_r1 arg8_r1 arg9_r1 arg10_r1 arg11_r1 k1_hw1 k1_h2 k1_h5 => k1_hw1.2.2.2.2.1 k1_h2 k1_h5
theorem k1_off14_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h5 : k1_cond5 i k1_t1 arg11_r1 = 1#1), ∀ a, (k1_off14 arg8_r1) a + S1.size a ≤ S2.size a := fun i k1_t1 arg7_r1 arg8_r1 arg9_r1 arg10_r1 arg11_r1 k1_hw1 k1_h2 k1_h5 => k1_hw1.2.2.2.2.2.1 k1_h2 k1_h5
theorem k1_off17_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h8 : k1_cond8 i k1_t1 arg11_r1 = 1#1), ∀ a, (k1_off17 arg9_r1) a + S1x128x128.size a ≤ S2x128x128.size a := fun i k1_t1 arg7_r1 arg8_r1 arg9_r1 arg10_r1 arg11_r1 k1_hw1 k1_h2 k1_h8 => k1_hw1.2.2.2.2.2.2.1 k1_h2 k1_h8
theorem k1_off19_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h8 : k1_cond8 i k1_t1 arg11_r1 = 1#1), ∀ a, (k1_off19 i arg11_r1) a + S128x128.size a ≤ S80000x128.size a := fun i k1_t1 arg7_r1 arg8_r1 arg9_r1 arg10_r1 arg11_r1 k1_hw1 k1_h2 k1_h8 => k1_hw1.2.2.2.2.2.2.2.1 k1_h2 k1_h8
theorem k1_off20_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h8 : k1_cond8 i k1_t1 arg11_r1 = 1#1), ∀ a, (k1_off20 arg9_r1) a + S1.size a ≤ S2.size a := fun i k1_t1 arg7_r1 arg8_r1 arg9_r1 arg10_r1 arg11_r1 k1_hw1 k1_h2 k1_h8 => k1_hw1.2.2.2.2.2.2.2.2.1 k1_h2 k1_h8
theorem k1_off21_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h10 : k1_cond10 i k1_t1 arg11_r1 = 1#1), ∀ a, (k1_off21 arg10_r1) a + S1x128x128.size a ≤ S2x128x128.size a := fun i k1_t1 arg7_r1 arg8_r1 arg9_r1 arg10_r1 arg11_r1 k1_hw1 k1_h2 k1_h10 => k1_hw1.2.2.2.2.2.2.2.2.2.1 k1_h2 k1_h10
theorem k1_off23_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h10 : k1_cond10 i k1_t1 arg11_r1 = 1#1), ∀ a, (k1_off23 i arg11_r1) a + S128x128.size a ≤ S80000x128.size a := fun i k1_t1 arg7_r1 arg8_r1 arg9_r1 arg10_r1 arg11_r1 k1_hw1 k1_h2 k1_h10 => k1_hw1.2.2.2.2.2.2.2.2.2.2.1 k1_h2 k1_h10
theorem k1_off24_inb : ∀ (i : grid1.Coords) (k1_t1 : Fin (k1_t1_loop i).trips) (arg7_r1 : BitVec 32) (arg8_r1 : BitVec 32) (arg9_r1 : BitVec 32) (arg10_r1 : BitVec 32) (arg11_r1 : BitVec 32) (k1_hw1 : k1_chk1 i k1_t1 arg7_r1 arg8_r1 arg9_r1 arg10_r1 arg11_r1), ∀ (k1_h2 : k1_cond2 i = 1#1), ∀ (k1_h10 : k1_cond10 i k1_t1 arg11_r1 = 1#1), ∀ a, (k1_off24 arg10_r1) a + S1.size a ≤ S2.size a := fun i k1_t1 arg7_r1 arg8_r1 arg9_r1 arg10_r1 arg11_r1 k1_hw1 k1_h2 k1_h10 => k1_hw1.2.2.2.2.2.2.2.2.2.2.2 k1_h2 k1_h10

@[reducible] def k1_t2_loop (i : grid1.Coords) : Scf.Loop 32 :=
  let c0_i32_31_r1 : BitVec 32 := 0#32
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let v45_r1 : BitVec 32 := Scalar.addi c0_i32_31_r1 v44_r1
  let c1_i32_38_r1 : BitVec 32 := 1#32
  ⟨v48_r1, v45_r1, c1_i32_38_r1⟩
def k1_off25 (arg7_r1 : BitVec 32) : Fin 3 → Nat :=
  let c2_i32_106_r1 : BitVec 32 := 2#32
  let v172_r1 : BitVec 32 := Scalar.remui arg7_r1 c2_i32_106_r1
  let c0_i32_108_r1 : BitVec 32 := 0#32
  let c0_i32_109_r1 : BitVec 32 := 0#32
  ![v172_r1.toNat, 0, 0]
def k1_cond11 (i : grid1.Coords) (k1_t2 : Fin (k1_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c0_i32_72_r1 : BitVec 32 := 0#32
  let v103_r1 : BitVec 32 := Scalar.addi v86_r1 c0_i32_72_r1
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let c0_i32_73_r1 : BitVec 32 := 0#32
  let v104_r1 : BitVec 32 := Scalar.addi v97_r1 c0_i32_73_r1
  let v105_r1 : BitVec 1 := Scalar.cmpi .ne v103_r1 v104_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k1_t2
  let c1_i32_59_r1 : BitVec 32 := 1#32
  let v82_r1 : BitVec 32 := Scalar.muli c1_i32_59_r1 v7
  let c2_i32_r1 : BitVec 32 := 2#32
  let v106_r1 : BitVec 32 := Scalar.subi v82_r1 c2_i32_r1
  let c1_i32_74_r1 : BitVec 32 := 1#32
  let v107_r1 : BitVec 32 := Scalar.addi v106_r1 c1_i32_74_r1
  let v108_r1 : BitVec 1 := Scalar.cmpi .sge arg6_r1 v107_r1
  let true_75_r1 : BitVec 1 := 1#1
  let v109_r1 : BitVec 1 := Scalar.xori v108_r1 true_75_r1
  let v110_r1 : BitVec 1 := Scalar.andi v105_r1 v109_r1
  let true_76_r1 : BitVec 1 := 1#1
  let v111_r1 : BitVec 1 := Scalar.andi v110_r1 true_76_r1
  let v112_r1 : BitVec 32 := Scalar.extui v111_r1
  let c0_i32_77_r1 : BitVec 32 := 0#32
  let v113_r1 : BitVec 1 := Scalar.cmpi .ne v112_r1 c0_i32_77_r1
  v113_r1

def k1_off26 (i : grid1.Coords) : Fin 3 → Nat :=
  let arg0 : BitVec 32 := BitVec.ofNat 32 (i 0).val
  let c0_i32_110_r1 : BitVec 32 := 0#32
  let c0_i32_111_r1 : BitVec 32 := 0#32
  ![arg0.toNat, 0, 0]
def k1_off27 (i : grid1.Coords) (arg11_r1 : BitVec 32) : Fin 2 → Nat :=
  let c0_i32_112_r1 : BitVec 32 := 0#32
  let c128_i32_r1 : BitVec 32 := 128#32
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v95_r1 : BitVec 1 := Scalar.cmpi .eq v94_r1 v7
  let c0_i32_68_r1 : BitVec 32 := 0#32
  let v96_r1 : BitVec 32 := Scalar.select v95_r1 c0_i32_68_r1 v94_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v97_r1 : BitVec 32 := Scalar.addi v96_r1 v12
  let c0_i32_107_r1 : BitVec 32 := 0#32
  let v173_r1 : BitVec 32 := Scalar.addi v97_r1 c0_i32_107_r1
  let v174_r1 : BitVec 32 := Scalar.muli c128_i32_r1 v173_r1
  ![0, v174_r1.toNat]
def k1_off28 (arg7_r1 : BitVec 32) : Fin 1 → Nat :=
  let c2_i32_106_r1 : BitVec 32 := 2#32
  let v172_r1 : BitVec 32 := Scalar.remui arg7_r1 c2_i32_106_r1
  ![v172_r1.toNat]
def k1_off29 (arg8_r1 : BitVec 32) : Fin 3 → Nat :=
  let c2_i32_107_r1 : BitVec 32 := 2#32
  let v174_r1 : BitVec 32 := Scalar.remui arg8_r1 c2_i32_107_r1
  let c0_i32_108_r1 : BitVec 32 := 0#32
  let c0_i32_109_r1 : BitVec 32 := 0#32
  ![v174_r1.toNat, 0, 0]
def k1_cond12 (i : grid1.Coords) (k1_t2 : Fin (k1_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c0_i32_72_r1 : BitVec 32 := 0#32
  let v103_r1 : BitVec 32 := Scalar.addi v86_r1 c0_i32_72_r1
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let c0_i32_83_r1 : BitVec 32 := 0#32
  let v123_r1 : BitVec 32 := Scalar.addi v92_r1 c0_i32_83_r1
  let v124_r1 : BitVec 1 := Scalar.cmpi .ne v103_r1 v123_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k1_t2
  let c0_i32_60_r1 : BitVec 32 := 0#32
  let v83_r1 : BitVec 1 := Scalar.cmpi .eq arg6_r1 c0_i32_60_r1
  let v125_r1 : BitVec 1 := Scalar.ori v124_r1 v83_r1
  let c0_i32_84_r1 : BitVec 32 := 0#32
  let v126_r1 : BitVec 1 := Scalar.cmpi .sge arg6_r1 c0_i32_84_r1
  let v127_r1 : BitVec 1 := Scalar.andi v125_r1 v126_r1
  let v128_r1 : BitVec 32 := Scalar.extui v127_r1
  let c0_i32_85_r1 : BitVec 32 := 0#32
  let v129_r1 : BitVec 1 := Scalar.cmpi .ne v128_r1 c0_i32_85_r1
  v129_r1

def k1_off30 (i : grid1.Coords) : Fin 3 → Nat :=
  let arg0 : BitVec 32 := BitVec.ofNat 32 (i 0).val
  let c0_i32_110_r1 : BitVec 32 := 0#32
  let c0_i32_111_r1 : BitVec 32 := 0#32
  ![arg0.toNat, 0, 0]
def k1_off31 (i : grid1.Coords) (arg11_r1 : BitVec 32) : Fin 2 → Nat :=
  let c0_i32_112_r1 : BitVec 32 := 0#32
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c0_i32_106_r1 : BitVec 32 := 0#32
  let v172_r1 : BitVec 32 := Scalar.addi v86_r1 c0_i32_106_r1
  let v173_r1 : BitVec 32 := Scalar.muli c128_i32_r1 v172_r1
  ![0, v173_r1.toNat]
def k1_off32 (arg8_r1 : BitVec 32) : Fin 1 → Nat :=
  let c2_i32_107_r1 : BitVec 32 := 2#32
  let v174_r1 : BitVec 32 := Scalar.remui arg8_r1 c2_i32_107_r1
  ![v174_r1.toNat]
def k1_off33 (arg9_r1 : BitVec 32) : Fin 3 → Nat :=
  let c2_i32_89_r1 : BitVec 32 := 2#32
  let v137_r1 : BitVec 32 := Scalar.remui arg9_r1 c2_i32_89_r1
  let c0_i32_106_r3 : BitVec 32 := 0#32
  let c0_i32_107_r3 : BitVec 32 := 0#32
  ![v137_r1.toNat, 0, 0]

def k1_chk5 (i : grid1.Coords) (k1_t2 : Fin (k1_t2_loop i).trips) (arg9_r1 : BitVec 32) : Prop :=
  (∀ (k1_h2 : k1_cond2 i = 1#1), ∀ a, (k1_off33 arg9_r1) a + S1x128x128.size a ≤ S2x128x128.size a)
theorem k1_off33_inb : ∀ (i : grid1.Coords) (k1_t2 : Fin (k1_t2_loop i).trips) (arg9_r1 : BitVec 32) (k1_hw5 : k1_chk5 i k1_t2 arg9_r1), ∀ (k1_h2 : k1_cond2 i = 1#1), ∀ a, (k1_off33 arg9_r1) a + S1x128x128.size a ≤ S2x128x128.size a := fun i k1_t2 arg9_r1 k1_hw5 k1_h2 => k1_hw5 k1_h2

def k1_off34 (arg8_r1 : BitVec 32) : Fin 3 → Nat :=
  let c2_i32_88_r1 : BitVec 32 := 2#32
  let v136_r1 : BitVec 32 := Scalar.remui arg8_r1 c2_i32_88_r1
  let c0_i32_108_r3 : BitVec 32 := 0#32
  let c0_i32_109_r3 : BitVec 32 := 0#32
  ![v136_r1.toNat, 0, 0]

def k1_chk6 (i : grid1.Coords) (k1_t2 : Fin (k1_t2_loop i).trips) (arg8_r1 : BitVec 32) : Prop :=
  (∀ (k1_h2 : k1_cond2 i = 1#1), ∀ a, (k1_off34 arg8_r1) a + S1x1x128.size a ≤ S2x1x128.size a)
theorem k1_off34_inb : ∀ (i : grid1.Coords) (k1_t2 : Fin (k1_t2_loop i).trips) (arg8_r1 : BitVec 32) (k1_hw6 : k1_chk6 i k1_t2 arg8_r1), ∀ (k1_h2 : k1_cond2 i = 1#1), ∀ a, (k1_off34 arg8_r1) a + S1x1x128.size a ≤ S2x1x128.size a := fun i k1_t2 arg8_r1 k1_hw6 k1_h2 => k1_hw6 k1_h2

def k1_off35 (arg9_r1 : BitVec 32) : Fin 3 → Nat :=
  let c2_i32_106_r1 : BitVec 32 := 2#32
  let v172_r1 : BitVec 32 := Scalar.remui arg9_r1 c2_i32_106_r1
  let c0_i32_107_r1 : BitVec 32 := 0#32
  let c0_i32_108_r1 : BitVec 32 := 0#32
  ![v172_r1.toNat, 0, 0]
def k1_cond15 (i : grid1.Coords) (k1_t2 : Fin (k1_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let v143_r1 : BitVec 1 := Scalar.cmpi .ne v86_r1 v97_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k1_t2
  let c1_i32_59_r1 : BitVec 32 := 1#32
  let v82_r1 : BitVec 32 := Scalar.muli c1_i32_59_r1 v7
  let c1_i32_61_r1 : BitVec 32 := 1#32
  let v84_r1 : BitVec 32 := Scalar.subi v82_r1 c1_i32_61_r1
  let v85_r1 : BitVec 1 := Scalar.cmpi .eq arg6_r1 v84_r1
  let v144_r1 : BitVec 1 := Scalar.ori v143_r1 v85_r1
  let v145_r1 : BitVec 32 := Scalar.extui v144_r1
  let c0_i32_92_r1 : BitVec 32 := 0#32
  let v146_r1 : BitVec 1 := Scalar.cmpi .ne v145_r1 c0_i32_92_r1
  v146_r1

def k1_off36 (i : grid1.Coords) : Fin 2 → Nat :=
  let arg0 : BitVec 32 := BitVec.ofNat 32 (i 0).val
  let c80000_i32 : BitVec 32 := 80000#32
  let v3 : BitVec 32 := Scalar.muli arg0 c80000_i32
  let c0_i32_109_r1 : BitVec 32 := 0#32
  ![v3.toNat, 0]
def k1_off37 (i : grid1.Coords) (arg11_r1 : BitVec 32) : Fin 2 → Nat :=
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let v173_r1 : BitVec 32 := Scalar.muli c128_i32_r1 v86_r1
  let c0_i32_110_r1 : BitVec 32 := 0#32
  ![v173_r1.toNat, 0]
def k1_off38 (arg9_r1 : BitVec 32) : Fin 1 → Nat :=
  let c2_i32_106_r1 : BitVec 32 := 2#32
  let v172_r1 : BitVec 32 := Scalar.remui arg9_r1 c2_i32_106_r1
  ![v172_r1.toNat]
def k1_off39 (arg10_r1 : BitVec 32) : Fin 3 → Nat :=
  let c2_i32_106_r1 : BitVec 32 := 2#32
  let v172_r1 : BitVec 32 := Scalar.remui arg10_r1 c2_i32_106_r1
  let c0_i32_107_r1 : BitVec 32 := 0#32
  let c0_i32_108_r1 : BitVec 32 := 0#32
  ![v172_r1.toNat, 0, 0]
def k1_cond17 (i : grid1.Coords) (k1_t2 : Fin (k1_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let v156_r1 : BitVec 1 := Scalar.cmpi .ne v86_r1 v92_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k1_t2
  let c0_i32_60_r1 : BitVec 32 := 0#32
  let v83_r1 : BitVec 1 := Scalar.cmpi .eq arg6_r1 c0_i32_60_r1
  let true_98_r1 : BitVec 1 := 1#1
  let v157_r1 : BitVec 1 := Scalar.xori v83_r1 true_98_r1
  let v158_r1 : BitVec 1 := Scalar.andi v156_r1 v157_r1
  let v159_r1 : BitVec 32 := Scalar.extui v158_r1
  let c0_i32_99_r1 : BitVec 32 := 0#32
  let v160_r1 : BitVec 1 := Scalar.cmpi .ne v159_r1 c0_i32_99_r1
  v160_r1

def k1_off40 (i : grid1.Coords) : Fin 2 → Nat :=
  let arg0 : BitVec 32 := BitVec.ofNat 32 (i 0).val
  let c80000_i32 : BitVec 32 := 80000#32
  let v3 : BitVec 32 := Scalar.muli arg0 c80000_i32
  let c0_i32_109_r1 : BitVec 32 := 0#32
  ![v3.toNat, 0]
def k1_off41 (i : grid1.Coords) (arg11_r1 : BitVec 32) : Fin 2 → Nat :=
  let c128_i32_r1 : BitVec 32 := 128#32
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_65_r1 : BitVec 32 := 1#32
  let v90_r1 : BitVec 32 := Scalar.subi v7 c1_i32_65_r1
  let v91_r1 : BitVec 32 := Scalar.select v89_r1 v90_r1 v88_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v92_r1 : BitVec 32 := Scalar.addi v91_r1 v12
  let v173_r1 : BitVec 32 := Scalar.muli c128_i32_r1 v92_r1
  let c0_i32_110_r1 : BitVec 32 := 0#32
  ![v173_r1.toNat, 0]
def k1_off42 (arg10_r1 : BitVec 32) : Fin 1 → Nat :=
  let c2_i32_106_r1 : BitVec 32 := 2#32
  let v172_r1 : BitVec 32 := Scalar.remui arg10_r1 c2_i32_106_r1
  ![v172_r1.toNat]

def k1_chk4 (i : grid1.Coords) (k1_t2 : Fin (k1_t2_loop i).trips) (arg7_r1 : BitVec 32) (arg8_r1 : BitVec 32) (arg9_r1 : BitVec 32) (arg10_r1 : BitVec 32) (arg11_r1 : BitVec 32) : Prop :=
  (∀ (k1_h2 : k1_cond2 i = 1#1), ∀ (k1_h11 : k1_cond11 i k1_t2 arg11_r1 = 1#1), ∀ a, (k1_off25 arg7_r1) a + S1x1x128.size a ≤ S2x1x128.size a) ∧
  (∀ (k1_h2 : k1_cond2 i = 1#1), ∀ (k1_h11 : k1_cond11 i k1_t2 arg11_r1 = 1#1), ∀ a, (k1_off27 i arg11_r1) a + S1x128.size a ≤ S1x320000.size a) ∧
  (∀ (k1_h2 : k1_cond2 i = 1#1), ∀ (k1_h11 : k1_cond11 i k1_t2 arg11_r1 = 1#1), ∀ a, (k1_off28 arg7_r1) a + S1.size a ≤ S2.size a) ∧
  (∀ (k1_h2 : k1_cond2 i = 1#1), ∀ (k1_h12 : k1_cond12 i k1_t2 arg11_r1 = 1#1), ∀ a, (k1_off29 arg8_r1) a + S1x1x128.size a ≤ S2x1x128.size a) ∧
  (∀ (k1_h2 : k1_cond2 i = 1#1), ∀ (k1_h12 : k1_cond12 i k1_t2 arg11_r1 = 1#1), ∀ a, (k1_off31 i arg11_r1) a + S1x128.size a ≤ S1x320000.size a) ∧
  (∀ (k1_h2 : k1_cond2 i = 1#1), ∀ (k1_h12 : k1_cond12 i k1_t2 arg11_r1 = 1#1), ∀ a, (k1_off32 arg8_r1) a + S1.size a ≤ S2.size a) ∧
  (∀ (k1_h2 : k1_cond2 i = 1#1), ∀ (k1_h15 : k1_cond15 i k1_t2 arg11_r1 = 1#1), ∀ a, (k1_off35 arg9_r1) a + S1x128x128.size a ≤ S2x128x128.size a) ∧
  (∀ (k1_h2 : k1_cond2 i = 1#1), ∀ (k1_h15 : k1_cond15 i k1_t2 arg11_r1 = 1#1), ∀ a, (k1_off37 i arg11_r1) a + S128x128.size a ≤ S80000x128.size a) ∧
  (∀ (k1_h2 : k1_cond2 i = 1#1), ∀ (k1_h15 : k1_cond15 i k1_t2 arg11_r1 = 1#1), ∀ a, (k1_off38 arg9_r1) a + S1.size a ≤ S2.size a) ∧
  (∀ (k1_h2 : k1_cond2 i = 1#1), ∀ (k1_h17 : k1_cond17 i k1_t2 arg11_r1 = 1#1), ∀ a, (k1_off39 arg10_r1) a + S1x128x128.size a ≤ S2x128x128.size a) ∧
  (∀ (k1_h2 : k1_cond2 i = 1#1), ∀ (k1_h17 : k1_cond17 i k1_t2 arg11_r1 = 1#1), ∀ a, (k1_off41 i arg11_r1) a + S128x128.size a ≤ S80000x128.size a) ∧
  (∀ (k1_h2 : k1_cond2 i = 1#1), ∀ (k1_h17 : k1_cond17 i k1_t2 arg11_r1 = 1#1), ∀ a, (k1_off42 arg10_r1) a + S1.size a ≤ S2.size a)
theorem k1_off25_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h11 : k1_cond11 i k1_t2 arg11_r1 = 1#1), ∀ a, (k1_off25 arg7_r1) a + S1x1x128.size a ≤ S2x1x128.size a := fun i k1_t2 arg7_r1 arg8_r1 arg9_r1 arg10_r1 arg11_r1 k1_hw4 k1_h2 k1_h11 => k1_hw4.1 k1_h2 k1_h11
theorem k1_off27_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h11 : k1_cond11 i k1_t2 arg11_r1 = 1#1), ∀ a, (k1_off27 i arg11_r1) a + S1x128.size a ≤ S1x320000.size a := fun i k1_t2 arg7_r1 arg8_r1 arg9_r1 arg10_r1 arg11_r1 k1_hw4 k1_h2 k1_h11 => k1_hw4.2.1 k1_h2 k1_h11
theorem k1_off28_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h11 : k1_cond11 i k1_t2 arg11_r1 = 1#1), ∀ a, (k1_off28 arg7_r1) a + S1.size a ≤ S2.size a := fun i k1_t2 arg7_r1 arg8_r1 arg9_r1 arg10_r1 arg11_r1 k1_hw4 k1_h2 k1_h11 => k1_hw4.2.2.1 k1_h2 k1_h11
theorem k1_off29_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h12 : k1_cond12 i k1_t2 arg11_r1 = 1#1), ∀ a, (k1_off29 arg8_r1) a + S1x1x128.size a ≤ S2x1x128.size a := fun i k1_t2 arg7_r1 arg8_r1 arg9_r1 arg10_r1 arg11_r1 k1_hw4 k1_h2 k1_h12 => k1_hw4.2.2.2.1 k1_h2 k1_h12
theorem k1_off31_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h12 : k1_cond12 i k1_t2 arg11_r1 = 1#1), ∀ a, (k1_off31 i arg11_r1) a + S1x128.size a ≤ S1x320000.size a := fun i k1_t2 arg7_r1 arg8_r1 arg9_r1 arg10_r1 arg11_r1 k1_hw4 k1_h2 k1_h12 => k1_hw4.2.2.2.2.1 k1_h2 k1_h12
theorem k1_off32_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h12 : k1_cond12 i k1_t2 arg11_r1 = 1#1), ∀ a, (k1_off32 arg8_r1) a + S1.size a ≤ S2.size a := fun i k1_t2 arg7_r1 arg8_r1 arg9_r1 arg10_r1 arg11_r1 k1_hw4 k1_h2 k1_h12 => k1_hw4.2.2.2.2.2.1 k1_h2 k1_h12
theorem k1_off35_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h15 : k1_cond15 i k1_t2 arg11_r1 = 1#1), ∀ a, (k1_off35 arg9_r1) a + S1x128x128.size a ≤ S2x128x128.size a := fun i k1_t2 arg7_r1 arg8_r1 arg9_r1 arg10_r1 arg11_r1 k1_hw4 k1_h2 k1_h15 => k1_hw4.2.2.2.2.2.2.1 k1_h2 k1_h15
theorem k1_off37_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h15 : k1_cond15 i k1_t2 arg11_r1 = 1#1), ∀ a, (k1_off37 i arg11_r1) a + S128x128.size a ≤ S80000x128.size a := fun i k1_t2 arg7_r1 arg8_r1 arg9_r1 arg10_r1 arg11_r1 k1_hw4 k1_h2 k1_h15 => k1_hw4.2.2.2.2.2.2.2.1 k1_h2 k1_h15
theorem k1_off38_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h15 : k1_cond15 i k1_t2 arg11_r1 = 1#1), ∀ a, (k1_off38 arg9_r1) a + S1.size a ≤ S2.size a := fun i k1_t2 arg7_r1 arg8_r1 arg9_r1 arg10_r1 arg11_r1 k1_hw4 k1_h2 k1_h15 => k1_hw4.2.2.2.2.2.2.2.2.1 k1_h2 k1_h15
theorem k1_off39_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h17 : k1_cond17 i k1_t2 arg11_r1 = 1#1), ∀ a, (k1_off39 arg10_r1) a + S1x128x128.size a ≤ S2x128x128.size a := fun i k1_t2 arg7_r1 arg8_r1 arg9_r1 arg10_r1 arg11_r1 k1_hw4 k1_h2 k1_h17 => k1_hw4.2.2.2.2.2.2.2.2.2.1 k1_h2 k1_h17
theorem k1_off41_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h17 : k1_cond17 i k1_t2 arg11_r1 = 1#1), ∀ a, (k1_off41 i arg11_r1) a + S128x128.size a ≤ S80000x128.size a := fun i k1_t2 arg7_r1 arg8_r1 arg9_r1 arg10_r1 arg11_r1 k1_hw4 k1_h2 k1_h17 => k1_hw4.2.2.2.2.2.2.2.2.2.2.1 k1_h2 k1_h17
theorem k1_off42_inb : ∀ (i : grid1.Coords) (k1_t2 : Fin (k1_t2_loop i).trips) (arg7_r1 : BitVec 32) (arg8_r1 : BitVec 32) (arg9_r1 : BitVec 32) (arg10_r1 : BitVec 32) (arg11_r1 : BitVec 32) (k1_hw4 : k1_chk4 i k1_t2 arg7_r1 arg8_r1 arg9_r1 arg10_r1 arg11_r1), ∀ (k1_h2 : k1_cond2 i = 1#1), ∀ (k1_h17 : k1_cond17 i k1_t2 arg11_r1 = 1#1), ∀ a, (k1_off42 arg10_r1) a + S1.size a ≤ S2.size a := fun i k1_t2 arg7_r1 arg8_r1 arg9_r1 arg10_r1 arg11_r1 k1_hw4 k1_h2 k1_h17 => k1_hw4.2.2.2.2.2.2.2.2.2.2.2 k1_h2 k1_h17

def k1_cond19 (i : grid1.Coords) : BitVec 1 :=
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let c1_i32_43_r1 : BitVec 32 := 1#32
  let v56_r1 : BitVec 32 := Scalar.subi v13 c1_i32_43_r1
  let c1_i32_44_r1 : BitVec 32 := 1#32
  let v57_r1 : BitVec 32 := Scalar.muli c1_i32_44_r1 v7
  let c1_i32_46_r1 : BitVec 32 := 1#32
  let v59_r1 : BitVec 32 := Scalar.subi v57_r1 c1_i32_46_r1
  let v60_r1 : BitVec 1 := Scalar.cmpi .eq v56_r1 v59_r1
  let v80_r1 : BitVec 32 := Scalar.extui v60_r1
  let c0_i32_58_r1 : BitVec 32 := 0#32
  let v81_r1 : BitVec 1 := Scalar.cmpi .ne v80_r1 c0_i32_58_r1
  v81_r1

def k1_off43 (v50_3_r1 : BitVec 32) : Fin 3 → Nat :=
  let c2_i32_r1 : BitVec 32 := 2#32
  let v82_r1 : BitVec 32 := Scalar.remui v50_3_r1 c2_i32_r1
  let c0_i32_59_r1 : BitVec 32 := 0#32
  let c0_i32_60_r1 : BitVec 32 := 0#32
  ![v82_r1.toNat, 0, 0]

def k1_off44 (i : grid1.Coords) : Fin 2 → Nat :=
  let arg0 : BitVec 32 := BitVec.ofNat 32 (i 0).val
  let c80000_i32 : BitVec 32 := 80000#32
  let v3 : BitVec 32 := Scalar.muli arg0 c80000_i32
  let c0_i32_61_r1 : BitVec 32 := 0#32
  ![v3.toNat, 0]
def k1_off45 (i : grid1.Coords) (v50_4_r1 : BitVec 32) : Fin 2 → Nat :=
  let c128_i32_r1 : BitVec 32 := 128#32
  let true_40_r1 : BitVec 1 := 1#1
  let c1_i32_39_r1 : BitVec 32 := 1#32
  let v51_r1 : BitVec 32 := Scalar.subi v50_4_r1 c1_i32_39_r1
  let v52_r1 : BitVec 32 := Scalar.select true_40_r1 v51_r1 v50_4_r1
  let c_m1_i32_41_r1 : BitVec 32 := 4294967295#32
  let v53_r1 : BitVec 1 := Scalar.cmpi .eq v52_r1 c_m1_i32_41_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_42_r1 : BitVec 32 := 1#32
  let v54_r1 : BitVec 32 := Scalar.subi v7 c1_i32_42_r1
  let v55_r1 : BitVec 32 := Scalar.select v53_r1 v54_r1 v52_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v61_r1 : BitVec 32 := Scalar.addi v55_r1 v12
  let v83_r1 : BitVec 32 := Scalar.muli c128_i32_r1 v61_r1
  let c0_i32_62_r1 : BitVec 32 := 0#32
  ![v83_r1.toNat, 0]

def k1_chk8 (i : grid1.Coords) (v50_4_r1 : BitVec 32) : Prop :=
  (∀ (k1_h2 : k1_cond2 i = 1#1), ∀ (k1_h19 : k1_cond19 i = 1#1), ∀ a, (k1_off45 i v50_4_r1) a + S128x128.size a ≤ S80000x128.size a)
theorem k1_off45_inb : ∀ (i : grid1.Coords) (v50_4_r1 : BitVec 32) (k1_hw8 : k1_chk8 i v50_4_r1), ∀ (k1_h2 : k1_cond2 i = 1#1), ∀ (k1_h19 : k1_cond19 i = 1#1), ∀ a, (k1_off45 i v50_4_r1) a + S128x128.size a ≤ S80000x128.size a := fun i v50_4_r1 k1_hw8 k1_h2 k1_h19 => k1_hw8 k1_h2 k1_h19

def k1_off46 (v50_3_r1 : BitVec 32) : Fin 1 → Nat :=
  let c2_i32_r1 : BitVec 32 := 2#32
  let v82_r1 : BitVec 32 := Scalar.remui v50_3_r1 c2_i32_r1
  ![v82_r1.toNat]
def k1_off47 (i : grid1.Coords) : Fin 2 → Nat :=
  let arg0 : BitVec 32 := BitVec.ofNat 32 (i 0).val
  let c80000_i32 : BitVec 32 := 80000#32
  let v3 : BitVec 32 := Scalar.muli arg0 c80000_i32
  let c0_i32_63_r1 : BitVec 32 := 0#32
  ![v3.toNat, 0]
def k1_off48 (v50_3_r1 : BitVec 32) : Fin 3 → Nat :=
  let c2_i32_r1 : BitVec 32 := 2#32
  let v82_r1 : BitVec 32 := Scalar.remui v50_3_r1 c2_i32_r1
  let c0_i32_65_r1 : BitVec 32 := 0#32
  let c0_i32_66_r1 : BitVec 32 := 0#32
  ![v82_r1.toNat, 0, 0]

def k1_chk7 (i : grid1.Coords) (v50_3_r1 : BitVec 32) : Prop :=
  (∀ (k1_h2 : k1_cond2 i = 1#1), ∀ (k1_h19 : k1_cond19 i = 1#1), ∀ a, (k1_off43 v50_3_r1) a + S1x128x128.size a ≤ S2x128x128.size a) ∧
  (∀ (k1_h2 : k1_cond2 i = 1#1), ∀ (k1_h19 : k1_cond19 i = 1#1), ∀ a, (k1_off46 v50_3_r1) a + S1.size a ≤ S2.size a) ∧
  (∀ (k1_h2 : k1_cond2 i = 1#1), ∀ (k1_h19 : k1_cond19 i = 1#1), ∀ a, (k1_off48 v50_3_r1) a + S1x128x128.size a ≤ S2x128x128.size a)
theorem k1_off43_inb : ∀ (i : grid1.Coords) (v50_3_r1 : BitVec 32) (k1_hw7 : k1_chk7 i v50_3_r1), ∀ (k1_h2 : k1_cond2 i = 1#1), ∀ (k1_h19 : k1_cond19 i = 1#1), ∀ a, (k1_off43 v50_3_r1) a + S1x128x128.size a ≤ S2x128x128.size a := fun i v50_3_r1 k1_hw7 k1_h2 k1_h19 => k1_hw7.1 k1_h2 k1_h19
theorem k1_off46_inb : ∀ (i : grid1.Coords) (v50_3_r1 : BitVec 32) (k1_hw7 : k1_chk7 i v50_3_r1), ∀ (k1_h2 : k1_cond2 i = 1#1), ∀ (k1_h19 : k1_cond19 i = 1#1), ∀ a, (k1_off46 v50_3_r1) a + S1.size a ≤ S2.size a := fun i v50_3_r1 k1_hw7 k1_h2 k1_h19 => k1_hw7.2.1 k1_h2 k1_h19
theorem k1_off48_inb : ∀ (i : grid1.Coords) (v50_3_r1 : BitVec 32) (k1_hw7 : k1_chk7 i v50_3_r1), ∀ (k1_h2 : k1_cond2 i = 1#1), ∀ (k1_h19 : k1_cond19 i = 1#1), ∀ a, (k1_off48 v50_3_r1) a + S1x128x128.size a ≤ S2x128x128.size a := fun i v50_3_r1 k1_hw7 k1_h2 k1_h19 => k1_hw7.2.2 k1_h2 k1_h19

abbrev grid2 : Pipeline.Grid := ⟨2, ![2, 16], ![false, false]⟩

def k2_cond1 (i : grid2.Coords) : BitVec 1 :=
  let arg1 : BitVec 32 := BitVec.ofNat 32 (i 1).val
  let c10_i32 : BitVec 32 := 10#32
  let v0 : BitVec 1 := Scalar.cmpi .slt arg1 c10_i32
  let v1 : BitVec 32 := Scalar.extui v0
  let c0_i32 : BitVec 32 := 0#32
  let v2 : BitVec 1 := Scalar.cmpi .ne v1 c0_i32
  v2

def k2_off1 (i : grid2.Coords) : Fin 2 → Nat :=
  let arg1 : BitVec 32 := BitVec.ofNat 32 (i 1).val
  let c1000_i32_6 : BitVec 32 := 1000#32
  let v17 : BitVec 32 := Scalar.muli arg1 c1000_i32_6
  let c0_i32_7_r0 : BitVec 32 := 0#32
  ![v17.toNat, 0]
def k2_off2 (i : grid2.Coords) : Fin 2 → Nat :=
  let arg0 : BitVec 32 := BitVec.ofNat 32 (i 0).val
  let c10000_i32 : BitVec 32 := 10000#32
  let v14 : BitVec 32 := Scalar.muli arg0 c10000_i32
  let arg1 : BitVec 32 := BitVec.ofNat 32 (i 1).val
  let c1000_i32 : BitVec 32 := 1000#32
  let v15 : BitVec 32 := Scalar.muli arg1 c1000_i32
  let v16 : BitVec 32 := Scalar.addi v14 v15
  let c0_i32_8_r0 : BitVec 32 := 0#32
  ![v16.toNat, 0]
def k2_cond2 (i : grid2.Coords) : BitVec 1 :=
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let c0_i32_7_r1 : BitVec 32 := 0#32
  let v16_r1 : BitVec 1 := Scalar.cmpi .sgt v13 c0_i32_7_r1
  let v17_r1 : BitVec 32 := Scalar.extui v16_r1
  let c0_i32_8_r1 : BitVec 32 := 0#32
  let v18_r1 : BitVec 1 := Scalar.cmpi .ne v17_r1 c0_i32_8_r1
  v18_r1

def k2_cond3 (i : grid2.Coords) : BitVec 1 :=
  let true_24_r1 : BitVec 1 := 1#1
  let c1_i32_9_r1 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v19_r1 : BitVec 32 := Scalar.muli c1_i32_9_r1 v7
  let c0_i32_23_r1 : BitVec 32 := 0#32
  let v37_r1 : BitVec 1 := Scalar.cmpi .sgt v19_r1 c0_i32_23_r1
  let v38_r1 : BitVec 1 := Scalar.andi true_24_r1 v37_r1
  let true_25_r1 : BitVec 1 := 1#1
  let v39_r1 : BitVec 1 := Scalar.andi v38_r1 true_25_r1
  let v40_r1 : BitVec 32 := Scalar.extui v39_r1
  let c0_i32_27_r1 : BitVec 32 := 0#32
  let v41_r1 : BitVec 1 := Scalar.cmpi .ne v40_r1 c0_i32_27_r1
  v41_r1

def k2_off3 : Fin 3 → Nat :=
  let c0_i32_26_r1 : BitVec 32 := 0#32
  let c2_i32_r1 : BitVec 32 := 2#32
  let v82_r1 : BitVec 32 := Scalar.remui c0_i32_26_r1 c2_i32_r1
  let c0_i32_59_r1 : BitVec 32 := 0#32
  let c0_i32_60_r1 : BitVec 32 := 0#32
  ![v82_r1.toNat, 0, 0]
def k2_off4 (i : grid2.Coords) : Fin 3 → Nat :=
  let arg0 : BitVec 32 := BitVec.ofNat 32 (i 0).val
  let c0_i32_61_r1 : BitVec 32 := 0#32
  let c0_i32_62_r1 : BitVec 32 := 0#32
  ![arg0.toNat, 0, 0]
def k2_off5 (i : grid2.Coords) : Fin 2 → Nat :=
  let c0_i32_63_r1 : BitVec 32 := 0#32
  let c128_i32_r1 : BitVec 32 := 128#32
  let c0_i32_12_r1 : BitVec 32 := 0#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v22_r1 : BitVec 32 := Scalar.addi c0_i32_12_r1 v12
  let c625_i32_r1 : BitVec 32 := 625#32
  let v83_r1 : BitVec 32 := Scalar.addi v22_r1 c625_i32_r1
  let v84_r1 : BitVec 32 := Scalar.muli c128_i32_r1 v83_r1
  ![0, v84_r1.toNat]
def k2_off6 : Fin 1 → Nat :=
  let c0_i32_26_r1 : BitVec 32 := 0#32
  let c2_i32_r1 : BitVec 32 := 2#32
  let v82_r1 : BitVec 32 := Scalar.remui c0_i32_26_r1 c2_i32_r1
  ![v82_r1.toNat]
@[reducible] def k2_t1_loop (i : grid2.Coords) : Scf.Loop 32 :=
  let c0_i32_31_r1 : BitVec 32 := 0#32
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_37_r1 : BitVec 32 := 1#32
  ⟨c0_i32_31_r1, v48_r1, c1_i32_37_r1⟩
def k2_off7 (arg7_r1 : BitVec 32) : Fin 3 → Nat :=
  let c2_i32_105_r1 : BitVec 32 := 2#32
  let v172_r1 : BitVec 32 := Scalar.remui arg7_r1 c2_i32_105_r1
  let c0_i32_107_r1 : BitVec 32 := 0#32
  let c0_i32_108_r1 : BitVec 32 := 0#32
  ![v172_r1.toNat, 0, 0]
def k2_cond4 (i : grid2.Coords) (k2_t1 : Fin (k2_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c625_i32_r1 : BitVec 32 := 625#32
  let v103_r1 : BitVec 32 := Scalar.addi v86_r1 c625_i32_r1
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let c625_i32_72_r1 : BitVec 32 := 625#32
  let v104_r1 : BitVec 32 := Scalar.addi v97_r1 c625_i32_72_r1
  let v105_r1 : BitVec 1 := Scalar.cmpi .ne v103_r1 v104_r1
  let c0_i32_31_r1 : BitVec 32 := 0#32
  let c1_i32_37_r1 : BitVec 32 := 1#32
  let arg6_r1 : BitVec 32 := Scf.iv c0_i32_31_r1 c1_i32_37_r1 k2_t1
  let c1_i32_59_r1 : BitVec 32 := 1#32
  let v82_r1 : BitVec 32 := Scalar.muli c1_i32_59_r1 v7
  let c2_i32_r1 : BitVec 32 := 2#32
  let v106_r1 : BitVec 32 := Scalar.subi v82_r1 c2_i32_r1
  let c1_i32_73_r1 : BitVec 32 := 1#32
  let v107_r1 : BitVec 32 := Scalar.addi v106_r1 c1_i32_73_r1
  let v108_r1 : BitVec 1 := Scalar.cmpi .sge arg6_r1 v107_r1
  let true_74_r1 : BitVec 1 := 1#1
  let v109_r1 : BitVec 1 := Scalar.xori v108_r1 true_74_r1
  let v110_r1 : BitVec 1 := Scalar.andi v105_r1 v109_r1
  let true_75_r1 : BitVec 1 := 1#1
  let v111_r1 : BitVec 1 := Scalar.andi v110_r1 true_75_r1
  let v112_r1 : BitVec 32 := Scalar.extui v111_r1
  let c0_i32_76_r1 : BitVec 32 := 0#32
  let v113_r1 : BitVec 1 := Scalar.cmpi .ne v112_r1 c0_i32_76_r1
  v113_r1

def k2_off8 (i : grid2.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k2_off9 (i : grid2.Coords) (arg11_r1 : BitVec 32) : Fin 2 → Nat :=
  let c0_i32_111_r1 : BitVec 32 := 0#32
  let c128_i32_r1 : BitVec 32 := 128#32
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v95_r1 : BitVec 1 := Scalar.cmpi .eq v94_r1 v7
  let c0_i32_68_r1 : BitVec 32 := 0#32
  let v96_r1 : BitVec 32 := Scalar.select v95_r1 c0_i32_68_r1 v94_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v97_r1 : BitVec 32 := Scalar.addi v96_r1 v12
  let c625_i32_106_r1 : BitVec 32 := 625#32
  let v173_r1 : BitVec 32 := Scalar.addi v97_r1 c625_i32_106_r1
  let v174_r1 : BitVec 32 := Scalar.muli c128_i32_r1 v173_r1
  ![0, v174_r1.toNat]
def k2_off10 (arg7_r1 : BitVec 32) : Fin 1 → Nat :=
  let c2_i32_105_r1 : BitVec 32 := 2#32
  let v172_r1 : BitVec 32 := Scalar.remui arg7_r1 c2_i32_105_r1
  ![v172_r1.toNat]
def k2_off11 (arg8_r1 : BitVec 32) : Fin 3 → Nat :=
  let c2_i32_106_r1 : BitVec 32 := 2#32
  let v174_r1 : BitVec 32 := Scalar.remui arg8_r1 c2_i32_106_r1
  let c0_i32_107_r1 : BitVec 32 := 0#32
  let c0_i32_108_r1 : BitVec 32 := 0#32
  ![v174_r1.toNat, 0, 0]
def k2_cond5 (i : grid2.Coords) (k2_t1 : Fin (k2_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c625_i32_r1 : BitVec 32 := 625#32
  let v103_r1 : BitVec 32 := Scalar.addi v86_r1 c625_i32_r1
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let c625_i32_82_r1 : BitVec 32 := 625#32
  let v123_r1 : BitVec 32 := Scalar.addi v92_r1 c625_i32_82_r1
  let v124_r1 : BitVec 1 := Scalar.cmpi .ne v103_r1 v123_r1
  let c0_i32_31_r1 : BitVec 32 := 0#32
  let c1_i32_37_r1 : BitVec 32 := 1#32
  let arg6_r1 : BitVec 32 := Scf.iv c0_i32_31_r1 c1_i32_37_r1 k2_t1
  let c0_i32_60_r1 : BitVec 32 := 0#32
  let v83_r1 : BitVec 1 := Scalar.cmpi .eq arg6_r1 c0_i32_60_r1
  let v125_r1 : BitVec 1 := Scalar.ori v124_r1 v83_r1
  let c0_i32_83_r1 : BitVec 32 := 0#32
  let v126_r1 : BitVec 1 := Scalar.cmpi .sge arg6_r1 c0_i32_83_r1
  let v127_r1 : BitVec 1 := Scalar.andi v125_r1 v126_r1
  let v128_r1 : BitVec 32 := Scalar.extui v127_r1
  let c0_i32_84_r1 : BitVec 32 := 0#32
  let v129_r1 : BitVec 1 := Scalar.cmpi .ne v128_r1 c0_i32_84_r1
  v129_r1

def k2_off12 (i : grid2.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k2_off13 (i : grid2.Coords) (arg11_r1 : BitVec 32) : Fin 2 → Nat :=
  let c0_i32_111_r1 : BitVec 32 := 0#32
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c625_i32_105_r1 : BitVec 32 := 625#32
  let v172_r1 : BitVec 32 := Scalar.addi v86_r1 c625_i32_105_r1
  let v173_r1 : BitVec 32 := Scalar.muli c128_i32_r1 v172_r1
  ![0, v173_r1.toNat]
def k2_off14 (arg8_r1 : BitVec 32) : Fin 1 → Nat :=
  let c2_i32_106_r1 : BitVec 32 := 2#32
  let v174_r1 : BitVec 32 := Scalar.remui arg8_r1 c2_i32_106_r1
  ![v174_r1.toNat]
def k2_off15 (arg9_r1 : BitVec 32) : Fin 3 → Nat :=
  let c2_i32_88_r1 : BitVec 32 := 2#32
  let v137_r1 : BitVec 32 := Scalar.remui arg9_r1 c2_i32_88_r1
  let c0_i32_105_r2 : BitVec 32 := 0#32
  let c0_i32_106_r2 : BitVec 32 := 0#32
  ![v137_r1.toNat, 0, 0]

def k2_chk2 (i : grid2.Coords) (arg9_r1 : BitVec 32) : Prop :=
  (∀ (k2_h2 : k2_cond2 i = 1#1), ∀ a, (k2_off15 arg9_r1) a + S1x128x128.size a ≤ S2x128x128.size a)
theorem k2_off15_inb : ∀ (i : grid2.Coords) (arg9_r1 : BitVec 32) (k2_hw2 : k2_chk2 i arg9_r1), ∀ (k2_h2 : k2_cond2 i = 1#1), ∀ a, (k2_off15 arg9_r1) a + S1x128x128.size a ≤ S2x128x128.size a := fun i arg9_r1 k2_hw2 k2_h2 => k2_hw2 k2_h2

def k2_off16 (arg8_r1 : BitVec 32) : Fin 3 → Nat :=
  let c2_i32_87_r1 : BitVec 32 := 2#32
  let v136_r1 : BitVec 32 := Scalar.remui arg8_r1 c2_i32_87_r1
  let c0_i32_107_r2 : BitVec 32 := 0#32
  let c0_i32_108_r2 : BitVec 32 := 0#32
  ![v136_r1.toNat, 0, 0]

def k2_chk3 (i : grid2.Coords) (arg8_r1 : BitVec 32) : Prop :=
  (∀ (k2_h2 : k2_cond2 i = 1#1), ∀ a, (k2_off16 arg8_r1) a + S1x1x128.size a ≤ S2x1x128.size a)
theorem k2_off16_inb : ∀ (i : grid2.Coords) (arg8_r1 : BitVec 32) (k2_hw3 : k2_chk3 i arg8_r1), ∀ (k2_h2 : k2_cond2 i = 1#1), ∀ a, (k2_off16 arg8_r1) a + S1x1x128.size a ≤ S2x1x128.size a := fun i arg8_r1 k2_hw3 k2_h2 => k2_hw3 k2_h2

def k2_off17 (arg9_r1 : BitVec 32) : Fin 3 → Nat :=
  let c2_i32_105_r1 : BitVec 32 := 2#32
  let v172_r1 : BitVec 32 := Scalar.remui arg9_r1 c2_i32_105_r1
  let c0_i32_106_r1 : BitVec 32 := 0#32
  let c0_i32_107_r1 : BitVec 32 := 0#32
  ![v172_r1.toNat, 0, 0]
def k2_cond8 (i : grid2.Coords) (k2_t1 : Fin (k2_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let v143_r1 : BitVec 1 := Scalar.cmpi .ne v86_r1 v97_r1
  let c0_i32_31_r1 : BitVec 32 := 0#32
  let c1_i32_37_r1 : BitVec 32 := 1#32
  let arg6_r1 : BitVec 32 := Scf.iv c0_i32_31_r1 c1_i32_37_r1 k2_t1
  let c1_i32_59_r1 : BitVec 32 := 1#32
  let v82_r1 : BitVec 32 := Scalar.muli c1_i32_59_r1 v7
  let c1_i32_61_r1 : BitVec 32 := 1#32
  let v84_r1 : BitVec 32 := Scalar.subi v82_r1 c1_i32_61_r1
  let v85_r1 : BitVec 1 := Scalar.cmpi .eq arg6_r1 v84_r1
  let v144_r1 : BitVec 1 := Scalar.ori v143_r1 v85_r1
  let v145_r1 : BitVec 32 := Scalar.extui v144_r1
  let c0_i32_91_r1 : BitVec 32 := 0#32
  let v146_r1 : BitVec 1 := Scalar.cmpi .ne v145_r1 c0_i32_91_r1
  v146_r1

def k2_off18 (i : grid2.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k2_off19 (i : grid2.Coords) (arg11_r1 : BitVec 32) : Fin 2 → Nat :=
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let v173_r1 : BitVec 32 := Scalar.muli c128_i32_r1 v86_r1
  let c0_i32_109_r1 : BitVec 32 := 0#32
  ![v173_r1.toNat, 0]
def k2_off20 (arg9_r1 : BitVec 32) : Fin 1 → Nat :=
  let c2_i32_105_r1 : BitVec 32 := 2#32
  let v172_r1 : BitVec 32 := Scalar.remui arg9_r1 c2_i32_105_r1
  ![v172_r1.toNat]
def k2_off21 (arg10_r1 : BitVec 32) : Fin 3 → Nat :=
  let c2_i32_105_r1 : BitVec 32 := 2#32
  let v172_r1 : BitVec 32 := Scalar.remui arg10_r1 c2_i32_105_r1
  let c0_i32_106_r1 : BitVec 32 := 0#32
  let c0_i32_107_r1 : BitVec 32 := 0#32
  ![v172_r1.toNat, 0, 0]
def k2_cond10 (i : grid2.Coords) (k2_t1 : Fin (k2_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let v156_r1 : BitVec 1 := Scalar.cmpi .ne v86_r1 v92_r1
  let c0_i32_31_r1 : BitVec 32 := 0#32
  let c1_i32_37_r1 : BitVec 32 := 1#32
  let arg6_r1 : BitVec 32 := Scf.iv c0_i32_31_r1 c1_i32_37_r1 k2_t1
  let c0_i32_60_r1 : BitVec 32 := 0#32
  let v83_r1 : BitVec 1 := Scalar.cmpi .eq arg6_r1 c0_i32_60_r1
  let true_97_r1 : BitVec 1 := 1#1
  let v157_r1 : BitVec 1 := Scalar.xori v83_r1 true_97_r1
  let v158_r1 : BitVec 1 := Scalar.andi v156_r1 v157_r1
  let v159_r1 : BitVec 32 := Scalar.extui v158_r1
  let c0_i32_98_r1 : BitVec 32 := 0#32
  let v160_r1 : BitVec 1 := Scalar.cmpi .ne v159_r1 c0_i32_98_r1
  v160_r1

def k2_off22 (i : grid2.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k2_off23 (i : grid2.Coords) (arg11_r1 : BitVec 32) : Fin 2 → Nat :=
  let c128_i32_r1 : BitVec 32 := 128#32
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_65_r1 : BitVec 32 := 1#32
  let v90_r1 : BitVec 32 := Scalar.subi v7 c1_i32_65_r1
  let v91_r1 : BitVec 32 := Scalar.select v89_r1 v90_r1 v88_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v92_r1 : BitVec 32 := Scalar.addi v91_r1 v12
  let v173_r1 : BitVec 32 := Scalar.muli c128_i32_r1 v92_r1
  let c0_i32_109_r1 : BitVec 32 := 0#32
  ![v173_r1.toNat, 0]
def k2_off24 (arg10_r1 : BitVec 32) : Fin 1 → Nat :=
  let c2_i32_105_r1 : BitVec 32 := 2#32
  let v172_r1 : BitVec 32 := Scalar.remui arg10_r1 c2_i32_105_r1
  ![v172_r1.toNat]

def k2_chk1 (i : grid2.Coords) (k2_t1 : Fin (k2_t1_loop i).trips) (arg7_r1 : BitVec 32) (arg8_r1 : BitVec 32) (arg9_r1 : BitVec 32) (arg10_r1 : BitVec 32) (arg11_r1 : BitVec 32) : Prop :=
  (∀ (k2_h2 : k2_cond2 i = 1#1), ∀ (k2_h4 : k2_cond4 i k2_t1 arg11_r1 = 1#1), ∀ a, (k2_off7 arg7_r1) a + S1x1x128.size a ≤ S2x1x128.size a) ∧
  (∀ (k2_h2 : k2_cond2 i = 1#1), ∀ (k2_h4 : k2_cond4 i k2_t1 arg11_r1 = 1#1), ∀ a, (k2_off9 i arg11_r1) a + S1x128.size a ≤ S1x320000.size a) ∧
  (∀ (k2_h2 : k2_cond2 i = 1#1), ∀ (k2_h4 : k2_cond4 i k2_t1 arg11_r1 = 1#1), ∀ a, (k2_off10 arg7_r1) a + S1.size a ≤ S2.size a) ∧
  (∀ (k2_h2 : k2_cond2 i = 1#1), ∀ (k2_h5 : k2_cond5 i k2_t1 arg11_r1 = 1#1), ∀ a, (k2_off11 arg8_r1) a + S1x1x128.size a ≤ S2x1x128.size a) ∧
  (∀ (k2_h2 : k2_cond2 i = 1#1), ∀ (k2_h5 : k2_cond5 i k2_t1 arg11_r1 = 1#1), ∀ a, (k2_off13 i arg11_r1) a + S1x128.size a ≤ S1x320000.size a) ∧
  (∀ (k2_h2 : k2_cond2 i = 1#1), ∀ (k2_h5 : k2_cond5 i k2_t1 arg11_r1 = 1#1), ∀ a, (k2_off14 arg8_r1) a + S1.size a ≤ S2.size a) ∧
  (∀ (k2_h2 : k2_cond2 i = 1#1), ∀ (k2_h8 : k2_cond8 i k2_t1 arg11_r1 = 1#1), ∀ a, (k2_off17 arg9_r1) a + S1x128x128.size a ≤ S2x128x128.size a) ∧
  (∀ (k2_h2 : k2_cond2 i = 1#1), ∀ (k2_h8 : k2_cond8 i k2_t1 arg11_r1 = 1#1), ∀ a, (k2_off19 i arg11_r1) a + S128x128.size a ≤ S80000x128.size a) ∧
  (∀ (k2_h2 : k2_cond2 i = 1#1), ∀ (k2_h8 : k2_cond8 i k2_t1 arg11_r1 = 1#1), ∀ a, (k2_off20 arg9_r1) a + S1.size a ≤ S2.size a) ∧
  (∀ (k2_h2 : k2_cond2 i = 1#1), ∀ (k2_h10 : k2_cond10 i k2_t1 arg11_r1 = 1#1), ∀ a, (k2_off21 arg10_r1) a + S1x128x128.size a ≤ S2x128x128.size a) ∧
  (∀ (k2_h2 : k2_cond2 i = 1#1), ∀ (k2_h10 : k2_cond10 i k2_t1 arg11_r1 = 1#1), ∀ a, (k2_off23 i arg11_r1) a + S128x128.size a ≤ S80000x128.size a) ∧
  (∀ (k2_h2 : k2_cond2 i = 1#1), ∀ (k2_h10 : k2_cond10 i k2_t1 arg11_r1 = 1#1), ∀ a, (k2_off24 arg10_r1) a + S1.size a ≤ S2.size a)
theorem k2_off7_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h4 : k2_cond4 i k2_t1 arg11_r1 = 1#1), ∀ a, (k2_off7 arg7_r1) a + S1x1x128.size a ≤ S2x1x128.size a := fun i k2_t1 arg7_r1 arg8_r1 arg9_r1 arg10_r1 arg11_r1 k2_hw1 k2_h2 k2_h4 => k2_hw1.1 k2_h2 k2_h4
theorem k2_off9_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h4 : k2_cond4 i k2_t1 arg11_r1 = 1#1), ∀ a, (k2_off9 i arg11_r1) a + S1x128.size a ≤ S1x320000.size a := fun i k2_t1 arg7_r1 arg8_r1 arg9_r1 arg10_r1 arg11_r1 k2_hw1 k2_h2 k2_h4 => k2_hw1.2.1 k2_h2 k2_h4
theorem k2_off10_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h4 : k2_cond4 i k2_t1 arg11_r1 = 1#1), ∀ a, (k2_off10 arg7_r1) a + S1.size a ≤ S2.size a := fun i k2_t1 arg7_r1 arg8_r1 arg9_r1 arg10_r1 arg11_r1 k2_hw1 k2_h2 k2_h4 => k2_hw1.2.2.1 k2_h2 k2_h4
theorem k2_off11_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h5 : k2_cond5 i k2_t1 arg11_r1 = 1#1), ∀ a, (k2_off11 arg8_r1) a + S1x1x128.size a ≤ S2x1x128.size a := fun i k2_t1 arg7_r1 arg8_r1 arg9_r1 arg10_r1 arg11_r1 k2_hw1 k2_h2 k2_h5 => k2_hw1.2.2.2.1 k2_h2 k2_h5
theorem k2_off13_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h5 : k2_cond5 i k2_t1 arg11_r1 = 1#1), ∀ a, (k2_off13 i arg11_r1) a + S1x128.size a ≤ S1x320000.size a := fun i k2_t1 arg7_r1 arg8_r1 arg9_r1 arg10_r1 arg11_r1 k2_hw1 k2_h2 k2_h5 => k2_hw1.2.2.2.2.1 k2_h2 k2_h5
theorem k2_off14_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h5 : k2_cond5 i k2_t1 arg11_r1 = 1#1), ∀ a, (k2_off14 arg8_r1) a + S1.size a ≤ S2.size a := fun i k2_t1 arg7_r1 arg8_r1 arg9_r1 arg10_r1 arg11_r1 k2_hw1 k2_h2 k2_h5 => k2_hw1.2.2.2.2.2.1 k2_h2 k2_h5
theorem k2_off17_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h8 : k2_cond8 i k2_t1 arg11_r1 = 1#1), ∀ a, (k2_off17 arg9_r1) a + S1x128x128.size a ≤ S2x128x128.size a := fun i k2_t1 arg7_r1 arg8_r1 arg9_r1 arg10_r1 arg11_r1 k2_hw1 k2_h2 k2_h8 => k2_hw1.2.2.2.2.2.2.1 k2_h2 k2_h8
theorem k2_off19_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h8 : k2_cond8 i k2_t1 arg11_r1 = 1#1), ∀ a, (k2_off19 i arg11_r1) a + S128x128.size a ≤ S80000x128.size a := fun i k2_t1 arg7_r1 arg8_r1 arg9_r1 arg10_r1 arg11_r1 k2_hw1 k2_h2 k2_h8 => k2_hw1.2.2.2.2.2.2.2.1 k2_h2 k2_h8
theorem k2_off20_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h8 : k2_cond8 i k2_t1 arg11_r1 = 1#1), ∀ a, (k2_off20 arg9_r1) a + S1.size a ≤ S2.size a := fun i k2_t1 arg7_r1 arg8_r1 arg9_r1 arg10_r1 arg11_r1 k2_hw1 k2_h2 k2_h8 => k2_hw1.2.2.2.2.2.2.2.2.1 k2_h2 k2_h8
theorem k2_off21_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h10 : k2_cond10 i k2_t1 arg11_r1 = 1#1), ∀ a, (k2_off21 arg10_r1) a + S1x128x128.size a ≤ S2x128x128.size a := fun i k2_t1 arg7_r1 arg8_r1 arg9_r1 arg10_r1 arg11_r1 k2_hw1 k2_h2 k2_h10 => k2_hw1.2.2.2.2.2.2.2.2.2.1 k2_h2 k2_h10
theorem k2_off23_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h10 : k2_cond10 i k2_t1 arg11_r1 = 1#1), ∀ a, (k2_off23 i arg11_r1) a + S128x128.size a ≤ S80000x128.size a := fun i k2_t1 arg7_r1 arg8_r1 arg9_r1 arg10_r1 arg11_r1 k2_hw1 k2_h2 k2_h10 => k2_hw1.2.2.2.2.2.2.2.2.2.2.1 k2_h2 k2_h10
theorem k2_off24_inb : ∀ (i : grid2.Coords) (k2_t1 : Fin (k2_t1_loop i).trips) (arg7_r1 : BitVec 32) (arg8_r1 : BitVec 32) (arg9_r1 : BitVec 32) (arg10_r1 : BitVec 32) (arg11_r1 : BitVec 32) (k2_hw1 : k2_chk1 i k2_t1 arg7_r1 arg8_r1 arg9_r1 arg10_r1 arg11_r1), ∀ (k2_h2 : k2_cond2 i = 1#1), ∀ (k2_h10 : k2_cond10 i k2_t1 arg11_r1 = 1#1), ∀ a, (k2_off24 arg10_r1) a + S1.size a ≤ S2.size a := fun i k2_t1 arg7_r1 arg8_r1 arg9_r1 arg10_r1 arg11_r1 k2_hw1 k2_h2 k2_h10 => k2_hw1.2.2.2.2.2.2.2.2.2.2.2 k2_h2 k2_h10

@[reducible] def k2_t2_loop (i : grid2.Coords) : Scf.Loop 32 :=
  let c0_i32_31_r1 : BitVec 32 := 0#32
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let v45_r1 : BitVec 32 := Scalar.addi c0_i32_31_r1 v44_r1
  let c1_i32_38_r1 : BitVec 32 := 1#32
  ⟨v48_r1, v45_r1, c1_i32_38_r1⟩
def k2_off25 (arg7_r1 : BitVec 32) : Fin 3 → Nat :=
  let c2_i32_105_r1 : BitVec 32 := 2#32
  let v172_r1 : BitVec 32 := Scalar.remui arg7_r1 c2_i32_105_r1
  let c0_i32_107_r1 : BitVec 32 := 0#32
  let c0_i32_108_r1 : BitVec 32 := 0#32
  ![v172_r1.toNat, 0, 0]
def k2_cond11 (i : grid2.Coords) (k2_t2 : Fin (k2_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c625_i32_r1 : BitVec 32 := 625#32
  let v103_r1 : BitVec 32 := Scalar.addi v86_r1 c625_i32_r1
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let c625_i32_72_r1 : BitVec 32 := 625#32
  let v104_r1 : BitVec 32 := Scalar.addi v97_r1 c625_i32_72_r1
  let v105_r1 : BitVec 1 := Scalar.cmpi .ne v103_r1 v104_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k2_t2
  let c1_i32_59_r1 : BitVec 32 := 1#32
  let v82_r1 : BitVec 32 := Scalar.muli c1_i32_59_r1 v7
  let c2_i32_r1 : BitVec 32 := 2#32
  let v106_r1 : BitVec 32 := Scalar.subi v82_r1 c2_i32_r1
  let c1_i32_73_r1 : BitVec 32 := 1#32
  let v107_r1 : BitVec 32 := Scalar.addi v106_r1 c1_i32_73_r1
  let v108_r1 : BitVec 1 := Scalar.cmpi .sge arg6_r1 v107_r1
  let true_74_r1 : BitVec 1 := 1#1
  let v109_r1 : BitVec 1 := Scalar.xori v108_r1 true_74_r1
  let v110_r1 : BitVec 1 := Scalar.andi v105_r1 v109_r1
  let true_75_r1 : BitVec 1 := 1#1
  let v111_r1 : BitVec 1 := Scalar.andi v110_r1 true_75_r1
  let v112_r1 : BitVec 32 := Scalar.extui v111_r1
  let c0_i32_76_r1 : BitVec 32 := 0#32
  let v113_r1 : BitVec 1 := Scalar.cmpi .ne v112_r1 c0_i32_76_r1
  v113_r1

def k2_off26 (i : grid2.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k2_off27 (i : grid2.Coords) (arg11_r1 : BitVec 32) : Fin 2 → Nat :=
  let c0_i32_111_r1 : BitVec 32 := 0#32
  let c128_i32_r1 : BitVec 32 := 128#32
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v95_r1 : BitVec 1 := Scalar.cmpi .eq v94_r1 v7
  let c0_i32_68_r1 : BitVec 32 := 0#32
  let v96_r1 : BitVec 32 := Scalar.select v95_r1 c0_i32_68_r1 v94_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v97_r1 : BitVec 32 := Scalar.addi v96_r1 v12
  let c625_i32_106_r1 : BitVec 32 := 625#32
  let v173_r1 : BitVec 32 := Scalar.addi v97_r1 c625_i32_106_r1
  let v174_r1 : BitVec 32 := Scalar.muli c128_i32_r1 v173_r1
  ![0, v174_r1.toNat]
def k2_off28 (arg7_r1 : BitVec 32) : Fin 1 → Nat :=
  let c2_i32_105_r1 : BitVec 32 := 2#32
  let v172_r1 : BitVec 32 := Scalar.remui arg7_r1 c2_i32_105_r1
  ![v172_r1.toNat]
def k2_off29 (arg8_r1 : BitVec 32) : Fin 3 → Nat :=
  let c2_i32_106_r1 : BitVec 32 := 2#32
  let v174_r1 : BitVec 32 := Scalar.remui arg8_r1 c2_i32_106_r1
  let c0_i32_107_r1 : BitVec 32 := 0#32
  let c0_i32_108_r1 : BitVec 32 := 0#32
  ![v174_r1.toNat, 0, 0]
def k2_cond12 (i : grid2.Coords) (k2_t2 : Fin (k2_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c625_i32_r1 : BitVec 32 := 625#32
  let v103_r1 : BitVec 32 := Scalar.addi v86_r1 c625_i32_r1
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let c625_i32_82_r1 : BitVec 32 := 625#32
  let v123_r1 : BitVec 32 := Scalar.addi v92_r1 c625_i32_82_r1
  let v124_r1 : BitVec 1 := Scalar.cmpi .ne v103_r1 v123_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k2_t2
  let c0_i32_60_r1 : BitVec 32 := 0#32
  let v83_r1 : BitVec 1 := Scalar.cmpi .eq arg6_r1 c0_i32_60_r1
  let v125_r1 : BitVec 1 := Scalar.ori v124_r1 v83_r1
  let c0_i32_83_r1 : BitVec 32 := 0#32
  let v126_r1 : BitVec 1 := Scalar.cmpi .sge arg6_r1 c0_i32_83_r1
  let v127_r1 : BitVec 1 := Scalar.andi v125_r1 v126_r1
  let v128_r1 : BitVec 32 := Scalar.extui v127_r1
  let c0_i32_84_r1 : BitVec 32 := 0#32
  let v129_r1 : BitVec 1 := Scalar.cmpi .ne v128_r1 c0_i32_84_r1
  v129_r1

def k2_off30 (i : grid2.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k2_off31 (i : grid2.Coords) (arg11_r1 : BitVec 32) : Fin 2 → Nat :=
  let c0_i32_111_r1 : BitVec 32 := 0#32
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c625_i32_105_r1 : BitVec 32 := 625#32
  let v172_r1 : BitVec 32 := Scalar.addi v86_r1 c625_i32_105_r1
  let v173_r1 : BitVec 32 := Scalar.muli c128_i32_r1 v172_r1
  ![0, v173_r1.toNat]
def k2_off32 (arg8_r1 : BitVec 32) : Fin 1 → Nat :=
  let c2_i32_106_r1 : BitVec 32 := 2#32
  let v174_r1 : BitVec 32 := Scalar.remui arg8_r1 c2_i32_106_r1
  ![v174_r1.toNat]
def k2_off33 (arg9_r1 : BitVec 32) : Fin 3 → Nat :=
  let c2_i32_88_r1 : BitVec 32 := 2#32
  let v137_r1 : BitVec 32 := Scalar.remui arg9_r1 c2_i32_88_r1
  let c0_i32_105_r3 : BitVec 32 := 0#32
  let c0_i32_106_r3 : BitVec 32 := 0#32
  ![v137_r1.toNat, 0, 0]

def k2_chk5 (i : grid2.Coords) (k2_t2 : Fin (k2_t2_loop i).trips) (arg9_r1 : BitVec 32) : Prop :=
  (∀ (k2_h2 : k2_cond2 i = 1#1), ∀ a, (k2_off33 arg9_r1) a + S1x128x128.size a ≤ S2x128x128.size a)
theorem k2_off33_inb : ∀ (i : grid2.Coords) (k2_t2 : Fin (k2_t2_loop i).trips) (arg9_r1 : BitVec 32) (k2_hw5 : k2_chk5 i k2_t2 arg9_r1), ∀ (k2_h2 : k2_cond2 i = 1#1), ∀ a, (k2_off33 arg9_r1) a + S1x128x128.size a ≤ S2x128x128.size a := fun i k2_t2 arg9_r1 k2_hw5 k2_h2 => k2_hw5 k2_h2

def k2_off34 (arg8_r1 : BitVec 32) : Fin 3 → Nat :=
  let c2_i32_87_r1 : BitVec 32 := 2#32
  let v136_r1 : BitVec 32 := Scalar.remui arg8_r1 c2_i32_87_r1
  let c0_i32_107_r3 : BitVec 32 := 0#32
  let c0_i32_108_r3 : BitVec 32 := 0#32
  ![v136_r1.toNat, 0, 0]

def k2_chk6 (i : grid2.Coords) (k2_t2 : Fin (k2_t2_loop i).trips) (arg8_r1 : BitVec 32) : Prop :=
  (∀ (k2_h2 : k2_cond2 i = 1#1), ∀ a, (k2_off34 arg8_r1) a + S1x1x128.size a ≤ S2x1x128.size a)
theorem k2_off34_inb : ∀ (i : grid2.Coords) (k2_t2 : Fin (k2_t2_loop i).trips) (arg8_r1 : BitVec 32) (k2_hw6 : k2_chk6 i k2_t2 arg8_r1), ∀ (k2_h2 : k2_cond2 i = 1#1), ∀ a, (k2_off34 arg8_r1) a + S1x1x128.size a ≤ S2x1x128.size a := fun i k2_t2 arg8_r1 k2_hw6 k2_h2 => k2_hw6 k2_h2

def k2_off35 (arg9_r1 : BitVec 32) : Fin 3 → Nat :=
  let c2_i32_105_r1 : BitVec 32 := 2#32
  let v172_r1 : BitVec 32 := Scalar.remui arg9_r1 c2_i32_105_r1
  let c0_i32_106_r1 : BitVec 32 := 0#32
  let c0_i32_107_r1 : BitVec 32 := 0#32
  ![v172_r1.toNat, 0, 0]
def k2_cond15 (i : grid2.Coords) (k2_t2 : Fin (k2_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let v143_r1 : BitVec 1 := Scalar.cmpi .ne v86_r1 v97_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k2_t2
  let c1_i32_59_r1 : BitVec 32 := 1#32
  let v82_r1 : BitVec 32 := Scalar.muli c1_i32_59_r1 v7
  let c1_i32_61_r1 : BitVec 32 := 1#32
  let v84_r1 : BitVec 32 := Scalar.subi v82_r1 c1_i32_61_r1
  let v85_r1 : BitVec 1 := Scalar.cmpi .eq arg6_r1 v84_r1
  let v144_r1 : BitVec 1 := Scalar.ori v143_r1 v85_r1
  let v145_r1 : BitVec 32 := Scalar.extui v144_r1
  let c0_i32_91_r1 : BitVec 32 := 0#32
  let v146_r1 : BitVec 1 := Scalar.cmpi .ne v145_r1 c0_i32_91_r1
  v146_r1

def k2_off36 (i : grid2.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k2_off37 (i : grid2.Coords) (arg11_r1 : BitVec 32) : Fin 2 → Nat :=
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let v173_r1 : BitVec 32 := Scalar.muli c128_i32_r1 v86_r1
  let c0_i32_109_r1 : BitVec 32 := 0#32
  ![v173_r1.toNat, 0]
def k2_off38 (arg9_r1 : BitVec 32) : Fin 1 → Nat :=
  let c2_i32_105_r1 : BitVec 32 := 2#32
  let v172_r1 : BitVec 32 := Scalar.remui arg9_r1 c2_i32_105_r1
  ![v172_r1.toNat]
def k2_off39 (arg10_r1 : BitVec 32) : Fin 3 → Nat :=
  let c2_i32_105_r1 : BitVec 32 := 2#32
  let v172_r1 : BitVec 32 := Scalar.remui arg10_r1 c2_i32_105_r1
  let c0_i32_106_r1 : BitVec 32 := 0#32
  let c0_i32_107_r1 : BitVec 32 := 0#32
  ![v172_r1.toNat, 0, 0]
def k2_cond17 (i : grid2.Coords) (k2_t2 : Fin (k2_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let v156_r1 : BitVec 1 := Scalar.cmpi .ne v86_r1 v92_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k2_t2
  let c0_i32_60_r1 : BitVec 32 := 0#32
  let v83_r1 : BitVec 1 := Scalar.cmpi .eq arg6_r1 c0_i32_60_r1
  let true_97_r1 : BitVec 1 := 1#1
  let v157_r1 : BitVec 1 := Scalar.xori v83_r1 true_97_r1
  let v158_r1 : BitVec 1 := Scalar.andi v156_r1 v157_r1
  let v159_r1 : BitVec 32 := Scalar.extui v158_r1
  let c0_i32_98_r1 : BitVec 32 := 0#32
  let v160_r1 : BitVec 1 := Scalar.cmpi .ne v159_r1 c0_i32_98_r1
  v160_r1

def k2_off40 (i : grid2.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k2_off41 (i : grid2.Coords) (arg11_r1 : BitVec 32) : Fin 2 → Nat :=
  let c128_i32_r1 : BitVec 32 := 128#32
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_65_r1 : BitVec 32 := 1#32
  let v90_r1 : BitVec 32 := Scalar.subi v7 c1_i32_65_r1
  let v91_r1 : BitVec 32 := Scalar.select v89_r1 v90_r1 v88_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v92_r1 : BitVec 32 := Scalar.addi v91_r1 v12
  let v173_r1 : BitVec 32 := Scalar.muli c128_i32_r1 v92_r1
  let c0_i32_109_r1 : BitVec 32 := 0#32
  ![v173_r1.toNat, 0]
def k2_off42 (arg10_r1 : BitVec 32) : Fin 1 → Nat :=
  let c2_i32_105_r1 : BitVec 32 := 2#32
  let v172_r1 : BitVec 32 := Scalar.remui arg10_r1 c2_i32_105_r1
  ![v172_r1.toNat]

def k2_chk4 (i : grid2.Coords) (k2_t2 : Fin (k2_t2_loop i).trips) (arg7_r1 : BitVec 32) (arg8_r1 : BitVec 32) (arg9_r1 : BitVec 32) (arg10_r1 : BitVec 32) (arg11_r1 : BitVec 32) : Prop :=
  (∀ (k2_h2 : k2_cond2 i = 1#1), ∀ (k2_h11 : k2_cond11 i k2_t2 arg11_r1 = 1#1), ∀ a, (k2_off25 arg7_r1) a + S1x1x128.size a ≤ S2x1x128.size a) ∧
  (∀ (k2_h2 : k2_cond2 i = 1#1), ∀ (k2_h11 : k2_cond11 i k2_t2 arg11_r1 = 1#1), ∀ a, (k2_off27 i arg11_r1) a + S1x128.size a ≤ S1x320000.size a) ∧
  (∀ (k2_h2 : k2_cond2 i = 1#1), ∀ (k2_h11 : k2_cond11 i k2_t2 arg11_r1 = 1#1), ∀ a, (k2_off28 arg7_r1) a + S1.size a ≤ S2.size a) ∧
  (∀ (k2_h2 : k2_cond2 i = 1#1), ∀ (k2_h12 : k2_cond12 i k2_t2 arg11_r1 = 1#1), ∀ a, (k2_off29 arg8_r1) a + S1x1x128.size a ≤ S2x1x128.size a) ∧
  (∀ (k2_h2 : k2_cond2 i = 1#1), ∀ (k2_h12 : k2_cond12 i k2_t2 arg11_r1 = 1#1), ∀ a, (k2_off31 i arg11_r1) a + S1x128.size a ≤ S1x320000.size a) ∧
  (∀ (k2_h2 : k2_cond2 i = 1#1), ∀ (k2_h12 : k2_cond12 i k2_t2 arg11_r1 = 1#1), ∀ a, (k2_off32 arg8_r1) a + S1.size a ≤ S2.size a) ∧
  (∀ (k2_h2 : k2_cond2 i = 1#1), ∀ (k2_h15 : k2_cond15 i k2_t2 arg11_r1 = 1#1), ∀ a, (k2_off35 arg9_r1) a + S1x128x128.size a ≤ S2x128x128.size a) ∧
  (∀ (k2_h2 : k2_cond2 i = 1#1), ∀ (k2_h15 : k2_cond15 i k2_t2 arg11_r1 = 1#1), ∀ a, (k2_off37 i arg11_r1) a + S128x128.size a ≤ S80000x128.size a) ∧
  (∀ (k2_h2 : k2_cond2 i = 1#1), ∀ (k2_h15 : k2_cond15 i k2_t2 arg11_r1 = 1#1), ∀ a, (k2_off38 arg9_r1) a + S1.size a ≤ S2.size a) ∧
  (∀ (k2_h2 : k2_cond2 i = 1#1), ∀ (k2_h17 : k2_cond17 i k2_t2 arg11_r1 = 1#1), ∀ a, (k2_off39 arg10_r1) a + S1x128x128.size a ≤ S2x128x128.size a) ∧
  (∀ (k2_h2 : k2_cond2 i = 1#1), ∀ (k2_h17 : k2_cond17 i k2_t2 arg11_r1 = 1#1), ∀ a, (k2_off41 i arg11_r1) a + S128x128.size a ≤ S80000x128.size a) ∧
  (∀ (k2_h2 : k2_cond2 i = 1#1), ∀ (k2_h17 : k2_cond17 i k2_t2 arg11_r1 = 1#1), ∀ a, (k2_off42 arg10_r1) a + S1.size a ≤ S2.size a)
theorem k2_off25_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h11 : k2_cond11 i k2_t2 arg11_r1 = 1#1), ∀ a, (k2_off25 arg7_r1) a + S1x1x128.size a ≤ S2x1x128.size a := fun i k2_t2 arg7_r1 arg8_r1 arg9_r1 arg10_r1 arg11_r1 k2_hw4 k2_h2 k2_h11 => k2_hw4.1 k2_h2 k2_h11
theorem k2_off27_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h11 : k2_cond11 i k2_t2 arg11_r1 = 1#1), ∀ a, (k2_off27 i arg11_r1) a + S1x128.size a ≤ S1x320000.size a := fun i k2_t2 arg7_r1 arg8_r1 arg9_r1 arg10_r1 arg11_r1 k2_hw4 k2_h2 k2_h11 => k2_hw4.2.1 k2_h2 k2_h11
theorem k2_off28_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h11 : k2_cond11 i k2_t2 arg11_r1 = 1#1), ∀ a, (k2_off28 arg7_r1) a + S1.size a ≤ S2.size a := fun i k2_t2 arg7_r1 arg8_r1 arg9_r1 arg10_r1 arg11_r1 k2_hw4 k2_h2 k2_h11 => k2_hw4.2.2.1 k2_h2 k2_h11
theorem k2_off29_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h12 : k2_cond12 i k2_t2 arg11_r1 = 1#1), ∀ a, (k2_off29 arg8_r1) a + S1x1x128.size a ≤ S2x1x128.size a := fun i k2_t2 arg7_r1 arg8_r1 arg9_r1 arg10_r1 arg11_r1 k2_hw4 k2_h2 k2_h12 => k2_hw4.2.2.2.1 k2_h2 k2_h12
theorem k2_off31_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h12 : k2_cond12 i k2_t2 arg11_r1 = 1#1), ∀ a, (k2_off31 i arg11_r1) a + S1x128.size a ≤ S1x320000.size a := fun i k2_t2 arg7_r1 arg8_r1 arg9_r1 arg10_r1 arg11_r1 k2_hw4 k2_h2 k2_h12 => k2_hw4.2.2.2.2.1 k2_h2 k2_h12
theorem k2_off32_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h12 : k2_cond12 i k2_t2 arg11_r1 = 1#1), ∀ a, (k2_off32 arg8_r1) a + S1.size a ≤ S2.size a := fun i k2_t2 arg7_r1 arg8_r1 arg9_r1 arg10_r1 arg11_r1 k2_hw4 k2_h2 k2_h12 => k2_hw4.2.2.2.2.2.1 k2_h2 k2_h12
theorem k2_off35_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h15 : k2_cond15 i k2_t2 arg11_r1 = 1#1), ∀ a, (k2_off35 arg9_r1) a + S1x128x128.size a ≤ S2x128x128.size a := fun i k2_t2 arg7_r1 arg8_r1 arg9_r1 arg10_r1 arg11_r1 k2_hw4 k2_h2 k2_h15 => k2_hw4.2.2.2.2.2.2.1 k2_h2 k2_h15
theorem k2_off37_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h15 : k2_cond15 i k2_t2 arg11_r1 = 1#1), ∀ a, (k2_off37 i arg11_r1) a + S128x128.size a ≤ S80000x128.size a := fun i k2_t2 arg7_r1 arg8_r1 arg9_r1 arg10_r1 arg11_r1 k2_hw4 k2_h2 k2_h15 => k2_hw4.2.2.2.2.2.2.2.1 k2_h2 k2_h15
theorem k2_off38_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h15 : k2_cond15 i k2_t2 arg11_r1 = 1#1), ∀ a, (k2_off38 arg9_r1) a + S1.size a ≤ S2.size a := fun i k2_t2 arg7_r1 arg8_r1 arg9_r1 arg10_r1 arg11_r1 k2_hw4 k2_h2 k2_h15 => k2_hw4.2.2.2.2.2.2.2.2.1 k2_h2 k2_h15
theorem k2_off39_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h17 : k2_cond17 i k2_t2 arg11_r1 = 1#1), ∀ a, (k2_off39 arg10_r1) a + S1x128x128.size a ≤ S2x128x128.size a := fun i k2_t2 arg7_r1 arg8_r1 arg9_r1 arg10_r1 arg11_r1 k2_hw4 k2_h2 k2_h17 => k2_hw4.2.2.2.2.2.2.2.2.2.1 k2_h2 k2_h17
theorem k2_off41_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h17 : k2_cond17 i k2_t2 arg11_r1 = 1#1), ∀ a, (k2_off41 i arg11_r1) a + S128x128.size a ≤ S80000x128.size a := fun i k2_t2 arg7_r1 arg8_r1 arg9_r1 arg10_r1 arg11_r1 k2_hw4 k2_h2 k2_h17 => k2_hw4.2.2.2.2.2.2.2.2.2.2.1 k2_h2 k2_h17
theorem k2_off42_inb : ∀ (i : grid2.Coords) (k2_t2 : Fin (k2_t2_loop i).trips) (arg7_r1 : BitVec 32) (arg8_r1 : BitVec 32) (arg9_r1 : BitVec 32) (arg10_r1 : BitVec 32) (arg11_r1 : BitVec 32) (k2_hw4 : k2_chk4 i k2_t2 arg7_r1 arg8_r1 arg9_r1 arg10_r1 arg11_r1), ∀ (k2_h2 : k2_cond2 i = 1#1), ∀ (k2_h17 : k2_cond17 i k2_t2 arg11_r1 = 1#1), ∀ a, (k2_off42 arg10_r1) a + S1.size a ≤ S2.size a := fun i k2_t2 arg7_r1 arg8_r1 arg9_r1 arg10_r1 arg11_r1 k2_hw4 k2_h2 k2_h17 => k2_hw4.2.2.2.2.2.2.2.2.2.2.2 k2_h2 k2_h17

def k2_cond19 (i : grid2.Coords) : BitVec 1 :=
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let c1_i32_43_r1 : BitVec 32 := 1#32
  let v56_r1 : BitVec 32 := Scalar.subi v13 c1_i32_43_r1
  let c1_i32_44_r1 : BitVec 32 := 1#32
  let v57_r1 : BitVec 32 := Scalar.muli c1_i32_44_r1 v7
  let c1_i32_46_r1 : BitVec 32 := 1#32
  let v59_r1 : BitVec 32 := Scalar.subi v57_r1 c1_i32_46_r1
  let v60_r1 : BitVec 1 := Scalar.cmpi .eq v56_r1 v59_r1
  let v80_r1 : BitVec 32 := Scalar.extui v60_r1
  let c0_i32_58_r1 : BitVec 32 := 0#32
  let v81_r1 : BitVec 1 := Scalar.cmpi .ne v80_r1 c0_i32_58_r1
  v81_r1

def k2_off43 (v50_3_r1 : BitVec 32) : Fin 3 → Nat :=
  let c2_i32_r1 : BitVec 32 := 2#32
  let v82_r1 : BitVec 32 := Scalar.remui v50_3_r1 c2_i32_r1
  let c0_i32_59_r1 : BitVec 32 := 0#32
  let c0_i32_60_r1 : BitVec 32 := 0#32
  ![v82_r1.toNat, 0, 0]

def k2_off44 (i : grid2.Coords) : Fin 2 → Nat :=
  let arg0 : BitVec 32 := BitVec.ofNat 32 (i 0).val
  let c80000_i32 : BitVec 32 := 80000#32
  let v3 : BitVec 32 := Scalar.muli arg0 c80000_i32
  let c0_i32_61_r1 : BitVec 32 := 0#32
  ![v3.toNat, 0]
def k2_off45 (i : grid2.Coords) (v50_4_r1 : BitVec 32) : Fin 2 → Nat :=
  let c128_i32_r1 : BitVec 32 := 128#32
  let true_40_r1 : BitVec 1 := 1#1
  let c1_i32_39_r1 : BitVec 32 := 1#32
  let v51_r1 : BitVec 32 := Scalar.subi v50_4_r1 c1_i32_39_r1
  let v52_r1 : BitVec 32 := Scalar.select true_40_r1 v51_r1 v50_4_r1
  let c_m1_i32_41_r1 : BitVec 32 := 4294967295#32
  let v53_r1 : BitVec 1 := Scalar.cmpi .eq v52_r1 c_m1_i32_41_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_42_r1 : BitVec 32 := 1#32
  let v54_r1 : BitVec 32 := Scalar.subi v7 c1_i32_42_r1
  let v55_r1 : BitVec 32 := Scalar.select v53_r1 v54_r1 v52_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v61_r1 : BitVec 32 := Scalar.addi v55_r1 v12
  let v83_r1 : BitVec 32 := Scalar.muli c128_i32_r1 v61_r1
  let c0_i32_62_r1 : BitVec 32 := 0#32
  ![v83_r1.toNat, 0]

def k2_chk8 (i : grid2.Coords) (v50_4_r1 : BitVec 32) : Prop :=
  (∀ (k2_h2 : k2_cond2 i = 1#1), ∀ (k2_h19 : k2_cond19 i = 1#1), ∀ a, (k2_off45 i v50_4_r1) a + S128x128.size a ≤ S80000x128.size a)
theorem k2_off45_inb : ∀ (i : grid2.Coords) (v50_4_r1 : BitVec 32) (k2_hw8 : k2_chk8 i v50_4_r1), ∀ (k2_h2 : k2_cond2 i = 1#1), ∀ (k2_h19 : k2_cond19 i = 1#1), ∀ a, (k2_off45 i v50_4_r1) a + S128x128.size a ≤ S80000x128.size a := fun i v50_4_r1 k2_hw8 k2_h2 k2_h19 => k2_hw8 k2_h2 k2_h19

def k2_off46 (v50_3_r1 : BitVec 32) : Fin 1 → Nat :=
  let c2_i32_r1 : BitVec 32 := 2#32
  let v82_r1 : BitVec 32 := Scalar.remui v50_3_r1 c2_i32_r1
  ![v82_r1.toNat]
def k2_off47 (i : grid2.Coords) : Fin 2 → Nat :=
  let arg0 : BitVec 32 := BitVec.ofNat 32 (i 0).val
  let c80000_i32 : BitVec 32 := 80000#32
  let v3 : BitVec 32 := Scalar.muli arg0 c80000_i32
  let c0_i32_63_r1 : BitVec 32 := 0#32
  ![v3.toNat, 0]
def k2_off48 (v50_3_r1 : BitVec 32) : Fin 3 → Nat :=
  let c2_i32_r1 : BitVec 32 := 2#32
  let v82_r1 : BitVec 32 := Scalar.remui v50_3_r1 c2_i32_r1
  let c0_i32_65_r1 : BitVec 32 := 0#32
  let c0_i32_66_r1 : BitVec 32 := 0#32
  ![v82_r1.toNat, 0, 0]

def k2_chk7 (i : grid2.Coords) (v50_3_r1 : BitVec 32) : Prop :=
  (∀ (k2_h2 : k2_cond2 i = 1#1), ∀ (k2_h19 : k2_cond19 i = 1#1), ∀ a, (k2_off43 v50_3_r1) a + S1x128x128.size a ≤ S2x128x128.size a) ∧
  (∀ (k2_h2 : k2_cond2 i = 1#1), ∀ (k2_h19 : k2_cond19 i = 1#1), ∀ a, (k2_off46 v50_3_r1) a + S1.size a ≤ S2.size a) ∧
  (∀ (k2_h2 : k2_cond2 i = 1#1), ∀ (k2_h19 : k2_cond19 i = 1#1), ∀ a, (k2_off48 v50_3_r1) a + S1x128x128.size a ≤ S2x128x128.size a)
theorem k2_off43_inb : ∀ (i : grid2.Coords) (v50_3_r1 : BitVec 32) (k2_hw7 : k2_chk7 i v50_3_r1), ∀ (k2_h2 : k2_cond2 i = 1#1), ∀ (k2_h19 : k2_cond19 i = 1#1), ∀ a, (k2_off43 v50_3_r1) a + S1x128x128.size a ≤ S2x128x128.size a := fun i v50_3_r1 k2_hw7 k2_h2 k2_h19 => k2_hw7.1 k2_h2 k2_h19
theorem k2_off46_inb : ∀ (i : grid2.Coords) (v50_3_r1 : BitVec 32) (k2_hw7 : k2_chk7 i v50_3_r1), ∀ (k2_h2 : k2_cond2 i = 1#1), ∀ (k2_h19 : k2_cond19 i = 1#1), ∀ a, (k2_off46 v50_3_r1) a + S1.size a ≤ S2.size a := fun i v50_3_r1 k2_hw7 k2_h2 k2_h19 => k2_hw7.2.1 k2_h2 k2_h19
theorem k2_off48_inb : ∀ (i : grid2.Coords) (v50_3_r1 : BitVec 32) (k2_hw7 : k2_chk7 i v50_3_r1), ∀ (k2_h2 : k2_cond2 i = 1#1), ∀ (k2_h19 : k2_cond19 i = 1#1), ∀ a, (k2_off48 v50_3_r1) a + S1x128x128.size a ≤ S2x128x128.size a := fun i v50_3_r1 k2_hw7 k2_h2 k2_h19 => k2_hw7.2.2 k2_h2 k2_h19

abbrev grid3 : Pipeline.Grid := ⟨2, ![2, 16], ![false, false]⟩

def k3_cond1 (i : grid3.Coords) : BitVec 1 :=
  let arg1 : BitVec 32 := BitVec.ofNat 32 (i 1).val
  let c10_i32 : BitVec 32 := 10#32
  let v0 : BitVec 1 := Scalar.cmpi .slt arg1 c10_i32
  let v1 : BitVec 32 := Scalar.extui v0
  let c0_i32 : BitVec 32 := 0#32
  let v2 : BitVec 1 := Scalar.cmpi .ne v1 c0_i32
  v2

def k3_off1 (i : grid3.Coords) : Fin 2 → Nat :=
  let arg1 : BitVec 32 := BitVec.ofNat 32 (i 1).val
  let c1000_i32_6 : BitVec 32 := 1000#32
  let v17 : BitVec 32 := Scalar.muli arg1 c1000_i32_6
  let c0_i32_7_r0 : BitVec 32 := 0#32
  ![v17.toNat, 0]
def k3_off2 (i : grid3.Coords) : Fin 2 → Nat :=
  let arg0 : BitVec 32 := BitVec.ofNat 32 (i 0).val
  let c10000_i32 : BitVec 32 := 10000#32
  let v14 : BitVec 32 := Scalar.muli arg0 c10000_i32
  let arg1 : BitVec 32 := BitVec.ofNat 32 (i 1).val
  let c1000_i32 : BitVec 32 := 1000#32
  let v15 : BitVec 32 := Scalar.muli arg1 c1000_i32
  let v16 : BitVec 32 := Scalar.addi v14 v15
  let c0_i32_8_r0 : BitVec 32 := 0#32
  ![v16.toNat, 0]
def k3_cond2 (i : grid3.Coords) : BitVec 1 :=
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let c0_i32_7_r1 : BitVec 32 := 0#32
  let v16_r1 : BitVec 1 := Scalar.cmpi .sgt v13 c0_i32_7_r1
  let v17_r1 : BitVec 32 := Scalar.extui v16_r1
  let c0_i32_8_r1 : BitVec 32 := 0#32
  let v18_r1 : BitVec 1 := Scalar.cmpi .ne v17_r1 c0_i32_8_r1
  v18_r1

def k3_cond3 (i : grid3.Coords) : BitVec 1 :=
  let true_24_r1 : BitVec 1 := 1#1
  let c1_i32_9_r1 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v19_r1 : BitVec 32 := Scalar.muli c1_i32_9_r1 v7
  let c0_i32_23_r1 : BitVec 32 := 0#32
  let v37_r1 : BitVec 1 := Scalar.cmpi .sgt v19_r1 c0_i32_23_r1
  let v38_r1 : BitVec 1 := Scalar.andi true_24_r1 v37_r1
  let true_25_r1 : BitVec 1 := 1#1
  let v39_r1 : BitVec 1 := Scalar.andi v38_r1 true_25_r1
  let v40_r1 : BitVec 32 := Scalar.extui v39_r1
  let c0_i32_27_r1 : BitVec 32 := 0#32
  let v41_r1 : BitVec 1 := Scalar.cmpi .ne v40_r1 c0_i32_27_r1
  v41_r1

def k3_off3 : Fin 3 → Nat :=
  let c0_i32_26_r1 : BitVec 32 := 0#32
  let c2_i32_r1 : BitVec 32 := 2#32
  let v82_r1 : BitVec 32 := Scalar.remui c0_i32_26_r1 c2_i32_r1
  let c0_i32_59_r1 : BitVec 32 := 0#32
  let c0_i32_60_r1 : BitVec 32 := 0#32
  ![v82_r1.toNat, 0, 0]
def k3_off4 (i : grid3.Coords) : Fin 3 → Nat :=
  let arg0 : BitVec 32 := BitVec.ofNat 32 (i 0).val
  let c0_i32_61_r1 : BitVec 32 := 0#32
  let c0_i32_62_r1 : BitVec 32 := 0#32
  ![arg0.toNat, 0, 0]
def k3_off5 (i : grid3.Coords) : Fin 2 → Nat :=
  let c0_i32_63_r1 : BitVec 32 := 0#32
  let c128_i32_r1 : BitVec 32 := 128#32
  let c0_i32_12_r1 : BitVec 32 := 0#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v22_r1 : BitVec 32 := Scalar.addi c0_i32_12_r1 v12
  let c1250_i32_r1 : BitVec 32 := 1250#32
  let v83_r1 : BitVec 32 := Scalar.addi v22_r1 c1250_i32_r1
  let v84_r1 : BitVec 32 := Scalar.muli c128_i32_r1 v83_r1
  ![0, v84_r1.toNat]
def k3_off6 : Fin 1 → Nat :=
  let c0_i32_26_r1 : BitVec 32 := 0#32
  let c2_i32_r1 : BitVec 32 := 2#32
  let v82_r1 : BitVec 32 := Scalar.remui c0_i32_26_r1 c2_i32_r1
  ![v82_r1.toNat]
@[reducible] def k3_t1_loop (i : grid3.Coords) : Scf.Loop 32 :=
  let c0_i32_31_r1 : BitVec 32 := 0#32
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_37_r1 : BitVec 32 := 1#32
  ⟨c0_i32_31_r1, v48_r1, c1_i32_37_r1⟩
def k3_off7 (arg7_r1 : BitVec 32) : Fin 3 → Nat :=
  let c2_i32_105_r1 : BitVec 32 := 2#32
  let v172_r1 : BitVec 32 := Scalar.remui arg7_r1 c2_i32_105_r1
  let c0_i32_107_r1 : BitVec 32 := 0#32
  let c0_i32_108_r1 : BitVec 32 := 0#32
  ![v172_r1.toNat, 0, 0]
def k3_cond4 (i : grid3.Coords) (k3_t1 : Fin (k3_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1250_i32_r1 : BitVec 32 := 1250#32
  let v103_r1 : BitVec 32 := Scalar.addi v86_r1 c1250_i32_r1
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let c1250_i32_72_r1 : BitVec 32 := 1250#32
  let v104_r1 : BitVec 32 := Scalar.addi v97_r1 c1250_i32_72_r1
  let v105_r1 : BitVec 1 := Scalar.cmpi .ne v103_r1 v104_r1
  let c0_i32_31_r1 : BitVec 32 := 0#32
  let c1_i32_37_r1 : BitVec 32 := 1#32
  let arg6_r1 : BitVec 32 := Scf.iv c0_i32_31_r1 c1_i32_37_r1 k3_t1
  let c1_i32_59_r1 : BitVec 32 := 1#32
  let v82_r1 : BitVec 32 := Scalar.muli c1_i32_59_r1 v7
  let c2_i32_r1 : BitVec 32 := 2#32
  let v106_r1 : BitVec 32 := Scalar.subi v82_r1 c2_i32_r1
  let c1_i32_73_r1 : BitVec 32 := 1#32
  let v107_r1 : BitVec 32 := Scalar.addi v106_r1 c1_i32_73_r1
  let v108_r1 : BitVec 1 := Scalar.cmpi .sge arg6_r1 v107_r1
  let true_74_r1 : BitVec 1 := 1#1
  let v109_r1 : BitVec 1 := Scalar.xori v108_r1 true_74_r1
  let v110_r1 : BitVec 1 := Scalar.andi v105_r1 v109_r1
  let true_75_r1 : BitVec 1 := 1#1
  let v111_r1 : BitVec 1 := Scalar.andi v110_r1 true_75_r1
  let v112_r1 : BitVec 32 := Scalar.extui v111_r1
  let c0_i32_76_r1 : BitVec 32 := 0#32
  let v113_r1 : BitVec 1 := Scalar.cmpi .ne v112_r1 c0_i32_76_r1
  v113_r1

def k3_off8 (i : grid3.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k3_off9 (i : grid3.Coords) (arg11_r1 : BitVec 32) : Fin 2 → Nat :=
  let c0_i32_111_r1 : BitVec 32 := 0#32
  let c128_i32_r1 : BitVec 32 := 128#32
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v95_r1 : BitVec 1 := Scalar.cmpi .eq v94_r1 v7
  let c0_i32_68_r1 : BitVec 32 := 0#32
  let v96_r1 : BitVec 32 := Scalar.select v95_r1 c0_i32_68_r1 v94_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v97_r1 : BitVec 32 := Scalar.addi v96_r1 v12
  let c1250_i32_106_r1 : BitVec 32 := 1250#32
  let v173_r1 : BitVec 32 := Scalar.addi v97_r1 c1250_i32_106_r1
  let v174_r1 : BitVec 32 := Scalar.muli c128_i32_r1 v173_r1
  ![0, v174_r1.toNat]
def k3_off10 (arg7_r1 : BitVec 32) : Fin 1 → Nat :=
  let c2_i32_105_r1 : BitVec 32 := 2#32
  let v172_r1 : BitVec 32 := Scalar.remui arg7_r1 c2_i32_105_r1
  ![v172_r1.toNat]
def k3_off11 (arg8_r1 : BitVec 32) : Fin 3 → Nat :=
  let c2_i32_106_r1 : BitVec 32 := 2#32
  let v174_r1 : BitVec 32 := Scalar.remui arg8_r1 c2_i32_106_r1
  let c0_i32_107_r1 : BitVec 32 := 0#32
  let c0_i32_108_r1 : BitVec 32 := 0#32
  ![v174_r1.toNat, 0, 0]
def k3_cond5 (i : grid3.Coords) (k3_t1 : Fin (k3_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1250_i32_r1 : BitVec 32 := 1250#32
  let v103_r1 : BitVec 32 := Scalar.addi v86_r1 c1250_i32_r1
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let c1250_i32_82_r1 : BitVec 32 := 1250#32
  let v123_r1 : BitVec 32 := Scalar.addi v92_r1 c1250_i32_82_r1
  let v124_r1 : BitVec 1 := Scalar.cmpi .ne v103_r1 v123_r1
  let c0_i32_31_r1 : BitVec 32 := 0#32
  let c1_i32_37_r1 : BitVec 32 := 1#32
  let arg6_r1 : BitVec 32 := Scf.iv c0_i32_31_r1 c1_i32_37_r1 k3_t1
  let c0_i32_60_r1 : BitVec 32 := 0#32
  let v83_r1 : BitVec 1 := Scalar.cmpi .eq arg6_r1 c0_i32_60_r1
  let v125_r1 : BitVec 1 := Scalar.ori v124_r1 v83_r1
  let c0_i32_83_r1 : BitVec 32 := 0#32
  let v126_r1 : BitVec 1 := Scalar.cmpi .sge arg6_r1 c0_i32_83_r1
  let v127_r1 : BitVec 1 := Scalar.andi v125_r1 v126_r1
  let v128_r1 : BitVec 32 := Scalar.extui v127_r1
  let c0_i32_84_r1 : BitVec 32 := 0#32
  let v129_r1 : BitVec 1 := Scalar.cmpi .ne v128_r1 c0_i32_84_r1
  v129_r1

def k3_off12 (i : grid3.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k3_off13 (i : grid3.Coords) (arg11_r1 : BitVec 32) : Fin 2 → Nat :=
  let c0_i32_111_r1 : BitVec 32 := 0#32
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1250_i32_105_r1 : BitVec 32 := 1250#32
  let v172_r1 : BitVec 32 := Scalar.addi v86_r1 c1250_i32_105_r1
  let v173_r1 : BitVec 32 := Scalar.muli c128_i32_r1 v172_r1
  ![0, v173_r1.toNat]
def k3_off14 (arg8_r1 : BitVec 32) : Fin 1 → Nat :=
  let c2_i32_106_r1 : BitVec 32 := 2#32
  let v174_r1 : BitVec 32 := Scalar.remui arg8_r1 c2_i32_106_r1
  ![v174_r1.toNat]
def k3_off15 (arg9_r1 : BitVec 32) : Fin 3 → Nat :=
  let c2_i32_88_r1 : BitVec 32 := 2#32
  let v137_r1 : BitVec 32 := Scalar.remui arg9_r1 c2_i32_88_r1
  let c0_i32_105_r2 : BitVec 32 := 0#32
  let c0_i32_106_r2 : BitVec 32 := 0#32
  ![v137_r1.toNat, 0, 0]

def k3_chk2 (i : grid3.Coords) (arg9_r1 : BitVec 32) : Prop :=
  (∀ (k3_h2 : k3_cond2 i = 1#1), ∀ a, (k3_off15 arg9_r1) a + S1x128x128.size a ≤ S2x128x128.size a)
theorem k3_off15_inb : ∀ (i : grid3.Coords) (arg9_r1 : BitVec 32) (k3_hw2 : k3_chk2 i arg9_r1), ∀ (k3_h2 : k3_cond2 i = 1#1), ∀ a, (k3_off15 arg9_r1) a + S1x128x128.size a ≤ S2x128x128.size a := fun i arg9_r1 k3_hw2 k3_h2 => k3_hw2 k3_h2

def k3_off16 (arg8_r1 : BitVec 32) : Fin 3 → Nat :=
  let c2_i32_87_r1 : BitVec 32 := 2#32
  let v136_r1 : BitVec 32 := Scalar.remui arg8_r1 c2_i32_87_r1
  let c0_i32_107_r2 : BitVec 32 := 0#32
  let c0_i32_108_r2 : BitVec 32 := 0#32
  ![v136_r1.toNat, 0, 0]

def k3_chk3 (i : grid3.Coords) (arg8_r1 : BitVec 32) : Prop :=
  (∀ (k3_h2 : k3_cond2 i = 1#1), ∀ a, (k3_off16 arg8_r1) a + S1x1x128.size a ≤ S2x1x128.size a)
theorem k3_off16_inb : ∀ (i : grid3.Coords) (arg8_r1 : BitVec 32) (k3_hw3 : k3_chk3 i arg8_r1), ∀ (k3_h2 : k3_cond2 i = 1#1), ∀ a, (k3_off16 arg8_r1) a + S1x1x128.size a ≤ S2x1x128.size a := fun i arg8_r1 k3_hw3 k3_h2 => k3_hw3 k3_h2

def k3_off17 (arg9_r1 : BitVec 32) : Fin 3 → Nat :=
  let c2_i32_105_r1 : BitVec 32 := 2#32
  let v172_r1 : BitVec 32 := Scalar.remui arg9_r1 c2_i32_105_r1
  let c0_i32_106_r1 : BitVec 32 := 0#32
  let c0_i32_107_r1 : BitVec 32 := 0#32
  ![v172_r1.toNat, 0, 0]
def k3_cond8 (i : grid3.Coords) (k3_t1 : Fin (k3_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let v143_r1 : BitVec 1 := Scalar.cmpi .ne v86_r1 v97_r1
  let c0_i32_31_r1 : BitVec 32 := 0#32
  let c1_i32_37_r1 : BitVec 32 := 1#32
  let arg6_r1 : BitVec 32 := Scf.iv c0_i32_31_r1 c1_i32_37_r1 k3_t1
  let c1_i32_59_r1 : BitVec 32 := 1#32
  let v82_r1 : BitVec 32 := Scalar.muli c1_i32_59_r1 v7
  let c1_i32_61_r1 : BitVec 32 := 1#32
  let v84_r1 : BitVec 32 := Scalar.subi v82_r1 c1_i32_61_r1
  let v85_r1 : BitVec 1 := Scalar.cmpi .eq arg6_r1 v84_r1
  let v144_r1 : BitVec 1 := Scalar.ori v143_r1 v85_r1
  let v145_r1 : BitVec 32 := Scalar.extui v144_r1
  let c0_i32_91_r1 : BitVec 32 := 0#32
  let v146_r1 : BitVec 1 := Scalar.cmpi .ne v145_r1 c0_i32_91_r1
  v146_r1

def k3_off18 (i : grid3.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k3_off19 (i : grid3.Coords) (arg11_r1 : BitVec 32) : Fin 2 → Nat :=
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let v173_r1 : BitVec 32 := Scalar.muli c128_i32_r1 v86_r1
  let c0_i32_109_r1 : BitVec 32 := 0#32
  ![v173_r1.toNat, 0]
def k3_off20 (arg9_r1 : BitVec 32) : Fin 1 → Nat :=
  let c2_i32_105_r1 : BitVec 32 := 2#32
  let v172_r1 : BitVec 32 := Scalar.remui arg9_r1 c2_i32_105_r1
  ![v172_r1.toNat]
def k3_off21 (arg10_r1 : BitVec 32) : Fin 3 → Nat :=
  let c2_i32_105_r1 : BitVec 32 := 2#32
  let v172_r1 : BitVec 32 := Scalar.remui arg10_r1 c2_i32_105_r1
  let c0_i32_106_r1 : BitVec 32 := 0#32
  let c0_i32_107_r1 : BitVec 32 := 0#32
  ![v172_r1.toNat, 0, 0]
def k3_cond10 (i : grid3.Coords) (k3_t1 : Fin (k3_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let v156_r1 : BitVec 1 := Scalar.cmpi .ne v86_r1 v92_r1
  let c0_i32_31_r1 : BitVec 32 := 0#32
  let c1_i32_37_r1 : BitVec 32 := 1#32
  let arg6_r1 : BitVec 32 := Scf.iv c0_i32_31_r1 c1_i32_37_r1 k3_t1
  let c0_i32_60_r1 : BitVec 32 := 0#32
  let v83_r1 : BitVec 1 := Scalar.cmpi .eq arg6_r1 c0_i32_60_r1
  let true_97_r1 : BitVec 1 := 1#1
  let v157_r1 : BitVec 1 := Scalar.xori v83_r1 true_97_r1
  let v158_r1 : BitVec 1 := Scalar.andi v156_r1 v157_r1
  let v159_r1 : BitVec 32 := Scalar.extui v158_r1
  let c0_i32_98_r1 : BitVec 32 := 0#32
  let v160_r1 : BitVec 1 := Scalar.cmpi .ne v159_r1 c0_i32_98_r1
  v160_r1

def k3_off22 (i : grid3.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k3_off23 (i : grid3.Coords) (arg11_r1 : BitVec 32) : Fin 2 → Nat :=
  let c128_i32_r1 : BitVec 32 := 128#32
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_65_r1 : BitVec 32 := 1#32
  let v90_r1 : BitVec 32 := Scalar.subi v7 c1_i32_65_r1
  let v91_r1 : BitVec 32 := Scalar.select v89_r1 v90_r1 v88_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v92_r1 : BitVec 32 := Scalar.addi v91_r1 v12
  let v173_r1 : BitVec 32 := Scalar.muli c128_i32_r1 v92_r1
  let c0_i32_109_r1 : BitVec 32 := 0#32
  ![v173_r1.toNat, 0]
def k3_off24 (arg10_r1 : BitVec 32) : Fin 1 → Nat :=
  let c2_i32_105_r1 : BitVec 32 := 2#32
  let v172_r1 : BitVec 32 := Scalar.remui arg10_r1 c2_i32_105_r1
  ![v172_r1.toNat]

def k3_chk1 (i : grid3.Coords) (k3_t1 : Fin (k3_t1_loop i).trips) (arg7_r1 : BitVec 32) (arg8_r1 : BitVec 32) (arg9_r1 : BitVec 32) (arg10_r1 : BitVec 32) (arg11_r1 : BitVec 32) : Prop :=
  (∀ (k3_h2 : k3_cond2 i = 1#1), ∀ (k3_h4 : k3_cond4 i k3_t1 arg11_r1 = 1#1), ∀ a, (k3_off7 arg7_r1) a + S1x1x128.size a ≤ S2x1x128.size a) ∧
  (∀ (k3_h2 : k3_cond2 i = 1#1), ∀ (k3_h4 : k3_cond4 i k3_t1 arg11_r1 = 1#1), ∀ a, (k3_off9 i arg11_r1) a + S1x128.size a ≤ S1x320000.size a) ∧
  (∀ (k3_h2 : k3_cond2 i = 1#1), ∀ (k3_h4 : k3_cond4 i k3_t1 arg11_r1 = 1#1), ∀ a, (k3_off10 arg7_r1) a + S1.size a ≤ S2.size a) ∧
  (∀ (k3_h2 : k3_cond2 i = 1#1), ∀ (k3_h5 : k3_cond5 i k3_t1 arg11_r1 = 1#1), ∀ a, (k3_off11 arg8_r1) a + S1x1x128.size a ≤ S2x1x128.size a) ∧
  (∀ (k3_h2 : k3_cond2 i = 1#1), ∀ (k3_h5 : k3_cond5 i k3_t1 arg11_r1 = 1#1), ∀ a, (k3_off13 i arg11_r1) a + S1x128.size a ≤ S1x320000.size a) ∧
  (∀ (k3_h2 : k3_cond2 i = 1#1), ∀ (k3_h5 : k3_cond5 i k3_t1 arg11_r1 = 1#1), ∀ a, (k3_off14 arg8_r1) a + S1.size a ≤ S2.size a) ∧
  (∀ (k3_h2 : k3_cond2 i = 1#1), ∀ (k3_h8 : k3_cond8 i k3_t1 arg11_r1 = 1#1), ∀ a, (k3_off17 arg9_r1) a + S1x128x128.size a ≤ S2x128x128.size a) ∧
  (∀ (k3_h2 : k3_cond2 i = 1#1), ∀ (k3_h8 : k3_cond8 i k3_t1 arg11_r1 = 1#1), ∀ a, (k3_off19 i arg11_r1) a + S128x128.size a ≤ S80000x128.size a) ∧
  (∀ (k3_h2 : k3_cond2 i = 1#1), ∀ (k3_h8 : k3_cond8 i k3_t1 arg11_r1 = 1#1), ∀ a, (k3_off20 arg9_r1) a + S1.size a ≤ S2.size a) ∧
  (∀ (k3_h2 : k3_cond2 i = 1#1), ∀ (k3_h10 : k3_cond10 i k3_t1 arg11_r1 = 1#1), ∀ a, (k3_off21 arg10_r1) a + S1x128x128.size a ≤ S2x128x128.size a) ∧
  (∀ (k3_h2 : k3_cond2 i = 1#1), ∀ (k3_h10 : k3_cond10 i k3_t1 arg11_r1 = 1#1), ∀ a, (k3_off23 i arg11_r1) a + S128x128.size a ≤ S80000x128.size a) ∧
  (∀ (k3_h2 : k3_cond2 i = 1#1), ∀ (k3_h10 : k3_cond10 i k3_t1 arg11_r1 = 1#1), ∀ a, (k3_off24 arg10_r1) a + S1.size a ≤ S2.size a)
theorem k3_off7_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h4 : k3_cond4 i k3_t1 arg11_r1 = 1#1), ∀ a, (k3_off7 arg7_r1) a + S1x1x128.size a ≤ S2x1x128.size a := fun i k3_t1 arg7_r1 arg8_r1 arg9_r1 arg10_r1 arg11_r1 k3_hw1 k3_h2 k3_h4 => k3_hw1.1 k3_h2 k3_h4
theorem k3_off9_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h4 : k3_cond4 i k3_t1 arg11_r1 = 1#1), ∀ a, (k3_off9 i arg11_r1) a + S1x128.size a ≤ S1x320000.size a := fun i k3_t1 arg7_r1 arg8_r1 arg9_r1 arg10_r1 arg11_r1 k3_hw1 k3_h2 k3_h4 => k3_hw1.2.1 k3_h2 k3_h4
theorem k3_off10_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h4 : k3_cond4 i k3_t1 arg11_r1 = 1#1), ∀ a, (k3_off10 arg7_r1) a + S1.size a ≤ S2.size a := fun i k3_t1 arg7_r1 arg8_r1 arg9_r1 arg10_r1 arg11_r1 k3_hw1 k3_h2 k3_h4 => k3_hw1.2.2.1 k3_h2 k3_h4
theorem k3_off11_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h5 : k3_cond5 i k3_t1 arg11_r1 = 1#1), ∀ a, (k3_off11 arg8_r1) a + S1x1x128.size a ≤ S2x1x128.size a := fun i k3_t1 arg7_r1 arg8_r1 arg9_r1 arg10_r1 arg11_r1 k3_hw1 k3_h2 k3_h5 => k3_hw1.2.2.2.1 k3_h2 k3_h5
theorem k3_off13_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h5 : k3_cond5 i k3_t1 arg11_r1 = 1#1), ∀ a, (k3_off13 i arg11_r1) a + S1x128.size a ≤ S1x320000.size a := fun i k3_t1 arg7_r1 arg8_r1 arg9_r1 arg10_r1 arg11_r1 k3_hw1 k3_h2 k3_h5 => k3_hw1.2.2.2.2.1 k3_h2 k3_h5
theorem k3_off14_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h5 : k3_cond5 i k3_t1 arg11_r1 = 1#1), ∀ a, (k3_off14 arg8_r1) a + S1.size a ≤ S2.size a := fun i k3_t1 arg7_r1 arg8_r1 arg9_r1 arg10_r1 arg11_r1 k3_hw1 k3_h2 k3_h5 => k3_hw1.2.2.2.2.2.1 k3_h2 k3_h5
theorem k3_off17_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h8 : k3_cond8 i k3_t1 arg11_r1 = 1#1), ∀ a, (k3_off17 arg9_r1) a + S1x128x128.size a ≤ S2x128x128.size a := fun i k3_t1 arg7_r1 arg8_r1 arg9_r1 arg10_r1 arg11_r1 k3_hw1 k3_h2 k3_h8 => k3_hw1.2.2.2.2.2.2.1 k3_h2 k3_h8
theorem k3_off19_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h8 : k3_cond8 i k3_t1 arg11_r1 = 1#1), ∀ a, (k3_off19 i arg11_r1) a + S128x128.size a ≤ S80000x128.size a := fun i k3_t1 arg7_r1 arg8_r1 arg9_r1 arg10_r1 arg11_r1 k3_hw1 k3_h2 k3_h8 => k3_hw1.2.2.2.2.2.2.2.1 k3_h2 k3_h8
theorem k3_off20_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h8 : k3_cond8 i k3_t1 arg11_r1 = 1#1), ∀ a, (k3_off20 arg9_r1) a + S1.size a ≤ S2.size a := fun i k3_t1 arg7_r1 arg8_r1 arg9_r1 arg10_r1 arg11_r1 k3_hw1 k3_h2 k3_h8 => k3_hw1.2.2.2.2.2.2.2.2.1 k3_h2 k3_h8
theorem k3_off21_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h10 : k3_cond10 i k3_t1 arg11_r1 = 1#1), ∀ a, (k3_off21 arg10_r1) a + S1x128x128.size a ≤ S2x128x128.size a := fun i k3_t1 arg7_r1 arg8_r1 arg9_r1 arg10_r1 arg11_r1 k3_hw1 k3_h2 k3_h10 => k3_hw1.2.2.2.2.2.2.2.2.2.1 k3_h2 k3_h10
theorem k3_off23_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h10 : k3_cond10 i k3_t1 arg11_r1 = 1#1), ∀ a, (k3_off23 i arg11_r1) a + S128x128.size a ≤ S80000x128.size a := fun i k3_t1 arg7_r1 arg8_r1 arg9_r1 arg10_r1 arg11_r1 k3_hw1 k3_h2 k3_h10 => k3_hw1.2.2.2.2.2.2.2.2.2.2.1 k3_h2 k3_h10
theorem k3_off24_inb : ∀ (i : grid3.Coords) (k3_t1 : Fin (k3_t1_loop i).trips) (arg7_r1 : BitVec 32) (arg8_r1 : BitVec 32) (arg9_r1 : BitVec 32) (arg10_r1 : BitVec 32) (arg11_r1 : BitVec 32) (k3_hw1 : k3_chk1 i k3_t1 arg7_r1 arg8_r1 arg9_r1 arg10_r1 arg11_r1), ∀ (k3_h2 : k3_cond2 i = 1#1), ∀ (k3_h10 : k3_cond10 i k3_t1 arg11_r1 = 1#1), ∀ a, (k3_off24 arg10_r1) a + S1.size a ≤ S2.size a := fun i k3_t1 arg7_r1 arg8_r1 arg9_r1 arg10_r1 arg11_r1 k3_hw1 k3_h2 k3_h10 => k3_hw1.2.2.2.2.2.2.2.2.2.2.2 k3_h2 k3_h10

@[reducible] def k3_t2_loop (i : grid3.Coords) : Scf.Loop 32 :=
  let c0_i32_31_r1 : BitVec 32 := 0#32
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let v45_r1 : BitVec 32 := Scalar.addi c0_i32_31_r1 v44_r1
  let c1_i32_38_r1 : BitVec 32 := 1#32
  ⟨v48_r1, v45_r1, c1_i32_38_r1⟩
def k3_off25 (arg7_r1 : BitVec 32) : Fin 3 → Nat :=
  let c2_i32_105_r1 : BitVec 32 := 2#32
  let v172_r1 : BitVec 32 := Scalar.remui arg7_r1 c2_i32_105_r1
  let c0_i32_107_r1 : BitVec 32 := 0#32
  let c0_i32_108_r1 : BitVec 32 := 0#32
  ![v172_r1.toNat, 0, 0]
def k3_cond11 (i : grid3.Coords) (k3_t2 : Fin (k3_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1250_i32_r1 : BitVec 32 := 1250#32
  let v103_r1 : BitVec 32 := Scalar.addi v86_r1 c1250_i32_r1
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let c1250_i32_72_r1 : BitVec 32 := 1250#32
  let v104_r1 : BitVec 32 := Scalar.addi v97_r1 c1250_i32_72_r1
  let v105_r1 : BitVec 1 := Scalar.cmpi .ne v103_r1 v104_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k3_t2
  let c1_i32_59_r1 : BitVec 32 := 1#32
  let v82_r1 : BitVec 32 := Scalar.muli c1_i32_59_r1 v7
  let c2_i32_r1 : BitVec 32 := 2#32
  let v106_r1 : BitVec 32 := Scalar.subi v82_r1 c2_i32_r1
  let c1_i32_73_r1 : BitVec 32 := 1#32
  let v107_r1 : BitVec 32 := Scalar.addi v106_r1 c1_i32_73_r1
  let v108_r1 : BitVec 1 := Scalar.cmpi .sge arg6_r1 v107_r1
  let true_74_r1 : BitVec 1 := 1#1
  let v109_r1 : BitVec 1 := Scalar.xori v108_r1 true_74_r1
  let v110_r1 : BitVec 1 := Scalar.andi v105_r1 v109_r1
  let true_75_r1 : BitVec 1 := 1#1
  let v111_r1 : BitVec 1 := Scalar.andi v110_r1 true_75_r1
  let v112_r1 : BitVec 32 := Scalar.extui v111_r1
  let c0_i32_76_r1 : BitVec 32 := 0#32
  let v113_r1 : BitVec 1 := Scalar.cmpi .ne v112_r1 c0_i32_76_r1
  v113_r1

def k3_off26 (i : grid3.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k3_off27 (i : grid3.Coords) (arg11_r1 : BitVec 32) : Fin 2 → Nat :=
  let c0_i32_111_r1 : BitVec 32 := 0#32
  let c128_i32_r1 : BitVec 32 := 128#32
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v95_r1 : BitVec 1 := Scalar.cmpi .eq v94_r1 v7
  let c0_i32_68_r1 : BitVec 32 := 0#32
  let v96_r1 : BitVec 32 := Scalar.select v95_r1 c0_i32_68_r1 v94_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v97_r1 : BitVec 32 := Scalar.addi v96_r1 v12
  let c1250_i32_106_r1 : BitVec 32 := 1250#32
  let v173_r1 : BitVec 32 := Scalar.addi v97_r1 c1250_i32_106_r1
  let v174_r1 : BitVec 32 := Scalar.muli c128_i32_r1 v173_r1
  ![0, v174_r1.toNat]
def k3_off28 (arg7_r1 : BitVec 32) : Fin 1 → Nat :=
  let c2_i32_105_r1 : BitVec 32 := 2#32
  let v172_r1 : BitVec 32 := Scalar.remui arg7_r1 c2_i32_105_r1
  ![v172_r1.toNat]
def k3_off29 (arg8_r1 : BitVec 32) : Fin 3 → Nat :=
  let c2_i32_106_r1 : BitVec 32 := 2#32
  let v174_r1 : BitVec 32 := Scalar.remui arg8_r1 c2_i32_106_r1
  let c0_i32_107_r1 : BitVec 32 := 0#32
  let c0_i32_108_r1 : BitVec 32 := 0#32
  ![v174_r1.toNat, 0, 0]
def k3_cond12 (i : grid3.Coords) (k3_t2 : Fin (k3_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1250_i32_r1 : BitVec 32 := 1250#32
  let v103_r1 : BitVec 32 := Scalar.addi v86_r1 c1250_i32_r1
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let c1250_i32_82_r1 : BitVec 32 := 1250#32
  let v123_r1 : BitVec 32 := Scalar.addi v92_r1 c1250_i32_82_r1
  let v124_r1 : BitVec 1 := Scalar.cmpi .ne v103_r1 v123_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k3_t2
  let c0_i32_60_r1 : BitVec 32 := 0#32
  let v83_r1 : BitVec 1 := Scalar.cmpi .eq arg6_r1 c0_i32_60_r1
  let v125_r1 : BitVec 1 := Scalar.ori v124_r1 v83_r1
  let c0_i32_83_r1 : BitVec 32 := 0#32
  let v126_r1 : BitVec 1 := Scalar.cmpi .sge arg6_r1 c0_i32_83_r1
  let v127_r1 : BitVec 1 := Scalar.andi v125_r1 v126_r1
  let v128_r1 : BitVec 32 := Scalar.extui v127_r1
  let c0_i32_84_r1 : BitVec 32 := 0#32
  let v129_r1 : BitVec 1 := Scalar.cmpi .ne v128_r1 c0_i32_84_r1
  v129_r1

def k3_off30 (i : grid3.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k3_off31 (i : grid3.Coords) (arg11_r1 : BitVec 32) : Fin 2 → Nat :=
  let c0_i32_111_r1 : BitVec 32 := 0#32
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1250_i32_105_r1 : BitVec 32 := 1250#32
  let v172_r1 : BitVec 32 := Scalar.addi v86_r1 c1250_i32_105_r1
  let v173_r1 : BitVec 32 := Scalar.muli c128_i32_r1 v172_r1
  ![0, v173_r1.toNat]
def k3_off32 (arg8_r1 : BitVec 32) : Fin 1 → Nat :=
  let c2_i32_106_r1 : BitVec 32 := 2#32
  let v174_r1 : BitVec 32 := Scalar.remui arg8_r1 c2_i32_106_r1
  ![v174_r1.toNat]
def k3_off33 (arg9_r1 : BitVec 32) : Fin 3 → Nat :=
  let c2_i32_88_r1 : BitVec 32 := 2#32
  let v137_r1 : BitVec 32 := Scalar.remui arg9_r1 c2_i32_88_r1
  let c0_i32_105_r3 : BitVec 32 := 0#32
  let c0_i32_106_r3 : BitVec 32 := 0#32
  ![v137_r1.toNat, 0, 0]

def k3_chk5 (i : grid3.Coords) (k3_t2 : Fin (k3_t2_loop i).trips) (arg9_r1 : BitVec 32) : Prop :=
  (∀ (k3_h2 : k3_cond2 i = 1#1), ∀ a, (k3_off33 arg9_r1) a + S1x128x128.size a ≤ S2x128x128.size a)
theorem k3_off33_inb : ∀ (i : grid3.Coords) (k3_t2 : Fin (k3_t2_loop i).trips) (arg9_r1 : BitVec 32) (k3_hw5 : k3_chk5 i k3_t2 arg9_r1), ∀ (k3_h2 : k3_cond2 i = 1#1), ∀ a, (k3_off33 arg9_r1) a + S1x128x128.size a ≤ S2x128x128.size a := fun i k3_t2 arg9_r1 k3_hw5 k3_h2 => k3_hw5 k3_h2

def k3_off34 (arg8_r1 : BitVec 32) : Fin 3 → Nat :=
  let c2_i32_87_r1 : BitVec 32 := 2#32
  let v136_r1 : BitVec 32 := Scalar.remui arg8_r1 c2_i32_87_r1
  let c0_i32_107_r3 : BitVec 32 := 0#32
  let c0_i32_108_r3 : BitVec 32 := 0#32
  ![v136_r1.toNat, 0, 0]

def k3_chk6 (i : grid3.Coords) (k3_t2 : Fin (k3_t2_loop i).trips) (arg8_r1 : BitVec 32) : Prop :=
  (∀ (k3_h2 : k3_cond2 i = 1#1), ∀ a, (k3_off34 arg8_r1) a + S1x1x128.size a ≤ S2x1x128.size a)
theorem k3_off34_inb : ∀ (i : grid3.Coords) (k3_t2 : Fin (k3_t2_loop i).trips) (arg8_r1 : BitVec 32) (k3_hw6 : k3_chk6 i k3_t2 arg8_r1), ∀ (k3_h2 : k3_cond2 i = 1#1), ∀ a, (k3_off34 arg8_r1) a + S1x1x128.size a ≤ S2x1x128.size a := fun i k3_t2 arg8_r1 k3_hw6 k3_h2 => k3_hw6 k3_h2

def k3_off35 (arg9_r1 : BitVec 32) : Fin 3 → Nat :=
  let c2_i32_105_r1 : BitVec 32 := 2#32
  let v172_r1 : BitVec 32 := Scalar.remui arg9_r1 c2_i32_105_r1
  let c0_i32_106_r1 : BitVec 32 := 0#32
  let c0_i32_107_r1 : BitVec 32 := 0#32
  ![v172_r1.toNat, 0, 0]
def k3_cond15 (i : grid3.Coords) (k3_t2 : Fin (k3_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let v143_r1 : BitVec 1 := Scalar.cmpi .ne v86_r1 v97_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k3_t2
  let c1_i32_59_r1 : BitVec 32 := 1#32
  let v82_r1 : BitVec 32 := Scalar.muli c1_i32_59_r1 v7
  let c1_i32_61_r1 : BitVec 32 := 1#32
  let v84_r1 : BitVec 32 := Scalar.subi v82_r1 c1_i32_61_r1
  let v85_r1 : BitVec 1 := Scalar.cmpi .eq arg6_r1 v84_r1
  let v144_r1 : BitVec 1 := Scalar.ori v143_r1 v85_r1
  let v145_r1 : BitVec 32 := Scalar.extui v144_r1
  let c0_i32_91_r1 : BitVec 32 := 0#32
  let v146_r1 : BitVec 1 := Scalar.cmpi .ne v145_r1 c0_i32_91_r1
  v146_r1

def k3_off36 (i : grid3.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k3_off37 (i : grid3.Coords) (arg11_r1 : BitVec 32) : Fin 2 → Nat :=
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let v173_r1 : BitVec 32 := Scalar.muli c128_i32_r1 v86_r1
  let c0_i32_109_r1 : BitVec 32 := 0#32
  ![v173_r1.toNat, 0]
def k3_off38 (arg9_r1 : BitVec 32) : Fin 1 → Nat :=
  let c2_i32_105_r1 : BitVec 32 := 2#32
  let v172_r1 : BitVec 32 := Scalar.remui arg9_r1 c2_i32_105_r1
  ![v172_r1.toNat]
def k3_off39 (arg10_r1 : BitVec 32) : Fin 3 → Nat :=
  let c2_i32_105_r1 : BitVec 32 := 2#32
  let v172_r1 : BitVec 32 := Scalar.remui arg10_r1 c2_i32_105_r1
  let c0_i32_106_r1 : BitVec 32 := 0#32
  let c0_i32_107_r1 : BitVec 32 := 0#32
  ![v172_r1.toNat, 0, 0]
def k3_cond17 (i : grid3.Coords) (k3_t2 : Fin (k3_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let v156_r1 : BitVec 1 := Scalar.cmpi .ne v86_r1 v92_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k3_t2
  let c0_i32_60_r1 : BitVec 32 := 0#32
  let v83_r1 : BitVec 1 := Scalar.cmpi .eq arg6_r1 c0_i32_60_r1
  let true_97_r1 : BitVec 1 := 1#1
  let v157_r1 : BitVec 1 := Scalar.xori v83_r1 true_97_r1
  let v158_r1 : BitVec 1 := Scalar.andi v156_r1 v157_r1
  let v159_r1 : BitVec 32 := Scalar.extui v158_r1
  let c0_i32_98_r1 : BitVec 32 := 0#32
  let v160_r1 : BitVec 1 := Scalar.cmpi .ne v159_r1 c0_i32_98_r1
  v160_r1

def k3_off40 (i : grid3.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k3_off41 (i : grid3.Coords) (arg11_r1 : BitVec 32) : Fin 2 → Nat :=
  let c128_i32_r1 : BitVec 32 := 128#32
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_65_r1 : BitVec 32 := 1#32
  let v90_r1 : BitVec 32 := Scalar.subi v7 c1_i32_65_r1
  let v91_r1 : BitVec 32 := Scalar.select v89_r1 v90_r1 v88_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v92_r1 : BitVec 32 := Scalar.addi v91_r1 v12
  let v173_r1 : BitVec 32 := Scalar.muli c128_i32_r1 v92_r1
  let c0_i32_109_r1 : BitVec 32 := 0#32
  ![v173_r1.toNat, 0]
def k3_off42 (arg10_r1 : BitVec 32) : Fin 1 → Nat :=
  let c2_i32_105_r1 : BitVec 32 := 2#32
  let v172_r1 : BitVec 32 := Scalar.remui arg10_r1 c2_i32_105_r1
  ![v172_r1.toNat]

def k3_chk4 (i : grid3.Coords) (k3_t2 : Fin (k3_t2_loop i).trips) (arg7_r1 : BitVec 32) (arg8_r1 : BitVec 32) (arg9_r1 : BitVec 32) (arg10_r1 : BitVec 32) (arg11_r1 : BitVec 32) : Prop :=
  (∀ (k3_h2 : k3_cond2 i = 1#1), ∀ (k3_h11 : k3_cond11 i k3_t2 arg11_r1 = 1#1), ∀ a, (k3_off25 arg7_r1) a + S1x1x128.size a ≤ S2x1x128.size a) ∧
  (∀ (k3_h2 : k3_cond2 i = 1#1), ∀ (k3_h11 : k3_cond11 i k3_t2 arg11_r1 = 1#1), ∀ a, (k3_off27 i arg11_r1) a + S1x128.size a ≤ S1x320000.size a) ∧
  (∀ (k3_h2 : k3_cond2 i = 1#1), ∀ (k3_h11 : k3_cond11 i k3_t2 arg11_r1 = 1#1), ∀ a, (k3_off28 arg7_r1) a + S1.size a ≤ S2.size a) ∧
  (∀ (k3_h2 : k3_cond2 i = 1#1), ∀ (k3_h12 : k3_cond12 i k3_t2 arg11_r1 = 1#1), ∀ a, (k3_off29 arg8_r1) a + S1x1x128.size a ≤ S2x1x128.size a) ∧
  (∀ (k3_h2 : k3_cond2 i = 1#1), ∀ (k3_h12 : k3_cond12 i k3_t2 arg11_r1 = 1#1), ∀ a, (k3_off31 i arg11_r1) a + S1x128.size a ≤ S1x320000.size a) ∧
  (∀ (k3_h2 : k3_cond2 i = 1#1), ∀ (k3_h12 : k3_cond12 i k3_t2 arg11_r1 = 1#1), ∀ a, (k3_off32 arg8_r1) a + S1.size a ≤ S2.size a) ∧
  (∀ (k3_h2 : k3_cond2 i = 1#1), ∀ (k3_h15 : k3_cond15 i k3_t2 arg11_r1 = 1#1), ∀ a, (k3_off35 arg9_r1) a + S1x128x128.size a ≤ S2x128x128.size a) ∧
  (∀ (k3_h2 : k3_cond2 i = 1#1), ∀ (k3_h15 : k3_cond15 i k3_t2 arg11_r1 = 1#1), ∀ a, (k3_off37 i arg11_r1) a + S128x128.size a ≤ S80000x128.size a) ∧
  (∀ (k3_h2 : k3_cond2 i = 1#1), ∀ (k3_h15 : k3_cond15 i k3_t2 arg11_r1 = 1#1), ∀ a, (k3_off38 arg9_r1) a + S1.size a ≤ S2.size a) ∧
  (∀ (k3_h2 : k3_cond2 i = 1#1), ∀ (k3_h17 : k3_cond17 i k3_t2 arg11_r1 = 1#1), ∀ a, (k3_off39 arg10_r1) a + S1x128x128.size a ≤ S2x128x128.size a) ∧
  (∀ (k3_h2 : k3_cond2 i = 1#1), ∀ (k3_h17 : k3_cond17 i k3_t2 arg11_r1 = 1#1), ∀ a, (k3_off41 i arg11_r1) a + S128x128.size a ≤ S80000x128.size a) ∧
  (∀ (k3_h2 : k3_cond2 i = 1#1), ∀ (k3_h17 : k3_cond17 i k3_t2 arg11_r1 = 1#1), ∀ a, (k3_off42 arg10_r1) a + S1.size a ≤ S2.size a)
theorem k3_off25_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h11 : k3_cond11 i k3_t2 arg11_r1 = 1#1), ∀ a, (k3_off25 arg7_r1) a + S1x1x128.size a ≤ S2x1x128.size a := fun i k3_t2 arg7_r1 arg8_r1 arg9_r1 arg10_r1 arg11_r1 k3_hw4 k3_h2 k3_h11 => k3_hw4.1 k3_h2 k3_h11
theorem k3_off27_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h11 : k3_cond11 i k3_t2 arg11_r1 = 1#1), ∀ a, (k3_off27 i arg11_r1) a + S1x128.size a ≤ S1x320000.size a := fun i k3_t2 arg7_r1 arg8_r1 arg9_r1 arg10_r1 arg11_r1 k3_hw4 k3_h2 k3_h11 => k3_hw4.2.1 k3_h2 k3_h11
theorem k3_off28_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h11 : k3_cond11 i k3_t2 arg11_r1 = 1#1), ∀ a, (k3_off28 arg7_r1) a + S1.size a ≤ S2.size a := fun i k3_t2 arg7_r1 arg8_r1 arg9_r1 arg10_r1 arg11_r1 k3_hw4 k3_h2 k3_h11 => k3_hw4.2.2.1 k3_h2 k3_h11
theorem k3_off29_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h12 : k3_cond12 i k3_t2 arg11_r1 = 1#1), ∀ a, (k3_off29 arg8_r1) a + S1x1x128.size a ≤ S2x1x128.size a := fun i k3_t2 arg7_r1 arg8_r1 arg9_r1 arg10_r1 arg11_r1 k3_hw4 k3_h2 k3_h12 => k3_hw4.2.2.2.1 k3_h2 k3_h12
theorem k3_off31_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h12 : k3_cond12 i k3_t2 arg11_r1 = 1#1), ∀ a, (k3_off31 i arg11_r1) a + S1x128.size a ≤ S1x320000.size a := fun i k3_t2 arg7_r1 arg8_r1 arg9_r1 arg10_r1 arg11_r1 k3_hw4 k3_h2 k3_h12 => k3_hw4.2.2.2.2.1 k3_h2 k3_h12
theorem k3_off32_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h12 : k3_cond12 i k3_t2 arg11_r1 = 1#1), ∀ a, (k3_off32 arg8_r1) a + S1.size a ≤ S2.size a := fun i k3_t2 arg7_r1 arg8_r1 arg9_r1 arg10_r1 arg11_r1 k3_hw4 k3_h2 k3_h12 => k3_hw4.2.2.2.2.2.1 k3_h2 k3_h12
theorem k3_off35_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h15 : k3_cond15 i k3_t2 arg11_r1 = 1#1), ∀ a, (k3_off35 arg9_r1) a + S1x128x128.size a ≤ S2x128x128.size a := fun i k3_t2 arg7_r1 arg8_r1 arg9_r1 arg10_r1 arg11_r1 k3_hw4 k3_h2 k3_h15 => k3_hw4.2.2.2.2.2.2.1 k3_h2 k3_h15
theorem k3_off37_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h15 : k3_cond15 i k3_t2 arg11_r1 = 1#1), ∀ a, (k3_off37 i arg11_r1) a + S128x128.size a ≤ S80000x128.size a := fun i k3_t2 arg7_r1 arg8_r1 arg9_r1 arg10_r1 arg11_r1 k3_hw4 k3_h2 k3_h15 => k3_hw4.2.2.2.2.2.2.2.1 k3_h2 k3_h15
theorem k3_off38_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h15 : k3_cond15 i k3_t2 arg11_r1 = 1#1), ∀ a, (k3_off38 arg9_r1) a + S1.size a ≤ S2.size a := fun i k3_t2 arg7_r1 arg8_r1 arg9_r1 arg10_r1 arg11_r1 k3_hw4 k3_h2 k3_h15 => k3_hw4.2.2.2.2.2.2.2.2.1 k3_h2 k3_h15
theorem k3_off39_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h17 : k3_cond17 i k3_t2 arg11_r1 = 1#1), ∀ a, (k3_off39 arg10_r1) a + S1x128x128.size a ≤ S2x128x128.size a := fun i k3_t2 arg7_r1 arg8_r1 arg9_r1 arg10_r1 arg11_r1 k3_hw4 k3_h2 k3_h17 => k3_hw4.2.2.2.2.2.2.2.2.2.1 k3_h2 k3_h17
theorem k3_off41_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h17 : k3_cond17 i k3_t2 arg11_r1 = 1#1), ∀ a, (k3_off41 i arg11_r1) a + S128x128.size a ≤ S80000x128.size a := fun i k3_t2 arg7_r1 arg8_r1 arg9_r1 arg10_r1 arg11_r1 k3_hw4 k3_h2 k3_h17 => k3_hw4.2.2.2.2.2.2.2.2.2.2.1 k3_h2 k3_h17
theorem k3_off42_inb : ∀ (i : grid3.Coords) (k3_t2 : Fin (k3_t2_loop i).trips) (arg7_r1 : BitVec 32) (arg8_r1 : BitVec 32) (arg9_r1 : BitVec 32) (arg10_r1 : BitVec 32) (arg11_r1 : BitVec 32) (k3_hw4 : k3_chk4 i k3_t2 arg7_r1 arg8_r1 arg9_r1 arg10_r1 arg11_r1), ∀ (k3_h2 : k3_cond2 i = 1#1), ∀ (k3_h17 : k3_cond17 i k3_t2 arg11_r1 = 1#1), ∀ a, (k3_off42 arg10_r1) a + S1.size a ≤ S2.size a := fun i k3_t2 arg7_r1 arg8_r1 arg9_r1 arg10_r1 arg11_r1 k3_hw4 k3_h2 k3_h17 => k3_hw4.2.2.2.2.2.2.2.2.2.2.2 k3_h2 k3_h17

def k3_cond19 (i : grid3.Coords) : BitVec 1 :=
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let c1_i32_43_r1 : BitVec 32 := 1#32
  let v56_r1 : BitVec 32 := Scalar.subi v13 c1_i32_43_r1
  let c1_i32_44_r1 : BitVec 32 := 1#32
  let v57_r1 : BitVec 32 := Scalar.muli c1_i32_44_r1 v7
  let c1_i32_46_r1 : BitVec 32 := 1#32
  let v59_r1 : BitVec 32 := Scalar.subi v57_r1 c1_i32_46_r1
  let v60_r1 : BitVec 1 := Scalar.cmpi .eq v56_r1 v59_r1
  let v80_r1 : BitVec 32 := Scalar.extui v60_r1
  let c0_i32_58_r1 : BitVec 32 := 0#32
  let v81_r1 : BitVec 1 := Scalar.cmpi .ne v80_r1 c0_i32_58_r1
  v81_r1

def k3_off43 (v50_3_r1 : BitVec 32) : Fin 3 → Nat :=
  let c2_i32_r1 : BitVec 32 := 2#32
  let v82_r1 : BitVec 32 := Scalar.remui v50_3_r1 c2_i32_r1
  let c0_i32_59_r1 : BitVec 32 := 0#32
  let c0_i32_60_r1 : BitVec 32 := 0#32
  ![v82_r1.toNat, 0, 0]

def k3_off44 (i : grid3.Coords) : Fin 2 → Nat :=
  let arg0 : BitVec 32 := BitVec.ofNat 32 (i 0).val
  let c80000_i32 : BitVec 32 := 80000#32
  let v3 : BitVec 32 := Scalar.muli arg0 c80000_i32
  let c0_i32_61_r1 : BitVec 32 := 0#32
  ![v3.toNat, 0]
def k3_off45 (i : grid3.Coords) (v50_4_r1 : BitVec 32) : Fin 2 → Nat :=
  let c128_i32_r1 : BitVec 32 := 128#32
  let true_40_r1 : BitVec 1 := 1#1
  let c1_i32_39_r1 : BitVec 32 := 1#32
  let v51_r1 : BitVec 32 := Scalar.subi v50_4_r1 c1_i32_39_r1
  let v52_r1 : BitVec 32 := Scalar.select true_40_r1 v51_r1 v50_4_r1
  let c_m1_i32_41_r1 : BitVec 32 := 4294967295#32
  let v53_r1 : BitVec 1 := Scalar.cmpi .eq v52_r1 c_m1_i32_41_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_42_r1 : BitVec 32 := 1#32
  let v54_r1 : BitVec 32 := Scalar.subi v7 c1_i32_42_r1
  let v55_r1 : BitVec 32 := Scalar.select v53_r1 v54_r1 v52_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v61_r1 : BitVec 32 := Scalar.addi v55_r1 v12
  let v83_r1 : BitVec 32 := Scalar.muli c128_i32_r1 v61_r1
  let c0_i32_62_r1 : BitVec 32 := 0#32
  ![v83_r1.toNat, 0]

def k3_chk8 (i : grid3.Coords) (v50_4_r1 : BitVec 32) : Prop :=
  (∀ (k3_h2 : k3_cond2 i = 1#1), ∀ (k3_h19 : k3_cond19 i = 1#1), ∀ a, (k3_off45 i v50_4_r1) a + S128x128.size a ≤ S80000x128.size a)
theorem k3_off45_inb : ∀ (i : grid3.Coords) (v50_4_r1 : BitVec 32) (k3_hw8 : k3_chk8 i v50_4_r1), ∀ (k3_h2 : k3_cond2 i = 1#1), ∀ (k3_h19 : k3_cond19 i = 1#1), ∀ a, (k3_off45 i v50_4_r1) a + S128x128.size a ≤ S80000x128.size a := fun i v50_4_r1 k3_hw8 k3_h2 k3_h19 => k3_hw8 k3_h2 k3_h19

def k3_off46 (v50_3_r1 : BitVec 32) : Fin 1 → Nat :=
  let c2_i32_r1 : BitVec 32 := 2#32
  let v82_r1 : BitVec 32 := Scalar.remui v50_3_r1 c2_i32_r1
  ![v82_r1.toNat]
def k3_off47 (i : grid3.Coords) : Fin 2 → Nat :=
  let arg0 : BitVec 32 := BitVec.ofNat 32 (i 0).val
  let c80000_i32 : BitVec 32 := 80000#32
  let v3 : BitVec 32 := Scalar.muli arg0 c80000_i32
  let c0_i32_63_r1 : BitVec 32 := 0#32
  ![v3.toNat, 0]
def k3_off48 (v50_3_r1 : BitVec 32) : Fin 3 → Nat :=
  let c2_i32_r1 : BitVec 32 := 2#32
  let v82_r1 : BitVec 32 := Scalar.remui v50_3_r1 c2_i32_r1
  let c0_i32_65_r1 : BitVec 32 := 0#32
  let c0_i32_66_r1 : BitVec 32 := 0#32
  ![v82_r1.toNat, 0, 0]

def k3_chk7 (i : grid3.Coords) (v50_3_r1 : BitVec 32) : Prop :=
  (∀ (k3_h2 : k3_cond2 i = 1#1), ∀ (k3_h19 : k3_cond19 i = 1#1), ∀ a, (k3_off43 v50_3_r1) a + S1x128x128.size a ≤ S2x128x128.size a) ∧
  (∀ (k3_h2 : k3_cond2 i = 1#1), ∀ (k3_h19 : k3_cond19 i = 1#1), ∀ a, (k3_off46 v50_3_r1) a + S1.size a ≤ S2.size a) ∧
  (∀ (k3_h2 : k3_cond2 i = 1#1), ∀ (k3_h19 : k3_cond19 i = 1#1), ∀ a, (k3_off48 v50_3_r1) a + S1x128x128.size a ≤ S2x128x128.size a)
theorem k3_off43_inb : ∀ (i : grid3.Coords) (v50_3_r1 : BitVec 32) (k3_hw7 : k3_chk7 i v50_3_r1), ∀ (k3_h2 : k3_cond2 i = 1#1), ∀ (k3_h19 : k3_cond19 i = 1#1), ∀ a, (k3_off43 v50_3_r1) a + S1x128x128.size a ≤ S2x128x128.size a := fun i v50_3_r1 k3_hw7 k3_h2 k3_h19 => k3_hw7.1 k3_h2 k3_h19
theorem k3_off46_inb : ∀ (i : grid3.Coords) (v50_3_r1 : BitVec 32) (k3_hw7 : k3_chk7 i v50_3_r1), ∀ (k3_h2 : k3_cond2 i = 1#1), ∀ (k3_h19 : k3_cond19 i = 1#1), ∀ a, (k3_off46 v50_3_r1) a + S1.size a ≤ S2.size a := fun i v50_3_r1 k3_hw7 k3_h2 k3_h19 => k3_hw7.2.1 k3_h2 k3_h19
theorem k3_off48_inb : ∀ (i : grid3.Coords) (v50_3_r1 : BitVec 32) (k3_hw7 : k3_chk7 i v50_3_r1), ∀ (k3_h2 : k3_cond2 i = 1#1), ∀ (k3_h19 : k3_cond19 i = 1#1), ∀ a, (k3_off48 v50_3_r1) a + S1x128x128.size a ≤ S2x128x128.size a := fun i v50_3_r1 k3_hw7 k3_h2 k3_h19 => k3_hw7.2.2 k3_h2 k3_h19

abbrev grid4 : Pipeline.Grid := ⟨2, ![2, 16], ![false, false]⟩

def k4_cond1 (i : grid4.Coords) : BitVec 1 :=
  let arg1 : BitVec 32 := BitVec.ofNat 32 (i 1).val
  let c10_i32 : BitVec 32 := 10#32
  let v0 : BitVec 1 := Scalar.cmpi .slt arg1 c10_i32
  let v1 : BitVec 32 := Scalar.extui v0
  let c0_i32 : BitVec 32 := 0#32
  let v2 : BitVec 1 := Scalar.cmpi .ne v1 c0_i32
  v2

def k4_off1 (i : grid4.Coords) : Fin 2 → Nat :=
  let arg1 : BitVec 32 := BitVec.ofNat 32 (i 1).val
  let c1000_i32_6 : BitVec 32 := 1000#32
  let v17 : BitVec 32 := Scalar.muli arg1 c1000_i32_6
  let c0_i32_7_r0 : BitVec 32 := 0#32
  ![v17.toNat, 0]
def k4_off2 (i : grid4.Coords) : Fin 2 → Nat :=
  let arg0 : BitVec 32 := BitVec.ofNat 32 (i 0).val
  let c10000_i32 : BitVec 32 := 10000#32
  let v14 : BitVec 32 := Scalar.muli arg0 c10000_i32
  let arg1 : BitVec 32 := BitVec.ofNat 32 (i 1).val
  let c1000_i32 : BitVec 32 := 1000#32
  let v15 : BitVec 32 := Scalar.muli arg1 c1000_i32
  let v16 : BitVec 32 := Scalar.addi v14 v15
  let c0_i32_8_r0 : BitVec 32 := 0#32
  ![v16.toNat, 0]
def k4_cond2 (i : grid4.Coords) : BitVec 1 :=
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let c0_i32_7_r1 : BitVec 32 := 0#32
  let v16_r1 : BitVec 1 := Scalar.cmpi .sgt v13 c0_i32_7_r1
  let v17_r1 : BitVec 32 := Scalar.extui v16_r1
  let c0_i32_8_r1 : BitVec 32 := 0#32
  let v18_r1 : BitVec 1 := Scalar.cmpi .ne v17_r1 c0_i32_8_r1
  v18_r1

def k4_cond3 (i : grid4.Coords) : BitVec 1 :=
  let true_24_r1 : BitVec 1 := 1#1
  let c1_i32_9_r1 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v19_r1 : BitVec 32 := Scalar.muli c1_i32_9_r1 v7
  let c0_i32_23_r1 : BitVec 32 := 0#32
  let v37_r1 : BitVec 1 := Scalar.cmpi .sgt v19_r1 c0_i32_23_r1
  let v38_r1 : BitVec 1 := Scalar.andi true_24_r1 v37_r1
  let true_25_r1 : BitVec 1 := 1#1
  let v39_r1 : BitVec 1 := Scalar.andi v38_r1 true_25_r1
  let v40_r1 : BitVec 32 := Scalar.extui v39_r1
  let c0_i32_27_r1 : BitVec 32 := 0#32
  let v41_r1 : BitVec 1 := Scalar.cmpi .ne v40_r1 c0_i32_27_r1
  v41_r1

def k4_off3 : Fin 3 → Nat :=
  let c0_i32_26_r1 : BitVec 32 := 0#32
  let c2_i32_r1 : BitVec 32 := 2#32
  let v82_r1 : BitVec 32 := Scalar.remui c0_i32_26_r1 c2_i32_r1
  let c0_i32_59_r1 : BitVec 32 := 0#32
  let c0_i32_60_r1 : BitVec 32 := 0#32
  ![v82_r1.toNat, 0, 0]
def k4_off4 (i : grid4.Coords) : Fin 3 → Nat :=
  let arg0 : BitVec 32 := BitVec.ofNat 32 (i 0).val
  let c0_i32_61_r1 : BitVec 32 := 0#32
  let c0_i32_62_r1 : BitVec 32 := 0#32
  ![arg0.toNat, 0, 0]
def k4_off5 (i : grid4.Coords) : Fin 2 → Nat :=
  let c0_i32_63_r1 : BitVec 32 := 0#32
  let c128_i32_r1 : BitVec 32 := 128#32
  let c0_i32_12_r1 : BitVec 32 := 0#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v22_r1 : BitVec 32 := Scalar.addi c0_i32_12_r1 v12
  let c1875_i32_r1 : BitVec 32 := 1875#32
  let v83_r1 : BitVec 32 := Scalar.addi v22_r1 c1875_i32_r1
  let v84_r1 : BitVec 32 := Scalar.muli c128_i32_r1 v83_r1
  ![0, v84_r1.toNat]
def k4_off6 : Fin 1 → Nat :=
  let c0_i32_26_r1 : BitVec 32 := 0#32
  let c2_i32_r1 : BitVec 32 := 2#32
  let v82_r1 : BitVec 32 := Scalar.remui c0_i32_26_r1 c2_i32_r1
  ![v82_r1.toNat]
@[reducible] def k4_t1_loop (i : grid4.Coords) : Scf.Loop 32 :=
  let c0_i32_31_r1 : BitVec 32 := 0#32
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_37_r1 : BitVec 32 := 1#32
  ⟨c0_i32_31_r1, v48_r1, c1_i32_37_r1⟩
def k4_off7 (arg7_r1 : BitVec 32) : Fin 3 → Nat :=
  let c2_i32_105_r1 : BitVec 32 := 2#32
  let v172_r1 : BitVec 32 := Scalar.remui arg7_r1 c2_i32_105_r1
  let c0_i32_107_r1 : BitVec 32 := 0#32
  let c0_i32_108_r1 : BitVec 32 := 0#32
  ![v172_r1.toNat, 0, 0]
def k4_cond4 (i : grid4.Coords) (k4_t1 : Fin (k4_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1875_i32_r1 : BitVec 32 := 1875#32
  let v103_r1 : BitVec 32 := Scalar.addi v86_r1 c1875_i32_r1
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let c1875_i32_72_r1 : BitVec 32 := 1875#32
  let v104_r1 : BitVec 32 := Scalar.addi v97_r1 c1875_i32_72_r1
  let v105_r1 : BitVec 1 := Scalar.cmpi .ne v103_r1 v104_r1
  let c0_i32_31_r1 : BitVec 32 := 0#32
  let c1_i32_37_r1 : BitVec 32 := 1#32
  let arg6_r1 : BitVec 32 := Scf.iv c0_i32_31_r1 c1_i32_37_r1 k4_t1
  let c1_i32_59_r1 : BitVec 32 := 1#32
  let v82_r1 : BitVec 32 := Scalar.muli c1_i32_59_r1 v7
  let c2_i32_r1 : BitVec 32 := 2#32
  let v106_r1 : BitVec 32 := Scalar.subi v82_r1 c2_i32_r1
  let c1_i32_73_r1 : BitVec 32 := 1#32
  let v107_r1 : BitVec 32 := Scalar.addi v106_r1 c1_i32_73_r1
  let v108_r1 : BitVec 1 := Scalar.cmpi .sge arg6_r1 v107_r1
  let true_74_r1 : BitVec 1 := 1#1
  let v109_r1 : BitVec 1 := Scalar.xori v108_r1 true_74_r1
  let v110_r1 : BitVec 1 := Scalar.andi v105_r1 v109_r1
  let true_75_r1 : BitVec 1 := 1#1
  let v111_r1 : BitVec 1 := Scalar.andi v110_r1 true_75_r1
  let v112_r1 : BitVec 32 := Scalar.extui v111_r1
  let c0_i32_76_r1 : BitVec 32 := 0#32
  let v113_r1 : BitVec 1 := Scalar.cmpi .ne v112_r1 c0_i32_76_r1
  v113_r1

def k4_off8 (i : grid4.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k4_off9 (i : grid4.Coords) (arg11_r1 : BitVec 32) : Fin 2 → Nat :=
  let c0_i32_111_r1 : BitVec 32 := 0#32
  let c128_i32_r1 : BitVec 32 := 128#32
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v95_r1 : BitVec 1 := Scalar.cmpi .eq v94_r1 v7
  let c0_i32_68_r1 : BitVec 32 := 0#32
  let v96_r1 : BitVec 32 := Scalar.select v95_r1 c0_i32_68_r1 v94_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v97_r1 : BitVec 32 := Scalar.addi v96_r1 v12
  let c1875_i32_106_r1 : BitVec 32 := 1875#32
  let v173_r1 : BitVec 32 := Scalar.addi v97_r1 c1875_i32_106_r1
  let v174_r1 : BitVec 32 := Scalar.muli c128_i32_r1 v173_r1
  ![0, v174_r1.toNat]
def k4_off10 (arg7_r1 : BitVec 32) : Fin 1 → Nat :=
  let c2_i32_105_r1 : BitVec 32 := 2#32
  let v172_r1 : BitVec 32 := Scalar.remui arg7_r1 c2_i32_105_r1
  ![v172_r1.toNat]
def k4_off11 (arg8_r1 : BitVec 32) : Fin 3 → Nat :=
  let c2_i32_106_r1 : BitVec 32 := 2#32
  let v174_r1 : BitVec 32 := Scalar.remui arg8_r1 c2_i32_106_r1
  let c0_i32_107_r1 : BitVec 32 := 0#32
  let c0_i32_108_r1 : BitVec 32 := 0#32
  ![v174_r1.toNat, 0, 0]
def k4_cond5 (i : grid4.Coords) (k4_t1 : Fin (k4_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1875_i32_r1 : BitVec 32 := 1875#32
  let v103_r1 : BitVec 32 := Scalar.addi v86_r1 c1875_i32_r1
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let c1875_i32_82_r1 : BitVec 32 := 1875#32
  let v123_r1 : BitVec 32 := Scalar.addi v92_r1 c1875_i32_82_r1
  let v124_r1 : BitVec 1 := Scalar.cmpi .ne v103_r1 v123_r1
  let c0_i32_31_r1 : BitVec 32 := 0#32
  let c1_i32_37_r1 : BitVec 32 := 1#32
  let arg6_r1 : BitVec 32 := Scf.iv c0_i32_31_r1 c1_i32_37_r1 k4_t1
  let c0_i32_60_r1 : BitVec 32 := 0#32
  let v83_r1 : BitVec 1 := Scalar.cmpi .eq arg6_r1 c0_i32_60_r1
  let v125_r1 : BitVec 1 := Scalar.ori v124_r1 v83_r1
  let c0_i32_83_r1 : BitVec 32 := 0#32
  let v126_r1 : BitVec 1 := Scalar.cmpi .sge arg6_r1 c0_i32_83_r1
  let v127_r1 : BitVec 1 := Scalar.andi v125_r1 v126_r1
  let v128_r1 : BitVec 32 := Scalar.extui v127_r1
  let c0_i32_84_r1 : BitVec 32 := 0#32
  let v129_r1 : BitVec 1 := Scalar.cmpi .ne v128_r1 c0_i32_84_r1
  v129_r1

def k4_off12 (i : grid4.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k4_off13 (i : grid4.Coords) (arg11_r1 : BitVec 32) : Fin 2 → Nat :=
  let c0_i32_111_r1 : BitVec 32 := 0#32
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1875_i32_105_r1 : BitVec 32 := 1875#32
  let v172_r1 : BitVec 32 := Scalar.addi v86_r1 c1875_i32_105_r1
  let v173_r1 : BitVec 32 := Scalar.muli c128_i32_r1 v172_r1
  ![0, v173_r1.toNat]
def k4_off14 (arg8_r1 : BitVec 32) : Fin 1 → Nat :=
  let c2_i32_106_r1 : BitVec 32 := 2#32
  let v174_r1 : BitVec 32 := Scalar.remui arg8_r1 c2_i32_106_r1
  ![v174_r1.toNat]
def k4_off15 (arg9_r1 : BitVec 32) : Fin 3 → Nat :=
  let c2_i32_88_r1 : BitVec 32 := 2#32
  let v137_r1 : BitVec 32 := Scalar.remui arg9_r1 c2_i32_88_r1
  let c0_i32_105_r2 : BitVec 32 := 0#32
  let c0_i32_106_r2 : BitVec 32 := 0#32
  ![v137_r1.toNat, 0, 0]

def k4_chk2 (i : grid4.Coords) (arg9_r1 : BitVec 32) : Prop :=
  (∀ (k4_h2 : k4_cond2 i = 1#1), ∀ a, (k4_off15 arg9_r1) a + S1x128x128.size a ≤ S2x128x128.size a)
theorem k4_off15_inb : ∀ (i : grid4.Coords) (arg9_r1 : BitVec 32) (k4_hw2 : k4_chk2 i arg9_r1), ∀ (k4_h2 : k4_cond2 i = 1#1), ∀ a, (k4_off15 arg9_r1) a + S1x128x128.size a ≤ S2x128x128.size a := fun i arg9_r1 k4_hw2 k4_h2 => k4_hw2 k4_h2

def k4_off16 (arg8_r1 : BitVec 32) : Fin 3 → Nat :=
  let c2_i32_87_r1 : BitVec 32 := 2#32
  let v136_r1 : BitVec 32 := Scalar.remui arg8_r1 c2_i32_87_r1
  let c0_i32_107_r2 : BitVec 32 := 0#32
  let c0_i32_108_r2 : BitVec 32 := 0#32
  ![v136_r1.toNat, 0, 0]

def k4_chk3 (i : grid4.Coords) (arg8_r1 : BitVec 32) : Prop :=
  (∀ (k4_h2 : k4_cond2 i = 1#1), ∀ a, (k4_off16 arg8_r1) a + S1x1x128.size a ≤ S2x1x128.size a)
theorem k4_off16_inb : ∀ (i : grid4.Coords) (arg8_r1 : BitVec 32) (k4_hw3 : k4_chk3 i arg8_r1), ∀ (k4_h2 : k4_cond2 i = 1#1), ∀ a, (k4_off16 arg8_r1) a + S1x1x128.size a ≤ S2x1x128.size a := fun i arg8_r1 k4_hw3 k4_h2 => k4_hw3 k4_h2

def k4_off17 (arg9_r1 : BitVec 32) : Fin 3 → Nat :=
  let c2_i32_105_r1 : BitVec 32 := 2#32
  let v172_r1 : BitVec 32 := Scalar.remui arg9_r1 c2_i32_105_r1
  let c0_i32_106_r1 : BitVec 32 := 0#32
  let c0_i32_107_r1 : BitVec 32 := 0#32
  ![v172_r1.toNat, 0, 0]
def k4_cond8 (i : grid4.Coords) (k4_t1 : Fin (k4_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let v143_r1 : BitVec 1 := Scalar.cmpi .ne v86_r1 v97_r1
  let c0_i32_31_r1 : BitVec 32 := 0#32
  let c1_i32_37_r1 : BitVec 32 := 1#32
  let arg6_r1 : BitVec 32 := Scf.iv c0_i32_31_r1 c1_i32_37_r1 k4_t1
  let c1_i32_59_r1 : BitVec 32 := 1#32
  let v82_r1 : BitVec 32 := Scalar.muli c1_i32_59_r1 v7
  let c1_i32_61_r1 : BitVec 32 := 1#32
  let v84_r1 : BitVec 32 := Scalar.subi v82_r1 c1_i32_61_r1
  let v85_r1 : BitVec 1 := Scalar.cmpi .eq arg6_r1 v84_r1
  let v144_r1 : BitVec 1 := Scalar.ori v143_r1 v85_r1
  let v145_r1 : BitVec 32 := Scalar.extui v144_r1
  let c0_i32_91_r1 : BitVec 32 := 0#32
  let v146_r1 : BitVec 1 := Scalar.cmpi .ne v145_r1 c0_i32_91_r1
  v146_r1

def k4_off18 (i : grid4.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k4_off19 (i : grid4.Coords) (arg11_r1 : BitVec 32) : Fin 2 → Nat :=
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let v173_r1 : BitVec 32 := Scalar.muli c128_i32_r1 v86_r1
  let c0_i32_109_r1 : BitVec 32 := 0#32
  ![v173_r1.toNat, 0]
def k4_off20 (arg9_r1 : BitVec 32) : Fin 1 → Nat :=
  let c2_i32_105_r1 : BitVec 32 := 2#32
  let v172_r1 : BitVec 32 := Scalar.remui arg9_r1 c2_i32_105_r1
  ![v172_r1.toNat]
def k4_off21 (arg10_r1 : BitVec 32) : Fin 3 → Nat :=
  let c2_i32_105_r1 : BitVec 32 := 2#32
  let v172_r1 : BitVec 32 := Scalar.remui arg10_r1 c2_i32_105_r1
  let c0_i32_106_r1 : BitVec 32 := 0#32
  let c0_i32_107_r1 : BitVec 32 := 0#32
  ![v172_r1.toNat, 0, 0]
def k4_cond10 (i : grid4.Coords) (k4_t1 : Fin (k4_t1_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let v156_r1 : BitVec 1 := Scalar.cmpi .ne v86_r1 v92_r1
  let c0_i32_31_r1 : BitVec 32 := 0#32
  let c1_i32_37_r1 : BitVec 32 := 1#32
  let arg6_r1 : BitVec 32 := Scf.iv c0_i32_31_r1 c1_i32_37_r1 k4_t1
  let c0_i32_60_r1 : BitVec 32 := 0#32
  let v83_r1 : BitVec 1 := Scalar.cmpi .eq arg6_r1 c0_i32_60_r1
  let true_97_r1 : BitVec 1 := 1#1
  let v157_r1 : BitVec 1 := Scalar.xori v83_r1 true_97_r1
  let v158_r1 : BitVec 1 := Scalar.andi v156_r1 v157_r1
  let v159_r1 : BitVec 32 := Scalar.extui v158_r1
  let c0_i32_98_r1 : BitVec 32 := 0#32
  let v160_r1 : BitVec 1 := Scalar.cmpi .ne v159_r1 c0_i32_98_r1
  v160_r1

def k4_off22 (i : grid4.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k4_off23 (i : grid4.Coords) (arg11_r1 : BitVec 32) : Fin 2 → Nat :=
  let c128_i32_r1 : BitVec 32 := 128#32
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_65_r1 : BitVec 32 := 1#32
  let v90_r1 : BitVec 32 := Scalar.subi v7 c1_i32_65_r1
  let v91_r1 : BitVec 32 := Scalar.select v89_r1 v90_r1 v88_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v92_r1 : BitVec 32 := Scalar.addi v91_r1 v12
  let v173_r1 : BitVec 32 := Scalar.muli c128_i32_r1 v92_r1
  let c0_i32_109_r1 : BitVec 32 := 0#32
  ![v173_r1.toNat, 0]
def k4_off24 (arg10_r1 : BitVec 32) : Fin 1 → Nat :=
  let c2_i32_105_r1 : BitVec 32 := 2#32
  let v172_r1 : BitVec 32 := Scalar.remui arg10_r1 c2_i32_105_r1
  ![v172_r1.toNat]

def k4_chk1 (i : grid4.Coords) (k4_t1 : Fin (k4_t1_loop i).trips) (arg7_r1 : BitVec 32) (arg8_r1 : BitVec 32) (arg9_r1 : BitVec 32) (arg10_r1 : BitVec 32) (arg11_r1 : BitVec 32) : Prop :=
  (∀ (k4_h2 : k4_cond2 i = 1#1), ∀ (k4_h4 : k4_cond4 i k4_t1 arg11_r1 = 1#1), ∀ a, (k4_off7 arg7_r1) a + S1x1x128.size a ≤ S2x1x128.size a) ∧
  (∀ (k4_h2 : k4_cond2 i = 1#1), ∀ (k4_h4 : k4_cond4 i k4_t1 arg11_r1 = 1#1), ∀ a, (k4_off9 i arg11_r1) a + S1x128.size a ≤ S1x320000.size a) ∧
  (∀ (k4_h2 : k4_cond2 i = 1#1), ∀ (k4_h4 : k4_cond4 i k4_t1 arg11_r1 = 1#1), ∀ a, (k4_off10 arg7_r1) a + S1.size a ≤ S2.size a) ∧
  (∀ (k4_h2 : k4_cond2 i = 1#1), ∀ (k4_h5 : k4_cond5 i k4_t1 arg11_r1 = 1#1), ∀ a, (k4_off11 arg8_r1) a + S1x1x128.size a ≤ S2x1x128.size a) ∧
  (∀ (k4_h2 : k4_cond2 i = 1#1), ∀ (k4_h5 : k4_cond5 i k4_t1 arg11_r1 = 1#1), ∀ a, (k4_off13 i arg11_r1) a + S1x128.size a ≤ S1x320000.size a) ∧
  (∀ (k4_h2 : k4_cond2 i = 1#1), ∀ (k4_h5 : k4_cond5 i k4_t1 arg11_r1 = 1#1), ∀ a, (k4_off14 arg8_r1) a + S1.size a ≤ S2.size a) ∧
  (∀ (k4_h2 : k4_cond2 i = 1#1), ∀ (k4_h8 : k4_cond8 i k4_t1 arg11_r1 = 1#1), ∀ a, (k4_off17 arg9_r1) a + S1x128x128.size a ≤ S2x128x128.size a) ∧
  (∀ (k4_h2 : k4_cond2 i = 1#1), ∀ (k4_h8 : k4_cond8 i k4_t1 arg11_r1 = 1#1), ∀ a, (k4_off19 i arg11_r1) a + S128x128.size a ≤ S80000x128.size a) ∧
  (∀ (k4_h2 : k4_cond2 i = 1#1), ∀ (k4_h8 : k4_cond8 i k4_t1 arg11_r1 = 1#1), ∀ a, (k4_off20 arg9_r1) a + S1.size a ≤ S2.size a) ∧
  (∀ (k4_h2 : k4_cond2 i = 1#1), ∀ (k4_h10 : k4_cond10 i k4_t1 arg11_r1 = 1#1), ∀ a, (k4_off21 arg10_r1) a + S1x128x128.size a ≤ S2x128x128.size a) ∧
  (∀ (k4_h2 : k4_cond2 i = 1#1), ∀ (k4_h10 : k4_cond10 i k4_t1 arg11_r1 = 1#1), ∀ a, (k4_off23 i arg11_r1) a + S128x128.size a ≤ S80000x128.size a) ∧
  (∀ (k4_h2 : k4_cond2 i = 1#1), ∀ (k4_h10 : k4_cond10 i k4_t1 arg11_r1 = 1#1), ∀ a, (k4_off24 arg10_r1) a + S1.size a ≤ S2.size a)
theorem k4_off7_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h4 : k4_cond4 i k4_t1 arg11_r1 = 1#1), ∀ a, (k4_off7 arg7_r1) a + S1x1x128.size a ≤ S2x1x128.size a := fun i k4_t1 arg7_r1 arg8_r1 arg9_r1 arg10_r1 arg11_r1 k4_hw1 k4_h2 k4_h4 => k4_hw1.1 k4_h2 k4_h4
theorem k4_off9_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h4 : k4_cond4 i k4_t1 arg11_r1 = 1#1), ∀ a, (k4_off9 i arg11_r1) a + S1x128.size a ≤ S1x320000.size a := fun i k4_t1 arg7_r1 arg8_r1 arg9_r1 arg10_r1 arg11_r1 k4_hw1 k4_h2 k4_h4 => k4_hw1.2.1 k4_h2 k4_h4
theorem k4_off10_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h4 : k4_cond4 i k4_t1 arg11_r1 = 1#1), ∀ a, (k4_off10 arg7_r1) a + S1.size a ≤ S2.size a := fun i k4_t1 arg7_r1 arg8_r1 arg9_r1 arg10_r1 arg11_r1 k4_hw1 k4_h2 k4_h4 => k4_hw1.2.2.1 k4_h2 k4_h4
theorem k4_off11_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h5 : k4_cond5 i k4_t1 arg11_r1 = 1#1), ∀ a, (k4_off11 arg8_r1) a + S1x1x128.size a ≤ S2x1x128.size a := fun i k4_t1 arg7_r1 arg8_r1 arg9_r1 arg10_r1 arg11_r1 k4_hw1 k4_h2 k4_h5 => k4_hw1.2.2.2.1 k4_h2 k4_h5
theorem k4_off13_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h5 : k4_cond5 i k4_t1 arg11_r1 = 1#1), ∀ a, (k4_off13 i arg11_r1) a + S1x128.size a ≤ S1x320000.size a := fun i k4_t1 arg7_r1 arg8_r1 arg9_r1 arg10_r1 arg11_r1 k4_hw1 k4_h2 k4_h5 => k4_hw1.2.2.2.2.1 k4_h2 k4_h5
theorem k4_off14_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h5 : k4_cond5 i k4_t1 arg11_r1 = 1#1), ∀ a, (k4_off14 arg8_r1) a + S1.size a ≤ S2.size a := fun i k4_t1 arg7_r1 arg8_r1 arg9_r1 arg10_r1 arg11_r1 k4_hw1 k4_h2 k4_h5 => k4_hw1.2.2.2.2.2.1 k4_h2 k4_h5
theorem k4_off17_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h8 : k4_cond8 i k4_t1 arg11_r1 = 1#1), ∀ a, (k4_off17 arg9_r1) a + S1x128x128.size a ≤ S2x128x128.size a := fun i k4_t1 arg7_r1 arg8_r1 arg9_r1 arg10_r1 arg11_r1 k4_hw1 k4_h2 k4_h8 => k4_hw1.2.2.2.2.2.2.1 k4_h2 k4_h8
theorem k4_off19_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h8 : k4_cond8 i k4_t1 arg11_r1 = 1#1), ∀ a, (k4_off19 i arg11_r1) a + S128x128.size a ≤ S80000x128.size a := fun i k4_t1 arg7_r1 arg8_r1 arg9_r1 arg10_r1 arg11_r1 k4_hw1 k4_h2 k4_h8 => k4_hw1.2.2.2.2.2.2.2.1 k4_h2 k4_h8
theorem k4_off20_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h8 : k4_cond8 i k4_t1 arg11_r1 = 1#1), ∀ a, (k4_off20 arg9_r1) a + S1.size a ≤ S2.size a := fun i k4_t1 arg7_r1 arg8_r1 arg9_r1 arg10_r1 arg11_r1 k4_hw1 k4_h2 k4_h8 => k4_hw1.2.2.2.2.2.2.2.2.1 k4_h2 k4_h8
theorem k4_off21_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h10 : k4_cond10 i k4_t1 arg11_r1 = 1#1), ∀ a, (k4_off21 arg10_r1) a + S1x128x128.size a ≤ S2x128x128.size a := fun i k4_t1 arg7_r1 arg8_r1 arg9_r1 arg10_r1 arg11_r1 k4_hw1 k4_h2 k4_h10 => k4_hw1.2.2.2.2.2.2.2.2.2.1 k4_h2 k4_h10
theorem k4_off23_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h10 : k4_cond10 i k4_t1 arg11_r1 = 1#1), ∀ a, (k4_off23 i arg11_r1) a + S128x128.size a ≤ S80000x128.size a := fun i k4_t1 arg7_r1 arg8_r1 arg9_r1 arg10_r1 arg11_r1 k4_hw1 k4_h2 k4_h10 => k4_hw1.2.2.2.2.2.2.2.2.2.2.1 k4_h2 k4_h10
theorem k4_off24_inb : ∀ (i : grid4.Coords) (k4_t1 : Fin (k4_t1_loop i).trips) (arg7_r1 : BitVec 32) (arg8_r1 : BitVec 32) (arg9_r1 : BitVec 32) (arg10_r1 : BitVec 32) (arg11_r1 : BitVec 32) (k4_hw1 : k4_chk1 i k4_t1 arg7_r1 arg8_r1 arg9_r1 arg10_r1 arg11_r1), ∀ (k4_h2 : k4_cond2 i = 1#1), ∀ (k4_h10 : k4_cond10 i k4_t1 arg11_r1 = 1#1), ∀ a, (k4_off24 arg10_r1) a + S1.size a ≤ S2.size a := fun i k4_t1 arg7_r1 arg8_r1 arg9_r1 arg10_r1 arg11_r1 k4_hw1 k4_h2 k4_h10 => k4_hw1.2.2.2.2.2.2.2.2.2.2.2 k4_h2 k4_h10

@[reducible] def k4_t2_loop (i : grid4.Coords) : Scf.Loop 32 :=
  let c0_i32_31_r1 : BitVec 32 := 0#32
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let v45_r1 : BitVec 32 := Scalar.addi c0_i32_31_r1 v44_r1
  let c1_i32_38_r1 : BitVec 32 := 1#32
  ⟨v48_r1, v45_r1, c1_i32_38_r1⟩
def k4_off25 (arg7_r1 : BitVec 32) : Fin 3 → Nat :=
  let c2_i32_105_r1 : BitVec 32 := 2#32
  let v172_r1 : BitVec 32 := Scalar.remui arg7_r1 c2_i32_105_r1
  let c0_i32_107_r1 : BitVec 32 := 0#32
  let c0_i32_108_r1 : BitVec 32 := 0#32
  ![v172_r1.toNat, 0, 0]
def k4_cond11 (i : grid4.Coords) (k4_t2 : Fin (k4_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1875_i32_r1 : BitVec 32 := 1875#32
  let v103_r1 : BitVec 32 := Scalar.addi v86_r1 c1875_i32_r1
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let c1875_i32_72_r1 : BitVec 32 := 1875#32
  let v104_r1 : BitVec 32 := Scalar.addi v97_r1 c1875_i32_72_r1
  let v105_r1 : BitVec 1 := Scalar.cmpi .ne v103_r1 v104_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k4_t2
  let c1_i32_59_r1 : BitVec 32 := 1#32
  let v82_r1 : BitVec 32 := Scalar.muli c1_i32_59_r1 v7
  let c2_i32_r1 : BitVec 32 := 2#32
  let v106_r1 : BitVec 32 := Scalar.subi v82_r1 c2_i32_r1
  let c1_i32_73_r1 : BitVec 32 := 1#32
  let v107_r1 : BitVec 32 := Scalar.addi v106_r1 c1_i32_73_r1
  let v108_r1 : BitVec 1 := Scalar.cmpi .sge arg6_r1 v107_r1
  let true_74_r1 : BitVec 1 := 1#1
  let v109_r1 : BitVec 1 := Scalar.xori v108_r1 true_74_r1
  let v110_r1 : BitVec 1 := Scalar.andi v105_r1 v109_r1
  let true_75_r1 : BitVec 1 := 1#1
  let v111_r1 : BitVec 1 := Scalar.andi v110_r1 true_75_r1
  let v112_r1 : BitVec 32 := Scalar.extui v111_r1
  let c0_i32_76_r1 : BitVec 32 := 0#32
  let v113_r1 : BitVec 1 := Scalar.cmpi .ne v112_r1 c0_i32_76_r1
  v113_r1

def k4_off26 (i : grid4.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k4_off27 (i : grid4.Coords) (arg11_r1 : BitVec 32) : Fin 2 → Nat :=
  let c0_i32_111_r1 : BitVec 32 := 0#32
  let c128_i32_r1 : BitVec 32 := 128#32
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v95_r1 : BitVec 1 := Scalar.cmpi .eq v94_r1 v7
  let c0_i32_68_r1 : BitVec 32 := 0#32
  let v96_r1 : BitVec 32 := Scalar.select v95_r1 c0_i32_68_r1 v94_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v97_r1 : BitVec 32 := Scalar.addi v96_r1 v12
  let c1875_i32_106_r1 : BitVec 32 := 1875#32
  let v173_r1 : BitVec 32 := Scalar.addi v97_r1 c1875_i32_106_r1
  let v174_r1 : BitVec 32 := Scalar.muli c128_i32_r1 v173_r1
  ![0, v174_r1.toNat]
def k4_off28 (arg7_r1 : BitVec 32) : Fin 1 → Nat :=
  let c2_i32_105_r1 : BitVec 32 := 2#32
  let v172_r1 : BitVec 32 := Scalar.remui arg7_r1 c2_i32_105_r1
  ![v172_r1.toNat]
def k4_off29 (arg8_r1 : BitVec 32) : Fin 3 → Nat :=
  let c2_i32_106_r1 : BitVec 32 := 2#32
  let v174_r1 : BitVec 32 := Scalar.remui arg8_r1 c2_i32_106_r1
  let c0_i32_107_r1 : BitVec 32 := 0#32
  let c0_i32_108_r1 : BitVec 32 := 0#32
  ![v174_r1.toNat, 0, 0]
def k4_cond12 (i : grid4.Coords) (k4_t2 : Fin (k4_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1875_i32_r1 : BitVec 32 := 1875#32
  let v103_r1 : BitVec 32 := Scalar.addi v86_r1 c1875_i32_r1
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let c1875_i32_82_r1 : BitVec 32 := 1875#32
  let v123_r1 : BitVec 32 := Scalar.addi v92_r1 c1875_i32_82_r1
  let v124_r1 : BitVec 1 := Scalar.cmpi .ne v103_r1 v123_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k4_t2
  let c0_i32_60_r1 : BitVec 32 := 0#32
  let v83_r1 : BitVec 1 := Scalar.cmpi .eq arg6_r1 c0_i32_60_r1
  let v125_r1 : BitVec 1 := Scalar.ori v124_r1 v83_r1
  let c0_i32_83_r1 : BitVec 32 := 0#32
  let v126_r1 : BitVec 1 := Scalar.cmpi .sge arg6_r1 c0_i32_83_r1
  let v127_r1 : BitVec 1 := Scalar.andi v125_r1 v126_r1
  let v128_r1 : BitVec 32 := Scalar.extui v127_r1
  let c0_i32_84_r1 : BitVec 32 := 0#32
  let v129_r1 : BitVec 1 := Scalar.cmpi .ne v128_r1 c0_i32_84_r1
  v129_r1

def k4_off30 (i : grid4.Coords) : Fin 3 → Nat :=
  let arg0 : BitVec 32 := BitVec.ofNat 32 (i 0).val
  let c0_i32_109_r1 : BitVec 32 := 0#32
  let c0_i32_110_r1 : BitVec 32 := 0#32
  ![arg0.toNat, 0, 0]
def k4_off31 (i : grid4.Coords) (arg11_r1 : BitVec 32) : Fin 2 → Nat :=
  let c0_i32_111_r1 : BitVec 32 := 0#32
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let c1875_i32_105_r1 : BitVec 32 := 1875#32
  let v172_r1 : BitVec 32 := Scalar.addi v86_r1 c1875_i32_105_r1
  let v173_r1 : BitVec 32 := Scalar.muli c128_i32_r1 v172_r1
  ![0, v173_r1.toNat]
def k4_off32 (arg8_r1 : BitVec 32) : Fin 1 → Nat :=
  let c2_i32_106_r1 : BitVec 32 := 2#32
  let v174_r1 : BitVec 32 := Scalar.remui arg8_r1 c2_i32_106_r1
  ![v174_r1.toNat]
def k4_off33 (arg9_r1 : BitVec 32) : Fin 3 → Nat :=
  let c2_i32_88_r1 : BitVec 32 := 2#32
  let v137_r1 : BitVec 32 := Scalar.remui arg9_r1 c2_i32_88_r1
  let c0_i32_105_r3 : BitVec 32 := 0#32
  let c0_i32_106_r3 : BitVec 32 := 0#32
  ![v137_r1.toNat, 0, 0]

def k4_chk5 (i : grid4.Coords) (k4_t2 : Fin (k4_t2_loop i).trips) (arg9_r1 : BitVec 32) : Prop :=
  (∀ (k4_h2 : k4_cond2 i = 1#1), ∀ a, (k4_off33 arg9_r1) a + S1x128x128.size a ≤ S2x128x128.size a)
theorem k4_off33_inb : ∀ (i : grid4.Coords) (k4_t2 : Fin (k4_t2_loop i).trips) (arg9_r1 : BitVec 32) (k4_hw5 : k4_chk5 i k4_t2 arg9_r1), ∀ (k4_h2 : k4_cond2 i = 1#1), ∀ a, (k4_off33 arg9_r1) a + S1x128x128.size a ≤ S2x128x128.size a := fun i k4_t2 arg9_r1 k4_hw5 k4_h2 => k4_hw5 k4_h2

def k4_off34 (arg8_r1 : BitVec 32) : Fin 3 → Nat :=
  let c2_i32_87_r1 : BitVec 32 := 2#32
  let v136_r1 : BitVec 32 := Scalar.remui arg8_r1 c2_i32_87_r1
  let c0_i32_107_r3 : BitVec 32 := 0#32
  let c0_i32_108_r3 : BitVec 32 := 0#32
  ![v136_r1.toNat, 0, 0]

def k4_chk6 (i : grid4.Coords) (k4_t2 : Fin (k4_t2_loop i).trips) (arg8_r1 : BitVec 32) : Prop :=
  (∀ (k4_h2 : k4_cond2 i = 1#1), ∀ a, (k4_off34 arg8_r1) a + S1x1x128.size a ≤ S2x1x128.size a)
theorem k4_off34_inb : ∀ (i : grid4.Coords) (k4_t2 : Fin (k4_t2_loop i).trips) (arg8_r1 : BitVec 32) (k4_hw6 : k4_chk6 i k4_t2 arg8_r1), ∀ (k4_h2 : k4_cond2 i = 1#1), ∀ a, (k4_off34 arg8_r1) a + S1x1x128.size a ≤ S2x1x128.size a := fun i k4_t2 arg8_r1 k4_hw6 k4_h2 => k4_hw6 k4_h2

def k4_off35 (arg9_r1 : BitVec 32) : Fin 3 → Nat :=
  let c2_i32_105_r1 : BitVec 32 := 2#32
  let v172_r1 : BitVec 32 := Scalar.remui arg9_r1 c2_i32_105_r1
  let c0_i32_106_r1 : BitVec 32 := 0#32
  let c0_i32_107_r1 : BitVec 32 := 0#32
  ![v172_r1.toNat, 0, 0]
def k4_cond15 (i : grid4.Coords) (k4_t2 : Fin (k4_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_67_r1 : BitVec 1 := 1#1
  let c1_i32_66_r1 : BitVec 32 := 1#32
  let v93_r1 : BitVec 32 := Scalar.addi arg11_r1 c1_i32_66_r1
  let v94_r1 : BitVec 32 := Scalar.select true_67_r1 v93_r1 arg11_r1
  let v95_r1 : BitVec 1 := Scalar.cmpi .eq v94_r1 v7
  let c0_i32_68_r1 : BitVec 32 := 0#32
  let v96_r1 : BitVec 32 := Scalar.select v95_r1 c0_i32_68_r1 v94_r1
  let v97_r1 : BitVec 32 := Scalar.addi v96_r1 v12
  let v143_r1 : BitVec 1 := Scalar.cmpi .ne v86_r1 v97_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k4_t2
  let c1_i32_59_r1 : BitVec 32 := 1#32
  let v82_r1 : BitVec 32 := Scalar.muli c1_i32_59_r1 v7
  let c1_i32_61_r1 : BitVec 32 := 1#32
  let v84_r1 : BitVec 32 := Scalar.subi v82_r1 c1_i32_61_r1
  let v85_r1 : BitVec 1 := Scalar.cmpi .eq arg6_r1 v84_r1
  let v144_r1 : BitVec 1 := Scalar.ori v143_r1 v85_r1
  let v145_r1 : BitVec 32 := Scalar.extui v144_r1
  let c0_i32_91_r1 : BitVec 32 := 0#32
  let v146_r1 : BitVec 1 := Scalar.cmpi .ne v145_r1 c0_i32_91_r1
  v146_r1

def k4_off36 (i : grid4.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k4_off37 (i : grid4.Coords) (arg11_r1 : BitVec 32) : Fin 2 → Nat :=
  let c128_i32_r1 : BitVec 32 := 128#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let v173_r1 : BitVec 32 := Scalar.muli c128_i32_r1 v86_r1
  let c0_i32_109_r1 : BitVec 32 := 0#32
  ![v173_r1.toNat, 0]
def k4_off38 (arg9_r1 : BitVec 32) : Fin 1 → Nat :=
  let c2_i32_105_r1 : BitVec 32 := 2#32
  let v172_r1 : BitVec 32 := Scalar.remui arg9_r1 c2_i32_105_r1
  ![v172_r1.toNat]
def k4_off39 (arg10_r1 : BitVec 32) : Fin 3 → Nat :=
  let c2_i32_105_r1 : BitVec 32 := 2#32
  let v172_r1 : BitVec 32 := Scalar.remui arg10_r1 c2_i32_105_r1
  let c0_i32_106_r1 : BitVec 32 := 0#32
  let c0_i32_107_r1 : BitVec 32 := 0#32
  ![v172_r1.toNat, 0, 0]
def k4_cond17 (i : grid4.Coords) (k4_t2 : Fin (k4_t2_loop i).trips) (arg11_r1 : BitVec 32) : BitVec 1 :=
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_2 : BitVec 32 := 1#32
  let v8 : BitVec 1 := Scalar.cmpi .slt v5 c1_i32_2
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v86_r1 : BitVec 32 := Scalar.addi arg11_r1 v12
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c1_i32_65_r1 : BitVec 32 := 1#32
  let v90_r1 : BitVec 32 := Scalar.subi v7 c1_i32_65_r1
  let v91_r1 : BitVec 32 := Scalar.select v89_r1 v90_r1 v88_r1
  let v92_r1 : BitVec 32 := Scalar.addi v91_r1 v12
  let v156_r1 : BitVec 1 := Scalar.cmpi .ne v86_r1 v92_r1
  let c0_i32_31_r1 : BitVec 32 := 0#32
  let c1_i32_5 : BitVec 32 := 1#32
  let v13 : BitVec 32 := Scalar.muli c1_i32_5 v7
  let v44_r1 : BitVec 32 := Scalar.subi v13 c0_i32_31_r1
  let c1_i32_36_r1 : BitVec 32 := 1#32
  let v46_r1 : BitVec 32 := Scalar.divsi v44_r1 c1_i32_36_r1
  let v47_r1 : BitVec 32 := Scalar.muli v46_r1 c1_i32_36_r1
  let v48_r1 : BitVec 32 := Scalar.addi c0_i32_31_r1 v47_r1
  let c1_i32_38_r1 : BitVec 32 := 1#32
  let arg6_r1 : BitVec 32 := Scf.iv v48_r1 c1_i32_38_r1 k4_t2
  let c0_i32_60_r1 : BitVec 32 := 0#32
  let v83_r1 : BitVec 1 := Scalar.cmpi .eq arg6_r1 c0_i32_60_r1
  let true_97_r1 : BitVec 1 := 1#1
  let v157_r1 : BitVec 1 := Scalar.xori v83_r1 true_97_r1
  let v158_r1 : BitVec 1 := Scalar.andi v156_r1 v157_r1
  let v159_r1 : BitVec 32 := Scalar.extui v158_r1
  let c0_i32_98_r1 : BitVec 32 := 0#32
  let v160_r1 : BitVec 1 := Scalar.cmpi .ne v159_r1 c0_i32_98_r1
  v160_r1

def k4_off40 (i : grid4.Coords) : Fin 2 → Nat :=
  let arg0 : BitVec 32 := BitVec.ofNat 32 (i 0).val
  let c80000_i32 : BitVec 32 := 80000#32
  let v3 : BitVec 32 := Scalar.muli arg0 c80000_i32
  let c0_i32_108_r1 : BitVec 32 := 0#32
  ![v3.toNat, 0]
def k4_off41 (i : grid4.Coords) (arg11_r1 : BitVec 32) : Fin 2 → Nat :=
  let c128_i32_r1 : BitVec 32 := 128#32
  let true_63_r1 : BitVec 1 := 1#1
  let c1_i32_62_r1 : BitVec 32 := 1#32
  let v87_r1 : BitVec 32 := Scalar.subi arg11_r1 c1_i32_62_r1
  let v88_r1 : BitVec 32 := Scalar.select true_63_r1 v87_r1 arg11_r1
  let c_m1_i32_64_r1 : BitVec 32 := 4294967295#32
  let v89_r1 : BitVec 1 := Scalar.cmpi .eq v88_r1 c_m1_i32_64_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_65_r1 : BitVec 32 := 1#32
  let v90_r1 : BitVec 32 := Scalar.subi v7 c1_i32_65_r1
  let v91_r1 : BitVec 32 := Scalar.select v89_r1 v90_r1 v88_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v92_r1 : BitVec 32 := Scalar.addi v91_r1 v12
  let v173_r1 : BitVec 32 := Scalar.muli c128_i32_r1 v92_r1
  let c0_i32_109_r1 : BitVec 32 := 0#32
  ![v173_r1.toNat, 0]
def k4_off42 (arg10_r1 : BitVec 32) : Fin 1 → Nat :=
  let c2_i32_105_r1 : BitVec 32 := 2#32
  let v172_r1 : BitVec 32 := Scalar.remui arg10_r1 c2_i32_105_r1
  ![v172_r1.toNat]

def k4_chk4 (i : grid4.Coords) (k4_t2 : Fin (k4_t2_loop i).trips) (arg7_r1 : BitVec 32) (arg8_r1 : BitVec 32) (arg9_r1 : BitVec 32) (arg10_r1 : BitVec 32) (arg11_r1 : BitVec 32) : Prop :=
  (∀ (k4_h2 : k4_cond2 i = 1#1), ∀ (k4_h11 : k4_cond11 i k4_t2 arg11_r1 = 1#1), ∀ a, (k4_off25 arg7_r1) a + S1x1x128.size a ≤ S2x1x128.size a) ∧
  (∀ (k4_h2 : k4_cond2 i = 1#1), ∀ (k4_h11 : k4_cond11 i k4_t2 arg11_r1 = 1#1), ∀ a, (k4_off27 i arg11_r1) a + S1x128.size a ≤ S1x320000.size a) ∧
  (∀ (k4_h2 : k4_cond2 i = 1#1), ∀ (k4_h11 : k4_cond11 i k4_t2 arg11_r1 = 1#1), ∀ a, (k4_off28 arg7_r1) a + S1.size a ≤ S2.size a) ∧
  (∀ (k4_h2 : k4_cond2 i = 1#1), ∀ (k4_h12 : k4_cond12 i k4_t2 arg11_r1 = 1#1), ∀ a, (k4_off29 arg8_r1) a + S1x1x128.size a ≤ S2x1x128.size a) ∧
  (∀ (k4_h2 : k4_cond2 i = 1#1), ∀ (k4_h12 : k4_cond12 i k4_t2 arg11_r1 = 1#1), ∀ a, (k4_off31 i arg11_r1) a + S1x128.size a ≤ S1x320000.size a) ∧
  (∀ (k4_h2 : k4_cond2 i = 1#1), ∀ (k4_h12 : k4_cond12 i k4_t2 arg11_r1 = 1#1), ∀ a, (k4_off32 arg8_r1) a + S1.size a ≤ S2.size a) ∧
  (∀ (k4_h2 : k4_cond2 i = 1#1), ∀ (k4_h15 : k4_cond15 i k4_t2 arg11_r1 = 1#1), ∀ a, (k4_off35 arg9_r1) a + S1x128x128.size a ≤ S2x128x128.size a) ∧
  (∀ (k4_h2 : k4_cond2 i = 1#1), ∀ (k4_h15 : k4_cond15 i k4_t2 arg11_r1 = 1#1), ∀ a, (k4_off37 i arg11_r1) a + S128x128.size a ≤ S80000x128.size a) ∧
  (∀ (k4_h2 : k4_cond2 i = 1#1), ∀ (k4_h15 : k4_cond15 i k4_t2 arg11_r1 = 1#1), ∀ a, (k4_off38 arg9_r1) a + S1.size a ≤ S2.size a) ∧
  (∀ (k4_h2 : k4_cond2 i = 1#1), ∀ (k4_h17 : k4_cond17 i k4_t2 arg11_r1 = 1#1), ∀ a, (k4_off39 arg10_r1) a + S1x128x128.size a ≤ S2x128x128.size a) ∧
  (∀ (k4_h2 : k4_cond2 i = 1#1), ∀ (k4_h17 : k4_cond17 i k4_t2 arg11_r1 = 1#1), ∀ a, (k4_off41 i arg11_r1) a + S128x128.size a ≤ S80000x128.size a) ∧
  (∀ (k4_h2 : k4_cond2 i = 1#1), ∀ (k4_h17 : k4_cond17 i k4_t2 arg11_r1 = 1#1), ∀ a, (k4_off42 arg10_r1) a + S1.size a ≤ S2.size a)
theorem k4_off25_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h11 : k4_cond11 i k4_t2 arg11_r1 = 1#1), ∀ a, (k4_off25 arg7_r1) a + S1x1x128.size a ≤ S2x1x128.size a := fun i k4_t2 arg7_r1 arg8_r1 arg9_r1 arg10_r1 arg11_r1 k4_hw4 k4_h2 k4_h11 => k4_hw4.1 k4_h2 k4_h11
theorem k4_off27_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h11 : k4_cond11 i k4_t2 arg11_r1 = 1#1), ∀ a, (k4_off27 i arg11_r1) a + S1x128.size a ≤ S1x320000.size a := fun i k4_t2 arg7_r1 arg8_r1 arg9_r1 arg10_r1 arg11_r1 k4_hw4 k4_h2 k4_h11 => k4_hw4.2.1 k4_h2 k4_h11
theorem k4_off28_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h11 : k4_cond11 i k4_t2 arg11_r1 = 1#1), ∀ a, (k4_off28 arg7_r1) a + S1.size a ≤ S2.size a := fun i k4_t2 arg7_r1 arg8_r1 arg9_r1 arg10_r1 arg11_r1 k4_hw4 k4_h2 k4_h11 => k4_hw4.2.2.1 k4_h2 k4_h11
theorem k4_off29_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h12 : k4_cond12 i k4_t2 arg11_r1 = 1#1), ∀ a, (k4_off29 arg8_r1) a + S1x1x128.size a ≤ S2x1x128.size a := fun i k4_t2 arg7_r1 arg8_r1 arg9_r1 arg10_r1 arg11_r1 k4_hw4 k4_h2 k4_h12 => k4_hw4.2.2.2.1 k4_h2 k4_h12
theorem k4_off31_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h12 : k4_cond12 i k4_t2 arg11_r1 = 1#1), ∀ a, (k4_off31 i arg11_r1) a + S1x128.size a ≤ S1x320000.size a := fun i k4_t2 arg7_r1 arg8_r1 arg9_r1 arg10_r1 arg11_r1 k4_hw4 k4_h2 k4_h12 => k4_hw4.2.2.2.2.1 k4_h2 k4_h12
theorem k4_off32_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h12 : k4_cond12 i k4_t2 arg11_r1 = 1#1), ∀ a, (k4_off32 arg8_r1) a + S1.size a ≤ S2.size a := fun i k4_t2 arg7_r1 arg8_r1 arg9_r1 arg10_r1 arg11_r1 k4_hw4 k4_h2 k4_h12 => k4_hw4.2.2.2.2.2.1 k4_h2 k4_h12
theorem k4_off35_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h15 : k4_cond15 i k4_t2 arg11_r1 = 1#1), ∀ a, (k4_off35 arg9_r1) a + S1x128x128.size a ≤ S2x128x128.size a := fun i k4_t2 arg7_r1 arg8_r1 arg9_r1 arg10_r1 arg11_r1 k4_hw4 k4_h2 k4_h15 => k4_hw4.2.2.2.2.2.2.1 k4_h2 k4_h15
theorem k4_off37_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h15 : k4_cond15 i k4_t2 arg11_r1 = 1#1), ∀ a, (k4_off37 i arg11_r1) a + S128x128.size a ≤ S80000x128.size a := fun i k4_t2 arg7_r1 arg8_r1 arg9_r1 arg10_r1 arg11_r1 k4_hw4 k4_h2 k4_h15 => k4_hw4.2.2.2.2.2.2.2.1 k4_h2 k4_h15
theorem k4_off38_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h15 : k4_cond15 i k4_t2 arg11_r1 = 1#1), ∀ a, (k4_off38 arg9_r1) a + S1.size a ≤ S2.size a := fun i k4_t2 arg7_r1 arg8_r1 arg9_r1 arg10_r1 arg11_r1 k4_hw4 k4_h2 k4_h15 => k4_hw4.2.2.2.2.2.2.2.2.1 k4_h2 k4_h15
theorem k4_off39_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h17 : k4_cond17 i k4_t2 arg11_r1 = 1#1), ∀ a, (k4_off39 arg10_r1) a + S1x128x128.size a ≤ S2x128x128.size a := fun i k4_t2 arg7_r1 arg8_r1 arg9_r1 arg10_r1 arg11_r1 k4_hw4 k4_h2 k4_h17 => k4_hw4.2.2.2.2.2.2.2.2.2.1 k4_h2 k4_h17
theorem k4_off41_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h17 : k4_cond17 i k4_t2 arg11_r1 = 1#1), ∀ a, (k4_off41 i arg11_r1) a + S128x128.size a ≤ S80000x128.size a := fun i k4_t2 arg7_r1 arg8_r1 arg9_r1 arg10_r1 arg11_r1 k4_hw4 k4_h2 k4_h17 => k4_hw4.2.2.2.2.2.2.2.2.2.2.1 k4_h2 k4_h17
theorem k4_off42_inb : ∀ (i : grid4.Coords) (k4_t2 : Fin (k4_t2_loop i).trips) (arg7_r1 : BitVec 32) (arg8_r1 : BitVec 32) (arg9_r1 : BitVec 32) (arg10_r1 : BitVec 32) (arg11_r1 : BitVec 32) (k4_hw4 : k4_chk4 i k4_t2 arg7_r1 arg8_r1 arg9_r1 arg10_r1 arg11_r1), ∀ (k4_h2 : k4_cond2 i = 1#1), ∀ (k4_h17 : k4_cond17 i k4_t2 arg11_r1 = 1#1), ∀ a, (k4_off42 arg10_r1) a + S1.size a ≤ S2.size a := fun i k4_t2 arg7_r1 arg8_r1 arg9_r1 arg10_r1 arg11_r1 k4_hw4 k4_h2 k4_h17 => k4_hw4.2.2.2.2.2.2.2.2.2.2.2 k4_h2 k4_h17

def k4_cond19 (i : grid4.Coords) : BitVec 1 :=
  let c1_i32_5 : BitVec 32 := 1#32
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let v13 : BitVec 32 := Scalar.muli c1_i32_5 v7
  let c1_i32_43_r1 : BitVec 32 := 1#32
  let v56_r1 : BitVec 32 := Scalar.subi v13 c1_i32_43_r1
  let c1_i32_44_r1 : BitVec 32 := 1#32
  let v57_r1 : BitVec 32 := Scalar.muli c1_i32_44_r1 v7
  let c1_i32_46_r1 : BitVec 32 := 1#32
  let v59_r1 : BitVec 32 := Scalar.subi v57_r1 c1_i32_46_r1
  let v60_r1 : BitVec 1 := Scalar.cmpi .eq v56_r1 v59_r1
  let v80_r1 : BitVec 32 := Scalar.extui v60_r1
  let c0_i32_58_r1 : BitVec 32 := 0#32
  let v81_r1 : BitVec 1 := Scalar.cmpi .ne v80_r1 c0_i32_58_r1
  v81_r1

def k4_off43 (v50_3_r1 : BitVec 32) : Fin 3 → Nat :=
  let c2_i32_r1 : BitVec 32 := 2#32
  let v82_r1 : BitVec 32 := Scalar.remui v50_3_r1 c2_i32_r1
  let c0_i32_59_r1 : BitVec 32 := 0#32
  let c0_i32_60_r1 : BitVec 32 := 0#32
  ![v82_r1.toNat, 0, 0]

def k4_off44 (i : grid4.Coords) : Fin 2 → Nat :=
  let arg0 : BitVec 32 := BitVec.ofNat 32 (i 0).val
  let c80000_i32 : BitVec 32 := 80000#32
  let v3 : BitVec 32 := Scalar.muli arg0 c80000_i32
  let c0_i32_61_r1 : BitVec 32 := 0#32
  ![v3.toNat, 0]
def k4_off45 (i : grid4.Coords) (v50_4_r1 : BitVec 32) : Fin 2 → Nat :=
  let c128_i32_r1 : BitVec 32 := 128#32
  let true_40_r1 : BitVec 1 := 1#1
  let c1_i32_39_r1 : BitVec 32 := 1#32
  let v51_r1 : BitVec 32 := Scalar.subi v50_4_r1 c1_i32_39_r1
  let v52_r1 : BitVec 32 := Scalar.select true_40_r1 v51_r1 v50_4_r1
  let c_m1_i32_41_r1 : BitVec 32 := 4294967295#32
  let v53_r1 : BitVec 1 := Scalar.cmpi .eq v52_r1 c_m1_i32_41_r1
  let c0_i32_0 : BitVec 32 := 0#32
  let arg1 : BitVec 32 := BitVec.ofNat 32 (i 1).val
  let c1_i32 : BitVec 32 := 1#32
  let v4 : BitVec 32 := Scalar.muli arg1 c1_i32
  let v5 : BitVec 32 := Scalar.addi c0_i32_0 v4
  let c1_i32_1 : BitVec 32 := 1#32
  let v6 : BitVec 1 := Scalar.cmpi .slt v5 c1_i32_1
  let c40_i32 : BitVec 32 := 40#32
  let c39_i32 : BitVec 32 := 39#32
  let v7 : BitVec 32 := Scalar.select v6 c40_i32 c39_i32
  let c1_i32_42_r1 : BitVec 32 := 1#32
  let v54_r1 : BitVec 32 := Scalar.subi v7 c1_i32_42_r1
  let v55_r1 : BitVec 32 := Scalar.select v53_r1 v54_r1 v52_r1
  let c1_i32_2 : BitVec 32 := 1#32
  let v8 : BitVec 1 := Scalar.cmpi .slt v5 c1_i32_2
  let v9 : BitVec 32 := Scalar.muli v5 v7
  let c39_i32_3 : BitVec 32 := 39#32
  let v10 : BitVec 32 := Scalar.muli v5 c39_i32_3
  let c1_i32_4 : BitVec 32 := 1#32
  let v11 : BitVec 32 := Scalar.addi v10 c1_i32_4
  let v12 : BitVec 32 := Scalar.select v8 v9 v11
  let v61_r1 : BitVec 32 := Scalar.addi v55_r1 v12
  let v83_r1 : BitVec 32 := Scalar.muli c128_i32_r1 v61_r1
  let c0_i32_62_r1 : BitVec 32 := 0#32
  ![v83_r1.toNat, 0]

def k4_chk8 (i : grid4.Coords) (v50_4_r1 : BitVec 32) : Prop :=
  (∀ (k4_h2 : k4_cond2 i = 1#1), ∀ (k4_h19 : k4_cond19 i = 1#1), ∀ a, (k4_off45 i v50_4_r1) a + S128x128.size a ≤ S80000x128.size a)
theorem k4_off45_inb : ∀ (i : grid4.Coords) (v50_4_r1 : BitVec 32) (k4_hw8 : k4_chk8 i v50_4_r1), ∀ (k4_h2 : k4_cond2 i = 1#1), ∀ (k4_h19 : k4_cond19 i = 1#1), ∀ a, (k4_off45 i v50_4_r1) a + S128x128.size a ≤ S80000x128.size a := fun i v50_4_r1 k4_hw8 k4_h2 k4_h19 => k4_hw8 k4_h2 k4_h19

def k4_off46 (v50_3_r1 : BitVec 32) : Fin 1 → Nat :=
  let c2_i32_r1 : BitVec 32 := 2#32
  let v82_r1 : BitVec 32 := Scalar.remui v50_3_r1 c2_i32_r1
  ![v82_r1.toNat]
def k4_off47 (i : grid4.Coords) : Fin 2 → Nat :=
  let arg0 : BitVec 32 := BitVec.ofNat 32 (i 0).val
  let c80000_i32 : BitVec 32 := 80000#32
  let v3 : BitVec 32 := Scalar.muli arg0 c80000_i32
  let c0_i32_63_r1 : BitVec 32 := 0#32
  ![v3.toNat, 0]
def k4_off48 (v50_3_r1 : BitVec 32) : Fin 3 → Nat :=
  let c2_i32_r1 : BitVec 32 := 2#32
  let v82_r1 : BitVec 32 := Scalar.remui v50_3_r1 c2_i32_r1
  let c0_i32_65_r1 : BitVec 32 := 0#32
  let c0_i32_66_r1 : BitVec 32 := 0#32
  ![v82_r1.toNat, 0, 0]

def k4_chk7 (i : grid4.Coords) (v50_3_r1 : BitVec 32) : Prop :=
  (∀ (k4_h2 : k4_cond2 i = 1#1), ∀ (k4_h19 : k4_cond19 i = 1#1), ∀ a, (k4_off43 v50_3_r1) a + S1x128x128.size a ≤ S2x128x128.size a) ∧
  (∀ (k4_h2 : k4_cond2 i = 1#1), ∀ (k4_h19 : k4_cond19 i = 1#1), ∀ a, (k4_off46 v50_3_r1) a + S1.size a ≤ S2.size a) ∧
  (∀ (k4_h2 : k4_cond2 i = 1#1), ∀ (k4_h19 : k4_cond19 i = 1#1), ∀ a, (k4_off48 v50_3_r1) a + S1x128x128.size a ≤ S2x128x128.size a)
theorem k4_off43_inb : ∀ (i : grid4.Coords) (v50_3_r1 : BitVec 32) (k4_hw7 : k4_chk7 i v50_3_r1), ∀ (k4_h2 : k4_cond2 i = 1#1), ∀ (k4_h19 : k4_cond19 i = 1#1), ∀ a, (k4_off43 v50_3_r1) a + S1x128x128.size a ≤ S2x128x128.size a := fun i v50_3_r1 k4_hw7 k4_h2 k4_h19 => k4_hw7.1 k4_h2 k4_h19
theorem k4_off46_inb : ∀ (i : grid4.Coords) (v50_3_r1 : BitVec 32) (k4_hw7 : k4_chk7 i v50_3_r1), ∀ (k4_h2 : k4_cond2 i = 1#1), ∀ (k4_h19 : k4_cond19 i = 1#1), ∀ a, (k4_off46 v50_3_r1) a + S1.size a ≤ S2.size a := fun i v50_3_r1 k4_hw7 k4_h2 k4_h19 => k4_hw7.2.1 k4_h2 k4_h19
theorem k4_off48_inb : ∀ (i : grid4.Coords) (v50_3_r1 : BitVec 32) (k4_hw7 : k4_chk7 i v50_3_r1), ∀ (k4_h2 : k4_cond2 i = 1#1), ∀ (k4_h19 : k4_cond19 i = 1#1), ∀ a, (k4_off48 v50_3_r1) a + S1x128x128.size a ≤ S2x128x128.size a := fun i v50_3_r1 k4_hw7 k4_h2 k4_h19 => k4_hw7.2.2 k4_h2 k4_h19

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S384x128 : Shape := ⟨2, ![384, 128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S128x128 : Shape := ⟨2, ![128, 128]⟩
abbrev S80000x128 : Shape := ⟨2, ![80000, 128]⟩
abbrev S160000x128 : Shape := ⟨2, ![160000, 128]⟩

abbrev nBuf : Space → Nat
  | .hbm => 69
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S384x128, .f32⟩
  | .hbm, ⟨3, _⟩ => ⟨S1x320000, .i32⟩
  | .hbm, ⟨4, _⟩ => ⟨S320000, .i32⟩
  | .hbm, ⟨5, _⟩ => ⟨S1x320000, .i32⟩
  | .hbm, ⟨6, _⟩ => ⟨S320000, .i32⟩
  | .hbm, ⟨7, _⟩ => ⟨S_, .i32⟩
  | .hbm, ⟨8, _⟩ => ⟨S320000, .i32⟩
  | .hbm, ⟨9, _⟩ => ⟨S320000, .i1⟩
  | .hbm, ⟨10, _⟩ => ⟨S_, .i32⟩
  | .hbm, ⟨11, _⟩ => ⟨S320000, .i32⟩
  | .hbm, ⟨12, _⟩ => ⟨S320000, .i32⟩
  | .hbm, ⟨13, _⟩ => ⟨S320000, .i32⟩
  | .hbm, ⟨14, _⟩ => ⟨S320000x1, .i32⟩
  | .hbm, ⟨15, _⟩ => ⟨S1, .i32⟩
  | .hbm, ⟨16, _⟩ => ⟨S_, .i32⟩
  | .hbm, ⟨17, _⟩ => ⟨S320000x1, .i32⟩
  | .hbm, ⟨18, _⟩ => ⟨S320000x1, .i1⟩
  | .hbm, ⟨19, _⟩ => ⟨S1x1, .i32⟩
  | .hbm, ⟨20, _⟩ => ⟨S320000x1, .i32⟩
  | .hbm, ⟨21, _⟩ => ⟨S320000x1, .i1⟩
  | .hbm, ⟨22, _⟩ => ⟨S320000x1, .i1⟩
  | .hbm, ⟨23, _⟩ => ⟨S_, .i1⟩
  | .hbm, ⟨24, _⟩ => ⟨S320000, .i1⟩
  | .hbm, ⟨25, _⟩ => ⟨S320000x128, .f32⟩
  | .hbm, ⟨26, _⟩ => ⟨S320000x128, .i1⟩
  | .hbm, ⟨27, _⟩ => ⟨S_, .f32⟩
  | .hbm, ⟨28, _⟩ => ⟨S320000x128, .f32⟩
  | .hbm, ⟨29, _⟩ => ⟨S320000x128, .f32⟩
  | .hbm, ⟨30, _⟩ => ⟨S128x128, .f32⟩
  | .hbm, ⟨31, _⟩ => ⟨S320000x128, .f32⟩
  | .hbm, ⟨32, _⟩ => ⟨S_, .i32⟩
  | .hbm, ⟨33, _⟩ => ⟨S320000, .i32⟩
  | .hbm, ⟨34, _⟩ => ⟨S320000, .i1⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S320000, .i32⟩
  | .hbm, ⟨39, _⟩ => ⟨S320000x1, .i32⟩
  | .hbm, ⟨40, _⟩ => ⟨S1, .i32⟩
  | .hbm, ⟨41, _⟩ => ⟨S_, .i32⟩
  | .hbm, ⟨42, _⟩ => ⟨S320000x1, .i32⟩
  | .hbm, ⟨43, _⟩ => ⟨S320000x1, .i1⟩
  | .hbm, ⟨44, _⟩ => ⟨S1x1, .i32⟩
  | .hbm, ⟨45, _⟩ => ⟨S320000x1, .i32⟩
  | .hbm, ⟨46, _⟩ => ⟨S320000x1, .i1⟩
  | .hbm, ⟨47, _⟩ => ⟨S320000x1, .i1⟩
  | .hbm, ⟨48, _⟩ => ⟨S_, .i1⟩
  | .hbm, ⟨49, _⟩ => ⟨S320000, .i1⟩
  | .hbm, ⟨50, _⟩ => ⟨S320000x128, .f32⟩
  | .hbm, ⟨51, _⟩ => ⟨S320000x128, .i1⟩
  | .hbm, ⟨52, _⟩ => ⟨S_, .f32⟩
  | .hbm, ⟨53, _⟩ => ⟨S320000x128, .f32⟩
  | .hbm, ⟨54, _⟩ => ⟨S320000x128, .f32⟩
  | .hbm, ⟨55, _⟩ => ⟨S128x128, .f32⟩
  | .hbm, ⟨56, _⟩ => ⟨S320000x128, .f32⟩
  | .hbm, ⟨57, _⟩ => ⟨S80000x128, .f32⟩
  | .hbm, ⟨58, _⟩ => ⟨S80000x128, .f32⟩
  | .hbm, ⟨59, _⟩ => ⟨S160000x128, .f32⟩
  | .hbm, ⟨60, _⟩ => ⟨S80000x128, .f32⟩
  | .hbm, ⟨61, _⟩ => ⟨S80000x128, .f32⟩
  | .hbm, ⟨62, _⟩ => ⟨S160000x128, .f32⟩
  | .hbm, ⟨63, _⟩ => ⟨S80000x128, .f32⟩
  | .hbm, ⟨64, _⟩ => ⟨S80000x128, .f32⟩
  | .hbm, ⟨65, _⟩ => ⟨S160000x128, .f32⟩
  | .hbm, ⟨66, _⟩ => ⟨S80000x128, .f32⟩
  | .hbm, ⟨67, _⟩ => ⟨S80000x128, .f32⟩
  | .hbm, ⟨68, _⟩ => ⟨S160000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩

abbrev nD : Nat := 1
abbrev τ : Topo := Topo.v7x

variable {F : FTy → Type} [FloatOps F]
-- ==== Edges.lean ====
abbrev S320000x128 : Shape := ⟨2, ![320000, 128]⟩
abbrev S160000x128 : Shape := ⟨2, ![160000, 128]⟩
abbrev S384x128 : Shape := ⟨2, ![384, 128]⟩
abbrev S128 : Shape := ⟨1, ![128]⟩
abbrev S128x128 : Shape := ⟨2, ![128, 128]⟩
abbrev S10000x128 : Shape := ⟨2, ![10000, 128]⟩
abbrev S1x128 : Shape := ⟨2, ![1, 128]⟩
abbrev S10000 : Shape := ⟨1, ![10000]⟩
abbrev S10000x1 : Shape := ⟨2, ![10000, 1]⟩

abbrev nBuf : Space → Nat
  | .hbm => 32
  | .vmem => 56
  | .smem => 0
  | _ => 0

abbrev bufTy : (tb : Table) → Fin (tcTables nBuf tb) → BufTy
  | .hbm, ⟨0, _⟩ => ⟨S320000x128, .f32⟩
  | .hbm, ⟨1, _⟩ => ⟨S160000x128, .f32⟩
  | .hbm, ⟨2, _⟩ => ⟨S160000x128, .f32⟩
  | .hbm, ⟨3, _⟩ => ⟨S160000x128, .f32⟩
  | .hbm, ⟨4, _⟩ => ⟨S160000x128, .f32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S10000x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S320000x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S320000x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S320000x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S320000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S10000x128, .f32⟩
  | .local _ .vmem, ⟨47, _⟩ => ⟨S10000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S10000x128, .f32⟩
  | .local _ .vmem, ⟨55, _⟩ => ⟨S10000x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg9_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem9_1 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S10000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S10000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]
-- ==== EdgesReferenceIdeal.lean ====
abbrev S320000x128 : Shape := ⟨2, ![320000, 128]⟩
abbrev S160000x128 : Shape := ⟨2, ![160000, 128]⟩
abbrev S384x128 : Shape := ⟨2, ![384, 128]⟩
abbrev S128 : Shape := ⟨1, ![128]⟩
abbrev S128x128 : Shape := ⟨2, ![128, 128]⟩
abbrev S10000x128 : Shape := ⟨2, ![10000, 128]⟩
abbrev S80000x128 : Shape := ⟨2, ![80000, 128]⟩
abbrev S1x128 : Shape := ⟨2, ![1, 128]⟩
abbrev S_ : Shape := ⟨0, ![]⟩
abbrev S320000 : Shape := ⟨1, ![320000]⟩
abbrev S320000x1 : Shape := ⟨2, ![320000, 1]⟩

abbrev nBuf : Space → Nat
  | .hbm => 87
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S160000x128, .f32⟩
  | .hbm, ⟨2, _⟩ => ⟨S160000x128, .f32⟩
  | .hbm, ⟨3, _⟩ => ⟨S160000x128, .f32⟩
  | .hbm, ⟨4, _⟩ => ⟨S160000x128, .f32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S10000x128, .f32⟩
  | .hbm, ⟨12, _⟩ => ⟨S80000x128, .f32⟩
  | .hbm, ⟨13, _⟩ => ⟨S80000x128, .f32⟩
  | .hbm, ⟨14, _⟩ => ⟨S80000x128, .f32⟩
  | .hbm, ⟨15, _⟩ => ⟨S80000x128, .f32⟩
  | .hbm, ⟨16, _⟩ => ⟨S320000x128, .f32⟩
  | .hbm, ⟨17, _⟩ => ⟨S80000x128, .f32⟩
  | .hbm, ⟨18, _⟩ => ⟨S80000x128, .f32⟩
  | .hbm, ⟨19, _⟩ => ⟨S80000x128, .f32⟩
  | .hbm, ⟨20, _⟩ => ⟨S80000x128, .f32⟩
  | .hbm, ⟨21, _⟩ => ⟨S320000x128, .f32⟩
  | .hbm, ⟨22, _⟩ => ⟨S128x128, .f32⟩
  | .hbm, ⟨23, _⟩ => ⟨S320000x128, .f32⟩
  | .hbm, ⟨24, _⟩ => ⟨S320000x128, .f32⟩
  | .hbm, ⟨25, _⟩ => ⟨S320000x128, .f32⟩
  | .hbm, ⟨26, _⟩ => ⟨S1x128, .f32⟩
  | .hbm, ⟨27, _⟩ => ⟨S320000x128, .f32⟩
  | .hbm, ⟨28, _⟩ => ⟨S320000x128, .f32⟩
  | .hbm, ⟨29, _⟩ => ⟨S320000x128, .f32⟩
  | .hbm, ⟨30, _⟩ => ⟨S320000x128, .f32⟩
  | .hbm, ⟨31, _⟩ => ⟨S_, .f32⟩
  | .hbm, ⟨32, _⟩ => ⟨S320000x128, .f32⟩
  | .hbm, ⟨33, _⟩ => ⟨S320000x128, .f32⟩
  | .hbm, ⟨34, _⟩ => ⟨S_, .f32⟩
  | .hbm, ⟨35, _⟩ => ⟨S320000x128, .f32⟩
  | .hbm, ⟨36, _⟩ => ⟨S320000x128, .f32⟩
  | .hbm, ⟨37, _⟩ => ⟨S320000x128, .f32⟩
  | .hbm, ⟨38, _⟩ => ⟨S320000x128, .f32⟩
  | .hbm, ⟨39, _⟩ => ⟨S1x128, .f32⟩
  | .hbm, ⟨40, _⟩ => ⟨S320000x128, .f32⟩
  | .hbm, ⟨41, _⟩ => ⟨S320000x128, .f32⟩
  | .hbm, ⟨42, _⟩ => ⟨S_, .f32⟩
  | .hbm, ⟨43, _⟩ => ⟨S320000, .f32⟩
  | .hbm, ⟨44, _⟩ => ⟨S320000x1, .f32⟩
  | .hbm, ⟨45, _⟩ => ⟨S_, .f32⟩
  | .hbm, ⟨46, _⟩ => ⟨S320000x1, .f32⟩
  | .hbm, ⟨47, _⟩ => ⟨S320000x1, .f32⟩
  | .hbm, ⟨48, _⟩ => ⟨S_, .i32⟩
  | .hbm, ⟨49, _⟩ => ⟨S_, .f32⟩
  | .hbm, ⟨50, _⟩ => ⟨S320000, .f32⟩
  | .hbm, ⟨51, _⟩ => ⟨S320000x1, .f32⟩
  | .hbm, ⟨52, _⟩ => ⟨S_, .f32⟩
  | .hbm, ⟨53, _⟩ => ⟨S320000x1, .f32⟩
  | .hbm, ⟨54, _⟩ => ⟨S320000x1, .f32⟩
  | .hbm, ⟨55, _⟩ => ⟨S320000x128, .f32⟩
  | .hbm, ⟨56, _⟩ => ⟨S320000x128, .f32⟩
  | .hbm, ⟨57, _⟩ => ⟨S320000x128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S320000, .f32⟩
  | .hbm, ⟨63, _⟩ => ⟨S320000x1, .f32⟩
  | .hbm, ⟨64, _⟩ => ⟨S320000x1, .f32⟩
  | .hbm, ⟨65, _⟩ => ⟨S320000x1, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S320000x1, .f32⟩
  | .hbm, ⟨71, _⟩ => ⟨S320000x1, .f32⟩
  | .hbm, ⟨72, _⟩ => ⟨S320000x128, .f32⟩
  | .hbm, ⟨73, _⟩ => ⟨S320000x128, .f32⟩
  | .hbm, ⟨74, _⟩ => ⟨S_, .f32⟩
  | .hbm, ⟨75, _⟩ => ⟨S320000x1, .f32⟩
  | .hbm, ⟨76, _⟩ => ⟨S320000x1, .f32⟩
  | .hbm, ⟨77, _⟩ => ⟨S320000x1, .f32⟩
  | .hbm, ⟨78, _⟩ => ⟨S320000x128, .f32⟩
  | .hbm, ⟨79, _⟩ => ⟨S320000x128, .f32⟩
  | .hbm, ⟨80, _⟩ => ⟨S1x128, .f32⟩
  | .hbm, ⟨81, _⟩ => ⟨S320000x128, .f32⟩
  | .hbm, ⟨82, _⟩ => ⟨S320000x128, .f32⟩
  | .hbm, ⟨83, _⟩ => ⟨S1x128, .f32⟩
  | .hbm, ⟨84, _⟩ => ⟨S320000x128, .f32⟩
  | .hbm, ⟨85, _⟩ => ⟨S320000x128, .f32⟩
  | .hbm, ⟨86, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_cst_0 : Ref sig .tc := ⟨.hbm, 45, rfl⟩
abbrev main_v24 : Ref sig .tc := ⟨.hbm, 46, rfl⟩
abbrev main_v25 : Ref sig .tc := ⟨.hbm, 47, rfl⟩
abbrev main_c : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_cst_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_cst_1 : Ref sig .tc := ⟨.hbm, 59, rfl⟩
abbrev main_call1_v8 : Ref sig .tc := ⟨.hbm, 60, rfl⟩
abbrev main_call1_cst_2 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_cst_3 : Ref sig .tc := ⟨.hbm, 66, rfl⟩
abbrev main_call1_v13 : Ref sig .tc := ⟨.hbm, 67, rfl⟩
abbrev main_call1_cst_4 : Ref sig .tc := ⟨.hbm, 68, rfl⟩
abbrev main_call1_call0_v0 : Ref sig .tc := ⟨.hbm, 69, rfl⟩
abbrev main_call1_call0_v1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_1 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩

abbrev nD : Nat := 1
abbrev τ : Topo := Topo.v7x

variable {F : FTy → Type} [FloatOps F]
-- ==== Proof.Common.lean ====
/-
  What every module of the proof speaks of: the program as the launch theorem sees it, the resource algebra (the
  handshakes' rounds, the barrier cells', the TensorCore regions', the transfers' counters).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 4) (Elt F) ℕ UU ℕ

abbrev EH : Emb UH (MT nD τ sig (HIx 4) (Elt F) ℕ UU ℕ) := embL
/-- The barrier cells' rounds library. -/
def EB : Emb UB (MT nD τ sig (HIx 4) (Elt F) ℕ UU ℕ) :=
  ((Emb.inl : Emb UB (UB × (UP × Counters))).trans (Emb.inr : Emb (UB × (UP × Counters)) UU)).trans
    (uEmb (nD := nD) (sig := sig) (Ix := HIx 4) (Val := Elt F) (Name := ℕ) (U := UU) (Lvl := ℕ)).toEmb
instance EB_landsIn : (EB : Emb UB 𝕄).LandsIn (upEmb : UEmb _ 𝕄) := by unfold EB; infer_instance
/-- The TensorCore regions' rounds library. -/
def EP : Emb UP (MT nD τ sig (HIx 4) (Elt F) ℕ UU ℕ) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 4) (Val := Elt F) (Name := ℕ) (U := UU) (Lvl := ℕ)).toEmb
instance EP_landsIn : (EP : Emb UP 𝕄).LandsIn (upEmb : UEmb _ 𝕄) := by unfold EP; infer_instance

end Cert.Proof

end
-- ==== Proof.Gather.lean ====
/-
  The four gather calls run one text: they differ only in the block of windows each starts from. The text is given here
  once, over the functions of the tile and the trip that a call computes (`Starts`) and over the arrays, buffers and
  semaphores a call hands it (`Refs`), and each of the four printed kernels is shown to be it.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option synthInstance.maxSize 4096

noncomputable section

namespace Cert.Proof

open Cert.KernelIdeal Cert.KernelIdeal.Gen
open Idealize.ShloMosaic Idealize.SL.Sem

/-- What a gather call computes of the tile and the trip: its conditions, its loops' bounds, where its windows lie, and
    the checks that they lie inside the arrays. -/
structure Starts where
  sb : BitVec 32
  cond1 : grid1.Coords → BitVec 1
  cond2 : grid1.Coords → BitVec 1
  cond3 : grid1.Coords → BitVec 1
  cond19 : grid1.Coords → BitVec 1
  t1_loop : grid1.Coords → Scf.Loop 32
  t2_loop : grid1.Coords → Scf.Loop 32
  t1_ok : ∀ i : grid1.Coords, cond2 i = 1#1 → (t1_loop i).OK
  t2_ok : ∀ i : grid1.Coords, cond2 i = 1#1 → (t2_loop i).OK
  cond4 : (i : grid1.Coords) → Fin (t1_loop i).trips → BitVec 32 → BitVec 1
  cond5 : (i : grid1.Coords) → Fin (t1_loop i).trips → BitVec 32 → BitVec 1
  cond8 : (i : grid1.Coords) → Fin (t1_loop i).trips → BitVec 32 → BitVec 1
  cond10 : (i : grid1.Coords) → Fin (t1_loop i).trips → BitVec 32 → BitVec 1
  off1 : grid1.Coords → Fin 2 → Nat
  off2 : grid1.Coords → Fin 2 → Nat
  off4 : grid1.Coords → Fin 3 → Nat
  off5 : grid1.Coords → Fin 2 → Nat
  off8 : grid1.Coords → Fin 3 → Nat
  off12 : grid1.Coords → Fin 3 → Nat
  off18 : grid1.Coords → Fin 2 → Nat
  off22 : grid1.Coords → Fin 2 → Nat
  off47 : grid1.Coords → Fin 2 → Nat
  off3 : Fin 3 → Nat
  off6 : Fin 1 → Nat
  off7 : BitVec 32 → Fin 3 → Nat
  off10 : BitVec 32 → Fin 1 → Nat
  off11 : BitVec 32 → Fin 3 → Nat
  off14 : BitVec 32 → Fin 1 → Nat
  off15 : BitVec 32 → Fin 3 → Nat
  off16 : BitVec 32 → Fin 3 → Nat
  off17 : BitVec 32 → Fin 3 → Nat
  off20 : BitVec 32 → Fin 1 → Nat
  off21 : BitVec 32 → Fin 3 → Nat
  off24 : BitVec 32 → Fin 1 → Nat
  off46 : BitVec 32 → Fin 1 → Nat
  off48 : BitVec 32 → Fin 3 → Nat
  off9 : grid1.Coords → BitVec 32 → Fin 2 → Nat
  off13 : grid1.Coords → BitVec 32 → Fin 2 → Nat
  off19 : grid1.Coords → BitVec 32 → Fin 2 → Nat
  off23 : grid1.Coords → BitVec 32 → Fin 2 → Nat
  off45 : grid1.Coords → BitVec 32 → Fin 2 → Nat
  chk1 : (i : grid1.Coords) → Fin (t1_loop i).trips → BitVec 32 → BitVec 32 → BitVec 32 → BitVec 32 → BitVec 32 → Prop
  chk2 : grid1.Coords → BitVec 32 → Prop
  chk3 : grid1.Coords → BitVec 32 → Prop
  chk7 : grid1.Coords → BitVec 32 → Prop
  chk8 : grid1.Coords → BitVec 32 → Prop
  chk1dec : ∀ (i : grid1.Coords) (t : Fin (t1_loop i).trips) (a7 a8 a9 a10 a11 : BitVec 32), Decidable (chk1 i t a7 a8 a9 a10 a11)
  chk2dec : ∀ (i : grid1.Coords) (a : BitVec 32), Decidable (chk2 i a)
  chk3dec : ∀ (i : grid1.Coords) (a : BitVec 32), Decidable (chk3 i a)
  chk7dec : ∀ (i : grid1.Coords) (a : BitVec 32), Decidable (chk7 i a)
  chk8dec : ∀ (i : grid1.Coords) (a : BitVec 32), Decidable (chk8 i a)
  off1_inb : ∀ (i : grid1.Coords) (_ : cond1 i = 1#1), ∀ x, (off1 i) x + S1000x128.size x ≤ S10000x128.size x
  off2_inb : ∀ (i : grid1.Coords) (_ : cond1 i = 1#1), ∀ x, (off2 i) x + S1000x128.size x ≤ S20000x128.size x
  off3_inb : ∀ (i : grid1.Coords) (_ : cond2 i = 1#1) (_ : cond3 i = 1#1), ∀ x, (off3) x + S1x1x128.size x ≤ S2x1x128.size x
  off4_inb : ∀ (i : grid1.Coords) (_ : cond2 i = 1#1) (_ : cond3 i = 1#1), ∀ x, (off4 i) x + S1x1x320000.size x ≤ S2x1x320000.size x
  off5_inb : ∀ (i : grid1.Coords) (_ : cond2 i = 1#1) (_ : cond3 i = 1#1), ∀ x, (off5 i) x + S1x128.size x ≤ S1x320000.size x
  off6_inb : ∀ (i : grid1.Coords) (_ : cond2 i = 1#1) (_ : cond3 i = 1#1), ∀ x, (off6) x + S1.size x ≤ S2.size x
  off8_inb : ∀ (i : grid1.Coords) (_ : cond2 i = 1#1), ∀ x, (off8 i) x + S1x1x320000.size x ≤ S2x1x320000.size x
  off12_inb : ∀ (i : grid1.Coords) (_ : cond2 i = 1#1), ∀ x, (off12 i) x + S1x1x320000.size x ≤ S2x1x320000.size x
  off15_inb : ∀ (i : grid1.Coords) (a9 : BitVec 32) (_ : chk2 i a9) (_ : cond2 i = 1#1), ∀ x, (off15 a9) x + S1x128x128.size x ≤ S2x128x128.size x
  off16_inb : ∀ (i : grid1.Coords) (a8 : BitVec 32) (_ : chk3 i a8) (_ : cond2 i = 1#1), ∀ x, (off16 a8) x + S1x1x128.size x ≤ S2x1x128.size x
  off18_inb : ∀ (i : grid1.Coords) (_ : cond2 i = 1#1), ∀ x, (off18 i) x + S80000x128.size x ≤ S160000x128.size x
  off22_inb : ∀ (i : grid1.Coords) (_ : cond2 i = 1#1), ∀ x, (off22 i) x + S80000x128.size x ≤ S160000x128.size x
  off7_inb : ∀ (i : grid1.Coords) (t : Fin (t1_loop i).trips) (a7 a8 a9 a10 a11 : BitVec 32) (_ : chk1 i t a7 a8 a9 a10 a11) (_ : cond2 i = 1#1)
    (_ : cond4 i t a11 = 1#1), ∀ x, (off7 a7) x + S1x1x128.size x ≤ S2x1x128.size x
  off9_inb : ∀ (i : grid1.Coords) (t : Fin (t1_loop i).trips) (a7 a8 a9 a10 a11 : BitVec 32) (_ : chk1 i t a7 a8 a9 a10 a11) (_ : cond2 i = 1#1)
    (_ : cond4 i t a11 = 1#1), ∀ x, (off9 i a11) x + S1x128.size x ≤ S1x320000.size x
  off10_inb : ∀ (i : grid1.Coords) (t : Fin (t1_loop i).trips) (a7 a8 a9 a10 a11 : BitVec 32) (_ : chk1 i t a7 a8 a9 a10 a11) (_ : cond2 i = 1#1)
    (_ : cond4 i t a11 = 1#1), ∀ x, (off10 a7) x + S1.size x ≤ S2.size x
  off11_inb : ∀ (i : grid1.Coords) (t : Fin (t1_loop i).trips) (a7 a8 a9 a10 a11 : BitVec 32) (_ : chk1 i t a7 a8 a9 a10 a11) (_ : cond2 i = 1#1)
    (_ : cond5 i t a11 = 1#1), ∀ x, (off11 a8) x + S1x1x128.size x ≤ S2x1x128.size x
  off13_inb : ∀ (i : grid1.Coords) (t : Fin (t1_loop i).trips) (a7 a8 a9 a10 a11 : BitVec 32) (_ : chk1 i t a7 a8 a9 a10 a11) (_ : cond2 i = 1#1)
    (_ : cond5 i t a11 = 1#1), ∀ x, (off13 i a11) x + S1x128.size x ≤ S1x320000.size x
  off14_inb : ∀ (i : grid1.Coords) (t : Fin (t1_loop i).trips) (a7 a8 a9 a10 a11 : BitVec 32) (_ : chk1 i t a7 a8 a9 a10 a11) (_ : cond2 i = 1#1)
    (_ : cond5 i t a11 = 1#1), ∀ x, (off14 a8) x + S1.size x ≤ S2.size x
  off17_inb : ∀ (i : grid1.Coords) (t : Fin (t1_loop i).trips) (a7 a8 a9 a10 a11 : BitVec 32) (_ : chk1 i t a7 a8 a9 a10 a11) (_ : cond2 i = 1#1)
    (_ : cond8 i t a11 = 1#1), ∀ x, (off17 a9) x + S1x128x128.size x ≤ S2x128x128.size x
  off19_inb : ∀ (i : grid1.Coords) (t : Fin (t1_loop i).trips) (a7 a8 a9 a10 a11 : BitVec 32) (_ : chk1 i t a7 a8 a9 a10 a11) (_ : cond2 i = 1#1)
    (_ : cond8 i t a11 = 1#1), ∀ x, (off19 i a11) x + S128x128.size x ≤ S80000x128.size x
  off20_inb : ∀ (i : grid1.Coords) (t : Fin (t1_loop i).trips) (a7 a8 a9 a10 a11 : BitVec 32) (_ : chk1 i t a7 a8 a9 a10 a11) (_ : cond2 i = 1#1)
    (_ : cond8 i t a11 = 1#1), ∀ x, (off20 a9) x + S1.size x ≤ S2.size x
  off21_inb : ∀ (i : grid1.Coords) (t : Fin (t1_loop i).trips) (a7 a8 a9 a10 a11 : BitVec 32) (_ : chk1 i t a7 a8 a9 a10 a11) (_ : cond2 i = 1#1)
    (_ : cond10 i t a11 = 1#1), ∀ x, (off21 a10) x + S1x128x128.size x ≤ S2x128x128.size x
  off23_inb : ∀ (i : grid1.Coords) (t : Fin (t1_loop i).trips) (a7 a8 a9 a10 a11 : BitVec 32) (_ : chk1 i t a7 a8 a9 a10 a11) (_ : cond2 i = 1#1)
    (_ : cond10 i t a11 = 1#1), ∀ x, (off23 i a11) x + S128x128.size x ≤ S80000x128.size x
  off24_inb : ∀ (i : grid1.Coords) (t : Fin (t1_loop i).trips) (a7 a8 a9 a10 a11 : BitVec 32) (_ : chk1 i t a7 a8 a9 a10 a11) (_ : cond2 i = 1#1)
    (_ : cond10 i t a11 = 1#1), ∀ x, (off24 a10) x + S1.size x ≤ S2.size x
  off45_inb : ∀ (i : grid1.Coords) (a : BitVec 32) (_ : chk8 i a) (_ : cond2 i = 1#1) (_ : cond19 i = 1#1), ∀ x, (off45 i a) x + S128x128.size x ≤ S80000x128.size x
  off46_inb : ∀ (i : grid1.Coords) (a : BitVec 32) (_ : chk7 i a) (_ : cond2 i = 1#1) (_ : cond19 i = 1#1), ∀ x, (off46 a) x + S1.size x ≤ S2.size x
  off47_inb : ∀ (i : grid1.Coords) (_ : cond2 i = 1#1) (_ : cond19 i = 1#1), ∀ x, (off47 i) x + S80000x128.size x ≤ S160000x128.size x
  off48_inb : ∀ (i : grid1.Coords) (a : BitVec 32) (_ : chk7 i a) (_ : cond2 i = 1#1) (_ : cond19 i = 1#1), ∀ x, (off48 a) x + S1x128x128.size x ≤ S2x128x128.size x

/-- What a gather call is handed: the table of rows, the list of row numbers, the gathered rows, the SparseCore's shared
    scratch, and the subcore's own index and row buffers with the semaphores of their copies. -/
structure Refs where
  tab : Memref sig .scVector .hbm S20000x128 .f32
  idx : Memref sig .scVector .hbm S2x1x320000 .i32
  out : Memref sig .scVector .hbm S160000x128 .f32
  sh : Memref sig .scVector .shared S10000x128 .f32
  sTab : DmaSems sig S_
  ibuf : Memref sig .scVector .vmem S2x1x128 .i32
  sIn : DmaSems sig S2
  obuf : Memref sig .scVector .vmem S2x128x128 .f32
  sOut : DmaSems sig S2
  sG : DmaSems sig S_

variable {F : FTy → Type} [FloatOps F]

/-- A trip of the second counted loop, which makes none. -/
abbrev Body2 (F : FTy → Type) [FloatOps F] (G : Starts) (i : grid1.Coords) : Type _ :=
  G.cond2 i = 1#1 → BitVec 32 → BitVec 32 → BitVec 32 → BitVec 32 → BitVec 32 → BitVec 32 → BitVec 32 → BitVec 32 →
    Fin (G.t2_loop i).trips → BitVec 32 × BitVec 32 × BitVec 32 × BitVec 32 × BitVec 32 →
      Prog (TpuEff nD τ sig (Elt F) Λ₀ (.scVector ((i 0).castLE hcore1) ((i 1).castLE hsub1))) (BitVec 32 × BitVec 32 × BitVec 32 × BitVec 32 × BitVec 32)

set_option cleanup.letToHave false in
/-- Start of a trip: the checks of its window numbers, and the fetch of the next index window while one is left. -/
def gpart1 (G : Starts) (R : Refs) (i : grid1.Coords) (v7 : BitVec 32) (v12 : BitVec 32) (k1_h2 : G.cond2 i = 1#1) (c0_i32_31 : BitVec 32) (c1_i32_37 : BitVec 32) (k1_t1 : Fin (G.t1_loop i).trips) (arg7 : BitVec 32) (arg8 : BitVec 32) (arg9 : BitVec 32) (arg10 : BitVec 32) (arg11 : BitVec 32) :
    Prog (TpuEff nD τ sig (Elt F) Λ₀ (.scVector ((i 0).castLE hcore1) ((i 1).castLE hsub1))) (Σ' (k1_hw3 : G.chk3 i arg8) (k1_hw2 : G.chk2 i arg9) (k1_hw1 : G.chk1 i k1_t1 arg7 arg8 arg9 arg10 arg11) (arg6 : BitVec 32) (v82 : BitVec 32) (v83 : BitVec 1) (v85 : BitVec 1) (v86 : BitVec 32) (v92 : BitVec 32) (v97 : BitVec 32) (v103 : BitVec 32) (v104 : BitVec 32) (v114 : BitVec 1), BitVec 32) := do
  have k1_hw3 : G.chk3 i arg8 := (← Prog.lift (TpuEff.assume (G.chk3 i arg8) (G.chk3dec i arg8))).down
  have k1_hw2 : G.chk2 i arg9 := (← Prog.lift (TpuEff.assume (G.chk2 i arg9) (G.chk2dec i arg9))).down
  have k1_hw1 : G.chk1 i k1_t1 arg7 arg8 arg9 arg10 arg11 := (← Prog.lift (TpuEff.assume (G.chk1 i k1_t1 arg7 arg8 arg9 arg10 arg11) (G.chk1dec i k1_t1 arg7 arg8 arg9 arg10 arg11))).down
  let arg6 : BitVec 32 := Scf.iv c0_i32_31 c1_i32_37 k1_t1
  let v82 : BitVec 32 := Scalar.muli 1#32 v7
  let v83 : BitVec 1 := Scalar.cmpi .eq arg6 0#32
  let v84 : BitVec 32 := Scalar.subi v82 1#32
  let v85 : BitVec 1 := Scalar.cmpi .eq arg6 v84
  let v86 : BitVec 32 := Scalar.addi arg11 v12
  let v87 : BitVec 32 := Scalar.subi arg11 1#32
  let v88 : BitVec 32 := Scalar.select 1#1 v87 arg11
  let v89 : BitVec 1 := Scalar.cmpi .eq v88 4294967295#32
  let v90 : BitVec 32 := Scalar.subi v7 1#32
  let v91 : BitVec 32 := Scalar.select v89 v90 v88
  let v92 : BitVec 32 := Scalar.addi v91 v12
  let v93 : BitVec 32 := Scalar.addi arg11 1#32
  let v94 : BitVec 32 := Scalar.select 1#1 v93 arg11
  let v95 : BitVec 1 := Scalar.cmpi .eq v94 v7
  let v96 : BitVec 32 := Scalar.select v95 0#32 v94
  let v97 : BitVec 32 := Scalar.addi v96 v12
  let v103 : BitVec 32 := Scalar.addi v86 G.sb
  let v104 : BitVec 32 := Scalar.addi v97 G.sb
  let v105 : BitVec 1 := Scalar.cmpi .ne v103 v104
  let v106 : BitVec 32 := Scalar.subi v82 2#32
  let v107 : BitVec 32 := Scalar.addi v106 1#32
  let v108 : BitVec 1 := Scalar.cmpi .sge arg6 v107
  let v109 : BitVec 1 := Scalar.xori v108 1#1
  let v110 : BitVec 1 := Scalar.andi v105 v109
  if k1_h4 : G.cond4 i k1_t1 arg11 = 1#1 then do
    let v180 : DmaSems sig S1 := R.sIn.slice (Rect.unit (s := S2) (G.off10 arg7) S1.size (G.off10_inb i k1_t1 arg7 arg8 arg9 arg10 arg11 k1_hw1 k1_h2 k1_h4))
    let v181 : DmaSems sig S_ := v180.squeeze S_ squeezes_S1_S_
    let v182 : Memref sig .scVector .vmem S1x1x128 .i32 := R.ibuf.slice (Rect.unit (s := S2x1x128) (G.off7 arg7) S1x1x128.size (G.off7_inb i k1_t1 arg7 arg8 arg9 arg10 arg11 k1_hw1 k1_h2 k1_h4)) (fun _ => rfl)
    let v183 : Memref sig .scVector .vmem S1x128 .i32 := v182.squeeze S1x128 squeezes_S1x1x128_S1x128
    let v184 : Memref sig .scVector .hbm S1x1x320000 .i32 := R.idx.slice (Rect.unit (s := S2x1x320000) (G.off8 i) S1x1x320000.size (G.off8_inb i k1_h2)) (fun _ => rfl)
    let v185 : Memref sig .scVector .hbm S1x320000 .i32 := v184.squeeze S1x320000 squeezes_S1x1x320000_S1x320000
    let v186 : Memref sig .scVector .hbm S1x128 .i32 := v185.slice (Rect.unit (s := S1x320000) (G.off9 i arg11) S1x128.size (G.off9_inb i k1_t1 arg7 arg8 arg9 arg10 arg11 k1_hw1 k1_h2 k1_h4)) (fun _ => rfl)
    Prog.lift (.enqueueDma v186 (.here v183) (.dma v181.sem) (View.wordExact_bits rfl) ((View.wordExact_bits rfl).reshape _ _) ⟨Or.inl rfl, trivial⟩)
    pure ⟨⟩
  else do
    pure ⟨⟩
  let v114 : BitVec 1 := Scalar.andi v110 1#1
  pure ⟨k1_hw3, k1_hw2, k1_hw1, arg6, v82, v83, v85, v86, v92, v97, v103, v104, v114, 1#32⟩

set_option cleanup.letToHave false in
/-- The wait for this trip's index window, and the start of the gather of the rows it names. -/
def gpart2 (G : Starts) (R : Refs) (i : grid1.Coords) (k1_h2 : G.cond2 i = 1#1) (k1_t1 : Fin (G.t1_loop i).trips) (arg7 : BitVec 32) (arg8 : BitVec 32) (arg9 : BitVec 32) (arg10 : BitVec 32) (arg11 : BitVec 32) (k1_hw3 : G.chk3 i arg8) (k1_hw2 : G.chk2 i arg9) (k1_hw1 : G.chk1 i k1_t1 arg7 arg8 arg9 arg10 arg11) (arg6 : BitVec 32) (v82 : BitVec 32) (v83 : BitVec 1) (v86 : BitVec 32) (v92 : BitVec 32) (v97 : BitVec 32) (v103 : BitVec 32) (v114 : BitVec 1) (c1_i32_79 : BitVec 32) :
    Prog (TpuEff nD τ sig (Elt F) Λ₀ (.scVector ((i 0).castLE hcore1) ((i 1).castLE hsub1))) (Σ' (v116 : BitVec 32), BitVec 32) := do
  let v115 : BitVec 32 := Scalar.addi arg7 c1_i32_79
  let v116 : BitVec 32 := Scalar.select v114 v115 arg7
  let v123 : BitVec 32 := Scalar.addi v92 G.sb
  if k1_h5 : G.cond5 i k1_t1 arg11 = 1#1 then do
    let v180 : DmaSems sig S1 := R.sIn.slice (Rect.unit (s := S2) (G.off14 arg8) S1.size (G.off14_inb i k1_t1 arg7 arg8 arg9 arg10 arg11 k1_hw1 k1_h2 k1_h5))
    let v181 : DmaSems sig S_ := v180.squeeze S_ squeezes_S1_S_
    let v182 : Memref sig .scVector .vmem S1x1x128 .i32 := R.ibuf.slice (Rect.unit (s := S2x1x128) (G.off11 arg8) S1x1x128.size (G.off11_inb i k1_t1 arg7 arg8 arg9 arg10 arg11 k1_hw1 k1_h2 k1_h5)) (fun _ => rfl)
    let v183 : Memref sig .scVector .vmem S1x128 .i32 := v182.squeeze S1x128 squeezes_S1x1x128_S1x128
    let v184 : Memref sig .scVector .hbm S1x1x320000 .i32 := R.idx.slice (Rect.unit (s := S2x1x320000) (G.off12 i) S1x1x320000.size (G.off12_inb i k1_h2)) (fun _ => rfl)
    let v185 : Memref sig .scVector .hbm S1x320000 .i32 := v184.squeeze S1x320000 squeezes_S1x1x320000_S1x320000
    let v186 : Memref sig .scVector .hbm S1x128 .i32 := v185.slice (Rect.unit (s := S1x320000) (G.off13 i arg11) S1x128.size (G.off13_inb i k1_t1 arg7 arg8 arg9 arg10 arg11 k1_hw1 k1_h2 k1_h5)) (fun _ => rfl)
    Prog.lift (.waitDma2 v181.sem v186 v183 (View.wordExact_bits rfl) ((View.wordExact_bits rfl).reshape _ _))
    pure ⟨⟩
  else do
    pure ⟨⟩
  let v130 : BitVec 1 := Scalar.cmpi .ne v86 v92
  let v131 : BitVec 1 := Scalar.ori v130 v83
  let v132 : BitVec 1 := Scalar.cmpi .sge arg6 0#32
  let v133 : BitVec 1 := Scalar.andi v131 v132
  let v134 : BitVec 32 := Scalar.extui v133
  let v135 : BitVec 1 := Scalar.cmpi .ne v134 0#32
  if v135 = 1#1 then do
    pure ⟨⟩
  else do
    pure ⟨⟩
  let v173' : Memref sig .scVector .vmem S1x128x128 .f32 := R.obuf.slice (Rect.unit (s := S2x128x128) (G.off15 arg9) S1x128x128.size (G.off15_inb i arg9 k1_hw2 k1_h2)) (fun _ => rfl)
  let v174' : Memref sig .scVector .vmem S128x128 .f32 := v173'.squeeze S128x128 squeezes_S1x128x128_S128x128
  let v175' : Memref sig .scVector .vmem S1x1x128 .i32 := R.ibuf.slice (Rect.unit (s := S2x1x128) (G.off16 arg8) S1x1x128.size (G.off16_inb i arg8 k1_hw3 k1_h2)) (fun _ => rfl)
  let v176' : Memref sig .scVector .vmem S1x128 .i32 := v175'.squeeze S1x128 squeezes_S1x1x128_S1x128
  let v177' : Memref sig .scVector .vmem S1x128 .i32 := v176'.slice (Rect.unit (s := S1x128) ![0, 0] S1x128.size inb_S1x128_S1x128_0_0) (fun _ => rfl)
  let v178' : Memref sig .scVector .vmem S128 .i32 := v177'.squeeze S128 squeezes_S1x128_S128
  let v179' : Memref sig .scVector .shared S10000x128 .f32 := R.sh.slice (Rect.unit (s := S10000x128) ![0, 0] S10000x128.size inb_S10000x128_S10000x128_0_0) (fun _ => rfl)
  SparseCore.enqueueIndirectGather rfl v179' v174' gathers_S10000x128_S128x128 v178' rfl R.sG.sem (View.wordExact_bits rfl) rfl (Or.inr rfl)
  pure ⟨v116, v123⟩

set_option cleanup.letToHave false in
/-- The wait for the gathered rows, the start of their write-back, and the wait for the previous trip's. -/
def gpart3 (G : Starts) (R : Refs) (i : grid1.Coords) (v7 : BitVec 32) (k1_h2 : G.cond2 i = 1#1) (k1_t1 : Fin (G.t1_loop i).trips) (arg7 : BitVec 32) (arg8 : BitVec 32) (arg9 : BitVec 32) (arg10 : BitVec 32) (arg11 : BitVec 32) (k1_hw3 : G.chk3 i arg8) (k1_hw2 : G.chk2 i arg9) (k1_hw1 : G.chk1 i k1_t1 arg7 arg8 arg9 arg10 arg11) (v83 : BitVec 1) (v85 : BitVec 1) (v86 : BitVec 32) (v92 : BitVec 32) (v97 : BitVec 32) (v103 : BitVec 32) (v104 : BitVec 32) (v123 : BitVec 32) :
    Prog (TpuEff nD τ sig (Elt F) Λ₀ (.scVector ((i 0).castLE hcore1) ((i 1).castLE hsub1))) (Σ' (v149 : BitVec 32) (v163 : BitVec 32) (v167 : BitVec 32), BitVec 32) := do
  let v186' : Memref sig .scVector .shared S10000x128 .f32 := R.sh.slice (Rect.unit (s := S10000x128) ![0, 0] S10000x128.size inb_S10000x128_S10000x128_0_0) (fun _ => rfl)
  let v180' : Memref sig .scVector .vmem S1x128x128 .f32 := R.obuf.slice (Rect.unit (s := S2x128x128) (G.off15 arg9) S1x128x128.size (G.off15_inb i arg9 k1_hw2 k1_h2)) (fun _ => rfl)
  let v181' : Memref sig .scVector .vmem S128x128 .f32 := v180'.squeeze S128x128 squeezes_S1x128x128_S128x128
  SparseCore.waitIndirectGather R.sG.sem v186' v181' (View.wordExact_bits rfl) ((View.wordExact_bits rfl).reshape _ _)
  let v138 : BitVec 1 := Scalar.cmpi .ne v103 v104
  let v139 : BitVec 1 := Scalar.ori v138 v85
  let v140 : BitVec 32 := Scalar.extui v139
  let v141 : BitVec 1 := Scalar.cmpi .ne v140 0#32
  if v141 = 1#1 then do
    pure ⟨⟩
  else do
    pure ⟨⟩
  let v143 : BitVec 1 := Scalar.cmpi .ne v86 v97
  let v144 : BitVec 1 := Scalar.ori v143 v85
  if k1_h8 : G.cond8 i k1_t1 arg11 = 1#1 then do
    let v178 : DmaSems sig S1 := R.sOut.slice (Rect.unit (s := S2) (G.off20 arg9) S1.size (G.off20_inb i k1_t1 arg7 arg8 arg9 arg10 arg11 k1_hw1 k1_h2 k1_h8))
    let v179 : DmaSems sig S_ := v178.squeeze S_ squeezes_S1_S_
    let v180 : Memref sig .scVector .hbm S80000x128 .f32 := R.out.slice (Rect.unit (s := S160000x128) (G.off18 i) S80000x128.size (G.off18_inb i k1_h2)) (fun _ => rfl)
    let v181 : Memref sig .scVector .hbm S128x128 .f32 := v180.slice (Rect.unit (s := S80000x128) (G.off19 i arg11) S128x128.size (G.off19_inb i k1_t1 arg7 arg8 arg9 arg10 arg11 k1_hw1 k1_h2 k1_h8)) (fun _ => rfl)
    let v182 : Memref sig .scVector .vmem S1x128x128 .f32 := R.obuf.slice (Rect.unit (s := S2x128x128) (G.off17 arg9) S1x128x128.size (G.off17_inb i k1_t1 arg7 arg8 arg9 arg10 arg11 k1_hw1 k1_h2 k1_h8)) (fun _ => rfl)
    let v183 : Memref sig .scVector .vmem S128x128 .f32 := v182.squeeze S128x128 squeezes_S1x128x128_S128x128
    Prog.lift (.enqueueDma v183 (.here v181) (.dma v179.sem) ((View.wordExact_bits rfl).reshape _ _) (View.wordExact_bits rfl) ⟨Or.inl rfl, trivial⟩)
    pure ⟨⟩
  else do
    pure ⟨⟩
  let v147 : BitVec 1 := Scalar.andi v144 1#1
  let v148 : BitVec 32 := Scalar.addi arg9 1#32
  let v149 : BitVec 32 := Scalar.select v147 v148 arg9
  let v150 : BitVec 1 := Scalar.cmpi .ne v103 v123
  let v151 : BitVec 1 := Scalar.xori v83 1#1
  let v152 : BitVec 1 := Scalar.andi v150 v151
  let v153 : BitVec 32 := Scalar.extui v152
  let v154 : BitVec 1 := Scalar.cmpi .ne v153 0#32
  if v154 = 1#1 then do
    pure ⟨⟩
  else do
    pure ⟨⟩
  let v156 : BitVec 1 := Scalar.cmpi .ne v86 v92
  let v157 : BitVec 1 := Scalar.xori v83 1#1
  let v158 : BitVec 1 := Scalar.andi v156 v157
  if k1_h10 : G.cond10 i k1_t1 arg11 = 1#1 then do
    let v178 : DmaSems sig S1 := R.sOut.slice (Rect.unit (s := S2) (G.off24 arg10) S1.size (G.off24_inb i k1_t1 arg7 arg8 arg9 arg10 arg11 k1_hw1 k1_h2 k1_h10))
    let v179 : DmaSems sig S_ := v178.squeeze S_ squeezes_S1_S_
    let v180 : Memref sig .scVector .hbm S80000x128 .f32 := R.out.slice (Rect.unit (s := S160000x128) (G.off22 i) S80000x128.size (G.off22_inb i k1_h2)) (fun _ => rfl)
    let v181 : Memref sig .scVector .hbm S128x128 .f32 := v180.slice (Rect.unit (s := S80000x128) (G.off23 i arg11) S128x128.size (G.off23_inb i k1_t1 arg7 arg8 arg9 arg10 arg11 k1_hw1 k1_h2 k1_h10)) (fun _ => rfl)
    let v182 : Memref sig .scVector .vmem S1x128x128 .f32 := R.obuf.slice (Rect.unit (s := S2x128x128) (G.off21 arg10) S1x128x128.size (G.off21_inb i k1_t1 arg7 arg8 arg9 arg10 arg11 k1_hw1 k1_h2 k1_h10)) (fun _ => rfl)
    let v183 : Memref sig .scVector .vmem S128x128 .f32 := v182.squeeze S128x128 squeezes_S1x128x128_S128x128
    Prog.lift (.waitDma2 v179.sem v183 v181 ((View.wordExact_bits rfl).reshape _ _) (View.wordExact_bits rfl))
    pure ⟨⟩
  else do
    pure ⟨⟩
  let v161 : BitVec 1 := Scalar.andi v158 1#1
  let v162 : BitVec 32 := Scalar.addi arg10 1#32
  let v163 : BitVec 32 := Scalar.select v161 v162 arg10
  let v164 : BitVec 1 := Scalar.cmpi .ne v103 v104
  let v165 : BitVec 1 := Scalar.ori v164 v85
  let v166 : BitVec 32 := Scalar.addi arg8 1#32
  let v167 : BitVec 32 := Scalar.select v165 v166 arg8
  let v168 : BitVec 32 := Scalar.addi arg11 1#32
  let v169 : BitVec 32 := Scalar.select 1#1 v168 arg11
  let v170 : BitVec 1 := Scalar.cmpi .eq v169 v7
  let v171 : BitVec 32 := Scalar.select v170 0#32 v169
  pure ⟨v149, v163, v167, v171⟩

set_option cleanup.letToHave false in
/-- One trip of the loop over the windows. -/
def gbody (G : Starts) (R : Refs) (i : grid1.Coords) (v7 : BitVec 32) (v12 : BitVec 32) (k1_h2 : G.cond2 i = 1#1) (c0_i32_31 : BitVec 32) :
    Fin (G.t1_loop i).trips → BitVec 32 × BitVec 32 × BitVec 32 × BitVec 32 × BitVec 32 → Prog (TpuEff nD τ sig (Elt F) Λ₀ (.scVector ((i 0).castLE hcore1) ((i 1).castLE hsub1))) (BitVec 32 × BitVec 32 × BitVec 32 × BitVec 32 × BitVec 32) :=
  fun k1_t1 (arg7, arg8, arg9, arg10, arg11) => do
    let ⟨k1_hw3, k1_hw2, k1_hw1, arg6, v82, v83, v85, v86, v92, v97, v103, v104, v114, c1_i32_79⟩ : Σ' (k1_hw3 : G.chk3 i arg8) (k1_hw2 : G.chk2 i arg9) (k1_hw1 : G.chk1 i k1_t1 arg7 arg8 arg9 arg10 arg11) (arg6 : BitVec 32) (v82 : BitVec 32) (v83 : BitVec 1) (v85 : BitVec 1) (v86 : BitVec 32) (v92 : BitVec 32) (v97 : BitVec 32) (v103 : BitVec 32) (v104 : BitVec 32) (v114 : BitVec 1), BitVec 32 ← gpart1 G R i v7 v12 k1_h2 c0_i32_31 1#32 k1_t1 arg7 arg8 arg9 arg10 arg11
    let ⟨v116, v123⟩ : Σ' (v116 : BitVec 32), BitVec 32 ← gpart2 G R i k1_h2 k1_t1 arg7 arg8 arg9 arg10 arg11 k1_hw3 k1_hw2 k1_hw1 arg6 v82 v83 v86 v92 v97 v103 v114 c1_i32_79
    let ⟨v149, v163, v167, v171⟩ : Σ' (v149 : BitVec 32) (v163 : BitVec 32) (v167 : BitVec 32), BitVec 32 ← gpart3 G R i v7 k1_h2 k1_t1 arg7 arg8 arg9 arg10 arg11 k1_hw3 k1_hw2 k1_hw1 v83 v85 v86 v92 v97 v103 v104 v123
    pure (v116, v167, v149, v163, v171)

set_option cleanup.letToHave false in
/-- The fetch of the first index window. -/
def gpart7 (G : Starts) (R : Refs) (i : grid1.Coords) (v7 : BitVec 32) (v12 : BitVec 32) (v13 : BitVec 32) (k1_h2 : G.cond2 i = 1#1) :
    Prog (TpuEff nD τ sig (Elt F) Λ₀ (.scVector ((i 0).castLE hcore1) ((i 1).castLE hsub1))) (Σ' (v43 : BitVec 32) (c0_i32_31 : BitVec 32) (c0_i32_32 : BitVec 32) (c0_i32_33 : BitVec 32) (c0_i32_34 : BitVec 32) (c0_i32_35 : BitVec 32), BitVec 32) := do
  let v19 : BitVec 32 := Scalar.muli 1#32 v7
  let v37 : BitVec 1 := Scalar.cmpi .sgt v19 0#32
  let v38 : BitVec 1 := Scalar.andi 1#1 v37
  if k1_h3 : G.cond3 i = 1#1 then do
    let v90 : DmaSems sig S1 := R.sIn.slice (Rect.unit (s := S2) G.off6 S1.size (G.off6_inb i k1_h2 k1_h3))
    let v91 : DmaSems sig S_ := v90.squeeze S_ squeezes_S1_S_
    let v92 : Memref sig .scVector .vmem S1x1x128 .i32 := R.ibuf.slice (Rect.unit (s := S2x1x128) G.off3 S1x1x128.size (G.off3_inb i k1_h2 k1_h3)) (fun _ => rfl)
    let v93 : Memref sig .scVector .vmem S1x128 .i32 := v92.squeeze S1x128 squeezes_S1x1x128_S1x128
    let v94 : Memref sig .scVector .hbm S1x1x320000 .i32 := R.idx.slice (Rect.unit (s := S2x1x320000) (G.off4 i) S1x1x320000.size (G.off4_inb i k1_h2 k1_h3)) (fun _ => rfl)
    let v95 : Memref sig .scVector .hbm S1x320000 .i32 := v94.squeeze S1x320000 squeezes_S1x1x320000_S1x320000
    let v96 : Memref sig .scVector .hbm S1x128 .i32 := v95.slice (Rect.unit (s := S1x320000) (G.off5 i) S1x128.size (G.off5_inb i k1_h2 k1_h3)) (fun _ => rfl)
    Prog.lift (.enqueueDma v96 (.here v93) (.dma v91.sem) (View.wordExact_bits rfl) ((View.wordExact_bits rfl).reshape _ _) ⟨Or.inl rfl, trivial⟩)
    pure ⟨⟩
  else do
    pure ⟨⟩
  let v42 : BitVec 32 := Scalar.addi 0#32 1#32
  let v43 : BitVec 32 := Scalar.select v38 v42 0#32
  let v44 : BitVec 32 := Scalar.subi v13 0#32
  let v46 : BitVec 32 := Scalar.divsi v44 1#32
  let v47 : BitVec 32 := Scalar.muli v46 1#32
  pure ⟨v43, 0#32, 0#32, 0#32, 0#32, 0#32, v47⟩

set_option cleanup.letToHave false in
/-- The counted loop over the tile's windows and the wait for the last write-back. -/
def gpart8 (G : Starts) (R : Refs) (i : grid1.Coords) (body2 : Body2 F G i) (v7 : BitVec 32) (v12 : BitVec 32) (v13 : BitVec 32) (k1_h2 : G.cond2 i = 1#1) (v43 : BitVec 32) (c0_i32_31 : BitVec 32) (c0_i32_32 : BitVec 32) (c0_i32_33 : BitVec 32) (c0_i32_34 : BitVec 32) (c0_i32_35 : BitVec 32) (v47 : BitVec 32) :
    Prog (TpuEff nD τ sig (Elt F) Λ₀ (.scVector ((i 0).castLE hcore1) ((i 1).castLE hsub1))) (PUnit) := do
  let v48 : BitVec 32 := Scalar.addi c0_i32_31 v47
  let (v49_0, v49_1, v49_2, v49_3, v49_4) ← Scf.Loop.for (G.t1_loop i) (G.t1_ok i k1_h2) (v43, c0_i32_32, c0_i32_33, c0_i32_34, c0_i32_35) (gbody G R i v7 v12 k1_h2 c0_i32_31)
  let (v50_0, v50_1, v50_2, v50_3, v50_4) ← Scf.Loop.for (G.t2_loop i) (G.t2_ok i k1_h2) (v49_0, v49_1, v49_2, v49_3, v49_4) (body2 k1_h2 v43 c0_i32_31 c0_i32_32 c0_i32_33 c0_i32_34 c0_i32_35 v47 v48)
  have k1_hw8 : G.chk8 i v50_4 := (← Prog.lift (TpuEff.assume (G.chk8 i v50_4) (G.chk8dec i v50_4))).down
  have k1_hw7 : G.chk7 i v50_3 := (← Prog.lift (TpuEff.assume (G.chk7 i v50_3) (G.chk7dec i v50_3))).down
  let v56 : BitVec 32 := Scalar.subi v13 1#32
  let v57 : BitVec 32 := Scalar.muli 1#32 v7
  let v59 : BitVec 32 := Scalar.subi v57 1#32
  let v60 : BitVec 1 := Scalar.cmpi .eq v56 v59
  let v78 : BitVec 32 := Scalar.extui v60
  let v79 : BitVec 1 := Scalar.cmpi .ne v78 0#32
  if k1_h18 : v79 = 1#1 then do
    pure ⟨⟩
  else do
    pure ⟨⟩
  if k1_h19 : G.cond19 i = 1#1 then do
    let v88 : DmaSems sig S1 := R.sOut.slice (Rect.unit (s := S2) (G.off46 v50_3) S1.size (G.off46_inb i v50_3 k1_hw7 k1_h2 k1_h19))
    let v89 : DmaSems sig S_ := v88.squeeze S_ squeezes_S1_S_
    let v90 : Memref sig .scVector .hbm S80000x128 .f32 := R.out.slice (Rect.unit (s := S160000x128) (G.off47 i) S80000x128.size (G.off47_inb i k1_h2 k1_h19)) (fun _ => rfl)
    let v91 : Memref sig .scVector .hbm S128x128 .f32 := v90.slice (Rect.unit (s := S80000x128) (G.off45 i v50_4) S128x128.size (G.off45_inb i v50_4 k1_hw8 k1_h2 k1_h19)) (fun _ => rfl)
    let v92 : Memref sig .scVector .vmem S1x128x128 .f32 := R.obuf.slice (Rect.unit (s := S2x128x128) (G.off48 v50_3) S1x128x128.size (G.off48_inb i v50_3 k1_hw7 k1_h2 k1_h19)) (fun _ => rfl)
    let v93 : Memref sig .scVector .vmem S128x128 .f32 := v92.squeeze S128x128 squeezes_S1x128x128_S128x128
    Prog.lift (.waitDma2 v89.sem v93 v91 ((View.wordExact_bits rfl).reshape _ _) (View.wordExact_bits rfl))
    pure ⟨⟩
  else do
    pure ⟨⟩
  pure ⟨⟩

set_option cleanup.letToHave false in
/-- The gather task of one vector subcore. -/
def gkernel (G : Starts) (R : Refs) (i : grid1.Coords) (body2 : Body2 F G i)  :
    Prog (TpuEff nD τ sig (Elt F) Λ₀ (.scVector ((i 0).castLE hcore1) ((i 1).castLE hsub1))) PUnit := do
  let arg1 : BitVec 32 := BitVec.ofNat 32 (i 1).val
  if k1_h1 : G.cond1 i = 1#1 then do
    let v19 : Memref sig .scVector .shared S1000x128 .f32 := R.sh.slice (Rect.unit (s := S10000x128) (G.off1 i) S1000x128.size (G.off1_inb i k1_h1)) (fun _ => rfl)
    let v20 : Memref sig .scVector .hbm S1000x128 .f32 := R.tab.slice (Rect.unit (s := S20000x128) (G.off2 i) S1000x128.size (G.off2_inb i k1_h1)) (fun _ => rfl)
    Prog.lift (.enqueueDma v20 (.here v19) (.dma R.sTab.sem) (View.wordExact_bits rfl) (View.wordExact_bits rfl) ⟨Or.inl rfl, trivial⟩)
    let v21 : Memref sig .scVector .shared S1000x128 .f32 := R.sh.slice (Rect.unit (s := S10000x128) (G.off1 i) S1000x128.size (G.off1_inb i k1_h1)) (fun _ => rfl)
    let v22 : Memref sig .scVector .hbm S1000x128 .f32 := R.tab.slice (Rect.unit (s := S20000x128) (G.off2 i) S1000x128.size (G.off2_inb i k1_h1)) (fun _ => rfl)
    Prog.lift (.waitDma2 R.sTab.sem v22 v21 (View.wordExact_bits rfl) (View.wordExact_bits rfl))
    pure ⟨⟩
  else do
    pure ⟨⟩
  SparseCore.subcoreBarrier sc_bar0 (grid1.bound 1) hsub1
  let v4 : BitVec 32 := Scalar.muli arg1 1#32
  let v5 : BitVec 32 := Scalar.addi 0#32 v4
  let v6 : BitVec 1 := Scalar.cmpi .slt v5 1#32
  let v7 : BitVec 32 := Scalar.select v6 40#32 39#32
  let v8 : BitVec 1 := Scalar.cmpi .slt v5 1#32
  let v9 : BitVec 32 := Scalar.muli v5 v7
  let v10 : BitVec 32 := Scalar.muli v5 39#32
  let v11 : BitVec 32 := Scalar.addi v10 1#32
  let v12 : BitVec 32 := Scalar.select v8 v9 v11
  let v13 : BitVec 32 := Scalar.muli 1#32 v7
  if k1_h2 : G.cond2 i = 1#1 then do
    let ⟨v43, c0_i32_31, c0_i32_32, c0_i32_33, c0_i32_34, c0_i32_35, v47⟩ : Σ' (v43 : BitVec 32) (c0_i32_31 : BitVec 32) (c0_i32_32 : BitVec 32) (c0_i32_33 : BitVec 32) (c0_i32_34 : BitVec 32) (c0_i32_35 : BitVec 32), BitVec 32 ← gpart7 G R i v7 v12 v13 k1_h2
    gpart8 G R i body2 v7 v12 v13 k1_h2 v43 c0_i32_31 c0_i32_32 c0_i32_33 c0_i32_34 c0_i32_35 v47
    pure ⟨⟩
  else do
    pure ⟨⟩
  pure ⟨⟩

/-- What gather call 0 computes. -/
def starts1 : Starts where
  sb := 0#32
  cond1 := k1_cond1
  cond2 := k1_cond2
  cond3 := k1_cond3
  cond19 := k1_cond19
  t1_loop := k1_t1_loop
  t2_loop := k1_t2_loop
  t1_ok := k1_t1_ok
  t2_ok := k1_t2_ok
  cond4 := k1_cond4
  cond5 := k1_cond5
  cond8 := k1_cond8
  cond10 := k1_cond10
  off1 := k1_off1
  off2 := k1_off2
  off4 := k1_off4
  off5 := k1_off5
  off8 := k1_off8
  off12 := k1_off12
  off18 := k1_off18
  off22 := k1_off22
  off47 := k1_off47
  off3 := k1_off3
  off6 := k1_off6
  off7 := k1_off7
  off10 := k1_off10
  off11 := k1_off11
  off14 := k1_off14
  off15 := k1_off15
  off16 := k1_off16
  off17 := k1_off17
  off20 := k1_off20
  off21 := k1_off21
  off24 := k1_off24
  off46 := k1_off46
  off48 := k1_off48
  off9 := k1_off9
  off13 := k1_off13
  off19 := k1_off19
  off23 := k1_off23
  off45 := k1_off45
  chk1 := k1_chk1
  chk2 := k1_chk2
  chk3 := k1_chk3
  chk7 := k1_chk7
  chk8 := k1_chk8
  chk1dec := k1_chk1.dec
  chk2dec := k1_chk2.dec
  chk3dec := k1_chk3.dec
  chk7dec := k1_chk7.dec
  chk8dec := k1_chk8.dec
  off1_inb := k1_off1_inb
  off2_inb := k1_off2_inb
  off3_inb := k1_off3_inb
  off4_inb := k1_off4_inb
  off5_inb := k1_off5_inb
  off6_inb := k1_off6_inb
  off8_inb := k1_off8_inb
  off12_inb := k1_off12_inb
  off15_inb := k1_off15_inb
  off16_inb := k1_off16_inb
  off18_inb := k1_off18_inb
  off22_inb := k1_off22_inb
  off7_inb := k1_off7_inb
  off9_inb := k1_off9_inb
  off10_inb := k1_off10_inb
  off11_inb := k1_off11_inb
  off13_inb := k1_off13_inb
  off14_inb := k1_off14_inb
  off17_inb := k1_off17_inb
  off19_inb := k1_off19_inb
  off20_inb := k1_off20_inb
  off21_inb := k1_off21_inb
  off23_inb := k1_off23_inb
  off24_inb := k1_off24_inb
  off45_inb := k1_off45_inb
  off46_inb := k1_off46_inb
  off47_inb := k1_off47_inb
  off48_inb := k1_off48_inb

/-- What gather call 1 computes. -/
def starts2 : Starts where
  sb := 625#32
  cond1 := k2_cond1
  cond2 := k2_cond2
  cond3 := k2_cond3
  cond19 := k2_cond19
  t1_loop := k2_t1_loop
  t2_loop := k2_t2_loop
  t1_ok := k2_t1_ok
  t2_ok := k2_t2_ok
  cond4 := k2_cond4
  cond5 := k2_cond5
  cond8 := k2_cond8
  cond10 := k2_cond10
  off1 := k2_off1
  off2 := k2_off2
  off4 := k2_off4
  off5 := k2_off5
  off8 := k2_off8
  off12 := k2_off12
  off18 := k2_off18
  off22 := k2_off22
  off47 := k2_off47
  off3 := k2_off3
  off6 := k2_off6
  off7 := k2_off7
  off10 := k2_off10
  off11 := k2_off11
  off14 := k2_off14
  off15 := k2_off15
  off16 := k2_off16
  off17 := k2_off17
  off20 := k2_off20
  off21 := k2_off21
  off24 := k2_off24
  off46 := k2_off46
  off48 := k2_off48
  off9 := k2_off9
  off13 := k2_off13
  off19 := k2_off19
  off23 := k2_off23
  off45 := k2_off45
  chk1 := k2_chk1
  chk2 := k2_chk2
  chk3 := k2_chk3
  chk7 := k2_chk7
  chk8 := k2_chk8
  chk1dec := k2_chk1.dec
  chk2dec := k2_chk2.dec
  chk3dec := k2_chk3.dec
  chk7dec := k2_chk7.dec
  chk8dec := k2_chk8.dec
  off1_inb := k2_off1_inb
  off2_inb := k2_off2_inb
  off3_inb := k2_off3_inb
  off4_inb := k2_off4_inb
  off5_inb := k2_off5_inb
  off6_inb := k2_off6_inb
  off8_inb := k2_off8_inb
  off12_inb := k2_off12_inb
  off15_inb := k2_off15_inb
  off16_inb := k2_off16_inb
  off18_inb := k2_off18_inb
  off22_inb := k2_off22_inb
  off7_inb := k2_off7_inb
  off9_inb := k2_off9_inb
  off10_inb := k2_off10_inb
  off11_inb := k2_off11_inb
  off13_inb := k2_off13_inb
  off14_inb := k2_off14_inb
  off17_inb := k2_off17_inb
  off19_inb := k2_off19_inb
  off20_inb := k2_off20_inb
  off21_inb := k2_off21_inb
  off23_inb := k2_off23_inb
  off24_inb := k2_off24_inb
  off45_inb := k2_off45_inb
  off46_inb := k2_off46_inb
  off47_inb := k2_off47_inb
  off48_inb := k2_off48_inb

/-- What gather call 2 computes. -/
def starts3 : Starts where
  sb := 1250#32
  cond1 := k3_cond1
  cond2 := k3_cond2
  cond3 := k3_cond3
  cond19 := k3_cond19
  t1_loop := k3_t1_loop
  t2_loop := k3_t2_loop
  t1_ok := k3_t1_ok
  t2_ok := k3_t2_ok
  cond4 := k3_cond4
  cond5 := k3_cond5
  cond8 := k3_cond8
  cond10 := k3_cond10
  off1 := k3_off1
  off2 := k3_off2
  off4 := k3_off4
  off5 := k3_off5
  off8 := k3_off8
  off12 := k3_off12
  off18 := k3_off18
  off22 := k3_off22
  off47 := k3_off47
  off3 := k3_off3
  off6 := k3_off6
  off7 := k3_off7
  off10 := k3_off10
  off11 := k3_off11
  off14 := k3_off14
  off15 := k3_off15
  off16 := k3_off16
  off17 := k3_off17
  off20 := k3_off20
  off21 := k3_off21
  off24 := k3_off24
  off46 := k3_off46
  off48 := k3_off48
  off9 := k3_off9
  off13 := k3_off13
  off19 := k3_off19
  off23 := k3_off23
  off45 := k3_off45
  chk1 := k3_chk1
  chk2 := k3_chk2
  chk3 := k3_chk3
  chk7 := k3_chk7
  chk8 := k3_chk8
  chk1dec := k3_chk1.dec
  chk2dec := k3_chk2.dec
  chk3dec := k3_chk3.dec
  chk7dec := k3_chk7.dec
  chk8dec := k3_chk8.dec
  off1_inb := k3_off1_inb
  off2_inb := k3_off2_inb
  off3_inb := k3_off3_inb
  off4_inb := k3_off4_inb
  off5_inb := k3_off5_inb
  off6_inb := k3_off6_inb
  off8_inb := k3_off8_inb
  off12_inb := k3_off12_inb
  off15_inb := k3_off15_inb
  off16_inb := k3_off16_inb
  off18_inb := k3_off18_inb
  off22_inb := k3_off22_inb
  off7_inb := k3_off7_inb
  off9_inb := k3_off9_inb
  off10_inb := k3_off10_inb
  off11_inb := k3_off11_inb
  off13_inb := k3_off13_inb
  off14_inb := k3_off14_inb
  off17_inb := k3_off17_inb
  off19_inb := k3_off19_inb
  off20_inb := k3_off20_inb
  off21_inb := k3_off21_inb
  off23_inb := k3_off23_inb
  off24_inb := k3_off24_inb
  off45_inb := k3_off45_inb
  off46_inb := k3_off46_inb
  off47_inb := k3_off47_inb
  off48_inb := k3_off48_inb

/-- What gather call 3 computes. -/
def starts4 : Starts where
  sb := 1875#32
  cond1 := k4_cond1
  cond2 := k4_cond2
  cond3 := k4_cond3
  cond19 := k4_cond19
  t1_loop := k4_t1_loop
  t2_loop := k4_t2_loop
  t1_ok := k4_t1_ok
  t2_ok := k4_t2_ok
  cond4 := k4_cond4
  cond5 := k4_cond5
  cond8 := k4_cond8
  cond10 := k4_cond10
  off1 := k4_off1
  off2 := k4_off2
  off4 := k4_off4
  off5 := k4_off5
  off8 := k4_off8
  off12 := k4_off12
  off18 := k4_off18
  off22 := k4_off22
  off47 := k4_off47
  off3 := k4_off3
  off6 := k4_off6
  off7 := k4_off7
  off10 := k4_off10
  off11 := k4_off11
  off14 := k4_off14
  off15 := k4_off15
  off16 := k4_off16
  off17 := k4_off17
  off20 := k4_off20
  off21 := k4_off21
  off24 := k4_off24
  off46 := k4_off46
  off48 := k4_off48
  off9 := k4_off9
  off13 := k4_off13
  off19 := k4_off19
  off23 := k4_off23
  off45 := k4_off45
  chk1 := k4_chk1
  chk2 := k4_chk2
  chk3 := k4_chk3
  chk7 := k4_chk7
  chk8 := k4_chk8
  chk1dec := k4_chk1.dec
  chk2dec := k4_chk2.dec
  chk3dec := k4_chk3.dec
  chk7dec := k4_chk7.dec
  chk8dec := k4_chk8.dec
  off1_inb := k4_off1_inb
  off2_inb := k4_off2_inb
  off3_inb := k4_off3_inb
  off4_inb := k4_off4_inb
  off5_inb := k4_off5_inb
  off6_inb := k4_off6_inb
  off8_inb := k4_off8_inb
  off12_inb := k4_off12_inb
  off15_inb := k4_off15_inb
  off16_inb := k4_off16_inb
  off18_inb := k4_off18_inb
  off22_inb := k4_off22_inb
  off7_inb := k4_off7_inb
  off9_inb := k4_off9_inb
  off10_inb := k4_off10_inb
  off11_inb := k4_off11_inb
  off13_inb := k4_off13_inb
  off14_inb := k4_off14_inb
  off17_inb := k4_off17_inb
  off19_inb := k4_off19_inb
  off20_inb := k4_off20_inb
  off21_inb := k4_off21_inb
  off23_inb := k4_off23_inb
  off24_inb := k4_off24_inb
  off45_inb := k4_off45_inb
  off46_inb := k4_off46_inb
  off47_inb := k4_off47_inb
  off48_inb := k4_off48_inb

end Cert.Proof

end
-- ==== Proof.GatherForms.lean ====
/-
  What the four gather calls compute of the tile and the trip, in closed form. Tile `s` of SparseCore `c` serves the
  windows `bW … bW + nW − 1` of its SparseCore's 625 (tile 0 forty of them, each other tile thirty-nine), a window being
  128 row numbers; the calls differ in the block of windows they read (`sb`), and in nothing else.
-/
module

public import proofs.«01_k».proof.Proof.Gather

@[expose] public section

noncomputable section

namespace Cert.Proof

open Cert.KernelIdeal Cert.KernelIdeal.Gen
open Idealize.ShloMosaic Idealize.SL.Sem

instance (G : Starts) (i : grid1.Coords) (t : Fin (G.t1_loop i).trips) (a7 a8 a9 a10 a11 : BitVec 32) : Decidable (G.chk1 i t a7 a8 a9 a10 a11) :=
  G.chk1dec i t a7 a8 a9 a10 a11
instance (G : Starts) (i : grid1.Coords) (a : BitVec 32) : Decidable (G.chk2 i a) := G.chk2dec i a
instance (G : Starts) (i : grid1.Coords) (a : BitVec 32) : Decidable (G.chk3 i a) := G.chk3dec i a
instance (G : Starts) (i : grid1.Coords) (a : BitVec 32) : Decidable (G.chk7 i a) := G.chk7dec i a
instance (G : Starts) (i : grid1.Coords) (a : BitVec 32) : Decidable (G.chk8 i a) := G.chk8dec i a

/-- Tile `s` of SparseCore `c`. -/
def crd (c : Fin 2) (s : Fin 16) : grid1.Coords :=
  fun | 0 => c | 1 => s | ⟨_ + 2, h⟩ => absurd h (Nat.not_lt.2 (Nat.le_add_left _ _))

theorem crd_eta (i : grid1.Coords) : crd (i 0) (i 1) = i := by
  funext a
  match a with
  | 0 => rfl
  | 1 => rfl

/-- A fact of every tile, tile by tile. -/
theorem all_tiles {P : grid1.Coords → Prop} (h : ∀ (c : Fin 2) (s : Fin 16), P (crd c s)) (i : grid1.Coords) : P i :=
  crd_eta i ▸ h (i 0) (i 1)

/-- How many windows a tile serves, -/
def nW (i : grid1.Coords) : ℕ := if (i 1).val = 0 then 40 else 39
/-- and the first of them. -/
def bW (i : grid1.Coords) : ℕ := if (i 1).val = 0 then 0 else 39 * (i 1).val + 1

/-- A number as the kernel carries it. -/
abbrev B (k : ℕ) : BitVec 32 := BitVec.ofNat 32 k

/-- The numbers the loop carries into trip `k`: how many index windows have been fetched, received, gathered and written
    back, and the window in hand, which starts over after the last. -/
def carry (i : grid1.Coords) (k : ℕ) : BitVec 32 × BitVec 32 × BitVec 32 × BitVec 32 × BitVec 32 :=
  (B (min (k + 1) (nW i)), B k, B k, B (k - 1), B (if k = nW i then 0 else k))

/-- The closed forms, `sb` being the first window of the call's block. -/
structure Good (G : Starts) (sb : ℕ) : Prop where
  block : G.sb = B sb
  cond1 : ∀ i, G.cond1 i = 1#1 ↔ (i 1).val < 10
  cond2 : ∀ i, G.cond2 i = 1#1
  cond3 : ∀ i, G.cond3 i = 1#1
  cond19 : ∀ i, G.cond19 i = 1#1
  trips1 : ∀ i, (G.t1_loop i).trips = nW i
  trips2 : ∀ i, (G.t2_loop i).trips = 0
  cond4 : ∀ i (t : Fin (G.t1_loop i).trips), G.cond4 i t (B t.val) = 1#1 ↔ t.val + 1 < nW i
  cond5 : ∀ i (t : Fin (G.t1_loop i).trips), G.cond5 i t (B t.val) = 1#1
  cond8 : ∀ i (t : Fin (G.t1_loop i).trips), G.cond8 i t (B t.val) = 1#1
  cond10 : ∀ i (t : Fin (G.t1_loop i).trips), G.cond10 i t (B t.val) = 1#1 ↔ 1 ≤ t.val
  chk1 : ∀ i (t : Fin (G.t1_loop i).trips), G.chk1 i t (B (min (t.val + 1) (nW i))) (B t.val) (B t.val) (B (t.val - 1)) (B t.val)
  chk2 : ∀ i (t : Fin (G.t1_loop i).trips), G.chk2 i (B t.val)
  chk3 : ∀ i (t : Fin (G.t1_loop i).trips), G.chk3 i (B t.val)
  chk7 : ∀ i, G.chk7 i (B (nW i - 1))
  chk8 : ∀ i, G.chk8 i (B 0)
  off1 : ∀ i, G.off1 i = ![1000 * (i 1).val, 0]
  off2 : ∀ i, G.off2 i = ![10000 * (i 0).val + 1000 * (i 1).val, 0]
  off3 : G.off3 = ![0, 0, 0]
  off6 : G.off6 = ![0]
  off4 : ∀ i, G.off4 i = ![(i 0).val, 0, 0]
  off8 : ∀ i, G.off8 i = ![(i 0).val, 0, 0]
  off12 : ∀ i, G.off12 i = ![(i 0).val, 0, 0]
  off18 : ∀ i, G.off18 i = ![80000 * (i 0).val, 0]
  off22 : ∀ i, G.off22 i = ![80000 * (i 0).val, 0]
  off47 : ∀ i, G.off47 i = ![80000 * (i 0).val, 0]
  off5 : ∀ i, G.off5 i = ![0, 128 * (sb + bW i)]
  slots : ∀ k : Fin 64, G.off7 (B k.val) = ![k.val % 2, 0, 0] ∧ G.off11 (B k.val) = ![k.val % 2, 0, 0] ∧ G.off15 (B k.val) = ![k.val % 2, 0, 0]
    ∧ G.off16 (B k.val) = ![k.val % 2, 0, 0] ∧ G.off17 (B k.val) = ![k.val % 2, 0, 0] ∧ G.off21 (B k.val) = ![k.val % 2, 0, 0]
    ∧ G.off48 (B k.val) = ![k.val % 2, 0, 0]
  cells : ∀ k : Fin 64, G.off10 (B k.val) = ![k.val % 2] ∧ G.off14 (B k.val) = ![k.val % 2] ∧ G.off20 (B k.val) = ![k.val % 2]
    ∧ G.off24 (B k.val) = ![k.val % 2] ∧ G.off46 (B k.val) = ![k.val % 2]
  off9 : ∀ i (t : Fin (G.t1_loop i).trips), t.val + 1 < nW i → G.off9 i (B t.val) = ![0, 128 * (sb + (bW i + (t.val + 1)))]
  off13 : ∀ i (t : Fin (G.t1_loop i).trips), G.off13 i (B t.val) = ![0, 128 * (sb + (bW i + t.val))]
  off19 : ∀ i (t : Fin (G.t1_loop i).trips), G.off19 i (B t.val) = ![128 * (bW i + t.val), 0]
  off23 : ∀ i (t : Fin (G.t1_loop i).trips), 1 ≤ t.val → G.off23 i (B t.val) = ![128 * (bW i + (t.val - 1)), 0]
  off45 : ∀ i, G.off45 i (B 0) = ![128 * (bW i + (nW i - 1)), 0]

end Cert.Proof

end
-- ==== Proof.Slots.lean ====
/-
  The pieces of memory a gather task moves, by number: its two index slots and two row slots, its windows of the list of
  row numbers and of the gathered rows — and one rule for each of its transfers, whatever expression names the piece.
-/
module

public import proofs.«01_k».proof.Proof.Common
public import proofs.«01_k».proof.Proof.GatherForms

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The pieces -/

theorem islot_inb (k : ℕ) : ∀ x, (![k % 2, 0, 0] : Fin 3 → ℕ) x + S1x1x128.size x ≤ S2x1x128.size x := by
  have := Nat.mod_lt k (show 0 < 2 by decide)
  intro x; match x with
  | 0 => show k % 2 + 1 ≤ 2; omega
  | 1 => show 0 + 1 ≤ 1; omega
  | 2 => show 0 + 128 ≤ 128; omega
theorem oslot_inb (k : ℕ) : ∀ x, (![k % 2, 0, 0] : Fin 3 → ℕ) x + S1x128x128.size x ≤ S2x128x128.size x := by
  have := Nat.mod_lt k (show 0 < 2 by decide)
  intro x; match x with
  | 0 => show k % 2 + 1 ≤ 2; omega
  | 1 => show 0 + 128 ≤ 128; omega
  | 2 => show 0 + 128 ≤ 128; omega
theorem cell_inb (k : ℕ) : ∀ x, (![k % 2] : Fin 1 → ℕ) x + S1.size x ≤ S2.size x := by
  have := Nat.mod_lt k (show 0 < 2 by decide)
  intro x; match x with
  | 0 => show k % 2 + 1 ≤ 2; omega
theorem irow_inb (i : grid1.Coords) : ∀ x, (![(i 0).val, 0, 0] : Fin 3 → ℕ) x + S1x1x320000.size x ≤ S2x1x320000.size x := by
  have : (i 0).val < 2 := (i 0).isLt
  intro x; match x with
  | 0 => show (i 0).val + 1 ≤ 2; omega
  | 1 => show 0 + 1 ≤ 1; omega
  | 2 => show 0 + 320000 ≤ 320000; omega
theorem iwin_inb (q : Fin 4) (w : Fin 625) : ∀ x, (![0, 128 * (625 * q.val + w.val)] : Fin 2 → ℕ) x + S1x128.size x ≤ S1x320000.size x := by
  intro x; match x with
  | 0 => show 0 + 1 ≤ 1; omega
  | 1 => show 128 * (625 * q.val + w.val) + 128 ≤ 320000; omega
theorem ohalf_inb (i : grid1.Coords) : ∀ x, (![80000 * (i 0).val, 0] : Fin 2 → ℕ) x + S80000x128.size x ≤ S160000x128.size x := by
  have : (i 0).val < 2 := (i 0).isLt
  intro x; match x with
  | 0 => show 80000 * (i 0).val + 80000 ≤ 160000; omega
  | 1 => show 0 + 128 ≤ 128; omega
theorem owin_inb (w : Fin 625) : ∀ x, (![128 * w.val, 0] : Fin 2 → ℕ) x + S128x128.size x ≤ S80000x128.size x := by
  intro x; match x with
  | 0 => show 128 * w.val + 128 ≤ 80000; omega
  | 1 => show 0 + 128 ≤ 128; omega

/-- Index slot `k mod 2`, -/
abbrev islot (R : Refs) (k : ℕ) : Memref sig .scVector .vmem S1x128 .i32 :=
  (R.ibuf.slice (Rect.unit (s := S2x1x128) ![k % 2, 0, 0] S1x1x128.size (islot_inb k)) (fun _ => rfl)).squeeze S1x128 squeezes_S1x1x128_S1x128
/-- read as a list of row numbers, -/
abbrev ilist (R : Refs) (k : ℕ) : Memref sig .scVector .vmem S128 .i32 :=
  ((islot R k).slice (Rect.unit (s := S1x128) ![0, 0] S1x128.size inb_S1x128_S1x128_0_0) (fun _ => rfl)).squeeze S128 squeezes_S1x128_S128
/-- its semaphore, -/
abbrev isem (R : Refs) (k : ℕ) : DmaSem sig :=
  ((R.sIn.slice (Rect.unit (s := S2) ![k % 2] S1.size (cell_inb k))).squeeze S_ squeezes_S1_S_).sem
/-- row slot `k mod 2`, -/
abbrev oslot (R : Refs) (k : ℕ) : Memref sig .scVector .vmem S128x128 .f32 :=
  (R.obuf.slice (Rect.unit (s := S2x128x128) ![k % 2, 0, 0] S1x128x128.size (oslot_inb k)) (fun _ => rfl)).squeeze S128x128 squeezes_S1x128x128_S128x128
/-- its semaphore, -/
abbrev osem (R : Refs) (k : ℕ) : DmaSem sig :=
  ((R.sOut.slice (Rect.unit (s := S2) ![k % 2] S1.size (cell_inb k))).squeeze S_ squeezes_S1_S_).sem
/-- window `w` of block `q` of the SparseCore's row numbers, -/
abbrev iwin (R : Refs) (q : Fin 4) (i : grid1.Coords) (w : Fin 625) : Memref sig .scVector .hbm S1x128 .i32 :=
  ((R.idx.slice (Rect.unit (s := S2x1x320000) ![(i 0).val, 0, 0] S1x1x320000.size (irow_inb i)) (fun _ => rfl)).squeeze S1x320000
    squeezes_S1x1x320000_S1x320000).slice (Rect.unit (s := S1x320000) ![0, 128 * (625 * q.val + w.val)] S1x128.size (iwin_inb q w)) (fun _ => rfl)
/-- window `w` of the SparseCore's gathered rows, -/
abbrev owin (R : Refs) (i : grid1.Coords) (w : Fin 625) : Memref sig .scVector .hbm S128x128 .f32 :=
  (R.out.slice (Rect.unit (s := S160000x128) ![80000 * (i 0).val, 0] S80000x128.size (ohalf_inb i)) (fun _ => rfl)).slice
    (Rect.unit (s := S80000x128) ![128 * w.val, 0] S128x128.size (owin_inb w)) (fun _ => rfl)
/-- and the SparseCore's shared scratch, as the gather addresses it. -/
abbrev shAll (R : Refs) : Memref sig .scVector .shared S10000x128 .f32 :=
  R.sh.slice (Rect.unit (s := S10000x128) ![0, 0] S10000x128.size inb_S10000x128_S10000x128_0_0) (fun _ => rfl)

/-- The window of a tile's trip `k`. -/
def wn (i : grid1.Coords) (k : ℕ) : Fin 625 := ⟨(bW i + k) % 625, Nat.mod_lt _ (by decide)⟩

/-- Tile `i`'s thread. -/
abbrev tl (d : Dev nD) (i : grid1.Coords) : Thread nD τ := V d ((i 0).castLE hcore1) ((i 1).castLE hsub1)

variable (d : Dev nD) (i : grid1.Coords) (R : Refs) (q : Fin 4)

/-- A piece of memory, at given contents. -/
abbrev at_ {sp : Space} {s : Shape} {e : EltTy} (m : Memref sig .scVector sp s e) (f : Buf (Elt F) (m.view.loc (tl d i))) : sProp 𝕄 :=
  m.view.loc (tl d i) ↦[m.view.set]{fullShare} f

theorem write_congr {sp : Space} {s : Shape} {e : EltTy} (m : Memref sig .scVector sp s e) (f g : Buf (Elt F) (m.view.loc (tl d i)))
    (w : s.Idx → Elt F e) (h : ∀ x, w x = m.view.read (Elt F) g x) :
    (at_ d i m (m.view.write (Elt F) f w Finset.univ) : sProp 𝕄) = at_ d i m g := by
  refine pointsTo_congr fun x hx => ?_
  obtain ⟨y, -, rfl⟩ := Finset.mem_map.mp hx
  rw [View.write_emb_of_mem _ _ (Finset.mem_univ _), h y, View.read_apply, cast_cast, cast_eq]

/-- What a copy leaves in its destination reads as its source. -/
theorem landed {sp sp' : Space} {s : Shape} {e : EltTy} (src : Memref sig .scVector sp s e) (dst : Memref sig .scVector sp' s e)
    (fs : Buf (Elt F) (src.view.loc (tl d i))) (fd : Buf (Elt F) (dst.view.loc (tl d i))) :
    (at_ d i dst (dst.view.write (Elt F) fd (ReadAs.same.apply (src.view.read (Elt F) fs)) Finset.univ) : sProp 𝕄)
      ⊢ iprop(∃ f, ⌜dst.view.read (Elt F) f = src.view.read (Elt F) fs⌝ ∗ at_ d i dst f) := by
  iintro H
  iexists _
  isplitr; swap; · iexact H
  ipureintro
  exact View.read_write_univ _ _

/-- The SparseCore's list of row numbers of window `w`, -/
abbrev wlist (q : Fin 4) (w : Fin 625) : Memref sig .scVector .hbm S128 .i32 :=
  ((iwin R q i w).slice (Rect.unit (s := S1x128) ![0, 0] S1x128.size inb_S1x128_S1x128_0_0) (fun _ => rfl)).squeeze S128 squeezes_S1x128_S128

theorem ilist_read (k : ℕ) (w : Fin 625) (f : Buf (Elt F) ((islot R k).view.loc (tl d i))) (fi : Buf (Elt F) ((iwin R q i w).view.loc (tl d i)))
    (h : (islot R k).view.read (Elt F) f = (iwin R q i w).view.read (Elt F) fi) :
    (ilist R k).view.read (Elt F) f = (wlist i R q w).view.read (Elt F) fi :=
  funext fun x => congrFun h (((Rect.unit (s := S1x128) ![0, 0] S1x128.size inb_S1x128_S1x128_0_0).emb) (Shape.reshapeEquiv squeezes_S1x128_S128.numel_eq x))

theorem ilist_set (k : ℕ) : (ilist R k).view.set = (islot R k).view.set := by
  show (((islot R k).view.slice (Rect.unit (s := S1x128) ![0, 0] S1x128.size inb_S1x128_S1x128_0_0)).reshape S128 squeezes_S1x128_S128.numel_eq).set = _
  rw [View.set_reshape, View.set_slice,
    show (Rect.unit (s := S1x128) ![0, 0] S1x128.size inb_S1x128_S1x128_0_0).set = Finset.univ by decide +kernel]
  rfl

variable [FloatOps F]

/-- and the rows they name, out of the shared scratch at contents `H`. -/
def rowsOf (q : Fin 4) (w : Fin 625) (fi : Buf (Elt F) ((iwin R q i w).view.loc (tl d i))) (H : Buf (Elt F) ((shAll R).view.loc (tl d i)))
    (hin : ∀ x, ((wlist i R q w).view.read (Elt F) fi x).toNat < S10000x128.size gathers_S10000x128_S128x128.axis) : S128x128.Idx → Elt F .f32 :=
  SparseCore.gatherPayload gathers_S10000x128_S128x128 ((shAll R).view.read (Elt F) H)
    (SparseCore.rows (F := F) ((wlist i R q w).view.read (Elt F) fi) rfl hin)

variable {α : Type}

abbrev wpT (d : Dev nD) (i : grid1.Coords) (p : Prog (TpuEff nD τ sig (Elt F) Λ₀ (.scVector ((i 0).castLE hcore1) ((i 1).castLE hsub1))) α) (Q : α → sProp 𝕄) : sProp 𝕄 :=
  wp frame (wpE (defs₀ (F := F)) 𝒱₀ (tl d i) none) Set.univ p Q

local notation "ι₀" => (default : HIx 4)

/-- What the tile owes, whatever waits of the transfers it has recorded. -/
abbrev Ow (O : CellTallies nD τ sig (HIx 4)) (W : Waits sig (HIx 4)) : sProp 𝕄 :=
  iprop(∃ W', ⌜∀ p ∈ W', p ∈ W ∨ p.2 = none⌝ ∗ owes (tl d i) O W')

/-- The fetch of an index window into an index slot, on its way. -/
abbrev inFlight (k : ℕ) (w : Fin 625) (fi : Buf (Elt F) ((iwin R q i w).view.loc (tl d i))) : sProp 𝕄 :=
  Transfers.Flight countersEmb (tl d i) (.dma (isem R k)) ι₀ (islot R k).view.dmaCredit
    iprop((∃ f, ⌜(islot R k).view.read (Elt F) f = (iwin R q i w).view.read (Elt F) fi⌝ ∗ at_ d i (islot R k) f) ∗ at_ d i (iwin R q i w) fi)
/-- The write-back of a row slot, on its way. -/
abbrev outFlight (k : ℕ) (w : Fin 625) (Gt : Buf (Elt F) ((owin R i w).view.loc (tl d i))) : sProp 𝕄 :=
  Transfers.Flight countersEmb (tl d i) (.dma (osem R k)) ι₀ (owin R i w).view.dmaCredit
    iprop(at_ d i (owin R i w) Gt ∗ (∃ f, at_ d i (oslot R k) f))

/-- The fetch of an index window into an index slot. -/
theorem step_fetch (k : ℕ) (w : Fin 625) (fi : Buf (Elt F) ((iwin R q i w).view.loc (tl d i))) {o7 : Fin 3 → ℕ} {o8 : Fin 3 → ℕ} {o9 : Fin 2 → ℕ} {o10 : Fin 1 → ℕ}
    (e7 : o7 = ![k % 2, 0, 0]) (e8 : o8 = ![(i 0).val, 0, 0]) (e9 : o9 = ![0, 128 * (625 * q.val + w.val)]) (e10 : o10 = ![k % 2])
    {h7 h8 h9 h10 p1 p2 p3} {kk : PUnit → Prog (TpuEff nD τ sig (Elt F) Λ₀ (.scVector ((i 0).castLE hcore1) ((i 1).castLE hsub1))) α}
    {Q : α → sProp 𝕄} :
    iprop(at_ d i (iwin R q i w) fi ∗ (∃ f, at_ d i (islot R k) f) ∗ semVal (tl d i, .dma (isem R k)) 0)
      ⊢ iprop((inFlight d i R q k w fi -∗ wpT d i (kk ⟨⟩) Q)
        -∗ wpT d i (.op (.enqueueDma
            (((R.idx.slice (Rect.unit (s := S2x1x320000) o8 S1x1x320000.size h8) (fun _ => rfl)).squeeze S1x320000 squeezes_S1x1x320000_S1x320000).slice
              (Rect.unit (s := S1x320000) o9 S1x128.size h9) (fun _ => rfl))
            (.here ((R.ibuf.slice (Rect.unit (s := S2x1x128) o7 S1x1x128.size h7) (fun _ => rfl)).squeeze S1x128 squeezes_S1x1x128_S1x128))
            (.dma ((R.sIn.slice (Rect.unit (s := S2) o10 S1.size h10)).squeeze S_ squeezes_S1_S_).sem) p1 p2 p3) kk) Q) := by
  subst e7 e8 e9 e10
  iintro ⟨Hw, ⟨%f, Hs⟩, Hv⟩ Hk
  iapply (Transfers.wp_dmaLocal countersEmb 𝒱₀ (tl d i) none (src := iwin R q i w) (dst := islot R k) ι₀ (islot R k).view.dmaCredit rfl
    (View.dmaCredit_pos _ (by decide)) (Finset.Subset.refl _)) $$ [Hw Hs Hv]
  · isplitl [Hw]; · iexact Hw
    isplitl [Hs]; · iexact Hs
    iexact Hv
  iintro Hfl
  iapply Hk
  iapply (Transfers.Flight_mono countersEmb (tl d i) (BI.sep_mono (landed d i (iwin R q i w) (islot R k) fi f) (BI.Entails.refl _))) $$ Hfl

/-- The wait for an index slot's transfer. -/
theorem step_waitIn (k : ℕ) {Dl : sProp 𝕄} (O : CellTallies nD τ sig (HIx 4)) (W : Waits sig (HIx 4))
    {o11 : Fin 3 → ℕ} {o12 : Fin 3 → ℕ} {o13 : Fin 2 → ℕ} {o14 : Fin 1 → ℕ} (e14 : o14 = ![k % 2])
    {h11 h12 h13 h14 p1 p2} {kk : PUnit → Prog (TpuEff nD τ sig (Elt F) Λ₀ (.scVector ((i 0).castLE hcore1) ((i 1).castLE hsub1))) α}
    {Q : α → sProp 𝕄} :
    iprop(Transfers.MayWaits (tl d i) ι₀ O ∗ Transfers.Flight countersEmb (tl d i) (.dma (isem R k)) ι₀ (islot R k).view.dmaCredit Dl ∗ Ow (F := F) d i O W)
      ⊢ iprop((iprop(Dl ∗ semVal (tl d i, .dma (isem R k)) 0 ∗ Ow (F := F) d i O W) -∗ wpT d i (kk ⟨⟩) Q)
        -∗ wpT d i (.op (.waitDma2 ((R.sIn.slice (Rect.unit (s := S2) o14 S1.size h14)).squeeze S_ squeezes_S1_S_).sem
            (((R.idx.slice (Rect.unit (s := S2x1x320000) o12 S1x1x320000.size h12) (fun _ => rfl)).squeeze S1x320000 squeezes_S1x1x320000_S1x320000).slice
              (Rect.unit (s := S1x320000) o13 S1x128.size h13) (fun _ => rfl))
            ((R.ibuf.slice (Rect.unit (s := S2x1x128) o11 S1x1x128.size h11) (fun _ => rfl)).squeeze S1x128 squeezes_S1x1x128_S1x128)
            p1 p2) kk) Q) := by
  subst e14
  iintro ⟨Hmw, Hfl, ⟨%W', %hW', HO⟩⟩ Hk
  iapply (Transfers.wp_waitLocalO countersEmb 𝒱₀ (tl d i) none (sem := isem R k)
    (dstw := ((R.ibuf.slice (Rect.unit (s := S2x1x128) o11 S1x1x128.size h11) (fun _ => rfl)).squeeze S1x128 squeezes_S1x1x128_S1x128))
    (N := (islot R k).view.dmaCredit) ι₀ rfl) $$ [Hmw Hfl HO]
  · isplitl [Hfl]; · iexact Hfl
    isplitl [HO]; · iexact HO
    iapply (Transfers.MayWaits.elim (SemLoc.dma (isem R k))) $$ Hmw
  iintro ⟨HD, Hv, HO⟩
  iapply Hk
  isplitl [HD]; · iexact HD
  isplitl [Hv]; · iexact Hv
  iexists _; isplitr; swap; · iexact HO
  ipureintro; intro p hp
  rcases Finset.mem_insert.mp hp with hp | hp
  · exact .inr (hp ▸ rfl)
  · exact hW' p hp

/-- The start of the gather of a window's rows into a row slot. -/
theorem step_gather (k : ℕ) (w : Fin 625) (fi : Buf (Elt F) ((iwin R q i w).view.loc (tl d i))) (H : Buf (Elt F) ((shAll R).view.loc (tl d i)))
    (hin : ∀ x, ((wlist i R q w).view.read (Elt F) fi x).toNat < S10000x128.size gathers_S10000x128_S128x128.axis)
    (hN : ∑ j, ((oslot R k).slice (S128x128.rowRect gathers_S10000x128_S128x128.axis' j) (S128x128.stride_rowRect gathers_S10000x128_S128x128.axis' j)).view.dmaCredit
      = (oslot R k).view.dmaCredit)
    (qs : PosShare TreeShare) {o15 o16 : Fin 3 → ℕ} (e15 : o15 = ![k % 2, 0, 0]) (e16 : o16 = ![k % 2, 0, 0])
    {h15 h16 p1 p2 p3} {kk : PUnit → Prog (TpuEff nD τ sig (Elt F) Λ₀ (.scVector ((i 0).castLE hcore1) ((i 1).castLE hsub1))) α}
    {Q : α → sProp 𝕄} :
    iprop(((shAll R).view.loc (tl d i) ↦[(shAll R).view.set]{qs} H) ∗ (∃ f, at_ d i (oslot R k) f)
        ∗ (∃ f, ⌜(islot R k).view.read (Elt F) f = (iwin R q i w).view.read (Elt F) fi⌝ ∗ at_ d i (islot R k) f) ∗ semVal (tl d i, .dma R.sG.sem) 0)
      ⊢ iprop((Transfers.Flight countersEmb (tl d i) (.dma R.sG.sem) ι₀ (oslot R k).view.dmaCredit
            iprop((∃ f, ⌜(oslot R k).view.read (Elt F) f = rowsOf d i R q w fi H hin⌝ ∗ at_ d i (oslot R k) f)
              ∗ ((shAll R).view.loc (tl d i) ↦[(shAll R).view.set]{qs} H) ∗ (∃ f, at_ d i (islot R k) f))
          -∗ wpT d i (kk ⟨⟩) Q)
        -∗ wpT d i (SparseCore.enqueueIndirectGather rfl (shAll R)
            ((R.obuf.slice (Rect.unit (s := S2x128x128) o15 S1x128x128.size h15) (fun _ => rfl)).squeeze S128x128 squeezes_S1x128x128_S128x128)
            gathers_S10000x128_S128x128
            ((((R.ibuf.slice (Rect.unit (s := S2x1x128) o16 S1x1x128.size h16) (fun _ => rfl)).squeeze S1x128 squeezes_S1x1x128_S1x128).slice
              (Rect.unit (s := S1x128) ![0, 0] S1x128.size inb_S1x128_S1x128_0_0) (fun _ => rfl)).squeeze S128 squeezes_S1x128_S128)
            rfl R.sG.sem p1 p2 p3 >>= kk) Q) := by
  subst e15 e16
  iintro ⟨Hsh, ⟨%fo, Ho⟩, ⟨%f, %hf, Hs⟩, Hv⟩ Hk
  have hrd := ilist_read d i R q k w f fi hf
  have hin' : ∀ x, ((ilist R k).view.read (Elt F) f x).toNat < S10000x128.size gathers_S10000x128_S128x128.axis := by
    rw [hrd]; exact hin
  ihave Hs' := (Entails.of_eq (show (at_ d i (islot R k) f : sProp 𝕄)
      = ((ilist R k).view.loc (tl d i) ↦[(ilist R k).view.set]{fullShare} f) by rw [ilist_set])) $$ Hs
  iapply (SparseCore.wp_indirectGatherLocal countersEmb 𝒱₀ (tl d i) none (src := shAll R) (dst := oslot R k) (offs := ilist R k)
      (hg := gathers_S10000x128_S128x128) ι₀ (oslot R k).view.dmaCredit hN (by decide) hin') $$ [Hsh Ho Hs' Hv]
  · isplitl [Hsh]; · iexact Hsh
    isplitl [Ho]; · iexact Ho
    isplitl [Hs']; · iexact Hs'
    iexact Hv
  iintro Hfl
  iapply Hk
  have hm : iprop(at_ (F := F) d i (oslot R k) ((oslot R k).view.write (Elt F) fo (SparseCore.gatherPayload gathers_S10000x128_S128x128 ((shAll R).view.read (Elt F) H)
          (SparseCore.rows (F := F) ((ilist R k).view.read (Elt F) f) rfl hin')) Finset.univ)
        ∗ ((shAll R).view.loc (tl d i) ↦[(shAll R).view.set]{qs} H) ∗ ((ilist R k).view.loc (tl d i) ↦[(ilist R k).view.set]{fullShare} f))
      ⊢ (iprop((∃ f, ⌜(oslot R k).view.read (Elt F) f = rowsOf d i R q w fi H hin⌝ ∗ at_ d i (oslot R k) f)
              ∗ ((shAll R).view.loc (tl d i) ↦[(shAll R).view.set]{qs} H) ∗ (∃ f, at_ d i (islot R k) f)) : sProp 𝕄) := by
    iintro ⟨Ho, Hsh, Hs⟩
    isplitl [Ho]
    · iexists _; isplitr; swap; · iexact Ho
      ipureintro
      rw [View.read_write_univ]
      unfold rowsOf
      congr 2
    isplitl [Hsh]; · iexact Hsh
    iexists f
    iapply (Entails.of_eq (show ((ilist R k).view.loc (tl d i) ↦[(ilist R k).view.set]{fullShare} f : sProp 𝕄)
      = at_ d i (islot R k) f by rw [ilist_set])) $$ Hs
  iapply (Transfers.Flight_mono countersEmb (tl d i) hm) $$ Hfl

/-- The wait for the gathered rows. -/
theorem step_waitGather (k : ℕ) {Dl : sProp 𝕄} (O : CellTallies nD τ sig (HIx 4)) (W : Waits sig (HIx 4))
    {o15 : Fin 3 → ℕ} (e15 : o15 = ![k % 2, 0, 0])
    {h15 p1 p2} {kk : PUnit → Prog (TpuEff nD τ sig (Elt F) Λ₀ (.scVector ((i 0).castLE hcore1) ((i 1).castLE hsub1))) α}
    {Q : α → sProp 𝕄} :
    iprop(Transfers.MayWaits (tl d i) ι₀ O ∗ Transfers.Flight countersEmb (tl d i) (.dma R.sG.sem) ι₀ (oslot R k).view.dmaCredit Dl ∗ Ow (F := F) d i O W)
      ⊢ iprop((iprop(Dl ∗ semVal (tl d i, .dma R.sG.sem) 0 ∗ Ow (F := F) d i O W) -∗ wpT d i (kk ⟨⟩) Q)
        -∗ wpT d i (.op (.waitDma2 R.sG.sem (shAll R)
            ((R.obuf.slice (Rect.unit (s := S2x128x128) o15 S1x128x128.size h15) (fun _ => rfl)).squeeze S128x128 squeezes_S1x128x128_S128x128)
            p1 p2) kk) Q) := by
  subst e15
  iintro ⟨Hmw, Hfl, ⟨%W', %hW', HO⟩⟩ Hk
  iapply (Transfers.wp_waitLocalO countersEmb 𝒱₀ (tl d i) none (sem := R.sG.sem) (dstw := oslot R k) (N := (oslot R k).view.dmaCredit) ι₀ rfl) $$ [Hmw Hfl HO]
  · isplitl [Hfl]; · iexact Hfl
    isplitl [HO]; · iexact HO
    iapply (Transfers.MayWaits.elim (SemLoc.dma R.sG.sem)) $$ Hmw
  iintro ⟨HD, Hv, HO⟩
  iapply Hk
  isplitl [HD]; · iexact HD
  isplitl [Hv]; · iexact Hv
  iexists _; isplitr; swap; · iexact HO
  ipureintro; intro p hp
  rcases Finset.mem_insert.mp hp with hp | hp
  · exact .inr (hp ▸ rfl)
  · exact hW' p hp

/-- The write-back of a row slot to its window. -/
theorem step_back (k : ℕ) (w : Fin 625) (Gt : Buf (Elt F) ((owin R i w).view.loc (tl d i))) {o17 : Fin 3 → ℕ} {o18 o19 : Fin 2 → ℕ} {o20 : Fin 1 → ℕ}
    (e17 : o17 = ![k % 2, 0, 0]) (e18 : o18 = ![80000 * (i 0).val, 0]) (e19 : o19 = ![128 * w.val, 0]) (e20 : o20 = ![k % 2])
    {h17 h18 h19 h20 p1 p2 p3} {kk : PUnit → Prog (TpuEff nD τ sig (Elt F) Λ₀ (.scVector ((i 0).castLE hcore1) ((i 1).castLE hsub1))) α}
    {Q : α → sProp 𝕄} :
    iprop((∃ f, at_ d i (owin R i w) f) ∗ (∃ f, ⌜(oslot R k).view.read (Elt F) f = (owin R i w).view.read (Elt F) Gt⌝ ∗ at_ d i (oslot R k) f)
        ∗ semVal (tl d i, .dma (osem R k)) 0)
      ⊢ iprop((outFlight d i R k w Gt -∗ wpT d i (kk ⟨⟩) Q)
        -∗ wpT d i (.op (.enqueueDma
            ((R.obuf.slice (Rect.unit (s := S2x128x128) o17 S1x128x128.size h17) (fun _ => rfl)).squeeze S128x128 squeezes_S1x128x128_S128x128)
            (.here ((R.out.slice (Rect.unit (s := S160000x128) o18 S80000x128.size h18) (fun _ => rfl)).slice
              (Rect.unit (s := S80000x128) o19 S128x128.size h19) (fun _ => rfl)))
            (.dma ((R.sOut.slice (Rect.unit (s := S2) o20 S1.size h20)).squeeze S_ squeezes_S1_S_).sem) p1 p2 p3) kk) Q) := by
  subst e17 e18 e19 e20
  iintro ⟨⟨%fw, Hw⟩, ⟨%f, %hf, Hs⟩, Hv⟩ Hk
  iapply (Transfers.wp_dmaLocal countersEmb 𝒱₀ (tl d i) none (src := oslot R k) (dst := owin R i w) ι₀ (owin R i w).view.dmaCredit rfl
    (View.dmaCredit_pos _ (by decide)) (Finset.Subset.refl _)) $$ [Hw Hs Hv]
  · isplitl [Hs]; · iexact Hs
    isplitl [Hw]; · iexact Hw
    iexact Hv
  iintro Hfl
  iapply Hk
  have hm : iprop(at_ (F := F) d i (owin R i w) ((owin R i w).view.write (Elt F) fw (ReadAs.same.apply ((oslot R k).view.read (Elt F) f)) Finset.univ)
        ∗ at_ d i (oslot R k) f) ⊢ (iprop(at_ d i (owin R i w) Gt ∗ (∃ f, at_ d i (oslot R k) f)) : sProp 𝕄) := by
    rw [write_congr d i (owin R i w) fw Gt _ (fun x => congrFun hf x)]
    iintro ⟨Hw, Hs⟩
    isplitl [Hw]; · iexact Hw
    iexists f; iexact Hs
  iapply (Transfers.Flight_mono countersEmb (tl d i) hm) $$ Hfl

/-- The wait for a row slot's write-back. -/
theorem step_waitOut (k : ℕ) (w : Fin 625) {Dl : sProp 𝕄} (O : CellTallies nD τ sig (HIx 4)) (W : Waits sig (HIx 4))
    {o21 : Fin 3 → ℕ} {o22 o23 : Fin 2 → ℕ} {o24 : Fin 1 → ℕ} (e24 : o24 = ![k % 2])
    {h21 h22 h23 h24 p1 p2} {kk : PUnit → Prog (TpuEff nD τ sig (Elt F) Λ₀ (.scVector ((i 0).castLE hcore1) ((i 1).castLE hsub1))) α}
    {Q : α → sProp 𝕄} :
    iprop(Transfers.MayWaits (tl d i) ι₀ O ∗ Transfers.Flight countersEmb (tl d i) (.dma (osem R k)) ι₀ (owin R i w).view.dmaCredit Dl ∗ Ow (F := F) d i O W)
      ⊢ iprop((iprop(Dl ∗ semVal (tl d i, .dma (osem R k)) 0 ∗ Ow (F := F) d i O W) -∗ wpT d i (kk ⟨⟩) Q)
        -∗ wpT d i (.op (.waitDma2 ((R.sOut.slice (Rect.unit (s := S2) o24 S1.size h24)).squeeze S_ squeezes_S1_S_).sem
            ((R.obuf.slice (Rect.unit (s := S2x128x128) o21 S1x128x128.size h21) (fun _ => rfl)).squeeze S128x128 squeezes_S1x128x128_S128x128)
            ((R.out.slice (Rect.unit (s := S160000x128) o22 S80000x128.size h22) (fun _ => rfl)).slice
              (Rect.unit (s := S80000x128) o23 S128x128.size h23) (fun _ => rfl))
            p1 p2) kk) Q) := by
  subst e24
  iintro ⟨Hmw, Hfl, ⟨%W', %hW', HO⟩⟩ Hk
  iapply (Transfers.wp_waitLocalO countersEmb 𝒱₀ (tl d i) none (sem := osem R k)
    (dstw := ((R.out.slice (Rect.unit (s := S160000x128) o22 S80000x128.size h22) (fun _ => rfl)).slice
              (Rect.unit (s := S80000x128) o23 S128x128.size h23) (fun _ => rfl)))
    (N := (owin R i w).view.dmaCredit) ι₀ rfl) $$ [Hmw Hfl HO]
  · isplitl [Hfl]; · iexact Hfl
    isplitl [HO]; · iexact HO
    iapply (Transfers.MayWaits.elim (SemLoc.dma (osem R k))) $$ Hmw
  iintro ⟨HD, Hv, HO⟩
  iapply Hk
  isplitl [HD]; · iexact HD
  isplitl [Hv]; · iexact Hv
  iexists _; isplitr; swap; · iexact HO
  ipureintro; intro p hp
  rcases Finset.mem_insert.mp hp with hp | hp
  · exact .inr (hp ▸ rfl)
  · exact hW' p hp

end Cert.Proof

end
-- ==== Proof.GatherRet.lean ====
/-
  The scalars a trip of the gather loop computes, part by part, and what they come to over the loop: the carried numbers
  advance as `carry` says.
-/
module

public import proofs.«01_k».proof.Proof.GatherForms

@[expose] public section

noncomputable section

namespace Cert.Proof

open Cert.KernelIdeal Cert.KernelIdeal.Gen
open Idealize.ShloMosaic Idealize.SL.Sem

/-- What the start of a trip hands on: the scalars it computes. -/
def gret1 (G : Starts) (i : grid1.Coords) (v7 : BitVec 32) (v12 : BitVec 32) (k1_h2 : G.cond2 i = 1#1) (c0_i32_31 : BitVec 32) (c1_i32_37 : BitVec 32) (k1_t1 : Fin (G.t1_loop i).trips) (arg7 : BitVec 32) (arg8 : BitVec 32) (arg9 : BitVec 32) (arg10 : BitVec 32) (arg11 : BitVec 32) (k1_hw3 : G.chk3 i arg8) (k1_hw2 : G.chk2 i arg9) (k1_hw1 : G.chk1 i k1_t1 arg7 arg8 arg9 arg10 arg11) :
    (Σ' (k1_hw3 : G.chk3 i arg8) (k1_hw2 : G.chk2 i arg9) (k1_hw1 : G.chk1 i k1_t1 arg7 arg8 arg9 arg10 arg11) (arg6 : BitVec 32) (v82 : BitVec 32) (v83 : BitVec 1) (v85 : BitVec 1) (v86 : BitVec 32) (v92 : BitVec 32) (v97 : BitVec 32) (v103 : BitVec 32) (v104 : BitVec 32) (v114 : BitVec 1), BitVec 32) :=
  let arg6 : BitVec 32 := Scf.iv c0_i32_31 c1_i32_37 k1_t1
  let v82 : BitVec 32 := Scalar.muli 1#32 v7
  let v83 : BitVec 1 := Scalar.cmpi .eq arg6 0#32
  let v84 : BitVec 32 := Scalar.subi v82 1#32
  let v85 : BitVec 1 := Scalar.cmpi .eq arg6 v84
  let v86 : BitVec 32 := Scalar.addi arg11 v12
  let v87 : BitVec 32 := Scalar.subi arg11 1#32
  let v88 : BitVec 32 := Scalar.select 1#1 v87 arg11
  let v89 : BitVec 1 := Scalar.cmpi .eq v88 4294967295#32
  let v90 : BitVec 32 := Scalar.subi v7 1#32
  let v91 : BitVec 32 := Scalar.select v89 v90 v88
  let v92 : BitVec 32 := Scalar.addi v91 v12
  let v93 : BitVec 32 := Scalar.addi arg11 1#32
  let v94 : BitVec 32 := Scalar.select 1#1 v93 arg11
  let v95 : BitVec 1 := Scalar.cmpi .eq v94 v7
  let v96 : BitVec 32 := Scalar.select v95 0#32 v94
  let v97 : BitVec 32 := Scalar.addi v96 v12
  let v103 : BitVec 32 := Scalar.addi v86 G.sb
  let v104 : BitVec 32 := Scalar.addi v97 G.sb
  let v105 : BitVec 1 := Scalar.cmpi .ne v103 v104
  let v106 : BitVec 32 := Scalar.subi v82 2#32
  let v107 : BitVec 32 := Scalar.addi v106 1#32
  let v108 : BitVec 1 := Scalar.cmpi .sge arg6 v107
  let v109 : BitVec 1 := Scalar.xori v108 1#1
  let v110 : BitVec 1 := Scalar.andi v105 v109
  let v114 : BitVec 1 := Scalar.andi v110 1#1
  ⟨k1_hw3, k1_hw2, k1_hw1, arg6, v82, v83, v85, v86, v92, v97, v103, v104, v114, 1#32⟩

/-- What the gather's start hands on: the scalars it computes. -/
def gret2 (G : Starts) (i : grid1.Coords) (k1_h2 : G.cond2 i = 1#1) (k1_t1 : Fin (G.t1_loop i).trips) (arg7 : BitVec 32) (arg8 : BitVec 32) (arg9 : BitVec 32) (arg10 : BitVec 32) (arg11 : BitVec 32) (k1_hw3 : G.chk3 i arg8) (k1_hw2 : G.chk2 i arg9) (k1_hw1 : G.chk1 i k1_t1 arg7 arg8 arg9 arg10 arg11) (arg6 : BitVec 32) (v82 : BitVec 32) (v83 : BitVec 1) (v86 : BitVec 32) (v92 : BitVec 32) (v97 : BitVec 32) (v103 : BitVec 32) (v114 : BitVec 1) (c1_i32_79 : BitVec 32) :
    (Σ' (v116 : BitVec 32), BitVec 32) :=
  let v115 : BitVec 32 := Scalar.addi arg7 c1_i32_79
  let v116 : BitVec 32 := Scalar.select v114 v115 arg7
  let v123 : BitVec 32 := Scalar.addi v92 G.sb
  let v130 : BitVec 1 := Scalar.cmpi .ne v86 v92
  let v131 : BitVec 1 := Scalar.ori v130 v83
  let v132 : BitVec 1 := Scalar.cmpi .sge arg6 0#32
  let v133 : BitVec 1 := Scalar.andi v131 v132
  let v134 : BitVec 32 := Scalar.extui v133
  let v135 : BitVec 1 := Scalar.cmpi .ne v134 0#32
  ⟨v116, v123⟩

/-- What the end of a trip hands on: the scalars it computes. -/
def gret3 (G : Starts) (i : grid1.Coords) (v7 : BitVec 32) (k1_h2 : G.cond2 i = 1#1) (k1_t1 : Fin (G.t1_loop i).trips) (arg7 : BitVec 32) (arg8 : BitVec 32) (arg9 : BitVec 32) (arg10 : BitVec 32) (arg11 : BitVec 32) (k1_hw3 : G.chk3 i arg8) (k1_hw2 : G.chk2 i arg9) (k1_hw1 : G.chk1 i k1_t1 arg7 arg8 arg9 arg10 arg11) (v83 : BitVec 1) (v85 : BitVec 1) (v86 : BitVec 32) (v92 : BitVec 32) (v97 : BitVec 32) (v103 : BitVec 32) (v104 : BitVec 32) (v123 : BitVec 32) :
    (Σ' (v149 : BitVec 32) (v163 : BitVec 32) (v167 : BitVec 32), BitVec 32) :=
  let v138 : BitVec 1 := Scalar.cmpi .ne v103 v104
  let v139 : BitVec 1 := Scalar.ori v138 v85
  let v140 : BitVec 32 := Scalar.extui v139
  let v141 : BitVec 1 := Scalar.cmpi .ne v140 0#32
  let v143 : BitVec 1 := Scalar.cmpi .ne v86 v97
  let v144 : BitVec 1 := Scalar.ori v143 v85
  let v147 : BitVec 1 := Scalar.andi v144 1#1
  let v148 : BitVec 32 := Scalar.addi arg9 1#32
  let v149 : BitVec 32 := Scalar.select v147 v148 arg9
  let v150 : BitVec 1 := Scalar.cmpi .ne v103 v123
  let v151 : BitVec 1 := Scalar.xori v83 1#1
  let v152 : BitVec 1 := Scalar.andi v150 v151
  let v153 : BitVec 32 := Scalar.extui v152
  let v154 : BitVec 1 := Scalar.cmpi .ne v153 0#32
  let v156 : BitVec 1 := Scalar.cmpi .ne v86 v92
  let v157 : BitVec 1 := Scalar.xori v83 1#1
  let v158 : BitVec 1 := Scalar.andi v156 v157
  let v161 : BitVec 1 := Scalar.andi v158 1#1
  let v162 : BitVec 32 := Scalar.addi arg10 1#32
  let v163 : BitVec 32 := Scalar.select v161 v162 arg10
  let v164 : BitVec 1 := Scalar.cmpi .ne v103 v104
  let v165 : BitVec 1 := Scalar.ori v164 v85
  let v166 : BitVec 32 := Scalar.addi arg8 1#32
  let v167 : BitVec 32 := Scalar.select v165 v166 arg8
  let v168 : BitVec 32 := Scalar.addi arg11 1#32
  let v169 : BitVec 32 := Scalar.select 1#1 v168 arg11
  let v170 : BitVec 1 := Scalar.cmpi .eq v169 v7
  let v171 : BitVec 32 := Scalar.select v170 0#32 v169
  ⟨v149, v163, v167, v171⟩

/-- The numbers a trip carries on, of those it was handed. -/
def stepCarry (sb v7 v12 t a7 a8 a9 a10 a11 : BitVec 32) : BitVec 32 × BitVec 32 × BitVec 32 × BitVec 32 × BitVec 32 :=
  let last := Scalar.cmpi .eq t (Scalar.subi (Scalar.muli 1#32 v7) 1#32)
  let first := Scalar.cmpi .eq t 0#32
  let here := Scalar.addi a11 v12
  let prev0 := Scalar.select 1#1 (Scalar.subi a11 1#32) a11
  let prev := Scalar.addi (Scalar.select (Scalar.cmpi .eq prev0 4294967295#32) (Scalar.subi v7 1#32) prev0) v12
  let next0 := Scalar.select 1#1 (Scalar.addi a11 1#32) a11
  let next1 := Scalar.select (Scalar.cmpi .eq next0 v7) 0#32 next0
  let next := Scalar.addi next1 v12
  let moved := Scalar.cmpi .ne (Scalar.addi here sb) (Scalar.addi next sb)
  let room := Scalar.xori (Scalar.cmpi .sge t (Scalar.addi (Scalar.subi (Scalar.muli 1#32 v7) 2#32) 1#32)) 1#1
  (Scalar.select (Scalar.andi (Scalar.andi moved room) 1#1) (Scalar.addi a7 1#32) a7,
    Scalar.select (Scalar.ori moved last) (Scalar.addi a8 1#32) a8,
    Scalar.select (Scalar.andi (Scalar.ori (Scalar.cmpi .ne here next) last) 1#1) (Scalar.addi a9 1#32) a9,
    Scalar.select (Scalar.andi (Scalar.andi (Scalar.cmpi .ne here prev) (Scalar.xori first 1#1)) 1#1) (Scalar.addi a10 1#32) a10,
    next1)

set_option maxRecDepth 65536 in
set_option maxHeartbeats 4000000 in
theorem stepCarry_tile : ∀ (q : Fin 4) (s : Fin 16) (t : Fin 40), t.val < nW (crd 0 s) →
    stepCarry (B (625 * q.val)) (B (nW (crd 0 s))) (B (bW (crd 0 s))) (Scf.iv 0#32 1#32 t.val) (B (min (t.val + 1) (nW (crd 0 s)))) (B t.val) (B t.val)
        (B (t.val - 1)) (B t.val) = carry (crd 0 s) (t.val + 1) := by
  decide +kernel

theorem nW_le (i : grid1.Coords) : nW i ≤ 40 := by unfold nW; split <;> omega
theorem nW_ge (i : grid1.Coords) : 39 ≤ nW i := by unfold nW; split <;> omega
theorem wins_le (i : grid1.Coords) : bW i + nW i ≤ 625 := by
  have : (i 1).val < 16 := (i 1).isLt
  unfold bW nW; split <;> omega

/-- A trip advances the carried numbers. -/
theorem stepCarry_eq (q : Fin 4) (i : grid1.Coords) (t : ℕ) (ht : t < nW i) :
    stepCarry (B (625 * q.val)) (B (nW i)) (B (bW i)) (Scf.iv 0#32 1#32 t) (B (min (t + 1) (nW i))) (B t) (B t) (B (t - 1)) (B t) = carry i (t + 1) :=
  stepCarry_tile q (i 1) ⟨t, lt_of_lt_of_le ht (nW_le i)⟩ ht

end Cert.Proof

end
-- ==== Proof.Tile.lean ====
/-
  The task of one tile of a gather call: each part of a trip, the trip, the loop over the windows, and the whole task.
-/
module

public import proofs.«01_k».proof.Proof.Slots
public import proofs.«01_k».proof.Proof.GatherRet

@[expose] public section

set_option pp.maxSteps 400

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ
local notation "ι₀" => (default : HIx 4)

variable (d : Dev nD) (i : grid1.Coords) (R : Refs) (q : Fin 4) {G : Starts}

theorem wn_val {k : ℕ} (h : k < nW i) : (wn i k).val = bW i + k := by
  have := wins_le i
  show (bW i + k) % 625 = _
  exact Nat.mod_eq_of_lt (by omega)

section
variable {α : Type} {P : α → sProp (MT nD τ sig (HIx 4) (Elt F) ℕ UU ℕ)}

theorem wpT_pos {c : Prop} [Decidable c] {x : c → Prog (TpuEff nD τ sig (Elt F) Λ₀ (.scVector ((i 0).castLE hcore1) ((i 1).castLE hsub1))) α}
    {y : ¬ c → Prog (TpuEff nD τ sig (Elt F) Λ₀ (.scVector ((i 0).castLE hcore1) ((i 1).castLE hsub1))) α} (hc : c) :
    wpT d i (x hc) P ⊢ wpT d i (dite c x y) P := by rw [dif_pos hc]
theorem wpT_neg {c : Prop} [Decidable c] {x : c → Prog (TpuEff nD τ sig (Elt F) Λ₀ (.scVector ((i 0).castLE hcore1) ((i 1).castLE hsub1))) α}
    {y : ¬ c → Prog (TpuEff nD τ sig (Elt F) Λ₀ (.scVector ((i 0).castLE hcore1) ((i 1).castLE hsub1))) α} (hc : ¬ c) :
    wpT d i (y hc) P ⊢ wpT d i (dite c x y) P := by rw [dif_neg hc]
theorem wpT_dead {c : Prop} [Decidable c] {x : Prog (TpuEff nD τ sig (Elt F) Λ₀ (.scVector ((i 0).castLE hcore1) ((i 1).castLE hsub1))) α} :
    wpT d i x P ⊢ wpT d i (if c then x else x) P := by rw [ite_self]
theorem wpT_ret {a : α} : P a ⊢ wpT d i (.ret a : Prog (TpuEff nD τ sig (Elt F) Λ₀ (.scVector ((i 0).castLE hcore1) ((i 1).castLE hsub1))) α) P := by
  unfold wpT
  rw [wp_ret]
  iintro H
  imodintro
  iexact H
end

section
variable {α β : Type} {P : β → sProp (MT nD τ sig (HIx 4) (Elt F) ℕ UU ℕ)}
theorem wpT_bind {x : Prog (TpuEff nD τ sig (Elt F) Λ₀ (.scVector ((i 0).castLE hcore1) ((i 1).castLE hsub1))) α}
    {k : α → Prog (TpuEff nD τ sig (Elt F) Λ₀ (.scVector ((i 0).castLE hcore1) ((i 1).castLE hsub1))) β} :
    wpT d i x (fun a => wpT d i (k a) P) ⊢ wpT d i (x >>= k) P := by
  unfold wpT
  rw [wp_bind]
end

variable (hG : Good G (625 * q.val)) (fi : (w : Fin 625) → Buf (Elt F) ((iwin R q i w).view.loc (tl d i)))

include hG in
theorem part1_wp (h2 : G.cond2 i = 1#1) (v7 v12 : BitVec 32) (t : Fin (G.t1_loop i).trips)
    {Q : (Σ' (k1_hw3 : G.chk3 i (B t.val)) (k1_hw2 : G.chk2 i (B t.val)) (k1_hw1 : G.chk1 i t (B (min (t.val + 1) (nW i))) (B t.val) (B t.val) (B (t.val - 1)) (B t.val)) (arg6 : BitVec 32) (v82 : BitVec 32) (v83 : BitVec 1) (v85 : BitVec 1) (v86 : BitVec 32) (v92 : BitVec 32) (v97 : BitVec 32) (v103 : BitVec 32) (v104 : BitVec 32) (v114 : BitVec 1), BitVec 32) → sProp 𝕄} :
    (if t.val + 1 < nW i then iprop(at_ d i (iwin R q i (wn i (t.val + 1))) (fi (wn i (t.val + 1))) ∗ (∃ f, at_ d i (islot R (t.val + 1)) f) ∗ semVal (tl d i, .dma (isem R (t.val + 1))) 0) else emp)
      ⊢ iprop(((if t.val + 1 < nW i then inFlight d i R q (t.val + 1) (wn i (t.val + 1)) (fi (wn i (t.val + 1))) else emp)
            -∗ Q (gret1 G i v7 v12 h2 0#32 1#32 t (B (min (t.val + 1) (nW i))) (B t.val) (B t.val) (B (t.val - 1)) (B t.val) (hG.chk3 i t) (hG.chk2 i t) (hG.chk1 i t)))
        -∗ wpT d i (gpart1 (F := F) G R i v7 v12 h2 0#32 1#32 t (B (min (t.val + 1) (nW i))) (B t.val) (B t.val) (B (t.val - 1)) (B t.val)) Q) := by
  have htn : t.val < nW i := hG.trips1 i ▸ t.isLt
  have ht64 : t.val + 1 < 64 := by have := nW_le i; omega
  unfold gpart1
  dsimp only [gret1]
  iintro H Hk
  iapply (wp_assume _ _ _ _ (hG.chk3 i t))
  iapply (wp_assume _ _ _ _ (hG.chk2 i t))
  iapply (wp_assume _ _ _ _ (hG.chk1 i t))
  by_cases hl : t.val + 1 < nW i
  · simp only [if_pos hl]
    iapply (wpT_pos d i ((hG.cond4 i t).mpr hl))
    have hm : min (t.val + 1) (nW i) = t.val + 1 := by omega
    have hs := hG.slots ⟨t.val + 1, ht64⟩
    have hc := hG.cells ⟨t.val + 1, ht64⟩
    iapply (step_fetch d i R q (t.val + 1) (wn i (t.val + 1)) (fi _) (by rw [hm]; exact hs.1) (hG.off8 i)
      (by rw [hG.off9 i t hl, wn_val i hl]) (by rw [hm]; exact hc.1)) $$ H
    iintro H
    iapply (wpT_ret d i)
    iapply Hk $$ H
  · simp only [if_neg hl]
    iapply (wpT_neg d i (fun h => hl ((hG.cond4 i t).mp h)))
    iapply (wpT_ret d i)
    iapply Hk $$ H

variable (H : Buf (Elt F) ((shAll R).view.loc (tl d i))) (Gt : (w : Fin 625) → Buf (Elt F) ((owin R i w).view.loc (tl d i)))
  (hin : ∀ w x, ((wlist i R q w).view.read (Elt F) (fi w) x).toNat < S10000x128.size gathers_S10000x128_S128x128.axis)
  (hGt : ∀ w, rowsOf d i R q w (fi w) H (hin w) = (owin R i w).view.read (Elt F) (Gt w))
  (hN : ∀ k, ∑ j, ((oslot R k).slice (S128x128.rowRect gathers_S10000x128_S128x128.axis' j) (S128x128.stride_rowRect gathers_S10000x128_S128x128.axis' j)).view.dmaCredit
      = (oslot R k).view.dmaCredit)
  (qs : PosShare TreeShare) (O : CellTallies nD τ sig (HIx 4)) (W : Waits sig (HIx 4))

/-- The shared scratch, at a share. -/
abbrev shAt : sProp 𝕄 := (shAll R).view.loc (tl d i) ↦[(shAll R).view.set]{qs} H
abbrev isl (k : ℕ) : sProp 𝕄 := iprop(∃ f, at_ (F := F) d i (islot R k) f)
abbrev osl (k : ℕ) : sProp 𝕄 := iprop(∃ f, at_ (F := F) d i (oslot R k) f)
abbrev iw (k : ℕ) : sProp 𝕄 := at_ d i (iwin R q i (wn i k)) (fi (wn i k))
abbrev ow (k : ℕ) : sProp 𝕄 := iprop(∃ f, at_ (F := F) d i (owin R i (wn i k)) f)
abbrev owG (k : ℕ) : sProp 𝕄 := at_ d i (owin R i (wn i k)) (Gt (wn i k))
abbrev iv (k : ℕ) : sProp 𝕄 := semVal (tl d i, .dma (isem R k)) 0
abbrev ov (k : ℕ) : sProp 𝕄 := semVal (tl d i, .dma (osem R k)) 0
abbrev gv : sProp 𝕄 := semVal (tl d i, .dma R.sG.sem) 0
abbrev iFl (k : ℕ) : sProp 𝕄 := inFlight d i R q k (wn i k) (fi (wn i k))
abbrev oFl (k : ℕ) : sProp 𝕄 := outFlight d i R k (wn i k) (Gt (wn i k))
/-- A gather on its way. -/
abbrev gFl (k : ℕ) : sProp 𝕄 :=
  Transfers.Flight countersEmb (tl d i) (.dma R.sG.sem) ι₀ (oslot R k).view.dmaCredit
    iprop((∃ f, ⌜(oslot R k).view.read (Elt F) f = (owin R i (wn i k)).view.read (Elt F) (Gt (wn i k))⌝ ∗ at_ d i (oslot R k) f)
      ∗ shAt d i R H qs ∗ isl (F := F) d i R k)

include hG hGt hN in
theorem part2_wp (h2 : G.cond2 i = 1#1) (t : Fin (G.t1_loop i).trips) (x6 x82 : BitVec 32) (x83 : BitVec 1) (x86 x92 x97 x103 : BitVec 32) (x114 : BitVec 1) (x79 : BitVec 32)
    {Q : (Σ' (v116 : BitVec 32), BitVec 32) → sProp 𝕄} :
    iprop(Transfers.MayWaits (tl d i) ι₀ O ∗ iFl d i R q fi t.val ∗ Ow (F := F) d i O W ∗ shAt d i R H qs ∗ osl (F := F) d i R t.val ∗ gv (F := F) d i R)
      ⊢ iprop((iprop(gFl d i R H Gt qs t.val ∗ iw d i R q fi t.val ∗ iv (F := F) d i R t.val ∗ Ow (F := F) d i O W)
            -∗ Q (gret2 G i h2 t (B (min (t.val + 1) (nW i))) (B t.val) (B t.val) (B (t.val - 1)) (B t.val) (hG.chk3 i t) (hG.chk2 i t) (hG.chk1 i t) x6 x82 x83 x86 x92 x97 x103 x114 x79))
        -∗ wpT d i (gpart2 (F := F) G R i h2 t (B (min (t.val + 1) (nW i))) (B t.val) (B t.val) (B (t.val - 1)) (B t.val) (hG.chk3 i t) (hG.chk2 i t) (hG.chk1 i t) x6 x82 x83 x86 x92 x97 x103 x114 x79) Q) := by
  have htn : t.val < nW i := hG.trips1 i ▸ t.isLt
  have ht64 : t.val < 64 := by have := nW_le i; omega
  have hs := hG.slots ⟨t.val, ht64⟩
  have hc := hG.cells ⟨t.val, ht64⟩
  unfold gpart2
  dsimp only [gret2]
  iintro ⟨#Hmw, Hfl, HO, Hsh, Ho, Hgv⟩ Hk
  iapply (wpT_pos d i (hG.cond5 i t))
  iapply (step_waitIn d i R t.val O W hc.2.1) $$ [Hfl HO]
  · isplitr; · iexact Hmw
    isplitl [Hfl]; · iexact Hfl
    iexact HO
  iintro ⟨⟨Hs, Hw⟩, Hv, HO⟩
  iapply (wpT_dead d i)
  iapply (step_gather d i R q t.val (wn i t.val) (fi _) H (hin _) (hN _) qs hs.2.2.1 hs.2.2.2.1) $$ [Hsh Ho Hs Hgv]
  · isplitl [Hsh]; · iexact Hsh
    isplitl [Ho]; · iexact Ho
    isplitl [Hs]; · iexact Hs
    iexact Hgv
  rw [hGt]
  iintro Hfl
  iapply (wpT_ret d i)
  iapply Hk
  isplitl [Hfl]; · iexact Hfl
  isplitl [Hw]; · iexact Hw
  isplitl [Hv]; · iexact Hv
  iexact HO

include hG in
theorem part3_wp (h2 : G.cond2 i = 1#1) (t : Fin (G.t1_loop i).trips) (x7 : BitVec 32) (x83 x85 : BitVec 1) (x86 x92 x97 x103 x104 x123 : BitVec 32)
    {Q : (Σ' (v149 : BitVec 32) (v163 : BitVec 32) (v167 : BitVec 32), BitVec 32) → sProp 𝕄} :
    iprop(Transfers.MayWaits (tl d i) ι₀ O ∗ gFl d i R H Gt qs t.val ∗ Ow (F := F) d i O W ∗ ow (F := F) d i R t.val ∗ ov (F := F) d i R t.val
        ∗ (if 1 ≤ t.val then oFl d i R Gt (t.val - 1) else emp))
      ⊢ iprop((iprop(oFl d i R Gt t.val ∗ shAt d i R H qs ∗ isl (F := F) d i R t.val ∗ gv (F := F) d i R ∗ Ow (F := F) d i O W
              ∗ (if 1 ≤ t.val then iprop(owG d i R Gt (t.val - 1) ∗ osl (F := F) d i R (t.val - 1) ∗ ov (F := F) d i R (t.val - 1)) else emp))
            -∗ Q (gret3 G i x7 h2 t (B (min (t.val + 1) (nW i))) (B t.val) (B t.val) (B (t.val - 1)) (B t.val) (hG.chk3 i t) (hG.chk2 i t) (hG.chk1 i t) x83 x85 x86 x92 x97 x103 x104 x123))
        -∗ wpT d i (gpart3 (F := F) G R i x7 h2 t (B (min (t.val + 1) (nW i))) (B t.val) (B t.val) (B (t.val - 1)) (B t.val) (hG.chk3 i t) (hG.chk2 i t) (hG.chk1 i t) x83 x85 x86 x92 x97 x103 x104 x123) Q) := by
  have htn : t.val < nW i := hG.trips1 i ▸ t.isLt
  have ht64 : t.val < 64 := by have := nW_le i; omega
  have hs := hG.slots ⟨t.val, ht64⟩
  have hc := hG.cells ⟨t.val, ht64⟩
  unfold gpart3
  dsimp only [gret3]
  iintro ⟨#Hmw, Hfl, HO, Hw, Hv, Hb⟩ Hk
  iapply (step_waitGather d i R t.val O W hs.2.2.1) $$ [Hfl HO]
  · isplitr; · iexact Hmw
    isplitl [Hfl]; · iexact Hfl
    iexact HO
  iintro ⟨⟨Ho, Hsh, Hs⟩, Hgv, HO⟩
  iapply (wpT_dead d i)
  iapply (wpT_pos d i (hG.cond8 i t))
  iapply (step_back d i R t.val (wn i t.val) (Gt _) hs.2.2.2.2.1 (hG.off18 i) (by rw [hG.off19 i t, wn_val i htn]) hc.2.2.1) $$ [Hw Ho Hv]
  · isplitl [Hw]; · iexact Hw
    isplitl [Ho]; · iexact Ho
    iexact Hv
  iintro Hfl
  iapply (wpT_dead d i)
  by_cases hl : 1 ≤ t.val
  · simp only [if_pos hl]
    have hc' := hG.cells ⟨t.val - 1, by omega⟩
    iapply (wpT_pos d i ((hG.cond10 i t).mpr hl))
    iapply (step_waitOut d i R (t.val - 1) (wn i (t.val - 1)) O W hc'.2.2.2.1) $$ [Hb HO]
    · isplitr; · iexact Hmw
      isplitl [Hb]; · iexact Hb
      iexact HO
    iintro ⟨⟨Hw, Ho⟩, Hv, HO⟩
    iapply (wpT_ret d i)
    iapply Hk
    isplitl [Hfl]; · iexact Hfl
    isplitl [Hsh]; · iexact Hsh
    isplitl [Hs]; · iexact Hs
    isplitl [Hgv]; · iexact Hgv
    isplitl [HO]; · iexact HO
    isplitl [Hw]; · iexact Hw
    isplitl [Ho]; · iexact Ho
    iexact Hv
  · simp only [if_neg hl]
    iapply (wpT_neg d i (fun h => hl ((hG.cond10 i t).mp h)))
    iapply (wpT_ret d i)
    iapply Hk
    isplitl [Hfl]; · iexact Hfl
    isplitl [Hsh]; · iexact Hsh
    isplitl [Hs]; · iexact Hs
    isplitl [Hgv]; · iexact Hgv
    isplitl [HO]; · iexact HO
    iexact Hb

theorem islot_per (k : ℕ) : islot R (k + 2) = islot R k := by
  have h : ∀ (o o' : Fin 3 → ℕ) (e : o = o') (p p'),
      (R.ibuf.slice (Rect.unit (s := S2x1x128) o S1x1x128.size p) (fun _ => rfl)).squeeze S1x128 squeezes_S1x1x128_S1x128
        = (R.ibuf.slice (Rect.unit (s := S2x1x128) o' S1x1x128.size p') (fun _ => rfl)).squeeze S1x128 squeezes_S1x1x128_S1x128 := by
    rintro o _ rfl p p'; rfl
  exact h _ _ (by rw [Nat.add_mod_right]) _ _
theorem oslot_per (k : ℕ) : oslot R (k + 2) = oslot R k := by
  have h : ∀ (o o' : Fin 3 → ℕ) (e : o = o') (p p'),
      (R.obuf.slice (Rect.unit (s := S2x128x128) o S1x128x128.size p) (fun _ => rfl)).squeeze S128x128 squeezes_S1x128x128_S128x128
        = (R.obuf.slice (Rect.unit (s := S2x128x128) o' S1x128x128.size p') (fun _ => rfl)).squeeze S128x128 squeezes_S1x128x128_S128x128 := by
    rintro o _ rfl p p'; rfl
  exact h _ _ (by rw [Nat.add_mod_right]) _ _
theorem cell_per (s : DmaSems sig S2) (k : ℕ) :
    ((s.slice (Rect.unit (s := S2) ![(k + 2) % 2] S1.size (cell_inb (k + 2)))).squeeze S_ squeezes_S1_S_).sem
      = ((s.slice (Rect.unit (s := S2) ![k % 2] S1.size (cell_inb k))).squeeze S_ squeezes_S1_S_).sem := by
  have h : ∀ (o o' : Fin 1 → ℕ) (e : o = o') (p p'), ((s.slice (Rect.unit (s := S2) o S1.size p)).squeeze S_ squeezes_S1_S_).sem
      = ((s.slice (Rect.unit (s := S2) o' S1.size p')).squeeze S_ squeezes_S1_S_).sem := by
    rintro o _ rfl p p'; rfl
  exact h _ _ (by rw [Nat.add_mod_right]) _ _
theorem isl_per (k : ℕ) : isl (F := F) d i R (k + 2) = isl (F := F) d i R k := by unfold isl; rw [islot_per]
theorem osl_per (k : ℕ) : osl (F := F) d i R (k + 2) = osl (F := F) d i R k := by unfold osl; rw [oslot_per]
theorem iv_per (k : ℕ) : iv (F := F) d i R (k + 2) = iv (F := F) d i R k := by
  show semVal (tl d i, .dma (isem R (k + 2))) 0 = semVal (tl d i, .dma (isem R k)) 0
  rw [show isem R (k + 2) = isem R k from cell_per R.sIn k]
theorem ov_per (k : ℕ) : ov (F := F) d i R (k + 2) = ov (F := F) d i R k := by
  show semVal (tl d i, .dma (osem R (k + 2))) 0 = semVal (tl d i, .dma (osem R k)) 0
  rw [show osem R (k + 2) = osem R k from cell_per R.sOut k]

/-- Before trip `k`: this trip's index window is on its way (after the last there is none), the previous trip's rows are on
    their way out, and all else is at hand. -/
def Inv (k : ℕ) (a : BitVec 32 × BitVec 32 × BitVec 32 × BitVec 32 × BitVec 32) : sProp 𝕄 :=
  iprop(⌜a = carry i k⌝ ∗ Ow (F := F) d i O W ∗ shAt d i R H qs ∗ gv (F := F) d i R
    ∗ (if k < nW i then iFl d i R q fi k else iprop(isl (F := F) d i R k ∗ iv (F := F) d i R k))
    ∗ isl (F := F) d i R (k + 1) ∗ iv (F := F) d i R (k + 1) ∗ osl (F := F) d i R k ∗ ov (F := F) d i R k
    ∗ (if 1 ≤ k then oFl d i R Gt (k - 1) else iprop(osl (F := F) d i R (k + 1) ∗ ov (F := F) d i R (k + 1)))
    ∗ bigSep ((Finset.range (nW i)).erase k) (iw d i R q fi) ∗ bigSep (Finset.range (k - 1)) (owG d i R Gt)
    ∗ bigSep (Finset.Ico k (nW i)) (ow (F := F) d i R))

theorem give_next (t : ℕ) :
    iprop(isl (F := F) d i R (t + 1) ∗ iv (F := F) d i R (t + 1) ∗ bigSep ((Finset.range (nW i)).erase t) (iw d i R q fi))
      ⊢ iprop((if t + 1 < nW i then iprop(iw d i R q fi (t + 1) ∗ isl (F := F) d i R (t + 1) ∗ iv (F := F) d i R (t + 1)) else emp)
        ∗ (if t + 1 < nW i then emp else iprop(isl (F := F) d i R (t + 1) ∗ iv (F := F) d i R (t + 1)))
        ∗ bigSep (((Finset.range (nW i)).erase t).erase (t + 1)) (iw d i R q fi)) := by
  by_cases hl : t + 1 < nW i
  · simp only [if_pos hl]
    rw [SparseCore.bigSep_erase' (s := (Finset.range (nW i)).erase t) (i := t + 1) (by simp [hl])]
    iintro ⟨Hs, Hv, Hw, Hws⟩
    isplitl [Hs Hv Hw]
    · isplitl [Hw]; · iexact Hw
      isplitl [Hs]; · iexact Hs
      iexact Hv
    isplitr
    · iempintro
    iexact Hws
  · simp only [if_neg hl]
    rw [Finset.erase_eq_of_notMem (s := (Finset.range (nW i)).erase t) (a := t + 1) (by simp; omega)]
    iintro ⟨Hs, Hv, Hw⟩
    isplitr
    · iempintro
    isplitl [Hs Hv]
    · isplitl [Hs]; · iexact Hs
      iexact Hv
    iexact Hw

theorem got_next (t : ℕ) :
    iprop((if t + 1 < nW i then iFl d i R q fi (t + 1) else emp)
        ∗ (if t + 1 < nW i then emp else iprop(isl (F := F) d i R (t + 1) ∗ iv (F := F) d i R (t + 1))))
      ⊢ (if t + 1 < nW i then iFl d i R q fi (t + 1) else iprop(isl (F := F) d i R (t + 1) ∗ iv (F := F) d i R (t + 1))) := by
  by_cases hl : t + 1 < nW i
  · simp only [if_pos hl]
    iintro ⟨H, -⟩; iexact H
  · simp only [if_neg hl]
    iintro ⟨-, H⟩; iexact H

theorem windows_back {t : ℕ} (ht : t < nW i) :
    iprop(iw d i R q fi t ∗ bigSep (((Finset.range (nW i)).erase t).erase (t + 1)) (iw d i R q fi))
      ⊢ bigSep ((Finset.range (nW i)).erase (t + 1)) (iw d i R q fi) := by
  rw [Finset.erase_right_comm, ← SparseCore.bigSep_erase' (s := (Finset.range (nW i)).erase (t + 1)) (i := t) (by simp [ht])]

theorem prev_out (t : ℕ) :
    (if 1 ≤ t then oFl d i R Gt (t - 1) else iprop(osl (F := F) d i R (t + 1) ∗ ov (F := F) d i R (t + 1)))
      ⊢ iprop((if 1 ≤ t then oFl d i R Gt (t - 1) else emp)
        ∗ (if 1 ≤ t then emp else iprop(osl (F := F) d i R (t + 1) ∗ ov (F := F) d i R (t + 1)))) := by
  by_cases hl : 1 ≤ t
  · simp only [if_pos hl]
    iintro H
    isplitl [H]; · iexact H
    iempintro
  · simp only [if_neg hl]
    iintro H
    isplitr; · iempintro
    iexact H

theorem got_prev (t : ℕ) :
    iprop((if 1 ≤ t then iprop(owG d i R Gt (t - 1) ∗ osl (F := F) d i R (t - 1) ∗ ov (F := F) d i R (t - 1)) else emp)
        ∗ (if 1 ≤ t then emp else iprop(osl (F := F) d i R (t + 1) ∗ ov (F := F) d i R (t + 1)))
        ∗ bigSep (Finset.range (t - 1)) (owG d i R Gt))
      ⊢ iprop(osl (F := F) d i R (t + 1) ∗ ov (F := F) d i R (t + 1) ∗ bigSep (Finset.range t) (owG d i R Gt)) := by
  by_cases hl : 1 ≤ t
  · simp only [if_pos hl]
    obtain ⟨u, rfl⟩ : ∃ u, t = u + 1 := ⟨t - 1, by omega⟩
    rw [Nat.add_sub_cancel, osl_per, ov_per, Finset.range_add_one, SparseCore.bigSep_insert' Finset.notMem_range_self]
    iintro ⟨⟨Hw, Ho, Hv⟩, -, Hs⟩
    isplitl [Ho]; · iexact Ho
    isplitl [Hv]; · iexact Hv
    isplitl [Hw]; · iexact Hw
    iexact Hs
  · simp only [if_neg hl]
    obtain rfl : t = 0 := by omega
    iintro ⟨-, ⟨Ho, Hv⟩, Hs⟩
    isplitl [Ho]; · iexact Ho
    isplitl [Hv]; · iexact Hv
    iexact Hs

include hG hGt hN in
/-- One trip. -/
theorem trip_wp (h2 : G.cond2 i = 1#1) (t : Fin (G.t1_loop i).trips) (a : BitVec 32 × BitVec 32 × BitVec 32 × BitVec 32 × BitVec 32) :
    iprop(Transfers.MayWaits (tl d i) ι₀ O ∗ Inv d i R q fi H Gt qs O W t.val a)
      ⊢ wpT d i (gbody (F := F) G R i (B (nW i)) (B (bW i)) h2 0#32 t a)
          (fun b => iprop(Transfers.MayWaits (tl d i) ι₀ O ∗ Inv d i R q fi H Gt qs O W (t.val + 1) b)) := by
  have htn : t.val < nW i := hG.trips1 i ▸ t.isLt
  unfold Inv
  iintro ⟨#Hmw, %ha, HO, Hsh, Hgv, Hfl, Hs1, Hv1, Ho, Hov, Hp, Hws, Hdone, Htodo⟩
  obtain rfl : a = (B (min (t.val + 1) (nW i)), B t.val, B t.val, B (t.val - 1), B t.val) := by
    rw [ha, carry, if_neg (show ¬ t.val = nW i by omega)]
  unfold gbody
  simp only [if_pos htn]
  iapply (wpT_bind d i)
  ihave Hx := (give_next d i R q fi t.val) $$ [Hs1 Hv1 Hws]
  · isplitl [Hs1]; · iexact Hs1
    isplitl [Hv1]; · iexact Hv1
    iexact Hws
  icases Hx with ⟨Hx, Hx', Hws⟩
  iapply (part1_wp d i R q hG fi h2 (B (nW i)) (B (bW i)) t) $$ Hx
  iintro Hn
  ihave Hn := (got_next d i R q fi t.val) $$ [Hn Hx']
  · isplitl [Hn]; · iexact Hn
    iexact Hx'
  dsimp only [gret1]
  iapply (wpT_bind d i)
  iapply (part2_wp d i R q hG fi H Gt hin hGt hN qs O W h2 t) $$ [Hfl HO Hsh Ho Hgv]
  · isplitr; · iexact Hmw
    isplitl [Hfl]; · iexact Hfl
    isplitl [HO]; · iexact HO
    isplitl [Hsh]; · iexact Hsh
    isplitl [Ho]; · iexact Ho
    iexact Hgv
  iintro ⟨Hfl, Hw, Hv, HO⟩
  ihave Hws := (windows_back d i R q fi htn) $$ [Hw Hws]
  · isplitl [Hw]; · iexact Hw
    iexact Hws
  ihave Hp := (prev_out d i R Gt t.val) $$ Hp
  icases Hp with ⟨Hp, Hp'⟩
  ihave Htodo := (Entails.of_eq (show bigSep (Finset.Ico t.val (nW i)) (ow (F := F) d i R)
      = iprop(ow (F := F) d i R t.val ∗ bigSep (Finset.Ico (t.val + 1) (nW i)) (ow (F := F) d i R)) by
    rw [← SparseCore.bigSep_insert' (by simp), Finset.insert_Ico_add_one_left_eq_Ico htn])) $$ Htodo
  icases Htodo with ⟨How, Htodo⟩
  dsimp only [gret2]
  iapply (wpT_bind d i)
  iapply (part3_wp d i R q hG H Gt qs O W h2 t) $$ [Hfl HO How Hov Hp]
  · isplitr; · iexact Hmw
    isplitl [Hfl]; · iexact Hfl
    isplitl [HO]; · iexact HO
    isplitl [How]; · iexact How
    isplitl [Hov]; · iexact Hov
    iexact Hp
  iintro ⟨Hofl, Hsh, Hs, Hgv, HO, Hp⟩
  ihave Hp := (got_prev d i R Gt t.val) $$ [Hp Hp' Hdone]
  · isplitl [Hp]; · iexact Hp
    isplitl [Hp']; · iexact Hp'
    iexact Hdone
  icases Hp with ⟨Ho, Hov, Hdone⟩
  have hstep := stepCarry_eq q i t.val htn
  rw [← hG.block] at hstep
  iapply (wpT_ret d i)
  isplitr; · iexact Hmw
  isplitr
  · ipureintro
    exact hstep
  isplitl [HO]; · iexact HO
  isplitl [Hsh]; · iexact Hsh
  isplitl [Hgv]; · iexact Hgv
  isplitl [Hn]; · iexact Hn
  rw [isl_per, iv_per, if_pos (show 1 ≤ t.val + 1 by omega), Nat.add_sub_cancel]
  isplitl [Hs]; · iexact Hs
  isplitl [Hv]; · iexact Hv
  isplitl [Ho]; · iexact Ho
  isplitl [Hov]; · iexact Hov
  isplitl [Hofl]; · iexact Hofl
  isplitl [Hws]; · iexact Hws
  isplitl [Hdone]; · iexact Hdone
  iexact Htodo

/-! ## The windows -/

theorem start_n (n : ℕ) (h : n = 40 ∨ n = 39) : Scalar.select (Scalar.andi 1#1 (Scalar.cmpi .sgt (Scalar.muli 1#32 (B n)) 0#32)) (Scalar.addi 0#32 1#32) 0#32 = B 1 := by
  rcases h with rfl | rfl <;> decide

theorem both_slots (Φ : ℕ → sProp 𝕄) (hΦ : ∀ k, Φ (k + 2) = Φ k) (k : ℕ) : iprop(Φ k ∗ Φ (k + 1)) ⊢ iprop(Φ 0 ∗ Φ 1) := by
  induction k with
  | zero => iintro H; iexact H
  | succ k ih =>
    iintro ⟨H1, H2⟩
    iapply ih
    ihave H2 := (Entails.of_eq (hΦ k)) $$ H2
    isplitl [H2] <;> iassumption

theorem nW_cases : nW i = 40 ∨ nW i = 39 := by unfold nW; split <;> simp

include hG hGt hN in
/-- All the windows of a tile: what the tile owns before, and after. -/
theorem windows_wp (h2 : G.cond2 i = 1#1) (body2 : Body2 F G i) {Q : PUnit → sProp 𝕄} :
    iprop(Transfers.MayWaits (tl d i) ι₀ O ∗ Ow (F := F) d i O W ∗ shAt d i R H qs ∗ gv (F := F) d i R
        ∗ (isl (F := F) d i R 0 ∗ iv (F := F) d i R 0 ∗ isl (F := F) d i R 1 ∗ iv (F := F) d i R 1)
        ∗ (osl (F := F) d i R 0 ∗ ov (F := F) d i R 0 ∗ osl (F := F) d i R 1 ∗ ov (F := F) d i R 1)
        ∗ bigSep (Finset.range (nW i)) (iw d i R q fi) ∗ bigSep (Finset.range (nW i)) (ow (F := F) d i R))
      ⊢ iprop((iprop(Ow (F := F) d i O W ∗ shAt d i R H qs ∗ gv (F := F) d i R
          ∗ (isl (F := F) d i R 0 ∗ iv (F := F) d i R 0 ∗ isl (F := F) d i R 1 ∗ iv (F := F) d i R 1)
          ∗ (osl (F := F) d i R 0 ∗ ov (F := F) d i R 0 ∗ osl (F := F) d i R 1 ∗ ov (F := F) d i R 1)
          ∗ bigSep (Finset.range (nW i)) (iw d i R q fi) ∗ bigSep (Finset.range (nW i)) (owG d i R Gt)) -∗ Q ⟨⟩)
        -∗ wpT d i (do
          let ⟨v43, c0_i32_31, c0_i32_32, c0_i32_33, c0_i32_34, c0_i32_35, v47⟩ : Σ' (v43 : BitVec 32) (c0_i32_31 : BitVec 32) (c0_i32_32 : BitVec 32) (c0_i32_33 : BitVec 32) (c0_i32_34 : BitVec 32) (c0_i32_35 : BitVec 32), BitVec 32 ← gpart7 (F := F) G R i (B (nW i)) (B (bW i)) (B (nW i)) h2
          gpart8 G R i body2 (B (nW i)) (B (bW i)) (B (nW i)) h2 v43 c0_i32_31 c0_i32_32 c0_i32_33 c0_i32_34 c0_i32_35 v47) Q) := by
  have hn0 : 0 < nW i := lt_of_lt_of_le (by decide) (nW_ge i)
  have hn1 : nW i - 1 + 1 = nW i := by omega
  have hn64 : nW i - 1 < 64 := by have := nW_le i; omega
  have hc := hG.cells ⟨nW i - 1, hn64⟩
  unfold gpart7
  iintro ⟨#Hmw, HO, Hsh, Hgv, ⟨Hs0, Hv0, Hs1, Hv1⟩, ⟨Ho0, Hov0, Ho1, Hov1⟩, Hws, How⟩ Hk
  ihave Hws := (Entails.of_eq (SparseCore.bigSep_erase' (Φ := iw d i R q fi) (Finset.mem_range.mpr hn0))) $$ Hws
  icases Hws with ⟨Hw, Hws⟩
  iapply (wpT_bind d i)
  iapply (wpT_pos d i (hG.cond3 i))
  iapply (step_fetch d i R q 0 (wn i 0) (fi _) hG.off3 (hG.off4 i) (by rw [hG.off5 i, wn_val i hn0, Nat.add_zero]) hG.off6) $$ [Hw Hs0 Hv0]
  · isplitl [Hw]; · iexact Hw
    isplitl [Hs0]; · iexact Hs0
    iexact Hv0
  iintro Hfl
  iapply (wpT_ret d i)
  dsimp only
  rw [start_n _ (nW_cases i)]
  unfold gpart8
  iapply (Scf.wp_for_bind _ _ _ _ _ _ _ _ _ (fun k a => iprop(Transfers.MayWaits (tl d i) ι₀ O ∗ Inv d i R q fi H Gt qs O W k a))
    (fun t a => trip_wp d i R q hG fi H Gt hin hGt hN qs O W h2 t a)) $$ [HO Hsh Hgv Hfl Hs1 Hv1 Ho0 Hov0 Ho1 Hov1 Hws How]
  · isplitr; · iexact Hmw
    unfold Inv
    isplitr
    · ipureintro
      unfold carry
      rw [if_neg (by omega), show min (0 + 1) (nW i) = 1 by omega]
    isplitl [HO]; · iexact HO
    isplitl [Hsh]; · iexact Hsh
    isplitl [Hgv]; · iexact Hgv
    rw [if_pos hn0, if_neg (show ¬ 1 ≤ 0 by omega), Nat.Ico_zero_eq_range]
    isplitl [Hfl]; · iexact Hfl
    isplitl [Hs1]; · iexact Hs1
    isplitl [Hv1]; · iexact Hv1
    isplitl [Ho0]; · iexact Ho0
    isplitl [Hov0]; · iexact Hov0
    isplitl [Ho1 Hov1]
    · isplitl [Ho1]; · iexact Ho1
      iexact Hov1
    isplitl [Hws]; · iexact Hws
    isplitr; · iempintro
    iexact How
  iintro %a ⟨-, HI⟩
  have htr : Scf.trips (G.t1_loop i).lb (G.t1_loop i).ub (G.t1_loop i).st = nW i := hG.trips1 i
  rw [htr]
  unfold Inv
  rw [if_neg (lt_irrefl _), if_pos (show 1 ≤ nW i by omega)]
  icases HI with ⟨%ha, HO, Hsh, Hgv, ⟨Hs0, Hv0⟩, Hs1, Hv1, Ho0, Hov0, Hfl, Hws, Hdone, -⟩
  obtain rfl : a = (B (nW i), B (nW i), B (nW i), B (nW i - 1), B 0) := by
    rw [ha]; unfold carry
    rw [if_pos rfl, show min (nW i + 1) (nW i) = nW i by omega]
  dsimp only
  iapply (Scf.wp_for_bind _ _ _ _ _ _ _ _ _ (fun _ a => iprop(⌜a = (B (nW i), B (nW i), B (nW i), B (nW i - 1), B 0)⌝))
    (fun t a => absurd t.isLt (Nat.not_lt.mpr (le_of_eq_of_le (hG.trips2 i) (Nat.zero_le _))))) $$ []
  · ipureintro; rfl
  iintro %a %ha
  subst ha
  dsimp only
  iapply (wp_assume _ _ _ _ (hG.chk8 i))
  iapply (wp_assume _ _ _ _ (hG.chk7 i))
  iapply (wpT_dead d i)
  iapply (wpT_pos d i (hG.cond19 i))
  iapply (step_waitOut d i R (nW i - 1) (wn i (nW i - 1)) O W hc.2.2.2.2) $$ [Hfl HO]
  · isplitr; · iexact Hmw
    isplitl [Hfl]; · iexact Hfl
    iexact HO
  iintro ⟨⟨Hw, Ho1⟩, Hov1, HO⟩
  iapply (wpT_ret d i)
  iapply Hk
  ihave Hi := (both_slots (fun k => iprop(isl (F := F) d i R k ∗ iv (F := F) d i R k)) (fun k => by rw [isl_per, iv_per]) (nW i)) $$ [Hs0 Hv0 Hs1 Hv1]
  · isplitl [Hs0 Hv0]
    · isplitl [Hs0] <;> iassumption
    · isplitl [Hs1] <;> iassumption
  icases Hi with ⟨⟨Hs0, Hv0⟩, ⟨Hs1, Hv1⟩⟩
  ihave Hi := (both_slots (fun k => iprop(osl (F := F) d i R k ∗ ov (F := F) d i R k)) (fun k => by rw [osl_per, ov_per]) (nW i - 1)) $$ [Ho0 Hov0 Ho1 Hov1]
  · rw [hn1]
    isplitl [Ho1 Hov1]
    · isplitl [Ho1] <;> iassumption
    · isplitl [Ho0] <;> iassumption
  icases Hi with ⟨⟨Ho0, Hov0⟩, ⟨Ho1, Hov1⟩⟩
  isplitl [HO]; · iexact HO
  isplitl [Hsh]; · iexact Hsh
  isplitl [Hgv]; · iexact Hgv
  isplitl [Hs0 Hv0 Hs1 Hv1]
  · isplitl [Hs0]; · iexact Hs0
    isplitl [Hv0]; · iexact Hv0
    isplitl [Hs1]; · iexact Hs1
    iexact Hv1
  isplitl [Ho0 Hov0 Ho1 Hov1]
  · isplitl [Ho0]; · iexact Ho0
    isplitl [Hov0]; · iexact Hov0
    isplitl [Ho1]; · iexact Ho1
    iexact Hov1
  isplitl [Hws]
  · iapply (Entails.of_eq (congrArg (fun s => bigSep s (iw d i R q fi)) (Finset.erase_eq_of_notMem (s := Finset.range (nW i)) (a := nW i) Finset.notMem_range_self))) $$ Hws
  iapply (Entails.of_eq (show iprop(owG d i R Gt (nW i - 1) ∗ bigSep (Finset.range (nW i - 1)) (owG d i R Gt))
      = bigSep (Finset.range (nW i)) (owG d i R Gt) by
    rw [← SparseCore.bigSep_insert' Finset.notMem_range_self, ← Finset.range_add_one, hn1]))
  isplitl [Hw]; · iexact Hw
  iexact Hdone

end Cert.Proof

end
-- ==== Proof.Task.lean ====
/-
  The whole task of one tile of a gather call: the first ten tiles of a SparseCore copy a tenth each of its half of the
  table into the shared scratch, all sixteen meet at the barrier — whose round hands every tile a read share of every tenth —,
  and each then serves its windows.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ
local notation "ι₀" => (default : HIx 4)

theorem shRow_inb (n : Fin 10) : ∀ x, (![1000 * n.val, 0] : Fin 2 → ℕ) x + S1000x128.size x ≤ S10000x128.size x := by
  intro x; match x with
  | 0 => show 1000 * n.val + 1000 ≤ 10000; omega
  | 1 => show 0 + 128 ≤ 128; omega
theorem tabRow_inb (i : grid1.Coords) (n : Fin 10) : ∀ x, (![10000 * (i 0).val + 1000 * n.val, 0] : Fin 2 → ℕ) x + S1000x128.size x ≤ S20000x128.size x := by
  have : (i 0).val < 2 := (i 0).isLt
  intro x; match x with
  | 0 => show 10000 * (i 0).val + 1000 * n.val + 1000 ≤ 20000; omega
  | 1 => show 0 + 128 ≤ 128; omega

/-- Tenth `n` of the shared scratch, -/
abbrev shRow (R : Refs) (n : Fin 10) : Memref sig .scVector .shared S1000x128 .f32 :=
  R.sh.slice (Rect.unit (s := S10000x128) ![1000 * n.val, 0] S1000x128.size (shRow_inb n)) (fun _ => rfl)
/-- and of the SparseCore's half of the table. -/
abbrev tabRow (R : Refs) (i : grid1.Coords) (n : Fin 10) : Memref sig .scVector .hbm S1000x128 .f32 :=
  R.tab.slice (Rect.unit (s := S20000x128) ![10000 * (i 0).val + 1000 * n.val, 0] S1000x128.size (tabRow_inb i n)) (fun _ => rfl)

/-! ## What a tile computes of its number -/

theorem tile_n (i : grid1.Coords) :
    Scalar.select (Scalar.cmpi .slt (Scalar.addi 0#32 (Scalar.muli (BitVec.ofNat 32 (i 1).val) 1#32)) 1#32) 40#32 39#32 = B (nW i) := by
  have h : ∀ s : Fin 16, Scalar.select (Scalar.cmpi .slt (Scalar.addi 0#32 (Scalar.muli (BitVec.ofNat 32 s.val) 1#32)) 1#32) 40#32 39#32 = B (nW (crd 0 s)) := by
    decide +kernel
  exact h (i 1)
theorem tile_b (i : grid1.Coords) :
    Scalar.select (Scalar.cmpi .slt (Scalar.addi 0#32 (Scalar.muli (BitVec.ofNat 32 (i 1).val) 1#32)) 1#32)
        (Scalar.muli (Scalar.addi 0#32 (Scalar.muli (BitVec.ofNat 32 (i 1).val) 1#32)) (B (nW i)))
        (Scalar.addi (Scalar.muli (Scalar.addi 0#32 (Scalar.muli (BitVec.ofNat 32 (i 1).val) 1#32)) 39#32) 1#32) = B (bW i) := by
  have h : ∀ s : Fin 16, Scalar.select (Scalar.cmpi .slt (Scalar.addi 0#32 (Scalar.muli (BitVec.ofNat 32 s.val) 1#32)) 1#32)
        (Scalar.muli (Scalar.addi 0#32 (Scalar.muli (BitVec.ofNat 32 s.val) 1#32)) (B (nW (crd 0 s))))
        (Scalar.addi (Scalar.muli (Scalar.addi 0#32 (Scalar.muli (BitVec.ofNat 32 s.val) 1#32)) 39#32) 1#32) = B (bW (crd 0 s)) := by
    decide +kernel
  exact h (i 1)
theorem tile_m (i : grid1.Coords) : Scalar.muli 1#32 (B (nW i)) = B (nW i) := by
  rcases nW_cases i with h | h <;> rw [h] <;> decide

/-! ## The task -/

variable (d : Dev nD) (i : grid1.Coords) (R : Refs) (q : Fin 4) {G : Starts} (hG : Good G (625 * q.val))
  (I : (w : Fin 625) → Buf (Elt F) ((iwin R q i w).view.loc (tl d i)))
  (H : Buf (Elt F) ((shAll R).view.loc (tl d i))) (Gt : (w : Fin 625) → Buf (Elt F) ((owin R i w).view.loc (tl d i)))
  (Tb : Buf (Elt F) (R.tab.view.loc (tl d i)))
  (hin : ∀ w x, ((wlist i R q w).view.read (Elt F) (I w) x).toNat < S10000x128.size gathers_S10000x128_S128x128.axis)
  (hGt : ∀ w, rowsOf d i R q w (I w) H (hin w) = (owin R i w).view.read (Elt F) (Gt w))
  (hN : ∀ k, ∑ j, ((oslot R k).slice (S128x128.rowRect gathers_S10000x128_S128x128.axis' j) (S128x128.stride_rowRect gathers_S10000x128_S128x128.axis' j)).view.dmaCredit
      = (oslot R k).view.dmaCredit)
  (hH : ∀ (n : Fin 10) x, (tabRow R i n).view.read (Elt F) Tb x = (shRow R n).view.read (Elt F) H x)

/-- A tile's tenth of the table and of the shared scratch, if it has one: before, -/
def loadPre : sProp 𝕄 :=
  if h : (i 1).val < 10 then iprop(at_ d i (tabRow R i ⟨(i 1).val, h⟩) Tb ∗ ∃ f, at_ d i (shRow R ⟨(i 1).val, h⟩) f) else iprop(emp)
/-- the table's after, -/
def tabPost : sProp 𝕄 := if h : (i 1).val < 10 then iprop(at_ d i (tabRow R i ⟨(i 1).val, h⟩) Tb) else iprop(emp)
/-- and the scratch's. -/
def shPost : sProp 𝕄 := if h : (i 1).val < 10 then iprop(at_ d i (shRow R ⟨(i 1).val, h⟩) H) else iprop(emp)

include hH in
theorem step_load (n : Fin 10) {o1 o2 : Fin 2 → ℕ} (e1 : o1 = ![1000 * n.val, 0]) (e2 : o2 = ![10000 * (i 0).val + 1000 * n.val, 0])
    (O : CellTallies nD τ sig (HIx 4)) (W : Waits sig (HIx 4)) {α : Type} {Q : α → sProp 𝕄}
    {kk : PUnit → Prog (TpuEff nD τ sig (Elt F) Λ₀ (.scVector ((i 0).castLE hcore1) ((i 1).castLE hsub1))) α}
    {h1 h2 h3 h4 w1 w2 w3 w4 w5} :
    iprop(Transfers.MayWaits (tl d i) ι₀ O ∗ Ow (F := F) d i O W ∗ (at_ d i (tabRow R i n) Tb ∗ ∃ f, at_ d i (shRow R n) f) ∗ semVal (tl d i, .dma R.sTab.sem) 0)
      ⊢ iprop((iprop(Ow (F := F) d i O W ∗ at_ d i (tabRow R i n) Tb ∗ at_ d i (shRow R n) H ∗ semVal (tl d i, .dma R.sTab.sem) 0) -∗ wpT d i (kk ⟨⟩) Q)
        -∗ wpT d i (.op (.enqueueDma (R.tab.slice (Rect.unit (s := S20000x128) o2 S1000x128.size h2) (fun _ => rfl))
              (.here (R.sh.slice (Rect.unit (s := S10000x128) o1 S1000x128.size h1) (fun _ => rfl))) (.dma R.sTab.sem) w1 w2 w3)
              fun _ => (.op (.waitDma2 R.sTab.sem (R.tab.slice (Rect.unit (s := S20000x128) o2 S1000x128.size h4) (fun _ => rfl))
                (R.sh.slice (Rect.unit (s := S10000x128) o1 S1000x128.size h3) (fun _ => rfl)) w4 w5) kk)) Q) := by
  subst e1 e2
  iintro ⟨Hmw, ⟨%W', %hW', HO⟩, ⟨Ht, ⟨%f, Hs⟩⟩, Hv⟩ Hk
  iapply (Transfers.wp_dmaLocal countersEmb 𝒱₀ (tl d i) none (src := tabRow R i n) (dst := shRow R n) ι₀ (shRow R n).view.dmaCredit rfl
    (View.dmaCredit_pos _ (by decide)) (Finset.Subset.refl _)) $$ [Ht Hs Hv]
  · isplitl [Ht]; · iexact Ht
    isplitl [Hs]; · iexact Hs
    iexact Hv
  iintro Hfl
  iapply (Transfers.wp_waitLocalO countersEmb 𝒱₀ (tl d i) none (sem := R.sTab.sem)
    (dstw := shRow R n) (N := (shRow R n).view.dmaCredit) ι₀ rfl) $$ [Hmw Hfl HO]
  · isplitl [Hfl]; · iexact Hfl
    isplitl [HO]; · iexact HO
    iapply (Transfers.MayWaits.elim (SemLoc.dma R.sTab.sem)) $$ Hmw
  iintro ⟨⟨HD, Ht⟩, Hv, HO⟩
  iapply Hk
  isplitl [HO]
  · iexists _; isplitr; swap; · iexact HO
    ipureintro; intro p hp
    rcases Finset.mem_insert.mp hp with hp | hp
    · exact .inr (hp ▸ rfl)
    · exact hW' p hp
  isplitl [Ht]; · iexact Ht
  isplitr [Hv]; swap; · iexact Hv
  iapply (Entails.of_eq (write_congr d i (shRow R n) f H _ (fun x => hH n x))) $$ HD

include hG hH in
theorem load_wp (O : CellTallies nD τ sig (HIx 4)) (W : Waits sig (HIx 4)) {α : Type} {Q : α → sProp 𝕄}
    {kk : PUnit → Prog (TpuEff nD τ sig (Elt F) Λ₀ (.scVector ((i 0).castLE hcore1) ((i 1).castLE hsub1))) α} :
    iprop(Transfers.MayWaits (tl d i) ι₀ O ∗ Ow (F := F) d i O W ∗ loadPre d i R Tb ∗ semVal (tl d i, .dma R.sTab.sem) 0)
      ⊢ iprop((iprop(Ow (F := F) d i O W ∗ tabPost d i R Tb ∗ shPost d i R H ∗ semVal (tl d i, .dma R.sTab.sem) 0) -∗ wpT d i (kk ⟨⟩) Q)
        -∗ wpT d i (if k1_h1 : G.cond1 i = 1#1 then
            (.op (.enqueueDma (R.tab.slice (Rect.unit (s := S20000x128) (G.off2 i) S1000x128.size (G.off2_inb i k1_h1)) (fun _ => rfl))
              (.here (R.sh.slice (Rect.unit (s := S10000x128) (G.off1 i) S1000x128.size (G.off1_inb i k1_h1)) (fun _ => rfl))) (.dma R.sTab.sem)  (View.wordExact_bits rfl) (View.wordExact_bits rfl) ⟨Or.inl rfl, trivial⟩)
              fun _ => (.op (.waitDma2 R.sTab.sem (R.tab.slice (Rect.unit (s := S20000x128) (G.off2 i) S1000x128.size (G.off2_inb i k1_h1)) (fun _ => rfl))
                (R.sh.slice (Rect.unit (s := S10000x128) (G.off1 i) S1000x128.size (G.off1_inb i k1_h1)) (fun _ => rfl)) (View.wordExact_bits rfl) (View.wordExact_bits rfl)) kk))
          else kk ⟨⟩) Q) := by
  by_cases h : (i 1).val < 10
  · unfold loadPre tabPost shPost
    simp only [dif_pos h]
    iintro ⟨Hmw, HO, Hp, Hv⟩ Hk
    iapply (wpT_pos d i ((hG.cond1 i).mpr h))
    iapply (step_load d i R H Tb hH ⟨(i 1).val, h⟩ (hG.off1 i) (hG.off2 i) O W) $$ [Hmw HO Hp Hv]
    · isplitl [Hmw]; · iexact Hmw
      isplitl [HO]; · iexact HO
      isplitl [Hp]; · iexact Hp
      iexact Hv
    iexact Hk
  · unfold loadPre tabPost shPost
    simp only [dif_neg h]
    iintro ⟨#Hmw, HO, -, Hv⟩ Hk
    iapply (wpT_neg d i (fun e => h ((hG.cond1 i).mp e)))
    iapply Hk
    isplitl [HO]; · iexact HO
    isplitr; · iempintro
    isplitr; · iempintro
    iexact Hv

/-! ## The barrier, and the whole task -/

variable (qs : PosShare TreeShare)

/-- The barrier cell of tile `j` of tile `i`'s SparseCore. -/
abbrev bcellOf (d : Dev nD) (i : grid1.Coords) (j : Fin (grid1.bound 1)) : GSem nD τ sig :=
  (V d ((i 0).castLE hcore1) (j.castLE hsub1), .reg sc_bar0)

/-- What the tile owes at the barrier: a unit to every tile of its SparseCore. -/
def barO (d : Dev nD) (i : grid1.Coords) (ι : HIx 4) : CellTallies nD τ sig (HIx 4) :=
  ∑ j : Fin (grid1.bound 1), tallyAt (bcellOf d i j) ι 1

/-- What the tile owes, whatever waits of the transfers and of the barrier it has recorded. -/
abbrev OwB (O : CellTallies nD τ sig (HIx 4)) (W : Waits sig (HIx 4)) (q : Fin 4) : sProp 𝕄 :=
  iprop(∃ W', ⌜∀ p ∈ W', p ∈ W ∨ p.2 = none ∨ p.2 = some q⌝ ∗ owes (tl d i) O W')

/-- The slots and their semaphores. -/
def slotsOf : sProp 𝕄 :=
  iprop(gv (F := F) d i R
    ∗ (isl (F := F) d i R 0 ∗ iv (F := F) d i R 0 ∗ isl (F := F) d i R 1 ∗ iv (F := F) d i R 1)
    ∗ (osl (F := F) d i R 0 ∗ ov (F := F) d i R 0 ∗ osl (F := F) d i R 1 ∗ ov (F := F) d i R 1))

/-- A program that ends by returning nothing is the same without that end. -/
theorem wpT_after {γ : Type} {P : PUnit → sProp 𝕄} {x : Prog (TpuEff nD τ sig (Elt F) Λ₀ (.scVector ((i 0).castLE hcore1) ((i 1).castLE hsub1))) γ}
    {f g : γ → Prog (TpuEff nD τ sig (Elt F) Λ₀ (.scVector ((i 0).castLE hcore1) ((i 1).castLE hsub1))) PUnit}
    (h : ∀ a, g a = f a >>= fun _ => .ret ⟨⟩) : wpT d i (x >>= f) P ⊢ wpT d i (x >>= g) P := by
  have e : g = f := funext fun a => (h a).trans (Prog.bind_pure (f a))
  rw [e]

include hG hGt hN hH in
theorem gkernel_wp (Rd : Rounds.Schedule (GSem nD τ sig) ℕ 𝕄) (body2 : Body2 F G i) (κ : GSem nD τ sig → ℕ)
    (hd : ∀ j, (i 1).val ∈ Rd.duties (bcellOf d i j) q.val) (hk : ∀ j, Rd.amount (bcellOf d i j) q.val (i 1).val = 1)
    (hexp : 0 + grid1.bound 1 = Rd.expect (tl d i, .reg sc_bar0) q.val)
    (hout : shPost d i R H ⊢ bigSep Finset.univ fun j : Fin (grid1.bound 1) => Rd.payload (bcellOf d i j) q.val (i 1).val)
    (hback : bigSep (Rd.duties (tl d i, .reg sc_bar0) q.val \ ∅) (Rd.payload (tl d i, .reg sc_bar0) q.val) ⊢ shAt d i R H qs)
    (O : CellTallies nD τ sig (HIx 4)) (W : Waits sig (HIx 4)) :
    iprop(Transfers.MayWaits (tl d i) ι₀ (O + barO d i (some q)) ∗ Transfers.MayWaits (tl d i) ι₀ O ∗ MayWait (tl d i) (.reg sc_bar0) (some q) O
        ∗ (bigSep Finset.univ fun j : Fin (grid1.bound 1) => cellInv EB Rd (κ (bcellOf d i j)) (bcellOf d i j))
        ∗ owes (tl d i) (O + barO d i (some q)) W
        ∗ (bigSep Finset.univ fun j : Fin (grid1.bound 1) => dutyTok EB (bcellOf d i j) q.val (i 1).val)
        ∗ (bigSep Finset.univ fun j : Fin (grid1.bound 1) => reached EB (bcellOf d i j) q.val)
        ∗ cred (tallyAt (tl d i, .reg sc_bar0) (some q) (grid1.bound 1)) ∗ atPos EB (tl d i, .reg sc_bar0) q.val ∅ 0
        ∗ loadPre d i R Tb ∗ semVal (tl d i, .dma R.sTab.sem) 0 ∗ slotsOf (F := F) d i R
        ∗ bigSep (Finset.range (nW i)) (iw d i R q I) ∗ bigSep (Finset.range (nW i)) (ow (F := F) d i R))
      ⊢ wpT d i (gkernel G R i body2) fun _ =>
        iprop(OwB (F := F) d i O W q ∗ atPos EB (tl d i, .reg sc_bar0) (q.val + 1) ∅ 0 ∗ reached EB (tl d i, .reg sc_bar0) (q.val + 1)
          ∗ tabPost d i R Tb ∗ semVal (tl d i, .dma R.sTab.sem) 0 ∗ slotsOf (F := F) d i R ∗ shAt d i R H qs
          ∗ bigSep (Finset.range (nW i)) (iw d i R q I) ∗ bigSep (Finset.range (nW i)) (owG d i R Gt)) := by
  unfold gkernel slotsOf
  iintro ⟨Hmw1, #Hmw2, #HmwB, #Hinv, HO, Htok, Hre, Hcred, Hat, Hl, Hsv, ⟨Hgv, Hi, Ho⟩, Hws, How⟩
  iapply (load_wp d i R q hG H Tb hH (O + barO d i (some q)) W) $$ [Hmw1 HO Hl Hsv]
  · isplitl [Hmw1]; · iexact Hmw1
    isplitl [HO]
    · iexists W; isplitr; swap; · iexact HO
      ipureintro; intro p hp; exact .inl hp
    isplitl [Hl]; · iexact Hl
    iexact Hsv
  iintro ⟨⟨%W1, %hW1, HO⟩, Htab, Hsh, Hsv⟩
  ihave Hsh := hout $$ Hsh
  iapply (SparseCore.wp_subcoreBarrier 𝒱₀ none EB Rd d (sc := (i 0).castLE hcore1) (i := (i 1).castLE hsub1) sc_bar0 (grid1.bound 1) hsub1 (i 1) rfl κ (fun _ => q.val) (i 1).val
      hd hk hexp (some q) O W1) $$ [HO Htok Hre Hsh Hcred Hat]
  · isplitr; · iexact Hinv
    isplitl [HO]; · iexact HO
    isplitl [Htok Hre Hsh]
    · rw [bigSep_sep', bigSep_sep']
      isplitl [Htok]; · iexact Htok
      isplitl [Hsh]; · iexact Hsh
      iexact Hre
    isplitl [Hcred]; · iexact Hcred
    isplitl [Hat]; · iexact Hat
    iexact HmwB
  iintro ⟨HO, Hat, Hre, Hpay⟩
  ihave Hsh := hback $$ Hpay
  iapply (wpT_pos d i (hG.cond2 i))
  rw [tile_n, tile_b, tile_m]
  iapply (wpT_after d i (x := gpart7 (F := F) G R i (B (nW i)) (B (bW i)) (B (nW i)) (hG.cond2 i)) (f := fun ⟨v43, c0_i32_31, c0_i32_32, c0_i32_33, c0_i32_34, c0_i32_35, v47⟩ =>
    gpart8 G R i body2 (B (nW i)) (B (bW i)) (B (nW i)) (hG.cond2 i) v43 c0_i32_31 c0_i32_32 c0_i32_33 c0_i32_34 c0_i32_35 v47)
    (g := fun ⟨v43, c0_i32_31, c0_i32_32, c0_i32_33, c0_i32_34, c0_i32_35, v47⟩ =>
      gpart8 G R i body2 (B (nW i)) (B (bW i)) (B (nW i)) (hG.cond2 i) v43 c0_i32_31 c0_i32_32 c0_i32_33 c0_i32_34 c0_i32_35 v47 >>= fun _ => .ret ⟨⟩)
    (fun _ => rfl))
  iapply (windows_wp d i R q hG I H Gt hin hGt hN qs O (insert (SemLoc.reg sc_bar0, some q) W1) (hG.cond2 i) body2) $$ [HO Hsh Hgv Hi Ho Hws How]
  · isplitr; · iexact Hmw2
    isplitl [HO]
    · iexists _; isplitr; swap; · iexact HO
      ipureintro; intro p hp; exact .inl hp
    isplitl [Hsh]; · iexact Hsh
    isplitl [Hgv]; · iexact Hgv
    isplitl [Hi]; · iexact Hi
    isplitl [Ho]; · iexact Ho
    isplitl [Hws]; · iexact Hws
    iexact How
  iintro ⟨⟨%W2, %hW2, HO⟩, Hsh, Hgv, Hi, Ho, Hws, How⟩
  isplitl [HO]
  · iexists W2; isplitr; swap; · iexact HO
    ipureintro; intro p hp
    rcases hW2 p hp with h | h
    · rcases Finset.mem_insert.mp h with h | h
      · exact .inr (.inr (h ▸ rfl))
      · rcases hW1 p h with h | h
        · exact .inl h
        · exact .inr (.inl h)
    · exact .inr (.inl h)
  isplitl [Hat]; · iexact Hat
  isplitl [Hre]; · iexact Hre
  isplitl [Htab]; · iexact Htab
  isplitl [Hsv]; · iexact Hsv
  isplitl [Hgv Hi Ho]
  · isplitl [Hgv]; · iexact Hgv
    isplitl [Hi]; · iexact Hi
    iexact Ho
  isplitl [Hsh]; · iexact Hsh
  isplitl [Hws]; · iexact Hws
  iexact How

end Cert.Proof

end
-- ==== Proof.Values.lean ====
/-
  The arrays and buffers each of the four gather calls is handed, and what the calls compute of the table and of the row
  numbers: the shared scratch of a SparseCore holds its half of the table, and row `r` of a call's result is the row of that
  half the call's `r`-th row number names.
-/
module

public import proofs.«01_k».proof.Proof.Task
public import Idealize.ShloMosaic.Lib.ValueIdxCore
public import Idealize.ShloMosaic.Lib.Pipeline.ValueKit.Geometry

@[expose] public section

set_option pp.maxSteps 400

noncomputable section

namespace Cert.Proof

open Cert.KernelIdeal Cert.KernelIdeal.Gen
open Idealize.ShloMosaic
open Idealize.ShloMosaic.ValueIdx
open Idealize.ShloMosaic.SparseCore (S V T)
open Idealize.SL Idealize.SL.RA Idealize.SL.BI
open scoped Idealize.SL.BI

variable {F : FTy → Type} [FloatOps F]

/-- Call `q`'s result, -/
def outOf : Fin 4 → Memref sig .scVector .hbm S160000x128 .f32
  | 0 => Memref.whole main_v2_scv | 1 => Memref.whole main_v3_scv | 2 => Memref.whole main_v4_scv | 3 => Memref.whole main_v5_scv
/-- its shared scratch, -/
def shOf : Fin 4 → Memref sig .scVector .shared S10000x128 .f32
  | 0 => Memref.whole cc1_scratch0 | 1 => Memref.whole cc2_scratch0 | 2 => Memref.whole cc3_scratch0 | 3 => Memref.whole cc4_scratch0
def ibufOf : Fin 4 → Memref sig .scVector .vmem S2x1x128 .i32
  | 0 => Memref.whole cc1_scoped1 | 1 => Memref.whole cc2_scoped1 | 2 => Memref.whole cc3_scoped1 | 3 => Memref.whole cc4_scoped1
def obufOf : Fin 4 → Memref sig .scVector .vmem S2x128x128 .f32
  | 0 => Memref.whole cc1_scoped3 | 1 => Memref.whole cc2_scoped3 | 2 => Memref.whole cc3_scoped3 | 3 => Memref.whole cc4_scoped3
def sTabOf : Fin 4 → DmaSems sig S_ | 0 => cc1_scoped0 | 1 => cc2_scoped0 | 2 => cc3_scoped0 | 3 => cc4_scoped0
def sInOf : Fin 4 → DmaSems sig S2 | 0 => cc1_scoped2 | 1 => cc2_scoped2 | 2 => cc3_scoped2 | 3 => cc4_scoped2
def sOutOf : Fin 4 → DmaSems sig S2 | 0 => cc1_scoped4 | 1 => cc2_scoped4 | 2 => cc3_scoped4 | 3 => cc4_scoped4
def sGOf : Fin 4 → DmaSems sig S_ | 0 => cc1_scoped5 | 1 => cc2_scoped5 | 2 => cc3_scoped5 | 3 => cc4_scoped5

/-- and all it is handed: the table and the row numbers are the same for the four. -/
def refsOf (q : Fin 4) : Refs where
  tab := Memref.whole main_v0_scv
  idx := Memref.whole main_v1_scv
  out := outOf q
  sh := shOf q
  sTab := sTabOf q
  ibuf := ibufOf q
  sIn := sInOf q
  obuf := obufOf q
  sOut := sOutOf q
  sG := sGOf q

/-! ## What the calls compute -/

/-- SparseCore `c`'s half of the table. -/
def halfOf (Tb : S20000x128.Idx → Elt F .f32) (c : Fin 2) : S10000x128.Idx → Elt F .f32 := fun x =>
  Tb (ix2 (n0 := 20000) (n1 := 128) ⟨10000 * c.val + (x 0).val, by have := idx2_lt0 (n0 := 10000) (n1 := 128) x; omega⟩ (x 1))
/-- Row `y` of call `q`'s result: of the half `y` belongs to, the row its row number names. -/
def rowsAt (Tb : S20000x128.Idx → Elt F .f32) (I : S2x1x320000.Idx → Elt F .i32) (q : Fin 4) : S160000x128.Idx → Elt F .f32 := fun y =>
  have hy : (y 0).val < 160000 := idx2_lt0 (n0 := 160000) (n1 := 128) y
  halfOf Tb ⟨(y 0).val / 80000, by omega⟩ (ix2 (n0 := 10000) (n1 := 128)
    ⟨(I (ix3 (n0 := 2) (n1 := 1) (n2 := 320000) ⟨(y 0).val / 80000, by omega⟩ 0 ⟨80000 * q.val + (y 0).val % 80000, by omega⟩)).toNat % 10000,
      Nat.mod_lt _ (by decide)⟩ (y 1))

/-- Those, as contents of the call's own buffers. -/
def shBuf (d : Dev nD) (i : grid1.Coords) (f : S10000x128.Idx → Elt F .f32) : (q : Fin 4) → Buf (Elt F) ((shAll (refsOf q)).view.loc (tl d i))
  | 0 => f | 1 => f | 2 => f | 3 => f
def outBuf (d : Dev nD) (i : grid1.Coords) (f : S160000x128.Idx → Elt F .f32) : (q : Fin 4) → (w : Fin 625) → Buf (Elt F) ((owin (refsOf q) i w).view.loc (tl d i))
  | 0, _ => f | 1, _ => f | 2, _ => f | 3, _ => f

theorem read_sh (d : Dev nD) (i : grid1.Coords) (f : S10000x128.Idx → Elt F .f32) (q : Fin 4) :
    (refsOf q).sh.view.read (Elt F) (shBuf d i f q) = f := by
  match q with
  | 0 => rfl
  | 1 => rfl
  | 2 => rfl
  | 3 => rfl
theorem read_out (d : Dev nD) (i : grid1.Coords) (f : S160000x128.Idx → Elt F .f32) (q : Fin 4) (w : Fin 625) :
    (refsOf q).out.view.read (Elt F) (outBuf d i f q w) = f := by
  match q with
  | 0 => rfl
  | 1 => rfl
  | 2 => rfl
  | 3 => rfl

/-! ## Where the pieces lie -/

section Places

variable (d : Dev nD) (i : grid1.Coords) (R : Refs) (q : Fin 4)

theorem c_lt : (i 0).val < 2 := (i 0).isLt

theorem read_owin (w : Fin 625) (f : Buf (Elt F) ((owin R i w).view.loc (tl d i))) (r : Fin 128) (l : Fin 128) :
    (owin R i w).view.read (Elt F) f (ix2 r l)
      = R.out.view.read (Elt F) f (ix2 (n0 := 160000) (n1 := 128) ⟨80000 * (i 0).val + 128 * w.val + r.val, by have := c_lt i; omega⟩ l) := by
  refine congrArg (R.out.view.read (Elt F) f) (a₁ := (Rect.unit (s := S160000x128) ![80000 * (i 0).val, 0] S80000x128.size (ohalf_inb i)).emb
    ((Rect.unit (s := S80000x128) ![128 * w.val, 0] S128x128.size (owin_inb w)).emb (ix2 r l))) (funext fun a => Fin.ext ?_)
  rw [ValueKit.rect_emb_unit_val, ValueKit.rect_emb_unit_val]
  match a with
  | 0 => show 80000 * (i 0).val + (128 * w.val + r.val) = _; rw [← Nat.add_assoc]
  | 1 => show 0 + (0 + l.val) = l.val; omega

theorem read_tabRow (n : Fin 10) (f : Buf (Elt F) (R.tab.view.loc (tl d i))) (r : Fin 1000) (l : Fin 128) :
    (tabRow R i n).view.read (Elt F) f (ix2 r l)
      = R.tab.view.read (Elt F) f (ix2 (n0 := 20000) (n1 := 128) ⟨10000 * (i 0).val + 1000 * n.val + r.val, by have := c_lt i; omega⟩ l) := by
  refine congrArg (R.tab.view.read (Elt F) f) (a₁ := (Rect.unit (s := S20000x128) ![10000 * (i 0).val + 1000 * n.val, 0] S1000x128.size (tabRow_inb i n)).emb (ix2 r l))
    (funext fun a => Fin.ext ?_)
  rw [ValueKit.rect_emb_unit_val]
  match a with
  | 0 => rfl
  | 1 => show 0 + l.val = l.val; omega

theorem read_shRow (n : Fin 10) (f : Buf (Elt F) (R.sh.view.loc (tl d i))) (r : Fin 1000) (l : Fin 128) :
    (shRow R n).view.read (Elt F) f (ix2 r l)
      = R.sh.view.read (Elt F) f (ix2 (n0 := 10000) (n1 := 128) ⟨1000 * n.val + r.val, by omega⟩ l) := by
  refine congrArg (R.sh.view.read (Elt F) f) (a₁ := (Rect.unit (s := S10000x128) ![1000 * n.val, 0] S1000x128.size (shRow_inb n)).emb (ix2 r l))
    (funext fun a => Fin.ext ?_)
  rw [ValueKit.rect_emb_unit_val]
  match a with
  | 0 => rfl
  | 1 => show 0 + l.val = l.val; omega

theorem read_shAll (f : Buf (Elt F) (R.sh.view.loc (tl d i))) (x : S10000x128.Idx) :
    (shAll R).view.read (Elt F) f x = R.sh.view.read (Elt F) f x := by
  refine congrArg (R.sh.view.read (Elt F) f) (a₁ := (Rect.unit (s := S10000x128) ![0, 0] S10000x128.size inb_S10000x128_S10000x128_0_0).emb x)
    (funext fun a => Fin.ext ?_)
  rw [ValueKit.rect_emb_unit_val]
  match a with
  | 0 => show 0 + _ = _; omega
  | 1 => show 0 + _ = _; omega

theorem read_wlist (w : Fin 625) (f : Buf (Elt F) ((iwin R q i w).view.loc (tl d i))) (r : Fin 128) :
    (wlist i R q w).view.read (Elt F) f (ix1 r)
      = R.idx.view.read (Elt F) f (ix3 (n0 := 2) (n1 := 1) (n2 := 320000) (i 0) 0 ⟨128 * (625 * q.val + w.val) + r.val, by omega⟩) := by
  refine congrArg (R.idx.view.read (Elt F) f) (a₁ := (Rect.unit (s := S2x1x320000) ![(i 0).val, 0, 0] S1x1x320000.size (irow_inb i)).emb
    (Shape.reshapeEquiv squeezes_S1x1x320000_S1x320000.numel_eq ((Rect.unit (s := S1x320000) ![0, 128 * (625 * q.val + w.val)] S1x128.size (iwin_inb q w)).emb
      ((Rect.unit (s := S1x128) ![0, 0] S1x128.size inb_S1x128_S1x128_0_0).emb (Shape.reshapeEquiv squeezes_S1x128_S128.numel_eq (ix1 r))))))
    (funext fun a => Fin.ext ?_)
  rw [ValueKit.rect_emb_unit_val]
  have e1 : Shape.reshapeEquiv squeezes_S1x128_S128.numel_eq (ix1 r) = ix2 (n0 := 1) (n1 := 128) 0 r :=
    Shape.reshapeEquiv_eq_of_rowMajor _ (by
      rw [Shape.rowMajor_val_two, Shape.rowMajor_val_one]
      show 0 * 128 + r.val = r.val
      omega)
  have e2 : Shape.reshapeEquiv squeezes_S1x1x320000_S1x320000.numel_eq ((Rect.unit (s := S1x320000) ![0, 128 * (625 * q.val + w.val)] S1x128.size (iwin_inb q w)).emb
      ((Rect.unit (s := S1x128) ![0, 0] S1x128.size inb_S1x128_S1x128_0_0).emb (Shape.reshapeEquiv squeezes_S1x128_S128.numel_eq (ix1 r))))
      = ix3 (n0 := 1) (n1 := 1) (n2 := 320000) 0 0 ⟨128 * (625 * q.val + w.val) + r.val, by omega⟩ :=
    Shape.reshapeEquiv_eq_of_rowMajor _ (by
      rw [Shape.rowMajor_val_two, Shape.rowMajor_val_three, ValueKit.rect_emb_unit_val, ValueKit.rect_emb_unit_val, ValueKit.rect_emb_unit_val, ValueKit.rect_emb_unit_val, e1]
      show (0 * 1 + 0) * 320000 + (128 * (625 * q.val + w.val) + r.val) = (0 + (0 + 0)) * 320000 + (128 * (625 * q.val + w.val) + (0 + r.val))
      omega)
  rw [e2]
  match a with
  | 0 => show (i 0).val + 0 = (i 0).val; omega
  | 1 => rfl
  | 2 => exact Nat.zero_add _

end Places

/-! ## The facts a tile's run asks for -/

section Facts

variable (d : Dev nD) (i : grid1.Coords) (q : Fin 4) (Tb : S20000x128.Idx → Elt F .f32) (I : S2x1x320000.Idx → Elt F .i32)
  (hI : ∀ x, (I x).toNat < 10000)

theorem fact_hH (n : Fin 10) (x : S1000x128.Idx) :
    (tabRow (refsOf q) i n).view.read (Elt F) Tb x = (shRow (refsOf q) n).view.read (Elt F) (shBuf d i (halfOf Tb (i 0)) q) x := by
  obtain ⟨r, l, rfl⟩ : ∃ (r : Fin 1000) (l : Fin 128), x = ix2 r l := ⟨x 0, x 1, eq_ix2 x⟩
  refine (read_tabRow d i (refsOf q) n Tb r l).trans (Eq.trans ?_ (read_shRow d i (refsOf q) n (shBuf d i (halfOf Tb (i 0)) q) r l).symm)
  refine Eq.trans ?_ (congrFun (read_sh d i (halfOf Tb (i 0)) q) _).symm
  have e : (ix2 (n0 := 20000) (n1 := 128) ⟨10000 * (i 0).val + 1000 * n.val + r.val, by have := c_lt i; omega⟩ l)
      = ix2 (n0 := 20000) (n1 := 128) ⟨10000 * (i 0).val + (1000 * n.val + r.val), by have := c_lt i; omega⟩ l := by
    congr 1; exact Fin.ext (Nat.add_assoc _ _ _)
  exact congrArg Tb e

include d hI in
theorem fact_hin (w : Fin 625) (x) :
    ((wlist i (refsOf q) q w).view.read (Elt F) I x).toNat < S10000x128.size gathers_S10000x128_S128x128.axis := by
  obtain ⟨r, rfl⟩ : ∃ (r : Fin 128), x = ix1 r := ⟨x 0, eq_ix1 x⟩
  exact (congrArg BitVec.toNat (read_wlist d i (refsOf q) q w I r)).trans_lt (hI _)

theorem fact_hGt (w : Fin 625) (hin) :
    rowsOf d i (refsOf q) q w I (shBuf d i (halfOf Tb (i 0)) q) hin = (owin (refsOf q) i w).view.read (Elt F) (outBuf d i (rowsAt Tb I q) q w) := by
  funext x
  obtain ⟨r, l, rfl⟩ : ∃ (r : Fin 128) (l : Fin 128), x = ix2 r l := ⟨x 0, x 1, eq_ix2 x⟩
  have hc := c_lt i
  have hR : (SparseCore.rows (F := F) ((wlist i (refsOf q) q w).view.read (Elt F) I) rfl hin r).val
      = (I (ix3 (n0 := 2) (n1 := 1) (n2 := 320000) (i 0) 0 ⟨128 * (625 * q.val + w.val) + r.val, by omega⟩)).toNat := by
    have e : (S128.rowMajor.symm (r.cast rfl)) = ix1 (n := 128) r := by
      rw [Equiv.symm_apply_eq]
      exact Fin.ext (show r.val = _ from (Shape.rowMajor_val_one (d := ![128]) (ix1 r)).symm)
    show ((wlist i (refsOf q) q w).view.read (Elt F) I (S128.rowMajor.symm (r.cast rfl))).toNat = _
    exact (congrArg (fun y => BitVec.toNat ((wlist i (refsOf q) q w).view.read (Elt F) I y)) e).trans
      (congrArg BitVec.toNat (read_wlist d i (refsOf q) q w I r))
  have hlt := hin (ix1 r)
  refine Eq.trans ?_ ((read_owin d i (refsOf q) w (outBuf d i (rowsAt Tb I q) q w) r l).trans (congrFun (read_out d i (rowsAt Tb I q) q w) _)).symm
  refine (read_shAll d i (refsOf q) (shBuf d i (halfOf Tb (i 0)) q) _).trans ((congrFun (read_sh d i (halfOf Tb (i 0)) q) _).trans ?_)
  have hbig : (80000 * (i 0).val + 128 * w.val + r.val) / 80000 = (i 0).val := by omega
  have hmod : (80000 * (i 0).val + 128 * w.val + r.val) % 80000 = 128 * w.val + r.val := by omega
  have hIe : ix3 (n0 := 2) (n1 := 1) (n2 := 320000) (i 0) 0 ⟨128 * (625 * q.val + w.val) + r.val, by omega⟩
      = ix3 (n0 := 2) (n1 := 1) (n2 := 320000) ⟨(80000 * (i 0).val + 128 * w.val + r.val) / 80000, by omega⟩ 0
        ⟨80000 * q.val + (80000 * (i 0).val + 128 * w.val + r.val) % 80000, by omega⟩ := by
    funext a
    refine Fin.ext ?_
    match a with
    | 0 => exact hbig.symm
    | 1 => rfl
    | 2 => show 128 * (625 * q.val + w.val) + r.val = 80000 * q.val + (80000 * (i 0).val + 128 * w.val + r.val) % 80000; rw [hmod]; omega
  rw [hIe] at hR
  have hR' := (Nat.mod_eq_of_lt (hR ▸ (SparseCore.rows (F := F) ((wlist i (refsOf q) q w).view.read (Elt F) I) rfl hin r).isLt : _ < 10000))
  refine congrArg Tb (funext fun a => Fin.ext ?_)
  match a with
  | 0 =>
    show 10000 * (i 0).val + (SparseCore.rows (F := F) ((wlist i (refsOf q) q w).view.read (Elt F) I) rfl hin r).val
      = 10000 * ((80000 * (i 0).val + 128 * w.val + r.val) / 80000) + _ % 10000
    exact congrArg₂ (fun a b => 10000 * a + b) hbig.symm (hR.trans hR'.symm)
  | 1 => rfl

end Facts

end Cert.Proof

end
-- ==== Proof.Parts.lean ====
/-
  The arrays in pieces: a call's result into the windows its tiles write, the table into the tenths of its halves, the row
  numbers into the windows of a call, the shared scratch into its tenths; and the windows of a SparseCore dealt out to its tiles.
-/
module

public import proofs.«01_k».proof.Proof.Values

@[expose] public section

set_option pp.maxSteps 400

noncomputable section

namespace Cert.Proof

open Cert.KernelIdeal Cert.KernelIdeal.Gen
open Idealize.ShloMosaic
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)

variable {F : FTy → Type}

local notation "𝕄" => MT nD τ sig (HIx 4) (Elt F) ℕ UU ℕ

/-- A device's TensorCore thread. -/
abbrev tcT (d : Dev nD) : Thread nD τ := SparseCore.T d

/-! ## Dealing out -/

/-- Tenths held by the first ten of sixteen tiles are the tenths. -/
theorem bigSep_ten {Φ : Fin 10 → sProp 𝕄} :
    (bigSep Finset.univ fun s : Fin 16 => if h : s.val < 10 then Φ ⟨s.val, h⟩ else iprop(emp)) = bigSep Finset.univ Φ := by
  have e : (Finset.univ : Finset (Fin 16)) = (Finset.univ.map (Fin.castLEEmb (show 10 ≤ 16 by omega))) ∪ Finset.univ.filter (fun s : Fin 16 => ¬ s.val < 10) := by decide
  rw [e, bigSep_union (by decide), BI.bigSep_map]
  rw [BI.bigSep_congr (s := Finset.univ.filter (fun s : Fin 16 => ¬ s.val < 10)) (Ψ := fun _ => (BI.emp : sProp 𝕄))
    fun s hs => dif_neg (Finset.mem_filter.mp hs).2, BI.bigSep_emp_const]
  rw [BI.bigSep_congr (s := Finset.univ) (Ψ := Φ) fun s _ => dif_pos s.isLt]
  exact equiv_iff.mp BI.sep_emp

/-- The windows of a SparseCore are its tiles' windows. -/
theorem bigSep_windows (c : Fin 2) {Φ : Fin 625 → sProp 𝕄} :
    bigSep Finset.univ Φ = bigSep Finset.univ fun s : Fin 16 => bigSep (Finset.range (nW (crd c s))) fun k => Φ (wn (crd c s) k) := by
  have hW : ∀ s : Fin 16, nW (crd c s) = if s.val = 0 then 40 else 39 := fun s => rfl
  have hB : ∀ s : Fin 16, bW (crd c s) = if s.val = 0 then 0 else 39 * s.val + 1 := fun s => rfl
  have hv : ∀ (s : Fin 16) (k : ℕ), k < nW (crd c s) → (wn (crd c s) k).val = bW (crd c s) + k := fun s k hk => by
    show (bW (crd c s) + k) % 625 = _
    rw [hW] at hk; rw [hB]
    have := s.isLt
    split_ifs at * <;> omega
  have e : (Finset.univ : Finset (Fin 625)) = Finset.univ.biUnion fun s : Fin 16 => (Finset.range (nW (crd c s))).image (wn (crd c s)) := by
    symm
    refine Finset.eq_univ_of_forall fun w => Finset.mem_biUnion.mpr ?_
    have hw := w.isLt
    refine ⟨⟨if w.val < 40 then 0 else (w.val - 1) / 39, by split_ifs <;> omega⟩, Finset.mem_univ _,
      Finset.mem_image.mpr ⟨if w.val < 40 then w.val else (w.val - 1) % 39, ?_⟩⟩
    have hk : (if w.val < 40 then w.val else (w.val - 1) % 39) < nW (crd c ⟨if w.val < 40 then 0 else (w.val - 1) / 39, by split_ifs <;> omega⟩) := by
      rw [hW]; dsimp only; split_ifs <;> omega
    refine ⟨Finset.mem_range.mpr hk, Fin.ext ?_⟩
    rw [hv _ _ hk, hB]; dsimp only; split_ifs <;> omega
  rw [e, BI.bigSep_biUnion_eq]
  · refine BI.bigSep_congr fun s _ => SparseCore.bigSep_image_of_injOn (fun k hk k' hk' h => ?_) _
    have := congrArg Fin.val h
    rw [hv _ _ (Finset.mem_range.mp hk), hv _ _ (Finset.mem_range.mp hk')] at this
    omega
  · intro s _ s' _ hss
    refine Finset.disjoint_left.mpr fun w h1 h2 => hss ?_
    obtain ⟨k, hk, e1⟩ := Finset.mem_image.mp h1
    obtain ⟨k', hk', e2⟩ := Finset.mem_image.mp h2
    rw [Finset.mem_range] at hk hk'
    have h := congrArg Fin.val (e1.trans e2.symm)
    rw [hv _ _ hk, hv _ _ hk', hB, hB] at h
    rw [hW] at hk hk'
    refine Fin.ext ?_
    split_ifs at * <;> omega

/-- Pieces that a pair numbers. -/
theorem pieces_pair {ℓ : Loc nD τ sig} (A : Type) [Fintype A] [DecidableEq A] (W : Fin 2 → A → Finset (Idx ℓ))
    (hd : ∀ c a c' a', (c, a) ≠ (c', a') → Disjoint (W c a) (W c' a')) (q : PosShare TreeShare) (f : Buf (Elt F) ℓ) :
    (ℓ ↦[(Finset.univ : Finset (Fin 2 × A)).biUnion fun p => W p.1 p.2]{q} f : sProp 𝕄)
      = bigSep Finset.univ fun c : Fin 2 => bigSep Finset.univ fun a : A => ℓ ↦[W c a]{q} f := by
  rw [pointsTo_biUnion _ _ (fun t _ t' _ h => hd _ _ _ _ h), BI.bigSep_univ_prod]

/-! ## Where the pieces lie -/

variable (R : Refs) (i : grid1.Coords)

theorem mem_owin (w : Fin 625) {z} : z ∈ (owin R i w).view.set ↔
    ∃ y : S160000x128.Idx, R.out.view.emb y = z ∧ 80000 * (i 0).val + 128 * w.val ≤ (y 0).val ∧ (y 0).val < 80000 * (i 0).val + 128 * w.val + 128 := by
  constructor
  · intro h
    obtain ⟨x, -, rfl⟩ := Finset.mem_map.mp h
    refine ⟨_, rfl, ?_⟩
    rw [ValueKit.rect_emb_unit_val, ValueKit.rect_emb_unit_val]
    have := idx2_lt0 (n0 := 128) (n1 := 128) x
    show 80000 * (i 0).val + 128 * w.val ≤ 80000 * (i 0).val + (128 * w.val + (x 0).val) ∧ 80000 * (i 0).val + (128 * w.val + (x 0).val) < _
    constructor <;> omega
  · rintro ⟨y, rfl, h1, h2⟩
    have hb : (y 0).val - (80000 * (i 0).val + 128 * w.val) < 128 := by omega
    obtain ⟨x, hx0, hx1⟩ : ∃ x : S128x128.Idx, (x 0).val = (y 0).val - (80000 * (i 0).val + 128 * w.val) ∧ (x 1).val = (y 1).val :=
      ⟨ix2 (n0 := 128) (n1 := 128) ⟨(y 0).val - (80000 * (i 0).val + 128 * w.val), hb⟩ ⟨(y 1).val, idx2_lt1 (n0 := 160000) (n1 := 128) y⟩, rfl, rfl⟩
    have e : (Rect.unit (s := S160000x128) ![80000 * (i 0).val, 0] S80000x128.size (ohalf_inb i)).emb ((Rect.unit (s := S80000x128) ![128 * w.val, 0] S128x128.size (owin_inb w)).emb x) = y := by
      funext a
      refine Fin.ext ?_
      rw [ValueKit.rect_emb_unit_val, ValueKit.rect_emb_unit_val]
      match a with
      | 0 => show 80000 * (i 0).val + (128 * w.val + (x 0).val) = (y 0).val; rw [hx0]; omega
      | 1 => show 0 + (0 + (x 1).val) = (y 1).val; rw [hx1]; omega
    exact Finset.mem_map.mpr ⟨x, Finset.mem_univ _, congrArg R.out.view.emb e⟩

theorem owin_disjoint (c : Fin 2) (w : Fin 625) (c' : Fin 2) (w' : Fin 625) (h : (c, w) ≠ (c', w')) :
    Disjoint (owin R (crd c 0) w).view.set (owin R (crd c' 0) w').view.set := by
  refine Finset.disjoint_left.mpr fun z h1 h2 => h ?_
  obtain ⟨y, e, a, b⟩ := (mem_owin R _ w).mp h1
  obtain ⟨y', e', a', b'⟩ := (mem_owin R _ w').mp h2
  have := R.out.view.emb.injective (e.trans e'.symm)
  subst this
  change 80000 * c.val + _ ≤ _ at a; change _ < 80000 * c.val + _ + _ at b
  change 80000 * c'.val + _ ≤ _ at a'; change _ < 80000 * c'.val + _ + _ at b'
  refine Prod.ext (Fin.ext ?_) (Fin.ext ?_) <;> dsimp only <;> omega

theorem owin_cover : ((Finset.univ : Finset (Fin 2 × Fin 625)).biUnion fun p => (owin R (crd p.1 0) p.2).view.set) = R.out.view.set := by
  ext z
  rw [Finset.mem_biUnion]
  constructor
  · rintro ⟨p, -, h⟩
    obtain ⟨y, e, -⟩ := (mem_owin R _ p.2).mp h
    exact Finset.mem_map.mpr ⟨y, Finset.mem_univ _, e⟩
  · intro h
    obtain ⟨y, -, e⟩ := Finset.mem_map.mp h
    have hy := idx2_lt0 (n0 := 160000) (n1 := 128) y
    obtain ⟨c, hc⟩ : ∃ c : Fin 2, c.val = (y 0).val / 80000 := ⟨⟨(y 0).val / 80000, by omega⟩, rfl⟩
    obtain ⟨w, hw⟩ : ∃ w : Fin 625, w.val = (y 0).val % 80000 / 128 := ⟨⟨(y 0).val % 80000 / 128, by omega⟩, rfl⟩
    refine ⟨(c, w), Finset.mem_univ _, (mem_owin R (crd c 0) w).mpr ⟨y, e, ?_⟩⟩
    show 80000 * c.val + 128 * w.val ≤ (y 0).val ∧ (y 0).val < 80000 * c.val + 128 * w.val + 128
    constructor <;> omega

theorem mem_tabRow (n : Fin 10) {z} : z ∈ (tabRow R i n).view.set ↔
    ∃ y : S20000x128.Idx, R.tab.view.emb y = z ∧ 10000 * (i 0).val + 1000 * n.val ≤ (y 0).val ∧ (y 0).val < 10000 * (i 0).val + 1000 * n.val + 1000 := by
  constructor
  · intro h
    obtain ⟨x, -, rfl⟩ := Finset.mem_map.mp h
    refine ⟨_, rfl, ?_⟩
    rw [ValueKit.rect_emb_unit_val]
    have := idx2_lt0 (n0 := 1000) (n1 := 128) x
    show 10000 * (i 0).val + 1000 * n.val ≤ 10000 * (i 0).val + 1000 * n.val + (x 0).val ∧ 10000 * (i 0).val + 1000 * n.val + (x 0).val < _
    constructor <;> omega
  · rintro ⟨y, rfl, h1, h2⟩
    have hb : (y 0).val - (10000 * (i 0).val + 1000 * n.val) < 1000 := by omega
    obtain ⟨x, hx0, hx1⟩ : ∃ x : S1000x128.Idx, (x 0).val = (y 0).val - (10000 * (i 0).val + 1000 * n.val) ∧ (x 1).val = (y 1).val :=
      ⟨ix2 (n0 := 1000) (n1 := 128) ⟨(y 0).val - (10000 * (i 0).val + 1000 * n.val), hb⟩ ⟨(y 1).val, idx2_lt1 (n0 := 20000) (n1 := 128) y⟩, rfl, rfl⟩
    have e : (Rect.unit (s := S20000x128) ![10000 * (i 0).val + 1000 * n.val, 0] S1000x128.size (tabRow_inb i n)).emb x = y := by
      funext a
      refine Fin.ext ?_
      rw [ValueKit.rect_emb_unit_val]
      match a with
      | 0 => show 10000 * (i 0).val + 1000 * n.val + (x 0).val = (y 0).val; rw [hx0]; omega
      | 1 => show 0 + (x 1).val = (y 1).val; rw [hx1]; omega
    exact Finset.mem_map.mpr ⟨x, Finset.mem_univ _, congrArg R.tab.view.emb e⟩

theorem tabRow_disjoint (c : Fin 2) (n : Fin 10) (c' : Fin 2) (n' : Fin 10) (h : (c, n) ≠ (c', n')) :
    Disjoint (tabRow R (crd c 0) n).view.set (tabRow R (crd c' 0) n').view.set := by
  refine Finset.disjoint_left.mpr fun z h1 h2 => h ?_
  obtain ⟨y, e, a, b⟩ := (mem_tabRow R _ n).mp h1
  obtain ⟨y', e', a', b'⟩ := (mem_tabRow R _ n').mp h2
  have := R.tab.view.emb.injective (e.trans e'.symm)
  subst this
  change 10000 * c.val + _ ≤ _ at a; change _ < 10000 * c.val + _ + _ at b
  change 10000 * c'.val + _ ≤ _ at a'; change _ < 10000 * c'.val + _ + _ at b'
  refine Prod.ext (Fin.ext ?_) (Fin.ext ?_) <;> dsimp only <;> omega

theorem tabRow_cover : ((Finset.univ : Finset (Fin 2 × Fin 10)).biUnion fun p => (tabRow R (crd p.1 0) p.2).view.set) = R.tab.view.set := by
  ext z
  rw [Finset.mem_biUnion]
  constructor
  · rintro ⟨p, -, h⟩
    obtain ⟨y, e, -⟩ := (mem_tabRow R _ p.2).mp h
    exact Finset.mem_map.mpr ⟨y, Finset.mem_univ _, e⟩
  · intro h
    obtain ⟨y, -, e⟩ := Finset.mem_map.mp h
    have hy := idx2_lt0 (n0 := 20000) (n1 := 128) y
    obtain ⟨c, hc⟩ : ∃ c : Fin 2, c.val = (y 0).val / 10000 := ⟨⟨(y 0).val / 10000, by omega⟩, rfl⟩
    obtain ⟨w, hw⟩ : ∃ w : Fin 10, w.val = (y 0).val % 10000 / 1000 := ⟨⟨(y 0).val % 10000 / 1000, by omega⟩, rfl⟩
    refine ⟨(c, w), Finset.mem_univ _, (mem_tabRow R (crd c 0) w).mpr ⟨y, e, ?_⟩⟩
    show 10000 * c.val + 1000 * w.val ≤ (y 0).val ∧ (y 0).val < 10000 * c.val + 1000 * w.val + 1000
    constructor <;> omega

theorem mem_shRow (n : Fin 10) {z} : z ∈ (shRow R n).view.set ↔
    ∃ y : S10000x128.Idx, R.sh.view.emb y = z ∧ 1000 * n.val ≤ (y 0).val ∧ (y 0).val < 1000 * n.val + 1000 := by
  constructor
  · intro h
    obtain ⟨x, -, rfl⟩ := Finset.mem_map.mp h
    refine ⟨_, rfl, ?_⟩
    rw [ValueKit.rect_emb_unit_val]
    have := idx2_lt0 (n0 := 1000) (n1 := 128) x
    show 1000 * n.val ≤ 1000 * n.val + (x 0).val ∧ 1000 * n.val + (x 0).val < _
    constructor <;> omega
  · rintro ⟨y, rfl, h1, h2⟩
    have hb : (y 0).val - 1000 * n.val < 1000 := by omega
    obtain ⟨x, hx0, hx1⟩ : ∃ x : S1000x128.Idx, (x 0).val = (y 0).val - 1000 * n.val ∧ (x 1).val = (y 1).val :=
      ⟨ix2 (n0 := 1000) (n1 := 128) ⟨(y 0).val - 1000 * n.val, hb⟩ ⟨(y 1).val, idx2_lt1 (n0 := 10000) (n1 := 128) y⟩, rfl, rfl⟩
    have e : (Rect.unit (s := S10000x128) ![1000 * n.val, 0] S1000x128.size (shRow_inb n)).emb x = y := by
      funext a
      refine Fin.ext ?_
      rw [ValueKit.rect_emb_unit_val]
      match a with
      | 0 => show 1000 * n.val + (x 0).val = (y 0).val; rw [hx0]; omega
      | 1 => show 0 + (x 1).val = (y 1).val; rw [hx1]; omega
    exact Finset.mem_map.mpr ⟨x, Finset.mem_univ _, congrArg R.sh.view.emb e⟩

theorem shRow_disjoint (n n' : Fin 10) (h : n ≠ n') : Disjoint (shRow R n).view.set (shRow R n').view.set := by
  refine Finset.disjoint_left.mpr fun z h1 h2 => h ?_
  obtain ⟨y, e, a, b⟩ := (mem_shRow R n).mp h1
  obtain ⟨y', e', a', b'⟩ := (mem_shRow R n').mp h2
  have := R.sh.view.emb.injective (e.trans e'.symm)
  subst this
  refine Fin.ext ?_
  omega

theorem shRow_cover : ((Finset.univ : Finset (Fin 10)).biUnion fun n => (shRow R n).view.set) = R.sh.view.set := by
  ext z
  rw [Finset.mem_biUnion]
  constructor
  · rintro ⟨p, -, h⟩
    obtain ⟨y, e, -⟩ := (mem_shRow R p).mp h
    exact Finset.mem_map.mpr ⟨y, Finset.mem_univ _, e⟩
  · intro h
    obtain ⟨y, -, e⟩ := Finset.mem_map.mp h
    have hy := idx2_lt0 (n0 := 10000) (n1 := 128) y
    obtain ⟨n, hn⟩ : ∃ n : Fin 10, n.val = (y 0).val / 1000 := ⟨⟨(y 0).val / 1000, by omega⟩, rfl⟩
    refine ⟨n, Finset.mem_univ _, (mem_shRow R n).mpr ⟨y, e, ?_⟩⟩
    constructor <;> omega

theorem shAll_set : (shAll R).view.set = R.sh.view.set := by
  rw [View.set_slice, Rect.set_eq_univ_of_whole]
  · rfl
  · intro a; match a with | 0 => exact ⟨rfl, rfl, rfl⟩ | 1 => exact ⟨rfl, rfl, rfl⟩

theorem mem_iwin (q : Fin 4) (w : Fin 625) {z} (h : z ∈ (iwin R q i w).view.set) :
    ∃ y : S2x1x320000.Idx, R.idx.view.emb y = z ∧ (y 0).val = (i 0).val ∧ 128 * (625 * q.val + w.val) ≤ (y 2).val
      ∧ (y 2).val < 128 * (625 * q.val + w.val) + 128 := by
  obtain ⟨x, -, rfl⟩ := Finset.mem_map.mp h
  have hx := idx2_lt1 (n0 := 1) (n1 := 128) x
  have e2 : Shape.reshapeEquiv squeezes_S1x1x320000_S1x320000.numel_eq ((Rect.unit (s := S1x320000) ![0, 128 * (625 * q.val + w.val)] S1x128.size (iwin_inb q w)).emb x)
      = ix3 (n0 := 1) (n1 := 1) (n2 := 320000) 0 0 ⟨128 * (625 * q.val + w.val) + (x 1).val, by omega⟩ :=
    Shape.reshapeEquiv_eq_of_rowMajor _ (by
      have h0 := idx2_lt0 (n0 := 1) (n1 := 128) x
      rw [Shape.rowMajor_val_two, Shape.rowMajor_val_three, ValueKit.rect_emb_unit_val, ValueKit.rect_emb_unit_val]
      show (0 * 1 + 0) * 320000 + (128 * (625 * q.val + w.val) + (x 1).val) = (0 + (x 0).val) * 320000 + (128 * (625 * q.val + w.val) + (x 1).val)
      omega)
  refine ⟨(Rect.unit (s := S2x1x320000) ![(i 0).val, 0, 0] S1x1x320000.size (irow_inb i)).emb
    (ix3 (n0 := 1) (n1 := 1) (n2 := 320000) 0 0 ⟨128 * (625 * q.val + w.val) + (x 1).val, by omega⟩), ?_, ?_⟩
  · exact congrArg (fun y => R.idx.view.emb ((Rect.unit (s := S2x1x320000) ![(i 0).val, 0, 0] S1x1x320000.size (irow_inb i)).emb y)) e2.symm
  · rw [ValueKit.rect_emb_unit_val, ValueKit.rect_emb_unit_val]
    show (i 0).val + 0 = (i 0).val ∧ 128 * (625 * q.val + w.val) ≤ 0 + (128 * (625 * q.val + w.val) + (x 1).val) ∧ 0 + (128 * (625 * q.val + w.val) + (x 1).val) < _
    refine ⟨rfl, ?_, ?_⟩ <;> omega

theorem iwin_disjoint (q : Fin 4) (c : Fin 2) (w : Fin 625) (c' : Fin 2) (w' : Fin 625) (h : (c, w) ≠ (c', w')) :
    Disjoint (iwin R q (crd c 0) w).view.set (iwin R q (crd c' 0) w').view.set := by
  refine Finset.disjoint_left.mpr fun z h1 h2 => h ?_
  obtain ⟨y, e, a0, a, b⟩ := mem_iwin R _ q w h1
  obtain ⟨y', e', a0', a', b'⟩ := mem_iwin R _ q w' h2
  have := R.idx.view.emb.injective (e.trans e'.symm)
  subst this
  change _ = c.val at a0; change _ = c'.val at a0'
  refine Prod.ext (Fin.ext (a0.symm.trans a0')) (Fin.ext ?_) ; dsimp only; omega

/-! ## The arrays -/

/-- Call `q`'s result, as the TensorCore names it. -/
def outLoc (d : Dev nD) : Fin 4 → Loc nD τ sig
  | 0 => (tcT d).loc main_v2 | 1 => (tcT d).loc main_v3 | 2 => (tcT d).loc main_v4 | 3 => (tcT d).loc main_v5
def outAt (d : Dev nD) (G : S160000x128.Idx → Elt F .f32) : (q : Fin 4) → Buf (Elt F) (outLoc d q)
  | 0 => G | 1 => G | 2 => G | 3 => G
/-- Call `q`'s shared scratch, as the sequencer names it. -/
def shLoc (d : Dev nD) (c : Fin 2) : Fin 4 → Loc nD τ sig
  | 0 => (V d (c.castLE hcore1) ((0 : Fin 16).castLE hsub1)).loc cc1_scratch0 | 1 => (V d (c.castLE hcore1) ((0 : Fin 16).castLE hsub1)).loc cc2_scratch0
  | 2 => (V d (c.castLE hcore1) ((0 : Fin 16).castLE hsub1)).loc cc3_scratch0 | 3 => (V d (c.castLE hcore1) ((0 : Fin 16).castLE hsub1)).loc cc4_scratch0

variable [FloatOps F]

/-- The table, in the tenths the tiles read. -/
theorem tab_parts (d : Dev nD) (q : Fin 4) (Tb : S20000x128.Idx → Elt F .f32) :
    ((tcT d).loc main_v0 ↦{fullShare} Tb : sProp 𝕄)
      = bigSep Finset.univ fun c : Fin 2 => bigSep Finset.univ fun s : Fin 16 => tabPost d (crd c s) (refsOf q) Tb := by
  have h := pieces_pair (F := F) (ℓ := (tcT d).loc main_v0) (Fin 10) (fun c n => (tabRow (refsOf q) (crd c 0) n).view.set)
    (fun c n c' n' h => tabRow_disjoint (refsOf q) c n c' n' h) fullShare Tb
  have hc := (tabRow_cover (refsOf q)).trans (View.set_whole main_v0_scv)
  refine (show _ = _ from ?_).trans (h.trans ?_)
  · exact congrArg (fun I => ((tcT d).loc main_v0 ↦[I]{fullShare} Tb : sProp 𝕄)) hc.symm
  · exact BI.bigSep_congr fun c _ => (bigSep_ten (Φ := fun n => ((tcT d).loc main_v0 ↦[(tabRow (refsOf q) (crd c 0) n).view.set]{fullShare} Tb : sProp 𝕄))).symm

/-- Call `q`'s result, in the windows its tiles write. -/
theorem out_parts (d : Dev nD) (q : Fin 4) (G : S160000x128.Idx → Elt F .f32) :
    (outLoc d q ↦{fullShare} outAt d G q : sProp 𝕄)
      = bigSep Finset.univ fun c : Fin 2 => bigSep Finset.univ fun s : Fin 16 =>
          bigSep (Finset.range (nW (crd c s))) (owG d (crd c s) (refsOf q) (fun w => outBuf d (crd c s) G q w)) := by
  have key : ∀ (ℓ : Loc nD τ sig) (W : Fin 2 → Fin 625 → Finset (Idx ℓ)) (hd : ∀ c a c' a', (c, a) ≠ (c', a') → Disjoint (W c a) (W c' a'))
      (hc : ((Finset.univ : Finset (Fin 2 × Fin 625)).biUnion fun p => W p.1 p.2) = Finset.univ) (f : Buf (Elt F) ℓ),
      (ℓ ↦{fullShare} f : sProp 𝕄) = bigSep Finset.univ fun c : Fin 2 => bigSep Finset.univ fun s : Fin 16 =>
        bigSep (Finset.range (nW (crd c s))) fun k => ℓ ↦[W c (wn (crd c s) k)]{fullShare} f := fun ℓ W hd hc f =>
    (congrArg (fun I => (ℓ ↦[I]{fullShare} f : sProp 𝕄)) hc.symm).trans ((pieces_pair (F := F) (Fin 625) W hd fullShare f).trans
      (BI.bigSep_congr fun c _ => bigSep_windows c))
  match q with
  | 0 => exact key ((tcT d).loc main_v2) (fun c w => (owin (refsOf 0) (crd c 0) w).view.set) (owin_disjoint (refsOf 0)) ((owin_cover (refsOf 0)).trans (View.set_whole _)) G
  | 1 => exact key ((tcT d).loc main_v3) (fun c w => (owin (refsOf 1) (crd c 0) w).view.set) (owin_disjoint (refsOf 1)) ((owin_cover (refsOf 1)).trans (View.set_whole _)) G
  | 2 => exact key ((tcT d).loc main_v4) (fun c w => (owin (refsOf 2) (crd c 0) w).view.set) (owin_disjoint (refsOf 2)) ((owin_cover (refsOf 2)).trans (View.set_whole _)) G
  | 3 => exact key ((tcT d).loc main_v5) (fun c w => (owin (refsOf 3) (crd c 0) w).view.set) (owin_disjoint (refsOf 3)) ((owin_cover (refsOf 3)).trans (View.set_whole _)) G

/-- The elements of the row numbers call `q` reads. -/
def idxSet (d : Dev nD) (q : Fin 4) : Finset (Idx ((tcT d).loc main_v1)) :=
  (Finset.univ : Finset (Fin 2 × Fin 625)).biUnion fun p => (iwin (refsOf q) q (crd p.1 0) p.2).view.set

/-- The row numbers, in the windows the tiles of call `q` read and the rest. -/
theorem idx_parts (d : Dev nD) (q : Fin 4) (I : S2x1x320000.Idx → Elt F .i32) :
    ((tcT d).loc main_v1 ↦{fullShare} I : sProp 𝕄)
      = iprop((bigSep Finset.univ fun c : Fin 2 => bigSep Finset.univ fun s : Fin 16 => bigSep (Finset.range (nW (crd c s))) (iw d (crd c s) (refsOf q) q (fun _ => I)))
          ∗ ((tcT d).loc main_v1 ↦[Finset.univ \ idxSet d q]{fullShare} I)) := by
  have h := pieces_pair (F := F) (ℓ := (tcT d).loc main_v1) (Fin 625) (fun c w => (iwin (refsOf q) q (crd c 0) w).view.set)
    (fun c n c' n' h => iwin_disjoint (refsOf q) q c n c' n' h) fullShare I
  have h2 := h.trans (BI.bigSep_congr fun c _ => bigSep_windows c)
  have hsp := pointsTo_split_subset (Val := Elt F) (Ix := HIx 4) (Name := ℕ) (U := UU) (Lvl := ℕ) (ℓ := (tcT d).loc main_v1) (q := fullShare) (f := I) (Finset.subset_univ (idxSet d q))
  refine (equiv_iff.mp ⟨hsp.1, hsp.2⟩).trans ?_
  exact congrArg (fun X => iprop(X ∗ ((tcT d).loc main_v1 ↦[Finset.univ \ idxSet d q]{fullShare} I))) h2

/-- The shared scratch, in its tenths. -/
theorem sh_parts (d : Dev nD) (c : Fin 2) (q : Fin 4) (H : S10000x128.Idx → Elt F .f32) (p : PosShare TreeShare) (s₀ : Fin 16) :
    (shAt d (crd c s₀) (refsOf q) (shBuf d (crd c s₀) H q) p : sProp 𝕄)
      = bigSep Finset.univ fun n : Fin 10 => (shRow (refsOf q) n).view.loc (tl d (crd c s₀)) ↦[(shRow (refsOf q) n).view.set]{p} shBuf d (crd c s₀) H q := by
  have h := pointsTo_biUnion (Val := Elt F) (Ix := HIx 4) (Name := ℕ) (U := UU) (Lvl := ℕ) (ℓ := (shAll (refsOf q)).view.loc (tl d (crd c s₀))) (q := p) (f := shBuf d (crd c s₀) H q)
    (Finset.univ : Finset (Fin 10)) (fun n => (shRow (refsOf q) n).view.set) (fun t _ t' _ h => shRow_disjoint (refsOf q) t t' h)
  refine Eq.trans ?_ h
  exact congrArg (fun I => ((shAll (refsOf q)).view.loc (tl d (crd c s₀)) ↦[I]{p} shBuf d (crd c s₀) H q : sProp 𝕄))
    ((shAll_set (refsOf q)).trans (shRow_cover (refsOf q)).symm)

end Cert.Proof

end
-- ==== Proof.Sched.lean ====
/-
  What passes between the threads at each gather call: the barrier's schedule — round `q` of a tile's barrier cell is call
  `q`'s, in which each of the first ten tiles hands the cell's tile a share of the tenth of the scratch it has written — and
  what the call's handshakes carry to the tiles and back.
-/
module

public import proofs.«01_k».proof.Proof.Parts

@[expose] public section

set_option pp.maxSteps 400

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

variable (Tf : Dev nD → S20000x128.Idx → Elt F .f32) (If : Dev nD → S2x1x320000.Idx → Elt F .i32)

/-! ## The barrier cells -/

/-- Tile `(c, j)`'s barrier semaphore of device `d`. -/
abbrev bcell (d : Dev nD) (c : Fin 2) (j : Fin 16) : GSem nD τ sig := (V d (c.castLE hcore1) (j.castLE hsub1), .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

theorem isBar_bcell (d : Dev nD) (c : Fin 2) (j : Fin 16) : isBar (bcell d c j) = true := by simp [isBar]

/-- Tile `i`'s share of the shared scratch. -/
abbrev shr (s : Fin 16) : PosShare TreeShare := pieceOf fullShare 16 (by decide) s

/-- Tenth `n` of call `q`'s scratch of SparseCore `c`, holding the SparseCore's half of the table, at tile `j`'s share. -/
def shTenth (q : Fin 4) (d : Dev nD) (c : Fin 2) (j : Fin 16) (n : Fin 10) : sProp 𝕄 :=
  (shRow (refsOf q) n).view.loc (tl d (crd c j)) ↦[(shRow (refsOf q) n).view.set]{shr j} shBuf d (crd c j) (halfOf (Tf d) c) q

def bPay (g : GSem nD τ sig) (r n : ℕ) : sProp 𝕄 :=
  match g with
  | ((d, .scVector c j), _) => if hr : r < 4 then if hn : n < 10 then shTenth Tf ⟨r, hr⟩ d c j ⟨n, hn⟩ else iprop(emp) else iprop(emp)
  | _ => iprop(emp)

/-- The barrier cells' schedule: four rounds on each, of one unit duty per tile of the SparseCore. -/
def bRd : Rounds.Schedule (GSem nD τ sig) ℕ 𝕄 where
  duties g r := if isBar g ∧ r < 4 then (Finset.univ : Finset (Fin 16)).image Fin.val else ∅
  amount _ _ _ := 1
  payload := bPay Tf
  amount_pos _ _ _ _ := Nat.one_pos

instance bRd_payload_storable (g : GSem nD τ sig) (r n : ℕ) : BI.Storable (upEmb : UEmb _ 𝕄) ((bRd Tf).payload g r n) := by
  show BI.Storable (upEmb : UEmb _ 𝕄) (bPay Tf g r n)
  unfold bPay
  split
  · split
    · split
      · unfold shTenth; infer_instance
      · exact (inferInstance : BI.Storable (upEmb : UEmb _ 𝕄) (iprop(emp) : sProp 𝕄))
    · exact (inferInstance : BI.Storable (upEmb : UEmb _ 𝕄) (iprop(emp) : sProp 𝕄))
  · exact (inferInstance : BI.Storable (upEmb : UEmb _ 𝕄) (iprop(emp) : sProp 𝕄))

theorem bRd_duties (d : Dev nD) (c : Fin 2) (j : Fin 16) (q : Fin 4) :
    (bRd Tf).duties (bcell d c j) q.val = (Finset.univ : Finset (Fin 16)).image Fin.val :=
  if_pos ⟨isBar_bcell d c j, q.isLt⟩
theorem bRd_duties_end (g : GSem nD τ sig) (r : ℕ) (hr : 4 ≤ r) : (bRd Tf).duties g r = ∅ :=
  if_neg fun h => absurd h.2 (Nat.not_lt.mpr hr)
theorem bRd_mem (d : Dev nD) (c : Fin 2) (j i : Fin 16) (q : Fin 4) : i.val ∈ (bRd Tf).duties (bcell d c j) q.val := by
  rw [bRd_duties]; exact Finset.mem_image_of_mem _ (Finset.mem_univ i)
theorem bRd_expect (d : Dev nD) (c : Fin 2) (j : Fin 16) (q : Fin 4) : 0 + grid1.bound 1 = (bRd Tf).expect (bcell d c j) q.val := by
  unfold Rounds.Schedule.expect; rw [bRd_duties]
  show 0 + 16 = ∑ x ∈ (Finset.univ : Finset (Fin 16)).image Fin.val, 1
  rw [Finset.sum_const, Finset.card_image_of_injective _ Fin.val_injective]; rfl

theorem bPay_bcell (d : Dev nD) (c : Fin 2) (j : Fin 16) (q : Fin 4) (n : ℕ) :
    (bRd Tf).payload (bcell d c j) q.val n = if hn : n < 10 then shTenth Tf q d c j ⟨n, hn⟩ else iprop(emp) := by
  show (if hr : q.val < 4 then if hn : n < 10 then shTenth Tf ⟨q.val, hr⟩ d c j ⟨n, hn⟩ else iprop(emp) else iprop(emp)) = _
  rw [dif_pos q.isLt]

theorem loc_sh (q : Fin 4) (d : Dev nD) (c : Fin 2) (s s' : Fin 16) (n : Fin 10) (p : PosShare TreeShare) (H : S10000x128.Idx → Elt F .f32) :
    ((shRow (refsOf q) n).view.loc (tl d (crd c s)) ↦[(shRow (refsOf q) n).view.set]{p} shBuf d (crd c s) H q : sProp 𝕄)
      = ((shRow (refsOf q) n).view.loc (tl d (crd c s')) ↦[(shRow (refsOf q) n).view.set]{p} shBuf d (crd c s') H q) := by
  match q with
  | 0 => rfl
  | 1 => rfl
  | 2 => rfl
  | 3 => rfl

/-- What a tile writes of the scratch is every tile's share of it. -/
theorem pay_out (d : Dev nD) (c : Fin 2) (s : Fin 16) (q : Fin 4) :
    shPost d (crd c s) (refsOf q) (shBuf d (crd c s) (halfOf (Tf d) c) q)
      ⊢ (bigSep Finset.univ fun j : Fin (grid1.bound 1) => (bRd Tf).payload (bcellOf d (crd c s) j) q.val s.val : sProp 𝕄) := by
  have e : (bigSep Finset.univ fun j : Fin (grid1.bound 1) => (bRd Tf).payload (bcellOf d (crd c s) j) q.val s.val : sProp 𝕄)
      = bigSep Finset.univ fun j : Fin 16 => if hn : s.val < 10 then shTenth Tf q d c j ⟨s.val, hn⟩ else iprop(emp) :=
    BI.bigSep_congr fun j _ => bPay_bcell Tf d c j q s.val
  rw [e]
  unfold shPost
  by_cases h : s.val < 10
  · simp only [h, dif_pos]
    have h' : ((crd c s) 1).val < 10 := h
    rw [dif_pos h']
    refine (Entails.of_eq (pointsTo_piecesOf _ _ (show 0 < 16 by decide) fullShare)).trans ?_
    refine BI.bigSep_mono fun j _ => ?_
    unfold shTenth
    exact Entails.of_eq (loc_sh q d c s j ⟨s.val, h⟩ (shr j) _)
  · have h' : ¬ ((crd c s) 1).val < 10 := h
    rw [dif_neg h']
    rw [BI.bigSep_congr (Ψ := fun _ : Fin 16 => (BI.emp : sProp 𝕄)) fun j _ => dif_neg h, BI.bigSep_emp_const]
    exact BI.Entails.refl _

/-- What a tile is handed at the barrier is its share of the whole scratch. -/
theorem pay_in (d : Dev nD) (c : Fin 2) (s : Fin 16) (q : Fin 4) :
    (bigSep ((bRd Tf).duties (tl d (crd c s), .reg sc_bar0) q.val \ ∅) ((bRd Tf).payload (tl d (crd c s), .reg sc_bar0) q.val) : sProp 𝕄)
      ⊢ shAt d (crd c s) (refsOf q) (shBuf d (crd c s) (halfOf (Tf d) c) q) (shr s) := by
  have e1 : (bRd Tf).duties (tl d (crd c s), .reg sc_bar0) q.val \ ∅ = (Finset.univ : Finset (Fin 16)).image Fin.val := by
    rw [Finset.sdiff_empty]; exact bRd_duties Tf d c s q
  rw [e1, SparseCore.bigSep_image_of_injOn (fun a _ b _ h => Fin.ext h)]
  rw [sh_parts d c q (halfOf (Tf d) c) (shr s) s, ← bigSep_ten]
  exact BI.bigSep_mono fun n _ => Entails.of_eq (bPay_bcell Tf d c s q n.val)

/-! ## What the tiles are given and give back -/

/-- What of the TensorCore's arrays, and of its barrier cell, tile `i` is handed at call `q`, -/
def tileIn (q : Fin 4) (d : Dev nD) (i : grid1.Coords) : sProp 𝕄 :=
  iprop(tabPost d i (refsOf q) (Tf d)
    ∗ bigSep (Finset.range (nW i)) (iw d i (refsOf q) q (fun _ => If d))
    ∗ bigSep (Finset.range (nW i)) (ow (F := F) d i (refsOf q))
    ∗ atPos EB (tl d i, .reg sc_bar0) q.val ∅ 0)
/-- and what it gives back. -/
def tileOut (q : Fin 4) (d : Dev nD) (i : grid1.Coords) : sProp 𝕄 :=
  iprop(tabPost d i (refsOf q) (Tf d)
    ∗ bigSep (Finset.range (nW i)) (iw d i (refsOf q) q (fun _ => If d))
    ∗ bigSep (Finset.range (nW i)) (owG d i (refsOf q) (fun w => outBuf d i (rowsAt (Tf d) (If d) q) q w))
    ∗ atPos EB (tl d i, .reg sc_bar0) (q.val + 1) ∅ 0
    ∗ reached EB (tl d i, .reg sc_bar0) (q.val + 1))
/-- The tenth of the scratch it is to write. -/
def shIn (q : Fin 4) (d : Dev nD) (i : grid1.Coords) : sProp 𝕄 :=
  if h : (i 1).val < 10 then iprop(∃ f, at_ (F := F) d i (shRow (refsOf q) ⟨(i 1).val, h⟩) f) else iprop(emp)

omit [FloatOps F] in
theorem at_storable (d : Dev nD) (i : grid1.Coords) {sp : Space} {s : Shape} {e : EltTy} (m : Memref sig .scVector sp s e)
    (f : Buf (Elt F) (m.view.loc (tl d i))) : BI.Storable (upEmb : UEmb _ 𝕄) (at_ d i m f : sProp 𝕄) := inferInstance
theorem tabPost_storable (d : Dev nD) (i : grid1.Coords) (R : Refs) (Tb : Buf (Elt F) (R.tab.view.loc (tl d i))) :
    BI.Storable (upEmb : UEmb _ 𝕄) (tabPost d i R Tb : sProp 𝕄) := by
  unfold tabPost; split
  · infer_instance
  · exact (inferInstance : BI.Storable (upEmb : UEmb _ 𝕄) (iprop(emp) : sProp 𝕄))

instance tileIn_storable (q : Fin 4) (d : Dev nD) (i : grid1.Coords) : BI.Storable (upEmb : UEmb _ 𝕄) (tileIn Tf If q d i) := by
  have h : BI.Storable (upEmb : UEmb _ 𝕄) (tabPost d i (refsOf q) (Tf d) : sProp 𝕄) := tabPost_storable d i (refsOf q) (Tf d)
  have h' : ∀ k, BI.Storable (upEmb : UEmb _ 𝕄) (iw d i (refsOf q) q (fun _ => If d) k : sProp 𝕄) := fun k => at_storable d i _ _
  unfold tileIn; infer_instance
instance tileOut_storable (q : Fin 4) (d : Dev nD) (i : grid1.Coords) : BI.Storable (upEmb : UEmb _ 𝕄) (tileOut Tf If q d i) := by
  have h : BI.Storable (upEmb : UEmb _ 𝕄) (tabPost d i (refsOf q) (Tf d) : sProp 𝕄) := tabPost_storable d i (refsOf q) (Tf d)
  have h' : ∀ k, BI.Storable (upEmb : UEmb _ 𝕄) (iw d i (refsOf q) q (fun _ => If d) k : sProp 𝕄) := fun k => at_storable d i _ _
  unfold tileOut; infer_instance
instance shIn_storable (q : Fin 4) (d : Dev nD) (i : grid1.Coords) : BI.Storable (upEmb : UEmb _ 𝕄) (shIn (F := F) q d i) := by
  unfold shIn; split
  · infer_instance
  · exact (inferInstance : BI.Storable (upEmb : UEmb _ 𝕄) (iprop(emp) : sProp 𝕄))

theorem nCore_eq (q : Fin 4) : (K (F := F)).nCore q = 2 := by match q with | 0 => rfl | 1 => rfl | 2 => rfl | 3 => rfl
theorem nSub_eq (q : Fin 4) : (K (F := F)).nSub q = 16 := by match q with | 0 => rfl | 1 => rfl | 2 => rfl | 3 => rfl
theorem kind_eq (q : Fin 4) : (K (F := F)).kind q = .scVector := by match q with | 0 => rfl | 1 => rfl | 2 => rfl | 3 => rfl

/-- A task's coordinates on the grid. -/
abbrev crdK (q : Fin 4) (c : Fin ((K (F := F)).nCore q)) (s : Fin ((K (F := F)).nSub q)) : grid1.Coords :=
  crd (Fin.cast (nCore_eq (F := F) q) c) (Fin.cast (nSub_eq (F := F) q) s)

/-- Tile `(c, s)`'s means of passing call `q`'s barrier: the cells' invariants, its tokens, and the credit for its own round. -/
def bkit (q : Fin 4) (d : Dev nD) (c : Fin 2) (s : Fin 16) : sProp 𝕄 :=
  iprop((∃ κ : GSem nD τ sig → ℕ, bigSep Finset.univ fun j : Fin 16 => cellInv EB (bRd Tf) (κ (bcell d c j)) (bcell d c j))
    ∗ (bigSep Finset.univ fun j : Fin 16 => dutyTok EB (bcell d c j) q.val s.val)
    ∗ cred (tallyAt (bcell d c s) (some q) 16))

theorem barO_apply_pos {d : Dev nD} {i : grid1.Coords} {g : GSem nD τ sig} {ι κ : HIx 4} (h : 0 < barO d i ι g κ) :
    κ = ι ∧ ∃ j : Fin (grid1.bound 1), g = bcellOf d i j := by
  unfold barO at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨e.2, j, e.1⟩
  · exact absurd rfl hj
theorem barO_none (d : Dev nD) (i : grid1.Coords) (q : Fin 4) (g : GSem nD τ sig) : barO d i (some q) g none = 0 := by
  by_contra h
  exact nomatch (barO_apply_pos (Nat.pos_of_ne_zero h)).1

set_option backward.proofsInPublic true in
/-- What the handshakes of the four calls carry, what each thread is given for a call at the launch, and what it owes from it. -/
def P : (K (F := F)).Pay (nD := nD) (Val := Elt F) (Name := ℕ) (U := UU) where
  st q d c := bigSep Finset.univ fun s : Fin 16 => iprop(tileIn Tf If q d (crd (Fin.cast (nCore_eq (F := F) q) c) s)
    ∗ reached EB (bcell d (Fin.cast (nCore_eq (F := F) q) c) s) q.val)
  dn q d c := bigSep Finset.univ fun s : Fin 16 => tileOut Tf If q d (crd (Fin.cast (nCore_eq (F := F) q) c) s)
  go q d c s := iprop(tileIn Tf If q d (crdK q c s) ∗ shIn q d (crdK q c s)
    ∗ bigSep Finset.univ fun j : Fin 16 => reached EB (bcell d (Fin.cast (nCore_eq (F := F) q) c) j) q.val)
  td q d c s := iprop(tileOut Tf If q d (crdK q c s)
    ∗ shAt d (crdK q c s) (refsOf q) (shBuf d (crdK q c s) (halfOf (Tf d) (Fin.cast (nCore_eq (F := F) q) c)) q) (shr (Fin.cast (nSub_eq (F := F) q) s)))
  x := fun q thr => match thr with
    | (d, .scVector c s) => bkit Tf q d c s
    | _ => iprop(emp)
  ox := fun q thr => match thr with
    | (d, .scVector c s) => barO d (crd c s) (some q)
    | _ => 0
  ox_band := by
    intro q thr g ι h
    rcases thr with ⟨d, _ | c | ⟨c, i⟩⟩
    · exact absurd h (lt_irrefl 0)
    · exact absurd h (lt_irrefl 0)
    · obtain ⟨rfl, j, rfl⟩ := barO_apply_pos h
      rw [(K (F := F)).lev_V_reg d _ _ (show (sc_bar0 : Sem sig) ≠ (K (F := F)).go from sc_bar0_ne_go)]
      exact ⟨le_rfl, Nat.add_le_add_left (by decide) _⟩
  ox_tc := fun _ _ => rfl
  ox_sc := fun _ _ _ h => absurd rfl h
  ox_vc := by
    intro q d c i h
    exact ⟨kind_eq q, (nCore_eq (F := F) q).symm ▸ c.isLt, (nSub_eq (F := F) q).symm ▸ i.isLt⟩

instance P_storable : (P Tf If).IsStorable where
  st q d c := (inferInstance : BI.Storable (upEmb : UEmb _ 𝕄) (bigSep Finset.univ fun s : Fin 16 => iprop(tileIn Tf If q d (crd (Fin.cast (nCore_eq (F := F) q) c) s)
    ∗ reached EB (bcell d (Fin.cast (nCore_eq (F := F) q) c) s) q.val)))
  dn q d c := (inferInstance : BI.Storable (upEmb : UEmb _ 𝕄) (bigSep Finset.univ fun s : Fin 16 => tileOut Tf If q d (crd (Fin.cast (nCore_eq (F := F) q) c) s)))
  go q d c s := (inferInstance : BI.Storable (upEmb : UEmb _ 𝕄) iprop(tileIn Tf If q d (crdK q c s) ∗ shIn q d (crdK q c s)
    ∗ bigSep Finset.univ fun j : Fin 16 => reached EB (bcell d (Fin.cast (nCore_eq (F := F) q) c) j) q.val))
  td q d c s := (inferInstance : BI.Storable (upEmb : UEmb _ 𝕄) iprop(tileOut Tf If q d (crdK q c s)
    ∗ shAt d (crdK q c s) (refsOf q) (shBuf d (crdK q c s) (halfOf (Tf d) (Fin.cast (nCore_eq (F := F) q) c)) q) (shr (Fin.cast (nSub_eq (F := F) q) s))))

end Cert.Proof

end
-- ==== Proof.Launch.lean ====
/-
  The launch of the proof's ghost state: the handshakes', the barrier cells' (a token per call for every pair of tiles of a
  SparseCore, the cells' invariants, the credit of every call), and the TensorCore region's; dealt to the tiles and to the
  TensorCore, which keeps the barrier cells' positions between the calls.
-/
module

public import proofs.«01_k».proof.Proof.Sched
public import proofs.«01_k».proof.Proof.Gen.KernelIdeal.Launch

@[expose] public section

set_option pp.maxSteps 400

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

theorem eq_of' {A B : sProp 𝕄} (h1 : A ⊢ B) (h2 : B ⊢ A) : A = B := equiv_iff.mp ⟨h1, h2⟩

variable (Tf : Dev nD → S20000x128.Idx → Elt F .f32) (If : Dev nD → S2x1x320000.Idx → Elt F .i32)

/-! ## The launch element -/

abbrev DCI : Type := Dev nD × Fin 2 × Fin 16
abbrev bcellOn (x : DCI) : GSem nD τ sig := bcell x.1 x.2.1 x.2.2

/-- The tiles' barrier cells, -/
def bCells : Finset (GSem nD τ sig) := (Finset.univ : Finset DCI).image bcellOn
/-- and for every two tiles of a SparseCore and every call the one's token in the other's cell. -/
def bToks : Finset (GSem nD τ sig × ℕ × ℕ) :=
  (Finset.univ : Finset (DCI × Fin 4 × Fin 16)).image fun x => (bcell x.1.1 x.1.2.1 x.2.2, x.2.1.val, x.1.2.2.val)

abbrev adm (q : Fin 1) : (pcfgs (F := F) q).Adm := (cfgs q).toPCfg_adm
/-- The region's staging cells are distinct. -/
theorem phinj : Function.Injective (Pipeline.cellOf (nD := nD) (τ := τ) (Pipeline.pin (pcfgs (F := F)) adm)) := cellOf_inj

def uPipe : UP := initOf (Pipeline.cells (nD := nD) (τ := τ) (Pipeline.pin (pcfgs (F := F)) adm) phinj)
  (Pipeline.launchToks (nD := nD) (τ := τ) (Pipeline.pin (pcfgs (F := F)) adm) phinj)

theorem pipe_fund : BI.own (EP (uPipe (F := F)))
    ⊢ (iprop(|==> ((bigSep Finset.univ fun c : Dev nD => bigSep Finset.univ fun p : Fin 1 => Pipeline.cellsGhost (Pipeline.pin (pcfgs (F := F)) adm) EP p c)
      ∗ (bigSep Finset.univ fun c : Dev nD => bigSep Finset.univ fun p : Fin 1 => Pipeline.toksInit (Pipeline.pin (pcfgs (F := F)) adm) EP p c))) : sProp 𝕄) := by
  unfold uPipe; exact Pipeline.fund_ghost (Pipeline.pin (pcfgs (F := F)) adm) EP phinj

def u₀ : UU := (initOf (K (F := F)).hsCells (K (F := F)).hsToks, (initOf bCells bToks, (uPipe (F := F), 1)))

theorem bcellOn_injective : Function.Injective bcellOn := fun a b e => by
  obtain ⟨h1, h2⟩ := Prod.mk.inj (Prod.mk.inj e).1
  obtain ⟨h3, h4⟩ := Proc.scVector.inj h2
  exact Prod.ext h1 (Prod.ext (Fin.ext (congrArg Fin.val h3)) (Fin.ext (congrArg Fin.val h4)))

theorem mem_bCells (d : Dev nD) (c : Fin 2) (s : Fin 16) : bcell d c s ∈ bCells := Finset.mem_image_of_mem bcellOn (Finset.mem_univ ((d, c, s) : DCI))

theorem bigSep_bCells (Φ : GSem nD τ sig → sProp 𝕄) :
    bigSep bCells Φ = bigSep Finset.univ fun d : Dev nD => bigSep Finset.univ fun c : Fin 2 => bigSep Finset.univ fun s : Fin 16 => Φ (bcell d c s) := by
  unfold bCells
  rw [SparseCore.bigSep_image_of_injOn (fun a _ b _ e => bcellOn_injective e), bigSep_univ_prod]
  exact bigSep_congr fun d _ => bigSep_univ_prod _

theorem bigSep_bToks (Φ : GSem nD τ sig × ℕ × ℕ → sProp 𝕄) :
    bigSep bToks Φ = bigSep Finset.univ fun d : Dev nD => bigSep Finset.univ fun c : Fin 2 => bigSep Finset.univ fun s : Fin 16 =>
      bigSep Finset.univ fun q : Fin 4 => bigSep Finset.univ fun j : Fin 16 => Φ (bcell d c j, q.val, s.val) := by
  unfold bToks
  rw [SparseCore.bigSep_image_of_injOn, bigSep_univ_prod, bigSep_univ_prod]
  · refine bigSep_congr fun d _ => ?_
    rw [bigSep_univ_prod]
    exact bigSep_congr fun c _ => bigSep_congr fun s _ => bigSep_univ_prod _
  · rintro ⟨⟨d, c, i⟩, q, j⟩ - ⟨⟨d', c', i'⟩, q', j'⟩ - e
    obtain ⟨e1, e2⟩ := Prod.mk.inj e
    obtain ⟨e3, e4⟩ := Prod.mk.inj e2
    have h := bcellOn_injective (a₁ := (d, c, j)) (a₂ := (d', c', j')) e1
    obtain ⟨h5, h6⟩ := Prod.mk.inj h
    obtain ⟨h7, h8⟩ := Prod.mk.inj h6
    subst h5 h7 h8
    obtain rfl : q = q' := Fin.ext e3
    obtain rfl : i = i' := Fin.ext e4
    rfl

theorem own_split (a : UH) (b : UB) (c : UP) :
    (ownU ((a, (b, (c, 1))) : UU) : sProp 𝕄) ⊢ iprop(BI.own (EH a) ∗ BI.own (EB b) ∗ BI.own (EP c)) := by
  have h1 : (ownU ((a, (b, (c, 1))) : UU) : sProp 𝕄) ⊢ iprop(BI.own (EH a) ∗ ownU ((1, (b, (c, 1))) : UU)) :=
    BI.own_op_elim ((uEmb (nD := nD) (sig := sig) (Ix := HIx 4) (Val := Elt F) (Name := ℕ) (U := UU) (Lvl := ℕ)).toEmb.op_of_mem
      (Prod.mk_mem_op (URA.mem_op_one a) (URA.mem_one_op (b, (c, (1 : Counters))))))
  have h2 : (ownU ((1, (b, (c, 1))) : UU) : sProp 𝕄) ⊢ iprop(BI.own (EB b) ∗ BI.own (EP c)) :=
    BI.own_op_elim ((uEmb (nD := nD) (sig := sig) (Ix := HIx 4) (Val := Elt F) (Name := ℕ) (U := UU) (Lvl := ℕ)).toEmb.op_of_mem
      (Prod.mk_mem_op (URA.mem_op_one (1 : UH)) (Prod.mk_mem_op (URA.mem_op_one b) (URA.mem_one_op (c, (1 : Counters))))))
  exact h1.trans (BI.sep_mono (BI.Entails.refl _) h2)

/-- The barrier semaphores at zero, out of the free semaphores. -/
theorem sems_b : ((K (F := F)).freeOn (· ∈ bCells) : sProp 𝕄) ⊢ bigSep bCells fun g => semVal g 0 := by
  unfold SparseCore.Cfg.freeOn bCells
  rw [SparseCore.bigSep_image_of_injOn (fun a _ b _ e => bcellOn_injective e)]
  refine sep_elim_right.trans (bigSep_mono fun dci _ => ?_)
  exact bigSep_elim (Φ := fun sm : SemLoc sig => (semVal (V dci.1 dci.2.1 dci.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      mem_bCells dci.1 dci.2.1 dci.2.2⟩)

/-- The barrier cells' invariants, allocated at once. -/
theorem invs_b : iprop((bigSep bCells fun g => (semVal g 0 : sProp 𝕄)) ∗ bigSep bCells fun g => roundState EB (bRd Tf) g 0)
    ⊢ |={Set.univ}=> iprop(∃ κ : GSem nD τ sig → ℕ, bigSep bCells fun g => cellInv EB (bRd Tf) (κ g) g) := by
  refine (Rounds.bodies_intro EB (bRd Tf) bCells).trans ((inv_alloc_family bCells (Rounds.body EB (bRd Tf)) ∅ (E := Set.univ)).trans ?_)
  iintro H
  imod H with ⟨%κ, -, Hinv⟩
  imodintro; iexists κ; iexact Hinv

/-! ## The credit of the calls -/

omit [FloatOps F] in
theorem sum_units (g : GSem nD τ sig) (ι : HIx 4) (n : ℕ) : ∑ _ : Fin n, tallyAt g ι 1 = (tallyAt g ι n : CellTallies nD τ sig (HIx 4)) := by
  induction n with
  | zero => rw [tallyAt_zero]; exact Finset.sum_eq_zero fun i _ => i.elim0
  | succ n ih => rw [Fin.sum_univ_castSucc, ih, tallyAt_add]

theorem oxFrom_V (d : Dev nD) (c : Fin 2) (s : Fin 16) :
    (P Tf If).oxFrom 0 (V d c s) = ∑ q : Fin 4, barO d (crd c s) (some q) := by
  have e : ∀ q : Fin 4, (P Tf If).oxFrom q.val (V d c s) = barO d (crd c s) (some q) + (P Tf If).oxFrom (q.val + 1) (V d c s) :=
    fun q => (P Tf If).oxFrom_step _ _
  have h0 : (P Tf If).oxFrom 0 (V d c s) = _ := e 0
  have h1 : (P Tf If).oxFrom 1 (V d c s) = _ := e 1
  have h2 : (P Tf If).oxFrom 2 (V d c s) = _ := e 2
  have h3 : (P Tf If).oxFrom 3 (V d c s) = _ := e 3
  have h4 : (P Tf If).oxFrom 4 (V d c s) = 0 := (P Tf If).oxFrom_end _ le_rfl
  rw [h0]; show _ + (P Tf If).oxFrom 1 _ = _; rw [h1]; show _ + (_ + (P Tf If).oxFrom 2 _) = _
  rw [h2]; show _ + (_ + (_ + (P Tf If).oxFrom 3 _)) = _; rw [h3]; show _ + (_ + (_ + (_ + (P Tf If).oxFrom 4 _))) = _
  rw [h4, Fin.sum_univ_four, add_zero]
  simp only [add_assoc]

/-- The credit for what the tiles owe at their barriers: each tile the sixteen units of its own cell, for every call. -/
theorem creds_b : ((P Tf If).oxCred : sProp 𝕄) ⊢ bigSep Finset.univ fun d : Dev nD => bigSep Finset.univ fun c : Fin 2 => bigSep Finset.univ fun s : Fin 16 =>
    bigSep Finset.univ fun q : Fin 4 => cred (tallyAt (bcell d c s) (some q) 16) := by
  unfold SparseCore.Cfg.Pay.oxCred
  rw [SparseCore.Cfg.bigSep_threads (fun thr : Thread nD τ => (cred ((P Tf If).oxFrom 0 thr) : sProp 𝕄))]
  refine sep_elim_right.trans (sep_elim_right.trans ?_)
  rw [bigSep_univ_prod]
  refine bigSep_mono fun d _ => ?_
  rw [bigSep_univ_prod]
  refine bigSep_mono fun c _ => ?_
  have e : ∀ s : Fin 16, (cred ((P Tf If).oxFrom 0 (V d c s)) : sProp 𝕄)
      = bigSep Finset.univ fun q : Fin 4 => bigSep Finset.univ fun j : Fin 16 => cred (tallyAt (bcell d c j) (some q) 1) := fun s => by
    rw [oxFrom_V, SparseCore.Cfg.cred_finsum]
    refine bigSep_congr fun q _ => ?_
    unfold barO
    rw [SparseCore.Cfg.cred_finsum]
    rfl
  refine (Entails.of_eq (bigSep_congr fun s _ => e s)).trans ?_
  rw [bigSep_univ_comm, bigSep_univ_comm (fun (s : Fin 16) (q : Fin 4) => (cred (tallyAt (bcell d c s) (some q) 16) : sProp 𝕄))]
  refine bigSep_mono fun q _ => ?_
  rw [bigSep_univ_comm]
  refine bigSep_mono fun j _ => ?_
  rw [← SparseCore.Cfg.cred_finsum, sum_units]
  exact BI.Entails.refl _

/-! ## What is dealt -/

/-- What the TensorCore is dealt: the barrier cells' positions and rounds, their invariants, and its region's ghost state. -/
def G (d : Dev nD) : sProp 𝕄 :=
  iprop((bigSep Finset.univ fun c : Fin 2 => bigSep Finset.univ fun s : Fin 16 => atPos EB (bcell d c s) 0 ∅ 0)
    ∗ (bigSep Finset.univ fun c : Fin 2 => bigSep Finset.univ fun s : Fin 16 => reached EB (bcell d c s) 0)
    ∗ (∃ κ : GSem nD τ sig → ℕ, bigSep Finset.univ fun c : Fin 2 => bigSep Finset.univ fun s : Fin 16 => cellInv EB (bRd Tf) (κ (bcell d c s)) (bcell d c s))
    ∗ Pipeline.cellsGhost (Pipeline.pin (pcfgs (F := F)) adm) EP 0 d
    ∗ Pipeline.toksInit (Pipeline.pin (pcfgs (F := F)) adm) EP 0 d)

/-- A persistent assertion beside a big conjunction goes to every part of it. -/
theorem share_out {I : Type} [DecidableEq I] {R : sProp 𝕄} [BI.Persistent R] (s : Finset I) {Φ Ψ : I → sProp 𝕄}
    (h : ∀ i, iprop(R ∗ Φ i) ⊢ Ψ i) : iprop(R ∗ bigSep s Φ) ⊢ bigSep s Ψ := by
  have e : iprop(R ∗ bigSep s Φ) ⊢ bigSep s fun i => iprop(R ∗ Φ i) := by
    rw [bigSep_sep']
    exact BI.sep_mono (BI.bigSep_intro_persistent fun _ _ => BI.Entails.refl _) (BI.Entails.refl _)
  exact e.trans (bigSep_mono fun i _ => h i)

theorem x_rest : (bigSep Finset.univ fun thr : Thread nD τ => bigSep Finset.univ fun q : Fin 4 => (P Tf If).x q thr : sProp 𝕄)
    = bigSep Finset.univ fun d : Dev nD => bigSep Finset.univ fun c : Fin 2 => bigSep Finset.univ fun s : Fin 16 => bigSep Finset.univ fun q : Fin 4 => bkit Tf q d c s := by
  rw [SparseCore.Cfg.bigSep_threads (fun thr : Thread nD τ => bigSep Finset.univ fun q : Fin 4 => (P Tf If).x q thr)]
  have eT : (bigSep Finset.univ fun d : Dev nD => bigSep Finset.univ fun q : Fin 4 => (P Tf If).x q (SparseCore.T d) : sProp 𝕄) = iprop(emp) := by
    refine (bigSep_congr (Ψ := fun _ => iprop(emp)) fun d _ => ?_).trans (bigSep_emp_const _)
    exact bigSep_emp_const _
  have eS : (bigSep Finset.univ fun dc : Dev nD × Fin τ.nSC => bigSep Finset.univ fun q : Fin 4 => (P Tf If).x q (S dc.1 dc.2) : sProp 𝕄) = iprop(emp) := by
    refine (bigSep_congr (Ψ := fun _ => iprop(emp)) fun d _ => ?_).trans (bigSep_emp_const _)
    exact bigSep_emp_const _
  rw [eT, eS, bigSep_univ_prod]
  refine eq_of' ?_ ?_
  · refine sep_elim_right.trans (sep_elim_right.trans (bigSep_mono fun d _ => ?_))
    rw [bigSep_univ_prod]; exact BI.Entails.refl _
  · iintro H
    isplitr; · iempintro
    isplitr; · iempintro
    iapply (SparseCore.ent (bigSep_mono (Φ := fun d : Dev nD => bigSep Finset.univ fun c : Fin 2 => bigSep Finset.univ fun s : Fin 16 => bigSep Finset.univ fun q : Fin 4 => bkit Tf q d c s) fun d _ => by
      rw [bigSep_univ_prod]; exact BI.Entails.refl _))
    iexact H

/-- The tiles' kits, from the cells' invariants, the tokens and the credit. -/
theorem kits_deal (d : Dev nD) (c : Fin 2) :
    iprop((∃ κ : GSem nD τ sig → ℕ, bigSep Finset.univ fun j : Fin 16 => cellInv EB (bRd Tf) (κ (bcell d c j)) (bcell d c j))
      ∗ bigSep Finset.univ fun s : Fin 16 => iprop((bigSep Finset.univ fun q : Fin 4 => bigSep Finset.univ fun j : Fin 16 => dutyTok EB (bcell d c j) q.val s.val)
        ∗ bigSep Finset.univ fun q : Fin 4 => cred (tallyAt (bcell d c s) (some q) 16)))
      ⊢ (bigSep Finset.univ fun s : Fin 16 => bigSep Finset.univ fun q : Fin 4 => bkit Tf q d c s : sProp 𝕄) := by
  refine share_out _ fun s => ?_
  rw [← bigSep_sep']
  exact share_out _ fun q => BI.Entails.refl _

/-- A SparseCore's cells' invariants under some names. -/
theorem some_kappa (κ : GSem nD τ sig → ℕ) (d : Dev nD) (c : Fin 2) :
    (bigSep Finset.univ fun j : Fin 16 => cellInv EB (bRd Tf) (κ (bcell d c j)) (bcell d c j) : sProp 𝕄)
      ⊢ iprop(∃ κ : GSem nD τ sig → ℕ, bigSep Finset.univ fun j : Fin 16 => cellInv EB (bRd Tf) (κ (bcell d c j)) (bcell d c j)) := by
  iintro H; iexists κ; iexact H

/-- To every tile of every SparseCore its kit. -/
theorem deal_tiles (κ : GSem nD τ sig → ℕ) :
    iprop((bigSep bCells fun g => cellInv EB (bRd Tf) (κ g) g)
      ∗ (bigSep Finset.univ fun d : Dev nD => bigSep Finset.univ fun c : Fin 2 => bigSep Finset.univ fun s : Fin 16 =>
          bigSep Finset.univ fun q : Fin 4 => bigSep Finset.univ fun j : Fin 16 => dutyTok EB (bcell d c j) q.val s.val)
      ∗ (bigSep Finset.univ fun d : Dev nD => bigSep Finset.univ fun c : Fin 2 => bigSep Finset.univ fun s : Fin 16 =>
          bigSep Finset.univ fun q : Fin 4 => cred (tallyAt (bcell d c s) (some q) 16)))
      ⊢ (bigSep Finset.univ fun d : Dev nD => bigSep Finset.univ fun c : Fin 2 => bigSep Finset.univ fun s : Fin 16 => bigSep Finset.univ fun q : Fin 4 => bkit Tf q d c s : sProp 𝕄) := by
  rw [← bigSep_sep']
  refine share_out _ fun d => ?_
  rw [← bigSep_sep']
  refine share_out _ fun c => ?_
  rw [← bigSep_sep']
  refine BI.Entails.trans (BI.sep_mono ?_ (BI.Entails.refl _)) (kits_deal Tf d c)
  refine BI.Entails.trans ?_ (some_kappa Tf κ d c)
  exact BI.bigSep_intro_persistent fun j _ => bigSep_elim (Φ := fun g => (cellInv EB (bRd Tf) (κ g) g : sProp 𝕄)) (mem_bCells d c j)

/-- To every TensorCore its part. -/
theorem deal_core (κ : GSem nD τ sig → ℕ) :
    iprop((bigSep bCells fun g => cellInv EB (bRd Tf) (κ g) g)
      ∗ (bigSep Finset.univ fun d : Dev nD => bigSep Finset.univ fun c : Fin 2 => bigSep Finset.univ fun s : Fin 16 => reached EB (bcell d c s) 0)
      ∗ (bigSep Finset.univ fun d : Dev nD => bigSep Finset.univ fun c : Fin 2 => bigSep Finset.univ fun s : Fin 16 => atPos EB (bcell d c s) 0 ∅ 0)
      ∗ (bigSep Finset.univ fun d : Dev nD => bigSep Finset.univ fun p : Fin 1 => Pipeline.cellsGhost (Pipeline.pin (pcfgs (F := F)) adm) EP p d)
      ∗ (bigSep Finset.univ fun d : Dev nD => bigSep Finset.univ fun p : Fin 1 => Pipeline.toksInit (Pipeline.pin (pcfgs (F := F)) adm) EP p d))
      ⊢ (bigSep Finset.univ fun d : Dev nD => G Tf d : sProp 𝕄) := by
  rw [← bigSep_sep', ← bigSep_sep', ← bigSep_sep']
  refine share_out _ fun d => ?_
  rw [bigSep_univ_of_subsingleton (0 : Fin 1), bigSep_univ_of_subsingleton (0 : Fin 1)]
  unfold G
  iintro ⟨#Hinv, #Hr, Hat, Hgh, Htk⟩
  isplitl [Hat]; · iexact Hat
  isplitr; · iexact Hr
  isplitr
  · iexists κ
    ihave Hinv' := (Entails.of_eq (bigSep_bCells (F := F) fun g => cellInv EB (bRd Tf) (κ g) g)) $$ Hinv
    iapply (SparseCore.ent (bigSep_elim (Φ := fun d : Dev nD => (bigSep Finset.univ fun c : Fin 2 => bigSep Finset.univ fun s : Fin 16 => cellInv EB (bRd Tf) (κ (bcell d c s)) (bcell d c s) : sProp 𝕄)) (Finset.mem_univ d)))
    iexact Hinv'
  isplitl [Hgh] <;> iassumption

theorem hu₀ : iprop(ownU (u₀ (F := F)) ∗ (P Tf If).oxCred ∗ (K (F := F)).freeOn (· ∈ bCells))
    ⊢ |={Set.univ}=> iprop(BI.own (EH (initOf (K (F := F)).hsCells (K (F := F)).hsToks)) ∗ (bigSep Finset.univ fun d : Dev nD => G Tf d)
        ∗ (bigSep Finset.univ fun thr : Thread nD τ => bigSep Finset.univ fun q : Fin 4 => (P Tf If).x q thr) : sProp 𝕄) := by
  unfold u₀
  iintro ⟨Hu, Hcred, Hfree⟩
  ihave H := (own_split _ _ _) $$ Hu
  icases H with ⟨HH, HB, HP⟩
  imod (Rounds.fund EB (bRd Tf) bCells bToks) $$ HB with ⟨Hst, #Hr, Hat, Htok⟩
  imod (pipe_fund (F := F)) $$ HP with ⟨Hgh, Htk⟩
  ihave Hsems := (sems_b (F := F)) $$ Hfree
  imod (invs_b Tf) $$ [Hsems Hst] with ⟨%κ, #Hinv⟩
  · isplitl [Hsems] <;> iassumption
  ihave Hcred' := (creds_b Tf If) $$ Hcred
  ihave Hinv' := (Entails.of_eq (bigSep_bCells (F := F) fun g => cellInv EB (bRd Tf) (κ g) g)) $$ Hinv
  ihave Hr' := (Entails.of_eq (bigSep_bCells (F := F) fun g => reached EB g 0)) $$ Hr
  ihave Hat' := (Entails.of_eq (bigSep_bCells (F := F) fun g => atPos EB g 0 ∅ 0)) $$ Hat
  ihave Htok' := (Entails.of_eq (bigSep_bToks (F := F) fun x => dutyTok EB x.1 x.2.1 x.2.2)) $$ Htok
  imodintro
  isplitl [HH]; · iexact HH
  isplitl [Hat' Hgh Htk]
  · iapply (SparseCore.ent (deal_core Tf κ))
    isplitr; · iexact Hinv
    isplitl [Hr']; · iexact Hr'
    isplitl [Hat']; · iexact Hat'
    isplitl [Hgh] <;> iassumption
  · iapply (SparseCore.ent (Entails.of_eq (x_rest Tf If).symm))
    iapply (SparseCore.ent (deal_tiles Tf κ))
    isplitr; · iexact Hinv
    isplitl [Htok'] <;> iassumption

end Cert.Proof

end
-- ==== Proof.Region.lean ====
/-
  The TensorCore call that projects the node features: at each of its two points the staged features are multiplied by a
  128-row block of the weights into one half of the table. It runs while the TensorCore owes the SparseCores their starts,
  so its record keeps that the waits recorded so far are at no call's stage.
-/
module

public import proofs.«01_k».proof.Proof.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionsLoop
public import Idealize.ShloMosaic.Lib.VecWindow

@[expose] public section

set_option pp.maxSteps 400

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig (HIx 4) (Elt F) ℕ UU ℕ

/-! ## The body -/

/-- A whole memref's buffer, held: its contents and what they read. -/
theorem owns_isWhole {c : Thread nD τ} {sp : Space} {sh : Shape} {e : EltTy} {M : Memref sig c.2.kind sp sh e} (h : M.IsWhole) (X : sh.Idx → Elt F e) :
    (owns c M fullShare X : sProp 𝕄) = iprop(∃ f : Buf (Elt F) (M.view.loc c), ⌜M.view.read (Elt F) f = X⌝ ∗ (M.view.loc c ↦{fullShare} f)) := by
  obtain ⟨b, hsp, hsh, he, h⟩ := h
  subst hsp hsh he
  cases h
  rw [owns_whole_eq]
  simp only [Memref.view_whole, View.read_whole]

/-- The body on the staged features and weights: the result's staging buffer ends at their product. -/
theorem project_body (c : Dev nD) (i : grid0.Coords) (A : Memref sig .tc .vmem S10000x128 .f32) (hA : A.IsWhole)
    (B : Memref sig .tc .vmem S128x128 .f32) (hB : B.IsWhole) (R : Memref sig .tc .vmem S10000x128 .f32) (hR : R.IsWhole)
    (fA : Buf (Elt F) (A.view.loc (c : Thread nD τ))) (fB : Buf (Elt F) (B.view.loc (c : Thread nD τ))) (fR : Buf (Elt F) (R.view.loc (c : Thread nD τ)))
    (E : Set ℕ) (Q : PUnit → sProp 𝕄) :
    iprop((A.view.loc (c : Thread nD τ) ↦{fullShare} fA) ∗ (B.view.loc (c : Thread nD τ) ↦{fullShare} fB) ∗ (R.view.loc (c : Thread nD τ) ↦{fullShare} fR)
      ∗ (iprop((A.view.loc (c : Thread nD τ) ↦{fullShare} fA) ∗ (B.view.loc (c : Thread nD τ) ↦{fullShare} fB)
          ∗ ∃ g, ⌜R.view.read (Elt F) g = k0_pay1 (A.view.read (Elt F) fA) (B.view.read (Elt F) fB)⌝ ∗ (R.view.loc (c : Thread nD τ) ↦{fullShare} g)) -∗ Q ⟨⟩))
      ⊢ wp frame (wpE (defs₀ (F := F)) 𝒱₀ (c : Thread nD τ) none) E (cc0__project_body i A hA B hB R hR) Q := by
  rw [cc0__project_body_eq_skeleton]
  iintro ⟨HA, HB, HR, Hk⟩
  sl_exec!
  sl_step
  iapply Hk
  isplitl [HA]; · iexact HA
  isplitl [HB]; · iexact HB
  iexists _; isplitr; swap; (· iexact HR); ipureintro
  refine (View.read_writes_full R.view _ inb_S10000x128_S10000x128_0_0 _ _).trans ?_
  exact congrArg₂ k0_pay1 (View.readAt_full A.view fA _) (View.readAt_full B.view fB _)

/-! ## The proof data, from the contents `V` the call is entered with -/

variable (V : (c : Dev nD) → (b : Ref sig .tc) → Buf (Elt F) ((c : Thread nD τ).loc b))

/-- The features' block and the weights' block at a point, as the fetches stage them. -/
abbrev blkA (c : Dev nD) (t : Fin cfg0.N) : (cfg0.win 0).block.Idx → Elt F (cfg0.win 0).elt := ((cfg0.win 0).blk t).view.read (Elt F) (V c main_arg0)
abbrev blkB (c : Dev nD) (t : Fin cfg0.N) : (cfg0.win 1).block.Idx → Elt F (cfg0.win 1).elt := ((cfg0.win 1).blk t).view.read (Elt F) (V c main_arg2)

/-- The body leaves the inputs' buffers as fetched and the result's at the product; the TensorCore owes the SparseCores
    their starts throughout and has waited at no call's stage. -/
def dat (c : Dev nD) : Dat τ (Elt F) (HIx 4) ℕ UU ℕ cfg0 c where
  A w := V c (Pipeline.arrRef spec0 w)
  after w t := match w with
    | ⟨0, _⟩ => blkA V c t
    | ⟨1, _⟩ => blkB V c t
    | ⟨2, _⟩ => k0_pay1 (blkA V c t) (blkB V c t)
  Φ _ := iprop(emp)
  q _ := fullShare
  owed _ := (K (F := F)).Otc c 0
  recorded _ := {p | p.2 = none}

def pdats : (p : Fin 1) → (c : Dev nD) → Dat τ (Elt F) (HIx 4) ℕ UU ℕ (Pipeline.pin (pcfgs (F := F)) adm p) c := fun _ c => dat V c

theorem before_A (c : Dev nD) (t : Fin cfg0.N) (d : (cfg0.win 0).block.Idx → Elt F (cfg0.win 0).elt) : (dat V c).before 0 t d = blkA V c t :=
  (dat V c).before_in_eq_fetched 0 rfl (fun _ => rfl) (fun _ _ _ => rfl) (fun _ => rfl) t d
theorem before_B (c : Dev nD) (t : Fin cfg0.N) (d : (cfg0.win 1).block.Idx → Elt F (cfg0.win 1).elt) : (dat V c).before 1 t d = blkB V c t :=
  (dat V c).before_in_eq_fetched 1 rfl (fun _ => rfl) (fun _ _ _ => rfl) (fun _ => rfl) t d

theorem body_obligation (c : Dev nD) : BodyObligation (dat V c) (defs₀ (F := F)) 𝒱₀ (none : HIx 4) Set.univ := fun t => by
  rw [bigSep_W0, bigSep_W0]
  have e0 := fun X => owns_isWhole (F := F) (c := (c : Thread nD τ)) (M := st0_0 t) (stage_whole0 0 (cfg0.slots t 0)) X
  have e1 := fun X => owns_isWhole (F := F) (c := (c : Thread nD τ)) (M := st0_1 t) (stage_whole0 1 (cfg0.slots t 1)) X
  have e2 := fun X => owns_isWhole (F := F) (c := (c : Thread nD τ)) (M := st0_2 t) (stage_whole0 2 (cfg0.slots t 2)) X
  dsimp only
  rw [show (dat V c).Φ t.castSucc = iprop(emp) from rfl, show (dat V c).Φ t.succ = iprop(emp) from rfl,
    show (dat V c).owesAt (none : HIx 4) t.succ = (dat V c).owesAt (none : HIx 4) t.castSucc from rfl]
  iintro ⟨-, Howes, ⟨%d0, H0⟩, ⟨%d1, H1⟩, ⟨%d2, H2⟩⟩
  ihave H0' := (Entails.of_eq (e0 _)) $$ H0
  ihave H1' := (Entails.of_eq (e1 _)) $$ H1
  ihave H2' := (Entails.of_eq (e2 _)) $$ H2
  icases H0' with ⟨%f0, %h0, H0⟩
  icases H1' with ⟨%f1, %h1, H1⟩
  icases H2' with ⟨%f2, -, H2⟩
  rw [before_A] at h0
  rw [before_B] at h1
  iapply (project_body c (grid0.coords t) (st0_0 t) (stage_whole0 0 (cfg0.slots t 0)) (st0_1 t) (stage_whole0 1 (cfg0.slots t 1)) (st0_2 t) (stage_whole0 2 (cfg0.slots t 2)) f0 f1 f2 Set.univ _)
  isplitl [H0]; · iexact H0
  isplitl [H1]; · iexact H1
  isplitl [H2]; · iexact H2
  iintro ⟨H0, H1, %g, %hg, H2⟩
  isplitr; · iempintro
  isplitl [Howes]; · iexact Howes
  isplitl [H0]; · iapply (SparseCore.ent (Entails.of_eq (e0 _).symm)); iexists f0; isplitr; swap; (· iexact H0); ipureintro; exact h0
  isplitl [H1]; · iapply (SparseCore.ent (Entails.of_eq (e1 _).symm)); iexists f1; isplitr; swap; (· iexact H1); ipureintro; exact h1
  iapply (SparseCore.ent (Entails.of_eq (e2 _).symm)); iexists g; isplitr; swap; (· iexact H2); ipureintro
  rw [hg, h0, h1]; rfl

/-! ## The call's record -/

/-- The table after the call: the two write-backs. -/
def tabOf (c : Dev nD) : Buf (Elt F) ((c : Thread nD τ).loc main_v0) := (dat V c).arrAt 2 cfg0.N

/-- The contents after the call: the table's set, the rest as before. -/
def Vp (c : Dev nD) (b : Ref sig .tc) : Buf (Elt F) ((c : Thread nD τ).loc b) :=
  if h : b = main_v0 then h ▸ tabOf V c else V c b

theorem Vp_tab (c : Dev nD) : Vp V c main_v0 = tabOf V c := by unfold Vp; rw [dif_pos rfl]
theorem Vp_ne (c : Dev nD) (b : Ref sig .tc) (h : b ≠ main_v0) : Vp V c b = V c b := by unfold Vp; rw [dif_neg h]

set_option backward.isDefEq.respectTransparency.types false in
def reg : Pipeline.RegionSeg (pcfgs (F := F)) adm (pdats V) (none : HIx 4) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_of_cut (Pipeline.pin (pcfgs (F := F)) adm) (pdats V) none 0 c 0 ((K (F := F)).Otc c 0) (fun _ => rfl)
    (fun _ _ => Finset.mem_univ _) (fun _ _ => le_rfl) fun g i h => ⟨Finset.mem_univ _, lt_of_lt_of_le (Nat.succ_pos _) ((K (F := F)).lev_of_Otc_pos h)⟩
  pre c := iprop(unscopedBufs c (V c) ∗ ∃ W : Waits sig (HIx 4), ⌜∀ p ∈ W, p.2 = none⌝ ∗ owes (c : Thread nD τ) ((K (F := F)).Otc c 0) W)
  post c := iprop(unscopedBufs c (Vp V c) ∗ ∃ W : Waits sig (HIx 4), ⌜∀ p ∈ W, p.2 = none⌝ ∗ owes (c : Thread nD τ) ((K (F := F)).Otc c 0) W)
  X _ := iprop(emp)
  Y _ := iprop(emp)
  Z c := Pipeline.unscopedRest (Ix := HIx 4) (Name := ℕ) (U := UU) (Lvl := ℕ) spec0 c (V c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = iprop(emp) from rfl, scopedRest0_eq]
    iintro ⟨-, -, -⟩; iempintro
  hout c := by
    rw [Pipeline.ownSems0_none, show (pdats V 0 c).Φ (Fin.last _) = iprop(emp) from rfl, scopedRest0_eq]
    iintro -
    isplitr; · iempintro
    isplitr; · iempintro
    iempintro
  hexit c := by
    have hjoin := Pipeline.unscopedBufs_of_arrays (p := 0) (pcfgs (F := F)) adm (Ix := HIx 4) (Name := ℕ) (U := UU) (Lvl := ℕ) (launch0).win (launch0).arr_whole c
      (pdats V) ((pdats V 0 c).share_full fun _ => rfl) (V c) (Vp V c) ((pdats V 0 c).arrAt · cfg0.N)
      (fun w => by
        fin_cases w
        · exact ((pdats V 0 c).arrAt_in 0 rfl _).trans (Vp_ne V c main_arg0 (by decide)).symm
        · exact ((pdats V 0 c).arrAt_in 1 rfl _).trans (Vp_ne V c main_arg2 (by decide)).symm
        · exact (Vp_tab V c).symm)
      (fun b hb => Vp_ne V c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]
    iexact HO

end Cert.Proof

end
-- ==== Proof.GatherEq.lean ====
/-
  Each of the four printed gather kernels is the common text, at what that call computes and at what it is handed.
-/
module

public import proofs.«01_k».proof.Proof.Gather

@[expose] public section

set_option maxRecDepth 65536
set_option maxHeartbeats 1000000
set_option pp.maxSteps 300

noncomputable section

namespace Cert.Proof

open Cert.KernelIdeal Cert.KernelIdeal.Gen
open Idealize.ShloMosaic Idealize.SL.Sem

variable {F : FTy → Type} [FloatOps F]

/-- How many windows the tile has, -/
def nv (i : grid1.Coords) : BitVec 32 := Scalar.select (Scalar.cmpi .slt (Scalar.addi 0#32 (Scalar.muli (BitVec.ofNat 32 (i 1).val) 1#32)) 1#32) 40#32 39#32
/-- where they start, -/
def bv (i : grid1.Coords) : BitVec 32 := Scalar.select (Scalar.cmpi .slt (Scalar.addi 0#32 (Scalar.muli (BitVec.ofNat 32 (i 1).val) 1#32)) 1#32)
  (Scalar.muli (Scalar.addi 0#32 (Scalar.muli (BitVec.ofNat 32 (i 1).val) 1#32)) (nv i)) (Scalar.addi (Scalar.muli (Scalar.addi 0#32 (Scalar.muli (BitVec.ofNat 32 (i 1).val) 1#32)) 39#32) 1#32)
/-- and how many trips that makes, as the kernel computes them. -/
def tv (i : grid1.Coords) : BitVec 32 := Scalar.muli 1#32 (nv i)

set_option cleanup.letToHave false in
theorem k1_part1_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 : BitVec 32) (h : k1_cond2 i = 1#1) (c0 c1 : BitVec 32)
    (t : Fin (k1_t1_loop i).trips) (a7 a8 a9 a10 a11 : BitVec 32) :
    k1_part1 (F := F) i R.tab h2 R.idx h3 R.out h4 R.sh h5 R.sTab R.ibuf hi R.sIn R.obuf ho R.sOut R.sG s v7 v12 h c0 c1 t a7 a8 a9 a10 a11 = gpart1 starts1 R i v7 v12 h c0 c1 t a7 a8 a9 a10 a11 := by
  unfold gpart1
  dsimp only [starts1]
  rfl

set_option cleanup.letToHave false in
theorem k1_part2_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (h : k1_cond2 i = 1#1)
    (t : Fin (k1_t1_loop i).trips) (a7 a8 a9 a10 a11 : BitVec 32) (w3 : k1_chk3 i a8) (w2 : k1_chk2 i a9) (w1 : k1_chk1 i t a7 a8 a9 a10 a11)
    (a6 v82 : BitVec 32) (v83 : BitVec 1) (v86 v92 v97 v103 : BitVec 32) (v114 : BitVec 1) (c : BitVec 32) :
    k1_part2 (F := F) i R.tab h2 R.idx h3 R.out h4 R.sh h5 R.sTab R.ibuf hi R.sIn R.obuf ho R.sOut R.sG s h t a7 a8 a9 a10 a11 w3 w2 w1 a6 v82 v83 v86 v92 v97 v103 v114 c
      = gpart2 starts1 R i h t a7 a8 a9 a10 a11 w3 w2 w1 a6 v82 v83 v86 v92 v97 v103 v114 c := by
  unfold gpart2
  dsimp only [starts1]
  rfl

set_option cleanup.letToHave false in
theorem k1_part3_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 : BitVec 32) (h : k1_cond2 i = 1#1)
    (t : Fin (k1_t1_loop i).trips) (a7 a8 a9 a10 a11 : BitVec 32) (w3 : k1_chk3 i a8) (w2 : k1_chk2 i a9) (w1 : k1_chk1 i t a7 a8 a9 a10 a11)
    (v83 v85 : BitVec 1) (v86 v92 v97 v103 v104 v123 : BitVec 32) :
    k1_part3 (F := F) i R.tab h2 R.idx h3 R.out h4 R.sh h5 R.sTab R.ibuf hi R.sIn R.obuf ho R.sOut R.sG s v7 h t a7 a8 a9 a10 a11 w3 w2 w1 v83 v85 v86 v92 v97 v103 v104 v123
      = gpart3 starts1 R i v7 h t a7 a8 a9 a10 a11 w3 w2 w1 v83 v85 v86 v92 v97 v103 v104 v123 := by
  unfold gpart3
  dsimp only [starts1]
  rfl

set_option cleanup.letToHave false in
theorem k1_body_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k1_cond2 i = 1#1) (v43 c0 c1 c2 c3 c4 v47 : BitVec 32) :
    k1_t1_body (F := F) i R.tab h2 R.idx h3 R.out h4 R.sh h5 R.sTab R.ibuf hi R.sIn R.obuf ho R.sOut R.sG s v7 v12 v13 h v43 c0 c1 c2 c3 c4 v47 = gbody starts1 R i v7 v12 h c0 := by
  unfold k1_t1_body gbody
  simp only [k1_part1_eq, k1_part2_eq, k1_part3_eq]
  rfl

set_option cleanup.letToHave false in
theorem k1_part7_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k1_cond2 i = 1#1) :
    k1_part7 (F := F) i R.tab h2 R.idx h3 R.out h4 R.sh h5 R.sTab R.ibuf hi R.sIn R.obuf ho R.sOut R.sG s v7 v12 v13 h = gpart7 starts1 R i v7 v12 v13 h := by
  unfold gpart7
  dsimp only [starts1]
  rfl

set_option cleanup.letToHave false in
theorem k1_part8_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k1_cond2 i = 1#1) (v43 c0 c1 c2 c3 c4 v47 : BitVec 32) :
    k1_part8 (F := F) i R.tab h2 R.idx h3 R.out h4 R.sh h5 R.sTab R.ibuf hi R.sIn R.obuf ho R.sOut R.sG s v7 v12 v13 h v43 c0 c1 c2 c3 c4 v47
      = gpart8 starts1 R i (fun h' v43 a b c d e v47 v48 => k1_t2_body i R.tab h2 R.idx h3 R.out h4 R.sh h5 R.sTab R.ibuf hi R.sIn R.obuf ho R.sOut R.sG s v7 v12 v13 h' v43 a b c d e v47 v48) v7 v12 v13 h v43 c0 c1 c2 c3 c4 v47 := by
  unfold gpart8
  simp only [k1_part8_eq_skeleton, k1_part8_skel, k1_body_eq]
  dsimp only [starts1]
  rfl

set_option cleanup.letToHave false in
/-- Gather call 0's kernel is the common text. -/
theorem cc1_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) : ∃ body2 : Body2 F starts1 i,
    cc1_gather_kernel (F := F) i R.tab h2 R.idx h3 R.out h4 R.sh h5 R.sTab R.ibuf hi R.sIn R.obuf ho R.sOut R.sG s = gkernel starts1 R i body2 := by
  refine ⟨fun h' v43 a b c d e v47 v48 => k1_t2_body i R.tab h2 R.idx h3 R.out h4 R.sh h5 R.sTab R.ibuf hi R.sIn R.obuf ho R.sOut R.sG s (nv i) (bv i) (tv i) h' v43 a b c d e v47 v48, ?_⟩
  unfold gkernel
  simp only [cc1_gather_kernel_eq_skeleton, cc1_gather_kernel_skel, k1_part7_eq, k1_part8_eq]
  dsimp only [starts1]
  rfl

set_option cleanup.letToHave false in
theorem k2_part1_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 : BitVec 32) (h : k2_cond2 i = 1#1) (c0 c1 : BitVec 32)
    (t : Fin (k2_t1_loop i).trips) (a7 a8 a9 a10 a11 : BitVec 32) :
    k2_part1 (F := F) i R.tab h2 R.idx h3 R.out h4 R.sh h5 R.sTab R.ibuf hi R.sIn R.obuf ho R.sOut R.sG s v7 v12 h c0 c1 t a7 a8 a9 a10 a11 = gpart1 starts2 R i v7 v12 h c0 c1 t a7 a8 a9 a10 a11 := by
  unfold gpart1
  dsimp only [starts2]
  rfl

set_option cleanup.letToHave false in
theorem k2_part2_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (h : k2_cond2 i = 1#1)
    (t : Fin (k2_t1_loop i).trips) (a7 a8 a9 a10 a11 : BitVec 32) (w3 : k2_chk3 i a8) (w2 : k2_chk2 i a9) (w1 : k2_chk1 i t a7 a8 a9 a10 a11)
    (a6 v82 : BitVec 32) (v83 : BitVec 1) (v86 v92 v97 v103 : BitVec 32) (v114 : BitVec 1) (c : BitVec 32) :
    k2_part2 (F := F) i R.tab h2 R.idx h3 R.out h4 R.sh h5 R.sTab R.ibuf hi R.sIn R.obuf ho R.sOut R.sG s h t a7 a8 a9 a10 a11 w3 w2 w1 a6 v82 v83 v86 v92 v97 v103 v114 c
      = gpart2 starts2 R i h t a7 a8 a9 a10 a11 w3 w2 w1 a6 v82 v83 v86 v92 v97 v103 v114 c := by
  unfold gpart2
  dsimp only [starts2]
  rfl

set_option cleanup.letToHave false in
theorem k2_part3_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 : BitVec 32) (h : k2_cond2 i = 1#1)
    (t : Fin (k2_t1_loop i).trips) (a7 a8 a9 a10 a11 : BitVec 32) (w3 : k2_chk3 i a8) (w2 : k2_chk2 i a9) (w1 : k2_chk1 i t a7 a8 a9 a10 a11)
    (v83 v85 : BitVec 1) (v86 v92 v97 v103 v104 v123 : BitVec 32) :
    k2_part3 (F := F) i R.tab h2 R.idx h3 R.out h4 R.sh h5 R.sTab R.ibuf hi R.sIn R.obuf ho R.sOut R.sG s v7 h t a7 a8 a9 a10 a11 w3 w2 w1 v83 v85 v86 v92 v97 v103 v104 v123
      = gpart3 starts2 R i v7 h t a7 a8 a9 a10 a11 w3 w2 w1 v83 v85 v86 v92 v97 v103 v104 v123 := by
  unfold gpart3
  dsimp only [starts2]
  rfl

set_option cleanup.letToHave false in
theorem k2_body_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k2_cond2 i = 1#1) (v43 c0 c1 c2 c3 c4 v47 : BitVec 32) :
    k2_t1_body (F := F) i R.tab h2 R.idx h3 R.out h4 R.sh h5 R.sTab R.ibuf hi R.sIn R.obuf ho R.sOut R.sG s v7 v12 v13 h v43 c0 c1 c2 c3 c4 v47 = gbody starts2 R i v7 v12 h c0 := by
  unfold k2_t1_body gbody
  simp only [k2_part1_eq, k2_part2_eq, k2_part3_eq]
  rfl

set_option cleanup.letToHave false in
theorem k2_part7_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k2_cond2 i = 1#1) :
    k2_part7 (F := F) i R.tab h2 R.idx h3 R.out h4 R.sh h5 R.sTab R.ibuf hi R.sIn R.obuf ho R.sOut R.sG s v7 v12 v13 h = gpart7 starts2 R i v7 v12 v13 h := by
  unfold gpart7
  dsimp only [starts2]
  rfl

set_option cleanup.letToHave false in
theorem k2_part8_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k2_cond2 i = 1#1) (v43 c0 c1 c2 c3 c4 v47 : BitVec 32) :
    k2_part8 (F := F) i R.tab h2 R.idx h3 R.out h4 R.sh h5 R.sTab R.ibuf hi R.sIn R.obuf ho R.sOut R.sG s v7 v12 v13 h v43 c0 c1 c2 c3 c4 v47
      = gpart8 starts2 R i (fun h' v43 a b c d e v47 v48 => k2_t2_body i R.tab h2 R.idx h3 R.out h4 R.sh h5 R.sTab R.ibuf hi R.sIn R.obuf ho R.sOut R.sG s v7 v12 v13 h' v43 a b c d e v47 v48) v7 v12 v13 h v43 c0 c1 c2 c3 c4 v47 := by
  unfold gpart8
  simp only [k2_part8_eq_skeleton, k2_part8_skel, k2_body_eq]
  dsimp only [starts2]
  rfl

set_option cleanup.letToHave false in
/-- Gather call 1's kernel is the common text. -/
theorem cc2_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) : ∃ body2 : Body2 F starts2 i,
    cc2_gather_kernel (F := F) i R.tab h2 R.idx h3 R.out h4 R.sh h5 R.sTab R.ibuf hi R.sIn R.obuf ho R.sOut R.sG s = gkernel starts2 R i body2 := by
  refine ⟨fun h' v43 a b c d e v47 v48 => k2_t2_body i R.tab h2 R.idx h3 R.out h4 R.sh h5 R.sTab R.ibuf hi R.sIn R.obuf ho R.sOut R.sG s (nv i) (bv i) (tv i) h' v43 a b c d e v47 v48, ?_⟩
  unfold gkernel
  simp only [cc2_gather_kernel_eq_skeleton, cc2_gather_kernel_skel, k2_part7_eq, k2_part8_eq]
  dsimp only [starts2]
  rfl

set_option cleanup.letToHave false in
theorem k3_part1_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 : BitVec 32) (h : k3_cond2 i = 1#1) (c0 c1 : BitVec 32)
    (t : Fin (k3_t1_loop i).trips) (a7 a8 a9 a10 a11 : BitVec 32) :
    k3_part1 (F := F) i R.tab h2 R.idx h3 R.out h4 R.sh h5 R.sTab R.ibuf hi R.sIn R.obuf ho R.sOut R.sG s v7 v12 h c0 c1 t a7 a8 a9 a10 a11 = gpart1 starts3 R i v7 v12 h c0 c1 t a7 a8 a9 a10 a11 := by
  unfold gpart1
  dsimp only [starts3]
  rfl

set_option cleanup.letToHave false in
theorem k3_part2_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (h : k3_cond2 i = 1#1)
    (t : Fin (k3_t1_loop i).trips) (a7 a8 a9 a10 a11 : BitVec 32) (w3 : k3_chk3 i a8) (w2 : k3_chk2 i a9) (w1 : k3_chk1 i t a7 a8 a9 a10 a11)
    (a6 v82 : BitVec 32) (v83 : BitVec 1) (v86 v92 v97 v103 : BitVec 32) (v114 : BitVec 1) (c : BitVec 32) :
    k3_part2 (F := F) i R.tab h2 R.idx h3 R.out h4 R.sh h5 R.sTab R.ibuf hi R.sIn R.obuf ho R.sOut R.sG s h t a7 a8 a9 a10 a11 w3 w2 w1 a6 v82 v83 v86 v92 v97 v103 v114 c
      = gpart2 starts3 R i h t a7 a8 a9 a10 a11 w3 w2 w1 a6 v82 v83 v86 v92 v97 v103 v114 c := by
  unfold gpart2
  dsimp only [starts3]
  rfl

set_option cleanup.letToHave false in
theorem k3_part3_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 : BitVec 32) (h : k3_cond2 i = 1#1)
    (t : Fin (k3_t1_loop i).trips) (a7 a8 a9 a10 a11 : BitVec 32) (w3 : k3_chk3 i a8) (w2 : k3_chk2 i a9) (w1 : k3_chk1 i t a7 a8 a9 a10 a11)
    (v83 v85 : BitVec 1) (v86 v92 v97 v103 v104 v123 : BitVec 32) :
    k3_part3 (F := F) i R.tab h2 R.idx h3 R.out h4 R.sh h5 R.sTab R.ibuf hi R.sIn R.obuf ho R.sOut R.sG s v7 h t a7 a8 a9 a10 a11 w3 w2 w1 v83 v85 v86 v92 v97 v103 v104 v123
      = gpart3 starts3 R i v7 h t a7 a8 a9 a10 a11 w3 w2 w1 v83 v85 v86 v92 v97 v103 v104 v123 := by
  unfold gpart3
  dsimp only [starts3]
  rfl

set_option cleanup.letToHave false in
theorem k3_body_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k3_cond2 i = 1#1) (v43 c0 c1 c2 c3 c4 v47 : BitVec 32) :
    k3_t1_body (F := F) i R.tab h2 R.idx h3 R.out h4 R.sh h5 R.sTab R.ibuf hi R.sIn R.obuf ho R.sOut R.sG s v7 v12 v13 h v43 c0 c1 c2 c3 c4 v47 = gbody starts3 R i v7 v12 h c0 := by
  unfold k3_t1_body gbody
  simp only [k3_part1_eq, k3_part2_eq, k3_part3_eq]
  rfl

set_option cleanup.letToHave false in
theorem k3_part7_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k3_cond2 i = 1#1) :
    k3_part7 (F := F) i R.tab h2 R.idx h3 R.out h4 R.sh h5 R.sTab R.ibuf hi R.sIn R.obuf ho R.sOut R.sG s v7 v12 v13 h = gpart7 starts3 R i v7 v12 v13 h := by
  unfold gpart7
  dsimp only [starts3]
  rfl

set_option cleanup.letToHave false in
theorem k3_part8_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k3_cond2 i = 1#1) (v43 c0 c1 c2 c3 c4 v47 : BitVec 32) :
    k3_part8 (F := F) i R.tab h2 R.idx h3 R.out h4 R.sh h5 R.sTab R.ibuf hi R.sIn R.obuf ho R.sOut R.sG s v7 v12 v13 h v43 c0 c1 c2 c3 c4 v47
      = gpart8 starts3 R i (fun h' v43 a b c d e v47 v48 => k3_t2_body i R.tab h2 R.idx h3 R.out h4 R.sh h5 R.sTab R.ibuf hi R.sIn R.obuf ho R.sOut R.sG s v7 v12 v13 h' v43 a b c d e v47 v48) v7 v12 v13 h v43 c0 c1 c2 c3 c4 v47 := by
  unfold gpart8
  simp only [k3_part8_eq_skeleton, k3_part8_skel, k3_body_eq]
  dsimp only [starts3]
  rfl

set_option cleanup.letToHave false in
/-- Gather call 2's kernel is the common text. -/
theorem cc3_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) : ∃ body2 : Body2 F starts3 i,
    cc3_gather_kernel (F := F) i R.tab h2 R.idx h3 R.out h4 R.sh h5 R.sTab R.ibuf hi R.sIn R.obuf ho R.sOut R.sG s = gkernel starts3 R i body2 := by
  refine ⟨fun h' v43 a b c d e v47 v48 => k3_t2_body i R.tab h2 R.idx h3 R.out h4 R.sh h5 R.sTab R.ibuf hi R.sIn R.obuf ho R.sOut R.sG s (nv i) (bv i) (tv i) h' v43 a b c d e v47 v48, ?_⟩
  unfold gkernel
  simp only [cc3_gather_kernel_eq_skeleton, cc3_gather_kernel_skel, k3_part7_eq, k3_part8_eq]
  dsimp only [starts3]
  rfl

set_option cleanup.letToHave false in
theorem k4_part1_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 : BitVec 32) (h : k4_cond2 i = 1#1) (c0 c1 : BitVec 32)
    (t : Fin (k4_t1_loop i).trips) (a7 a8 a9 a10 a11 : BitVec 32) :
    k4_part1 (F := F) i R.tab h2 R.idx h3 R.out h4 R.sh h5 R.sTab R.ibuf hi R.sIn R.obuf ho R.sOut R.sG s v7 v12 h c0 c1 t a7 a8 a9 a10 a11 = gpart1 starts4 R i v7 v12 h c0 c1 t a7 a8 a9 a10 a11 := by
  unfold gpart1
  dsimp only [starts4]
  rfl

set_option cleanup.letToHave false in
theorem k4_part2_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (h : k4_cond2 i = 1#1)
    (t : Fin (k4_t1_loop i).trips) (a7 a8 a9 a10 a11 : BitVec 32) (w3 : k4_chk3 i a8) (w2 : k4_chk2 i a9) (w1 : k4_chk1 i t a7 a8 a9 a10 a11)
    (a6 v82 : BitVec 32) (v83 : BitVec 1) (v86 v92 v97 v103 : BitVec 32) (v114 : BitVec 1) (c : BitVec 32) :
    k4_part2 (F := F) i R.tab h2 R.idx h3 R.out h4 R.sh h5 R.sTab R.ibuf hi R.sIn R.obuf ho R.sOut R.sG s h t a7 a8 a9 a10 a11 w3 w2 w1 a6 v82 v83 v86 v92 v97 v103 v114 c
      = gpart2 starts4 R i h t a7 a8 a9 a10 a11 w3 w2 w1 a6 v82 v83 v86 v92 v97 v103 v114 c := by
  unfold gpart2
  dsimp only [starts4]
  rfl

set_option cleanup.letToHave false in
theorem k4_part3_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 : BitVec 32) (h : k4_cond2 i = 1#1)
    (t : Fin (k4_t1_loop i).trips) (a7 a8 a9 a10 a11 : BitVec 32) (w3 : k4_chk3 i a8) (w2 : k4_chk2 i a9) (w1 : k4_chk1 i t a7 a8 a9 a10 a11)
    (v83 v85 : BitVec 1) (v86 v92 v97 v103 v104 v123 : BitVec 32) :
    k4_part3 (F := F) i R.tab h2 R.idx h3 R.out h4 R.sh h5 R.sTab R.ibuf hi R.sIn R.obuf ho R.sOut R.sG s v7 h t a7 a8 a9 a10 a11 w3 w2 w1 v83 v85 v86 v92 v97 v103 v104 v123
      = gpart3 starts4 R i v7 h t a7 a8 a9 a10 a11 w3 w2 w1 v83 v85 v86 v92 v97 v103 v104 v123 := by
  unfold gpart3
  dsimp only [starts4]
  rfl

set_option cleanup.letToHave false in
theorem k4_body_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k4_cond2 i = 1#1) (v43 c0 c1 c2 c3 c4 v47 : BitVec 32) :
    k4_t1_body (F := F) i R.tab h2 R.idx h3 R.out h4 R.sh h5 R.sTab R.ibuf hi R.sIn R.obuf ho R.sOut R.sG s v7 v12 v13 h v43 c0 c1 c2 c3 c4 v47 = gbody starts4 R i v7 v12 h c0 := by
  unfold k4_t1_body gbody
  simp only [k4_part1_eq, k4_part2_eq, k4_part3_eq]
  rfl

set_option cleanup.letToHave false in
theorem k4_part7_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k4_cond2 i = 1#1) :
    k4_part7 (F := F) i R.tab h2 R.idx h3 R.out h4 R.sh h5 R.sTab R.ibuf hi R.sIn R.obuf ho R.sOut R.sG s v7 v12 v13 h = gpart7 starts4 R i v7 v12 v13 h := by
  unfold gpart7
  dsimp only [starts4]
  rfl

set_option cleanup.letToHave false in
theorem k4_part8_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) (v7 v12 v13 : BitVec 32) (h : k4_cond2 i = 1#1) (v43 c0 c1 c2 c3 c4 v47 : BitVec 32) :
    k4_part8 (F := F) i R.tab h2 R.idx h3 R.out h4 R.sh h5 R.sTab R.ibuf hi R.sIn R.obuf ho R.sOut R.sG s v7 v12 v13 h v43 c0 c1 c2 c3 c4 v47
      = gpart8 starts4 R i (fun h' v43 a b c d e v47 v48 => k4_t2_body i R.tab h2 R.idx h3 R.out h4 R.sh h5 R.sTab R.ibuf hi R.sIn R.obuf ho R.sOut R.sG s v7 v12 v13 h' v43 a b c d e v47 v48) v7 v12 v13 h v43 c0 c1 c2 c3 c4 v47 := by
  unfold gpart8
  simp only [k4_part8_eq_skeleton, k4_part8_skel, k4_body_eq]
  dsimp only [starts4]
  rfl

set_option cleanup.letToHave false in
/-- Gather call 3's kernel is the common text. -/
theorem cc4_eq (i : grid1.Coords) (R : Refs) (h2 : R.tab.IsWhole) (h3 : R.idx.IsWhole) (h4 : R.out.IsWhole) (h5 : R.sh.IsWhole)
    (hi : R.ibuf.IsWhole) (ho : R.obuf.IsWhole) (s : DmaSems sig S_) : ∃ body2 : Body2 F starts4 i,
    cc4_gather_kernel (F := F) i R.tab h2 R.idx h3 R.out h4 R.sh h5 R.sTab R.ibuf hi R.sIn R.obuf ho R.sOut R.sG s = gkernel starts4 R i body2 := by
  refine ⟨fun h' v43 a b c d e v47 v48 => k4_t2_body i R.tab h2 R.idx h3 R.out h4 R.sh h5 R.sTab R.ibuf hi R.sIn R.obuf ho R.sOut R.sG s (nv i) (bv i) (tv i) h' v43 a b c d e v47 v48, ?_⟩
  unfold gkernel
  simp only [cc4_gather_kernel_eq_skeleton, cc4_gather_kernel_skel, k4_part7_eq, k4_part8_eq]
  dsimp only [starts4]
  rfl

end Cert.Proof

end
-- ==== Proof.GatherFacts.lean ====
/-
  The four gather calls compute the closed forms of `GatherForms`: the finitely many tiles and trips, one by one.
-/
module

public import proofs.«01_k».proof.Proof.GatherForms

@[expose] public section

noncomputable section

namespace Cert.Proof

open Cert.KernelIdeal Cert.KernelIdeal.Gen
open Idealize.ShloMosaic Idealize.SL.Sem

/-- What gather call `q` computes. -/
def startsOf : Fin 4 → Starts
  | 0 => starts1
  | 1 => starts2
  | 2 => starts3
  | 3 => starts4

set_option maxRecDepth 65536 in
set_option maxHeartbeats 4000000 in
theorem good : ∀ q : Fin 4, Good (startsOf q) (625 * q.val) := by
  have tile : ∀ {P : Fin 4 → grid1.Coords → Prop}, (∀ q (c : Fin 2) (s : Fin 16), P q (crd c s)) → ∀ q i, P q i :=
    fun h q i => all_tiles (h q) i
  intro q
  constructor
  all_goals first
    | (revert q; decide +kernel)
    | (revert q; apply tile; decide +kernel)

end Cert.Proof

end
-- ==== Proof.Oblig.lean ====
/-
  A tile's task, from what the handshake and the launch give it: its semaphores and its buffers found among the tile's own,
  the task run, everything given back; and the shared scratch dealt to the tiles of a SparseCore and collected again.
-/
module

public import proofs.«01_k».proof.Proof.Sched
public import proofs.«01_k».proof.Proof.GatherEq
public import proofs.«01_k».proof.Proof.GatherFacts

@[expose] public section

set_option pp.maxSteps 400

noncomputable section

namespace Cert.Proof

open Cert.KernelIdeal Cert.KernelIdeal.Gen
open Idealize.ShloMosaic
open Idealize.ShloMosaic.ValueIdx
open Idealize.ShloMosaic.SparseCore (S V T)
open Idealize.ShloMosaic.SparseCore.Cfg (HIx Pay ownSems0 ownBufs ownRefs ownCells mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ
local notation "ι₀" => (default : HIx 4)

/-! ## The tile's semaphores -/

theorem take_six {I : Type} [DecidableEq I] (S : Finset I) (Φ : I → sProp 𝕄) (a b c d e f : I) (h : [a, b, c, d, e, f].Nodup)
    (hm : ∀ x ∈ [a, b, c, d, e, f], x ∈ S) : ∃ X : sProp 𝕄, bigSep S Φ = iprop(Φ a ∗ Φ b ∗ Φ c ∗ Φ d ∗ Φ e ∗ Φ f ∗ X) := by
  simp only [List.nodup_cons, List.mem_cons, List.not_mem_nil, not_or, or_false, not_false_eq_true, List.nodup_nil, and_true] at h
  obtain ⟨⟨h1, h2, h3, h4, h5⟩, ⟨h6, h7, h8, h9⟩, ⟨h10, h11, h12⟩, ⟨h13, h14⟩, h15⟩ := h
  have ma := hm a (by simp); have mb := hm b (by simp); have mc := hm c (by simp)
  have md := hm d (by simp); have me := hm e (by simp); have mf := hm f (by simp)
  refine ⟨bigSep ((((((S.erase a).erase b).erase c).erase d).erase e).erase f) Φ, ?_⟩
  rw [SparseCore.bigSep_erase' ma,
    SparseCore.bigSep_erase' (i := b) (by simp only [Finset.mem_erase]; exact ⟨Ne.symm h1, mb⟩),
    SparseCore.bigSep_erase' (i := c) (by simp only [Finset.mem_erase]; exact ⟨Ne.symm h6, Ne.symm h2, mc⟩),
    SparseCore.bigSep_erase' (i := d) (by simp only [Finset.mem_erase]; exact ⟨Ne.symm h10, Ne.symm h7, Ne.symm h3, md⟩),
    SparseCore.bigSep_erase' (i := e) (by simp only [Finset.mem_erase]; exact ⟨Ne.symm h13, Ne.symm h11, Ne.symm h8, Ne.symm h4, me⟩),
    SparseCore.bigSep_erase' (i := f) (by simp only [Finset.mem_erase]; exact ⟨Ne.symm h15, Ne.symm h14, Ne.symm h12, Ne.symm h9, Ne.symm h5, mf⟩)]

/-- The semaphores of call `q`. -/
abbrev semsOf (q : Fin 4) : List (SemLoc sig) :=
  [.dma (refsOf q).sTab.sem, .dma (refsOf q).sG.sem, .dma (isem (refsOf q) 0), .dma (isem (refsOf q) 1), .dma (osem (refsOf q) 0), .dma (osem (refsOf q) 1)]

theorem sems_nodup (q : Fin 4) : (semsOf q).Nodup := by
  match q with
  | 0 => decide +kernel
  | 1 => decide +kernel
  | 2 => decide +kernel
  | 3 => decide +kernel
theorem sems_scoped (q : Fin 4) : ∀ x ∈ semsOf q, x.isScoped .scVector = true := by
  match q with
  | 0 => decide +kernel
  | 1 => decide +kernel
  | 2 => decide +kernel
  | 3 => decide +kernel

theorem sems_V (q : Fin 4) (d : Dev nD) (i : grid1.Coords) : ∃ X : sProp 𝕄, (ownSems0 (tl d i) : sProp 𝕄)
    = iprop(semVal (tl d i, .dma (refsOf q).sTab.sem) 0 ∗ gv (F := F) d i (refsOf q)
        ∗ iv (F := F) d i (refsOf q) 0 ∗ iv (F := F) d i (refsOf q) 1 ∗ ov (F := F) d i (refsOf q) 0 ∗ ov (F := F) d i (refsOf q) 1 ∗ X) := by
  unfold SparseCore.Cfg.ownSems0
  refine take_six (ownCells (tl d i)) (fun g => semVal g 0) (tl d i, .dma (refsOf q).sTab.sem) (tl d i, .dma (refsOf q).sG.sem)
    (tl d i, .dma (isem (refsOf q) 0)) (tl d i, .dma (isem (refsOf q) 1)) (tl d i, .dma (osem (refsOf q) 0)) (tl d i, .dma (osem (refsOf q) 1)) ?_ ?_
  · exact List.Nodup.map (f := fun x : SemLoc sig => ((tl d i, x) : GSem nD τ sig)) (fun a b h => (Prod.mk.inj h).2) (sems_nodup q)
  · intro x hx
    obtain ⟨y, hy, rfl⟩ := List.mem_map.mp (show x ∈ (semsOf q).map (fun y => ((tl d i, y) : GSem nD τ sig)) from hx)
    exact mem_ownCells.mpr ⟨rfl, sems_scoped q y hy⟩

/-! ## The tile's buffers -/

theorem mem_islot (R : Refs) (k : ℕ) {z} (h : z ∈ (islot R k).view.set) : ∃ y : S2x1x128.Idx, R.ibuf.view.emb y = z ∧ (y 0).val = k % 2 := by
  obtain ⟨x, -, rfl⟩ := Finset.mem_map.mp h
  refine ⟨_, rfl, ?_⟩
  rw [ValueKit.rect_emb_unit_val]
  have := (Shape.reshapeEquiv squeezes_S1x1x128_S1x128.numel_eq x 0).isLt
  change _ < 1 at this
  show k % 2 + (Shape.reshapeEquiv squeezes_S1x1x128_S1x128.numel_eq x 0).val = k % 2
  omega
theorem mem_oslot (R : Refs) (k : ℕ) {z} (h : z ∈ (oslot R k).view.set) : ∃ y : S2x128x128.Idx, R.obuf.view.emb y = z ∧ (y 0).val = k % 2 := by
  obtain ⟨x, -, rfl⟩ := Finset.mem_map.mp h
  refine ⟨_, rfl, ?_⟩
  rw [ValueKit.rect_emb_unit_val]
  have := (Shape.reshapeEquiv squeezes_S1x128x128_S128x128.numel_eq x 0).isLt
  change _ < 1 at this
  show k % 2 + (Shape.reshapeEquiv squeezes_S1x128x128_S128x128.numel_eq x 0).val = k % 2
  omega
theorem islot_disjoint (R : Refs) : Disjoint (islot R 0).view.set (islot R 1).view.set := by
  refine Finset.disjoint_left.mpr fun z h1 h2 => ?_
  obtain ⟨y, e, a⟩ := mem_islot R 0 h1
  obtain ⟨y', e', a'⟩ := mem_islot R 1 h2
  have := R.ibuf.view.emb.injective (e.trans e'.symm); subst this
  omega
theorem oslot_disjoint (R : Refs) : Disjoint (oslot R 0).view.set (oslot R 1).view.set := by
  refine Finset.disjoint_left.mpr fun z h1 h2 => ?_
  obtain ⟨y, e, a⟩ := mem_oslot R 0 h1
  obtain ⟨y', e', a'⟩ := mem_oslot R 1 h2
  have := R.obuf.view.emb.injective (e.trans e'.symm); subst this
  omega

omit [FloatOps F] in
theorem eq_of {A B : sProp 𝕄} (h1 : A ⊢ B) (h2 : B ⊢ A) : A = B := equiv_iff.mp ⟨h1, h2⟩

/-- A buffer at some contents is two disjoint parts of it, and what is left, each at some contents. -/
theorem two_parts (ℓ : Loc nD τ sig) (I J : Finset (Idx ℓ)) (h : Disjoint I J) :
    (iprop(∃ f : Buf (Elt F) ℓ, ℓ ↦{fullShare} f) : sProp 𝕄)
      = iprop((∃ f : Buf (Elt F) ℓ, ℓ ↦[I]{fullShare} f) ∗ (∃ f : Buf (Elt F) ℓ, ℓ ↦[J]{fullShare} f)
          ∗ ∃ f : Buf (Elt F) ℓ, ℓ ↦[(Finset.univ \ I) \ J]{fullShare} f) := by
  have hJ : J ⊆ Finset.univ \ I := fun x hx => Finset.mem_sdiff.mpr ⟨Finset.mem_univ _, fun hi => Finset.disjoint_left.mp h hi hx⟩
  refine eq_of ?_ ?_
  · iintro ⟨%f, H⟩
    ihave H' := (pointsTo_split_subset (q := fullShare) (f := f) (Finset.subset_univ I)).1 $$ H
    icases H' with ⟨H1, H2⟩
    ihave H3 := (pointsTo_split_subset (q := fullShare) (f := f) hJ).1 $$ H2
    icases H3 with ⟨H3, H4⟩
    isplitl [H1]; · iexists f; iexact H1
    isplitl [H3]; · iexists f; iexact H3
    iexists f; iexact H4
  · iintro ⟨⟨%f, H1⟩, ⟨%g, H2⟩, ⟨%k, H3⟩⟩
    ihave H4 := (pointsTo_join_subset (q := fullShare) (f := k) (g := g) hJ) $$ [H2 H3]
    · isplitl [H2]; · iexact H2
      iexact H3
    ihave H5 := (pointsTo_join_subset (q := fullShare) (g := f) (Finset.subset_univ I)) $$ [H1 H4]
    · isplitl [H1]; · iexact H1
      iexact H4
    iexists _; iexact H5

theorem bufs_R (R : Refs) (d : Dev nD) (i : grid1.Coords)
    (h1 : (R.ibuf.view.loc (tl d i)).2 ∈ ownRefs (tl d i).2)
    (h2 : (R.obuf.view.loc (tl d i)).2 ∈ ownRefs (tl d i).2) (hne : (R.ibuf.view.loc (tl d i)).2 ≠ (R.obuf.view.loc (tl d i)).2) :
    ∃ X : sProp 𝕄, (ownBufs (tl d i) : sProp 𝕄)
      = iprop(isl (F := F) d i R 0 ∗ isl (F := F) d i R 1 ∗ osl (F := F) d i R 0 ∗ osl (F := F) d i R 1 ∗ X) := by
  have e : (ownBufs (tl d i) : sProp 𝕄) = iprop((∃ f : Buf (Elt F) (R.ibuf.view.loc (tl d i)), R.ibuf.view.loc (tl d i) ↦{fullShare} f)
      ∗ (∃ f : Buf (Elt F) (R.obuf.view.loc (tl d i)), R.obuf.view.loc (tl d i) ↦{fullShare} f)
      ∗ bigSep (((ownRefs (tl d i).2).erase (R.ibuf.view.loc (tl d i)).2).erase (R.obuf.view.loc (tl d i)).2)
          fun b => iprop(∃ f : Buf (Elt F) ((d, b) : Loc nD τ sig), ((d, b) : Loc nD τ sig) ↦{fullShare} f)) := by
    unfold SparseCore.Cfg.ownBufs
    rw [SparseCore.bigSep_erase' h1, SparseCore.bigSep_erase' (Finset.mem_erase.mpr ⟨hne.symm, h2⟩)]
  rw [e, two_parts (F := F) (R.ibuf.view.loc (tl d i)) (islot R 0).view.set (islot R 1).view.set (islot_disjoint R),
    two_parts (F := F) (R.obuf.view.loc (tl d i)) (oslot R 0).view.set (oslot R 1).view.set (oslot_disjoint R)]
  refine ⟨iprop((∃ f : Buf (Elt F) (R.ibuf.view.loc (tl d i)), R.ibuf.view.loc (tl d i) ↦[(Finset.univ \ (islot R 0).view.set) \ (islot R 1).view.set]{fullShare} f)
    ∗ (∃ f : Buf (Elt F) (R.obuf.view.loc (tl d i)), R.obuf.view.loc (tl d i) ↦[(Finset.univ \ (oslot R 0).view.set) \ (oslot R 1).view.set]{fullShare} f)
    ∗ bigSep (((ownRefs (tl d i).2).erase (R.ibuf.view.loc (tl d i)).2).erase (R.obuf.view.loc (tl d i)).2)
          fun b => iprop(∃ f : Buf (Elt F) ((d, b) : Loc nD τ sig), ((d, b) : Loc nD τ sig) ↦{fullShare} f)), eq_of ?_ ?_⟩
  · iintro ⟨⟨H1, H2, H3⟩, ⟨H4, H5, H6⟩, H7⟩
    isplitl [H1]; · iexact H1
    isplitl [H2]; · iexact H2
    isplitl [H4]; · iexact H4
    isplitl [H5]; · iexact H5
    isplitl [H3]; · iexact H3
    isplitl [H6]; · iexact H6
    iexact H7
  · iintro ⟨H1, H2, H4, H5, H3, H6, H7⟩
    isplitl [H1 H2 H3]
    · isplitl [H1]; · iexact H1
      isplitl [H2]; · iexact H2
      iexact H3
    isplitl [H4 H5 H6]
    · isplitl [H4]; · iexact H4
      isplitl [H5]; · iexact H5
      iexact H6
    iexact H7

theorem bufs_V (q : Fin 4) (d : Dev nD) (i : grid1.Coords) : ∃ X : sProp 𝕄, (ownBufs (tl d i) : sProp 𝕄)
      = iprop(isl (F := F) d i (refsOf q) 0 ∗ isl (F := F) d i (refsOf q) 1 ∗ osl (F := F) d i (refsOf q) 0 ∗ osl (F := F) d i (refsOf q) 1 ∗ X) := by
  refine bufs_R (refsOf q) d i ?_ ?_ ?_
  · match q with
    | 0 => exact mem_ownRefs_of_owner rfl
    | 1 => exact mem_ownRefs_of_owner rfl
    | 2 => exact mem_ownRefs_of_owner rfl
    | 3 => exact mem_ownRefs_of_owner rfl
  · match q with
    | 0 => exact mem_ownRefs_of_owner rfl
    | 1 => exact mem_ownRefs_of_owner rfl
    | 2 => exact mem_ownRefs_of_owner rfl
    | 3 => exact mem_ownRefs_of_owner rfl
  · intro h
    have h' := congrArg (fun b : DevRef τ sig => b.idx.val) h
    revert h'
    match q with
    | 0 => exact (show ¬ (cc1_scoped1 : Ref sig .scVector).idx.val = (cc1_scoped3 : Ref sig .scVector).idx.val by decide)
    | 1 => exact (show ¬ (cc2_scoped1 : Ref sig .scVector).idx.val = (cc2_scoped3 : Ref sig .scVector).idx.val by decide)
    | 2 => exact (show ¬ (cc3_scoped1 : Ref sig .scVector).idx.val = (cc3_scoped3 : Ref sig .scVector).idx.val by decide)
    | 3 => exact (show ¬ (cc4_scoped1 : Ref sig .scVector).idx.val = (cc4_scoped3 : Ref sig .scVector).idx.val by decide)

/-- The rows of a slot credit together what the slot does. -/
theorem fact_hN (q : Fin 4) (k : ℕ) :
    ∑ j, ((oslot (refsOf q) k).slice (S128x128.rowRect gathers_S10000x128_S128x128.axis' j) (S128x128.stride_rowRect gathers_S10000x128_S128x128.axis' j)).view.dmaCredit
      = (oslot (refsOf q) k).view.dmaCredit := by
  have e : ∀ j : Fin (S128x128.size gathers_S10000x128_S128x128.axis'),
      ((oslot (refsOf q) k).slice (S128x128.rowRect gathers_S10000x128_S128x128.axis' j) (S128x128.stride_rowRect gathers_S10000x128_S128x128.axis' j)).view.dmaCredit
        = sig.dmaCredit .scVector (Kind.scVector.table .vmem) (refsOf q).obuf.view.buf (S128x128.rowShape gathers_S10000x128_S128x128.axis') .f32 := fun j => rfl
  rw [Finset.sum_congr rfl fun j _ => e j, Finset.sum_const]
  show _ = sig.dmaCredit .scVector (Kind.scVector.table .vmem) (refsOf q).obuf.view.buf S128x128 .f32
  match q with
  | 0 => decide +kernel
  | 1 => decide +kernel
  | 2 => decide +kernel
  | 3 => decide +kernel

/-! ## The task -/

variable (Tf : Dev nD → S20000x128.Idx → Elt F .f32) (If : Dev nD → S2x1x320000.Idx → Elt F .i32)

set_option maxHeartbeats 1000000 in
theorem tile_task (q : Fin 4) {G : Starts} (hG : Good G (625 * q.val)) (d : Dev nD) (c : Fin 2) (s : Fin 16) (body2 : Body2 F G (crd c s))
    (hI : ∀ x, (If d x).toNat < 10000)
    (O : CellTallies nD τ sig (HIx 4)) (W : Waits sig (HIx 4)) (hO : ∀ g, O g none = 0)
    (hOlev : ∀ g ι, 0 < O g ι → 8 * q.val + 6 ≤ (K (F := F)).lev g ι) :
    iprop(levAts (K (F := F)).L (K (F := F)).lev ∗ bkit Tf q d c s
        ∗ (tileIn Tf If q d (crd c s) ∗ shIn q d (crd c s) ∗ bigSep Finset.univ fun j : Fin 16 => reached EB (bcell d c j) q.val)
        ∗ scopedBufs (tl d (crd c s)) ∗ scopedSems0 (tl d (crd c s)) ∗ owes (tl d (crd c s)) (O + barO d (crd c s) (some q)) W)
      ⊢ wpT d (crd c s) (gkernel G (refsOf q) (crd c s) body2) fun _ =>
        iprop((tileOut Tf If q d (crd c s) ∗ shAt d (crd c s) (refsOf q) (shBuf d (crd c s) (halfOf (Tf d) c) q) (shr s))
          ∗ scopedBufs (tl d (crd c s)) ∗ scopedSems0 (tl d (crd c s))
          ∗ ∃ W', ⌜∀ p ∈ W', p ∈ W ∨ p.2 = none ∨ p.2 = some q⌝ ∗ owes (tl d (crd c s)) O W') := by
  obtain ⟨X, hX⟩ := sems_V (F := F) q d (crd c s)
  obtain ⟨Y, hY⟩ := bufs_V (F := F) q d (crd c s)
  have hload : iprop(tabPost d (crd c s) (refsOf q) (Tf d) ∗ shIn q d (crd c s)) ⊢ (loadPre d (crd c s) (refsOf q) (Tf d) : sProp 𝕄) := by
    unfold tabPost shIn loadPre
    split
    · exact BI.Entails.refl _
    · exact BI.sep_emp.1
  have hO' : ∀ g, (O + barO d (crd c s) (some q)) g none = 0 := fun g => by rw [Pi.add_apply, Finsupp.add_apply, hO g, barO_none]
  rw [(K (F := F)).scopedBufs_V facts d ((crd c s 0).castLE hcore1) ((crd c s 1).castLE hsub1),
    SparseCore.Cfg.scopedSems0_V (Val := Elt F) d ((crd c s 0).castLE hcore1) ((crd c s 1).castLE hsub1), hX, hY]
  unfold bkit tileIn
  iintro ⟨#Hlv, ⟨⟨%κ, #Hinv⟩, Htoks, Hcred⟩, ⟨⟨Htab, Hiw, How, Hat⟩, Hsh, Hre⟩, ⟨Hi0, Hi1, Ho0, Ho1, HY⟩, ⟨Hst, Hg, Hv0, Hv1, Hw0, Hw1, HX⟩, HO⟩
  ihave Hmw1 := (show levAts (K (F := F)).L (K (F := F)).lev ⊢ Transfers.MayWaits (tl d (crd c s)) ι₀ (O + barO d (crd c s) (some q)) from
    (K (F := F)).mayWaits_none (thr := tl d (crd c s)) hO') $$ Hlv
  ihave Hmw2 := (show levAts (K (F := F)).L (K (F := F)).lev ⊢ Transfers.MayWaits (tl d (crd c s)) ι₀ O from
    (K (F := F)).mayWaits_none (thr := tl d (crd c s)) hO) $$ Hlv
  ihave HmwB := (show levAts (K (F := F)).L (K (F := F)).lev ⊢ MayWait (tl d (crd c s)) (.reg sc_bar0) (some q) O from
    (K (F := F)).mayOwe_of_bound (thr := tl d (crd c s)) (8 * q.val + 3) (fun p hp => by
        rw [Finset.mem_singleton] at hp; subst hp
        show (K (F := F)).lev (tl d (crd c s), .reg sc_bar0) (some q) ≤ 8 * q.val + 3
        rw [(K (F := F)).lev_V_reg d _ _ (show (sc_bar0 : Sem sig) ≠ (K (F := F)).go from sc_bar0_ne_go)])
      (fun g ι hg => lt_of_lt_of_le (Nat.add_lt_add_left (by decide) _) (hOlev g ι hg))) $$ Hlv
  ihave Hl := hload $$ [Htab Hsh]
  · isplitl [Htab]; · iexact Htab
    iexact Hsh
  ihave Hwp := (gkernel_wp d (crd c s) (refsOf q) q hG (fun _ => If d) (shBuf d (crd c s) (halfOf (Tf d) c) q) (fun w => outBuf d (crd c s) (rowsAt (Tf d) (If d) q) q w)
      (Tf d) (fun w x => fact_hin d (crd c s) q (If d) hI w x) (fun w => fact_hGt d (crd c s) q (Tf d) (If d) w _) (fun k => fact_hN q k) (fun n x => fact_hH d (crd c s) q (Tf d) n x) (shr s)
      (bRd Tf) body2 κ (fun j => bRd_mem Tf d c j s q) (fun _ => rfl) (bRd_expect Tf d c s q) (pay_out Tf d c s q) (pay_in Tf d c s q) O W)
    $$ [Htoks Hcred Hiw How Hat Hre Hl Hi0 Hi1 Ho0 Ho1 Hst Hg Hv0 Hv1 Hw0 Hw1 HO]
  · unfold slotsOf
    isplitr; · iexact Hmw1
    isplitr; · iexact Hmw2
    isplitr; · iexact HmwB
    isplitr; · iexact Hinv
    isplitl [HO]; · iexact HO
    isplitl [Htoks]; · iexact Htoks
    isplitl [Hre]; · iexact Hre
    isplitl [Hcred]; · iexact Hcred
    isplitl [Hat]; · iexact Hat
    isplitl [Hl]; · iexact Hl
    isplitl [Hst]; · iexact Hst
    isplitl [Hg Hi0 Hi1 Ho0 Ho1 Hv0 Hv1 Hw0 Hw1]
    · isplitl [Hg]; · iexact Hg
      isplitl [Hi0 Hi1 Hv0 Hv1]
      · isplitl [Hi0]; · iexact Hi0
        isplitl [Hv0]; · iexact Hv0
        isplitl [Hi1]; · iexact Hi1
        iexact Hv1
      isplitl [Ho0]; · iexact Ho0
      isplitl [Hw0]; · iexact Hw0
      isplitl [Ho1]; · iexact Ho1
      iexact Hw1
    isplitl [Hiw]; · iexact Hiw
    iexact How
  iapply (wp_wand _ _ _) $$ Hwp
  iintro %a
  unfold slotsOf tileOut
  iintro ⟨HO, Hat, Hre, Htab, Hst, ⟨Hg, ⟨Hi0, Hv0, Hi1, Hv1⟩, ⟨Ho0, Hw0, Ho1, Hw1⟩⟩, Hsh, Hiw, How⟩
  isplitl [Hat Hre Htab Hsh Hiw How]
  · isplitr [Hsh]; swap; · iexact Hsh
    isplitl [Htab]; · iexact Htab
    isplitl [Hiw]; · iexact Hiw
    isplitl [How]; · iexact How
    isplitl [Hat]; · iexact Hat
    iexact Hre
  isplitl [Hi0 Hi1 Ho0 Ho1 HY]
  · isplitl [Hi0]; · iexact Hi0
    isplitl [Hi1]; · iexact Hi1
    isplitl [Ho0]; · iexact Ho0
    isplitl [Ho1]; · iexact Ho1
    iexact HY
  isplitl [Hst Hg Hv0 Hv1 Hw0 Hw1 HX]
  · isplitl [Hst]; · iexact Hst
    isplitl [Hg]; · iexact Hg
    isplitl [Hv0]; · iexact Hv0
    isplitl [Hv1]; · iexact Hv1
    isplitl [Hw0]; · iexact Hw0
    isplitl [Hw1]; · iexact Hw1
    iexact HX
  iexact HO

/-! ## The obligation -/

theorem defs₀_vector0 (c : Fin τ.nSC) (s : Fin τ.nSub) :
    defs₀ (F := F) (.scVector c s) 1 ()
      = SparseCore.onTile hcore1 hsub1 (fun c s => cc1_gather_kernel (crd c s) (refsOf 0).tab (Memref.isWhole_whole _) (refsOf 0).idx (Memref.isWhole_whole _)
          (refsOf 0).out (Memref.isWhole_whole _) (refsOf 0).sh (Memref.isWhole_whole _) (refsOf 0).sTab (refsOf 0).ibuf (Memref.isWhole_whole _) (refsOf 0).sIn
          (refsOf 0).obuf (Memref.isWhole_whole _) (refsOf 0).sOut (refsOf 0).sG cc1_scoped6) ⟨⟩ c s := rfl
theorem defs₀_vector1 (c : Fin τ.nSC) (s : Fin τ.nSub) :
    defs₀ (F := F) (.scVector c s) 2 ()
      = SparseCore.onTile hcore2 hsub2 (fun c s => cc2_gather_kernel (crd c s) (refsOf 1).tab (Memref.isWhole_whole _) (refsOf 1).idx (Memref.isWhole_whole _)
          (refsOf 1).out (Memref.isWhole_whole _) (refsOf 1).sh (Memref.isWhole_whole _) (refsOf 1).sTab (refsOf 1).ibuf (Memref.isWhole_whole _) (refsOf 1).sIn
          (refsOf 1).obuf (Memref.isWhole_whole _) (refsOf 1).sOut (refsOf 1).sG cc2_scoped6) ⟨⟩ c s := rfl
theorem defs₀_vector2 (c : Fin τ.nSC) (s : Fin τ.nSub) :
    defs₀ (F := F) (.scVector c s) 3 ()
      = SparseCore.onTile hcore3 hsub3 (fun c s => cc3_gather_kernel (crd c s) (refsOf 2).tab (Memref.isWhole_whole _) (refsOf 2).idx (Memref.isWhole_whole _)
          (refsOf 2).out (Memref.isWhole_whole _) (refsOf 2).sh (Memref.isWhole_whole _) (refsOf 2).sTab (refsOf 2).ibuf (Memref.isWhole_whole _) (refsOf 2).sIn
          (refsOf 2).obuf (Memref.isWhole_whole _) (refsOf 2).sOut (refsOf 2).sG cc3_scoped6) ⟨⟩ c s := rfl
theorem defs₀_vector3 (c : Fin τ.nSC) (s : Fin τ.nSub) :
    defs₀ (F := F) (.scVector c s) 4 ()
      = SparseCore.onTile hcore4 hsub4 (fun c s => cc4_gather_kernel (crd c s) (refsOf 3).tab (Memref.isWhole_whole _) (refsOf 3).idx (Memref.isWhole_whole _)
          (refsOf 3).out (Memref.isWhole_whole _) (refsOf 3).sh (Memref.isWhole_whole _) (refsOf 3).sTab (refsOf 3).ibuf (Memref.isWhole_whole _) (refsOf 3).sIn
          (refsOf 3).obuf (Memref.isWhole_whole _) (refsOf 3).sOut (refsOf 3).sG cc4_scoped6) ⟨⟩ c s := rfl

set_option maxRecDepth 16384 in
theorem tileObl (hI : ∀ d x, (If d x).toNat < 10000) (q : Fin 4) : (K (F := F)).TileObl (D (F := F)) 𝒱 (P Tf If) v₀ q := by
  have key : ∀ (d : Dev nD) (c : Fin 2) (s : Fin 16) (O : CellTallies nD τ sig (HIx 4)) (W : Waits sig (HIx 4)), (∀ g, O g none = 0) →
      (∀ g ι, 0 < O g ι → 8 * q.val + 6 ≤ (K (F := F)).lev g ι) → ∀ p : Prog (TpuEff nD τ sig (Elt F) Λ₀ (.scVector (c.castLE hcore1) (s.castLE hsub1))) PUnit,
      (∃ body2 : Body2 F (startsOf q) (crd c s), p = gkernel (startsOf q) (refsOf q) (crd c s) body2) →
      iprop(levAts (K (F := F)).L (K (F := F)).lev ∗ bkit Tf q d c s
        ∗ (tileIn Tf If q d (crd c s) ∗ shIn q d (crd c s) ∗ bigSep Finset.univ fun j : Fin 16 => reached EB (bcell d c j) q.val)
        ∗ scopedBufs (tl d (crd c s)) ∗ scopedSems0 (tl d (crd c s)) ∗ owes (tl d (crd c s)) (O + barO d (crd c s) (some q)) W)
      ⊢ wpT d (crd c s) p fun _ =>
        iprop((tileOut Tf If q d (crd c s) ∗ shAt d (crd c s) (refsOf q) (shBuf d (crd c s) (halfOf (Tf d) c) q) (shr s))
          ∗ scopedBufs (tl d (crd c s)) ∗ scopedSems0 (tl d (crd c s))
          ∗ ∃ W', ⌜∀ p ∈ W', p ∈ W ∨ p.2 = none ∨ p.2 = some q⌝ ∗ owes (tl d (crd c s)) O W') := by
    rintro d c s O W hO hOlev _ ⟨body2, rfl⟩
    exact tile_task Tf If q (good q) d c s body2 (hI d) O W hO hOlev
  match q with
  | 0 =>
    intro d c i O W hO hOlev _
    have hci : ((K (F := F)).core 0 c).val < grid1.bound 0 ∧ ((K (F := F)).sub 0 i).val < grid1.bound 1 := ⟨c.isLt, i.isLt⟩
    change _ ⊢ wp _ _ _ (Pipeline.liftProg (defs₀ (F := F) (.scVector ((K (F := F)).core 0 c) ((K (F := F)).sub 0 i)) 1 ())) _
    refine BI.Entails.trans ?_ (Pipeline.wp_liftProg (D (F := F)) (Pipeline.defs_kernel pcfgs defs₀) 𝒱₀ _ Set.univ none _ _)
    rw [defs₀_vector0]; simp only [SparseCore.onTile, hci, and_self, ↓reduceDIte]
    exact key d ⟨_, hci.1⟩ ⟨_, hci.2⟩ O W hO hOlev _ (cc1_eq _ (refsOf 0) _ _ _ _ _ _ _)
  | 1 =>
    intro d c i O W hO hOlev _
    have hci : ((K (F := F)).core 1 c).val < grid2.bound 0 ∧ ((K (F := F)).sub 1 i).val < grid2.bound 1 := ⟨c.isLt, i.isLt⟩
    change _ ⊢ wp _ _ _ (Pipeline.liftProg (defs₀ (F := F) (.scVector ((K (F := F)).core 1 c) ((K (F := F)).sub 1 i)) 2 ())) _
    refine BI.Entails.trans ?_ (Pipeline.wp_liftProg (D (F := F)) (Pipeline.defs_kernel pcfgs defs₀) 𝒱₀ _ Set.univ none _ _)
    rw [defs₀_vector1]; simp only [SparseCore.onTile, hci, and_self, ↓reduceDIte]
    exact key d ⟨_, hci.1⟩ ⟨_, hci.2⟩ O W hO hOlev _ (cc2_eq _ (refsOf 1) _ _ _ _ _ _ _)
  | 2 =>
    intro d c i O W hO hOlev _
    have hci : ((K (F := F)).core 2 c).val < grid3.bound 0 ∧ ((K (F := F)).sub 2 i).val < grid3.bound 1 := ⟨c.isLt, i.isLt⟩
    change _ ⊢ wp _ _ _ (Pipeline.liftProg (defs₀ (F := F) (.scVector ((K (F := F)).core 2 c) ((K (F := F)).sub 2 i)) 3 ())) _
    refine BI.Entails.trans ?_ (Pipeline.wp_liftProg (D (F := F)) (Pipeline.defs_kernel pcfgs defs₀) 𝒱₀ _ Set.univ none _ _)
    rw [defs₀_vector2]; simp only [SparseCore.onTile, hci, and_self, ↓reduceDIte]
    exact key d ⟨_, hci.1⟩ ⟨_, hci.2⟩ O W hO hOlev _ (cc3_eq _ (refsOf 2) _ _ _ _ _ _ _)
  | 3 =>
    intro d c i O W hO hOlev _
    have hci : ((K (F := F)).core 3 c).val < grid4.bound 0 ∧ ((K (F := F)).sub 3 i).val < grid4.bound 1 := ⟨c.isLt, i.isLt⟩
    change _ ⊢ wp _ _ _ (Pipeline.liftProg (defs₀ (F := F) (.scVector ((K (F := F)).core 3 c) ((K (F := F)).sub 3 i)) 4 ())) _
    refine BI.Entails.trans ?_ (Pipeline.wp_liftProg (D (F := F)) (Pipeline.defs_kernel pcfgs defs₀) 𝒱₀ _ Set.univ none _ _)
    rw [defs₀_vector3]; simp only [SparseCore.onTile, hci, and_self, ↓reduceDIte]
    exact key d ⟨_, hci.1⟩ ⟨_, hci.2⟩ O W hO hOlev _ (cc4_eq _ (refsOf 3) _ _ _ _ _ _ _)

/-! ## The shared scratch, dealt and collected -/

def shC (d : Dev nD) (c : Fin 2) (f : S10000x128.Idx → Elt F .f32) : (q : Fin 4) → Buf (Elt F) (shLoc d c q)
  | 0 => f | 1 => f | 2 => f | 3 => f
def shV (d : Dev nD) (c : Fin 2) : (q : Fin 4) → Buf (Elt F) (shLoc d c q) → S10000x128.Idx → Elt F .f32
  | 0, f => f | 1, f => f | 2, f => f | 3, f => f

omit [FloatOps F] in
theorem shC_shV (d : Dev nD) (c : Fin 2) (q : Fin 4) (f : Buf (Elt F) (shLoc d c q)) : shC d c (shV d c q f) q = f := by
  match q with
  | 0 => rfl
  | 1 => rfl
  | 2 => rfl
  | 3 => rfl

/-- The scratch whole, as a tile's view of it. -/
theorem sh_whole (d : Dev nD) (c : Fin 2) (q : Fin 4) (s : Fin 16) (f : S10000x128.Idx → Elt F .f32) (p : PosShare TreeShare) :
    (shAt d (crd c s) (refsOf q) (shBuf d (crd c s) f q) p : sProp 𝕄) = shLoc d c q ↦{p} shC d c f q := by
  match q with
  | 0 => exact congrArg (fun I => (shLoc d c 0 ↦[I]{p} shC d c f 0 : sProp 𝕄)) ((shAll_set (refsOf 0)).trans (View.set_whole cc1_scratch0))
  | 1 => exact congrArg (fun I => (shLoc d c 1 ↦[I]{p} shC d c f 1 : sProp 𝕄)) ((shAll_set (refsOf 1)).trans (View.set_whole cc2_scratch0))
  | 2 => exact congrArg (fun I => (shLoc d c 2 ↦[I]{p} shC d c f 2 : sProp 𝕄)) ((shAll_set (refsOf 2)).trans (View.set_whole cc3_scratch0))
  | 3 => exact congrArg (fun I => (shLoc d c 3 ↦[I]{p} shC d c f 3 : sProp 𝕄)) ((shAll_set (refsOf 3)).trans (View.set_whole cc4_scratch0))

set_option maxRecDepth 16384 in
theorem ownBufs_S (d : Dev nD) (c : Fin 2) (q : Fin 4) : ∃ X : sProp 𝕄, (ownBufs (S d (c.castLE hcore1)) : sProp 𝕄)
    = iprop((∃ f, shLoc d c q ↦{fullShare} f) ∗ X) := by
  have key : ∀ b : DevRef τ sig, b ∈ ownRefs (τ := τ) (sig := sig) (.scScalar (c.castLE hcore1)) → ∃ X : sProp 𝕄, (ownBufs (S d (c.castLE hcore1)) : sProp 𝕄)
      = iprop((∃ f, ((d, b) : Loc nD τ sig) ↦{fullShare} f) ∗ X) := fun b hb => by
    unfold SparseCore.Cfg.ownBufs; exact ⟨_, SparseCore.bigSep_erase' hb⟩
  match q with
  | 0 => exact key (shLoc d c 0).2 (mem_ownRefs.mpr rfl)
  | 1 => exact key (shLoc d c 1).2 (mem_ownRefs.mpr rfl)
  | 2 => exact key (shLoc d c 2).2 (mem_ownRefs.mpr rfl)
  | 3 => exact key (shLoc d c 3).2 (mem_ownRefs.mpr rfl)

/-- What lasts, as often as wanted. -/
theorem bigSep_persistent_const {R : sProp 𝕄} [BI.Persistent R] : R ⊢ bigSep Finset.univ fun _ : Fin 16 => R :=
  BI.bigSep_intro_persistent fun _ _ => BI.Entails.refl _

theorem at_shRow (d : Dev nD) (c : Fin 2) (q : Fin 4) (s : Fin 16) (f : S10000x128.Idx → Elt F .f32) :
    (shLoc d c q ↦{fullShare} shC d c f q : sProp 𝕄) ⊢ bigSep Finset.univ fun s : Fin 16 => shIn (F := F) q d (crd c s) := by
  rw [← sh_whole d c q 0 f fullShare, sh_parts, ← bigSep_ten]
  refine BI.bigSep_mono fun s _ => ?_
  unfold shIn
  by_cases h : s.val < 10
  · have h' : ((crd c s) 1).val < 10 := h
    rw [dif_pos h, dif_pos h']
    change (_ : sProp 𝕄) ⊢ _
    iintro H
    iexists _
    iapply (Entails.of_eq (loc_sh q d c 0 s ⟨s.val, h⟩ fullShare f)) $$ H
  · have h' : ¬ ((crd c s) 1).val < 10 := h
    rw [dif_neg h, dif_neg h']; exact BI.Entails.refl _

theorem sh_collect (d : Dev nD) (c : Fin 2) (q : Fin 4) (f : S10000x128.Idx → Elt F .f32) :
    (bigSep Finset.univ fun s : Fin 16 => shAt d (crd c s) (refsOf q) (shBuf d (crd c s) f q) (shr s) : sProp 𝕄) = shLoc d c q ↦{fullShare} shC d c f q := by
  rw [pointsTo_piecesOf _ _ (show 0 < 16 by decide) fullShare]
  exact BI.bigSep_congr fun s _ => sh_whole d c q s f (shr s)

theorem vec_split (q : Fin 4) (d : Dev nD) (c : Fin 2) :
    iprop((bigSep Finset.univ fun s : Fin 16 => iprop(tileIn Tf If q d (crd c s) ∗ reached EB (bcell d c s) q.val)) ∗ ownBufs (S d (c.castLE hcore1)))
      ⊢ (iprop((bigSep Finset.univ fun s : Fin 16 => iprop(tileIn Tf If q d (crd c s) ∗ shIn q d (crd c s) ∗ bigSep Finset.univ fun j : Fin 16 => reached EB (bcell d c j) q.val))
        ∗ ((bigSep Finset.univ fun s : Fin 16 => iprop(tileOut Tf If q d (crd c s) ∗ shAt d (crd c s) (refsOf q) (shBuf d (crd c s) (halfOf (Tf d) c) q) (shr s)))
          -∗ iprop((bigSep Finset.univ fun s : Fin 16 => tileOut Tf If q d (crd c s)) ∗ ownBufs (S d (c.castLE hcore1))))) : sProp 𝕄) := by
  obtain ⟨X, hX⟩ := ownBufs_S (F := F) d c q
  rw [hX, bigSep_sep', bigSep_sep', bigSep_sep', bigSep_sep', sh_collect]
  iintro ⟨⟨Ht, #Hr⟩, ⟨%f, Hsh⟩, HX⟩
  isplitl [Ht Hsh]
  · isplitl [Ht]; · iexact Ht
    isplitl [Hsh]
    · ihave Hsh := (Entails.of_eq (congrArg (fun f => (shLoc d c q ↦{fullShare} f : sProp 𝕄)) (shC_shV d c q f).symm)) $$ Hsh
      iapply (at_shRow d c q 0 (shV d c q f)) $$ Hsh
    iapply (bigSep_persistent_const (F := F)) $$ Hr
  iintro ⟨Ht, Hsh⟩
  isplitl [Ht]; · iexact Ht
  isplitl [Hsh]; · iexists _; iexact Hsh
  iexact HX

theorem vec_split' (q : Fin 4) (d : Dev nD) (c : Fin 2) :
    iprop((bigSep Finset.univ fun s : Fin 16 => iprop(tileIn Tf If q d (crd c s) ∗ reached EB (bcell d c s) q.val)) ∗ ownBufs (S d (c.castLE hcore1)))
      ⊢ (iprop(|={Set.univ}=> iprop((bigSep Finset.univ fun s : Fin 16 => iprop(tileIn Tf If q d (crd c s) ∗ shIn q d (crd c s) ∗ bigSep Finset.univ fun j : Fin 16 => reached EB (bcell d c j) q.val))
        ∗ ((bigSep Finset.univ fun s : Fin 16 => iprop(tileOut Tf If q d (crd c s) ∗ shAt d (crd c s) (refsOf q) (shBuf d (crd c s) (halfOf (Tf d) c) q) (shr s)))
          -∗ iprop((bigSep Finset.univ fun s : Fin 16 => tileOut Tf If q d (crd c s)) ∗ ownBufs (S d (c.castLE hcore1)))))) : sProp 𝕄) :=
  BI.Entails.trans (vec_split Tf If q d c) (fupd_intro (PROP := sProp 𝕄) (E := Set.univ))

theorem bigSep_tiles (q : Fin 4) (Φ : Fin 16 → sProp 𝕄) :
    (bigSep Finset.univ fun i : Fin ((K (F := F)).nSub q) => Φ (Fin.cast (nSub_eq (F := F) q) i)) = bigSep Finset.univ Φ :=
  (BI.bigSep_univ_equiv (finCongr (nSub_eq (F := F) q)) Φ).symm

theorem core_eq (q : Fin 4) (c : Fin ((K (F := F)).nCore q)) : (K (F := F)).core q c = (Fin.cast (nCore_eq (F := F) q) c).castLE hcore1 := Fin.ext rfl

theorem vecSplit (q : Fin 4) : (K (F := F)).VecSplit (P Tf If) q := by
  intro d c
  have h := vec_split' Tf If q d (Fin.cast (nCore_eq (F := F) q) c)
  rw [← core_eq, ← bigSep_tiles q (fun s => iprop(tileIn Tf If q d (crd (Fin.cast (nCore_eq (F := F) q) c) s) ∗ shIn q d (crd (Fin.cast (nCore_eq (F := F) q) c) s)
      ∗ bigSep Finset.univ fun j : Fin 16 => reached EB (bcell d (Fin.cast (nCore_eq (F := F) q) c) j) q.val)),
    ← bigSep_tiles q (fun s => iprop(tileOut Tf If q d (crd (Fin.cast (nCore_eq (F := F) q) c) s)
      ∗ shAt d (crd (Fin.cast (nCore_eq (F := F) q) c) s) (refsOf q) (shBuf d (crd (Fin.cast (nCore_eq (F := F) q) c) s) (halfOf (Tf d) (Fin.cast (nCore_eq (F := F) q) c)) q) (shr s)))] at h
  exact h

end Cert.Proof

end
-- ==== Proof.Main.lean ====
/-
  The TensorCore's run: the projection, the reshape of the indices and the four gather calls, each from the table, the
  indices and its result's buffer cut among the tiles; and what the whole program leaves.
-/
module

public import proofs.«01_k».proof.Proof.Region
public import proofs.«01_k».proof.Proof.Oblig
public import Idealize.ShloMosaic.Lib.SparseCore.Quiescent
public import Idealize.ShloMosaic.Lib.SparseCore.Ops
public import Idealize.ShloMosaic.Lib.StableHlo.Run

@[expose] public section

set_option pp.maxSteps 400

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-! ## A call's operands, cut among its tiles -/

/-- A family over all tiles. -/
abbrev tiles (Φ : Fin 2 → Fin 16 → sProp 𝕄) : sProp 𝕄 := bigSep Finset.univ fun c : Fin 2 => bigSep Finset.univ fun s : Fin 16 => Φ c s

theorem tiles_sep (Φ Ψ : Fin 2 → Fin 16 → sProp 𝕄) : tiles (fun c s => iprop(Φ c s ∗ Ψ c s)) = iprop(tiles Φ ∗ tiles Ψ) := by
  refine (BI.bigSep_congr fun c _ => bigSep_sep' _ _ _).trans (bigSep_sep' _ _ _)

theorem bigSep_cores (q : Fin 4) (Φ : Fin 2 → sProp 𝕄) :
    (bigSep Finset.univ fun c : Fin ((K (F := F)).nCore q) => Φ (Fin.cast (nCore_eq (F := F) q) c)) = bigSep Finset.univ Φ :=
  (BI.bigSep_univ_equiv (finCongr (nCore_eq (F := F) q)) Φ).symm

variable (Tf : Dev nD → S20000x128.Idx → Elt F .f32) (If : Dev nD → S2x1x320000.Idx → Elt F .i32)

/-- What the calls share, before call `n`: the table, the indices and the barriers' positions. -/
def mid (d : Dev nD) (n : ℕ) : sProp 𝕄 :=
  iprop(((tcT d).loc main_v0 ↦{fullShare} Tf d) ∗ ((tcT d).loc main_v1 ↦{fullShare} If d)
    ∗ tiles (fun c s => atPos EB (bcell d c s) n ∅ 0) ∗ tiles (fun c s => reached EB (bcell d c s) n))

theorem ows_weaken (d : Dev nD) (q : Fin 4) (G : S160000x128.Idx → Elt F .f32) :
    (tiles fun c s => bigSep (Finset.range (nW (crd c s))) (owG d (crd c s) (refsOf q) (fun w => outBuf d (crd c s) G q w)))
      ⊢ (tiles fun c s => bigSep (Finset.range (nW (crd c s))) (ow (F := F) d (crd c s) (refsOf q)) : sProp 𝕄) := by
  have h : ∀ c s k, (owG d (crd c s) (refsOf q) (fun w => outBuf d (crd c s) G q w) k : sProp 𝕄) ⊢ ow (F := F) d (crd c s) (refsOf q) k := fun c s k => by
    iintro H; iexists _; iexact H
  exact BI.bigSep_mono fun c _ => BI.bigSep_mono fun s _ => BI.bigSep_mono fun k _ => h c s k

/-- Before a call: the tiles' parts, and the indices the call does not read. -/
theorem deal (q : Fin 4) (d : Dev nD) (G : S160000x128.Idx → Elt F .f32) :
    iprop(mid Tf If d q.val ∗ (outLoc d q ↦{fullShare} outAt d G q))
      ⊢ (iprop((bigSep Finset.univ fun c : Fin ((K (F := F)).nCore q) => (P Tf If).st q d c)
        ∗ ((tcT d).loc main_v1 ↦[Finset.univ \ idxSet d q]{fullShare} If d)) : sProp 𝕄) := by
  have e : (bigSep Finset.univ fun c : Fin ((K (F := F)).nCore q) => (P Tf If).st q d c)
      = tiles fun c s => iprop(tileIn Tf If q d (crd c s) ∗ reached EB (bcell d c s) q.val) :=
    bigSep_cores q fun c => bigSep Finset.univ fun s : Fin 16 => iprop(tileIn Tf If q d (crd c s) ∗ reached EB (bcell d c s) q.val)
  rw [e]
  unfold mid tileIn
  rw [tiles_sep, tiles_sep, tiles_sep, tiles_sep, tab_parts d q, idx_parts d q, out_parts d q]
  iintro ⟨⟨Ht, ⟨Hi, Hr⟩, Ha, Hd⟩, Ho⟩
  isplitr [Hr]; swap; (· iexact Hr)
  isplitr [Hd]; swap; (· iexact Hd)
  isplitl [Ht]; · iexact Ht
  isplitl [Hi]; · iexact Hi
  isplitl [Ho]; · iapply (ows_weaken d q G); iexact Ho
  iexact Ha

/-- After it: what the tiles give back, put together. -/
theorem collect (q : Fin 4) (d : Dev nD) :
    iprop((bigSep Finset.univ fun c : Fin ((K (F := F)).nCore q) => (P Tf If).dn q d c)
        ∗ ((tcT d).loc main_v1 ↦[Finset.univ \ idxSet d q]{fullShare} If d))
      ⊢ (iprop(mid Tf If d (q.val + 1) ∗ (outLoc d q ↦{fullShare} outAt d (rowsAt (Tf d) (If d) q) q)) : sProp 𝕄) := by
  have e : (bigSep Finset.univ fun c : Fin ((K (F := F)).nCore q) => (P Tf If).dn q d c)
      = tiles fun c s => tileOut Tf If q d (crd c s) :=
    bigSep_cores q fun c => bigSep Finset.univ fun s : Fin 16 => tileOut Tf If q d (crd c s)
  rw [e]
  unfold mid tileOut
  rw [tiles_sep, tiles_sep, tiles_sep, tiles_sep, tab_parts d q, idx_parts d q, out_parts d q]
  iintro ⟨⟨Ht, Hi, Ho, Ha, Hd⟩, Hr⟩
  isplitr [Ho]; swap; (· iexact Ho)
  isplitl [Ht]; · iexact Ht
  isplitl [Hi Hr]
  · isplitl [Hi]; · iexact Hi
    iexact Hr
  isplitl [Ha]; · iexact Ha
  iexact Hd

/-- A call, from its operands to its result. -/
theorem call_step (κ : GSem nD τ sig → ℕ) (d : Dev nD) (q : Fin 4) (G : S160000x128.Idx → Elt F .f32) {Φ : PUnit → sProp 𝕄} :
    iprop((K (F := F)).ctx EH (P Tf If) κ ∗ (K (F := F)).tcSt EH d q.val ∗ mid Tf If d q.val ∗ (outLoc d q ↦{fullShare} outAt d G q)
        ∗ (iprop((K (F := F)).tcSt EH d (q.val + 1) ∗ mid Tf If d (q.val + 1) ∗ (outLoc d q ↦{fullShare} outAt d (rowsAt (Tf d) (If d) q) q)) -∗ Φ ⟨⟩))
      ⊢ wp frame (wpE ((K (F := F)).defs (D (F := F))) 𝒱 (SparseCore.T d) none) Set.univ ((K (F := F)).run d q) Φ := by
  iintro ⟨Hctx, Hst, Hm, Ho, Hk⟩
  ihave H := (deal Tf If q d G) $$ [Hm Ho]
  · isplitl [Hm] <;> iassumption
  icases H with ⟨Hin, Hr⟩
  iapply ((K (F := F)).wp_run (D (F := F)) 𝒱 (EH := EH) (P := P Tf If) κ d q)
  isplitl [Hctx]; · iexact Hctx
  isplitl [Hst]; · iexact Hst
  isplitl [Hin]; · iexact Hin
  iintro ⟨Hst, Hdn⟩
  iapply Hk
  isplitl [Hst]; · iexact Hst
  iapply (SparseCore.ent (collect Tf If q d))
  isplitl [Hdn]; · iexact Hdn
  iexact Hr

/-! ## @main on the TensorCore -/

variable (m : (ℓ : Loc nD τ sig) → Buf (Elt F) ℓ) (ρ : Dev nD → PrngReg)

/-- The contents @main is entered with. -/
abbrev V₀ (c : Dev nD) (b : Ref sig .tc) : Buf (Elt F) ((c : Thread nD τ).loc b) := m ((c : Thread nD τ).loc b)
/-- The table and the indices the calls read. -/
def tabM (d : Dev nD) : S20000x128.Idx → Elt F .f32 := tabOf (V₀ m) d
def idxM (d : Dev nD) : S2x1x320000.Idx → Elt F .i32 := shapeCast S2x1x320000 (m ((tcT d).loc main_arg1)) shapeCasts_S2x320000_S2x1x320000

theorem unscopedBufs_eq (d : Dev nD) (W : (b : Ref sig .tc) → Buf (Elt F) ((d.tc : Thread nD τ).loc b)) :
    (unscopedBufs d W : sProp 𝕄) = iprop(((tcT d).loc main_arg0 ↦{fullShare} W main_arg0) ∗ ((tcT d).loc main_arg1 ↦{fullShare} W main_arg1)
      ∗ ((tcT d).loc main_arg2 ↦{fullShare} W main_arg2) ∗ ((tcT d).loc main_v0 ↦{fullShare} W main_v0) ∗ ((tcT d).loc main_v1 ↦{fullShare} W main_v1)
      ∗ ((tcT d).loc main_v2 ↦{fullShare} W main_v2) ∗ ((tcT d).loc main_v3 ↦{fullShare} W main_v3) ∗ ((tcT d).loc main_v4 ↦{fullShare} W main_v4)
      ∗ ((tcT d).loc main_v5 ↦{fullShare} W main_v5)) := by
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The indices reshaped. -/
theorem reshape_step (d : Dev nD) {Φ : PUnit → sProp 𝕄} :
    iprop(boundary (SparseCore.T d) ∗ ((tcT d).loc main_arg1 ↦{fullShare} m ((tcT d).loc main_arg1)) ∗ ((tcT d).loc main_v1 ↦{fullShare} m ((tcT d).loc main_v1))
        ∗ (iprop(boundary (SparseCore.T d) ∗ ((tcT d).loc main_arg1 ↦{fullShare} m ((tcT d).loc main_arg1)) ∗ ((tcT d).loc main_v1 ↦{fullShare} idxM m d)) -∗ Φ ⟨⟩))
      ⊢ wp frame (wpE ((K (F := F)).defs (D (F := F))) 𝒱 (SparseCore.T d) none) Set.univ
          (hlo rfl (StableHlo.reshape main_arg1 main_v1 (rfl : (.i32 : EltTy) = .i32) shapeCasts_S2x320000_S2x1x320000) (fun _ => .ret ⟨⟩)) Φ := by
  have key : ∀ W : Valuation τ sig (Elt F), (StableHlo.held (SparseCore.T d) {Proc.devRef .tc main_arg1, Proc.devRef .tc main_v1} W : sProp 𝕄)
      = iprop(((tcT d).loc main_arg1 ↦{fullShare} W (Proc.devRef .tc main_arg1)) ∗ ((tcT d).loc main_v1 ↦{fullShare} W (Proc.devRef .tc main_v1))) := fun W => by
    unfold StableHlo.held
    rw [SparseCore.bigSep_insert' (by decide), bigSep_singleton]
  have e1 := key fun b => m (d, b)
  have e2 := key ((StableHlo.reshape (τ := τ) main_arg1 main_v1 (rfl : (.i32 : EltTy) = .i32) shapeCasts_S2x320000_S2x1x320000).result fun b => m (d, b))
  rw [StableHlo.reshape_result, StableHlo.reshape_result_ne (h := by decide)] at e2
  iintro ⟨Hb, Ha, Hv, Hk⟩
  iapply (StableHlo.wp_hlo_within (defs := (K (F := F)).defs (D (F := F))) 𝒱 (SparseCore.T d) none Set.univ
    (S := {Proc.devRef .tc main_arg1, Proc.devRef .tc main_v1}) (V := fun b => m (d, b)) (Finset.Subset.refl _)) $$ [Hb Ha Hv]
  · isplitl [Hb]; · iexact Hb
    rw [e1]
    isplitl [Ha]; · iexact Ha
    iexact Hv
  rw [e2]
  iintro ⟨Hb, Ha, Hv⟩
  rw [wp_ret]
  imodintro
  iapply Hk
  isplitl [Hb]; · iexact Hb
  isplitl [Ha]; · iexact Ha
  iexact Hv

/-- What @main leaves: the arguments as they were, the results, and every barrier's counter at zero. -/
def FIN (d : Dev nD) : sProp 𝕄 :=
  iprop(((tcT d).loc main_arg0 ↦{fullShare} m ((tcT d).loc main_arg0)) ∗ ((tcT d).loc main_arg1 ↦{fullShare} m ((tcT d).loc main_arg1))
    ∗ ((tcT d).loc main_arg2 ↦{fullShare} m ((tcT d).loc main_arg2))
    ∗ (outLoc d 0 ↦{fullShare} outAt d (rowsAt (tabM m d) (idxM m d) 0) 0) ∗ (outLoc d 1 ↦{fullShare} outAt d (rowsAt (tabM m d) (idxM m d) 1) 1)
    ∗ (outLoc d 2 ↦{fullShare} outAt d (rowsAt (tabM m d) (idxM m d) 2) 2) ∗ (outLoc d 3 ↦{fullShare} outAt d (rowsAt (tabM m d) (idxM m d) 3) 3)
    ∗ tiles fun c s => semVal (bcell d c s) 0)

/-- The barriers, after the last call. -/
theorem close_all (d : Dev nD) :
    iprop((∃ κ : GSem nD τ sig → ℕ, tiles fun c s => cellInv EB (bRd Tf) (κ (bcell d c s)) (bcell d c s)) ∗ tiles (fun c s => atPos EB (bcell d c s) 4 ∅ 0))
      ⊢ (iprop(|={Set.univ}=> tiles fun c s => semVal (bcell d c s) 0) : sProp 𝕄) := by
  have h1 : ∀ (κ : GSem nD τ sig → ℕ) (c : Fin 2) (s : Fin 16), iprop(cellInv EB (bRd Tf) (κ (bcell d c s)) (bcell d c s) ∗ atPos EB (bcell d c s) 4 ∅ 0)
      ⊢ (iprop(|={Set.univ}=> semVal (bcell d c s) 0) : sProp 𝕄) := fun κ c s =>
    Rounds.cell_close EB (bRd Tf) (Set.mem_univ _) (fun h => h) (fun r hr => bRd_duties_end Tf _ r hr)
  iintro ⟨⟨%κ, Hc⟩, Ha⟩
  ihave H := (Entails.of_eq (tiles_sep (fun c s => cellInv EB (bRd Tf) (κ (bcell d c s)) (bcell d c s)) (fun c s => atPos EB (bcell d c s) 4 ∅ 0)).symm) $$ [Hc Ha]
  · isplitl [Hc] <;> iassumption
  iapply (SparseCore.ent ((BI.bigSep_mono fun c _ => (BI.bigSep_mono fun s _ => h1 κ c s).trans (bigSep_fupd _ _)).trans (bigSep_fupd _ _)))
  iexact H

/-- The projection call. -/
theorem project_step (d : Dev nD) {Φ : PUnit → sProp 𝕄} :
    iprop(boundary (SparseCore.T d) ∗ (reg (V₀ m)).pre d ∗ levAts (K (F := F)).L (K (F := F)).lev
        ∗ Pipeline.cellsGhost (Pipeline.pin (pcfgs (F := F)) adm) EP 0 d ∗ Pipeline.toksInit (Pipeline.pin (pcfgs (F := F)) adm) EP 0 d
        ∗ (iprop(boundary (SparseCore.T d) ∗ (reg (V₀ m)).post d) -∗ Φ ⟨⟩))
      ⊢ wp frame (wpE ((K (F := F)).defs (D (F := F))) 𝒱 (SparseCore.T d) none) Set.univ
          (Prog.lift (.customCall (SparseCore.inner (Pipeline.entry 0)) ())) Φ := by
  have hl := (K (F := F)).wp_liftProg (D (F := F)) 𝒱 (SparseCore.T d) Set.univ none (.op (.customCall (Pipeline.entry 0) ()) .ret) Φ
  rw [SparseCore.liftProg_op] at hl
  have h := Pipeline.RegionSeg.wp (pcfgs (F := F)) adm (pdats (V₀ m)) (none : HIx 4) phinj EP defs₀ 𝒱₀ (K (F := F)).L (K (F := F)).lev (reg (V₀ m)) d none
    (fun u hu => nomatch hu) .ret Φ
  iintro ⟨Hb, Hpre, Hlev, Hc, Ht, Hk⟩
  iapply (SparseCore.ent (h.trans hl))
  isplitl [Hk]
  · iintro H
    rw [wp_ret]
    imodintro
    iapply Hk
    iexact H
  isplitl [Hb]; · iexact Hb
  isplitl [Hpre]; · iexact Hpre
  isplitl [Hlev]; · iexact Hlev
  isplitl [Hc] <;> iassumption

/-- Waits at no stage are below every level, -/
theorem wbelow_of_none (d : Dev nD) (W : Waits sig (HIx 4)) (h : ∀ p ∈ W, p.2 = none) (b : ℕ) : (K (F := F)).WBelow (SparseCore.T d) W b := fun p hp => by
  rw [h p hp]; exact Nat.zero_le b
/-- and those at level zero are at no stage. -/
theorem none_of_wbelow (d : Dev nD) (W : Waits sig (HIx 4)) (h : (K (F := F)).WBelow (SparseCore.T d) W 0) : ∀ p ∈ W, p.2 = none := fun p hp => by
  have h1 := h p hp
  match e : p.2 with
  | none => rfl
  | some q => rw [e] at h1; exact absurd ((K (F := F)).lev_some_pos (SparseCore.T d, p.1) q) (by omega)

/-- @main: the projection, the reshape and the four calls. -/
theorem hmain (κ : GSem nD τ sig → ℕ) (d : Dev nD) :
    iprop((K (F := F)).ctx EH (P (tabM m) (idxM m)) κ ∗ (K (F := F)).tcSt EH d 0 ∗ (K (F := F)).tcRes m ρ d ∗ G (tabM m) d)
      ⊢ wp frame (wpE ((K (F := F)).defs (D (F := F))) 𝒱 (SparseCore.T d) none) Set.univ (main d)
          fun _ => iprop((K (F := F)).tcSt EH d 4 ∗ FIN m d ∗ (K (F := F)).tcEnd d) := by
  obtain ⟨R, hst⟩ : ∃ R : sProp 𝕄, (K (F := F)).tcSt EH d 0
      = iprop((∃ W, ⌜(K (F := F)).WBelow (SparseCore.T d) W 0⌝ ∗ owes (SparseCore.T d) ((K (F := F)).Otc d 0) W) ∗ R) := ⟨_, rfl⟩
  have hpre : (reg (V₀ m)).pre d = (iprop(unscopedBufs d (V₀ m d) ∗ ∃ W : Waits sig (HIx 4), ⌜∀ p ∈ W, p.2 = none⌝ ∗ owes (d : Thread nD τ) ((K (F := F)).Otc d 0) W) : sProp 𝕄) := rfl
  have hpost : (reg (V₀ m)).post d = (iprop(unscopedBufs d (Vp (V₀ m) d) ∗ ∃ W : Waits sig (HIx 4), ⌜∀ p ∈ W, p.2 = none⌝ ∗ owes (d : Thread nD τ) ((K (F := F)).Otc d 0) W) : sProp 𝕄) := rfl
  unfold SparseCore.Cfg.tcRes SparseCore.Cfg.tcEnd G
  simp only [main, wp_bind, wp_pure]
  iintro ⟨#Hctx, Hst, ⟨Hb, Hub, Hts, -⟩, Hat, Hrd, Hinv, Hcg, Htk⟩
  ihave #Hlev := (SparseCore.Cfg.ctx_levAts κ) $$ Hctx
  ihave Hst := (Entails.of_eq hst) $$ Hst
  icases Hst with ⟨⟨%W, %hW, HO⟩, Hst⟩
  iapply (project_step m d)
  isplitl [Hb]; · iexact Hb
  isplitl [Hub HO]
  · rw [hpre]
    isplitl [Hub]; · iexact Hub
    iexists W
    isplitr; · ipureintro; exact none_of_wbelow d W hW
    iexact HO
  isplitr; · iexact Hlev
  isplitl [Hcg]; · iexact Hcg
  isplitl [Htk]; · iexact Htk
  rw [hpost, unscopedBufs_eq, Vp_tab, Vp_ne _ d main_arg0 (by decide), Vp_ne _ d main_arg1 (by decide), Vp_ne _ d main_arg2 (by decide), Vp_ne _ d main_v1 (by decide),
    Vp_ne _ d main_v2 (by decide), Vp_ne _ d main_v3 (by decide), Vp_ne _ d main_v4 (by decide), Vp_ne _ d main_v5 (by decide)]
  iintro ⟨Hb, ⟨H0, H1, H2, Ht, Hi, Ho0, Ho1, Ho2, Ho3⟩, %W', %hW', HO⟩
  iapply (reshape_step m d)
  isplitl [Hb]; · iexact Hb
  isplitl [H1]; · iexact H1
  isplitl [Hi]; · iexact Hi
  iintro ⟨Hb, H1, Hi⟩
  ihave Hst := (Entails.of_eq hst.symm) $$ [HO Hst]
  · isplitl [HO]
    · iexists W'
      isplitr; · ipureintro; exact wbelow_of_none d W' hW' 0
      iexact HO
    iexact Hst
  iapply (call_step (tabM m) (idxM m) κ d 0 (m (outLoc d 0)))
  isplitr; · iexact Hctx
  isplitl [Hst]; · iexact Hst
  isplitl [Ht Hi Hat Hrd]
  · unfold mid
    isplitl [Ht]; · iexact Ht
    isplitl [Hi]; · iexact Hi
    isplitl [Hat]; · iexact Hat
    iexact Hrd
  isplitl [Ho0]; · iexact Ho0
  iintro ⟨Hst, Hm, Ho0⟩
  iapply (call_step (tabM m) (idxM m) κ d 1 (m (outLoc d 1)))
  isplitr; · iexact Hctx
  isplitl [Hst]; · iexact Hst
  isplitl [Hm]; · iexact Hm
  isplitl [Ho1]; · iexact Ho1
  iintro ⟨Hst, Hm, Ho1⟩
  iapply (call_step (tabM m) (idxM m) κ d 2 (m (outLoc d 2)))
  isplitr; · iexact Hctx
  isplitl [Hst]; · iexact Hst
  isplitl [Hm]; · iexact Hm
  isplitl [Ho2]; · iexact Ho2
  iintro ⟨Hst, Hm, Ho2⟩
  iapply (call_step (tabM m) (idxM m) κ d 3 (m (outLoc d 3)))
  isplitr; · iexact Hctx
  isplitl [Hst]; · iexact Hst
  isplitl [Hm]; · iexact Hm
  isplitl [Ho3]; · iexact Ho3
  iintro ⟨Hst, Hm, Ho3⟩
  unfold mid
  icases Hm with ⟨-, -, Hat, -⟩
  imod (close_all (tabM m) d) $$ [Hinv Hat] with Hz
  · isplitl [Hinv]; · iexact Hinv
    iexact Hat
  imodintro
  isplitl [Hst]; · iexact Hst
  isplitr [Hb Hts]
  · unfold FIN
    isplitl [H0]; · iexact H0
    isplitl [H1]; · iexact H1
    isplitl [H2]; · iexact H2
    isplitl [Ho0]; · iexact Ho0
    isplitl [Ho1]; · iexact Ho1
    isplitl [Ho2]; · iexact Ho2
    isplitl [Ho3]; · iexact Ho3
    iexact Hz
  isplitl [Hb] <;> iassumption

/-! ## The program's run -/

def fq (d : Dev nD) (s' : Phys nD τ sig (Elt F)) : Prop :=
  (s'.mem.mem ((tcT d).loc main_arg0) = m ((tcT d).loc main_arg0) ∧ s'.mem.mem ((tcT d).loc main_arg1) = m ((tcT d).loc main_arg1)
      ∧ s'.mem.mem ((tcT d).loc main_arg2) = m ((tcT d).loc main_arg2))
    ∧ (∀ q : Fin 4, s'.mem.mem (outLoc d q) = outAt d (rowsAt (tabM m d) (idxM m d) q) q)
    ∧ ∀ (c : Fin 2) (s : Fin 16), s'.mem.sem (bcell d c s) = 0

theorem read_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- A part of what is left tells of the final memory. -/
theorem part_reads {A B : sProp 𝕄} {φ : Prop} (s' : Phys nD τ sig (Elt F)) (hA : A ⊢ B) (h : iprop(B ∗ SI s') ⊢ (⌜φ⌝ : sProp 𝕄)) :
    iprop(A ∗ SI s') ⊢ (⌜φ⌝ : sProp 𝕄) := (sep_mono_left hA).trans h

theorem hfin (d : Dev nD) (s' : Phys nD τ sig (Elt F)) : iprop(FIN m d ∗ SI s') ⊢ (⌜fq m d s'⌝ : sProp 𝕄) := by
  have h0 := part_reads s' (A := FIN m d) (by unfold FIN; exact sep_elim_left) (read_whole s' _ _)
  have h1 := part_reads s' (A := FIN m d) (by unfold FIN; exact sep_elim_right.trans sep_elim_left) (read_whole s' _ _)
  have h2 := part_reads s' (A := FIN m d) (by unfold FIN; exact sep_elim_right.trans (sep_elim_right.trans sep_elim_left)) (read_whole s' _ _)
  have h3 := part_reads s' (A := FIN m d) (by unfold FIN; exact sep_elim_right.trans (sep_elim_right.trans (sep_elim_right.trans sep_elim_left))) (read_whole s' _ _)
  have h4 := part_reads s' (A := FIN m d) (by unfold FIN; exact sep_elim_right.trans (sep_elim_right.trans (sep_elim_right.trans (sep_elim_right.trans sep_elim_left)))) (read_whole s' _ _)
  have h5 := part_reads s' (A := FIN m d) (by unfold FIN; exact sep_elim_right.trans (sep_elim_right.trans (sep_elim_right.trans (sep_elim_right.trans (sep_elim_right.trans sep_elim_left))))) (read_whole s' _ _)
  have h6 := part_reads s' (A := FIN m d) (by unfold FIN; exact sep_elim_right.trans (sep_elim_right.trans (sep_elim_right.trans (sep_elim_right.trans (sep_elim_right.trans (sep_elim_right.trans sep_elim_left)))))) (read_whole s' _ _)
  have h7 : ∀ (c : Fin 2) (s : Fin 16), iprop(FIN m d ∗ SI s') ⊢ (⌜s'.mem.sem (bcell d c s) = 0⌝ : sProp 𝕄) := fun c s =>
    part_reads s' (B := semVal (bcell d c s) 0)
      (by
        unfold FIN
        exact sep_elim_right.trans (sep_elim_right.trans (sep_elim_right.trans (sep_elim_right.trans (sep_elim_right.trans (sep_elim_right.trans (sep_elim_right.trans
          (SparseCore.ent ((bigSep_elim (Finset.mem_univ c)).trans (bigSep_elim (Finset.mem_univ s)))))))))))
      (SparseCore.Cfg.semVal_zero_read _ s')
  exact fun x hx => ⟨⟨h0 x hx, h1 x hx, h2 x hx⟩, fun q => match q with
    | 0 => h3 x hx | 1 => h4 x hx | 2 => h5 x hx | 3 => h6 x hx, fun c s => h7 c s x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, s⟩, -, rfl⟩ := Finset.mem_image.mp hg
  exact (h d).2.2 c s

/-- What holds of the final memory. -/
def QC : PUnit × MemSt nD τ sig (Elt F) → Prop := fun r =>
  (∀ c : Dev nD, r.2.mem ((tcT c).loc main_arg0) = m ((tcT c).loc main_arg0) ∧ r.2.mem ((tcT c).loc main_arg1) = m ((tcT c).loc main_arg1)
      ∧ r.2.mem ((tcT c).loc main_arg2) = m ((tcT c).loc main_arg2))
    ∧ (∀ (c : Dev nD) (q : Fin 4), r.2.mem (outLoc c q) = outAt c (rowsAt (tabM m c) (idxM m c) q) q) ∧ r.2.sem = fun _ => 0

theorem run_main (hI : ∀ d x, (idxM m d x).toNat < 10000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabM m) (idxM m)) (hA := hA m) facts v₀
    (fun q hq => absurd ((kind_eq (F := F) q).symm.trans hq) (by decide))
    (fun q _ => tileObl (tabM m) (idxM m) hI q)
    (fun q _ => vecSplit (tabM m) (idxM m) q)
    m ρ main (G (tabM m)) (FIN m) (u₀ (F := F)) (hu₀ (tabM m) (idxM m)) (hmain m ρ) (fq m) (hfin m) (QC m)
    (fun _ h hz => ⟨fun c => (h c).1, fun c q => (h c).2.1 q, hz⟩)

end Cert.Proof

end
-- ==== Proof.Frames.lean ====
/-
The frame claims.

The precondition bounds every word of `edge_index` by the number of rows of `nfeat`, which is what the run of the
kernel (`run_main`) asks. The run is stated once, over any float values; the two frames of the kernel are its readings
at the machine's floats and at the extended reals. The reference declares no semaphore.
-/
module

public import proofs.«01_k».proof.Proof.Main
public import proofs.«01_k».proof.Proof.Gen.ReferenceIdeal.Run
public import proofs.«01_k».proof.Proof.Gen.Kernel
public import proofs.«01_k».proof.Proof.Gen.ReferenceIdeal
public import proofs.«01_k».proof.Proof.Gen.Pre_in_range
public import proofs.«01_k».proof.Defs
public import Idealize.ShloMosaic.Lib.ReduceAll
public import Idealize.ShloMosaic.Lib.Affine
public import Idealize.ShloMosaic.Lib.StableHlo.Predicate

@[expose] public section

noncomputable section
namespace Cert.Proof

open Idealize Idealize.ShloMosaic
open Cert.Pre_in_range.Gen (facts)

/-- The shape of a scalar has one index. -/
theorem scalar_subsingleton : Subsingleton Cert.Pre_in_range.S_.Idx := ⟨fun _ _ => funext fun a => a.elim0⟩

/-- A word that is at least zero and below `10000` as a signed number is below `10000` as a natural number. -/
theorem toNat_lt_of_signed {x : BitVec 32} (h0 : IntOp.cmpi .sge x 0#32 = 1#1) (h1 : IntOp.cmpi .slt x 10000#32 = 1#1) :
    x.toNat < 10000 := by
  have a : (0#32 : BitVec 32).sle x = true := (StableHlo.Predicate.ofBool_eq_one_iff _).1 h0
  have b : x.slt 10000#32 = true := (StableHlo.Predicate.ofBool_eq_one_iff _).1 h1
  rw [BitVec.sle_iff_toInt_le] at a
  rw [BitVec.slt_iff_toInt_lt] at b
  have e0 : (0#32 : BitVec 32).toInt = 0 := by decide
  have e1 : (10000#32 : BitVec 32).toInt = 10000 := by decide
  rw [e0] at a
  rw [e1] at b
  have hx := x.isLt
  rw [BitVec.toInt_eq_toNat_cond] at a b
  split at a <;> omega

section
variable {F : FTy → Type} [FloatOps F]

/-- The precondition bounds every word of the indices. -/
theorem in_range_lt (a0 : FVec F Cert.Pre_in_range.S10000x128 .f32) (a1 : IVec Cert.Pre_in_range.S2x320000 32)
    (a2 : FVec F Cert.Pre_in_range.S384x128 .f32) (h : Cert.Pre_in_range.fn a0 a1 a2 = fun _ => 1#1)
    (i : Cert.Pre_in_range.S2x320000.Idx) : (a1 i).toNat < 10000 := by
  haveI := scalar_subsingleton
  have hj := congrFun h (fun a => a.elim0)
  unfold Cert.Pre_in_range.fn at hj
  obtain ⟨hl, hr⟩ := IntOp.andi_eq_one.1 hj
  exact toNat_lt_of_signed (Host.reduce_andi_all _ _ _ _ _ hl i) (Host.reduce_andi_all _ _ _ _ _ hr i)

/-- So the words of the reshaped indices are row numbers of `nfeat`. -/
theorem idxM_lt (m : (ℓ : Loc Cert.KernelIdeal.nD Cert.KernelIdeal.τ Cert.KernelIdeal.sig) → Buf (Elt F) ℓ)
    (h : ∀ d, ∀ i : Cert.KernelIdeal.S2x320000.Idx, ((m ((tcT d).loc Cert.KernelIdeal.main_arg1)) i).toNat < 10000) (d) (x) :
    (idxM m d x).toNat < 10000 := h d _

end

/-- The two prints of the kernel have the same bodies: compared at each label of each processor. -/
theorem bodies_eq : Cert.Kernel.defs₀ (F := Bits) = Cert.KernelIdeal.defs₀ (F := Bits) := by
  funext p ℓ a
  unfold Cert.Kernel.defs₀ Cert.KernelIdeal.defs₀
  match p, ℓ, a with
  | .tc, 0, (t, s) => rfl
  | .scVector c s, 1, _ => rfl
  | .scVector c s, 2, _ => rfl
  | .scVector c s, 3, _ => rfl
  | .scVector c s, 4, _ => rfl
  | .scVector c s, 0, _ => rfl
  | .tc, 1, _ => rfl
  | .tc, 2, _ => rfl
  | .tc, 3, _ => rfl
  | .tc, 4, _ => rfl
  | .scScalar c, ℓ, _ => rfl

/-- So they have the same table of bodies. -/
theorem table_eq : Cert.Kernel.defs (F := Bits) = Cert.KernelIdeal.defs (F := Bits) := by
  unfold Cert.Kernel.defs Cert.KernelIdeal.defs
  rw [bodies_eq]
  rfl

/-- The kernel as written runs to the end from every memory in range, leaves its arguments as they were, and leaves its
    semaphores at zero. -/
theorem frame_kernel : Cert.quiescent_Kernel := by
  intro m ρ hp
  rw [table_eq]
  exact (θ_run (Cert.KernelIdeal.defs (F := Bits)) _ _).mono (fun r (h : QC (F := Bits) m r) => ⟨h.1, h.2.2⟩)
    (run_main (F := Bits) m ρ (idxM_lt m fun d => in_range_lt _ _ _ (hp d)))

/-- So does the kernel over the extended reals. -/
theorem frame_kernelIdeal : Cert.quiescent_KernelIdeal := fun m ρ hp =>
  (θ_run Cert.KernelIdeal.defs _ _).mono (fun _ h => ⟨h.1, h.2.2⟩)
    (run_main (F := Ideal) m ρ (idxM_lt m fun d => in_range_lt _ _ _ (hp d)))

/-- The reference leaves its arguments as they were, and it declares no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

/-- The same from the memories in range. -/
theorem frame_reference_in_range : Cert.quiescent_ReferenceIdeal_pre_in_range := fun m ρ _ =>
  frame_reference m ρ trivial

end Cert.Proof

end
-- ==== Proof.TableValue.lean ====
/-
  The table over the extended reals: row `10000·h + r` of it is row `r` of the features times the `(h + 1)`-th 128 rows of the
  weights, for the two ends `h` of an edge.
-/
module

public import proofs.«01_k».proof.Proof.Main
public import Idealize.ShloMosaic.Lib.MatmulPlain
public import Idealize.ShloMosaic.Lib.Pipeline.ValueKit.Geometry

@[expose] public section

noncomputable section

namespace Cert.Proof

open Cert.KernelIdeal Cert.KernelIdeal.Gen
open Idealize.ShloMosaic
open Idealize.ShloMosaic.TcCoe
open Idealize.ShloMosaic.ValueIdx

/-- The features at row `r` and column `k`, with the row taken modulo their number. -/
def nfAt (A : S10000x128.Idx → Elt Ideal .f32) (r : Nat) (k : Fin 128) : EReal :=
  A (ix2 (⟨r % 10000, Nat.mod_lt _ (by decide)⟩ : Fin 10000) k)

/-- The weights at row `128·(h + 1) + k` and column `j`, with the block taken modulo three. -/
def wAt (W : S384x128.Idx → Elt Ideal .f32) (h : Nat) (k j : Fin 128) : EReal :=
  W (ix2 (⟨128 * ((h + 1) % 3) + k.val, by have := k.isLt; have := Nat.mod_lt (h + 1) (show 0 < 3 by decide); omega⟩ : Fin 384) j)

/-- Entry `j` of row `r` of the features projected by block `h + 1` of the weights. -/
def proj (A : S10000x128.Idx → Elt Ideal .f32) (W : S384x128.Idx → Elt Ideal .f32) (h r : Nat) (j : Fin 128) : EReal :=
  ∑ k : Fin 128, nfAt A r k * wAt W h k j

/-- The blocks' positions at a point. -/
theorem block_index : ∀ t : Fin cfg0.N, win0_0.index t = ![0, 0] ∧ win0_1.index t = ![t.val + 1, 0] ∧ win0_2.index t = ![t.val, 0] :=
  (by decide +kernel : ∀ t : Fin grid0.N, _)

/-- The product a point computes, at an entry. -/
theorem pay_apply (A : S10000x128.Idx → Elt Ideal .f32) (B : S128x128.Idx → Elt Ideal .f32) (a : Fin 10000) (b : Fin 128) :
    k0_pay1 (F := Ideal) A B (ix2 a b) = ∑ k : Fin 128, (A (ix2 a k) * B (ix2 k b) : EReal) := by
  unfold k0_pay1
  refine (Ideal.matmul_plain_apply none A B _ a b).trans ?_
  show Ideal.ofBits .f32 0x00000000#32 + _ = _
  rw [Ideal.ofBits_zero_f32, zero_add]

variable (V : (c : Dev nD) → (b : Ref sig .tc) → Buf (Elt Ideal) ((c : Thread nD τ).loc b))

theorem blkA_apply (c : Dev nD) (t : Fin cfg0.N) (a : Fin 10000) (k : Fin 128) :
    blkA V c t (ix2 a k) = V c main_arg0 (ix2 a k) := by
  have h0 : (cfg0.win 0).index t = ![0, 0] := (block_index t).1
  refine congrArg (V c main_arg0) (funext fun x => Fin.ext ?_)
  refine (Pipeline.Window.rect_emb_val (cfg0.win 0) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blkB_apply (c : Dev nD) (t : Fin cfg0.N) (k j : Fin 128) :
    blkB V c t (ix2 k j) = wAt (V c main_arg2) t.val k j := by
  have ht : t.val < 2 := t.isLt
  have h0 : (cfg0.win 1).index t = ![t.val + 1, 0] := (block_index t).2.1
  unfold wAt
  refine congrArg (V c main_arg2) (funext fun x => Fin.ext ?_)
  refine (Pipeline.Window.rect_emb_val (cfg0.win 1) t (ix2 k j) x rfl).trans ?_
  rw [h0]
  match x with
  | ⟨0, _⟩ =>
    show (t.val + 1) * 128 + k.val = 128 * ((t.val + 1) % 3) + k.val
    rw [Nat.mod_eq_of_lt (by omega), Nat.mul_comm]
  | ⟨1, _⟩ => exact (congrArg (· + j.val) (Nat.zero_mul _)).trans (Nat.zero_add _)

/-- What a point writes back, at an entry. -/
theorem entry (c : Dev nD) (t : Fin cfg0.N) (a : Fin 10000) (b : Fin 128) :
    k0_pay1 (F := Ideal) (blkA V c t) (blkB V c t) (ix2 a b)
      = proj (V c main_arg0) (V c main_arg2) ((t.val * 10000 + a.val) / 10000) (t.val * 10000 + a.val) b := by
  have d0 : (t.val * 10000 + a.val) / 10000 = t.val := by omega
  have d1 : (t.val * 10000 + a.val) % 10000 = a.val := by omega
  refine (pay_apply (blkA V c t) (blkB V c t) a b).trans (Finset.sum_congr rfl fun k _ => ?_)
  rw [d0]
  refine congrArg₂ (fun x y : EReal => x * y) ((blkA_apply V c t a k).trans ?_) (blkB_apply V c t k b)
  unfold nfAt
  refine congrArg (fun r : Fin 10000 => V c main_arg0 (ix2 r k)) (Fin.ext d1.symm)

/-- The table's entries. -/
theorem tabOf_apply (c : Dev nD) (i : S20000x128.Idx) :
    tabOf V c i = proj (V c main_arg0) (V c main_arg2) ((i 0).val / 10000) ((i 0).val) (i 1) := by
  refine congrFun (Pipeline.Dat.arrAt_eq_of_covers (dat V c) 2
    (fun i => proj (V c main_arg0) (V c main_arg2) ((i 0).val / 10000) ((i 0).val) (i 1)) (by decide +kernel) ?_ (Memref.isWhole_whole _)) i
  intro t _ y
  have h0 : (cfg0.win 2).index t = ![t.val, 0] := (block_index t).2.2
  have hy0 : (y 0).val < 10000 := (y 0).isLt
  have e0 : ((((cfg0.win 2).blk t).view.emb y : S20000x128.Idx) 0).val = t.val * 10000 + (y 0).val := by
    refine (Pipeline.Window.rect_emb_val (cfg0.win 2) t y 0 rfl).trans ?_
    rw [h0]; rfl
  have e1 : (((cfg0.win 2).blk t).view.emb y : S20000x128.Idx) 1 = (y 1 : Fin 128) := by
    refine Fin.ext ((Pipeline.Window.rect_emb_val (cfg0.win 2) t y 1 rfl).trans ?_)
    rw [h0]; exact (congrArg (· + (y 1).val) (Nat.zero_mul _)).trans (Nat.zero_add _)
  rw [e0, e1]
  exact (congrArg (k0_pay1 (F := Ideal) (blkA V c t) (blkB V c t)) (eq_ix2 (y : S10000x128.Idx))).trans (entry V c t (y 0) (y 1))

end Cert.Proof

end
-- ==== Proof.RefValue.lean ====
/-
  The reference's results over the extended reals, at an entry. Where the row numbers are in range, the wrapping of a
  negative number and the filling of a row out of range leave the looked-up rows as they are, so an end's part is the
  features of the row its number names times that end's block of the weights.
-/
module

public import proofs.«01_k».proof.Proof.TableValue
public import proofs.«01_k».proof.Proof.Gen.ReferenceIdeal.Run
public import Idealize.ShloMosaic.Lib.StackMember
public import Idealize.ShloMosaic.Lib.Routing.Ops
public import Idealize.ShloMosaic.Lib.ReduceAll
public import Idealize.ShloMosaic.Lib.StableHlo.Predicate
public import Idealize.ShloMosaic.Lib.Pointwise.SelectCore

@[expose] public section

noncomputable section

namespace Cert.Proof

open Cert.ReferenceIdeal Cert.ReferenceIdeal.Gen
open Idealize.ShloMosaic hiding ix1 ix2 ix3
open Idealize.ShloMosaic.ValueIdx
open Idealize.ShloMosaic.StableHlo

/-- A negative row number counted from the end. -/
def wrap (X : IVec S320000 32) : IVec S320000 32 :=
  select (cmpi .slt X (broadcastInDim S320000 ![] bcast_S_S320000 (constantI S_ 32 0#32)))
    (addi X (broadcastInDim S320000 ![] bcast_S_S320000 (constantI S_ 32 10000#32))) X

/-- The row numbers as a column. -/
def column (X : IVec S320000 32) : IVec S320000x1 32 := broadcastInDim S320000x1 ![0] bcast_S320000_S320000x1_0 X

/-- Whether each row number is in range. -/
def inside (W : IVec S320000x1 32) : IVec S320000 1 :=
  Host.reduce IntOp.andi (andi (cmpi .sge W (broadcastInDim S320000x1 ![] bcast_S_S320000x1 (constantI S_ 32 0#32)))
    (cmpi .sle W (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- The looked-up rows, those out of range filled. -/
def looked (A : FVec Ideal S10000x128 .f32) (W : IVec S320000x1 32) : FVec Ideal S320000x128 .f32 :=
  select (broadcastInDim S320000x128 ![0] bcast_S320000_S320000x128_0 (inside W))
    (Host.gather gather_S10000x128_S320000x1_S320000x128_1_0_n_n_0_1_1128 A W)
    (broadcastInDim S320000x128 ![] bcast_S_S320000x128 (constant S_ .f32 0x7FC00000#32))

/-- The looked-up rows times a block of the weights. -/
def part (A : FVec Ideal S10000x128 .f32) (X : IVec S320000 32) (B : FVec Ideal S128x128 .f32) : FVec Ideal S320000x128 .f32 :=
  Host.dotGeneral dot_S320000x128_S128x128_S320000x128_1_0_0_1_n_n none (looked A (column (wrap X))) B

theorem wrap_eq (X : IVec S320000 32) (hX : ∀ e, (X e).toNat < 10000) : wrap X = X := by
  funext e
  refine if_neg fun h => ?_
  have := hX e
  have h' := (Predicate.slt_iff_toNat (a := X e) (b := 0#32) (by omega) (by decide)).1 h
  exact absurd h' (Nat.not_lt_zero _)

theorem column_apply (X : IVec S320000 32) (e : Fin 320000) (z : Fin 1) : column X (ix2 e z) = X (ix1 e) :=
  broadcastInDim_apply _ _ _ _ _ fun a => by
    match a with
    | ⟨0, _⟩ => rfl

theorem column_lt (X : IVec S320000 32) (hX : ∀ e, (X e).toNat < 10000) (i : S320000x1.Idx) : (column X i).toNat < 10000 := hX _

theorem inside_eq (W : IVec S320000x1 32) (hW : ∀ i, (W i).toNat < 10000) (e : S320000.Idx) : inside W e = 1#1 := by
  refine Host.reduce_andi_one _ _ _ _ _ rfl fun i => ?_
  have := hW i
  refine IntOp.andi_eq_one.2 ⟨?_, ?_⟩
  · exact (Predicate.sge_iff_toNat (a := W i) (b := 0#32) (by omega) (by decide)).2 (Nat.zero_le _)
  · exact (Predicate.sle_iff_toNat (a := W i) (b := 9999#32) (by omega) (by decide)).2 (by show (W i).toNat ≤ 9999; omega)

/-- A choice at an index where its condition holds. -/
theorem select_one {s : Shape} {α : Type} (c : IVec s 1) (a b : s.Idx → α) (i : s.Idx) (h : c i = 1#1) : select c a b i = a i := if_pos h

/-- A column of ones spread over the rows is one. -/
theorem filled (c : IVec S320000 1) (h : ∀ e, c e = 1#1) (i : S320000x128.Idx) :
    broadcastInDim S320000x128 ![0] bcast_S320000_S320000x128_0 c i = 1#1 := h _

theorem looked_apply (A : FVec Ideal S10000x128 .f32) (X : IVec S320000 32) (hX : ∀ e, (X e).toNat < 10000) (e : Fin 320000) (k : Fin 128) :
    looked A (column (wrap X)) (ix2 e k) = nfAt A (X (ix1 e)).toNat k := by
  rw [wrap_eq X hX]
  unfold looked
  rw [select_one _ _ _ _ (filled _ (inside_eq _ (column_lt X hX)) _)]
  have hb : (X (ix1 e)).toNat < 10000 := hX _
  refine (Routing.gather_row gather_S10000x128_S320000x1_S320000x128_1_0_n_n_0_1_1128 rfl rfl rfl rfl rfl A (column X) e k
    ⟨(X (ix1 e)).toNat % 10000, Nat.mod_lt _ (by decide)⟩ ?_ (by decide)).trans rfl
  rw [column_apply]
  show X (ix1 e) = BitVec.ofNat 32 ((X (ix1 e)).toNat % 10000)
  rw [Nat.mod_eq_of_lt hb]
  simp

theorem part_apply (A : FVec Ideal S10000x128 .f32) (X : IVec S320000 32) (B : FVec Ideal S128x128 .f32) (hX : ∀ e, (X e).toNat < 10000)
    (e : Fin 320000) (j : Fin 128) :
    part A X B (ix2 e j) = ∑ k : Fin 128, nfAt A (X (ix1 e)).toNat k * B (ix2 k j) := by
  refine (StackMember.dotGeneral_plain_apply none _ B e j).trans (Finset.sum_congr rfl fun k _ => ?_)
  rw [looked_apply A X hX]

/-- The row numbers of the first and of the second end. -/
def ends0 (I : IVec S2x320000 32) : IVec S320000 32 :=
  shapeCast S320000 (extractStridedSlice S1x320000 ![0, 0] I slices_S2x320000_S1x320000_0_0) shapeCasts_S1x320000_S320000
def ends1 (I : IVec S2x320000 32) : IVec S320000 32 :=
  shapeCast S320000 (extractStridedSlice S1x320000 ![1, 0] I slices_S2x320000_S1x320000_1_0) shapeCasts_S1x320000_S320000

/-- The parts of the first and of the second end, all edges. -/
def src (A : FVec Ideal S10000x128 .f32) (I : IVec S2x320000 32) (W : FVec Ideal S384x128 .f32) : FVec Ideal S320000x128 .f32 :=
  part A (ends0 I) (extractStridedSlice S128x128 ![128, 0] W slices_S384x128_S128x128_128_0)
def dst (A : FVec Ideal S10000x128 .f32) (I : IVec S2x320000 32) (W : FVec Ideal S384x128 .f32) : FVec Ideal S320000x128 .f32 :=
  part A (ends1 I) (extractStridedSlice S128x128 ![256, 0] W slices_S384x128_S128x128_256_0)

theorem ends0_apply (I : IVec S2x320000 32) (e : Fin 320000) : ends0 I (ix1 e) = I (ix2 (0 : Fin 2) e) := by
  unfold ends0
  rw [shapeCast_apply _ _ _ (ix2 (0 : Fin 1) e) (by
    rw [Shape.rowMajor_val_two, Shape.rowMajor_val_one]; show 0 * 320000 + e.val = e.val; omega)]
  exact extractStridedSlice_apply _ _ _ _ _ fun a => by
    match a with
    | ⟨0, _⟩ => rfl
    | ⟨1, _⟩ => exact (Nat.zero_add _).symm

theorem ends1_apply (I : IVec S2x320000 32) (e : Fin 320000) : ends1 I (ix1 e) = I (ix2 (1 : Fin 2) e) := by
  unfold ends1
  rw [shapeCast_apply _ _ _ (ix2 (0 : Fin 1) e) (by
    rw [Shape.rowMajor_val_two, Shape.rowMajor_val_one]; show 0 * 320000 + e.val = e.val; omega)]
  exact extractStridedSlice_apply _ _ _ _ _ fun a => by
    match a with
    | ⟨0, _⟩ => rfl
    | ⟨1, _⟩ => exact (Nat.zero_add _).symm

theorem src_apply (A : FVec Ideal S10000x128 .f32) (I : IVec S2x320000 32) (W : FVec Ideal S384x128 .f32) (hI : ∀ i, (I i).toNat < 10000)
    (e : Fin 320000) (j : Fin 128) : src A I W (ix2 e j) = proj A W 0 (I (ix2 (0 : Fin 2) e)).toNat j := by
  refine (part_apply A (ends0 I) _ (fun _ => hI _) e j).trans (Finset.sum_congr rfl fun k _ => ?_)
  rw [ends0_apply]
  refine congrArg (fun x : EReal => nfAt A (I (ix2 (0 : Fin 2) e)).toNat k * x) ?_
  unfold wAt
  exact extractStridedSlice_apply _ _ _ _ _ fun a => by
    match a with
    | ⟨0, _⟩ => rfl
    | ⟨1, _⟩ => exact (Nat.zero_add _).symm

theorem dst_apply (A : FVec Ideal S10000x128 .f32) (I : IVec S2x320000 32) (W : FVec Ideal S384x128 .f32) (hI : ∀ i, (I i).toNat < 10000)
    (e : Fin 320000) (j : Fin 128) : dst A I W (ix2 e j) = proj A W 1 (I (ix2 (1 : Fin 2) e)).toNat j := by
  refine (part_apply A (ends1 I) _ (fun _ => hI _) e j).trans (Finset.sum_congr rfl fun k _ => ?_)
  rw [ends1_apply]
  refine congrArg (fun x : EReal => nfAt A (I (ix2 (1 : Fin 2) e)).toNat k * x) ?_
  unfold wAt
  exact extractStridedSlice_apply _ _ _ _ _ fun a => by
    match a with
    | ⟨0, _⟩ => rfl
    | ⟨1, _⟩ => exact (Nat.zero_add _).symm

/-- A result: the edges from `off` on of both ends' parts, one above the other. -/
def stacked (off : Nat) (hs : S320000x128.Slices ![off, 0] S80000x128) (P Q : FVec Ideal S320000x128 .f32) : FVec Ideal S160000x128 .f32 :=
  concatenate S160000x128 0 [⟨S80000x128, extractStridedSlice S80000x128 ![off, 0] P hs⟩, ⟨S80000x128, extractStridedSlice S80000x128 ![off, 0] Q hs⟩]
    concatenates_S80000x128_S80000x128_S160000x128_d0

theorem stacked_fst (off : Nat) (hs : S320000x128.Slices ![off, 0] S80000x128) (P Q : FVec Ideal S320000x128 .f32)
    (r : Fin 160000) (j : Fin 128) (h : r.val < 80000) (e : Fin 320000) (he : e.val = off + r.val) :
    stacked off hs P Q (ix2 r j) = P (ix2 e j) := by
  refine (concatenate_pair_apply_left (s₁ := S80000x128) (s₂ := S80000x128) (t := S160000x128) 0 _ _ _ (ix2 r j) rfl
    (ix2 (⟨r.val, h⟩ : Fin 80000) j) fun b => ?_).trans ?_
  · match b with
    | ⟨0, _⟩ => rfl
    | ⟨1, _⟩ => rfl
  · exact extractStridedSlice_apply _ _ _ _ _ fun a => by
      match a with
      | ⟨0, _⟩ => exact he
      | ⟨1, _⟩ => exact (Nat.zero_add _).symm

theorem stacked_snd (off : Nat) (hs : S320000x128.Slices ![off, 0] S80000x128) (P Q : FVec Ideal S320000x128 .f32)
    (r : Fin 160000) (j : Fin 128) (h : 80000 ≤ r.val) (e : Fin 320000) (he : e.val = off + (r.val - 80000)) :
    stacked off hs P Q (ix2 r j) = Q (ix2 e j) := by
  refine (concatenate_pair_apply_right (s₁ := S80000x128) (s₂ := S80000x128) (t := S160000x128) 0 _ _ _ (ix2 r j) rfl rfl
    (ix2 (⟨r.val - 80000, by omega⟩ : Fin 80000) j) (fun b hb => ?_) ?_).trans ?_
  · match b with
    | ⟨0, _⟩ => exact absurd rfl hb
    | ⟨1, _⟩ => rfl
  · show r.val - 80000 + 80000 = r.val
    omega
  · exact extractStridedSlice_apply _ _ _ _ _ fun a => by
      match a with
      | ⟨0, _⟩ => exact he
      | ⟨1, _⟩ => exact (Nat.zero_add _).symm

/-- Row `r` of a result: the end it belongs to, at the edge it stands for. -/
theorem stacked_apply (off : Nat) (hs : S320000x128.Slices ![off, 0] S80000x128) (A : FVec Ideal S10000x128 .f32) (I : IVec S2x320000 32)
    (W : FVec Ideal S384x128 .f32) (hI : ∀ i, (I i).toNat < 10000) (r : Fin 160000) (j : Fin 128) (h : Fin 2) (hh : h.val = r.val / 80000)
    (e : Fin 320000) (he : e.val = off + r.val % 80000) :
    stacked off hs (src A I W) (dst A I W) (ix2 r j) = proj A W h.val (I (ix2 h e)).toNat j := by
  have hr := r.isLt
  by_cases hlt : r.val < 80000
  · have h0 : h = (0 : Fin 2) := Fin.ext (by show h.val = 0; omega)
    subst h0
    exact (stacked_fst off hs _ _ r j hlt e (by omega)).trans (src_apply A I W hI e j)
  · have h1 : h = (1 : Fin 2) := Fin.ext (by show h.val = 1; omega)
    subst h1
    exact (stacked_snd off hs _ _ r j (by omega) e (by omega)).trans (dst_apply A I W hI e j)

section
variable (m : (ℓ : Loc nD τ sig) → Buf (Elt Ideal) ℓ) (c : Dev nD)

/-- The four results are these. -/
theorem out0_eq : Value.res_out0 m c = stacked 0 slices_S320000x128_S80000x128_0_0
    (src (m (c.tc.loc main_arg0)) (m (c.tc.loc main_arg1)) (m (c.tc.loc main_arg2)))
    (dst (m (c.tc.loc main_arg0)) (m (c.tc.loc main_arg1)) (m (c.tc.loc main_arg2))) := rfl
theorem out1_eq : Value.res_out1 m c = stacked 80000 slices_S320000x128_S80000x128_80000_0
    (src (m (c.tc.loc main_arg0)) (m (c.tc.loc main_arg1)) (m (c.tc.loc main_arg2)))
    (dst (m (c.tc.loc main_arg0)) (m (c.tc.loc main_arg1)) (m (c.tc.loc main_arg2))) := rfl
theorem out2_eq : Value.res_out2 m c = stacked 160000 slices_S320000x128_S80000x128_160000_0
    (src (m (c.tc.loc main_arg0)) (m (c.tc.loc main_arg1)) (m (c.tc.loc main_arg2)))
    (dst (m (c.tc.loc main_arg0)) (m (c.tc.loc main_arg1)) (m (c.tc.loc main_arg2))) := rfl
theorem out3_eq : Value.res_out3 m c = stacked 240000 slices_S320000x128_S80000x128_240000_0
    (src (m (c.tc.loc main_arg0)) (m (c.tc.loc main_arg1)) (m (c.tc.loc main_arg2)))
    (dst (m (c.tc.loc main_arg0)) (m (c.tc.loc main_arg1)) (m (c.tc.loc main_arg2))) := rfl
end

end Cert.Proof

end
-- ==== Proof.Algebraic.lean ====
/-
  The value claim: over the extended reals the kernel's four results and the reference's have the same entries. Row `r` of
  result `q` belongs to the end `r / 80000` of the edge `80000·q + r % 80000`; on both sides it is the features of the node
  at that end times the end's block of the weights.
-/
module

public import proofs.«01_k».proof.Proof.RefValue
public import proofs.«01_k».proof.Proof.Frames

@[expose] public section

noncomputable section

namespace Cert.Proof

open Idealize.ShloMosaic hiding ix1 ix2 ix3
open Idealize.ShloMosaic.ValueIdx

/-- The reference's result `q`. -/
def refOut (m : (ℓ : Loc Cert.ReferenceIdeal.nD Cert.ReferenceIdeal.τ Cert.ReferenceIdeal.sig) → Buf (Elt Ideal) ℓ) (c : Dev Cert.ReferenceIdeal.nD) :
    Fin 4 → FVec Ideal Cert.ReferenceIdeal.S160000x128 .f32
  | 0 => Cert.ReferenceIdeal.Value.res_out0 m c
  | 1 => Cert.ReferenceIdeal.Value.res_out1 m c
  | 2 => Cert.ReferenceIdeal.Value.res_out2 m c
  | 3 => Cert.ReferenceIdeal.Value.res_out3 m c

/-- An entry of it. -/
theorem refOut_apply (m : (ℓ : Loc Cert.ReferenceIdeal.nD Cert.ReferenceIdeal.τ Cert.ReferenceIdeal.sig) → Buf (Elt Ideal) ℓ) (c : Dev Cert.ReferenceIdeal.nD)
    (A : FVec Ideal Cert.ReferenceIdeal.S10000x128 .f32) (I : IVec Cert.ReferenceIdeal.S2x320000 32) (W : FVec Ideal Cert.ReferenceIdeal.S384x128 .f32)
    (hA : m (c.tc.loc Cert.ReferenceIdeal.main_arg0) = A) (hM : m (c.tc.loc Cert.ReferenceIdeal.main_arg1) = I)
    (hW : m (c.tc.loc Cert.ReferenceIdeal.main_arg2) = W) (hI : ∀ i, (I i).toNat < 10000)
    (q : Fin 4) (r : Fin 160000) (j : Fin 128) (h : Fin 2) (hh : h.val = r.val / 80000)
    (e : Fin 320000) (he : e.val = 80000 * q.val + r.val % 80000) :
    refOut m c q (ix2 r j) = proj A W h.val (I (ix2 h e)).toNat j := by
  subst hA hM hW
  match q with
  | 0 => exact (congrFun (out0_eq m c) _).trans (stacked_apply _ _ _ _ _ hI r j h hh e he)
  | 1 => exact (congrFun (out1_eq m c) _).trans (stacked_apply _ _ _ _ _ hI r j h hh e he)
  | 2 => exact (congrFun (out2_eq m c) _).trans (stacked_apply _ _ _ _ _ hI r j h hh e he)
  | 3 => exact (congrFun (out3_eq m c) _).trans (stacked_apply _ _ _ _ _ hI r j h hh e he)

/-- Rows equal modulo their number have the same features. -/
theorem nfAt_congr (A : FVec Ideal Cert.KernelIdeal.S10000x128 .f32) {r r' : Nat} (h : r % 10000 = r' % 10000) (k : Fin 128) : nfAt A r k = nfAt A r' k :=
  congrArg (fun x : Fin 10000 => A (ix2 x k)) (Fin.ext h)

/-- The reshaped indices. -/
theorem idxM_apply (m : (ℓ : Loc Cert.KernelIdeal.nD Cert.KernelIdeal.τ Cert.KernelIdeal.sig) → Buf (Elt Ideal) ℓ) (d : Dev Cert.KernelIdeal.nD) (h : Fin 2) (e : Fin 320000) :
    idxM m d (ix3 h (0 : Fin 1) e) = m ((tcT d).loc Cert.KernelIdeal.main_arg1) (ix2 h e) :=
  shapeCast_apply _ _ _ _ (by
    show (Cert.KernelIdeal.S2x320000.rowMajor (ix2 h e)).val = _
    rw [Shape.rowMajor_val_two, Shape.rowMajor_val_three]
    show h.val * 320000 + e.val = (h.val * 1 + 0) * 320000 + e.val
    omega)

/-- An entry of the kernel's result `q`. -/
theorem rows_apply (m : (ℓ : Loc Cert.KernelIdeal.nD Cert.KernelIdeal.τ Cert.KernelIdeal.sig) → Buf (Elt Ideal) ℓ) (d : Dev Cert.KernelIdeal.nD)
    (q : Fin 4) (r : Fin 160000) (j : Fin 128) (h : Fin 2) (hh : h.val = r.val / 80000)
    (e : Fin 320000) (he : e.val = 80000 * q.val + r.val % 80000) :
    rowsAt (tabM m d) (idxM m d) q (ix2 r j)
      = proj (m ((tcT d).loc Cert.KernelIdeal.main_arg0)) (m ((tcT d).loc Cert.KernelIdeal.main_arg2)) h.val
          (m ((tcT d).loc Cert.KernelIdeal.main_arg1) (ix2 h e)).toNat j := by
  have hr := r.isLt
  have e1 : (⟨r.val / 80000, by omega⟩ : Fin 2) = h := Fin.ext hh.symm
  have e2 : (⟨80000 * q.val + r.val % 80000, by have := q.isLt; omega⟩ : Fin 320000) = e := Fin.ext he.symm
  have key : ∀ (h' : Fin 2) (e' : Fin 320000), (⟨r.val / 80000, by omega⟩ : Fin 2) = h' →
      (⟨80000 * q.val + r.val % 80000, by have := q.isLt; omega⟩ : Fin 320000) = e' → rowsAt (tabM m d) (idxM m d) q (ix2 r j)
      = halfOf (tabM m d) h' (ix2 (⟨(idxM m d (ix3 h' (0 : Fin 1) e')).toNat % 10000, Nat.mod_lt _ (by decide)⟩ : Fin 10000) j) := by
    intro h' e' a b; subst a b; rfl
  rw [key h e e1 e2, idxM_apply]
  generalize (m ((tcT d).loc Cert.KernelIdeal.main_arg1) (ix2 h e)).toNat = n
  have hm := Nat.mod_lt n (show 0 < 10000 by decide)
  have hb : 10000 * h.val + n % 10000 < 20000 := by have := h.isLt; omega
  refine (tabOf_apply (V₀ m) d (ix2 (⟨10000 * h.val + n % 10000, hb⟩ : Fin 20000) j)).trans ?_
  show proj _ _ ((10000 * h.val + n % 10000) / 10000) (10000 * h.val + n % 10000) j = _
  rw [show (10000 * h.val + n % 10000) / 10000 = h.val by omega]
  exact Finset.sum_congr rfl fun k _ => congrArg (fun x : EReal => x * _) (nfAt_congr _ (by omega) k)

/-- From memories that agree, the reference's result `q` is the kernel's. -/
theorem refOut_eq (m : (ℓ : Loc Cert.KernelIdeal.nD Cert.KernelIdeal.τ Cert.KernelIdeal.sig) → Buf (Elt Ideal) ℓ) (d : Dev Cert.KernelIdeal.nD)
    (m' : (ℓ : Loc Cert.ReferenceIdeal.nD Cert.ReferenceIdeal.τ Cert.ReferenceIdeal.sig) → Buf (Elt Ideal) ℓ)
    (hA : m' ((d.tc : Thread Cert.ReferenceIdeal.nD Cert.ReferenceIdeal.τ).loc Cert.ReferenceIdeal.main_arg0) = m ((tcT d).loc Cert.KernelIdeal.main_arg0))
    (hM : m' ((d.tc : Thread Cert.ReferenceIdeal.nD Cert.ReferenceIdeal.τ).loc Cert.ReferenceIdeal.main_arg1) = m ((tcT d).loc Cert.KernelIdeal.main_arg1))
    (hW : m' ((d.tc : Thread Cert.ReferenceIdeal.nD Cert.ReferenceIdeal.τ).loc Cert.ReferenceIdeal.main_arg2) = m ((tcT d).loc Cert.KernelIdeal.main_arg2))
    (hI : ∀ i : Cert.KernelIdeal.S2x320000.Idx, ((m ((tcT d).loc Cert.KernelIdeal.main_arg1)) i).toNat < 10000) (q : Fin 4) :
    refOut m' d q = rowsAt (tabM m d) (idxM m d) q := by
  funext y
  obtain ⟨r, j, rfl⟩ : ∃ (r : Fin 160000) (j : Fin 128), y = ix2 r j := ⟨y 0, y 1, ValueIdx.eq_ix2 y⟩
  have hr := r.isLt
  have hq := q.isLt
  have hh : r.val / 80000 < 2 := by omega
  have he : 80000 * q.val + r.val % 80000 < 320000 := by omega
  exact (refOut_apply m' d _ _ _ hA hM hW hI q r j ⟨_, hh⟩ rfl ⟨_, he⟩ rfl).trans (rows_apply m d q r j ⟨_, hh⟩ rfl ⟨_, he⟩ rfl).symm

/-- Over the extended reals the kernel and the reference return the same four arrays. -/
theorem algebraic : Cert.algebraic_KernelIdeal_ReferenceIdeal := by
  intro m g m' g' hp hagree
  have hI : ∀ (d : Dev Cert.KernelIdeal.nD) (i : Cert.KernelIdeal.S2x320000.Idx), ((m ((tcT d).loc Cert.KernelIdeal.main_arg1)) i).toNat < 10000 :=
    fun d => in_range_lt _ _ _ (hp d)
  have out := fun d q => refOut_eq m d m' (hagree d).1 (hagree d).2.1 (hagree d).2.2 (hI d) q
  refine ⟨fun d => rowsAt (tabM m d) (idxM m d) 0, fun d => rowsAt (tabM m d) (idxM m d) 1, fun d => rowsAt (tabM m d) (idxM m d) 2,
    fun d => rowsAt (tabM m d) (idxM m d) 3, ?_, ?_⟩
  · exact (θ_run (Cert.KernelIdeal.defs (F := Ideal)) _ _).mono
      (fun r (h : QC (F := Ideal) m r) c => ⟨h.2.1 c 0, h.2.1 c 1, h.2.1 c 2, h.2.1 c 3, h.1 c⟩)
      (run_main (F := Ideal) m g (idxM_lt m hI))
  · exact (θ_run (Cert.ReferenceIdeal.defs (F := Ideal)) _ _).mono
      (fun r h c => ⟨(h c).1.trans (out c 0), (h c).2.1.trans (out c 1), (h c).2.2.1.trans (out c 2), (h c).2.2.2.1.trans (out c 3), (h c).2.2.2.2⟩)
      (Cert.ReferenceIdeal.Value.run m' g')

end Cert.Proof

end
-- ==== Proof.EdgeRow.lean ====
/-
  One row of an edge call over the extended reals: the two layers with the swish between them, the normalization of the row, and
  the edge's own features added back; then the same as a function of whole arrays, for one of the four calls.
-/
module

public import Idealize.ShloMosaic.Lib.MatmulPlain
public import Idealize.ShloMosaic.Lib.ValueLayout

@[expose] public section

noncomputable section

namespace Cert.Proof

open Idealize.ShloMosaic
open Idealize.ShloMosaic.ValueIdx

/-- The first layer before its activation, at unit `j`: the edge's features times the weights, and the two ends' projections and
    the bias. -/
def hidden (e : Fin 128 → EReal) (w : Fin 128 → Fin 128 → EReal) (s d b : Fin 128 → EReal) (j : Fin 128) : EReal :=
  (∑ k : Fin 128, e k * w k j) + s j + d j + b j

/-- `x` times its logistic. -/
def swish (x : EReal) : EReal := x * Ideal.logistic x

/-- The second layer at unit `j`. -/
def second (h : Fin 128 → EReal) (w : Fin 128 → Fin 128 → EReal) (b : Fin 128 → EReal) (j : Fin 128) : EReal :=
  (∑ k : Fin 128, h k * w k j) + b j

/-- The mean of a row. -/
def rowMean (y : Fin 128 → EReal) : EReal := Ideal.div (∑ k : Fin 128, y k) (Ideal.ofBits .f32 0x43000000#32)

/-- The variance of a row: the mean of the squares about the mean. -/
def rowVar (y : Fin 128 → EReal) : EReal := rowMean fun k => (y k - rowMean y) * (y k - rowMean y)

/-- A row normalized, scaled by `g` and moved by `b`. -/
def normed (y g b : Fin 128 → EReal) (j : Fin 128) : EReal :=
  (y j - rowMean y) * Ideal.rsqrt (rowVar y + Ideal.ofBits .f32 0x3727C5AC#32) * g j + b j

/-- The row before the normalization. -/
def edgePre (e s d : Fin 128 → EReal) (w₁ : Fin 128 → Fin 128 → EReal) (b₁ : Fin 128 → EReal) (w₂ : Fin 128 → Fin 128 → EReal)
    (b₂ : Fin 128 → EReal) : Fin 128 → EReal :=
  second (fun k => swish (hidden e w₁ s d b₁ k)) w₂ b₂

/-- A row of the result. -/
def edgeRow (e s d : Fin 128 → EReal) (w₁ : Fin 128 → Fin 128 → EReal) (b₁ : Fin 128 → EReal) (w₂ : Fin 128 → Fin 128 → EReal)
    (b₂ g b : Fin 128 → EReal) (j : Fin 128) : EReal :=
  normed (edgePre e s d w₁ b₁ w₂ b₂) g b j + e j

/-- Row `r` of an array, taken modulo the number of its rows. -/
def rowAt {n : Nat} [NeZero n] (A : (⟨2, ![n, 128]⟩ : Shape).Idx → EReal) (r : Nat) (k : Fin 128) : EReal :=
  A (ix2 (⟨r % n, Nat.mod_lt _ (Nat.pos_of_ne_zero (NeZero.ne n))⟩ : Fin n) k)

theorem rowAt_of_lt {n : Nat} [NeZero n] (A : (⟨2, ![n, 128]⟩ : Shape).Idx → EReal) (a : Fin n) (r : Nat) (h : a.val = r) (k : Fin 128) :
    A (ix2 a k) = rowAt A r k := by
  subst h
  exact congrArg (fun x : Fin n => A (ix2 x k)) (Fin.ext (Nat.mod_eq_of_lt a.isLt).symm)

/-- The first 128 rows of the weights: those the edge's own features meet. -/
def topRows (W : (⟨2, ![384, 128]⟩ : Shape).Idx → EReal) (k j : Fin 128) : EReal :=
  W (ix2 (⟨k.val, by have := k.isLt; omega⟩ : Fin 384) j)

/-- Row `r` of the result, from the call whose gathered projections are `X`: the edge is number `r % 80000` of its chunk, the
    projections of its first end are that row of `X` and those of its second end 80000 rows further. -/
def chunk (E : (⟨2, ![320000, 128]⟩ : Shape).Idx → EReal) (X : (⟨2, ![160000, 128]⟩ : Shape).Idx → EReal)
    (W₁ : (⟨2, ![384, 128]⟩ : Shape).Idx → EReal) (b₁ : Fin 128 → EReal) (W₂ : (⟨2, ![128, 128]⟩ : Shape).Idx → EReal)
    (b₂ g b : Fin 128 → EReal) (r : Nat) (j : Fin 128) : EReal :=
  edgeRow (rowAt E r) (rowAt X (r % 80000)) (rowAt X (r % 80000 + 80000)) (topRows W₁) b₁ (fun k j => W₂ (ix2 k j)) b₂ g b j

end Cert.Proof

end
-- ==== Proof.EdgePay.lean ====
/-
  What a point of an edge call computes from its blocks, at an entry.
-/
module

public import proofs.«01_k».proof.Proof.EdgeRow
public import proofs.«01_k».proof.Proof.Gen.EdgesIdeal.Frame
public import Idealize.ShloMosaic.Lib.MatmulPlain
public import Idealize.ShloMosaic.Lib.WholeRead
public import Idealize.ShloMosaic.Lib.ValueLayout
public import Idealize.ShloMosaic.Lib.Pointwise.Reduce
public import Idealize.ShloMosaic.Lib.Pipeline.ValueKit.Geometry

@[expose] public section

noncomputable section

namespace Cert.Proof

open Cert.EdgesIdeal Cert.EdgesIdeal.Gen
open Idealize.ShloMosaic hiding ix1 ix2 ix3
open Idealize.ShloMosaic.TcCoe
open Idealize.ShloMosaic.ValueIdx

variable (x0 x1 x2 : S10000x128.Idx → EReal) (x3 : S128x128.Idx → EReal) (x4 : S1x128.Idx → EReal) (x5 : S128x128.Idx → EReal)
  (x6 x7 x8 : S1x128.Idx → EReal)

/-- A one-row block broadcast over the rows. -/
theorem row_apply (x : S1x128.Idx → EReal) (a : Fin 10000) (j : Fin 128) :
    broadcastTo S10000x128 (shapeCast S1x128 x shapeCasts_S1x128_S1x128) broadcasts_S1x128_S10000x128 (ix2 a j) = x (ix2 (0 : Fin 1) j) :=
  (broadcastTo_1b_ab_apply _ _ a j).trans (shapeCast_apply _ _ _ _ rfl)

/-- A column broadcast over the columns. -/
theorem col_apply (x : S10000x1.Idx → EReal) (a : Fin 10000) (j : Fin 128) :
    broadcastTo S10000x128 x broadcasts_S10000x1_S10000x128 (ix2 a j) = x (ix2 a (0 : Fin 1)) := by
  refine broadcastTo_apply x _ (ix2 a j) (ix2 a (0 : Fin 1)) fun ax => ?_
  match ax with
  | ⟨0, _⟩ => rfl
  | ⟨1, _⟩ => rfl

/-- A row's sum, divided by 128, as a column. -/
theorem mean_apply (x : S10000x128.Idx → EReal) (a : Fin 10000) :
    (divf (F := Ideal) (φ := .f32) (shapeCast S10000x1 (multiReduction (F := Ideal) (φ := .f32) .add [1] S10000 x 0x00000000#32
        reduces_S10000x128_S10000 (.inl rfl) rfl) shapeCasts_S10000_S10000x1)
        (broadcast S10000x1 (Scalar.ofBits (F := Ideal) .f32 0x43000000#32)) (ix2 a (0 : Fin 1)) : EReal)
      = rowMean fun k => x (ix2 a k) := by
  have h : (shapeCast S10000x1 (multiReduction (F := Ideal) (φ := .f32) .add [1] S10000 x 0x00000000#32
      reduces_S10000x128_S10000 (.inl rfl) rfl) shapeCasts_S10000_S10000x1 (ix2 a (0 : Fin 1)) : EReal) = ∑ k : Fin 128, x (ix2 a k) := by
    refine (shapeCast_apply _ _ (ix2 a (0 : Fin 1)) (ix1 a) ?_).trans ?_
    · rw [Shape.rowMajor_val_one, Shape.rowMajor_val_two]
      show a.val = a.val * 1 + 0
      omega
    · refine (multiReduction_add_apply (F := Ideal) (φ := .f32) x 0x00000000#32 reduces_S10000x128_S10000 (.inl rfl) rfl (ix1 a)).trans ?_
      rw [Ideal.reduceAdd_def, Ideal.reduceAdd_r2_a1]
      exact Finset.sum_congr rfl fun k _ => congrArg (fun r : Fin 10000 => x (ix2 r k)) (Fin.ext rfl)
  exact congrArg (fun p : EReal => Ideal.div p (Ideal.ofBits .f32 0x43000000#32)) h

theorem pay2_apply (a : Fin 10000) (j : Fin 128) :
    (k0_pay2 (F := Ideal) x0 x3 x1 x2 x4 x5 x6 (ix2 a j) : EReal)
      = edgePre (fun k => x0 (ix2 a k)) (fun k => x1 (ix2 a k)) (fun k => x2 (ix2 a k)) (fun k j => x3 (ix2 k j))
          (fun k => x4 (ix2 (0 : Fin 1) k)) (fun k j => x5 (ix2 k j)) (fun k => x6 (ix2 (0 : Fin 1) k)) j := by
  unfold k0_pay2 edgePre second
  refine congrArg₂ (fun p q : EReal => p + q) ?_ (row_apply x6 a j)
  refine (Ideal.matmul_plain_apply none _ _ _ a j).trans ?_
  refine (congrArg (· + _) Ideal.ofBits_zero_f32).trans ((zero_add _).trans (Finset.sum_congr rfl fun k _ => ?_))
  refine congrArg (fun p : EReal => p * x5 (ix2 k j)) ?_
  refine (show _ = swish _ from rfl).trans (congrArg swish ?_)
  unfold hidden
  refine congrArg₂ (fun p q : EReal => p + q) ?_ (row_apply x4 a k)
  refine congrArg (fun p : EReal => p + x2 (ix2 a k)) (congrArg (fun p : EReal => p + x1 (ix2 a k)) ?_)
  refine (Ideal.matmul_plain_apply none _ _ _ a k).trans ?_
  exact (congrArg (· + _) Ideal.ofBits_zero_f32).trans (zero_add _)

/-- A load of a whole buffer reads what it holds. -/
theorem load_whole {S : Shape} (m : Memref sig .tc .vmem S .f32) (h : m.IsWhole) (X : S.Idx → Elt Ideal .f32) {off : Fin S.rank → Nat}
    (z : off = fun _ => 0) {inb : ∀ a, off a + S.size a ≤ S.size a} :
    m.view.readAt (Elt Ideal) (Rect.unit off S.size inb).toLoadRect (h.unread X) = X :=
  funext fun x => (h.readAt_unread (Val := Elt Ideal) X _ x).trans (congrFun (View.ld_unit_zero (Val := Elt Ideal) (e := .f32) z inb X) x)

/-- The block a point writes back, from its nine blocks. -/
def bodyOut : S10000x128.Idx → EReal :=
  k0_pay1 (F := Ideal) x0 (k0_pay4 x0 x3 x1 x2 x4 x5 x6) (k0_pay5 x0 x3 x1 x2 x4 x5 x6) (Scalar.ofBits .f32 0x3727C5AC#32) x7 x8

theorem bodyOut_apply (a : Fin 10000) (j : Fin 128) :
    bodyOut x0 x1 x2 x3 x4 x5 x6 x7 x8 (ix2 a j)
      = edgeRow (fun k => x0 (ix2 a k)) (fun k => x1 (ix2 a k)) (fun k => x2 (ix2 a k)) (fun k j => x3 (ix2 k j))
          (fun k => x4 (ix2 (0 : Fin 1) k)) (fun k j => x5 (ix2 k j)) (fun k => x6 (ix2 (0 : Fin 1) k))
          (fun k => x7 (ix2 (0 : Fin 1) k)) (fun k => x8 (ix2 (0 : Fin 1) k)) j := by
  have e2 : ∀ k : Fin 128, (k0_pay2 (F := Ideal) x0 x3 x1 x2 x4 x5 x6 (ix2 a k) : EReal) = _ := pay2_apply x0 x1 x2 x3 x4 x5 x6 a
  have e3 : (k0_pay3 (F := Ideal) x0 x3 x1 x2 x4 x5 x6 (ix2 a (0 : Fin 1)) : EReal) = rowMean _ :=
    (mean_apply (k0_pay2 (F := Ideal) x0 x3 x1 x2 x4 x5 x6) a).trans (congrArg rowMean (funext e2))
  have e5 : ∀ k : Fin 128, (k0_pay5 (F := Ideal) x0 x3 x1 x2 x4 x5 x6 (ix2 a k) : EReal) = _ - rowMean _ := fun k =>
    congrArg₂ (fun p q : EReal => p - q) (e2 k) ((col_apply _ a k).trans e3)
  have e4 : (k0_pay4 (F := Ideal) x0 x3 x1 x2 x4 x5 x6 (ix2 a (0 : Fin 1)) : EReal) = rowVar _ :=
    (mean_apply _ a).trans (congrArg rowMean (funext fun k => congrArg₂ (fun p q : EReal => p * q) (e5 k) (e5 k)))
  unfold bodyOut k0_pay1 edgeRow normed
  refine congrArg (fun p : EReal => p + x0 (ix2 a j)) ?_
  refine congrArg₂ (fun p q : EReal => p + q) ?_ (row_apply x8 a j)
  refine congrArg₂ (fun p q : EReal => p * q) ?_ (row_apply x7 a j)
  refine congrArg₂ (fun p q : EReal => p * q) (e5 j) ((col_apply _ a j).trans ?_)
  exact congrArg (fun p : EReal => Ideal.rsqrt (p + Ideal.ofBits .f32 0x3727C5AC#32)) e4

end Cert.Proof

end
-- ==== Proof.EdgeCall0.lean ====
/-
  The array call 0 of the four edge calls leaves: its eight blocks of the result are the rows of its chunk, and every other row is
  as it was.
-/
module

public import proofs.«01_k».proof.Proof.EdgePay
public import Idealize.ShloMosaic.Lib.Pipeline.ValueKit.Partial

@[expose] public section

noncomputable section

namespace Cert.Proof

open Cert.EdgesIdeal Cert.EdgesIdeal.Gen
open Idealize.ShloMosaic hiding ix1 ix2 ix3
open Idealize.ShloMosaic.TcCoe
open Idealize.ShloMosaic.ValueIdx

variable (V : (c : Dev nD) → (b : Ref sig .tc) → Buf (Elt Ideal) ((c : Thread nD τ).loc b))

/-- The blocks' positions at a point of call 0. -/
theorem block_index0 : ∀ t : Fin cfg0.N, win0_0.index t = ![t.val + 0, 0] ∧ win0_1.index t = ![t.val, 0] ∧ win0_2.index t = ![t.val + 8, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val + 0, 0] :=
  (by decide +kernel : ∀ t : Fin grid0.N, _)

/-- The rows of chunk 0, over the contents the call starts from. -/
def rows0 (c : Dev nD) (r : Nat) (j : Fin 128) : EReal :=
  chunk (V c main_arg0) (V c main_arg1) (V c main_arg5) (fun k => V c main_v0 (ix2 (0 : Fin 1) k)) (V c main_arg7)
    (fun k => V c main_v1 (ix2 (0 : Fin 1) k)) (fun k => V c main_v2 (ix2 (0 : Fin 1) k)) (fun k => V c main_v3 (ix2 (0 : Fin 1) k)) r j

theorem blk0_0 (c : Dev nD) (t : Fin cfg0.N) (a : Fin 10000) (k : Fin 128) :
    (iblk0 V c 0 t (ix2 a k) : EReal) = rowAt (V c main_arg0) ((t.val + 0) * 10000 + a.val) k := by
  have ht : t.val < 8 := t.isLt
  have ha := a.isLt
  have h0 : (cfg0.win 0).index t = ![t.val + 0, 0] := (block_index0 t).1
  refine Eq.trans (congrArg (V c main_arg0) (funext fun x => Fin.ext ?_))
    (rowAt_of_lt (V c main_arg0) (⟨(t.val + 0) * 10000 + a.val, by omega⟩ : Fin 320000) _ (by show (t.val + 0) * 10000 + a.val = _; omega) k)
  refine (Pipeline.Window.rect_emb_val (cfg0.win 0) t (ix2 a k) x rfl).trans ?_
  rw [h0]
  match x with
  | ⟨0, _⟩ => rfl
  | ⟨1, _⟩ => exact (congrArg (· + k.val) (Nat.zero_mul _)).trans (Nat.zero_add _)

theorem blk0_1 (c : Dev nD) (t : Fin cfg0.N) (a : Fin 10000) (k : Fin 128) :
    (iblk0 V c 1 t (ix2 a k) : EReal) = rowAt (V c main_arg1) (((t.val + 0) * 10000 + a.val) % 80000) k := by
  have ht : t.val < 8 := t.isLt
  have ha := a.isLt
  have h0 : (cfg0.win 1).index t = ![t.val + 0, 0] := (block_index0 t).2.1
  refine Eq.trans (congrArg (V c main_arg1) (funext fun x => Fin.ext ?_))
    (rowAt_of_lt (V c main_arg1) (⟨(t.val + 0) * 10000 + a.val, by omega⟩ : Fin 160000) _ (by show (t.val + 0) * 10000 + a.val = _; omega) k)
  refine (Pipeline.Window.rect_emb_val (cfg0.win 1) t (ix2 a k) x rfl).trans ?_
  rw [h0]
  match x with
  | ⟨0, _⟩ => rfl
  | ⟨1, _⟩ => exact (congrArg (· + k.val) (Nat.zero_mul _)).trans (Nat.zero_add _)

theorem blk0_2 (c : Dev nD) (t : Fin cfg0.N) (a : Fin 10000) (k : Fin 128) :
    (iblk0 V c 2 t (ix2 a k) : EReal) = rowAt (V c main_arg1) (((t.val + 0) * 10000 + a.val) % 80000 + 80000) k := by
  have ht : t.val < 8 := t.isLt
  have ha := a.isLt
  have h0 : (cfg0.win 2).index t = ![t.val + 8, 0] := (block_index0 t).2.2.1
  refine Eq.trans (congrArg (V c main_arg1) (funext fun x => Fin.ext ?_))
    (rowAt_of_lt (V c main_arg1) (⟨(t.val + 8) * 10000 + a.val, by omega⟩ : Fin 160000) _ (by show (t.val + 8) * 10000 + a.val = _; omega) k)
  refine (Pipeline.Window.rect_emb_val (cfg0.win 2) t (ix2 a k) x rfl).trans ?_
  rw [h0]
  match x with
  | ⟨0, _⟩ => rfl
  | ⟨1, _⟩ => exact (congrArg (· + k.val) (Nat.zero_mul _)).trans (Nat.zero_add _)

theorem blk0_3 (c : Dev nD) (t : Fin cfg0.N) (a : Fin 128) (k : Fin 128) :
    (iblk0 V c 3 t (ix2 a k) : EReal) = topRows (V c main_arg5) a k := by
  have h0 : (cfg0.win 3).index t = ![0, 0] := (block_index0 t).2.2.2.1
  unfold topRows
  refine congrArg (V c main_arg5) (funext fun x => Fin.ext ?_)
  refine (Pipeline.Window.rect_emb_val (cfg0.win 3) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk0_4 (c : Dev nD) (t : Fin cfg0.N) (a : Fin 1) (k : Fin 128) :
    (iblk0 V c 4 t (ix2 a k) : EReal) = V c main_v0 (ix2 a k) := by
  have h0 : (cfg0.win 4).index t = ![0, 0] := (block_index0 t).2.2.2.2.1
  refine congrArg (V c main_v0) (funext fun x => Fin.ext ?_)
  refine (Pipeline.Window.rect_emb_val (cfg0.win 4) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk0_5 (c : Dev nD) (t : Fin cfg0.N) (a : Fin 128) (k : Fin 128) :
    (iblk0 V c 5 t (ix2 a k) : EReal) = V c main_arg7 (ix2 a k) := by
  have h0 : (cfg0.win 5).index t = ![0, 0] := (block_index0 t).2.2.2.2.2.1
  refine congrArg (V c main_arg7) (funext fun x => Fin.ext ?_)
  refine (Pipeline.Window.rect_emb_val (cfg0.win 5) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk0_6 (c : Dev nD) (t : Fin cfg0.N) (a : Fin 1) (k : Fin 128) :
    (iblk0 V c 6 t (ix2 a k) : EReal) = V c main_v1 (ix2 a k) := by
  have h0 : (cfg0.win 6).index t = ![0, 0] := (block_index0 t).2.2.2.2.2.2.1
  refine congrArg (V c main_v1) (funext fun x => Fin.ext ?_)
  refine (Pipeline.Window.rect_emb_val (cfg0.win 6) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk0_7 (c : Dev nD) (t : Fin cfg0.N) (a : Fin 1) (k : Fin 128) :
    (iblk0 V c 7 t (ix2 a k) : EReal) = V c main_v2 (ix2 a k) := by
  have h0 : (cfg0.win 7).index t = ![0, 0] := (block_index0 t).2.2.2.2.2.2.2.1
  refine congrArg (V c main_v2) (funext fun x => Fin.ext ?_)
  refine (Pipeline.Window.rect_emb_val (cfg0.win 7) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk0_8 (c : Dev nD) (t : Fin cfg0.N) (a : Fin 1) (k : Fin 128) :
    (iblk0 V c 8 t (ix2 a k) : EReal) = V c main_v3 (ix2 a k) := by
  have h0 : (cfg0.win 8).index t = ![0, 0] := (block_index0 t).2.2.2.2.2.2.2.2.1
  refine congrArg (V c main_v3) (funext fun x => Fin.ext ?_)
  refine (Pipeline.Window.rect_emb_val (cfg0.win 8) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

/-- What a point writes back is the block computed from its nine. -/
theorem after0 (c : Dev nD) (t : Fin cfg0.N) :
    (dat0 V c).after 9 t = bodyOut (iblk0 V c 0 t) (iblk0 V c 1 t) (iblk0 V c 2 t) (iblk0 V c 3 t) (iblk0 V c 4 t) (iblk0 V c 5 t)
      (iblk0 V c 6 t) (iblk0 V c 7 t) (iblk0 V c 8 t) := by
  refine (after0_9 V c t).trans ?_
  unfold out0_9 bodyOut
  have z : (![0, 0] : Fin 2 → Nat) = fun _ => 0 := by decide
  refine (View.canon_unit_zero (S := S10000x128) z _ _).trans ?_
  simp only [r0_0, r0_1, r0_2, View.ld_unit_zero (S := S10000x128) z, View.ld_unit_zero (S := S128x128) z, View.ld_unit_zero (S := S1x128) z]

/-- An entry of what a point writes back. -/
theorem entry0 (c : Dev nD) (t : Fin cfg0.N) (a : Fin 10000) (j : Fin 128) :
    bodyOut (iblk0 V c 0 t) (iblk0 V c 1 t) (iblk0 V c 2 t) (iblk0 V c 3 t) (iblk0 V c 4 t) (iblk0 V c 5 t)
      (iblk0 V c 6 t) (iblk0 V c 7 t) (iblk0 V c 8 t) (ix2 a j) = rows0 V c ((t.val + 0) * 10000 + a.val) j := by
  rw [bodyOut_apply]
  unfold rows0 chunk
  have h0 := funext (blk0_0 V c t a)
  have h1 := funext (blk0_1 V c t a)
  have h2 := funext (blk0_2 V c t a)
  have h3 : (fun k j => (iblk0 V c 3 t (ix2 k j) : EReal)) = _ := funext fun k => funext (blk0_3 V c t k)
  have h4 := funext (blk0_4 V c t (0 : Fin 1))
  have h5 : (fun k j => (iblk0 V c 5 t (ix2 k j) : EReal)) = _ := funext fun k => funext (blk0_5 V c t k)
  have h6 := funext (blk0_6 V c t (0 : Fin 1))
  have h7 := funext (blk0_7 V c t (0 : Fin 1))
  have h8 := funext (blk0_8 V c t (0 : Fin 1))
  rw [h0, h1, h2, h3, h4, h5, h6, h7, h8]

/-- The result's array after the call. -/
theorem arr0 (c : Dev nD) : (dat0 V c).arrAt 9 cfg0.N
    = fun i : S320000x128.Idx => if 00000 ≤ (i 0).val ∧ (i 0).val < 80000 then rows0 V c (i 0).val (i 1) else V c main_v4 i := by
  refine (dat0 V c).arrAt_eq_of_coversWhere 9 (fun i : S320000x128.Idx => rows0 V c (i 0).val (i 1))
    (fun β => 0 ≤ β (0 : Fin 2) ∧ β (0 : Fin 2) < 8) (by decide +kernel) ?_ ?_
  · intro t _ y
    have h0 : (cfg0.win 9).index t = ![t.val + 0, 0] := (block_index0 t).2.2.2.2.2.2.2.2.2
    have e0 : ((((cfg0.win 9).blk t).view.emb y : S320000x128.Idx) 0).val = (t.val + 0) * 10000 + (y 0).val := by
      refine (Pipeline.Window.rect_emb_val (cfg0.win 9) t y 0 rfl).trans ?_
      rw [h0]; rfl
    have e1 : (((cfg0.win 9).blk t).view.emb y : S320000x128.Idx) 1 = (y 1 : Fin 128) := by
      refine Fin.ext ((Pipeline.Window.rect_emb_val (cfg0.win 9) t y 1 rfl).trans ?_)
      rw [h0]; exact (congrArg (· + (y 1).val) (Nat.zero_mul _)).trans (Nat.zero_add _)
    rw [e0, e1]
    refine Eq.trans ?_ (entry0 V c t (y 0) (y 1))
    refine Eq.trans ?_ (congrArg _ (ValueIdx.eq_ix2 (y : S10000x128.Idx)))
    exact congrFun (after0 V c t) y
  · intro j
    show 00000 ≤ (j (0 : Fin 2)).val ∧ (j (0 : Fin 2)).val < 80000 ↔ 0 ≤ (j (0 : Fin 2)).val / 10000 ∧ (j (0 : Fin 2)).val / 10000 < 8
    omega

end Cert.Proof

end
-- ==== Proof.EdgeCall1.lean ====
/-
  The array call 1 of the four edge calls leaves: its eight blocks of the result are the rows of its chunk, and every other row is
  as it was.
-/
module

public import proofs.«01_k».proof.Proof.EdgePay
public import Idealize.ShloMosaic.Lib.Pipeline.ValueKit.Partial

@[expose] public section

noncomputable section

namespace Cert.Proof

open Cert.EdgesIdeal Cert.EdgesIdeal.Gen
open Idealize.ShloMosaic hiding ix1 ix2 ix3
open Idealize.ShloMosaic.TcCoe
open Idealize.ShloMosaic.ValueIdx

variable (V : (c : Dev nD) → (b : Ref sig .tc) → Buf (Elt Ideal) ((c : Thread nD τ).loc b))

/-- The blocks' positions at a point of call 1. -/
theorem block_index1 : ∀ t : Fin cfg1.N, win1_0.index t = ![t.val + 8, 0] ∧ win1_1.index t = ![t.val, 0] ∧ win1_2.index t = ![t.val + 8, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![t.val + 8, 0] :=
  (by decide +kernel : ∀ t : Fin grid1.N, _)

/-- The rows of chunk 1, over the contents the call starts from. -/
def rows1 (c : Dev nD) (r : Nat) (j : Fin 128) : EReal :=
  chunk (V c main_arg0) (V c main_arg2) (V c main_arg5) (fun k => V c main_v5 (ix2 (0 : Fin 1) k)) (V c main_arg7)
    (fun k => V c main_v6 (ix2 (0 : Fin 1) k)) (fun k => V c main_v7 (ix2 (0 : Fin 1) k)) (fun k => V c main_v8 (ix2 (0 : Fin 1) k)) r j

theorem blk1_0 (c : Dev nD) (t : Fin cfg1.N) (a : Fin 10000) (k : Fin 128) :
    (iblk1 V c 0 t (ix2 a k) : EReal) = rowAt (V c main_arg0) ((t.val + 8) * 10000 + a.val) k := by
  have ht : t.val < 8 := t.isLt
  have ha := a.isLt
  have h0 : (cfg1.win 0).index t = ![t.val + 8, 0] := (block_index1 t).1
  refine Eq.trans (congrArg (V c main_arg0) (funext fun x => Fin.ext ?_))
    (rowAt_of_lt (V c main_arg0) (⟨(t.val + 8) * 10000 + a.val, by omega⟩ : Fin 320000) _ (by show (t.val + 8) * 10000 + a.val = _; omega) k)
  refine (Pipeline.Window.rect_emb_val (cfg1.win 0) t (ix2 a k) x rfl).trans ?_
  rw [h0]
  match x with
  | ⟨0, _⟩ => rfl
  | ⟨1, _⟩ => exact (congrArg (· + k.val) (Nat.zero_mul _)).trans (Nat.zero_add _)

theorem blk1_1 (c : Dev nD) (t : Fin cfg1.N) (a : Fin 10000) (k : Fin 128) :
    (iblk1 V c 1 t (ix2 a k) : EReal) = rowAt (V c main_arg2) (((t.val + 8) * 10000 + a.val) % 80000) k := by
  have ht : t.val < 8 := t.isLt
  have ha := a.isLt
  have h0 : (cfg1.win 1).index t = ![t.val + 0, 0] := (block_index1 t).2.1
  refine Eq.trans (congrArg (V c main_arg2) (funext fun x => Fin.ext ?_))
    (rowAt_of_lt (V c main_arg2) (⟨(t.val + 0) * 10000 + a.val, by omega⟩ : Fin 160000) _ (by show (t.val + 0) * 10000 + a.val = _; omega) k)
  refine (Pipeline.Window.rect_emb_val (cfg1.win 1) t (ix2 a k) x rfl).trans ?_
  rw [h0]
  match x with
  | ⟨0, _⟩ => rfl
  | ⟨1, _⟩ => exact (congrArg (· + k.val) (Nat.zero_mul _)).trans (Nat.zero_add _)

theorem blk1_2 (c : Dev nD) (t : Fin cfg1.N) (a : Fin 10000) (k : Fin 128) :
    (iblk1 V c 2 t (ix2 a k) : EReal) = rowAt (V c main_arg2) (((t.val + 8) * 10000 + a.val) % 80000 + 80000) k := by
  have ht : t.val < 8 := t.isLt
  have ha := a.isLt
  have h0 : (cfg1.win 2).index t = ![t.val + 8, 0] := (block_index1 t).2.2.1
  refine Eq.trans (congrArg (V c main_arg2) (funext fun x => Fin.ext ?_))
    (rowAt_of_lt (V c main_arg2) (⟨(t.val + 8) * 10000 + a.val, by omega⟩ : Fin 160000) _ (by show (t.val + 8) * 10000 + a.val = _; omega) k)
  refine (Pipeline.Window.rect_emb_val (cfg1.win 2) t (ix2 a k) x rfl).trans ?_
  rw [h0]
  match x with
  | ⟨0, _⟩ => rfl
  | ⟨1, _⟩ => exact (congrArg (· + k.val) (Nat.zero_mul _)).trans (Nat.zero_add _)

theorem blk1_3 (c : Dev nD) (t : Fin cfg1.N) (a : Fin 128) (k : Fin 128) :
    (iblk1 V c 3 t (ix2 a k) : EReal) = topRows (V c main_arg5) a k := by
  have h0 : (cfg1.win 3).index t = ![0, 0] := (block_index1 t).2.2.2.1
  unfold topRows
  refine congrArg (V c main_arg5) (funext fun x => Fin.ext ?_)
  refine (Pipeline.Window.rect_emb_val (cfg1.win 3) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk1_4 (c : Dev nD) (t : Fin cfg1.N) (a : Fin 1) (k : Fin 128) :
    (iblk1 V c 4 t (ix2 a k) : EReal) = V c main_v5 (ix2 a k) := by
  have h0 : (cfg1.win 4).index t = ![0, 0] := (block_index1 t).2.2.2.2.1
  refine congrArg (V c main_v5) (funext fun x => Fin.ext ?_)
  refine (Pipeline.Window.rect_emb_val (cfg1.win 4) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk1_5 (c : Dev nD) (t : Fin cfg1.N) (a : Fin 128) (k : Fin 128) :
    (iblk1 V c 5 t (ix2 a k) : EReal) = V c main_arg7 (ix2 a k) := by
  have h0 : (cfg1.win 5).index t = ![0, 0] := (block_index1 t).2.2.2.2.2.1
  refine congrArg (V c main_arg7) (funext fun x => Fin.ext ?_)
  refine (Pipeline.Window.rect_emb_val (cfg1.win 5) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk1_6 (c : Dev nD) (t : Fin cfg1.N) (a : Fin 1) (k : Fin 128) :
    (iblk1 V c 6 t (ix2 a k) : EReal) = V c main_v6 (ix2 a k) := by
  have h0 : (cfg1.win 6).index t = ![0, 0] := (block_index1 t).2.2.2.2.2.2.1
  refine congrArg (V c main_v6) (funext fun x => Fin.ext ?_)
  refine (Pipeline.Window.rect_emb_val (cfg1.win 6) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk1_7 (c : Dev nD) (t : Fin cfg1.N) (a : Fin 1) (k : Fin 128) :
    (iblk1 V c 7 t (ix2 a k) : EReal) = V c main_v7 (ix2 a k) := by
  have h0 : (cfg1.win 7).index t = ![0, 0] := (block_index1 t).2.2.2.2.2.2.2.1
  refine congrArg (V c main_v7) (funext fun x => Fin.ext ?_)
  refine (Pipeline.Window.rect_emb_val (cfg1.win 7) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk1_8 (c : Dev nD) (t : Fin cfg1.N) (a : Fin 1) (k : Fin 128) :
    (iblk1 V c 8 t (ix2 a k) : EReal) = V c main_v8 (ix2 a k) := by
  have h0 : (cfg1.win 8).index t = ![0, 0] := (block_index1 t).2.2.2.2.2.2.2.2.1
  refine congrArg (V c main_v8) (funext fun x => Fin.ext ?_)
  refine (Pipeline.Window.rect_emb_val (cfg1.win 8) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

/-- The payloads are those of the first call. -/
theorem pay1 (x0 x1 x2 : S10000x128.Idx → EReal) (x3 : S128x128.Idx → EReal) (x4 : S1x128.Idx → EReal) (x5 : S128x128.Idx → EReal)
    (x6 x7 x8 : S1x128.Idx → EReal) :
    k1_pay1 (F := Ideal) x0 (k1_pay4 x0 x3 x1 x2 x4 x5 x6) (k1_pay5 x0 x3 x1 x2 x4 x5 x6) (Scalar.ofBits .f32 0x3727C5AC#32) x7 x8
      = bodyOut x0 x1 x2 x3 x4 x5 x6 x7 x8 := rfl

/-- What a run of the body leaves in the result's buffer: the block computed from the nine it is given. -/
theorem out1 (c : Dev nD) (i : grid1.Coords)
    (arg1 : Memref sig .tc .vmem S10000x128 .f32) (harg1 : arg1.IsWhole)
    (arg2 : Memref sig .tc .vmem S10000x128 .f32) (harg2 : arg2.IsWhole)
    (arg3 : Memref sig .tc .vmem S10000x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole)
    (arg11 : Memref sig .tc .vmem S10000x128 .f32) (harg11 : arg11.IsWhole)
    (x0 x1 x2 : S10000x128.Idx → EReal) (x3 : S128x128.Idx → EReal) (x4 : S1x128.Idx → EReal) (x5 : S128x128.Idx → EReal)
    (x6 x7 x8 : S1x128.Idx → EReal) :
    out1_A_9 (F := Ideal) c i arg1 harg1 arg2 harg2 arg3 harg3 arg4 harg4 arg5 harg5 arg6 harg6 arg7 harg7 arg8 harg8 arg9 harg9 arg11 harg11 x0 x1 x2 x3 x4 x5 x6 x7 x8
      = bodyOut x0 x1 x2 x3 x4 x5 x6 x7 x8 := by
  have z : (![0, 0] : Fin 2 → Nat) = fun _ => 0 := by decide
  have hL : (kernelRun1_A (F := Ideal) c i arg1 harg1 arg2 harg2 arg3 harg3 arg4 harg4 arg5 harg5 arg6 harg6 arg7 harg7 arg8 harg8 arg9 harg9 arg11 harg11 x0 x1 x2 x3 x4 x5 x6 x7 x8).1
      = [⟨Rect.unit (s := S10000x128) ![0, 0] S10000x128.size inb_S10000x128_S10000x128_0_0,
        k1_pay1
            (arg1.view.readAt (Elt Ideal) (Rect.unit (s := S10000x128) ![0, 0] S10000x128.size inb_S10000x128_S10000x128_0_0).toLoadRect (harg1.unread x0))
          (k1_pay4
            (arg1.view.readAt (Elt Ideal) (Rect.unit (s := S10000x128) ![0, 0] S10000x128.size inb_S10000x128_S10000x128_0_0).toLoadRect (harg1.unread x0))
            (arg4.view.readAt (Elt Ideal) (Rect.unit (s := S128x128) ![0, 0] S128x128.size inb_S128x128_S128x128_0_0).toLoadRect (harg4.unread x3))
            (arg2.view.readAt (Elt Ideal) (Rect.unit (s := S10000x128) ![0, 0] S10000x128.size inb_S10000x128_S10000x128_0_0).toLoadRect (harg2.unread x1))
            (arg3.view.readAt (Elt Ideal) (Rect.unit (s := S10000x128) ![0, 0] S10000x128.size inb_S10000x128_S10000x128_0_0).toLoadRect (harg3.unread x2))
            (arg5.view.readAt (Elt Ideal) (Rect.unit (s := S1x128) ![0, 0] S1x128.size inb_S1x128_S1x128_0_0).toLoadRect (harg5.unread x4))
            (arg6.view.readAt (Elt Ideal) (Rect.unit (s := S128x128) ![0, 0] S128x128.size inb_S128x128_S128x128_0_0).toLoadRect (harg6.unread x5))
            (arg7.view.readAt (Elt Ideal) (Rect.unit (s := S1x128) ![0, 0] S1x128.size inb_S1x128_S1x128_0_0).toLoadRect (harg7.unread x6)))
          (k1_pay5
            (arg1.view.readAt (Elt Ideal) (Rect.unit (s := S10000x128) ![0, 0] S10000x128.size inb_S10000x128_S10000x128_0_0).toLoadRect (harg1.unread x0))
            (arg4.view.readAt (Elt Ideal) (Rect.unit (s := S128x128) ![0, 0] S128x128.size inb_S128x128_S128x128_0_0).toLoadRect (harg4.unread x3))
            (arg2.view.readAt (Elt Ideal) (Rect.unit (s := S10000x128) ![0, 0] S10000x128.size inb_S10000x128_S10000x128_0_0).toLoadRect (harg2.unread x1))
            (arg3.view.readAt (Elt Ideal) (Rect.unit (s := S10000x128) ![0, 0] S10000x128.size inb_S10000x128_S10000x128_0_0).toLoadRect (harg3.unread x2))
            (arg5.view.readAt (Elt Ideal) (Rect.unit (s := S1x128) ![0, 0] S1x128.size inb_S1x128_S1x128_0_0).toLoadRect (harg5.unread x4))
            (arg6.view.readAt (Elt Ideal) (Rect.unit (s := S128x128) ![0, 0] S128x128.size inb_S128x128_S128x128_0_0).toLoadRect (harg6.unread x5))
            (arg7.view.readAt (Elt Ideal) (Rect.unit (s := S1x128) ![0, 0] S1x128.size inb_S1x128_S1x128_0_0).toLoadRect (harg7.unread x6)))
          (Scalar.ofBits .f32 0x3727C5AC#32)
            (arg8.view.readAt (Elt Ideal) (Rect.unit (s := S1x128) ![0, 0] S1x128.size inb_S1x128_S1x128_0_0).toLoadRect (harg8.unread x7))
            (arg9.view.readAt (Elt Ideal) (Rect.unit (s := S1x128) ![0, 0] S1x128.size inb_S1x128_S1x128_0_0).toLoadRect (harg9.unread x8))⟩] := rfl
  unfold out1_A_9
  rw [hL, View.read_writes_junk_eq_canon]
  refine (View.canon_unit_zero (S := S10000x128) z inb_S10000x128_S10000x128_0_0 _).trans ?_
  rw [load_whole arg1 harg1 x0 z, load_whole arg2 harg2 x1 z, load_whole arg3 harg3 x2 z, load_whole arg4 harg4 x3 z, load_whole arg5 harg5 x4 z, load_whole arg6 harg6 x5 z, load_whole arg7 harg7 x6 z, load_whole arg8 harg8 x7 z, load_whole arg9 harg9 x8 z]
  exact pay1 x0 x1 x2 x3 x4 x5 x6 x7 x8

/-- What a point writes back is the block computed from its nine. -/
theorem after1 (c : Dev nD) (t : Fin cfg1.N) :
    (dat1 V c).after 9 t = bodyOut (iblk1 V c 0 t) (iblk1 V c 1 t) (iblk1 V c 2 t) (iblk1 V c 3 t) (iblk1 V c 4 t) (iblk1 V c 5 t)
      (iblk1 V c 6 t) (iblk1 V c 7 t) (iblk1 V c 8 t) :=
  (after1_9 V c t).trans (out1 c (grid1.coords t) _ _ _ _ _ _ _ _ _ _ _ _ _ _ _ _ _ _ _ _ _ _ _ _ _ _ _ _ _)

/-- An entry of what a point writes back. -/
theorem entry1 (c : Dev nD) (t : Fin cfg1.N) (a : Fin 10000) (j : Fin 128) :
    bodyOut (iblk1 V c 0 t) (iblk1 V c 1 t) (iblk1 V c 2 t) (iblk1 V c 3 t) (iblk1 V c 4 t) (iblk1 V c 5 t)
      (iblk1 V c 6 t) (iblk1 V c 7 t) (iblk1 V c 8 t) (ix2 a j) = rows1 V c ((t.val + 8) * 10000 + a.val) j := by
  rw [bodyOut_apply]
  unfold rows1 chunk
  have h0 := funext (blk1_0 V c t a)
  have h1 := funext (blk1_1 V c t a)
  have h2 := funext (blk1_2 V c t a)
  have h3 : (fun k j => (iblk1 V c 3 t (ix2 k j) : EReal)) = _ := funext fun k => funext (blk1_3 V c t k)
  have h4 := funext (blk1_4 V c t (0 : Fin 1))
  have h5 : (fun k j => (iblk1 V c 5 t (ix2 k j) : EReal)) = _ := funext fun k => funext (blk1_5 V c t k)
  have h6 := funext (blk1_6 V c t (0 : Fin 1))
  have h7 := funext (blk1_7 V c t (0 : Fin 1))
  have h8 := funext (blk1_8 V c t (0 : Fin 1))
  rw [h0, h1, h2, h3, h4, h5, h6, h7, h8]

/-- The result's array after the call. -/
theorem arr1 (c : Dev nD) : (dat1 V c).arrAt 9 cfg1.N
    = fun i : S320000x128.Idx => if 80000 ≤ (i 0).val ∧ (i 0).val < 160000 then rows1 V c (i 0).val (i 1) else V c main_v9 i := by
  refine (dat1 V c).arrAt_eq_of_coversWhere 9 (fun i : S320000x128.Idx => rows1 V c (i 0).val (i 1))
    (fun β => 8 ≤ β (0 : Fin 2) ∧ β (0 : Fin 2) < 16) (by decide +kernel) ?_ ?_
  · intro t _ y
    have h0 : (cfg1.win 9).index t = ![t.val + 8, 0] := (block_index1 t).2.2.2.2.2.2.2.2.2
    have e0 : ((((cfg1.win 9).blk t).view.emb y : S320000x128.Idx) 0).val = (t.val + 8) * 10000 + (y 0).val := by
      refine (Pipeline.Window.rect_emb_val (cfg1.win 9) t y 0 rfl).trans ?_
      rw [h0]; rfl
    have e1 : (((cfg1.win 9).blk t).view.emb y : S320000x128.Idx) 1 = (y 1 : Fin 128) := by
      refine Fin.ext ((Pipeline.Window.rect_emb_val (cfg1.win 9) t y 1 rfl).trans ?_)
      rw [h0]; exact (congrArg (· + (y 1).val) (Nat.zero_mul _)).trans (Nat.zero_add _)
    rw [e0, e1]
    refine Eq.trans ?_ (entry1 V c t (y 0) (y 1))
    refine Eq.trans ?_ (congrArg _ (ValueIdx.eq_ix2 (y : S10000x128.Idx)))
    exact congrFun (after1 V c t) y
  · intro j
    show 80000 ≤ (j (0 : Fin 2)).val ∧ (j (0 : Fin 2)).val < 160000 ↔ 8 ≤ (j (0 : Fin 2)).val / 10000 ∧ (j (0 : Fin 2)).val / 10000 < 16
    omega

end Cert.Proof

end
-- ==== Proof.EdgeCall2.lean ====
/-
  The array call 2 of the four edge calls leaves: its eight blocks of the result are the rows of its chunk, and every other row is
  as it was.
-/
module

public import proofs.«01_k».proof.Proof.EdgePay
public import Idealize.ShloMosaic.Lib.Pipeline.ValueKit.Partial

@[expose] public section

noncomputable section

namespace Cert.Proof

open Cert.EdgesIdeal Cert.EdgesIdeal.Gen
open Idealize.ShloMosaic hiding ix1 ix2 ix3
open Idealize.ShloMosaic.TcCoe
open Idealize.ShloMosaic.ValueIdx

variable (V : (c : Dev nD) → (b : Ref sig .tc) → Buf (Elt Ideal) ((c : Thread nD τ).loc b))

/-- The blocks' positions at a point of call 2. -/
theorem block_index2 : ∀ t : Fin cfg2.N, win2_0.index t = ![t.val + 16, 0] ∧ win2_1.index t = ![t.val, 0] ∧ win2_2.index t = ![t.val + 8, 0]
    ∧ win2_3.index t = ![0, 0] ∧ win2_4.index t = ![0, 0] ∧ win2_5.index t = ![0, 0] ∧ win2_6.index t = ![0, 0]
    ∧ win2_7.index t = ![0, 0] ∧ win2_8.index t = ![0, 0] ∧ win2_9.index t = ![t.val + 16, 0] :=
  (by decide +kernel : ∀ t : Fin grid2.N, _)

/-- The rows of chunk 2, over the contents the call starts from. -/
def rows2 (c : Dev nD) (r : Nat) (j : Fin 128) : EReal :=
  chunk (V c main_arg0) (V c main_arg3) (V c main_arg5) (fun k => V c main_v10 (ix2 (0 : Fin 1) k)) (V c main_arg7)
    (fun k => V c main_v11 (ix2 (0 : Fin 1) k)) (fun k => V c main_v12 (ix2 (0 : Fin 1) k)) (fun k => V c main_v13 (ix2 (0 : Fin 1) k)) r j

theorem blk2_0 (c : Dev nD) (t : Fin cfg2.N) (a : Fin 10000) (k : Fin 128) :
    (iblk2 V c 0 t (ix2 a k) : EReal) = rowAt (V c main_arg0) ((t.val + 16) * 10000 + a.val) k := by
  have ht : t.val < 8 := t.isLt
  have ha := a.isLt
  have h0 : (cfg2.win 0).index t = ![t.val + 16, 0] := (block_index2 t).1
  refine Eq.trans (congrArg (V c main_arg0) (funext fun x => Fin.ext ?_))
    (rowAt_of_lt (V c main_arg0) (⟨(t.val + 16) * 10000 + a.val, by omega⟩ : Fin 320000) _ (by show (t.val + 16) * 10000 + a.val = _; omega) k)
  refine (Pipeline.Window.rect_emb_val (cfg2.win 0) t (ix2 a k) x rfl).trans ?_
  rw [h0]
  match x with
  | ⟨0, _⟩ => rfl
  | ⟨1, _⟩ => exact (congrArg (· + k.val) (Nat.zero_mul _)).trans (Nat.zero_add _)

theorem blk2_1 (c : Dev nD) (t : Fin cfg2.N) (a : Fin 10000) (k : Fin 128) :
    (iblk2 V c 1 t (ix2 a k) : EReal) = rowAt (V c main_arg3) (((t.val + 16) * 10000 + a.val) % 80000) k := by
  have ht : t.val < 8 := t.isLt
  have ha := a.isLt
  have h0 : (cfg2.win 1).index t = ![t.val + 0, 0] := (block_index2 t).2.1
  refine Eq.trans (congrArg (V c main_arg3) (funext fun x => Fin.ext ?_))
    (rowAt_of_lt (V c main_arg3) (⟨(t.val + 0) * 10000 + a.val, by omega⟩ : Fin 160000) _ (by show (t.val + 0) * 10000 + a.val = _; omega) k)
  refine (Pipeline.Window.rect_emb_val (cfg2.win 1) t (ix2 a k) x rfl).trans ?_
  rw [h0]
  match x with
  | ⟨0, _⟩ => rfl
  | ⟨1, _⟩ => exact (congrArg (· + k.val) (Nat.zero_mul _)).trans (Nat.zero_add _)

theorem blk2_2 (c : Dev nD) (t : Fin cfg2.N) (a : Fin 10000) (k : Fin 128) :
    (iblk2 V c 2 t (ix2 a k) : EReal) = rowAt (V c main_arg3) (((t.val + 16) * 10000 + a.val) % 80000 + 80000) k := by
  have ht : t.val < 8 := t.isLt
  have ha := a.isLt
  have h0 : (cfg2.win 2).index t = ![t.val + 8, 0] := (block_index2 t).2.2.1
  refine Eq.trans (congrArg (V c main_arg3) (funext fun x => Fin.ext ?_))
    (rowAt_of_lt (V c main_arg3) (⟨(t.val + 8) * 10000 + a.val, by omega⟩ : Fin 160000) _ (by show (t.val + 8) * 10000 + a.val = _; omega) k)
  refine (Pipeline.Window.rect_emb_val (cfg2.win 2) t (ix2 a k) x rfl).trans ?_
  rw [h0]
  match x with
  | ⟨0, _⟩ => rfl
  | ⟨1, _⟩ => exact (congrArg (· + k.val) (Nat.zero_mul _)).trans (Nat.zero_add _)

theorem blk2_3 (c : Dev nD) (t : Fin cfg2.N) (a : Fin 128) (k : Fin 128) :
    (iblk2 V c 3 t (ix2 a k) : EReal) = topRows (V c main_arg5) a k := by
  have h0 : (cfg2.win 3).index t = ![0, 0] := (block_index2 t).2.2.2.1
  unfold topRows
  refine congrArg (V c main_arg5) (funext fun x => Fin.ext ?_)
  refine (Pipeline.Window.rect_emb_val (cfg2.win 3) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk2_4 (c : Dev nD) (t : Fin cfg2.N) (a : Fin 1) (k : Fin 128) :
    (iblk2 V c 4 t (ix2 a k) : EReal) = V c main_v10 (ix2 a k) := by
  have h0 : (cfg2.win 4).index t = ![0, 0] := (block_index2 t).2.2.2.2.1
  refine congrArg (V c main_v10) (funext fun x => Fin.ext ?_)
  refine (Pipeline.Window.rect_emb_val (cfg2.win 4) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk2_5 (c : Dev nD) (t : Fin cfg2.N) (a : Fin 128) (k : Fin 128) :
    (iblk2 V c 5 t (ix2 a k) : EReal) = V c main_arg7 (ix2 a k) := by
  have h0 : (cfg2.win 5).index t = ![0, 0] := (block_index2 t).2.2.2.2.2.1
  refine congrArg (V c main_arg7) (funext fun x => Fin.ext ?_)
  refine (Pipeline.Window.rect_emb_val (cfg2.win 5) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk2_6 (c : Dev nD) (t : Fin cfg2.N) (a : Fin 1) (k : Fin 128) :
    (iblk2 V c 6 t (ix2 a k) : EReal) = V c main_v11 (ix2 a k) := by
  have h0 : (cfg2.win 6).index t = ![0, 0] := (block_index2 t).2.2.2.2.2.2.1
  refine congrArg (V c main_v11) (funext fun x => Fin.ext ?_)
  refine (Pipeline.Window.rect_emb_val (cfg2.win 6) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk2_7 (c : Dev nD) (t : Fin cfg2.N) (a : Fin 1) (k : Fin 128) :
    (iblk2 V c 7 t (ix2 a k) : EReal) = V c main_v12 (ix2 a k) := by
  have h0 : (cfg2.win 7).index t = ![0, 0] := (block_index2 t).2.2.2.2.2.2.2.1
  refine congrArg (V c main_v12) (funext fun x => Fin.ext ?_)
  refine (Pipeline.Window.rect_emb_val (cfg2.win 7) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk2_8 (c : Dev nD) (t : Fin cfg2.N) (a : Fin 1) (k : Fin 128) :
    (iblk2 V c 8 t (ix2 a k) : EReal) = V c main_v13 (ix2 a k) := by
  have h0 : (cfg2.win 8).index t = ![0, 0] := (block_index2 t).2.2.2.2.2.2.2.2.1
  refine congrArg (V c main_v13) (funext fun x => Fin.ext ?_)
  refine (Pipeline.Window.rect_emb_val (cfg2.win 8) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

/-- The payloads are those of the first call. -/
theorem pay2 (x0 x1 x2 : S10000x128.Idx → EReal) (x3 : S128x128.Idx → EReal) (x4 : S1x128.Idx → EReal) (x5 : S128x128.Idx → EReal)
    (x6 x7 x8 : S1x128.Idx → EReal) :
    k2_pay1 (F := Ideal) x0 (k2_pay4 x0 x3 x1 x2 x4 x5 x6) (k2_pay5 x0 x3 x1 x2 x4 x5 x6) (Scalar.ofBits .f32 0x3727C5AC#32) x7 x8
      = bodyOut x0 x1 x2 x3 x4 x5 x6 x7 x8 := rfl

/-- What a run of the body leaves in the result's buffer: the block computed from the nine it is given. -/
theorem out2 (c : Dev nD) (i : grid2.Coords)
    (arg1 : Memref sig .tc .vmem S10000x128 .f32) (harg1 : arg1.IsWhole)
    (arg2 : Memref sig .tc .vmem S10000x128 .f32) (harg2 : arg2.IsWhole)
    (arg3 : Memref sig .tc .vmem S10000x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole)
    (arg11 : Memref sig .tc .vmem S10000x128 .f32) (harg11 : arg11.IsWhole)
    (x0 x1 x2 : S10000x128.Idx → EReal) (x3 : S128x128.Idx → EReal) (x4 : S1x128.Idx → EReal) (x5 : S128x128.Idx → EReal)
    (x6 x7 x8 : S1x128.Idx → EReal) :
    out2_A_9 (F := Ideal) c i arg1 harg1 arg2 harg2 arg3 harg3 arg4 harg4 arg5 harg5 arg6 harg6 arg7 harg7 arg8 harg8 arg9 harg9 arg11 harg11 x0 x1 x2 x3 x4 x5 x6 x7 x8
      = bodyOut x0 x1 x2 x3 x4 x5 x6 x7 x8 := by
  have z : (![0, 0] : Fin 2 → Nat) = fun _ => 0 := by decide
  have hL : (kernelRun2_A (F := Ideal) c i arg1 harg1 arg2 harg2 arg3 harg3 arg4 harg4 arg5 harg5 arg6 harg6 arg7 harg7 arg8 harg8 arg9 harg9 arg11 harg11 x0 x1 x2 x3 x4 x5 x6 x7 x8).1
      = [⟨Rect.unit (s := S10000x128) ![0, 0] S10000x128.size inb_S10000x128_S10000x128_0_0,
        k2_pay1
            (arg1.view.readAt (Elt Ideal) (Rect.unit (s := S10000x128) ![0, 0] S10000x128.size inb_S10000x128_S10000x128_0_0).toLoadRect (harg1.unread x0))
          (k2_pay4
            (arg1.view.readAt (Elt Ideal) (Rect.unit (s := S10000x128) ![0, 0] S10000x128.size inb_S10000x128_S10000x128_0_0).toLoadRect (harg1.unread x0))
            (arg4.view.readAt (Elt Ideal) (Rect.unit (s := S128x128) ![0, 0] S128x128.size inb_S128x128_S128x128_0_0).toLoadRect (harg4.unread x3))
            (arg2.view.readAt (Elt Ideal) (Rect.unit (s := S10000x128) ![0, 0] S10000x128.size inb_S10000x128_S10000x128_0_0).toLoadRect (harg2.unread x1))
            (arg3.view.readAt (Elt Ideal) (Rect.unit (s := S10000x128) ![0, 0] S10000x128.size inb_S10000x128_S10000x128_0_0).toLoadRect (harg3.unread x2))
            (arg5.view.readAt (Elt Ideal) (Rect.unit (s := S1x128) ![0, 0] S1x128.size inb_S1x128_S1x128_0_0).toLoadRect (harg5.unread x4))
            (arg6.view.readAt (Elt Ideal) (Rect.unit (s := S128x128) ![0, 0] S128x128.size inb_S128x128_S128x128_0_0).toLoadRect (harg6.unread x5))
            (arg7.view.readAt (Elt Ideal) (Rect.unit (s := S1x128) ![0, 0] S1x128.size inb_S1x128_S1x128_0_0).toLoadRect (harg7.unread x6)))
          (k2_pay5
            (arg1.view.readAt (Elt Ideal) (Rect.unit (s := S10000x128) ![0, 0] S10000x128.size inb_S10000x128_S10000x128_0_0).toLoadRect (harg1.unread x0))
            (arg4.view.readAt (Elt Ideal) (Rect.unit (s := S128x128) ![0, 0] S128x128.size inb_S128x128_S128x128_0_0).toLoadRect (harg4.unread x3))
            (arg2.view.readAt (Elt Ideal) (Rect.unit (s := S10000x128) ![0, 0] S10000x128.size inb_S10000x128_S10000x128_0_0).toLoadRect (harg2.unread x1))
            (arg3.view.readAt (Elt Ideal) (Rect.unit (s := S10000x128) ![0, 0] S10000x128.size inb_S10000x128_S10000x128_0_0).toLoadRect (harg3.unread x2))
            (arg5.view.readAt (Elt Ideal) (Rect.unit (s := S1x128) ![0, 0] S1x128.size inb_S1x128_S1x128_0_0).toLoadRect (harg5.unread x4))
            (arg6.view.readAt (Elt Ideal) (Rect.unit (s := S128x128) ![0, 0] S128x128.size inb_S128x128_S128x128_0_0).toLoadRect (harg6.unread x5))
            (arg7.view.readAt (Elt Ideal) (Rect.unit (s := S1x128) ![0, 0] S1x128.size inb_S1x128_S1x128_0_0).toLoadRect (harg7.unread x6)))
          (Scalar.ofBits .f32 0x3727C5AC#32)
            (arg8.view.readAt (Elt Ideal) (Rect.unit (s := S1x128) ![0, 0] S1x128.size inb_S1x128_S1x128_0_0).toLoadRect (harg8.unread x7))
            (arg9.view.readAt (Elt Ideal) (Rect.unit (s := S1x128) ![0, 0] S1x128.size inb_S1x128_S1x128_0_0).toLoadRect (harg9.unread x8))⟩] := rfl
  unfold out2_A_9
  rw [hL, View.read_writes_junk_eq_canon]
  refine (View.canon_unit_zero (S := S10000x128) z inb_S10000x128_S10000x128_0_0 _).trans ?_
  rw [load_whole arg1 harg1 x0 z, load_whole arg2 harg2 x1 z, load_whole arg3 harg3 x2 z, load_whole arg4 harg4 x3 z, load_whole arg5 harg5 x4 z, load_whole arg6 harg6 x5 z, load_whole arg7 harg7 x6 z, load_whole arg8 harg8 x7 z, load_whole arg9 harg9 x8 z]
  exact pay2 x0 x1 x2 x3 x4 x5 x6 x7 x8

/-- What a point writes back is the block computed from its nine. -/
theorem after2 (c : Dev nD) (t : Fin cfg2.N) :
    (dat2 V c).after 9 t = bodyOut (iblk2 V c 0 t) (iblk2 V c 1 t) (iblk2 V c 2 t) (iblk2 V c 3 t) (iblk2 V c 4 t) (iblk2 V c 5 t)
      (iblk2 V c 6 t) (iblk2 V c 7 t) (iblk2 V c 8 t) :=
  (after2_9 V c t).trans (out2 c (grid2.coords t) _ _ _ _ _ _ _ _ _ _ _ _ _ _ _ _ _ _ _ _ _ _ _ _ _ _ _ _ _)

/-- An entry of what a point writes back. -/
theorem entry2 (c : Dev nD) (t : Fin cfg2.N) (a : Fin 10000) (j : Fin 128) :
    bodyOut (iblk2 V c 0 t) (iblk2 V c 1 t) (iblk2 V c 2 t) (iblk2 V c 3 t) (iblk2 V c 4 t) (iblk2 V c 5 t)
      (iblk2 V c 6 t) (iblk2 V c 7 t) (iblk2 V c 8 t) (ix2 a j) = rows2 V c ((t.val + 16) * 10000 + a.val) j := by
  rw [bodyOut_apply]
  unfold rows2 chunk
  have h0 := funext (blk2_0 V c t a)
  have h1 := funext (blk2_1 V c t a)
  have h2 := funext (blk2_2 V c t a)
  have h3 : (fun k j => (iblk2 V c 3 t (ix2 k j) : EReal)) = _ := funext fun k => funext (blk2_3 V c t k)
  have h4 := funext (blk2_4 V c t (0 : Fin 1))
  have h5 : (fun k j => (iblk2 V c 5 t (ix2 k j) : EReal)) = _ := funext fun k => funext (blk2_5 V c t k)
  have h6 := funext (blk2_6 V c t (0 : Fin 1))
  have h7 := funext (blk2_7 V c t (0 : Fin 1))
  have h8 := funext (blk2_8 V c t (0 : Fin 1))
  rw [h0, h1, h2, h3, h4, h5, h6, h7, h8]

/-- The result's array after the call. -/
theorem arr2 (c : Dev nD) : (dat2 V c).arrAt 9 cfg2.N
    = fun i : S320000x128.Idx => if 160000 ≤ (i 0).val ∧ (i 0).val < 240000 then rows2 V c (i 0).val (i 1) else V c main_v14 i := by
  refine (dat2 V c).arrAt_eq_of_coversWhere 9 (fun i : S320000x128.Idx => rows2 V c (i 0).val (i 1))
    (fun β => 16 ≤ β (0 : Fin 2) ∧ β (0 : Fin 2) < 24) (by decide +kernel) ?_ ?_
  · intro t _ y
    have h0 : (cfg2.win 9).index t = ![t.val + 16, 0] := (block_index2 t).2.2.2.2.2.2.2.2.2
    have e0 : ((((cfg2.win 9).blk t).view.emb y : S320000x128.Idx) 0).val = (t.val + 16) * 10000 + (y 0).val := by
      refine (Pipeline.Window.rect_emb_val (cfg2.win 9) t y 0 rfl).trans ?_
      rw [h0]; rfl
    have e1 : (((cfg2.win 9).blk t).view.emb y : S320000x128.Idx) 1 = (y 1 : Fin 128) := by
      refine Fin.ext ((Pipeline.Window.rect_emb_val (cfg2.win 9) t y 1 rfl).trans ?_)
      rw [h0]; exact (congrArg (· + (y 1).val) (Nat.zero_mul _)).trans (Nat.zero_add _)
    rw [e0, e1]
    refine Eq.trans ?_ (entry2 V c t (y 0) (y 1))
    refine Eq.trans ?_ (congrArg _ (ValueIdx.eq_ix2 (y : S10000x128.Idx)))
    exact congrFun (after2 V c t) y
  · intro j
    show 160000 ≤ (j (0 : Fin 2)).val ∧ (j (0 : Fin 2)).val < 240000 ↔ 16 ≤ (j (0 : Fin 2)).val / 10000 ∧ (j (0 : Fin 2)).val / 10000 < 24
    omega

end Cert.Proof

end
-- ==== Proof.EdgeCall3.lean ====
/-
  The array call 3 of the four edge calls leaves: its eight blocks of the result are the rows of its chunk, and every other row is
  as it was.
-/
module

public import proofs.«01_k».proof.Proof.EdgePay
public import Idealize.ShloMosaic.Lib.Pipeline.ValueKit.Partial

@[expose] public section

noncomputable section

namespace Cert.Proof

open Cert.EdgesIdeal Cert.EdgesIdeal.Gen
open Idealize.ShloMosaic hiding ix1 ix2 ix3
open Idealize.ShloMosaic.TcCoe
open Idealize.ShloMosaic.ValueIdx

variable (V : (c : Dev nD) → (b : Ref sig .tc) → Buf (Elt Ideal) ((c : Thread nD τ).loc b))

/-- The blocks' positions at a point of call 3. -/
theorem block_index3 : ∀ t : Fin cfg3.N, win3_0.index t = ![t.val + 24, 0] ∧ win3_1.index t = ![t.val, 0] ∧ win3_2.index t = ![t.val + 8, 0]
    ∧ win3_3.index t = ![0, 0] ∧ win3_4.index t = ![0, 0] ∧ win3_5.index t = ![0, 0] ∧ win3_6.index t = ![0, 0]
    ∧ win3_7.index t = ![0, 0] ∧ win3_8.index t = ![0, 0] ∧ win3_9.index t = ![t.val + 24, 0] :=
  (by decide +kernel : ∀ t : Fin grid3.N, _)

/-- The rows of chunk 3, over the contents the call starts from. -/
def rows3 (c : Dev nD) (r : Nat) (j : Fin 128) : EReal :=
  chunk (V c main_arg0) (V c main_arg4) (V c main_arg5) (fun k => V c main_v15 (ix2 (0 : Fin 1) k)) (V c main_arg7)
    (fun k => V c main_v16 (ix2 (0 : Fin 1) k)) (fun k => V c main_v17 (ix2 (0 : Fin 1) k)) (fun k => V c main_v18 (ix2 (0 : Fin 1) k)) r j

theorem blk3_0 (c : Dev nD) (t : Fin cfg3.N) (a : Fin 10000) (k : Fin 128) :
    (iblk3 V c 0 t (ix2 a k) : EReal) = rowAt (V c main_arg0) ((t.val + 24) * 10000 + a.val) k := by
  have ht : t.val < 8 := t.isLt
  have ha := a.isLt
  have h0 : (cfg3.win 0).index t = ![t.val + 24, 0] := (block_index3 t).1
  refine Eq.trans (congrArg (V c main_arg0) (funext fun x => Fin.ext ?_))
    (rowAt_of_lt (V c main_arg0) (⟨(t.val + 24) * 10000 + a.val, by omega⟩ : Fin 320000) _ (by show (t.val + 24) * 10000 + a.val = _; omega) k)
  refine (Pipeline.Window.rect_emb_val (cfg3.win 0) t (ix2 a k) x rfl).trans ?_
  rw [h0]
  match x with
  | ⟨0, _⟩ => rfl
  | ⟨1, _⟩ => exact (congrArg (· + k.val) (Nat.zero_mul _)).trans (Nat.zero_add _)

theorem blk3_1 (c : Dev nD) (t : Fin cfg3.N) (a : Fin 10000) (k : Fin 128) :
    (iblk3 V c 1 t (ix2 a k) : EReal) = rowAt (V c main_arg4) (((t.val + 24) * 10000 + a.val) % 80000) k := by
  have ht : t.val < 8 := t.isLt
  have ha := a.isLt
  have h0 : (cfg3.win 1).index t = ![t.val + 0, 0] := (block_index3 t).2.1
  refine Eq.trans (congrArg (V c main_arg4) (funext fun x => Fin.ext ?_))
    (rowAt_of_lt (V c main_arg4) (⟨(t.val + 0) * 10000 + a.val, by omega⟩ : Fin 160000) _ (by show (t.val + 0) * 10000 + a.val = _; omega) k)
  refine (Pipeline.Window.rect_emb_val (cfg3.win 1) t (ix2 a k) x rfl).trans ?_
  rw [h0]
  match x with
  | ⟨0, _⟩ => rfl
  | ⟨1, _⟩ => exact (congrArg (· + k.val) (Nat.zero_mul _)).trans (Nat.zero_add _)

theorem blk3_2 (c : Dev nD) (t : Fin cfg3.N) (a : Fin 10000) (k : Fin 128) :
    (iblk3 V c 2 t (ix2 a k) : EReal) = rowAt (V c main_arg4) (((t.val + 24) * 10000 + a.val) % 80000 + 80000) k := by
  have ht : t.val < 8 := t.isLt
  have ha := a.isLt
  have h0 : (cfg3.win 2).index t = ![t.val + 8, 0] := (block_index3 t).2.2.1
  refine Eq.trans (congrArg (V c main_arg4) (funext fun x => Fin.ext ?_))
    (rowAt_of_lt (V c main_arg4) (⟨(t.val + 8) * 10000 + a.val, by omega⟩ : Fin 160000) _ (by show (t.val + 8) * 10000 + a.val = _; omega) k)
  refine (Pipeline.Window.rect_emb_val (cfg3.win 2) t (ix2 a k) x rfl).trans ?_
  rw [h0]
  match x with
  | ⟨0, _⟩ => rfl
  | ⟨1, _⟩ => exact (congrArg (· + k.val) (Nat.zero_mul _)).trans (Nat.zero_add _)

theorem blk3_3 (c : Dev nD) (t : Fin cfg3.N) (a : Fin 128) (k : Fin 128) :
    (iblk3 V c 3 t (ix2 a k) : EReal) = topRows (V c main_arg5) a k := by
  have h0 : (cfg3.win 3).index t = ![0, 0] := (block_index3 t).2.2.2.1
  unfold topRows
  refine congrArg (V c main_arg5) (funext fun x => Fin.ext ?_)
  refine (Pipeline.Window.rect_emb_val (cfg3.win 3) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk3_4 (c : Dev nD) (t : Fin cfg3.N) (a : Fin 1) (k : Fin 128) :
    (iblk3 V c 4 t (ix2 a k) : EReal) = V c main_v15 (ix2 a k) := by
  have h0 : (cfg3.win 4).index t = ![0, 0] := (block_index3 t).2.2.2.2.1
  refine congrArg (V c main_v15) (funext fun x => Fin.ext ?_)
  refine (Pipeline.Window.rect_emb_val (cfg3.win 4) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk3_5 (c : Dev nD) (t : Fin cfg3.N) (a : Fin 128) (k : Fin 128) :
    (iblk3 V c 5 t (ix2 a k) : EReal) = V c main_arg7 (ix2 a k) := by
  have h0 : (cfg3.win 5).index t = ![0, 0] := (block_index3 t).2.2.2.2.2.1
  refine congrArg (V c main_arg7) (funext fun x => Fin.ext ?_)
  refine (Pipeline.Window.rect_emb_val (cfg3.win 5) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk3_6 (c : Dev nD) (t : Fin cfg3.N) (a : Fin 1) (k : Fin 128) :
    (iblk3 V c 6 t (ix2 a k) : EReal) = V c main_v16 (ix2 a k) := by
  have h0 : (cfg3.win 6).index t = ![0, 0] := (block_index3 t).2.2.2.2.2.2.1
  refine congrArg (V c main_v16) (funext fun x => Fin.ext ?_)
  refine (Pipeline.Window.rect_emb_val (cfg3.win 6) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk3_7 (c : Dev nD) (t : Fin cfg3.N) (a : Fin 1) (k : Fin 128) :
    (iblk3 V c 7 t (ix2 a k) : EReal) = V c main_v17 (ix2 a k) := by
  have h0 : (cfg3.win 7).index t = ![0, 0] := (block_index3 t).2.2.2.2.2.2.2.1
  refine congrArg (V c main_v17) (funext fun x => Fin.ext ?_)
  refine (Pipeline.Window.rect_emb_val (cfg3.win 7) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

theorem blk3_8 (c : Dev nD) (t : Fin cfg3.N) (a : Fin 1) (k : Fin 128) :
    (iblk3 V c 8 t (ix2 a k) : EReal) = V c main_v18 (ix2 a k) := by
  have h0 : (cfg3.win 8).index t = ![0, 0] := (block_index3 t).2.2.2.2.2.2.2.2.1
  refine congrArg (V c main_v18) (funext fun x => Fin.ext ?_)
  refine (Pipeline.Window.rect_emb_val (cfg3.win 8) t (ix2 a k) x rfl).trans ?_
  rw [h0]
  match x with
  | ⟨0, _⟩ => exact (congrArg (· + a.val) (Nat.zero_mul _)).trans (Nat.zero_add _)
  | ⟨1, _⟩ => exact (congrArg (· + k.val) (Nat.zero_mul _)).trans (Nat.zero_add _)

/-- The payloads are those of the first call. -/
theorem pay3 (x0 x1 x2 : S10000x128.Idx → EReal) (x3 : S128x128.Idx → EReal) (x4 : S1x128.Idx → EReal) (x5 : S128x128.Idx → EReal)
    (x6 x7 x8 : S1x128.Idx → EReal) :
    k3_pay1 (F := Ideal) x0 (k3_pay4 x0 x3 x1 x2 x4 x5 x6) (k3_pay5 x0 x3 x1 x2 x4 x5 x6) (Scalar.ofBits .f32 0x3727C5AC#32) x7 x8
      = bodyOut x0 x1 x2 x3 x4 x5 x6 x7 x8 := rfl

/-- What a run of the body leaves in the result's buffer: the block computed from the nine it is given. -/
theorem out3 (c : Dev nD) (i : grid3.Coords)
    (arg1 : Memref sig .tc .vmem S10000x128 .f32) (harg1 : arg1.IsWhole)
    (arg2 : Memref sig .tc .vmem S10000x128 .f32) (harg2 : arg2.IsWhole)
    (arg3 : Memref sig .tc .vmem S10000x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole)
    (arg11 : Memref sig .tc .vmem S10000x128 .f32) (harg11 : arg11.IsWhole)
    (x0 x1 x2 : S10000x128.Idx → EReal) (x3 : S128x128.Idx → EReal) (x4 : S1x128.Idx → EReal) (x5 : S128x128.Idx → EReal)
    (x6 x7 x8 : S1x128.Idx → EReal) :
    out3_A_9 (F := Ideal) c i arg1 harg1 arg2 harg2 arg3 harg3 arg4 harg4 arg5 harg5 arg6 harg6 arg7 harg7 arg8 harg8 arg9 harg9 arg11 harg11 x0 x1 x2 x3 x4 x5 x6 x7 x8
      = bodyOut x0 x1 x2 x3 x4 x5 x6 x7 x8 := by
  have z : (![0, 0] : Fin 2 → Nat) = fun _ => 0 := by decide
  have hL : (kernelRun3_A (F := Ideal) c i arg1 harg1 arg2 harg2 arg3 harg3 arg4 harg4 arg5 harg5 arg6 harg6 arg7 harg7 arg8 harg8 arg9 harg9 arg11 harg11 x0 x1 x2 x3 x4 x5 x6 x7 x8).1
      = [⟨Rect.unit (s := S10000x128) ![0, 0] S10000x128.size inb_S10000x128_S10000x128_0_0,
        k3_pay1
            (arg1.view.readAt (Elt Ideal) (Rect.unit (s := S10000x128) ![0, 0] S10000x128.size inb_S10000x128_S10000x128_0_0).toLoadRect (harg1.unread x0))
          (k3_pay4
            (arg1.view.readAt (Elt Ideal) (Rect.unit (s := S10000x128) ![0, 0] S10000x128.size inb_S10000x128_S10000x128_0_0).toLoadRect (harg1.unread x0))
            (arg4.view.readAt (Elt Ideal) (Rect.unit (s := S128x128) ![0, 0] S128x128.size inb_S128x128_S128x128_0_0).toLoadRect (harg4.unread x3))
            (arg2.view.readAt (Elt Ideal) (Rect.unit (s := S10000x128) ![0, 0] S10000x128.size inb_S10000x128_S10000x128_0_0).toLoadRect (harg2.unread x1))
            (arg3.view.readAt (Elt Ideal) (Rect.unit (s := S10000x128) ![0, 0] S10000x128.size inb_S10000x128_S10000x128_0_0).toLoadRect (harg3.unread x2))
            (arg5.view.readAt (Elt Ideal) (Rect.unit (s := S1x128) ![0, 0] S1x128.size inb_S1x128_S1x128_0_0).toLoadRect (harg5.unread x4))
            (arg6.view.readAt (Elt Ideal) (Rect.unit (s := S128x128) ![0, 0] S128x128.size inb_S128x128_S128x128_0_0).toLoadRect (harg6.unread x5))
            (arg7.view.readAt (Elt Ideal) (Rect.unit (s := S1x128) ![0, 0] S1x128.size inb_S1x128_S1x128_0_0).toLoadRect (harg7.unread x6)))
          (k3_pay5
            (arg1.view.readAt (Elt Ideal) (Rect.unit (s := S10000x128) ![0, 0] S10000x128.size inb_S10000x128_S10000x128_0_0).toLoadRect (harg1.unread x0))
            (arg4.view.readAt (Elt Ideal) (Rect.unit (s := S128x128) ![0, 0] S128x128.size inb_S128x128_S128x128_0_0).toLoadRect (harg4.unread x3))
            (arg2.view.readAt (Elt Ideal) (Rect.unit (s := S10000x128) ![0, 0] S10000x128.size inb_S10000x128_S10000x128_0_0).toLoadRect (harg2.unread x1))
            (arg3.view.readAt (Elt Ideal) (Rect.unit (s := S10000x128) ![0, 0] S10000x128.size inb_S10000x128_S10000x128_0_0).toLoadRect (harg3.unread x2))
            (arg5.view.readAt (Elt Ideal) (Rect.unit (s := S1x128) ![0, 0] S1x128.size inb_S1x128_S1x128_0_0).toLoadRect (harg5.unread x4))
            (arg6.view.readAt (Elt Ideal) (Rect.unit (s := S128x128) ![0, 0] S128x128.size inb_S128x128_S128x128_0_0).toLoadRect (harg6.unread x5))
            (arg7.view.readAt (Elt Ideal) (Rect.unit (s := S1x128) ![0, 0] S1x128.size inb_S1x128_S1x128_0_0).toLoadRect (harg7.unread x6)))
          (Scalar.ofBits .f32 0x3727C5AC#32)
            (arg8.view.readAt (Elt Ideal) (Rect.unit (s := S1x128) ![0, 0] S1x128.size inb_S1x128_S1x128_0_0).toLoadRect (harg8.unread x7))
            (arg9.view.readAt (Elt Ideal) (Rect.unit (s := S1x128) ![0, 0] S1x128.size inb_S1x128_S1x128_0_0).toLoadRect (harg9.unread x8))⟩] := rfl
  unfold out3_A_9
  rw [hL, View.read_writes_junk_eq_canon]
  refine (View.canon_unit_zero (S := S10000x128) z inb_S10000x128_S10000x128_0_0 _).trans ?_
  rw [load_whole arg1 harg1 x0 z, load_whole arg2 harg2 x1 z, load_whole arg3 harg3 x2 z, load_whole arg4 harg4 x3 z, load_whole arg5 harg5 x4 z, load_whole arg6 harg6 x5 z, load_whole arg7 harg7 x6 z, load_whole arg8 harg8 x7 z, load_whole arg9 harg9 x8 z]
  exact pay3 x0 x1 x2 x3 x4 x5 x6 x7 x8

/-- What a point writes back is the block computed from its nine. -/
theorem after3 (c : Dev nD) (t : Fin cfg3.N) :
    (dat3 V c).after 9 t = bodyOut (iblk3 V c 0 t) (iblk3 V c 1 t) (iblk3 V c 2 t) (iblk3 V c 3 t) (iblk3 V c 4 t) (iblk3 V c 5 t)
      (iblk3 V c 6 t) (iblk3 V c 7 t) (iblk3 V c 8 t) :=
  (after3_9 V c t).trans (out3 c (grid3.coords t) _ _ _ _ _ _ _ _ _ _ _ _ _ _ _ _ _ _ _ _ _ _ _ _ _ _ _ _ _)

/-- An entry of what a point writes back. -/
theorem entry3 (c : Dev nD) (t : Fin cfg3.N) (a : Fin 10000) (j : Fin 128) :
    bodyOut (iblk3 V c 0 t) (iblk3 V c 1 t) (iblk3 V c 2 t) (iblk3 V c 3 t) (iblk3 V c 4 t) (iblk3 V c 5 t)
      (iblk3 V c 6 t) (iblk3 V c 7 t) (iblk3 V c 8 t) (ix2 a j) = rows3 V c ((t.val + 24) * 10000 + a.val) j := by
  rw [bodyOut_apply]
  unfold rows3 chunk
  have h0 := funext (blk3_0 V c t a)
  have h1 := funext (blk3_1 V c t a)
  have h2 := funext (blk3_2 V c t a)
  have h3 : (fun k j => (iblk3 V c 3 t (ix2 k j) : EReal)) = _ := funext fun k => funext (blk3_3 V c t k)
  have h4 := funext (blk3_4 V c t (0 : Fin 1))
  have h5 : (fun k j => (iblk3 V c 5 t (ix2 k j) : EReal)) = _ := funext fun k => funext (blk3_5 V c t k)
  have h6 := funext (blk3_6 V c t (0 : Fin 1))
  have h7 := funext (blk3_7 V c t (0 : Fin 1))
  have h8 := funext (blk3_8 V c t (0 : Fin 1))
  rw [h0, h1, h2, h3, h4, h5, h6, h7, h8]

/-- The result's array after the call. -/
theorem arr3 (c : Dev nD) : (dat3 V c).arrAt 9 cfg3.N
    = fun i : S320000x128.Idx => if 240000 ≤ (i 0).val ∧ (i 0).val < 320000 then rows3 V c (i 0).val (i 1) else V c main_v19 i := by
  refine (dat3 V c).arrAt_eq_of_coversWhere 9 (fun i : S320000x128.Idx => rows3 V c (i 0).val (i 1))
    (fun β => 24 ≤ β (0 : Fin 2) ∧ β (0 : Fin 2) < 32) (by decide +kernel) ?_ ?_
  · intro t _ y
    have h0 : (cfg3.win 9).index t = ![t.val + 24, 0] := (block_index3 t).2.2.2.2.2.2.2.2.2
    have e0 : ((((cfg3.win 9).blk t).view.emb y : S320000x128.Idx) 0).val = (t.val + 24) * 10000 + (y 0).val := by
      refine (Pipeline.Window.rect_emb_val (cfg3.win 9) t y 0 rfl).trans ?_
      rw [h0]; rfl
    have e1 : (((cfg3.win 9).blk t).view.emb y : S320000x128.Idx) 1 = (y 1 : Fin 128) := by
      refine Fin.ext ((Pipeline.Window.rect_emb_val (cfg3.win 9) t y 1 rfl).trans ?_)
      rw [h0]; exact (congrArg (· + (y 1).val) (Nat.zero_mul _)).trans (Nat.zero_add _)
    rw [e0, e1]
    refine Eq.trans ?_ (entry3 V c t (y 0) (y 1))
    refine Eq.trans ?_ (congrArg _ (ValueIdx.eq_ix2 (y : S10000x128.Idx)))
    exact congrFun (after3 V c t) y
  · intro j
    show 240000 ≤ (j (0 : Fin 2)).val ∧ (j (0 : Fin 2)).val < 320000 ↔ 24 ≤ (j (0 : Fin 2)).val / 10000 ∧ (j (0 : Fin 2)).val / 10000 < 32
    omega

end Cert.Proof

end
-- ==== Proof.EdgeValue.lean ====
/-
  The result of the four edge calls over the extended reals: row `r` is the row of the call of `r`'s chunk. Each call starts from a
  copy of the array the call before it left, so the rows of the earlier chunks stay.
-/
module

public import proofs.«01_k».proof.Proof.EdgeCall0
public import proofs.«01_k».proof.Proof.EdgeCall1
public import proofs.«01_k».proof.Proof.EdgeCall2
public import proofs.«01_k».proof.Proof.EdgeCall3
public import Idealize.ShloMosaic.Lib.StableHlo.RunRead

@[expose] public section

noncomputable section

namespace Cert.Proof

open Cert.EdgesIdeal Cert.EdgesIdeal.Gen
open Idealize.ShloMosaic hiding ix1 ix2 ix3
open Idealize.ShloMosaic.TcCoe
open Idealize.ShloMosaic.ValueIdx

/-- The gathered array of row `r`'s chunk. -/
def pick {α : Type} (g₀ g₁ g₂ g₃ : α) (r : Nat) : α :=
  if r < 80000 then g₀ else if r < 160000 then g₁ else if r < 240000 then g₂ else g₃

/-- Row `r` of the result. -/
def edgeVal (E : (⟨2, ![320000, 128]⟩ : Shape).Idx → EReal) (g₀ g₁ g₂ g₃ : (⟨2, ![160000, 128]⟩ : Shape).Idx → EReal)
    (W₁ : (⟨2, ![384, 128]⟩ : Shape).Idx → EReal) (b₁ : (⟨1, ![128]⟩ : Shape).Idx → EReal) (W₂ : (⟨2, ![128, 128]⟩ : Shape).Idx → EReal)
    (b₂ g b : (⟨1, ![128]⟩ : Shape).Idx → EReal) (r : Nat) (j : Fin 128) : EReal :=
  chunk E (pick g₀ g₁ g₂ g₃ r) W₁ (fun k => b₁ (ix1 k)) W₂ (fun k => b₂ (ix1 k)) (fun k => g (ix1 k)) (fun k => b (ix1 k)) r j

/-- A vector reshaped to one row. -/
theorem one_row (x : S128.Idx → EReal) (k : Fin 128) :
    shapeCast S1x128 x shapeCasts_S128_S1x128 (ix2 (0 : Fin 1) k) = x (ix1 k) := by
  refine shapeCast_apply x _ (ix2 (0 : Fin 1) k) (ix1 k) ?_
  rw [Shape.rowMajor_val_one, Shape.rowMajor_val_two]
  show k.val = 0 * 128 + k.val
  omega

variable (m : (ℓ : Loc nD τ sig) → Buf (Elt Ideal) ℓ) (ρ : Dev nD → PrngReg)

/-! ### Call 0 -/

theorem host0_0 (c : Dev nD) (k : Fin 128) :
    (V1 m ρ c main_v0 (ix2 (0 : Fin 1) k) : EReal) = m ((c : Thread nD τ).loc main_arg6) (ix1 k) := by
  have e : W1 m ρ c (Proc.devRef .tc main_v0) = shapeCast S1x128 (m ((c : Thread nD τ).loc main_arg6)) shapeCasts_S128_S1x128 := by
    refine (StableHlo.after_last_write (i := 0) [main_v1, main_v2, main_v3] rfl rfl (by decide) (W0 m ρ c)).trans ?_
    refine (StableHlo.reshape_result ..).trans ?_
    have e' : StableHlo.upto (hostOps0 (F := Ideal)) (W0 m ρ c) 0 (Proc.devRef .tc main_arg6) = m ((c : Thread nD τ).loc main_arg6) :=
      (StableHlo.upto_unwritten [] rfl (by decide) _).trans (W0_args m ρ c main_arg6 (by decide))
    rw [e']
    rfl
  exact (congrFun e (ix2 (0 : Fin 1) k)).trans (one_row _ k)

theorem host0_1 (c : Dev nD) (k : Fin 128) :
    (V1 m ρ c main_v1 (ix2 (0 : Fin 1) k) : EReal) = m ((c : Thread nD τ).loc main_arg8) (ix1 k) := by
  have e : W1 m ρ c (Proc.devRef .tc main_v1) = shapeCast S1x128 (m ((c : Thread nD τ).loc main_arg8)) shapeCasts_S128_S1x128 := by
    refine (StableHlo.after_last_write (i := 1) [main_v2, main_v3] rfl rfl (by decide) (W0 m ρ c)).trans ?_
    refine (StableHlo.reshape_result ..).trans ?_
    have e' : StableHlo.upto (hostOps0 (F := Ideal)) (W0 m ρ c) 1 (Proc.devRef .tc main_arg8) = m ((c : Thread nD τ).loc main_arg8) :=
      (StableHlo.upto_unwritten [main_v0] rfl (by decide) _).trans (W0_args m ρ c main_arg8 (by decide))
    rw [e']
    rfl
  exact (congrFun e (ix2 (0 : Fin 1) k)).trans (one_row _ k)

theorem host0_2 (c : Dev nD) (k : Fin 128) :
    (V1 m ρ c main_v2 (ix2 (0 : Fin 1) k) : EReal) = m ((c : Thread nD τ).loc main_arg9) (ix1 k) := by
  have e : W1 m ρ c (Proc.devRef .tc main_v2) = shapeCast S1x128 (m ((c : Thread nD τ).loc main_arg9)) shapeCasts_S128_S1x128 := by
    refine (StableHlo.after_last_write (i := 2) [main_v3] rfl rfl (by decide) (W0 m ρ c)).trans ?_
    refine (StableHlo.reshape_result ..).trans ?_
    have e' : StableHlo.upto (hostOps0 (F := Ideal)) (W0 m ρ c) 2 (Proc.devRef .tc main_arg9) = m ((c : Thread nD τ).loc main_arg9) :=
      (StableHlo.upto_unwritten [main_v0, main_v1] rfl (by decide) _).trans (W0_args m ρ c main_arg9 (by decide))
    rw [e']
    rfl
  exact (congrFun e (ix2 (0 : Fin 1) k)).trans (one_row _ k)

theorem host0_3 (c : Dev nD) (k : Fin 128) :
    (V1 m ρ c main_v3 (ix2 (0 : Fin 1) k) : EReal) = m ((c : Thread nD τ).loc main_arg10) (ix1 k) := by
  have e : W1 m ρ c (Proc.devRef .tc main_v3) = shapeCast S1x128 (m ((c : Thread nD τ).loc main_arg10)) shapeCasts_S128_S1x128 := by
    refine (StableHlo.after_last_write (i := 3) [] rfl rfl (by decide) (W0 m ρ c)).trans ?_
    refine (StableHlo.reshape_result ..).trans ?_
    have e' : StableHlo.upto (hostOps0 (F := Ideal)) (W0 m ρ c) 3 (Proc.devRef .tc main_arg10) = m ((c : Thread nD τ).loc main_arg10) :=
      (StableHlo.upto_unwritten [main_v0, main_v1, main_v2] rfl (by decide) _).trans (W0_args m ρ c main_arg10 (by decide))
    rw [e']
    rfl
  exact (congrFun e (ix2 (0 : Fin 1) k)).trans (one_row _ k)

/-- The call's rows, over the launch's memory. -/
theorem rows0_eq (c : Dev nD) (r : Nat) (j : Fin 128) :
    rows0 (V1 m ρ) c r j = chunk (m ((c : Thread nD τ).loc main_arg0)) (m ((c : Thread nD τ).loc main_arg1)) (m ((c : Thread nD τ).loc main_arg5))
      (fun k => m ((c : Thread nD τ).loc main_arg6) (ix1 k)) (m ((c : Thread nD τ).loc main_arg7)) (fun k => m ((c : Thread nD τ).loc main_arg8) (ix1 k))
      (fun k => m ((c : Thread nD τ).loc main_arg9) (ix1 k)) (fun k => m ((c : Thread nD τ).loc main_arg10) (ix1 k)) r j := by
  have a0 : V1 m ρ c main_arg0 = _ := W1_args m ρ c main_arg0 (by decide)
  have a1 : V1 m ρ c main_arg1 = _ := W1_args m ρ c main_arg1 (by decide)
  have a5 : V1 m ρ c main_arg5 = _ := W1_args m ρ c main_arg5 (by decide)
  have a7 : V1 m ρ c main_arg7 = _ := W1_args m ρ c main_arg7 (by decide)
  have b0 := funext (host0_0 m ρ c)
  have b1 := funext (host0_1 m ρ c)
  have b2 := funext (host0_2 m ρ c)
  have b3 := funext (host0_3 m ρ c)
  unfold rows0
  rw [a0, a1, a5, a7, b0, b1, b2, b3]

/-- The result's array after the call. -/
theorem after_call0 (c : Dev nD) (i : S320000x128.Idx) : (W2 m ρ c (Proc.devRef .tc main_v4) : S320000x128.Idx → EReal) i
    = if 0 ≤ (i 0).val ∧ (i 0).val < 80000 then rows0 (V1 m ρ) c (i 0).val (i 1) else (V1 m ρ c main_v4 : S320000x128.Idx → EReal) i :=
  (congrFun (W2_arr m ρ c 9) i).trans (congrFun (arr0 (V1 m ρ) c) i)

/-! ### Call 1 -/

theorem host1_0 (c : Dev nD) (k : Fin 128) :
    (V3 m ρ c main_v5 (ix2 (0 : Fin 1) k) : EReal) = m ((c : Thread nD τ).loc main_arg6) (ix1 k) := by
  have e : W3 m ρ c (Proc.devRef .tc main_v5) = shapeCast S1x128 (m ((c : Thread nD τ).loc main_arg6)) shapeCasts_S128_S1x128 := by
    refine (StableHlo.after_last_write (i := 0) [main_v6, main_v7, main_v8, main_v9] rfl rfl (by decide) (W2 m ρ c)).trans ?_
    refine (StableHlo.reshape_result ..).trans ?_
    have e' : StableHlo.upto (hostOps1 (F := Ideal)) (W2 m ρ c) 0 (Proc.devRef .tc main_arg6) = m ((c : Thread nD τ).loc main_arg6) :=
      (StableHlo.upto_unwritten [] rfl (by decide) _).trans (W2_args m ρ c main_arg6 (by decide))
    rw [e']
    rfl
  exact (congrFun e (ix2 (0 : Fin 1) k)).trans (one_row _ k)

theorem host1_1 (c : Dev nD) (k : Fin 128) :
    (V3 m ρ c main_v6 (ix2 (0 : Fin 1) k) : EReal) = m ((c : Thread nD τ).loc main_arg8) (ix1 k) := by
  have e : W3 m ρ c (Proc.devRef .tc main_v6) = shapeCast S1x128 (m ((c : Thread nD τ).loc main_arg8)) shapeCasts_S128_S1x128 := by
    refine (StableHlo.after_last_write (i := 1) [main_v7, main_v8, main_v9] rfl rfl (by decide) (W2 m ρ c)).trans ?_
    refine (StableHlo.reshape_result ..).trans ?_
    have e' : StableHlo.upto (hostOps1 (F := Ideal)) (W2 m ρ c) 1 (Proc.devRef .tc main_arg8) = m ((c : Thread nD τ).loc main_arg8) :=
      (StableHlo.upto_unwritten [main_v5] rfl (by decide) _).trans (W2_args m ρ c main_arg8 (by decide))
    rw [e']
    rfl
  exact (congrFun e (ix2 (0 : Fin 1) k)).trans (one_row _ k)

theorem host1_2 (c : Dev nD) (k : Fin 128) :
    (V3 m ρ c main_v7 (ix2 (0 : Fin 1) k) : EReal) = m ((c : Thread nD τ).loc main_arg9) (ix1 k) := by
  have e : W3 m ρ c (Proc.devRef .tc main_v7) = shapeCast S1x128 (m ((c : Thread nD τ).loc main_arg9)) shapeCasts_S128_S1x128 := by
    refine (StableHlo.after_last_write (i := 2) [main_v8, main_v9] rfl rfl (by decide) (W2 m ρ c)).trans ?_
    refine (StableHlo.reshape_result ..).trans ?_
    have e' : StableHlo.upto (hostOps1 (F := Ideal)) (W2 m ρ c) 2 (Proc.devRef .tc main_arg9) = m ((c : Thread nD τ).loc main_arg9) :=
      (StableHlo.upto_unwritten [main_v5, main_v6] rfl (by decide) _).trans (W2_args m ρ c main_arg9 (by decide))
    rw [e']
    rfl
  exact (congrFun e (ix2 (0 : Fin 1) k)).trans (one_row _ k)

theorem host1_3 (c : Dev nD) (k : Fin 128) :
    (V3 m ρ c main_v8 (ix2 (0 : Fin 1) k) : EReal) = m ((c : Thread nD τ).loc main_arg10) (ix1 k) := by
  have e : W3 m ρ c (Proc.devRef .tc main_v8) = shapeCast S1x128 (m ((c : Thread nD τ).loc main_arg10)) shapeCasts_S128_S1x128 := by
    refine (StableHlo.after_last_write (i := 3) [main_v9] rfl rfl (by decide) (W2 m ρ c)).trans ?_
    refine (StableHlo.reshape_result ..).trans ?_
    have e' : StableHlo.upto (hostOps1 (F := Ideal)) (W2 m ρ c) 3 (Proc.devRef .tc main_arg10) = m ((c : Thread nD τ).loc main_arg10) :=
      (StableHlo.upto_unwritten [main_v5, main_v6, main_v7] rfl (by decide) _).trans (W2_args m ρ c main_arg10 (by decide))
    rw [e']
    rfl
  exact (congrFun e (ix2 (0 : Fin 1) k)).trans (one_row _ k)

/-- The call starts from a copy of what the one before it left. -/
theorem copy1 (c : Dev nD) : V3 m ρ c main_v9 = W2 m ρ c (Proc.devRef .tc main_v4) := by
  refine (StableHlo.after_last_write (i := 4) [] rfl rfl (by decide) (W2 m ρ c)).trans ?_
  refine (StableHlo.unary_result ..).trans ?_
  exact StableHlo.upto_unwritten [main_v5, main_v6, main_v7, main_v8] rfl (by decide) _

/-- The call's rows, over the launch's memory. -/
theorem rows1_eq (c : Dev nD) (r : Nat) (j : Fin 128) :
    rows1 (V3 m ρ) c r j = chunk (m ((c : Thread nD τ).loc main_arg0)) (m ((c : Thread nD τ).loc main_arg2)) (m ((c : Thread nD τ).loc main_arg5))
      (fun k => m ((c : Thread nD τ).loc main_arg6) (ix1 k)) (m ((c : Thread nD τ).loc main_arg7)) (fun k => m ((c : Thread nD τ).loc main_arg8) (ix1 k))
      (fun k => m ((c : Thread nD τ).loc main_arg9) (ix1 k)) (fun k => m ((c : Thread nD τ).loc main_arg10) (ix1 k)) r j := by
  have a0 : V3 m ρ c main_arg0 = _ := W3_args m ρ c main_arg0 (by decide)
  have a1 : V3 m ρ c main_arg2 = _ := W3_args m ρ c main_arg2 (by decide)
  have a5 : V3 m ρ c main_arg5 = _ := W3_args m ρ c main_arg5 (by decide)
  have a7 : V3 m ρ c main_arg7 = _ := W3_args m ρ c main_arg7 (by decide)
  have b0 := funext (host1_0 m ρ c)
  have b1 := funext (host1_1 m ρ c)
  have b2 := funext (host1_2 m ρ c)
  have b3 := funext (host1_3 m ρ c)
  unfold rows1
  rw [a0, a1, a5, a7, b0, b1, b2, b3]

/-- The result's array after the call. -/
theorem after_call1 (c : Dev nD) (i : S320000x128.Idx) : (W4 m ρ c (Proc.devRef .tc main_v9) : S320000x128.Idx → EReal) i
    = if 80000 ≤ (i 0).val ∧ (i 0).val < 160000 then rows1 (V3 m ρ) c (i 0).val (i 1) else (V3 m ρ c main_v9 : S320000x128.Idx → EReal) i :=
  (congrFun (W4_arr m ρ c 9) i).trans (congrFun (arr1 (V3 m ρ) c) i)

/-! ### Call 2 -/

theorem host2_0 (c : Dev nD) (k : Fin 128) :
    (V5 m ρ c main_v10 (ix2 (0 : Fin 1) k) : EReal) = m ((c : Thread nD τ).loc main_arg6) (ix1 k) := by
  have e : W5 m ρ c (Proc.devRef .tc main_v10) = shapeCast S1x128 (m ((c : Thread nD τ).loc main_arg6)) shapeCasts_S128_S1x128 := by
    refine (StableHlo.after_last_write (i := 0) [main_v11, main_v12, main_v13, main_v14] rfl rfl (by decide) (W4 m ρ c)).trans ?_
    refine (StableHlo.reshape_result ..).trans ?_
    have e' : StableHlo.upto (hostOps2 (F := Ideal)) (W4 m ρ c) 0 (Proc.devRef .tc main_arg6) = m ((c : Thread nD τ).loc main_arg6) :=
      (StableHlo.upto_unwritten [] rfl (by decide) _).trans (W4_args m ρ c main_arg6 (by decide))
    rw [e']
    rfl
  exact (congrFun e (ix2 (0 : Fin 1) k)).trans (one_row _ k)

theorem host2_1 (c : Dev nD) (k : Fin 128) :
    (V5 m ρ c main_v11 (ix2 (0 : Fin 1) k) : EReal) = m ((c : Thread nD τ).loc main_arg8) (ix1 k) := by
  have e : W5 m ρ c (Proc.devRef .tc main_v11) = shapeCast S1x128 (m ((c : Thread nD τ).loc main_arg8)) shapeCasts_S128_S1x128 := by
    refine (StableHlo.after_last_write (i := 1) [main_v12, main_v13, main_v14] rfl rfl (by decide) (W4 m ρ c)).trans ?_
    refine (StableHlo.reshape_result ..).trans ?_
    have e' : StableHlo.upto (hostOps2 (F := Ideal)) (W4 m ρ c) 1 (Proc.devRef .tc main_arg8) = m ((c : Thread nD τ).loc main_arg8) :=
      (StableHlo.upto_unwritten [main_v10] rfl (by decide) _).trans (W4_args m ρ c main_arg8 (by decide))
    rw [e']
    rfl
  exact (congrFun e (ix2 (0 : Fin 1) k)).trans (one_row _ k)

theorem host2_2 (c : Dev nD) (k : Fin 128) :
    (V5 m ρ c main_v12 (ix2 (0 : Fin 1) k) : EReal) = m ((c : Thread nD τ).loc main_arg9) (ix1 k) := by
  have e : W5 m ρ c (Proc.devRef .tc main_v12) = shapeCast S1x128 (m ((c : Thread nD τ).loc main_arg9)) shapeCasts_S128_S1x128 := by
    refine (StableHlo.after_last_write (i := 2) [main_v13, main_v14] rfl rfl (by decide) (W4 m ρ c)).trans ?_
    refine (StableHlo.reshape_result ..).trans ?_
    have e' : StableHlo.upto (hostOps2 (F := Ideal)) (W4 m ρ c) 2 (Proc.devRef .tc main_arg9) = m ((c : Thread nD τ).loc main_arg9) :=
      (StableHlo.upto_unwritten [main_v10, main_v11] rfl (by decide) _).trans (W4_args m ρ c main_arg9 (by decide))
    rw [e']
    rfl
  exact (congrFun e (ix2 (0 : Fin 1) k)).trans (one_row _ k)

theorem host2_3 (c : Dev nD) (k : Fin 128) :
    (V5 m ρ c main_v13 (ix2 (0 : Fin 1) k) : EReal) = m ((c : Thread nD τ).loc main_arg10) (ix1 k) := by
  have e : W5 m ρ c (Proc.devRef .tc main_v13) = shapeCast S1x128 (m ((c : Thread nD τ).loc main_arg10)) shapeCasts_S128_S1x128 := by
    refine (StableHlo.after_last_write (i := 3) [main_v14] rfl rfl (by decide) (W4 m ρ c)).trans ?_
    refine (StableHlo.reshape_result ..).trans ?_
    have e' : StableHlo.upto (hostOps2 (F := Ideal)) (W4 m ρ c) 3 (Proc.devRef .tc main_arg10) = m ((c : Thread nD τ).loc main_arg10) :=
      (StableHlo.upto_unwritten [main_v10, main_v11, main_v12] rfl (by decide) _).trans (W4_args m ρ c main_arg10 (by decide))
    rw [e']
    rfl
  exact (congrFun e (ix2 (0 : Fin 1) k)).trans (one_row _ k)

/-- The call starts from a copy of what the one before it left. -/
theorem copy2 (c : Dev nD) : V5 m ρ c main_v14 = W4 m ρ c (Proc.devRef .tc main_v9) := by
  refine (StableHlo.after_last_write (i := 4) [] rfl rfl (by decide) (W4 m ρ c)).trans ?_
  refine (StableHlo.unary_result ..).trans ?_
  exact StableHlo.upto_unwritten [main_v10, main_v11, main_v12, main_v13] rfl (by decide) _

/-- The call's rows, over the launch's memory. -/
theorem rows2_eq (c : Dev nD) (r : Nat) (j : Fin 128) :
    rows2 (V5 m ρ) c r j = chunk (m ((c : Thread nD τ).loc main_arg0)) (m ((c : Thread nD τ).loc main_arg3)) (m ((c : Thread nD τ).loc main_arg5))
      (fun k => m ((c : Thread nD τ).loc main_arg6) (ix1 k)) (m ((c : Thread nD τ).loc main_arg7)) (fun k => m ((c : Thread nD τ).loc main_arg8) (ix1 k))
      (fun k => m ((c : Thread nD τ).loc main_arg9) (ix1 k)) (fun k => m ((c : Thread nD τ).loc main_arg10) (ix1 k)) r j := by
  have a0 : V5 m ρ c main_arg0 = _ := W5_args m ρ c main_arg0 (by decide)
  have a1 : V5 m ρ c main_arg3 = _ := W5_args m ρ c main_arg3 (by decide)
  have a5 : V5 m ρ c main_arg5 = _ := W5_args m ρ c main_arg5 (by decide)
  have a7 : V5 m ρ c main_arg7 = _ := W5_args m ρ c main_arg7 (by decide)
  have b0 := funext (host2_0 m ρ c)
  have b1 := funext (host2_1 m ρ c)
  have b2 := funext (host2_2 m ρ c)
  have b3 := funext (host2_3 m ρ c)
  unfold rows2
  rw [a0, a1, a5, a7, b0, b1, b2, b3]

/-- The result's array after the call. -/
theorem after_call2 (c : Dev nD) (i : S320000x128.Idx) : (W6 m ρ c (Proc.devRef .tc main_v14) : S320000x128.Idx → EReal) i
    = if 160000 ≤ (i 0).val ∧ (i 0).val < 240000 then rows2 (V5 m ρ) c (i 0).val (i 1) else (V5 m ρ c main_v14 : S320000x128.Idx → EReal) i :=
  (congrFun (W6_arr m ρ c 9) i).trans (congrFun (arr2 (V5 m ρ) c) i)

/-! ### Call 3 -/

theorem host3_0 (c : Dev nD) (k : Fin 128) :
    (V7 m ρ c main_v15 (ix2 (0 : Fin 1) k) : EReal) = m ((c : Thread nD τ).loc main_arg6) (ix1 k) := by
  have e : W7 m ρ c (Proc.devRef .tc main_v15) = shapeCast S1x128 (m ((c : Thread nD τ).loc main_arg6)) shapeCasts_S128_S1x128 := by
    refine (StableHlo.after_last_write (i := 0) [main_v16, main_v17, main_v18, main_v19] rfl rfl (by decide) (W6 m ρ c)).trans ?_
    refine (StableHlo.reshape_result ..).trans ?_
    have e' : StableHlo.upto (hostOps3 (F := Ideal)) (W6 m ρ c) 0 (Proc.devRef .tc main_arg6) = m ((c : Thread nD τ).loc main_arg6) :=
      (StableHlo.upto_unwritten [] rfl (by decide) _).trans (W6_args m ρ c main_arg6 (by decide))
    rw [e']
    rfl
  exact (congrFun e (ix2 (0 : Fin 1) k)).trans (one_row _ k)

theorem host3_1 (c : Dev nD) (k : Fin 128) :
    (V7 m ρ c main_v16 (ix2 (0 : Fin 1) k) : EReal) = m ((c : Thread nD τ).loc main_arg8) (ix1 k) := by
  have e : W7 m ρ c (Proc.devRef .tc main_v16) = shapeCast S1x128 (m ((c : Thread nD τ).loc main_arg8)) shapeCasts_S128_S1x128 := by
    refine (StableHlo.after_last_write (i := 1) [main_v17, main_v18, main_v19] rfl rfl (by decide) (W6 m ρ c)).trans ?_
    refine (StableHlo.reshape_result ..).trans ?_
    have e' : StableHlo.upto (hostOps3 (F := Ideal)) (W6 m ρ c) 1 (Proc.devRef .tc main_arg8) = m ((c : Thread nD τ).loc main_arg8) :=
      (StableHlo.upto_unwritten [main_v15] rfl (by decide) _).trans (W6_args m ρ c main_arg8 (by decide))
    rw [e']
    rfl
  exact (congrFun e (ix2 (0 : Fin 1) k)).trans (one_row _ k)

theorem host3_2 (c : Dev nD) (k : Fin 128) :
    (V7 m ρ c main_v17 (ix2 (0 : Fin 1) k) : EReal) = m ((c : Thread nD τ).loc main_arg9) (ix1 k) := by
  have e : W7 m ρ c (Proc.devRef .tc main_v17) = shapeCast S1x128 (m ((c : Thread nD τ).loc main_arg9)) shapeCasts_S128_S1x128 := by
    refine (StableHlo.after_last_write (i := 2) [main_v18, main_v19] rfl rfl (by decide) (W6 m ρ c)).trans ?_
    refine (StableHlo.reshape_result ..).trans ?_
    have e' : StableHlo.upto (hostOps3 (F := Ideal)) (W6 m ρ c) 2 (Proc.devRef .tc main_arg9) = m ((c : Thread nD τ).loc main_arg9) :=
      (StableHlo.upto_unwritten [main_v15, main_v16] rfl (by decide) _).trans (W6_args m ρ c main_arg9 (by decide))
    rw [e']
    rfl
  exact (congrFun e (ix2 (0 : Fin 1) k)).trans (one_row _ k)

theorem host3_3 (c : Dev nD) (k : Fin 128) :
    (V7 m ρ c main_v18 (ix2 (0 : Fin 1) k) : EReal) = m ((c : Thread nD τ).loc main_arg10) (ix1 k) := by
  have e : W7 m ρ c (Proc.devRef .tc main_v18) = shapeCast S1x128 (m ((c : Thread nD τ).loc main_arg10)) shapeCasts_S128_S1x128 := by
    refine (StableHlo.after_last_write (i := 3) [main_v19] rfl rfl (by decide) (W6 m ρ c)).trans ?_
    refine (StableHlo.reshape_result ..).trans ?_
    have e' : StableHlo.upto (hostOps3 (F := Ideal)) (W6 m ρ c) 3 (Proc.devRef .tc main_arg10) = m ((c : Thread nD τ).loc main_arg10) :=
      (StableHlo.upto_unwritten [main_v15, main_v16, main_v17] rfl (by decide) _).trans (W6_args m ρ c main_arg10 (by decide))
    rw [e']
    rfl
  exact (congrFun e (ix2 (0 : Fin 1) k)).trans (one_row _ k)

/-- The call starts from a copy of what the one before it left. -/
theorem copy3 (c : Dev nD) : V7 m ρ c main_v19 = W6 m ρ c (Proc.devRef .tc main_v14) := by
  refine (StableHlo.after_last_write (i := 4) [] rfl rfl (by decide) (W6 m ρ c)).trans ?_
  refine (StableHlo.unary_result ..).trans ?_
  exact StableHlo.upto_unwritten [main_v15, main_v16, main_v17, main_v18] rfl (by decide) _

/-- The call's rows, over the launch's memory. -/
theorem rows3_eq (c : Dev nD) (r : Nat) (j : Fin 128) :
    rows3 (V7 m ρ) c r j = chunk (m ((c : Thread nD τ).loc main_arg0)) (m ((c : Thread nD τ).loc main_arg4)) (m ((c : Thread nD τ).loc main_arg5))
      (fun k => m ((c : Thread nD τ).loc main_arg6) (ix1 k)) (m ((c : Thread nD τ).loc main_arg7)) (fun k => m ((c : Thread nD τ).loc main_arg8) (ix1 k))
      (fun k => m ((c : Thread nD τ).loc main_arg9) (ix1 k)) (fun k => m ((c : Thread nD τ).loc main_arg10) (ix1 k)) r j := by
  have a0 : V7 m ρ c main_arg0 = _ := W7_args m ρ c main_arg0 (by decide)
  have a1 : V7 m ρ c main_arg4 = _ := W7_args m ρ c main_arg4 (by decide)
  have a5 : V7 m ρ c main_arg5 = _ := W7_args m ρ c main_arg5 (by decide)
  have a7 : V7 m ρ c main_arg7 = _ := W7_args m ρ c main_arg7 (by decide)
  have b0 := funext (host3_0 m ρ c)
  have b1 := funext (host3_1 m ρ c)
  have b2 := funext (host3_2 m ρ c)
  have b3 := funext (host3_3 m ρ c)
  unfold rows3
  rw [a0, a1, a5, a7, b0, b1, b2, b3]

/-- The result's array after the call. -/
theorem after_call3 (c : Dev nD) (i : S320000x128.Idx) : (W8 m ρ c (Proc.devRef .tc main_v19) : S320000x128.Idx → EReal) i
    = if 240000 ≤ (i 0).val ∧ (i 0).val < 320000 then rows3 (V7 m ρ) c (i 0).val (i 1) else (V7 m ρ c main_v19 : S320000x128.Idx → EReal) i :=
  (congrFun (W8_arr m ρ c 9) i).trans (congrFun (arr3 (V7 m ρ) c) i)

/-- The result at an entry. -/
theorem edges_apply (c : Dev nD) (i : S320000x128.Idx) : (W8 m ρ c (Proc.devRef .tc main_v19) : S320000x128.Idx → EReal) i
    = edgeVal (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (i 0).val (i 1) := by
  have hi : (i 0).val < 320000 := (i 0).isLt
  unfold edgeVal
  rw [after_call3]
  by_cases h3 : 240000 ≤ (i 0).val
  · have p : ∀ g₀ g₁ g₂ g₃ : (⟨2, ![160000, 128]⟩ : Shape).Idx → EReal, pick g₀ g₁ g₂ g₃ (i 0).val = g₃ := fun _ _ _ _ => by
      unfold pick; rw [if_neg (by omega), if_neg (by omega), if_neg (by omega)]
    rw [if_pos ⟨h3, hi⟩, p]
    exact rows3_eq m ρ c _ _
  rw [if_neg (fun h => h3 h.1), copy3, after_call2]
  by_cases h2 : 160000 ≤ (i 0).val
  · have p : ∀ g₀ g₁ g₂ g₃ : (⟨2, ![160000, 128]⟩ : Shape).Idx → EReal, pick g₀ g₁ g₂ g₃ (i 0).val = g₂ := fun _ _ _ _ => by
      unfold pick; rw [if_neg (by omega), if_neg (by omega), if_pos (by omega)]
    rw [if_pos ⟨h2, by omega⟩, p]
    exact rows2_eq m ρ c _ _
  rw [if_neg (fun h => h2 h.1), copy2, after_call1]
  by_cases h1 : 80000 ≤ (i 0).val
  · have p : ∀ g₀ g₁ g₂ g₃ : (⟨2, ![160000, 128]⟩ : Shape).Idx → EReal, pick g₀ g₁ g₂ g₃ (i 0).val = g₁ := fun _ _ _ _ => by
      unfold pick; rw [if_neg (by omega), if_pos (by omega)]
    rw [if_pos ⟨h1, by omega⟩, p]
    exact rows1_eq m ρ c _ _
  rw [if_neg (fun h => h1 h.1), copy1, after_call0]
  have p : ∀ g₀ g₁ g₂ g₃ : (⟨2, ![160000, 128]⟩ : Shape).Idx → EReal, pick g₀ g₁ g₂ g₃ (i 0).val = g₀ := fun _ _ _ _ => by
    unfold pick; rw [if_pos (by omega)]
  rw [if_pos ⟨by omega, by omega⟩, p]
  exact rows0_eq m ρ c _ _

end Cert.Proof

end
-- ==== Proof.EdgeRef.lean ====
/-
  The result of the edge calls' reference over the extended reals, at an entry: the same row of the same chunk.
-/
module

public import proofs.«01_k».proof.Proof.EdgeValue
public import proofs.«01_k».proof.Proof.Gen.EdgesReferenceIdeal.Run
public import Idealize.ShloMosaic.Lib.StackMember
public import Idealize.ShloMosaic.Lib.KernelVsHost
public import Idealize.ShloMosaic.Lib.IdealHost
public import Idealize.ShloMosaic.Lib.Pointwise.SelectCore
public import Idealize.ShloMosaic.Lib.Pointwise.Reduce

@[expose] public section

noncomputable section

namespace Cert.Proof.Ref

open Cert.Proof
open Cert.EdgesReferenceIdeal Cert.EdgesReferenceIdeal.Gen
open Idealize.ShloMosaic hiding ix1 ix2 ix3
open Idealize.ShloMosaic.ValueIdx
open Idealize.ShloMosaic.StableHlo

/-! ### The steps of the reference -/

/-- One number at every entry of a column. -/
def column (x : FVec Ideal S_ .f32) : FVec Ideal S320000x1 .f32 := broadcastInDim S320000x1 ![] bcast_S_S320000x1 x

/-- A vector at every row. -/
def rows (v : FVec Ideal S128 .f32) : FVec Ideal S320000x128 .f32 :=
  broadcastInDim S320000x128 ![0, 1] bcast_S1x128_S320000x128_0_1 (broadcastInDim S1x128 ![1] bcast_S128_S1x128_1 v)

/-- A column spread over its rows. -/
def spread (x : FVec Ideal S320000x1 .f32) : FVec Ideal S320000x128 .f32 :=
  broadcastInDim S320000x128 ![0, 1] bcast_S320000x1_S320000x128_0_1 x

/-- The rows from `off` on of the four gathered arrays, one below the other. -/
def four (off : Nat) (hs : S160000x128.Slices ![off, 0] S80000x128) (G₀ G₁ G₂ G₃ : FVec Ideal S160000x128 .f32) : FVec Ideal S320000x128 .f32 :=
  concatenate S320000x128 0 [⟨S80000x128, extractStridedSlice S80000x128 ![off, 0] G₀ hs⟩, ⟨S80000x128, extractStridedSlice S80000x128 ![off, 0] G₁ hs⟩,
    ⟨S80000x128, extractStridedSlice S80000x128 ![off, 0] G₂ hs⟩, ⟨S80000x128, extractStridedSlice S80000x128 ![off, 0] G₃ hs⟩]
    concatenates_S80000x128_S80000x128_S80000x128_S80000x128_S320000x128_d0

def times (x : FVec Ideal S320000x128 .f32) (w : FVec Ideal S128x128 .f32) : FVec Ideal S320000x128 .f32 :=
  Host.dotGeneral dot_S320000x128_S128x128_S320000x128_1_0_0_1_n_n none x w

def first (E : FVec Ideal S320000x128 .f32) (P Q : FVec Ideal S320000x128 .f32) (W₁ : FVec Ideal S384x128 .f32) (b₁ : FVec Ideal S128 .f32) :
    FVec Ideal S320000x128 .f32 :=
  addf (addf (addf (times E (extractStridedSlice S128x128 ![0, 0] W₁ slices_S384x128_S128x128_0_0)) P) Q) (rows b₁)

def ones : FVec Ideal S320000x128 .f32 := broadcastInDim S320000x128 ![] bcast_S_S320000x128 (constant S_ .f32 0x3F800000#32)

def silu (x : FVec Ideal S320000x128 .f32) : FVec Ideal S320000x128 .f32 := mulf x (Host.divf ones (addf ones (Host.exp (Host.negf x))))

def sums (y : FVec Ideal S320000x128 .f32) : FVec Ideal S320000x1 .f32 :=
  broadcastInDim S320000x1 ![0] bcast_S320000_S320000x1_0 (Host.reduceAdd y (constant S_ .f32 0x00000000#32) reducesTo_S320000x128_S320000_d1 h_S_)

def means (y : FVec Ideal S320000x128 .f32) : FVec Ideal S320000x1 .f32 := Host.divf (sums y) (column (constant S_ .f32 0x43000000#32))

def centred (y : FVec Ideal S320000x128 .f32) : FVec Ideal S320000x128 .f32 := subf y (spread (means y))

/-- The number of units, less the correction of zero. -/
def count : FVec Ideal S_ .f32 := subf (constant S_ .f32 0x43000000#32) (sitofp .f32 (constantI S_ 32 0#32))

def vars (y : FVec Ideal S320000x128 .f32) : FVec Ideal S320000x1 .f32 :=
  select (broadcastInDim S320000x1 ![] bcast_S_S320000x1 (cmpf .ogt count (constant S_ .f32 0x00000000#32)))
    (Host.divf (sums (mulf (centred y) (centred y))) (column count)) (column (constant S_ .f32 0x7FC00000#32))

def result (E : FVec Ideal S320000x128 .f32) (y : FVec Ideal S320000x128 .f32) (g b : FVec Ideal S128 .f32) : FVec Ideal S320000x128 .f32 :=
  addf (addf (mulf (mulf (centred y) (spread (Host.rsqrt (addf (vars y) (column (constant S_ .f32 0x3727C5AC#32)))))) (rows g)) (rows b)) E

/-- The second layer. -/
def pre (E : FVec Ideal S320000x128 .f32) (P Q : FVec Ideal S320000x128 .f32) (W₁ : FVec Ideal S384x128 .f32) (b₁ : FVec Ideal S128 .f32)
    (W₂ : FVec Ideal S128x128 .f32) (b₂ : FVec Ideal S128 .f32) : FVec Ideal S320000x128 .f32 :=
  addf (times (silu (first E P Q W₁ b₁)) W₂) (rows b₂)

def out (E : FVec Ideal S320000x128 .f32) (G₀ G₁ G₂ G₃ : FVec Ideal S160000x128 .f32) (W₁ : FVec Ideal S384x128 .f32) (b₁ : FVec Ideal S128 .f32)
    (W₂ : FVec Ideal S128x128 .f32) (b₂ g b : FVec Ideal S128 .f32) : FVec Ideal S320000x128 .f32 :=
  result E (pre E (four 0 slices_S160000x128_S80000x128_0_0 G₀ G₁ G₂ G₃) (four 80000 slices_S160000x128_S80000x128_80000_0 G₀ G₁ G₂ G₃) W₁ b₁ W₂ b₂) g b

set_option maxRecDepth 8192 in
theorem out_eq (m : (ℓ : Loc nD τ sig) → Buf (Elt Ideal) ℓ) (c : Dev nD) : Value.res_out0 m c
    = out (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) (m (c.tc.loc main_arg9))
      (m (c.tc.loc main_arg10)) := rfl

/-! ### Their entries -/

theorem rows_apply (v : FVec Ideal S128 .f32) (r : Fin 320000) (j : Fin 128) : rows v (ix2 r j) = v (ix1 j) := by
  refine (broadcastInDim_apply _ _ _ _ (ix2 (0 : Fin 1) j) fun a => ?_).trans (broadcastInDim_apply _ _ _ _ (ix1 j) fun a => ?_)
  · match a with
    | ⟨0, _⟩ => rfl
    | ⟨1, _⟩ => rfl
  · match a with
    | ⟨0, _⟩ => rfl

theorem spread_apply (x : FVec Ideal S320000x1 .f32) (r : Fin 320000) (j : Fin 128) : spread x (ix2 r j) = x (ix2 r (0 : Fin 1)) :=
  broadcastInDim_apply _ _ _ _ (ix2 r (0 : Fin 1)) fun a => by
    match a with
    | ⟨0, _⟩ => rfl
    | ⟨1, _⟩ => rfl

theorem times_apply (x : FVec Ideal S320000x128 .f32) (w : FVec Ideal S128x128 .f32) (r : Fin 320000) (j : Fin 128) :
    times x w (ix2 r j) = ∑ k : Fin 128, x (ix2 r k) * w (ix2 k j) := StackMember.dotGeneral_plain_apply none x w r j

theorem first_apply (E P Q : FVec Ideal S320000x128 .f32) (W₁ : FVec Ideal S384x128 .f32) (b₁ : FVec Ideal S128 .f32) (r : Fin 320000) (j : Fin 128) :
    first E P Q W₁ b₁ (ix2 r j) = hidden (fun k => E (ix2 r k)) (topRows W₁) (fun k => P (ix2 r k)) (fun k => Q (ix2 r k)) (fun k => b₁ (ix1 k)) j := by
  show times E _ (ix2 r j) + P (ix2 r j) + Q (ix2 r j) + rows b₁ (ix2 r j) = _
  rw [rows_apply, times_apply]
  unfold hidden
  refine congrArg (fun x : EReal => x + P (ix2 r j) + Q (ix2 r j) + b₁ (ix1 j)) (Finset.sum_congr rfl fun k _ => ?_)
  refine congrArg (fun x : EReal => E (ix2 r k) * x) ?_
  unfold topRows
  exact extractStridedSlice_apply _ _ _ _ _ fun a => by
    match a with
    | ⟨0, _⟩ => exact (Nat.zero_add _).symm
    | ⟨1, _⟩ => exact (Nat.zero_add _).symm

theorem silu_apply (x : FVec Ideal S320000x128 .f32) (i : S320000x128.Idx) : silu x i = swish (x i) := by
  show x i * Ideal.div (Ideal.ofBits .f32 0x3F800000#32) (Ideal.ofBits .f32 0x3F800000#32 + Ideal.exp (-x i)) = _
  rw [Ideal.ofBits_one_f32]
  rfl

theorem pre_apply (E P Q : FVec Ideal S320000x128 .f32) (W₁ : FVec Ideal S384x128 .f32) (b₁ : FVec Ideal S128 .f32) (W₂ : FVec Ideal S128x128 .f32)
    (b₂ : FVec Ideal S128 .f32) (r : Fin 320000) (j : Fin 128) : pre E P Q W₁ b₁ W₂ b₂ (ix2 r j)
    = edgePre (fun k => E (ix2 r k)) (fun k => P (ix2 r k)) (fun k => Q (ix2 r k)) (topRows W₁) (fun k => b₁ (ix1 k)) (fun k j => W₂ (ix2 k j))
        (fun k => b₂ (ix1 k)) j := by
  show times _ W₂ (ix2 r j) + rows b₂ (ix2 r j) = _
  rw [rows_apply, times_apply]
  unfold edgePre second
  refine congrArg (fun x : EReal => x + b₂ (ix1 j)) (Finset.sum_congr rfl fun k _ => ?_)
  rw [silu_apply, first_apply]

theorem sums_apply (y : FVec Ideal S320000x128 .f32) (r : Fin 320000) (z : Fin 1) : sums y (ix2 r z) = ∑ k : Fin 128, y (ix2 r k) := by
  unfold sums
  refine (broadcastInDim_apply _ _ _ _ (ix1 r) fun a => ?_).trans ?_
  · match a with
    | ⟨0, _⟩ => rfl
  rw [Host.reduceAdd_apply, Ideal.hostReduceAdd_def, Ideal.hostReduceAdd_r2_a1]
  show Ideal.ofBits .f32 0x00000000#32 + _ = _
  rw [Ideal.ofBits_zero_f32, zero_add]
  exact Finset.sum_congr rfl fun k _ => congrArg (fun a : Fin 320000 => y (ix2 a k)) (Fin.ext rfl)

theorem means_apply (y : FVec Ideal S320000x128 .f32) (r : Fin 320000) (z : Fin 1) : means y (ix2 r z) = rowMean fun k => y (ix2 r k) := by
  show Ideal.div (sums y (ix2 r z)) (Ideal.ofBits .f32 0x43000000#32) = _
  rw [sums_apply]
  rfl

theorem centred_apply (y : FVec Ideal S320000x128 .f32) (r : Fin 320000) (j : Fin 128) :
    centred y (ix2 r j) = y (ix2 r j) - rowMean fun k => y (ix2 r k) := by
  show y (ix2 r j) - spread (means y) (ix2 r j) = _
  rw [spread_apply, means_apply]

/-- 128 as an extended real. -/
theorem width_eq : Ideal.ofBits .f32 0x43000000#32 = ((128 : ℝ) : EReal) := by
  simp [Ideal.ofBits, Ideal.ieee, -EReal.coe_mul]; norm_num

theorem count_apply (i : S_.Idx) : count i = Ideal.ofBits .f32 0x43000000#32 := by
  show Ideal.ofBits .f32 0x43000000#32 - (Scalar.sitofp .f32 0#32 : Ideal .f32) = _
  rw [sitofp_zero]
  exact sub_zero _

/-- The count is above zero, so the variance is never filled. -/
theorem count_pos (i : S320000x1.Idx) :
    broadcastInDim S320000x1 ![] bcast_S_S320000x1 (cmpf .ogt count (constant S_ .f32 0x00000000#32)) i = 1#1 := by
  show Ideal.cmp .ogt (count _) (Ideal.ofBits .f32 0x00000000#32) = 1#1
  rw [count_apply, Ideal.ofBits_zero_f32, width_eq]
  have h : (0 : EReal) < ((128 : ℝ) : EReal) := EReal.coe_pos.mpr (by norm_num)
  simp [Ideal.cmp, h]

theorem vars_apply (y : FVec Ideal S320000x128 .f32) (r : Fin 320000) (z : Fin 1) : vars y (ix2 r z) = rowVar fun k => y (ix2 r k) := by
  unfold vars
  rw [show ∀ (c : IVec S320000x1 1) (a b : FVec Ideal S320000x1 .f32) (i : S320000x1.Idx), c i = 1#1 → select c a b i = a i from
    fun c a b i h => if_pos h]
  · show Ideal.div (sums _ (ix2 r z)) (column count (ix2 r z)) = _
    rw [sums_apply, show column count (ix2 r z) = Ideal.ofBits .f32 0x43000000#32 from count_apply _]
    unfold rowVar
    refine congrArg (fun x : EReal => Ideal.div x _) (Finset.sum_congr rfl fun k _ => ?_)
    show centred y (ix2 r k) * centred y (ix2 r k) = _
    rw [centred_apply]
  · exact count_pos _

theorem result_apply (E y : FVec Ideal S320000x128 .f32) (g b : FVec Ideal S128 .f32) (r : Fin 320000) (j : Fin 128) :
    result E y g b (ix2 r j) = normed (fun k => y (ix2 r k)) (fun k => g (ix1 k)) (fun k => b (ix1 k)) j + E (ix2 r j) := by
  show centred y (ix2 r j) * spread _ (ix2 r j) * rows g (ix2 r j) + rows b (ix2 r j) + E (ix2 r j) = _
  rw [rows_apply, rows_apply, spread_apply, centred_apply]
  unfold normed
  refine congrArg (fun x : EReal => (y (ix2 r j) - rowMean fun k => y (ix2 r k)) * x * g (ix1 j) + b (ix1 j) + E (ix2 r j)) ?_
  show Ideal.rsqrt (vars y (ix2 r (0 : Fin 1)) + Ideal.ofBits .f32 0x3727C5AC#32) = _
  rw [vars_apply]

/-- A row of the stack: the row `r % 80000` from `off` on of the array of `r`'s chunk. -/
theorem four_apply (off : Nat) (hoff : off ≤ 80000) (hs : S160000x128.Slices ![off, 0] S80000x128) (G₀ G₁ G₂ G₃ : FVec Ideal S160000x128 .f32)
    (r : Fin 320000) (j : Fin 128) : four off hs G₀ G₁ G₂ G₃ (ix2 r j) = rowAt (n := 160000) (pick G₀ G₁ G₂ G₃ r.val) (r.val % 80000 + off) j := by
  have hr := r.isLt
  have hm : r.val % 80000 < 80000 := Nat.mod_lt _ (by decide)
  have hrow : ∀ G : FVec Ideal S160000x128 .f32, extractStridedSlice S80000x128 ![off, 0] G hs (ix2 (⟨r.val % 80000, hm⟩ : Fin 80000) j)
      = rowAt (n := 160000) G (r.val % 80000 + off) j := fun G => by
    refine (extractStridedSlice_apply _ _ _ _ (ix2 (⟨off + r.val % 80000, by omega⟩ : Fin 160000) j) fun a => ?_).trans
      (rowAt_of_lt G _ _ (Nat.add_comm _ _) j)
    match a with
    | ⟨0, _⟩ => rfl
    | ⟨1, _⟩ => exact (Nat.zero_add _).symm
  have piece : ∀ (q : Fin 4) (G : FVec Ideal S160000x128 .f32), r.val / 80000 = q.val → ![G₀, G₁, G₂, G₃] q = G →
      four off hs G₀ G₁ G₂ G₃ (ix2 r j) = rowAt (n := 160000) G (r.val % 80000 + off) j := fun q G hq hG => by
    subst hG
    refine Eq.trans ?_ (hrow _)
    exact concatenate_ofFn_apply (t := S320000x128) (s₁ := S80000x128) 0
      (fun q : Fin 4 => extractStridedSlice S80000x128 ![off, 0] (![G₀, G₁, G₂, G₃] q) hs)
      concatenates_S80000x128_S80000x128_S80000x128_S80000x128_S320000x128_d0 rfl 80000 rfl (ix2 r j) q hq
      (ix2 (⟨r.val % 80000, hm⟩ : Fin 80000) j) rfl (fun b hb => by
        match b with
        | ⟨0, _⟩ => exact absurd rfl hb
        | ⟨1, _⟩ => rfl)
  unfold pick
  split
  · exact piece 0 _ (by show r.val / 80000 = 0; omega) rfl
  split
  · exact piece 1 _ (by show r.val / 80000 = 1; omega) rfl
  split
  · exact piece 2 _ (by show r.val / 80000 = 2; omega) rfl
  · exact piece 3 _ (by show r.val / 80000 = 3; omega) rfl

/-- The reference's result at an entry. -/
theorem out_apply (E : FVec Ideal S320000x128 .f32) (G₀ G₁ G₂ G₃ : FVec Ideal S160000x128 .f32) (W₁ : FVec Ideal S384x128 .f32) (b₁ : FVec Ideal S128 .f32)
    (W₂ : FVec Ideal S128x128 .f32) (b₂ g b : FVec Ideal S128 .f32) (r : Fin 320000) (j : Fin 128) :
    out E G₀ G₁ G₂ G₃ W₁ b₁ W₂ b₂ g b (ix2 r j) = edgeVal E G₀ G₁ G₂ G₃ W₁ b₁ W₂ b₂ g b r.val j := by
  unfold out
  rw [result_apply]
  unfold edgeVal chunk edgeRow
  have hE : (fun k => E (ix2 r k)) = rowAt (n := 320000) E r.val := funext fun k => rowAt_of_lt E r r.val rfl k
  rw [rowAt_of_lt (n := 320000) E r r.val rfl j]
  refine congrArg (fun y : Fin 128 → EReal => normed y (fun k => g (ix1 k)) (fun k => b (ix1 k)) j + rowAt (n := 320000) E r.val j) ?_
  funext k
  rw [pre_apply, hE]
  have h0 := funext fun k => four_apply 0 (by decide) slices_S160000x128_S80000x128_0_0 G₀ G₁ G₂ G₃ r k
  have h1 := funext fun k => four_apply 80000 (by decide) slices_S160000x128_S80000x128_80000_0 G₀ G₁ G₂ G₃ r k
  rw [h0, h1]
  rfl

end Cert.Proof.Ref

end
-- ==== Proof.EdgeRun.lean ====
/-
  The run of the four edge calls over the extended reals: the result's array is as the chain of the contents has it.
-/
module

public import proofs.«01_k».proof.Proof.EdgeValue

@[expose] public section

noncomputable section

namespace Cert.Proof

open Cert.EdgesIdeal Cert.EdgesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ

variable (m : (ℓ : Loc nD τ sig) → Buf (Elt Ideal) ℓ) (ρ : Dev nD → PrngReg)

-- The run's implicit arguments come from unifying its conclusion with this one, under plain definitions.
set_option backward.isDefEq.respectTransparency.types false in
/-- The run of the edge calls: the result's array is as the contents' chain has it, and the arguments are as launched. -/
theorem edges_run : θ_run (defs (F := Ideal)) (onTc (τ := τ) (main (F := Ideal))) ⟨m, fun _ => 0, ρ⟩ (fun r => (∀ c : Dev nD,
      r.2.mem ((c.tc : Thread nD τ).loc main_v19) = W8 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨h c _ (mem_uc main_v19 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.Proof

end
-- ==== Proof.EdgeAlgebraic.lean ====
/-
  The claims about the edge calls' reference, and the equality of its result with the calls'.
-/
module

public import proofs.«01_k».proof.Proof.EdgeRef
public import proofs.«01_k».proof.Proof.EdgeRun
public import proofs.«01_k».proof.Proof.Frames

@[expose] public section

noncomputable section

namespace Cert.Proof

open Idealize.ShloMosaic hiding ix1 ix2 ix3
open Idealize.ShloMosaic.TcCoe
open Idealize.ShloMosaic.ValueIdx

/-- Every run of the edge calls' reference ends with its arguments as launched and every counter at zero. -/
theorem frame_edgesReference : Cert.quiescent_EdgesReferenceIdeal := fun m ρ _ =>
  (θ_run Cert.EdgesReferenceIdeal.defs _ _).mono
    (fun r h => ⟨fun c => (h c).2.2, sem_eq_zero_of_no_sems (by decide) r.2⟩) (Cert.EdgesReferenceIdeal.Value.run m ρ)

/-- Over the extended reals the edge calls and their reference return the same two arrays: the updated edge features, and the
    node features as they were given. -/
theorem edges_algebraic : Cert.algebraic_EdgesIdeal_EdgesReferenceIdeal := by
  intro m g m' g' hp hagree
  refine ⟨fun c => Cert.EdgesIdeal.Gen.W8 m g c (Proc.devRef .tc Cert.EdgesIdeal.main_v19),
    fun c => m ((c.tc : Thread Cert.EdgesIdeal.nD Cert.EdgesIdeal.τ).loc Cert.EdgesIdeal.main_arg11), ?_, ?_⟩
  · exact (θ_run (Cert.EdgesIdeal.defs (F := Ideal)) _ _).mono
      (fun r h c => ⟨(h c).1, (h c).2.2.2.2.2.2.2.2.2.2.2.2, (h c).2⟩) (Cert.Proof.edges_run m g)
  refine (θ_run (Cert.EdgesReferenceIdeal.defs (F := Ideal)) _ _).mono
    (fun r h c => ⟨(h c).1.trans ?_, (h c).2.1.trans (hagree c).2.2.2.2.2.2.2.2.2.2.2, (h c).2.2⟩) (Cert.EdgesReferenceIdeal.Value.run m' g')
  obtain ⟨h0, h1, h2, h3, h4, h5, h6, h7, h8, h9, h10, -⟩ := hagree c
  refine (Ref.out_eq m' c).trans ?_
  funext i
  obtain ⟨a, j, rfl⟩ : ∃ (a : Fin 320000) (j : Fin 128), i = ix2 a j := ⟨i 0, i 1, ValueIdx.eq_ix2 i⟩
  refine Eq.trans ?_ (edges_apply m g c (ix2 a j)).symm
  rw [Ref.out_apply, h0, h1, h2, h3, h4, h5, h6, h7, h8, h9, h10]

end Cert.Proof

end
-- ==== Proof.lean ====
/-
  The proof of the claim. Of the gather: the frames of the kernel as written, of the kernel over the extended reals and of its
  reference (Proof/Frames.lean), and that over the extended reals the two return the same arrays (Proof/Algebraic.lean). Of the
  edge calls: the same, the reference's frame and the equality in Proof/EdgeAlgebraic.lean. The two prints of each program state
  no rewrite, so `preserves` asks nothing.
-/
module

public import proofs.«01_k».proof.Defs
public import proofs.«01_k».proof.Proof.Gen.Edges
public import proofs.«01_k».proof.Proof.Gen.Edges.Frame
public import proofs.«01_k».proof.Proof.Gen.EdgesIdeal
public import proofs.«01_k».proof.Proof.Gen.EdgesIdeal.Frame
public import proofs.«01_k».proof.Proof.Gen.EdgesReferenceIdeal
public import proofs.«01_k».proof.Proof.Gen.EdgesReferenceIdeal.Run
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.Algebraic
public import proofs.«01_k».proof.Proof.EdgeAlgebraic

@[expose] public section

noncomputable section

namespace Cert.Proof

theorem claim : Cert.Claim :=
  ⟨Cert.Kernel.Gen.facts, Cert.KernelIdeal.Gen.facts, Cert.ReferenceIdeal.Gen.facts, Cert.Edges.Gen.facts, Cert.EdgesIdeal.Gen.facts,
    Cert.EdgesReferenceIdeal.Gen.facts, Cert.Pre_in_range.Gen.facts,
    frame_kernel, frame_kernelIdeal, frame_reference, frame_reference_in_range,
    fun m ρ _ => Cert.Edges.Gen.frame m ρ, fun m ρ _ => Cert.EdgesIdeal.Gen.frame m ρ, frame_edgesReference,
    trivial, algebraic, trivial, edges_algebraic⟩

end Cert.Proof

end
